-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_all_finite [hPre_all_finite : Cert.Pre_all_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_all_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_all_finite [hPre_all_finite : Cert.Pre_all_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_all_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_all_finite [hKernel2Ideal : Cert.Kernel2Ideal.Facts] [hPre_all_finite : Cert.Pre_all_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_all_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_all_finite [hReference2Ideal : Cert.Reference2Ideal.Facts] [hPre_all_finite : Cert.Pre_all_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_all_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4)
      ∧ r.2.mem ((c.tc : Thread Cert.Kernel28.nD Cert.Kernel28.τ).loc Cert.Kernel28.main_arg5) = m ((c.tc : Thread Cert.Kernel28.nD Cert.Kernel28.τ).loc Cert.Kernel28.main_arg5))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
      ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4)
      ∧ r.2.mem ((c.tc : Thread Cert.Kernel29.nD Cert.Kernel29.τ).loc Cert.Kernel29.main_arg5) = m ((c.tc : Thread Cert.Kernel29.nD Cert.Kernel29.τ).loc Cert.Kernel29.main_arg5))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
      ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4)
      ∧ r.2.mem ((c.tc : Thread Cert.Reference29Ideal.nD Cert.Reference29Ideal.τ).loc Cert.Reference29Ideal.main_arg5) = m ((c.tc : Thread Cert.Reference29Ideal.nD Cert.Reference29Ideal.τ).loc Cert.Reference29Ideal.main_arg5))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3)
      ∧ r.2.mem ((c.tc : Thread Cert.Kernel30.nD Cert.Kernel30.τ).loc Cert.Kernel30.main_arg4) = m ((c.tc : Thread Cert.Kernel30.nD Cert.Kernel30.τ).loc Cert.Kernel30.main_arg4)
      ∧ r.2.mem ((c.tc : Thread Cert.Kernel30.nD Cert.Kernel30.τ).loc Cert.Kernel30.main_arg5) = m ((c.tc : Thread Cert.Kernel30.nD Cert.Kernel30.τ).loc Cert.Kernel30.main_arg5))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
      ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4)
      ∧ r.2.mem ((c.tc : Thread Cert.Reference30Ideal.nD Cert.Reference30Ideal.τ).loc Cert.Reference30Ideal.main_arg5) = m ((c.tc : Thread Cert.Reference30Ideal.nD Cert.Reference30Ideal.τ).loc Cert.Reference30Ideal.main_arg5))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4)
      ∧ r.2.mem ((c.tc : Thread Cert.Kernel31.nD Cert.Kernel31.τ).loc Cert.Kernel31.main_arg5) = m ((c.tc : Thread Cert.Kernel31.nD Cert.Kernel31.τ).loc Cert.Kernel31.main_arg5))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
      ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4)
      ∧ r.2.mem ((c.tc : Thread Cert.Reference31Ideal.nD Cert.Reference31Ideal.τ).loc Cert.Reference31Ideal.main_arg5) = m ((c.tc : Thread Cert.Reference31Ideal.nD Cert.Reference31Ideal.τ).loc Cert.Reference31Ideal.main_arg5))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3)
      ∧ r.2.mem ((c.tc : Thread Cert.Kernel40.nD Cert.Kernel40.τ).loc Cert.Kernel40.main_arg4) = m ((c.tc : Thread Cert.Kernel40.nD Cert.Kernel40.τ).loc Cert.Kernel40.main_arg4))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3)
      ∧ r.2.mem ((c.tc : Thread Cert.Kernel40Ideal.nD Cert.Kernel40Ideal.τ).loc Cert.Kernel40Ideal.main_arg4) = m ((c.tc : Thread Cert.Kernel40Ideal.nD Cert.Kernel40Ideal.τ).loc Cert.Kernel40Ideal.main_arg4))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3)
      ∧ r.2.mem ((c.tc : Thread Cert.Reference40Ideal.nD Cert.Reference40Ideal.τ).loc Cert.Reference40Ideal.main_arg4) = m ((c.tc : Thread Cert.Reference40Ideal.nD Cert.Reference40Ideal.τ).loc Cert.Reference40Ideal.main_arg4))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_all_finite [hKernel2Ideal : Cert.Kernel2Ideal.Facts] [hReference2Ideal : Cert.Reference2Ideal.Facts] [hPre_all_finite : Cert.Pre_all_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_all_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v73) = v0 c
          ∧ r.2.mem ((c.tc : Thread Cert.Reference2Ideal.nD Cert.Reference2Ideal.τ).loc Cert.Reference2Ideal.main_v78) = v1 c
          ∧ r.2.mem ((c.tc : Thread Cert.Reference2Ideal.nD Cert.Reference2Ideal.τ).loc Cert.Reference2Ideal.main_v83) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v4_0)) (v1 : (c : Dev Cert.Kernel20Ideal.nD) → Buf (Elt Ideal) ((c.tc : Thread Cert.Kernel20Ideal.nD Cert.Kernel20Ideal.τ).loc Cert.Kernel20Ideal.main_v4_1)) (v2 : (c : Dev Cert.Kernel20Ideal.nD) → Buf (Elt Ideal) ((c.tc : Thread Cert.Kernel20Ideal.nD Cert.Kernel20Ideal.τ).loc Cert.Kernel20Ideal.main_v4_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4_0) = v0 c
          ∧ r.2.mem ((c.tc : Thread Cert.Kernel20Ideal.nD Cert.Kernel20Ideal.τ).loc Cert.Kernel20Ideal.main_v4_1) = v1 c
          ∧ r.2.mem ((c.tc : Thread Cert.Kernel20Ideal.nD Cert.Kernel20Ideal.τ).loc Cert.Kernel20Ideal.main_v4_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v24) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v26) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v4_0)) (v1 : (c : Dev Cert.Kernel22Ideal.nD) → Buf (Elt Ideal) ((c.tc : Thread Cert.Kernel22Ideal.nD Cert.Kernel22Ideal.τ).loc Cert.Kernel22Ideal.main_v4_1)) (v2 : (c : Dev Cert.Kernel22Ideal.nD) → Buf (Elt Ideal) ((c.tc : Thread Cert.Kernel22Ideal.nD Cert.Kernel22Ideal.τ).loc Cert.Kernel22Ideal.main_v4_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v4_0) = v0 c
          ∧ r.2.mem ((c.tc : Thread Cert.Kernel22Ideal.nD Cert.Kernel22Ideal.τ).loc Cert.Kernel22Ideal.main_v4_1) = v1 c
          ∧ r.2.mem ((c.tc : Thread Cert.Kernel22Ideal.nD Cert.Kernel22Ideal.τ).loc Cert.Kernel22Ideal.main_v4_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v24) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_v26) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v4_0)) (v1 : (c : Dev Cert.Kernel25Ideal.nD) → Buf (Elt Ideal) ((c.tc : Thread Cert.Kernel25Ideal.nD Cert.Kernel25Ideal.τ).loc Cert.Kernel25Ideal.main_v4_1)) (v2 : (c : Dev Cert.Kernel25Ideal.nD) → Buf (Elt Ideal) ((c.tc : Thread Cert.Kernel25Ideal.nD Cert.Kernel25Ideal.τ).loc Cert.Kernel25Ideal.main_v4_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v4_0) = v0 c
          ∧ r.2.mem ((c.tc : Thread Cert.Kernel25Ideal.nD Cert.Kernel25Ideal.τ).loc Cert.Kernel25Ideal.main_v4_1) = v1 c
          ∧ r.2.mem ((c.tc : Thread Cert.Kernel25Ideal.nD Cert.Kernel25Ideal.τ).loc Cert.Kernel25Ideal.main_v4_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v24) = v0 c
          ∧ r.2.mem ((c.tc : Thread Cert.Reference25Ideal.nD Cert.Reference25Ideal.τ).loc Cert.Reference25Ideal.main_v25) = v1 c
          ∧ r.2.mem ((c.tc : Thread Cert.Reference25Ideal.nD Cert.Reference25Ideal.τ).loc Cert.Reference25Ideal.main_v26) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v4) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v4_0)) (v1 : (c : Dev Cert.Kernel27Ideal.nD) → Buf (Elt Ideal) ((c.tc : Thread Cert.Kernel27Ideal.nD Cert.Kernel27Ideal.τ).loc Cert.Kernel27Ideal.main_v4_1)) (v2 : (c : Dev Cert.Kernel27Ideal.nD) → Buf (Elt Ideal) ((c.tc : Thread Cert.Kernel27Ideal.nD Cert.Kernel27Ideal.τ).loc Cert.Kernel27Ideal.main_v4_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v4_0) = v0 c
          ∧ r.2.mem ((c.tc : Thread Cert.Kernel27Ideal.nD Cert.Kernel27Ideal.τ).loc Cert.Kernel27Ideal.main_v4_1) = v1 c
          ∧ r.2.mem ((c.tc : Thread Cert.Kernel27Ideal.nD Cert.Kernel27Ideal.τ).loc Cert.Kernel27Ideal.main_v4_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v24) = v0 c
          ∧ r.2.mem ((c.tc : Thread Cert.Reference27Ideal.nD Cert.Reference27Ideal.τ).loc Cert.Reference27Ideal.main_v25) = v1 c
          ∧ r.2.mem ((c.tc : Thread Cert.Reference27Ideal.nD Cert.Reference27Ideal.τ).loc Cert.Reference27Ideal.main_v26) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)
      ∧ m' ((c.tc : Thread Cert.Reference28Ideal.nD Cert.Reference28Ideal.τ).loc Cert.Reference28Ideal.main_arg5) = m ((c.tc : Thread Cert.Kernel28Ideal.nD Cert.Kernel28Ideal.τ).loc Cert.Kernel28Ideal.main_arg5)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
          ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v6) = v0 c
          ∧ r.2.mem ((c.tc : Thread Cert.Reference28Ideal.nD Cert.Reference28Ideal.τ).loc Cert.Reference28Ideal.main_v30) = v1 c
          ∧ r.2.mem ((c.tc : Thread Cert.Reference28Ideal.nD Cert.Reference28Ideal.τ).loc Cert.Reference28Ideal.main_v11) = v2 c
          ∧ r.2.mem ((c.tc : Thread Cert.Reference28Ideal.nD Cert.Reference28Ideal.τ).loc Cert.Reference28Ideal.main_v17) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4)
          ∧ r.2.mem ((c.tc : Thread Cert.Reference28Ideal.nD Cert.Reference28Ideal.τ).loc Cert.Reference28Ideal.main_arg5) = m' ((c.tc : Thread Cert.Reference28Ideal.nD Cert.Reference28Ideal.τ).loc Cert.Reference28Ideal.main_arg5))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)
      ∧ m' ((c.tc : Thread Cert.Reference29Ideal.nD Cert.Reference29Ideal.τ).loc Cert.Reference29Ideal.main_arg5) = m ((c.tc : Thread Cert.Kernel29Ideal.nD Cert.Kernel29Ideal.τ).loc Cert.Kernel29Ideal.main_arg5)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
          ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v6) = v0 c
          ∧ r.2.mem ((c.tc : Thread Cert.Reference29Ideal.nD Cert.Reference29Ideal.τ).loc Cert.Reference29Ideal.main_v30) = v1 c
          ∧ r.2.mem ((c.tc : Thread Cert.Reference29Ideal.nD Cert.Reference29Ideal.τ).loc Cert.Reference29Ideal.main_v11) = v2 c
          ∧ r.2.mem ((c.tc : Thread Cert.Reference29Ideal.nD Cert.Reference29Ideal.τ).loc Cert.Reference29Ideal.main_v17) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4)
          ∧ r.2.mem ((c.tc : Thread Cert.Reference29Ideal.nD Cert.Reference29Ideal.τ).loc Cert.Reference29Ideal.main_arg5) = m' ((c.tc : Thread Cert.Reference29Ideal.nD Cert.Reference29Ideal.τ).loc Cert.Reference29Ideal.main_arg5))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)
      ∧ m' ((c.tc : Thread Cert.Reference30Ideal.nD Cert.Reference30Ideal.τ).loc Cert.Reference30Ideal.main_arg4) = m ((c.tc : Thread Cert.Kernel30Ideal.nD Cert.Kernel30Ideal.τ).loc Cert.Kernel30Ideal.main_arg4)
      ∧ m' ((c.tc : Thread Cert.Reference30Ideal.nD Cert.Reference30Ideal.τ).loc Cert.Reference30Ideal.main_arg5) = m ((c.tc : Thread Cert.Kernel30Ideal.nD Cert.Kernel30Ideal.τ).loc Cert.Kernel30Ideal.main_arg5)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
          ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
          ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v6) = v0 c
          ∧ r.2.mem ((c.tc : Thread Cert.Reference30Ideal.nD Cert.Reference30Ideal.τ).loc Cert.Reference30Ideal.main_v30) = v1 c
          ∧ r.2.mem ((c.tc : Thread Cert.Reference30Ideal.nD Cert.Reference30Ideal.τ).loc Cert.Reference30Ideal.main_v11) = v2 c
          ∧ r.2.mem ((c.tc : Thread Cert.Reference30Ideal.nD Cert.Reference30Ideal.τ).loc Cert.Reference30Ideal.main_v17) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3)
          ∧ r.2.mem ((c.tc : Thread Cert.Reference30Ideal.nD Cert.Reference30Ideal.τ).loc Cert.Reference30Ideal.main_arg4) = m' ((c.tc : Thread Cert.Reference30Ideal.nD Cert.Reference30Ideal.τ).loc Cert.Reference30Ideal.main_arg4)
          ∧ r.2.mem ((c.tc : Thread Cert.Reference30Ideal.nD Cert.Reference30Ideal.τ).loc Cert.Reference30Ideal.main_arg5) = m' ((c.tc : Thread Cert.Reference30Ideal.nD Cert.Reference30Ideal.τ).loc Cert.Reference30Ideal.main_arg5))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)
      ∧ m' ((c.tc : Thread Cert.Reference31Ideal.nD Cert.Reference31Ideal.τ).loc Cert.Reference31Ideal.main_arg5) = m ((c.tc : Thread Cert.Kernel31Ideal.nD Cert.Kernel31Ideal.τ).loc Cert.Kernel31Ideal.main_arg5)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)) (v3 : (c : Dev Cert.Kernel31Ideal.nD) → Buf (Elt Ideal) ((c.tc : Thread Cert.Kernel31Ideal.nD Cert.Kernel31Ideal.τ).loc Cert.Kernel31Ideal.main_v0_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_v0_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
          ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v6) = v0 c
          ∧ r.2.mem ((c.tc : Thread Cert.Reference31Ideal.nD Cert.Reference31Ideal.τ).loc Cert.Reference31Ideal.main_v30) = v1 c
          ∧ r.2.mem ((c.tc : Thread Cert.Reference31Ideal.nD Cert.Reference31Ideal.τ).loc Cert.Reference31Ideal.main_v11) = v2 c
          ∧ r.2.mem ((c.tc : Thread Cert.Reference31Ideal.nD Cert.Reference31Ideal.τ).loc Cert.Reference31Ideal.main_v17) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4)
          ∧ r.2.mem ((c.tc : Thread Cert.Reference31Ideal.nD Cert.Reference31Ideal.τ).loc Cert.Reference31Ideal.main_arg5) = m' ((c.tc : Thread Cert.Reference31Ideal.nD Cert.Reference31Ideal.τ).loc Cert.Reference31Ideal.main_arg5))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v2) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v16) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v25) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v0) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v17) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)) →
    ∃ (v0 : (c : Dev Cert.Kernel37Ideal.nD) → Buf (Elt Ideal) ((c.tc : Thread Cert.Kernel37Ideal.nD Cert.Kernel37Ideal.τ).loc Cert.Kernel37Ideal.main_v0)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v15) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)) →
    ∃ (v0 : (c : Dev Cert.Kernel38Ideal.nD) → Buf (Elt Ideal) ((c.tc : Thread Cert.Kernel38Ideal.nD Cert.Kernel38Ideal.τ).loc Cert.Kernel38Ideal.main_v0_0)) (v1 : (c : Dev Cert.Kernel38Ideal.nD) → Buf (Elt Ideal) ((c.tc : Thread Cert.Kernel38Ideal.nD Cert.Kernel38Ideal.τ).loc Cert.Kernel38Ideal.main_v0_1)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0_0) = v0 c
          ∧ r.2.mem ((c.tc : Thread Cert.Kernel38Ideal.nD Cert.Kernel38Ideal.τ).loc Cert.Kernel38Ideal.main_v0_1) = v1 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v7) = v0 c
          ∧ r.2.mem ((c.tc : Thread Cert.Reference38Ideal.nD Cert.Reference38Ideal.τ).loc Cert.Reference38Ideal.main_v6) = v1 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)) →
    ∃ (v0 : (c : Dev Cert.Kernel39Ideal.nD) → Buf (Elt Ideal) ((c.tc : Thread Cert.Kernel39Ideal.nD Cert.Kernel39Ideal.τ).loc Cert.Kernel39Ideal.main_v0_0)) (v1 : (c : Dev Cert.Kernel39Ideal.nD) → Buf (Elt Ideal) ((c.tc : Thread Cert.Kernel39Ideal.nD Cert.Kernel39Ideal.τ).loc Cert.Kernel39Ideal.main_v0_1)) (v2 : (c : Dev Cert.Kernel39Ideal.nD) → Buf (Elt Ideal) ((c.tc : Thread Cert.Kernel39Ideal.nD Cert.Kernel39Ideal.τ).loc Cert.Kernel39Ideal.main_v0_2)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0_0) = v0 c
          ∧ r.2.mem ((c.tc : Thread Cert.Kernel39Ideal.nD Cert.Kernel39Ideal.τ).loc Cert.Kernel39Ideal.main_v0_1) = v1 c
          ∧ r.2.mem ((c.tc : Thread Cert.Kernel39Ideal.nD Cert.Kernel39Ideal.τ).loc Cert.Kernel39Ideal.main_v0_2) = v2 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v42) = v0 c
          ∧ r.2.mem ((c.tc : Thread Cert.Reference39Ideal.nD Cert.Reference39Ideal.τ).loc Cert.Reference39Ideal.main_v25) = v1 c
          ∧ r.2.mem ((c.tc : Thread Cert.Reference39Ideal.nD Cert.Reference39Ideal.τ).loc Cert.Reference39Ideal.main_v22) = v2 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)
      ∧ m' ((c.tc : Thread Cert.Reference40Ideal.nD Cert.Reference40Ideal.τ).loc Cert.Reference40Ideal.main_arg4) = m ((c.tc : Thread Cert.Kernel40Ideal.nD Cert.Kernel40Ideal.τ).loc Cert.Kernel40Ideal.main_arg4)) →
    ∃ (v0 : (c : Dev Cert.Kernel40Ideal.nD) → Buf (Elt Ideal) ((c.tc : Thread Cert.Kernel40Ideal.nD Cert.Kernel40Ideal.τ).loc Cert.Kernel40Ideal.main_v0_0)) (v1 : (c : Dev Cert.Kernel40Ideal.nD) → Buf (Elt Ideal) ((c.tc : Thread Cert.Kernel40Ideal.nD Cert.Kernel40Ideal.τ).loc Cert.Kernel40Ideal.main_v0_1)) (v2 : (c : Dev Cert.Kernel40Ideal.nD) → Buf (Elt Ideal) ((c.tc : Thread Cert.Kernel40Ideal.nD Cert.Kernel40Ideal.τ).loc Cert.Kernel40Ideal.main_v0_2)) (v3 : (c : Dev Cert.Kernel40Ideal.nD) → Buf (Elt Ideal) ((c.tc : Thread Cert.Kernel40Ideal.nD Cert.Kernel40Ideal.τ).loc Cert.Kernel40Ideal.main_v0_3)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0_0) = v0 c
          ∧ r.2.mem ((c.tc : Thread Cert.Kernel40Ideal.nD Cert.Kernel40Ideal.τ).loc Cert.Kernel40Ideal.main_v0_1) = v1 c
          ∧ r.2.mem ((c.tc : Thread Cert.Kernel40Ideal.nD Cert.Kernel40Ideal.τ).loc Cert.Kernel40Ideal.main_v0_2) = v2 c
          ∧ r.2.mem ((c.tc : Thread Cert.Kernel40Ideal.nD Cert.Kernel40Ideal.τ).loc Cert.Kernel40Ideal.main_v0_3) = v3 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3)
          ∧ r.2.mem ((c.tc : Thread Cert.Kernel40Ideal.nD Cert.Kernel40Ideal.τ).loc Cert.Kernel40Ideal.main_arg4) = m ((c.tc : Thread Cert.Kernel40Ideal.nD Cert.Kernel40Ideal.τ).loc Cert.Kernel40Ideal.main_arg4))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v70) = v0 c
          ∧ r.2.mem ((c.tc : Thread Cert.Reference40Ideal.nD Cert.Reference40Ideal.τ).loc Cert.Reference40Ideal.main_v51) = v1 c
          ∧ r.2.mem ((c.tc : Thread Cert.Reference40Ideal.nD Cert.Reference40Ideal.τ).loc Cert.Reference40Ideal.main_v54) = v2 c
          ∧ r.2.mem ((c.tc : Thread Cert.Reference40Ideal.nD Cert.Reference40Ideal.τ).loc Cert.Reference40Ideal.main_v35) = v3 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3)
          ∧ r.2.mem ((c.tc : Thread Cert.Reference40Ideal.nD Cert.Reference40Ideal.τ).loc Cert.Reference40Ideal.main_arg4) = m' ((c.tc : Thread Cert.Reference40Ideal.nD Cert.Reference40Ideal.τ).loc Cert.Reference40Ideal.main_arg4))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)) →
    ∃ (v0 : (c : Dev Cert.Kernel41Ideal.nD) → Buf (Elt Ideal) ((c.tc : Thread Cert.Kernel41Ideal.nD Cert.Kernel41Ideal.τ).loc Cert.Kernel41Ideal.main_v0_0)) (v1 : (c : Dev Cert.Kernel41Ideal.nD) → Buf (Elt Ideal) ((c.tc : Thread Cert.Kernel41Ideal.nD Cert.Kernel41Ideal.τ).loc Cert.Kernel41Ideal.main_v0_1)) (v2 : (c : Dev Cert.Kernel41Ideal.nD) → Buf (Elt Ideal) ((c.tc : Thread Cert.Kernel41Ideal.nD Cert.Kernel41Ideal.τ).loc Cert.Kernel41Ideal.main_v0_2)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0_0) = v0 c
          ∧ r.2.mem ((c.tc : Thread Cert.Kernel41Ideal.nD Cert.Kernel41Ideal.τ).loc Cert.Kernel41Ideal.main_v0_1) = v1 c
          ∧ r.2.mem ((c.tc : Thread Cert.Kernel41Ideal.nD Cert.Kernel41Ideal.τ).loc Cert.Kernel41Ideal.main_v0_2) = v2 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v49) = v0 c
          ∧ r.2.mem ((c.tc : Thread Cert.Reference41Ideal.nD Cert.Reference41Ideal.τ).loc Cert.Reference41Ideal.main_v48) = v1 c
          ∧ r.2.mem ((c.tc : Thread Cert.Reference41Ideal.nD Cert.Reference41Ideal.τ).loc Cert.Reference41Ideal.main_v32) = v2 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)
      ∧ m' ((c.tc : Thread Cert.Reference42Ideal.nD Cert.Reference42Ideal.τ).loc Cert.Reference42Ideal.main_arg2) = m ((c.tc : Thread Cert.Kernel42Ideal.nD Cert.Kernel42Ideal.τ).loc Cert.Kernel42Ideal.main_arg2)) →
    ∃ (v0 : (c : Dev Cert.Kernel42Ideal.nD) → Buf (Elt Ideal) ((c.tc : Thread Cert.Kernel42Ideal.nD Cert.Kernel42Ideal.τ).loc Cert.Kernel42Ideal.main_v0)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0) = v0 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
          ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v28) = v0 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1)
          ∧ r.2.mem ((c.tc : Thread Cert.Reference42Ideal.nD Cert.Reference42Ideal.τ).loc Cert.Reference42Ideal.main_arg2) = m' ((c.tc : Thread Cert.Reference42Ideal.nD Cert.Reference42Ideal.τ).loc Cert.Reference42Ideal.main_arg2))

def preserves_Kernel43_Kernel43Ideal : Prop :=
  IdealRules.named_const.Statement Cert.Kernel43Ideal.κ "mask" .f32 0xF149F2CA#32 ⊥

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)) →
    ∃ (v0 : (c : Dev Cert.Kernel43Ideal.nD) → Buf (Elt Ideal) ((c.tc : Thread Cert.Kernel43Ideal.nD Cert.Kernel43Ideal.τ).loc Cert.Kernel43Ideal.main_v138)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v138) = v0 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v89) = v0 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hPre_all_finite : Cert.Pre_all_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_all_finite (hKernel2Ideal := hKernel2Ideal) (hPre_all_finite := hPre_all_finite)
    ∧ quiescent_Reference2Ideal (hReference2Ideal := hReference2Ideal)
    ∧ quiescent_Reference2Ideal_pre_all_finite (hReference2Ideal := hReference2Ideal) (hPre_all_finite := hPre_all_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_all_finite (hKernel2Ideal := hKernel2Ideal) (hReference2Ideal := hReference2Ideal) (hPre_all_finite := hPre_all_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
-- ==== Pre_all_finite.lean ====
abbrev S4096x5632 : Shape := ⟨2, ![4096, 5632]⟩
abbrev S4096x2816 : Shape := ⟨2, ![4096, 2816]⟩
abbrev S3x5632 : Shape := ⟨2, ![3, 5632]⟩
abbrev S1x5632 : Shape := ⟨2, ![1, 5632]⟩
abbrev S_ : Shape := ⟨0, ![]⟩

class Facts : Prop where
  bcast_S_S3x5632 : S_.BroadcastsInDim S3x5632 (![] : Fin 0 → Fin S3x5632.rank)
  bcast_S_S4096x2816 : S_.BroadcastsInDim S4096x2816 (![] : Fin 0 → Fin S4096x2816.rank)
  bcast_S_S4096x5632 : S_.BroadcastsInDim S4096x5632 (![] : Fin 0 → Fin S4096x5632.rank)
  concatenates_S4096x2816_S4096x2816_S4096x5632_d1 : Shape.Concatenates [S4096x2816, S4096x2816] S4096x5632 1
  slices_S3x5632_S1x5632_0_0 : S3x5632.Slices ![0, 0] S1x5632
  slices_S3x5632_S1x5632_1_0 : S3x5632.Slices ![1, 0] S1x5632
  slices_S3x5632_S1x5632_2_0 : S3x5632.Slices ![2, 0] S1x5632
  bcast_S_S1x5632 : S_.BroadcastsInDim S1x5632 (![] : Fin 0 → Fin S1x5632.rank)
  bcast_S1x5632_S4096x5632_0_1 : S1x5632.BroadcastsInDim S4096x5632 (![0, 1] : Fin 2 → Fin S4096x5632.rank)

variable [Facts]

def fn_part1 {F : FTy → Type} [FloatOps F] (main_v10 : IVec S4096x5632 1) (main_v19 : IVec S1x5632 1) : IVec S4096x5632 1 :=
  let main_v20 : IVec S4096x5632 1 := broadcastInDim S4096x5632 ![0, 1] bcast_S1x5632_S4096x5632_0_1 main_v19
  let main_v21 : IVec S4096x5632 1 := andi main_v10 main_v20
  main_v21

def fn {F : FTy → Type} [FloatOps F] (main_arg0 : FVec F S4096x5632 .f32) (main_arg1 : FVec F S4096x2816 .f32) (main_arg2 : FVec F S3x5632 .f32) (main_arg3 : FVec F S1x5632 .f32) : IVec S4096x5632 1 :=
  let main_v0 : FVec F S3x5632 .f32 := Host.absf main_arg2
  let main_cst : FVec F S_ .f32 := constant S_ .f32 0x7F800000#32
  let main_v1 : FVec F S3x5632 .f32 := broadcastInDim S3x5632 ![] bcast_S_S3x5632 main_cst
  let main_v2 : IVec S3x5632 1 := cmpf .olt main_v0 main_v1
  let main_v3 : FVec F S4096x2816 .f32 := Host.absf main_arg1
  let main_cst_0 : FVec F S_ .f32 := constant S_ .f32 0x7F800000#32
  let main_v4 : FVec F S4096x2816 .f32 := broadcastInDim S4096x2816 ![] bcast_S_S4096x2816 main_cst_0
  let main_v5 : IVec S4096x2816 1 := cmpf .olt main_v3 main_v4
  let main_v6 : FVec F S4096x5632 .f32 := Host.absf main_arg0
  let main_cst_1 : FVec F S_ .f32 := constant S_ .f32 0x7F800000#32
  let main_v7 : FVec F S4096x5632 .f32 := broadcastInDim S4096x5632 ![] bcast_S_S4096x5632 main_cst_1
  let main_v8 : IVec S4096x5632 1 := cmpf .olt main_v6 main_v7
  let main_v9 : IVec S4096x5632 1 := (fun a b => concatenate S4096x5632 1 [⟨S4096x2816, a⟩, ⟨S4096x2816, b⟩] concatenates_S4096x2816_S4096x2816_S4096x5632_d1) main_v5 main_v5
  let main_v10 : IVec S4096x5632 1 := andi main_v8 main_v9
  let main_v11 : IVec S1x5632 1 := (extractStridedSlice S1x5632 ![0, 0] · slices_S3x5632_S1x5632_0_0) main_v2
  let main_v12 : IVec S1x5632 1 := (extractStridedSlice S1x5632 ![1, 0] · slices_S3x5632_S1x5632_1_0) main_v2
  let main_v13 : IVec S1x5632 1 := andi main_v11 main_v12
  let main_v14 : IVec S1x5632 1 := (extractStridedSlice S1x5632 ![2, 0] · slices_S3x5632_S1x5632_2_0) main_v2
  let main_v15 : IVec S1x5632 1 := andi main_v13 main_v14
  let main_v16 : FVec F S1x5632 .f32 := Host.absf main_arg3
  let main_cst_2 : FVec F S_ .f32 := constant S_ .f32 0x7F800000#32
  let main_v17 : FVec F S1x5632 .f32 := broadcastInDim S1x5632 ![] bcast_S_S1x5632 main_cst_2
  let main_v18 : IVec S1x5632 1 := cmpf .olt main_v16 main_v17
  let main_v19 : IVec S1x5632 1 := andi main_v15 main_v18
  fn_part1 (F := F) main_v10 main_v19
-- ==== Kernel.lean ====
abbrev S4096x1024 : Shape := ⟨2, ![4096, 1024]⟩
abbrev S2x4096x2816 : Shape := ⟨3, ![2, 4096, 2816]⟩
abbrev S4x1024x1408 : Shape := ⟨3, ![4, 1024, 1408]⟩
abbrev S2048x512 : Shape := ⟨2, ![2048, 512]⟩
abbrev S1x2048x1408 : Shape := ⟨3, ![1, 2048, 1408]⟩
abbrev S1x512x1408 : Shape := ⟨3, ![1, 512, 1408]⟩
abbrev S512x1408 : Shape := ⟨2, ![512, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4x1024x1408, .f32⟩
  | .local _ .vmem, ⟨0, _⟩ => ⟨S2048x512, .bf16⟩
  | .local _ .vmem, ⟨1, _⟩ => ⟨S2048x512, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x512x1408, .f32⟩
  | .local _ .vmem, ⟨5, _⟩ => ⟨S1x512x1408, .f32⟩
  | .local _ .vmem, ⟨6, _⟩ => ⟨S512x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32_7 : BitVec 32 := 1#32
  let v12 : BitVec 1 := Scalar.cmpi .eq arg2 c1_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceIdeal.lean ====
abbrev S4096x1024 : Shape := ⟨2, ![4096, 1024]⟩
abbrev S2x4096x2816 : Shape := ⟨3, ![2, 4096, 2816]⟩
abbrev S1x4096x2816 : Shape := ⟨3, ![1, 4096, 2816]⟩
abbrev S4096x2816 : Shape := ⟨2, ![4096, 2816]⟩
abbrev S4096x5632 : Shape := ⟨2, ![4096, 5632]⟩
abbrev S1024x4096 : Shape := ⟨2, ![1024, 4096]⟩
abbrev S1024x5632 : Shape := ⟨2, ![1024, 5632]⟩
abbrev S1024x4x1408 : Shape := ⟨3, ![1024, 4, 1408]⟩
abbrev S4x1024x1408 : Shape := ⟨3, ![4, 1024, 1408]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4096x1024, .f32⟩
  | .hbm, ⟨3, _⟩ => ⟨S2x4096x2816, .f32⟩
  | .hbm, ⟨4, _⟩ => ⟨S1x4096x2816, .f32⟩
  | .hbm, ⟨5, _⟩ => ⟨S4096x2816, .f32⟩
  | .hbm, ⟨6, _⟩ => ⟨S1x4096x2816, .f32⟩
  | .hbm, ⟨7, _⟩ => ⟨S4096x2816, .f32⟩
  | .hbm, ⟨8, _⟩ => ⟨S4096x5632, .f32⟩
  | .hbm, ⟨9, _⟩ => ⟨S1024x4096, .f32⟩
  | .hbm, ⟨10, _⟩ => ⟨S1024x5632, .f32⟩
  | .hbm, ⟨11, _⟩ => ⟨S1024x4x1408, .f32⟩
  | .hbm, ⟨12, _⟩ => ⟨S4x1024x1408, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Kernel2.lean ====
abbrev S4096x5632 : Shape := ⟨2, ![4096, 5632]⟩
abbrev S4096x2816 : Shape := ⟨2, ![4096, 2816]⟩
abbrev S3x5632 : Shape := ⟨2, ![3, 5632]⟩
abbrev S1x5632 : Shape := ⟨2, ![1, 5632]⟩
abbrev S2x4096x2816 : Shape := ⟨3, ![2, 4096, 2816]⟩
abbrev S2x3x2816 : Shape := ⟨3, ![2, 3, 2816]⟩
abbrev S2x1x2816 : Shape := ⟨3, ![2, 1, 2816]⟩
abbrev S4096x128 : Shape := ⟨2, ![4096, 128]⟩
abbrev S3x128 : Shape := ⟨2, ![3, 128]⟩
abbrev S1x128 : Shape := ⟨2, ![1, 128]⟩
abbrev S2x4096x128 : Shape := ⟨3, ![2, 4096, 128]⟩
abbrev S2x3x128 : Shape := ⟨3, ![2, 3, 128]⟩
abbrev S2x1x128 : Shape := ⟨3, ![2, 1, 128]⟩
abbrev S4104x128 : Shape := ⟨2, ![4104, 128]⟩
abbrev S8x128 : Shape := ⟨2, ![8, 128]⟩
abbrev S256x128 : Shape := ⟨2, ![256, 128]⟩
abbrev S264x128 : Shape := ⟨2, ![264, 128]⟩
abbrev S128 : Shape := ⟨1, ![128]⟩
abbrev S1x1x128 : Shape := ⟨3, ![1, 1, 128]⟩
abbrev S1x256x128 : Shape := ⟨3, ![1, 256, 128]⟩

abbrev nBuf : Space → Nat
  | .hbm => 7
  | .vmem => 22
  | .smem => 0
  | _ => 0

abbrev bufTy : (tb : Table) → Fin (tcTables nBuf tb) → BufTy
  | .hbm, ⟨0, _⟩ => ⟨S4096x5632, .f32⟩
  | .hbm, ⟨1, _⟩ => ⟨S4096x2816, .f32⟩
  | .hbm, ⟨2, _⟩ => ⟨S3x5632, .f32⟩
  | .hbm, ⟨3, _⟩ => ⟨S1x5632, .f32⟩
  | .hbm, ⟨4, _⟩ => ⟨S2x4096x2816, .bf16⟩
  | .hbm, ⟨5, _⟩ => ⟨S2x3x2816, .f32⟩
  | .hbm, ⟨6, _⟩ => ⟨S2x1x2816, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S3x128, .f32⟩
  | .local _ .vmem, ⟨7, _⟩ => ⟨S3x128, .f32⟩
  | .local _ .vmem, ⟨8, _⟩ => ⟨S3x128, .f32⟩
  | .local _ .vmem, ⟨9, _⟩ => ⟨S3x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S2x4096x128, .bf16⟩
  | .local _ .vmem, ⟨15, _⟩ => ⟨S2x4096x128, .bf16⟩
  | .local _ .vmem, ⟨16, _⟩ => ⟨S2x3x128, .f32⟩
  | .local _ .vmem, ⟨17, _⟩ => ⟨S2x3x128, .f32⟩
  | .local _ .vmem, ⟨18, _⟩ => ⟨S2x1x128, .f32⟩
  | .local _ .vmem, ⟨19, _⟩ => ⟨S2x1x128, .f32⟩
  | .local _ .vmem, ⟨20, _⟩ => ⟨S4104x128, .f32⟩
  | .local _ .vmem, ⟨21, _⟩ => ⟨S4104x128, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![22], ![false]⟩

@[reducible] def k0_t1_loop : Scf.Loop 32 :=
  let c0_i32 : BitVec 32 := 0#32
  let c16_i32 : BitVec 32 := 16#32
  let v1 : BitVec 32 := Scalar.addi c0_i32 c16_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32 : BitVec 32 := 256#32
  let v50 : BitVec 32 := Scalar.muli arg13 c256_i32
  v50
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c256_i32 : BitVec 32 := 256#32
  let v50 : BitVec 32 := Scalar.muli arg13 c256_i32
  let v51 : BitVec 32 := v50
  let v52 : Index := Scalar.indexCast v51
  let c0_37 : Index := 0#32
  ![v52.toNat, 0]
def k0_mult2 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32 : BitVec 32 := 256#32
  let v50 : BitVec 32 := Scalar.muli arg13 c256_i32
  let v51 : BitVec 32 := v50
  let c8_i32 : BitVec 32 := 8#32
  let v54 : BitVec 32 := Scalar.subi v51 c8_i32
  let c0_i32_38 : BitVec 32 := 0#32
  let v55 : BitVec 32 := Scalar.maxsi v54 c0_i32_38
  v55
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c256_i32 : BitVec 32 := 256#32
  let v50 : BitVec 32 := Scalar.muli arg13 c256_i32
  let v51 : BitVec 32 := v50
  let c8_i32 : BitVec 32 := 8#32
  let v54 : BitVec 32 := Scalar.subi v51 c8_i32
  let c0_i32_38 : BitVec 32 := 0#32
  let v55 : BitVec 32 := Scalar.maxsi v54 c0_i32_38
  let v56 : BitVec 32 := v55
  let v57 : Index := Scalar.indexCast v56
  let c0_39 : Index := 0#32
  ![v57.toNat, 0]
def k0_mult3 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32 : BitVec 32 := 256#32
  let v50 : BitVec 32 := Scalar.muli arg13 c256_i32
  let v51 : BitVec 32 := v50
  let c8_i32_52 : BitVec 32 := 8#32
  let v83 : BitVec 32 := Scalar.subi v51 c8_i32_52
  let c0_i32_53 : BitVec 32 := 0#32
  let v84 : BitVec 32 := Scalar.maxsi v83 c0_i32_53
  v84
def k0_off3 (k0_t1 : Fin k0_t1_loop.trips) : Fin 2 → Nat :=
  let c0_i32 : BitVec 32 := 0#32
  let c1_i32 : BitVec 32 := 1#32
  let arg13 : BitVec 32 := Scf.iv c0_i32 c1_i32 k0_t1
  let c256_i32 : BitVec 32 := 256#32
  let v50 : BitVec 32 := Scalar.muli arg13 c256_i32
  let v51 : BitVec 32 := v50
  let v123 : Index := Scalar.indexCast v51
  let c0_70 : Index := 0#32
  ![v123.toNat, 0]
@[reducible] def k0_t2_loop : Scf.Loop 32 :=
  let c0_i32_33 : BitVec 32 := 0#32
  let c16_i32_34 : BitVec 32 := 16#32
  let v49 : BitVec 32 := Scalar.addi c0_i32_33 c16_i32_34
  let c1_i32_35 : BitVec 32 := 1#32
  ⟨c0_i32_33, v49, c1_i32_35⟩
def k0_mult4 (k0_t2 : Fin k0_t2_loop.trips) : BitVec 32 :=
  let c0_i32_33 : BitVec 32 := 0#32
  let c1_i32_35 : BitVec 32 := 1#32
  let arg13 : BitVec 32 := Scf.iv c0_i32_33 c1_i32_35 k0_t2
  let c256_i32 : BitVec 32 := 256#32
  let v50 : BitVec 32 := Scalar.muli arg13 c256_i32
  v50
def k0_off4 (k0_t2 : Fin k0_t2_loop.trips) : Fin 2 → Nat :=
  let c0_i32_33 : BitVec 32 := 0#32
  let c1_i32_35 : BitVec 32 := 1#32
  let arg13 : BitVec 32 := Scf.iv c0_i32_33 c1_i32_35 k0_t2
  let c256_i32 : BitVec 32 := 256#32
  let v50 : BitVec 32 := Scalar.muli arg13 c256_i32
  let v51 : BitVec 32 := v50
  let v52 : Index := Scalar.indexCast v51
  let c0_37 : Index := 0#32
  ![v52.toNat, 0]
def k0_off5 (k0_t2 : Fin k0_t2_loop.trips) : Fin 2 → Nat :=
  let c0_i32_33 : BitVec 32 := 0#32
  let c1_i32_35 : BitVec 32 := 1#32
  let arg13 : BitVec 32 := Scf.iv c0_i32_33 c1_i32_35 k0_t2
  let c256_i32 : BitVec 32 := 256#32
  let v50 : BitVec 32 := Scalar.muli arg13 c256_i32
  let v51 : BitVec 32 := v50
  let c256_i32_38 : BitVec 32 := 256#32
  let v54 : BitVec 32 := Scalar.addi v51 c256_i32_38
  let v55 : Index := Scalar.indexCast v54
  let c0_39 : Index := 0#32
  ![v55.toNat, 0]
def k0_off6 (k0_t2 : Fin k0_t2_loop.trips) : Fin 3 → Nat :=
  let c0_46 : Index := 0#32
  let c0_i32_33 : BitVec 32 := 0#32
  let c1_i32_35 : BitVec 32 := 1#32
  let arg13 : BitVec 32 := Scf.iv c0_i32_33 c1_i32_35 k0_t2
  let c256_i32 : BitVec 32 := 256#32
  let v50 : BitVec 32 := Scalar.muli arg13 c256_i32
  let v51 : BitVec 32 := v50
  let v74 : Index := Scalar.indexCast v51
  let c0_47 : Index := 0#32
  ![0, v74.toNat, 0]
def k0_off7 (k0_t2 : Fin k0_t2_loop.trips) : Fin 3 → Nat :=
  let c1_59 : Index := 1#32
  let c0_i32_33 : BitVec 32 := 0#32
  let c1_i32_35 : BitVec 32 := 1#32
  let arg13 : BitVec 32 := Scf.iv c0_i32_33 c1_i32_35 k0_t2
  let c256_i32 : BitVec 32 := 256#32
  let v50 : BitVec 32 := Scalar.muli arg13 c256_i32
  let v51 : BitVec 32 := v50
  let v100 : Index := Scalar.indexCast v51
  let c0_60 : Index := 0#32
  ![1, v100.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S4096x5632 : Shape := ⟨2, ![4096, 5632]⟩
abbrev S4096x2816 : Shape := ⟨2, ![4096, 2816]⟩
abbrev S3x5632 : Shape := ⟨2, ![3, 5632]⟩
abbrev S1x5632 : Shape := ⟨2, ![1, 5632]⟩
abbrev S_ : Shape := ⟨0, ![]⟩
abbrev S2x5632 : Shape := ⟨2, ![2, 5632]⟩
abbrev S4098x5632 : Shape := ⟨2, ![4098, 5632]⟩
abbrev S5632 : Shape := ⟨1, ![5632]⟩
abbrev S1x4096x2816 : Shape := ⟨3, ![1, 4096, 2816]⟩
abbrev S2x4096x2816 : Shape := ⟨3, ![2, 4096, 2816]⟩
abbrev S3x2816 : Shape := ⟨2, ![3, 2816]⟩
abbrev S1x3x2816 : Shape := ⟨3, ![1, 3, 2816]⟩
abbrev S2x3x2816 : Shape := ⟨3, ![2, 3, 2816]⟩
abbrev S1x2816 : Shape := ⟨2, ![1, 2816]⟩
abbrev S1x1x2816 : Shape := ⟨3, ![1, 1, 2816]⟩
abbrev S2x1x2816 : Shape := ⟨3, ![2, 1, 2816]⟩

abbrev nBuf : Space → Nat
  | .hbm => 118
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2816, .f32⟩
  | .hbm, ⟨2, _⟩ => ⟨S3x5632, .f32⟩
  | .hbm, ⟨3, _⟩ => ⟨S1x5632, .f32⟩
  | .hbm, ⟨4, _⟩ => ⟨S_, .f32⟩
  | .hbm, ⟨5, _⟩ => ⟨S2x5632, .f32⟩
  | .hbm, ⟨6, _⟩ => ⟨S4098x5632, .f32⟩
  | .hbm, ⟨7, _⟩ => ⟨S_, .f32⟩
  | .hbm, ⟨8, _⟩ => ⟨S2x5632, .f32⟩
  | .hbm, ⟨9, _⟩ => ⟨S1x5632, .f32⟩
  | .hbm, ⟨10, _⟩ => ⟨S5632, .f32⟩
  | .hbm, ⟨11, _⟩ => ⟨S4096x5632, .f32⟩
  | .hbm, ⟨12, _⟩ => ⟨S1x5632, .f32⟩
  | .hbm, ⟨13, _⟩ => ⟨S4096x5632, .f32⟩
  | .hbm, ⟨14, _⟩ => ⟨S4096x5632, .f32⟩
  | .hbm, ⟨15, _⟩ => ⟨S1x5632, .f32⟩
  | .hbm, ⟨16, _⟩ => ⟨S5632, .f32⟩
  | .hbm, ⟨17, _⟩ => ⟨S4096x5632, .f32⟩
  | .hbm, ⟨18, _⟩ => ⟨S1x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S1x5632, .f32⟩
  | .hbm, ⟨23, _⟩ => ⟨S5632, .f32⟩
  | .hbm, ⟨24, _⟩ => ⟨S4096x5632, .f32⟩
  | .hbm, ⟨25, _⟩ => ⟨S1x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x5632, .f32⟩
  | .hbm, ⟨54, _⟩ => ⟨S_, .f32⟩
  | .hbm, ⟨55, _⟩ => ⟨S5632, .f32⟩
  | .hbm, ⟨56, _⟩ => ⟨S1x5632, .f32⟩
  | .hbm, ⟨57, _⟩ => ⟨S4096x5632, .f32⟩
  | .hbm, ⟨58, _⟩ => ⟨S4096x5632, .f32⟩
  | .hbm, ⟨59, _⟩ => ⟨S4096x5632, .f32⟩
  | .hbm, ⟨60, _⟩ => ⟨S_, .f32⟩
  | .hbm, ⟨61, _⟩ => ⟨S5632, .f32⟩
  | .hbm, ⟨62, _⟩ => ⟨S1x5632, .f32⟩
  | .hbm, ⟨63, _⟩ => ⟨S_, .f32⟩
  | .hbm, ⟨64, _⟩ => ⟨S5632, .f32⟩
  | .hbm, ⟨65, _⟩ => ⟨S_, .f32⟩
  | .hbm, ⟨66, _⟩ => ⟨S4098x5632, .f32⟩
  | .hbm, ⟨67, _⟩ => ⟨S1x5632, .f32⟩
  | .hbm, ⟨68, _⟩ => ⟨S_, .f32⟩
  | .hbm, ⟨69, _⟩ => ⟨S3x5632, .f32⟩
  | .hbm, ⟨70, _⟩ => ⟨S4096x5632, .f32⟩
  | .hbm, ⟨71, _⟩ => ⟨S4096x5632, .f32⟩
  | .hbm, ⟨72, _⟩ => ⟨S4096x5632, .f32⟩
  | .hbm, ⟨73, _⟩ => ⟨S_, .f32⟩
  | .hbm, ⟨74, _⟩ => ⟨S5632, .f32⟩
  | .hbm, ⟨75, _⟩ => ⟨S1x5632, .f32⟩
  | .hbm, ⟨76, _⟩ => ⟨S_, .f32⟩
  | .hbm, ⟨77, _⟩ => ⟨S5632, .f32⟩
  | .hbm, ⟨78, _⟩ => ⟨S_, .f32⟩
  | .hbm, ⟨79, _⟩ => ⟨S4098x5632, .f32⟩
  | .hbm, ⟨80, _⟩ => ⟨S4098x5632, .f32⟩
  | .hbm, ⟨81, _⟩ => ⟨S1x5632, .f32⟩
  | .hbm, ⟨82, _⟩ => ⟨S_, .f32⟩
  | .hbm, ⟨83, _⟩ => ⟨S3x5632, .f32⟩
  | .hbm, ⟨84, _⟩ => ⟨S3x5632, .f32⟩
  | .hbm, ⟨85, _⟩ => ⟨S4096x5632, .f32⟩
  | .hbm, ⟨86, _⟩ => ⟨S4096x5632, .f32⟩
  | .hbm, ⟨87, _⟩ => ⟨S4096x5632, .f32⟩
  | .hbm, ⟨88, _⟩ => ⟨S_, .f32⟩
  | .hbm, ⟨89, _⟩ => ⟨S5632, .f32⟩
  | .hbm, ⟨90, _⟩ => ⟨S1x5632, .f32⟩
  | .hbm, ⟨91, _⟩ => ⟨S_, .f32⟩
  | .hbm, ⟨92, _⟩ => ⟨S5632, .f32⟩
  | .hbm, ⟨93, _⟩ => ⟨S_, .f32⟩
  | .hbm, ⟨94, _⟩ => ⟨S4098x5632, .f32⟩
  | .hbm, ⟨95, _⟩ => ⟨S4098x5632, .f32⟩
  | .hbm, ⟨96, _⟩ => ⟨S1x5632, .f32⟩
  | .hbm, ⟨97, _⟩ => ⟨S_, .f32⟩
  | .hbm, ⟨98, _⟩ => ⟨S3x5632, .f32⟩
  | .hbm, ⟨99, _⟩ => ⟨S3x5632, .f32⟩
  | .hbm, ⟨100, _⟩ => ⟨S2x5632, .f32⟩
  | .hbm, ⟨101, _⟩ => ⟨S4096x5632, .f32⟩
  | .hbm, ⟨102, _⟩ => ⟨S4096x2816, .f32⟩
  | .hbm, ⟨103, _⟩ => ⟨S4096x2816, .f32⟩
  | .hbm, ⟨104, _⟩ => ⟨S1x4096x2816, .f32⟩
  | .hbm, ⟨105, _⟩ => ⟨S1x4096x2816, .f32⟩
  | .hbm, ⟨106, _⟩ => ⟨S2x4096x2816, .f32⟩
  | .hbm, ⟨107, _⟩ => ⟨S2x4096x2816, .bf16⟩
  | .hbm, ⟨108, _⟩ => ⟨S3x2816, .f32⟩
  | .hbm, ⟨109, _⟩ => ⟨S3x2816, .f32⟩
  | .hbm, ⟨110, _⟩ => ⟨S1x3x2816, .f32⟩
  | .hbm, ⟨111, _⟩ => ⟨S1x3x2816, .f32⟩
  | .hbm, ⟨112, _⟩ => ⟨S2x3x2816, .f32⟩
  | .hbm, ⟨113, _⟩ => ⟨S1x2816, .f32⟩
  | .hbm, ⟨114, _⟩ => ⟨S1x2816, .f32⟩
  | .hbm, ⟨115, _⟩ => ⟨S1x1x2816, .f32⟩
  | .hbm, ⟨116, _⟩ => ⟨S1x1x2816, .f32⟩
  | .hbm, ⟨117, _⟩ => ⟨S2x1x2816, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v27_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v27_1 : Ref sig .tc := ⟨.hbm, 44, rfl⟩
abbrev main_v27_0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v31 : Ref sig .tc := ⟨.hbm, 52, rfl⟩
abbrev main_v32 : Ref sig .tc := ⟨.hbm, 53, rfl⟩
abbrev main_cst_1 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_2 : Ref sig .tc := ⟨.hbm, 60, rfl⟩
abbrev main_v38 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_cst_4 : Ref sig .tc := ⟨.hbm, 65, rfl⟩
abbrev main_v41 : Ref sig .tc := ⟨.hbm, 66, rfl⟩
abbrev main_v42 : Ref sig .tc := ⟨.hbm, 67, rfl⟩
abbrev main_cst_5 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_6 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_cst_8 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_10 : Ref sig .tc := ⟨.hbm, 88, rfl⟩
abbrev main_v58 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_cst_12 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩

abbrev nD : Nat := 1
abbrev τ : Topo := Topo.v7x

variable {F : FTy → Type} [FloatOps F]
-- ==== Kernel3.lean ====
abbrev S2x4096x2816 : Shape := ⟨3, ![2, 4096, 2816]⟩
abbrev S1024x5632 : Shape := ⟨2, ![1024, 5632]⟩
abbrev S4096x1024 : Shape := ⟨2, ![4096, 1024]⟩
abbrev S1x512x2816 : Shape := ⟨3, ![1, 512, 2816]⟩
abbrev S1024x2816 : Shape := ⟨2, ![1024, 2816]⟩
abbrev S512x1024 : Shape := ⟨2, ![512, 1024]⟩
abbrev S512x2816 : Shape := ⟨2, ![512, 2816]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .bf16⟩
  | .hbm, ⟨2, _⟩ => ⟨S4096x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S1024x2816, .bf16⟩
  | .local _ .vmem, ⟨3, _⟩ => ⟨S1024x2816, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32_7 : BitVec 32 := 1#32
  let v12 : BitVec 1 := Scalar.cmpi .eq arg2 c1_i32_7
  let v13 : BitVec 32 := Scalar.extui v12
  let c0_i32_8 : BitVec 32 := 0#32
  let v14 : BitVec 1 := Scalar.cmpi .ne v13 c0_i32_8
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2x4096x2816 : Shape := ⟨3, ![2, 4096, 2816]⟩
abbrev S1024x5632 : Shape := ⟨2, ![1024, 5632]⟩
abbrev S1x4096x2816 : Shape := ⟨3, ![1, 4096, 2816]⟩
abbrev S4096x2816 : Shape := ⟨2, ![4096, 2816]⟩
abbrev S4096x5632 : Shape := ⟨2, ![4096, 5632]⟩
abbrev S_ : Shape := ⟨0, ![]⟩
abbrev S4096x1024 : Shape := ⟨2, ![4096, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .bf16⟩
  | .hbm, ⟨2, _⟩ => ⟨S1024x5632, .f32⟩
  | .hbm, ⟨3, _⟩ => ⟨S2x4096x2816, .f32⟩
  | .hbm, ⟨4, _⟩ => ⟨S1x4096x2816, .f32⟩
  | .hbm, ⟨5, _⟩ => ⟨S4096x2816, .f32⟩
  | .hbm, ⟨6, _⟩ => ⟨S1x4096x2816, .f32⟩
  | .hbm, ⟨7, _⟩ => ⟨S4096x2816, .f32⟩
  | .hbm, ⟨8, _⟩ => ⟨S4096x5632, .f32⟩
  | .hbm, ⟨9, _⟩ => ⟨S_, .f32⟩
  | .hbm, ⟨10, _⟩ => ⟨S4096x1024, .f32⟩
  | .hbm, ⟨11, _⟩ => ⟨S4096x5632, .f32⟩
  | .hbm, ⟨12, _⟩ => ⟨S4096x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel4.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .f32⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .f32⟩
  | .local _ .vmem, ⟨5, _⟩ => ⟨S512x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .f32⟩
  | .hbm, ⟨3, _⟩ => ⟨S4096x1024, .f32⟩
  | .hbm, ⟨4, _⟩ => ⟨S_, .f32⟩
  | .hbm, ⟨5, _⟩ => ⟨S4096x2816, .f32⟩
  | .hbm, ⟨6, _⟩ => ⟨S4096x1024, .f32⟩
  | .hbm, ⟨7, _⟩ => ⟨S4096x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x512 : Shape := ⟨2, ![2048, 512]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x3072 : Shape := ⟨2, ![4096, 3072]⟩
abbrev S1024x3072 : Shape := ⟨2, ![1024, 3072]⟩
abbrev S4096x1024 : Shape := ⟨2, ![4096, 1024]⟩
abbrev S512x3072 : Shape := ⟨2, ![512, 3072]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x3072 : Shape := ⟨2, ![4096, 3072]⟩
abbrev S1024x3072 : Shape := ⟨2, ![1024, 3072]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S1024x3072, .f32⟩
  | .hbm, ⟨3, _⟩ => ⟨S4096x3072, .f32⟩
  | .hbm, ⟨4, _⟩ => ⟨S_, .f32⟩
  | .hbm, ⟨5, _⟩ => ⟨S4096x1024, .f32⟩
  | .hbm, ⟨6, _⟩ => ⟨S4096x3072, .f32⟩
  | .hbm, ⟨7, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4096x1024 : Shape := ⟨2, ![4096, 1024]⟩
abbrev S4096x3072 : Shape := ⟨2, ![4096, 3072]⟩
abbrev S4x1024x768 : Shape := ⟨3, ![4, 1024, 768]⟩
abbrev S2048x512 : Shape := ⟨2, ![2048, 512]⟩
abbrev S2048x768 : Shape := ⟨2, ![2048, 768]⟩
abbrev S1x512x768 : Shape := ⟨3, ![1, 512, 768]⟩
abbrev S512x768 : Shape := ⟨2, ![512, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4x1024x768, .f32⟩
  | .local _ .vmem, ⟨0, _⟩ => ⟨S2048x512, .bf16⟩
  | .local _ .vmem, ⟨1, _⟩ => ⟨S2048x512, .bf16⟩
  | .local _ .vmem, ⟨2, _⟩ => ⟨S2048x768, .bf16⟩
  | .local _ .vmem, ⟨3, _⟩ => ⟨S2048x768, .bf16⟩
  | .local _ .vmem, ⟨4, _⟩ => ⟨S1x512x768, .f32⟩
  | .local _ .vmem, ⟨5, _⟩ => ⟨S1x512x768, .f32⟩
  | .local _ .vmem, ⟨6, _⟩ => ⟨S512x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4096x1024, .f32⟩
  | .hbm, ⟨3, _⟩ => ⟨S4096x3072, .f32⟩
  | .hbm, ⟨4, _⟩ => ⟨S_, .f32⟩
  | .hbm, ⟨5, _⟩ => ⟨S1024x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S1024x4x768, .f32⟩
  | .hbm, ⟨10, _⟩ => ⟨S4x1024x768, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4096x1024 : Shape := ⟨2, ![4096, 1024]⟩
abbrev S1024x5632 : Shape := ⟨2, ![1024, 5632]⟩
abbrev S4096x5632 : Shape := ⟨2, ![4096, 5632]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .f32⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S512x1408, .f32⟩
  | .local _ .vmem, ⟨5, _⟩ => ⟨S512x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel11.lean ====
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel12.lean ====
abbrev S4096x1024 : Shape := ⟨2, ![4096, 1024]⟩
abbrev S1024x3072 : Shape := ⟨2, ![1024, 3072]⟩
abbrev S4096x3072 : Shape := ⟨2, ![4096, 3072]⟩
abbrev S512x1024 : Shape := ⟨2, ![512, 1024]⟩
abbrev S1024x768 : Shape := ⟨2, ![1024, 768]⟩
abbrev S512x768 : Shape := ⟨2, ![512, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .bf16⟩
  | .local _ .vmem, ⟨0, _⟩ => ⟨S512x1024, .bf16⟩
  | .local _ .vmem, ⟨1, _⟩ => ⟨S512x1024, .bf16⟩
  | .local _ .vmem, ⟨2, _⟩ => ⟨S1024x768, .bf16⟩
  | .local _ .vmem, ⟨3, _⟩ => ⟨S1024x768, .bf16⟩
  | .local _ .vmem, ⟨4, _⟩ => ⟨S512x768, .bf16⟩
  | .local _ .vmem, ⟨5, _⟩ => ⟨S512x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .f32⟩
  | .hbm, ⟨3, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel20.lean ====
abbrev S2x1024x1536 : Shape := ⟨3, ![2, 1024, 1536]⟩
abbrev S2048x1536 : Shape := ⟨2, ![2048, 1536]⟩
abbrev S512x1536 : Shape := ⟨2, ![512, 1536]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .hbm, ⟨8, _⟩ => ⟨S2048x1536, .f32⟩
  | .hbm, ⟨9, _⟩ => ⟨S2048x1536, .f32⟩
  | .hbm, ⟨10, _⟩ => ⟨S2048x1536, .f32⟩
  | .local _ .vmem, ⟨0, _⟩ => ⟨S512x1536, .f32⟩
  | .local _ .vmem, ⟨1, _⟩ => ⟨S512x1536, .f32⟩
  | .local _ .vmem, ⟨2, _⟩ => ⟨S512x1536, .f32⟩
  | .local _ .vmem, ⟨3, _⟩ => ⟨S512x1536, .f32⟩
  | .local _ .vmem, ⟨4, _⟩ => ⟨S512x1536, .f32⟩
  | .local _ .vmem, ⟨5, _⟩ => ⟨S512x1536, .f32⟩
  | .local _ .vmem, ⟨6, _⟩ => ⟨S512x1536, .f32⟩
  | .local _ .vmem, ⟨7, _⟩ => ⟨S512x1536, .f32⟩
  | .local _ .vmem, ⟨8, _⟩ => ⟨S512x1536, .f32⟩
  | .local _ .vmem, ⟨9, _⟩ => ⟨S512x1536, .f32⟩
  | .local _ .vmem, ⟨10, _⟩ => ⟨S512x1536, .f32⟩
  | .local _ .vmem, ⟨11, _⟩ => ⟨S512x1536, .f32⟩
  | .local _ .vmem, ⟨12, _⟩ => ⟨S512x1536, .f32⟩
  | .local _ .vmem, ⟨13, _⟩ => ⟨S512x1536, .f32⟩
  | _, _ => ⟨S2x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference20Ideal.lean ====
abbrev S2x1024x1536 : Shape := ⟨3, ![2, 1024, 1536]⟩
abbrev S_ : Shape := ⟨0, ![]⟩
abbrev S2048x1536 : Shape := ⟨2, ![2048, 1536]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S_, .f32⟩
  | .hbm, ⟨5, _⟩ => ⟨S2x1024x1536, .f32⟩
  | .hbm, ⟨6, _⟩ => ⟨S2x1024x1536, .f32⟩
  | .hbm, ⟨7, _⟩ => ⟨S_, .f32⟩
  | .hbm, ⟨8, _⟩ => ⟨S2x1024x1536, .f32⟩
  | .hbm, ⟨9, _⟩ => ⟨S2x1024x1536, .f32⟩
  | .hbm, ⟨10, _⟩ => ⟨S2x1024x1536, .f32⟩
  | .hbm, ⟨11, _⟩ => ⟨S_, .f32⟩
  | .hbm, ⟨12, _⟩ => ⟨S2x1024x1536, .f32⟩
  | .hbm, ⟨13, _⟩ => ⟨S2x1024x1536, .f32⟩
  | .hbm, ⟨14, _⟩ => ⟨S2x1024x1536, .f32⟩
  | .hbm, ⟨15, _⟩ => ⟨S_, .f32⟩
  | .hbm, ⟨16, _⟩ => ⟨S2x1024x1536, .f32⟩
  | .hbm, ⟨17, _⟩ => ⟨S2x1024x1536, .f32⟩
  | .hbm, ⟨18, _⟩ => ⟨S2x1024x1536, .f32⟩
  | .hbm, ⟨19, _⟩ => ⟨S_, .f32⟩
  | .hbm, ⟨20, _⟩ => ⟨S2x1024x1536, .f32⟩
  | .hbm, ⟨21, _⟩ => ⟨S2x1024x1536, .f32⟩
  | .hbm, ⟨22, _⟩ => ⟨S_, .f32⟩
  | .hbm, ⟨23, _⟩ => ⟨S2x1024x1536, .f32⟩
  | .hbm, ⟨24, _⟩ => ⟨S2x1024x1536, .f32⟩
  | .hbm, ⟨25, _⟩ => ⟨S2x1024x1536, .f32⟩
  | .hbm, ⟨26, _⟩ => ⟨S_, .f32⟩
  | .hbm, ⟨27, _⟩ => ⟨S2x1024x1536, .f32⟩
  | .hbm, ⟨28, _⟩ => ⟨S2x1024x1536, .f32⟩
  | .hbm, ⟨29, _⟩ => ⟨S2x1024x1536, .f32⟩
  | .hbm, ⟨30, _⟩ => ⟨S_, .f32⟩
  | .hbm, ⟨31, _⟩ => ⟨S2x1024x1536, .f32⟩
  | .hbm, ⟨32, _⟩ => ⟨S2x1024x1536, .f32⟩
  | .hbm, ⟨33, _⟩ => ⟨S2x1024x1536, .f32⟩
  | .hbm, ⟨34, _⟩ => ⟨S_, .f32⟩
  | .hbm, ⟨35, _⟩ => ⟨S2x1024x1536, .f32⟩
  | .hbm, ⟨36, _⟩ => ⟨S2x1024x1536, .f32⟩
  | .hbm, ⟨37, _⟩ => ⟨S2048x1536, .f32⟩
  | .hbm, ⟨38, _⟩ => ⟨S2048x1536, .f32⟩
  | .hbm, ⟨39, _⟩ => ⟨S2048x1536, .f32⟩
  | _, _ => ⟨S2x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel21.lean ====
abbrev S2x6144 : Shape := ⟨2, ![2, 6144]⟩

abbrev nBuf : Space → Nat
  | .hbm => 7
  | .vmem => 7
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S2x6144, .f32⟩
  | .hbm, ⟨5, _⟩ => ⟨S2x6144, .f32⟩
  | .hbm, ⟨6, _⟩ => ⟨S2x6144, .f32⟩
  | .local _ .vmem, ⟨0, _⟩ => ⟨S2x6144, .f32⟩
  | .local _ .vmem, ⟨1, _⟩ => ⟨S2x6144, .f32⟩
  | .local _ .vmem, ⟨2, _⟩ => ⟨S2x6144, .f32⟩
  | .local _ .vmem, ⟨3, _⟩ => ⟨S2x6144, .f32⟩
  | .local _ .vmem, ⟨4, _⟩ => ⟨S2x6144, .f32⟩
  | .local _ .vmem, ⟨5, _⟩ => ⟨S2x6144, .f32⟩
  | .local _ .vmem, ⟨6, _⟩ => ⟨S2x6144, .f32⟩
  | _, _ => ⟨S2x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference21Ideal.lean ====
abbrev S2x6144 : Shape := ⟨2, ![2, 6144]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S_, .f32⟩
  | .hbm, ⟨5, _⟩ => ⟨S2x6144, .f32⟩
  | .hbm, ⟨6, _⟩ => ⟨S2x6144, .f32⟩
  | .hbm, ⟨7, _⟩ => ⟨S_, .f32⟩
  | .hbm, ⟨8, _⟩ => ⟨S2x6144, .f32⟩
  | .hbm, ⟨9, _⟩ => ⟨S2x6144, .f32⟩
  | .hbm, ⟨10, _⟩ => ⟨S2x6144, .f32⟩
  | .hbm, ⟨11, _⟩ => ⟨S_, .f32⟩
  | .hbm, ⟨12, _⟩ => ⟨S2x6144, .f32⟩
  | .hbm, ⟨13, _⟩ => ⟨S2x6144, .f32⟩
  | .hbm, ⟨14, _⟩ => ⟨S2x6144, .f32⟩
  | .hbm, ⟨15, _⟩ => ⟨S_, .f32⟩
  | .hbm, ⟨16, _⟩ => ⟨S2x6144, .f32⟩
  | .hbm, ⟨17, _⟩ => ⟨S2x6144, .f32⟩
  | .hbm, ⟨18, _⟩ => ⟨S2x6144, .f32⟩
  | .hbm, ⟨19, _⟩ => ⟨S_, .f32⟩
  | .hbm, ⟨20, _⟩ => ⟨S2x6144, .f32⟩
  | .hbm, ⟨21, _⟩ => ⟨S2x6144, .f32⟩
  | .hbm, ⟨22, _⟩ => ⟨S_, .f32⟩
  | .hbm, ⟨23, _⟩ => ⟨S2x6144, .f32⟩
  | .hbm, ⟨24, _⟩ => ⟨S2x6144, .f32⟩
  | .hbm, ⟨25, _⟩ => ⟨S2x6144, .f32⟩
  | .hbm, ⟨26, _⟩ => ⟨S_, .f32⟩
  | .hbm, ⟨27, _⟩ => ⟨S2x6144, .f32⟩
  | .hbm, ⟨28, _⟩ => ⟨S2x6144, .f32⟩
  | .hbm, ⟨29, _⟩ => ⟨S2x6144, .f32⟩
  | .hbm, ⟨30, _⟩ => ⟨S_, .f32⟩
  | .hbm, ⟨31, _⟩ => ⟨S2x6144, .f32⟩
  | .hbm, ⟨32, _⟩ => ⟨S2x6144, .f32⟩
  | .hbm, ⟨33, _⟩ => ⟨S2x6144, .f32⟩
  | .hbm, ⟨34, _⟩ => ⟨S_, .f32⟩
  | .hbm, ⟨35, _⟩ => ⟨S2x6144, .f32⟩
  | .hbm, ⟨36, _⟩ => ⟨S2x6144, .f32⟩
  | _, _ => ⟨S2x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S2x8x257 : Shape := ⟨3, ![2, 8, 257]⟩
abbrev S16x257 : Shape := ⟨2, ![16, 257]⟩

abbrev nBuf : Space → Nat
  | .hbm => 11
  | .vmem => 7
  | .smem => 0
  | _ => 0

abbrev bufTy : (tb : Table) → Fin (tcTables nBuf tb) → BufTy
  | .hbm, ⟨0, _⟩ => ⟨S2x8x257, .f32⟩
  | .hbm, ⟨1, _⟩ => ⟨S2x8x257, .f32⟩
  | .hbm, ⟨2, _⟩ => ⟨S2x8x257, .f32⟩
  | .hbm, ⟨3, _⟩ => ⟨S2x8x257, .f32⟩
  | .hbm, ⟨4, _⟩ => ⟨S16x257, .f32⟩
  | .hbm, ⟨5, _⟩ => ⟨S16x257, .f32⟩
  | .hbm, ⟨6, _⟩ => ⟨S16x257, .f32⟩
  | .hbm, ⟨7, _⟩ => ⟨S16x257, .f32⟩
  | .hbm, ⟨8, _⟩ => ⟨S16x257, .f32⟩
  | .hbm, ⟨9, _⟩ => ⟨S16x257, .f32⟩
  | .hbm, ⟨10, _⟩ => ⟨S16x257, .f32⟩
  | .local _ .vmem, ⟨0, _⟩ => ⟨S16x257, .f32⟩
  | .local _ .vmem, ⟨1, _⟩ => ⟨S16x257, .f32⟩
  | .local _ .vmem, ⟨2, _⟩ => ⟨S16x257, .f32⟩
  | .local _ .vmem, ⟨3, _⟩ => ⟨S16x257, .f32⟩
  | .local _ .vmem, ⟨4, _⟩ => ⟨S16x257, .f32⟩
  | .local _ .vmem, ⟨5, _⟩ => ⟨S16x257, .f32⟩
  | .local _ .vmem, ⟨6, _⟩ => ⟨S16x257, .f32⟩
  | _, _ => ⟨S2x8x257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x257 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x257 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x257 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x257 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x257 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x257 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x257 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference22Ideal.lean ====
abbrev S2x8x257 : Shape := ⟨3, ![2, 8, 257]⟩
abbrev S_ : Shape := ⟨0, ![]⟩
abbrev S16x257 : Shape := ⟨2, ![16, 257]⟩

abbrev nBuf : Space → Nat
  | .hbm => 40
  | .vmem => 0
  | .smem => 0
  | _ => 0

abbrev bufTy : (tb : Table) → Fin (tcTables nBuf tb) → BufTy
  | .hbm, ⟨0, _⟩ => ⟨S2x8x257, .f32⟩
  | .hbm, ⟨1, _⟩ => ⟨S2x8x257, .f32⟩
  | .hbm, ⟨2, _⟩ => ⟨S2x8x257, .f32⟩
  | .hbm, ⟨3, _⟩ => ⟨S2x8x257, .f32⟩
  | .hbm, ⟨4, _⟩ => ⟨S_, .f32⟩
  | .hbm, ⟨5, _⟩ => ⟨S2x8x257, .f32⟩
  | .hbm, ⟨6, _⟩ => ⟨S2x8x257, .f32⟩
  | .hbm, ⟨7, _⟩ => ⟨S_, .f32⟩
  | .hbm, ⟨8, _⟩ => ⟨S2x8x257, .f32⟩
  | .hbm, ⟨9, _⟩ => ⟨S2x8x257, .f32⟩
  | .hbm, ⟨10, _⟩ => ⟨S2x8x257, .f32⟩
  | .hbm, ⟨11, _⟩ => ⟨S_, .f32⟩
  | .hbm, ⟨12, _⟩ => ⟨S2x8x257, .f32⟩
  | .hbm, ⟨13, _⟩ => ⟨S2x8x257, .f32⟩
  | .hbm, ⟨14, _⟩ => ⟨S2x8x257, .f32⟩
  | .hbm, ⟨15, _⟩ => ⟨S_, .f32⟩
  | .hbm, ⟨16, _⟩ => ⟨S2x8x257, .f32⟩
  | .hbm, ⟨17, _⟩ => ⟨S2x8x257, .f32⟩
  | .hbm, ⟨18, _⟩ => ⟨S2x8x257, .f32⟩
  | .hbm, ⟨19, _⟩ => ⟨S_, .f32⟩
  | .hbm, ⟨20, _⟩ => ⟨S2x8x257, .f32⟩
  | .hbm, ⟨21, _⟩ => ⟨S2x8x257, .f32⟩
  | .hbm, ⟨22, _⟩ => ⟨S_, .f32⟩
  | .hbm, ⟨23, _⟩ => ⟨S2x8x257, .f32⟩
  | .hbm, ⟨24, _⟩ => ⟨S2x8x257, .f32⟩
  | .hbm, ⟨25, _⟩ => ⟨S2x8x257, .f32⟩
  | .hbm, ⟨26, _⟩ => ⟨S_, .f32⟩
  | .hbm, ⟨27, _⟩ => ⟨S2x8x257, .f32⟩
  | .hbm, ⟨28, _⟩ => ⟨S2x8x257, .f32⟩
  | .hbm, ⟨29, _⟩ => ⟨S2x8x257, .f32⟩
  | .hbm, ⟨30, _⟩ => ⟨S_, .f32⟩
  | .hbm, ⟨31, _⟩ => ⟨S2x8x257, .f32⟩
  | .hbm, ⟨32, _⟩ => ⟨S2x8x257, .f32⟩
  | .hbm, ⟨33, _⟩ => ⟨S2x8x257, .f32⟩
  | .hbm, ⟨34, _⟩ => ⟨S_, .f32⟩
  | .hbm, ⟨35, _⟩ => ⟨S2x8x257, .f32⟩
  | .hbm, ⟨36, _⟩ => ⟨S2x8x257, .f32⟩
  | .hbm, ⟨37, _⟩ => ⟨S16x257, .f32⟩
  | .hbm, ⟨38, _⟩ => ⟨S16x257, .f32⟩
  | .hbm, ⟨39, _⟩ => ⟨S16x257, .f32⟩
  | _, _ => ⟨S2x8x257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel23.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference23Ideal.lean ====
abbrev S2x512 : Shape := ⟨2, ![2, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S_, .f32⟩
  | .hbm, ⟨5, _⟩ => ⟨S2x512, .f32⟩
  | .hbm, ⟨6, _⟩ => ⟨S2x512, .f32⟩
  | .hbm, ⟨7, _⟩ => ⟨S_, .f32⟩
  | .hbm, ⟨8, _⟩ => ⟨S2x512, .f32⟩
  | .hbm, ⟨9, _⟩ => ⟨S2x512, .f32⟩
  | .hbm, ⟨10, _⟩ => ⟨S2x512, .f32⟩
  | .hbm, ⟨11, _⟩ => ⟨S_, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S_, .f32⟩
  | .hbm, ⟨20, _⟩ => ⟨S2x512, .f32⟩
  | .hbm, ⟨21, _⟩ => ⟨S2x512, .f32⟩
  | .hbm, ⟨22, _⟩ => ⟨S_, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S_, .f32⟩
  | .hbm, ⟨27, _⟩ => ⟨S2x512, .f32⟩
  | .hbm, ⟨28, _⟩ => ⟨S2x512, .f32⟩
  | .hbm, ⟨29, _⟩ => ⟨S2x512, .f32⟩
  | .hbm, ⟨30, _⟩ => ⟨S_, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S_, .f32⟩
  | .hbm, ⟨35, _⟩ => ⟨S2x512, .f32⟩
  | .hbm, ⟨36, _⟩ => ⟨S2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference24Ideal.lean ====
abbrev S2x512 : Shape := ⟨2, ![2, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S_, .f32⟩
  | .hbm, ⟨5, _⟩ => ⟨S2x512, .f32⟩
  | .hbm, ⟨6, _⟩ => ⟨S2x512, .f32⟩
  | .hbm, ⟨7, _⟩ => ⟨S_, .f32⟩
  | .hbm, ⟨8, _⟩ => ⟨S2x512, .f32⟩
  | .hbm, ⟨9, _⟩ => ⟨S2x512, .f32⟩
  | .hbm, ⟨10, _⟩ => ⟨S2x512, .f32⟩
  | .hbm, ⟨11, _⟩ => ⟨S_, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S_, .f32⟩
  | .hbm, ⟨20, _⟩ => ⟨S2x512, .f32⟩
  | .hbm, ⟨21, _⟩ => ⟨S2x512, .f32⟩
  | .hbm, ⟨22, _⟩ => ⟨S_, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S_, .f32⟩
  | .hbm, ⟨27, _⟩ => ⟨S2x512, .f32⟩
  | .hbm, ⟨28, _⟩ => ⟨S2x512, .f32⟩
  | .hbm, ⟨29, _⟩ => ⟨S2x512, .f32⟩
  | .hbm, ⟨30, _⟩ => ⟨S_, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S_, .f32⟩
  | .hbm, ⟨35, _⟩ => ⟨S2x512, .f32⟩
  | .hbm, ⟨36, _⟩ => ⟨S2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S2x3x1408 : Shape := ⟨3, ![2, 3, 1408]⟩
abbrev S6x1408 : Shape := ⟨2, ![6, 1408]⟩

abbrev nBuf : Space → Nat
  | .hbm => 11
  | .vmem => 7
  | .smem => 0
  | _ => 0

abbrev bufTy : (tb : Table) → Fin (tcTables nBuf tb) → BufTy
  | .hbm, ⟨0, _⟩ => ⟨S2x3x1408, .f32⟩
  | .hbm, ⟨1, _⟩ => ⟨S2x3x1408, .f32⟩
  | .hbm, ⟨2, _⟩ => ⟨S2x3x1408, .f32⟩
  | .hbm, ⟨3, _⟩ => ⟨S2x3x1408, .f32⟩
  | .hbm, ⟨4, _⟩ => ⟨S6x1408, .f32⟩
  | .hbm, ⟨5, _⟩ => ⟨S6x1408, .f32⟩
  | .hbm, ⟨6, _⟩ => ⟨S6x1408, .f32⟩
  | .hbm, ⟨7, _⟩ => ⟨S6x1408, .f32⟩
  | .hbm, ⟨8, _⟩ => ⟨S6x1408, .f32⟩
  | .hbm, ⟨9, _⟩ => ⟨S6x1408, .f32⟩
  | .hbm, ⟨10, _⟩ => ⟨S6x1408, .f32⟩
  | .local _ .vmem, ⟨0, _⟩ => ⟨S6x1408, .f32⟩
  | .local _ .vmem, ⟨1, _⟩ => ⟨S6x1408, .f32⟩
  | .local _ .vmem, ⟨2, _⟩ => ⟨S6x1408, .f32⟩
  | .local _ .vmem, ⟨3, _⟩ => ⟨S6x1408, .f32⟩
  | .local _ .vmem, ⟨4, _⟩ => ⟨S6x1408, .f32⟩
  | .local _ .vmem, ⟨5, _⟩ => ⟨S6x1408, .f32⟩
  | .local _ .vmem, ⟨6, _⟩ => ⟨S6x1408, .f32⟩
  | _, _ => ⟨S2x3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference25Ideal.lean ====
abbrev S2x3x1408 : Shape := ⟨3, ![2, 3, 1408]⟩
abbrev S_ : Shape := ⟨0, ![]⟩
abbrev S6x1408 : Shape := ⟨2, ![6, 1408]⟩

abbrev nBuf : Space → Nat
  | .hbm => 40
  | .vmem => 0
  | .smem => 0
  | _ => 0

abbrev bufTy : (tb : Table) → Fin (tcTables nBuf tb) → BufTy
  | .hbm, ⟨0, _⟩ => ⟨S2x3x1408, .f32⟩
  | .hbm, ⟨1, _⟩ => ⟨S2x3x1408, .f32⟩
  | .hbm, ⟨2, _⟩ => ⟨S2x3x1408, .f32⟩
  | .hbm, ⟨3, _⟩ => ⟨S2x3x1408, .f32⟩
  | .hbm, ⟨4, _⟩ => ⟨S_, .f32⟩
  | .hbm, ⟨5, _⟩ => ⟨S2x3x1408, .f32⟩
  | .hbm, ⟨6, _⟩ => ⟨S2x3x1408, .f32⟩
  | .hbm, ⟨7, _⟩ => ⟨S_, .f32⟩
  | .hbm, ⟨8, _⟩ => ⟨S2x3x1408, .f32⟩
  | .hbm, ⟨9, _⟩ => ⟨S2x3x1408, .f32⟩
  | .hbm, ⟨10, _⟩ => ⟨S2x3x1408, .f32⟩
  | .hbm, ⟨11, _⟩ => ⟨S_, .f32⟩
  | .hbm, ⟨12, _⟩ => ⟨S2x3x1408, .f32⟩
  | .hbm, ⟨13, _⟩ => ⟨S2x3x1408, .f32⟩
  | .hbm, ⟨14, _⟩ => ⟨S2x3x1408, .f32⟩
  | .hbm, ⟨15, _⟩ => ⟨S_, .f32⟩
  | .hbm, ⟨16, _⟩ => ⟨S2x3x1408, .f32⟩
  | .hbm, ⟨17, _⟩ => ⟨S2x3x1408, .f32⟩
  | .hbm, ⟨18, _⟩ => ⟨S2x3x1408, .f32⟩
  | .hbm, ⟨19, _⟩ => ⟨S_, .f32⟩
  | .hbm, ⟨20, _⟩ => ⟨S2x3x1408, .f32⟩
  | .hbm, ⟨21, _⟩ => ⟨S2x3x1408, .f32⟩
  | .hbm, ⟨22, _⟩ => ⟨S_, .f32⟩
  | .hbm, ⟨23, _⟩ => ⟨S2x3x1408, .f32⟩
  | .hbm, ⟨24, _⟩ => ⟨S2x3x1408, .f32⟩
  | .hbm, ⟨25, _⟩ => ⟨S2x3x1408, .f32⟩
  | .hbm, ⟨26, _⟩ => ⟨S_, .f32⟩
  | .hbm, ⟨27, _⟩ => ⟨S2x3x1408, .f32⟩
  | .hbm, ⟨28, _⟩ => ⟨S2x3x1408, .f32⟩
  | .hbm, ⟨29, _⟩ => ⟨S2x3x1408, .f32⟩
  | .hbm, ⟨30, _⟩ => ⟨S_, .f32⟩
  | .hbm, ⟨31, _⟩ => ⟨S2x3x1408, .f32⟩
  | .hbm, ⟨32, _⟩ => ⟨S2x3x1408, .f32⟩
  | .hbm, ⟨33, _⟩ => ⟨S2x3x1408, .f32⟩
  | .hbm, ⟨34, _⟩ => ⟨S_, .f32⟩
  | .hbm, ⟨35, _⟩ => ⟨S2x3x1408, .f32⟩
  | .hbm, ⟨36, _⟩ => ⟨S2x3x1408, .f32⟩
  | .hbm, ⟨37, _⟩ => ⟨S6x1408, .f32⟩
  | .hbm, ⟨38, _⟩ => ⟨S6x1408, .f32⟩
  | .hbm, ⟨39, _⟩ => ⟨S6x1408, .f32⟩
  | _, _ => ⟨S2x3x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel26.lean ====
abbrev S2x5632 : Shape := ⟨2, ![2, 5632]⟩

abbrev nBuf : Space → Nat
  | .hbm => 7
  | .vmem => 7
  | .smem => 0
  | _ => 0

abbrev bufTy : (tb : Table) → Fin (tcTables nBuf tb) → BufTy
  | .hbm, ⟨0, _⟩ => ⟨S2x5632, .f32⟩
  | .hbm, ⟨1, _⟩ => ⟨S2x5632, .f32⟩
  | .hbm, ⟨2, _⟩ => ⟨S2x5632, .f32⟩
  | .hbm, ⟨3, _⟩ => ⟨S2x5632, .f32⟩
  | .hbm, ⟨4, _⟩ => ⟨S2x5632, .f32⟩
  | .hbm, ⟨5, _⟩ => ⟨S2x5632, .f32⟩
  | .hbm, ⟨6, _⟩ => ⟨S2x5632, .f32⟩
  | .local _ .vmem, ⟨0, _⟩ => ⟨S2x5632, .f32⟩
  | .local _ .vmem, ⟨1, _⟩ => ⟨S2x5632, .f32⟩
  | .local _ .vmem, ⟨2, _⟩ => ⟨S2x5632, .f32⟩
  | .local _ .vmem, ⟨3, _⟩ => ⟨S2x5632, .f32⟩
  | .local _ .vmem, ⟨4, _⟩ => ⟨S2x5632, .f32⟩
  | .local _ .vmem, ⟨5, _⟩ => ⟨S2x5632, .f32⟩
  | .local _ .vmem, ⟨6, _⟩ => ⟨S2x5632, .f32⟩
  | _, _ => ⟨S2x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference26Ideal.lean ====
abbrev S2x5632 : Shape := ⟨2, ![2, 5632]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x5632, .f32⟩
  | .hbm, ⟨1, _⟩ => ⟨S2x5632, .f32⟩
  | .hbm, ⟨2, _⟩ => ⟨S2x5632, .f32⟩
  | .hbm, ⟨3, _⟩ => ⟨S2x5632, .f32⟩
  | .hbm, ⟨4, _⟩ => ⟨S_, .f32⟩
  | .hbm, ⟨5, _⟩ => ⟨S2x5632, .f32⟩
  | .hbm, ⟨6, _⟩ => ⟨S2x5632, .f32⟩
  | .hbm, ⟨7, _⟩ => ⟨S_, .f32⟩
  | .hbm, ⟨8, _⟩ => ⟨S2x5632, .f32⟩
  | .hbm, ⟨9, _⟩ => ⟨S2x5632, .f32⟩
  | .hbm, ⟨10, _⟩ => ⟨S2x5632, .f32⟩
  | .hbm, ⟨11, _⟩ => ⟨S_, .f32⟩
  | .hbm, ⟨12, _⟩ => ⟨S2x5632, .f32⟩
  | .hbm, ⟨13, _⟩ => ⟨S2x5632, .f32⟩
  | .hbm, ⟨14, _⟩ => ⟨S2x5632, .f32⟩
  | .hbm, ⟨15, _⟩ => ⟨S_, .f32⟩
  | .hbm, ⟨16, _⟩ => ⟨S2x5632, .f32⟩
  | .hbm, ⟨17, _⟩ => ⟨S2x5632, .f32⟩
  | .hbm, ⟨18, _⟩ => ⟨S2x5632, .f32⟩
  | .hbm, ⟨19, _⟩ => ⟨S_, .f32⟩
  | .hbm, ⟨20, _⟩ => ⟨S2x5632, .f32⟩
  | .hbm, ⟨21, _⟩ => ⟨S2x5632, .f32⟩
  | .hbm, ⟨22, _⟩ => ⟨S_, .f32⟩
  | .hbm, ⟨23, _⟩ => ⟨S2x5632, .f32⟩
  | .hbm, ⟨24, _⟩ => ⟨S2x5632, .f32⟩
  | .hbm, ⟨25, _⟩ => ⟨S2x5632, .f32⟩
  | .hbm, ⟨26, _⟩ => ⟨S_, .f32⟩
  | .hbm, ⟨27, _⟩ => ⟨S2x5632, .f32⟩
  | .hbm, ⟨28, _⟩ => ⟨S2x5632, .f32⟩
  | .hbm, ⟨29, _⟩ => ⟨S2x5632, .f32⟩
  | .hbm, ⟨30, _⟩ => ⟨S_, .f32⟩
  | .hbm, ⟨31, _⟩ => ⟨S2x5632, .f32⟩
  | .hbm, ⟨32, _⟩ => ⟨S2x5632, .f32⟩
  | .hbm, ⟨33, _⟩ => ⟨S2x5632, .f32⟩
  | .hbm, ⟨34, _⟩ => ⟨S_, .f32⟩
  | .hbm, ⟨35, _⟩ => ⟨S2x5632, .f32⟩
  | .hbm, ⟨36, _⟩ => ⟨S2x5632, .f32⟩
  | _, _ => ⟨S2x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S1024 : Shape := ⟨1, ![1024]⟩
abbrev S1x1024 : Shape := ⟨2, ![1, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference27Ideal.lean ====
abbrev S1024 : Shape := ⟨1, ![1024]⟩
abbrev S_ : Shape := ⟨0, ![]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S1x1024, .f32⟩
  | .hbm, ⟨39, _⟩ => ⟨S1x1024, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel28.lean ====
abbrev S2x512x768 : Shape := ⟨3, ![2, 512, 768]⟩
abbrev S1 : Shape := ⟨1, ![1]⟩
abbrev S2x1024x768 : Shape := ⟨3, ![2, 1024, 768]⟩
abbrev S1x256x768 : Shape := ⟨3, ![1, 256, 768]⟩
abbrev S256x768 : Shape := ⟨2, ![256, 768]⟩

abbrev nBuf : Space → Nat
  | .hbm => 9
  | .vmem => 18
  | .smem => 1
  | _ => 0

abbrev bufTy : (tb : Table) → Fin (tcTables nBuf tb) → BufTy
  | .hbm, ⟨0, _⟩ => ⟨S2x512x768, .f32⟩
  | .hbm, ⟨1, _⟩ => ⟨S2x512x768, .f32⟩
  | .hbm, ⟨2, _⟩ => ⟨S2x1024x768, .f32⟩
  | .hbm, ⟨3, _⟩ => ⟨S2x1024x768, .f32⟩
  | .hbm, ⟨4, _⟩ => ⟨S2x1024x768, .f32⟩
  | .hbm, ⟨5, _⟩ => ⟨S2x1024x768, .f32⟩
  | .hbm, ⟨6, _⟩ => ⟨S2x1024x768, .f32⟩
  | .hbm, ⟨7, _⟩ => ⟨S2x1024x768, .f32⟩
  | .hbm, ⟨8, _⟩ => ⟨S2x1024x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | .local _ .vmem, ⟨16, _⟩ => ⟨S1x256x768, .f32⟩
  | .local _ .vmem, ⟨17, _⟩ => ⟨S1x256x768, .f32⟩
  | .local _ .smem, ⟨0, _⟩ => ⟨S1, .i32⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 2], ![false, false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference28Ideal.lean ====
abbrev S2x512x768 : Shape := ⟨3, ![2, 512, 768]⟩
abbrev S1 : Shape := ⟨1, ![1]⟩
abbrev S2x1024x768 : Shape := ⟨3, ![2, 1024, 768]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S2x512x768, .f32⟩
  | .hbm, ⟨1, _⟩ => ⟨S2x512x768, .f32⟩
  | .hbm, ⟨2, _⟩ => ⟨S1, .i32⟩
  | .hbm, ⟨3, _⟩ => ⟨S2x1024x768, .f32⟩
  | .hbm, ⟨4, _⟩ => ⟨S2x1024x768, .f32⟩
  | .hbm, ⟨5, _⟩ => ⟨S2x1024x768, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S2x512x768, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S2x512x768, .f32⟩
  | .hbm, ⟨14, _⟩ => ⟨S2x1024x768, .f32⟩
  | .hbm, ⟨15, _⟩ => ⟨S_, .f32⟩
  | .hbm, ⟨16, _⟩ => ⟨S2x1024x768, .f32⟩
  | .hbm, ⟨17, _⟩ => ⟨S2x1024x768, .f32⟩
  | .hbm, ⟨18, _⟩ => ⟨S_, .f32⟩
  | .hbm, ⟨19, _⟩ => ⟨S2x1024x768, .f32⟩
  | .hbm, ⟨20, _⟩ => ⟨S2x1024x768, .f32⟩
  | .hbm, ⟨21, _⟩ => ⟨S2x1024x768, .f32⟩
  | .hbm, ⟨22, _⟩ => ⟨S_, .f32⟩
  | .hbm, ⟨23, _⟩ => ⟨S2x1024x768, .f32⟩
  | .hbm, ⟨24, _⟩ => ⟨S2x1024x768, .f32⟩
  | .hbm, ⟨25, _⟩ => ⟨S2x1024x768, .f32⟩
  | .hbm, ⟨26, _⟩ => ⟨S_, .f32⟩
  | .hbm, ⟨27, _⟩ => ⟨S2x1024x768, .f32⟩
  | .hbm, ⟨28, _⟩ => ⟨S2x1024x768, .f32⟩
  | .hbm, ⟨29, _⟩ => ⟨S2x1024x768, .f32⟩
  | .hbm, ⟨30, _⟩ => ⟨S_, .f32⟩
  | .hbm, ⟨31, _⟩ => ⟨S2x1024x768, .f32⟩
  | .hbm, ⟨32, _⟩ => ⟨S2x1024x768, .f32⟩
  | .hbm, ⟨33, _⟩ => ⟨S_, .f32⟩
  | .hbm, ⟨34, _⟩ => ⟨S2x1024x768, .f32⟩
  | .hbm, ⟨35, _⟩ => ⟨S2x1024x768, .f32⟩
  | .hbm, ⟨36, _⟩ => ⟨S2x1024x768, .f32⟩
  | .hbm, ⟨37, _⟩ => ⟨S_, .f32⟩
  | .hbm, ⟨38, _⟩ => ⟨S2x1024x768, .f32⟩
  | .hbm, ⟨39, _⟩ => ⟨S2x1024x768, .f32⟩
  | .hbm, ⟨40, _⟩ => ⟨S2x1024x768, .f32⟩
  | .hbm, ⟨41, _⟩ => ⟨S_, .f32⟩
  | .hbm, ⟨42, _⟩ => ⟨S2x1024x768, .f32⟩
  | .hbm, ⟨43, _⟩ => ⟨S2x1024x768, .f32⟩
  | .hbm, ⟨44, _⟩ => ⟨S2x1024x768, .f32⟩
  | .hbm, ⟨45, _⟩ => ⟨S_, .f32⟩
  | .hbm, ⟨46, _⟩ => ⟨S2x1024x768, .f32⟩
  | .hbm, ⟨47, _⟩ => ⟨S2x1024x768, .f32⟩
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel29.lean ====
abbrev S2x128x1024 : Shape := ⟨3, ![2, 128, 1024]⟩
abbrev S1 : Shape := ⟨1, ![1]⟩
abbrev S2x256x1024 : Shape := ⟨3, ![2, 256, 1024]⟩
abbrev S1x128x1024 : Shape := ⟨3, ![1, 128, 1024]⟩
abbrev S128x1024 : Shape := ⟨2, ![128, 1024]⟩

abbrev nBuf : Space → Nat
  | .hbm => 9
  | .vmem => 18
  | .smem => 1
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .smem, ⟨0, _⟩ => ⟨S1, .i32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 1], ![false, false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference29Ideal.lean ====
abbrev S2x128x1024 : Shape := ⟨3, ![2, 128, 1024]⟩
abbrev S1 : Shape := ⟨1, ![1]⟩
abbrev S2x256x1024 : Shape := ⟨3, ![2, 256, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S1, .i32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S2x128x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S2x128x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S_, .f32⟩
  | .hbm, ⟨19, _⟩ => ⟨S2x256x1024, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S_, .f32⟩
  | .hbm, ⟨34, _⟩ => ⟨S2x256x1024, .f32⟩
  | .hbm, ⟨35, _⟩ => ⟨S2x256x1024, .f32⟩
  | .hbm, ⟨36, _⟩ => ⟨S2x256x1024, .f32⟩
  | .hbm, ⟨37, _⟩ => ⟨S_, .f32⟩
  | .hbm, ⟨38, _⟩ => ⟨S2x256x1024, .f32⟩
  | .hbm, ⟨39, _⟩ => ⟨S2x256x1024, .f32⟩
  | .hbm, ⟨40, _⟩ => ⟨S2x256x1024, .f32⟩
  | .hbm, ⟨41, _⟩ => ⟨S_, .f32⟩
  | .hbm, ⟨42, _⟩ => ⟨S2x256x1024, .f32⟩
  | .hbm, ⟨43, _⟩ => ⟨S2x256x1024, .f32⟩
  | .hbm, ⟨44, _⟩ => ⟨S2x256x1024, .f32⟩
  | .hbm, ⟨45, _⟩ => ⟨S_, .f32⟩
  | .hbm, ⟨46, _⟩ => ⟨S2x256x1024, .f32⟩
  | .hbm, ⟨47, _⟩ => ⟨S2x256x1024, .f32⟩
  | _, _ => ⟨S2x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel30.lean ====
abbrev S2x512x1408 : Shape := ⟨3, ![2, 512, 1408]⟩
abbrev S1 : Shape := ⟨1, ![1]⟩
abbrev S2x1024x1408 : Shape := ⟨3, ![2, 1024, 1408]⟩
abbrev S1x256x1408 : Shape := ⟨3, ![1, 256, 1408]⟩
abbrev S256x1408 : Shape := ⟨2, ![256, 1408]⟩

abbrev nBuf : Space → Nat
  | .hbm => 9
  | .vmem => 18
  | .smem => 1
  | _ => 0

abbrev bufTy : (tb : Table) → Fin (tcTables nBuf tb) → BufTy
  | .hbm, ⟨0, _⟩ => ⟨S2x512x1408, .f32⟩
  | .hbm, ⟨1, _⟩ => ⟨S2x512x1408, .f32⟩
  | .hbm, ⟨2, _⟩ => ⟨S2x1024x1408, .f32⟩
  | .hbm, ⟨3, _⟩ => ⟨S2x1024x1408, .f32⟩
  | .hbm, ⟨4, _⟩ => ⟨S2x1024x1408, .f32⟩
  | .hbm, ⟨5, _⟩ => ⟨S2x1024x1408, .f32⟩
  | .hbm, ⟨6, _⟩ => ⟨S2x1024x1408, .f32⟩
  | .hbm, ⟨7, _⟩ => ⟨S2x1024x1408, .f32⟩
  | .hbm, ⟨8, _⟩ => ⟨S2x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | .local _ .smem, ⟨0, _⟩ => ⟨S1, .i32⟩
  | _, _ => ⟨S2x512x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 2], ![false, false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference30Ideal.lean ====
abbrev S2x512x1408 : Shape := ⟨3, ![2, 512, 1408]⟩
abbrev S1 : Shape := ⟨1, ![1]⟩
abbrev S2x1024x1408 : Shape := ⟨3, ![2, 1024, 1408]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S2x512x1408, .f32⟩
  | .hbm, ⟨1, _⟩ => ⟨S2x512x1408, .f32⟩
  | .hbm, ⟨2, _⟩ => ⟨S1, .i32⟩
  | .hbm, ⟨3, _⟩ => ⟨S2x1024x1408, .f32⟩
  | .hbm, ⟨4, _⟩ => ⟨S2x1024x1408, .f32⟩
  | .hbm, ⟨5, _⟩ => ⟨S2x1024x1408, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S2x512x1408, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S2x512x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S_, .f32⟩
  | .hbm, ⟨19, _⟩ => ⟨S2x1024x1408, .f32⟩
  | .hbm, ⟨20, _⟩ => ⟨S2x1024x1408, .f32⟩
  | .hbm, ⟨21, _⟩ => ⟨S2x1024x1408, .f32⟩
  | .hbm, ⟨22, _⟩ => ⟨S_, .f32⟩
  | .hbm, ⟨23, _⟩ => ⟨S2x1024x1408, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S_, .f32⟩
  | .hbm, ⟨34, _⟩ => ⟨S2x1024x1408, .f32⟩
  | .hbm, ⟨35, _⟩ => ⟨S2x1024x1408, .f32⟩
  | .hbm, ⟨36, _⟩ => ⟨S2x1024x1408, .f32⟩
  | .hbm, ⟨37, _⟩ => ⟨S_, .f32⟩
  | .hbm, ⟨38, _⟩ => ⟨S2x1024x1408, .f32⟩
  | .hbm, ⟨39, _⟩ => ⟨S2x1024x1408, .f32⟩
  | .hbm, ⟨40, _⟩ => ⟨S2x1024x1408, .f32⟩
  | .hbm, ⟨41, _⟩ => ⟨S_, .f32⟩
  | .hbm, ⟨42, _⟩ => ⟨S2x1024x1408, .f32⟩
  | .hbm, ⟨43, _⟩ => ⟨S2x1024x1408, .f32⟩
  | .hbm, ⟨44, _⟩ => ⟨S2x1024x1408, .f32⟩
  | .hbm, ⟨45, _⟩ => ⟨S_, .f32⟩
  | .hbm, ⟨46, _⟩ => ⟨S2x1024x1408, .f32⟩
  | .hbm, ⟨47, _⟩ => ⟨S2x1024x1408, .f32⟩
  | _, _ => ⟨S2x512x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel31.lean ====
abbrev S2x352x1024 : Shape := ⟨3, ![2, 352, 1024]⟩
abbrev S1 : Shape := ⟨1, ![1]⟩
abbrev S2x704x1024 : Shape := ⟨3, ![2, 704, 1024]⟩
abbrev S1x176x1024 : Shape := ⟨3, ![1, 176, 1024]⟩
abbrev S176x1024 : Shape := ⟨2, ![176, 1024]⟩

abbrev nBuf : Space → Nat
  | .hbm => 9
  | .vmem => 18
  | .smem => 1
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .smem, ⟨0, _⟩ => ⟨S1, .i32⟩
  | _, _ => ⟨S2x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 2], ![false, false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference31Ideal.lean ====
abbrev S2x352x1024 : Shape := ⟨3, ![2, 352, 1024]⟩
abbrev S1 : Shape := ⟨1, ![1]⟩
abbrev S2x704x1024 : Shape := ⟨3, ![2, 704, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S1, .i32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S2x352x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S2x352x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S_, .f32⟩
  | .hbm, ⟨19, _⟩ => ⟨S2x704x1024, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S_, .f32⟩
  | .hbm, ⟨34, _⟩ => ⟨S2x704x1024, .f32⟩
  | .hbm, ⟨35, _⟩ => ⟨S2x704x1024, .f32⟩
  | .hbm, ⟨36, _⟩ => ⟨S2x704x1024, .f32⟩
  | .hbm, ⟨37, _⟩ => ⟨S_, .f32⟩
  | .hbm, ⟨38, _⟩ => ⟨S2x704x1024, .f32⟩
  | .hbm, ⟨39, _⟩ => ⟨S2x704x1024, .f32⟩
  | .hbm, ⟨40, _⟩ => ⟨S2x704x1024, .f32⟩
  | .hbm, ⟨41, _⟩ => ⟨S_, .f32⟩
  | .hbm, ⟨42, _⟩ => ⟨S2x704x1024, .f32⟩
  | .hbm, ⟨43, _⟩ => ⟨S2x704x1024, .f32⟩
  | .hbm, ⟨44, _⟩ => ⟨S2x704x1024, .f32⟩
  | .hbm, ⟨45, _⟩ => ⟨S_, .f32⟩
  | .hbm, ⟨46, _⟩ => ⟨S2x704x1024, .f32⟩
  | .hbm, ⟨47, _⟩ => ⟨S2x704x1024, .f32⟩
  | _, _ => ⟨S2x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel32.lean ====
abbrev S4096x1024 : Shape := ⟨2, ![4096, 1024]⟩
abbrev S1x1024 : Shape := ⟨2, ![1, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference32Ideal.lean ====
abbrev S4096x1024 : Shape := ⟨2, ![4096, 1024]⟩
abbrev S1x1024 : Shape := ⟨2, ![1, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel33.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference33Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel34.lean ====
abbrev S4096x512 : Shape := ⟨2, ![4096, 512]⟩
abbrev S1x512 : Shape := ⟨2, ![1, 512]⟩
abbrev S4096x1024 : Shape := ⟨2, ![4096, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S1x512, .f32⟩
  | .hbm, ⟨4, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S512x1024, .bf16⟩
  | .local _ .vmem, ⟨7, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference34Ideal.lean ====
abbrev S4096x512 : Shape := ⟨2, ![4096, 512]⟩
abbrev S1x512 : Shape := ⟨2, ![1, 512]⟩
abbrev S_ : Shape := ⟨0, ![]⟩
abbrev S4096 : Shape := ⟨1, ![4096]⟩
abbrev S4096x1 : Shape := ⟨2, ![4096, 1]⟩
abbrev S4096x1024 : Shape := ⟨2, ![4096, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S1x512, .f32⟩
  | .hbm, ⟨4, _⟩ => ⟨S4096x512, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x1024, .f32⟩
  | .hbm, ⟨35, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel35.lean ====
abbrev S8x512x128 : Shape := ⟨3, ![8, 512, 128]⟩
abbrev S512x128 : Shape := ⟨2, ![512, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x512x128, .f32⟩
  | .hbm, ⟨1, _⟩ => ⟨S512x128, .f32⟩
  | .local _ .vmem, ⟨0, _⟩ => ⟨S8x256x128, .f32⟩
  | .local _ .vmem, ⟨1, _⟩ => ⟨S8x256x128, .f32⟩
  | .local _ .vmem, ⟨2, _⟩ => ⟨S256x128, .f32⟩
  | .local _ .vmem, ⟨3, _⟩ => ⟨S256x128, .f32⟩
  | _, _ => ⟨S8x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference35Ideal.lean ====
abbrev S8x512x128 : Shape := ⟨3, ![8, 512, 128]⟩
abbrev S_ : Shape := ⟨0, ![]⟩
abbrev S512x128 : Shape := ⟨2, ![512, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x512x128, .f32⟩
  | .hbm, ⟨1, _⟩ => ⟨S_, .f32⟩
  | .hbm, ⟨2, _⟩ => ⟨S512x128, .f32⟩
  | _, _ => ⟨S8x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel36.lean ====
abbrev S8x1024 : Shape := ⟨2, ![8, 1024]⟩
abbrev S2x1024x1536 : Shape := ⟨3, ![2, 1024, 1536]⟩
abbrev S2x1x1536 : Shape := ⟨3, ![2, 1, 1536]⟩
abbrev S2x8x1536 : Shape := ⟨3, ![2, 8, 1536]⟩
abbrev S1x1024x512 : Shape := ⟨3, ![1, 1024, 512]⟩
abbrev S1x1x512 : Shape := ⟨3, ![1, 1, 512]⟩
abbrev S1x8x512 : Shape := ⟨3, ![1, 8, 512]⟩
abbrev S1024x512 : Shape := ⟨2, ![1024, 512]⟩
abbrev S8x512 : Shape := ⟨2, ![8, 512]⟩
abbrev S1x512 : Shape := ⟨2, ![1, 512]⟩

abbrev nBuf : Space → Nat
  | .hbm => 4
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x1536, .f32⟩
  | .hbm, ⟨2, _⟩ => ⟨S2x1x1536, .f32⟩
  | .hbm, ⟨3, _⟩ => ⟨S2x8x1536, .f32⟩
  | .local _ .vmem, ⟨0, _⟩ => ⟨S8x1024, .f32⟩
  | .local _ .vmem, ⟨1, _⟩ => ⟨S1x1024x512, .f32⟩
  | .local _ .vmem, ⟨2, _⟩ => ⟨S1x1024x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference36Ideal.lean ====
abbrev S8x1024 : Shape := ⟨2, ![8, 1024]⟩
abbrev S2x1024x1536 : Shape := ⟨3, ![2, 1024, 1536]⟩
abbrev S2x1x1536 : Shape := ⟨3, ![2, 1, 1536]⟩
abbrev S_ : Shape := ⟨0, ![]⟩
abbrev S1x1024x1536 : Shape := ⟨3, ![1, 1024, 1536]⟩
abbrev S1024x1536 : Shape := ⟨2, ![1024, 1536]⟩
abbrev S8x1536 : Shape := ⟨2, ![8, 1536]⟩
abbrev S1x1x1536 : Shape := ⟨3, ![1, 1, 1536]⟩
abbrev S1x1536 : Shape := ⟨2, ![1, 1536]⟩
abbrev S1x8x1536 : Shape := ⟨3, ![1, 8, 1536]⟩
abbrev S2x8x1536 : Shape := ⟨3, ![2, 8, 1536]⟩

abbrev nBuf : Space → Nat
  | .hbm => 29
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x1536, .f32⟩
  | .hbm, ⟨2, _⟩ => ⟨S2x1x1536, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x1536, .f32⟩
  | .hbm, ⟨13, _⟩ => ⟨S1024x1536, .f32⟩
  | .hbm, ⟨14, _⟩ => ⟨S8x1536, .f32⟩
  | .hbm, ⟨15, _⟩ => ⟨S1x1x1536, .f32⟩
  | .hbm, ⟨16, _⟩ => ⟨S1x1536, .f32⟩
  | .hbm, ⟨17, _⟩ => ⟨S8x1536, .f32⟩
  | .hbm, ⟨18, _⟩ => ⟨S8x1536, .f32⟩
  | .hbm, ⟨19, _⟩ => ⟨S1x1024x1536, .f32⟩
  | .hbm, ⟨20, _⟩ => ⟨S1024x1536, .f32⟩
  | .hbm, ⟨21, _⟩ => ⟨S8x1536, .f32⟩
  | .hbm, ⟨22, _⟩ => ⟨S1x1x1536, .f32⟩
  | .hbm, ⟨23, _⟩ => ⟨S1x1536, .f32⟩
  | .hbm, ⟨24, _⟩ => ⟨S8x1536, .f32⟩
  | .hbm, ⟨25, _⟩ => ⟨S8x1536, .f32⟩
  | .hbm, ⟨26, _⟩ => ⟨S1x8x1536, .f32⟩
  | .hbm, ⟨27, _⟩ => ⟨S1x8x1536, .f32⟩
  | .hbm, ⟨28, _⟩ => ⟨S2x8x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== Kernel37.lean ====
abbrev S8x1024 : Shape := ⟨2, ![8, 1024]⟩
abbrev S2x8x1536 : Shape := ⟨3, ![2, 8, 1536]⟩
abbrev S2x1024x1536 : Shape := ⟨3, ![2, 1024, 1536]⟩
abbrev S1x8x512 : Shape := ⟨3, ![1, 8, 512]⟩
abbrev S1x1024x512 : Shape := ⟨3, ![1, 1024, 512]⟩
abbrev S8x512 : Shape := ⟨2, ![8, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S2x8x1536, .f32⟩
  | .hbm, ⟨2, _⟩ => ⟨S2x1024x1536, .f32⟩
  | .local _ .vmem, ⟨0, _⟩ => ⟨S8x1024, .f32⟩
  | .local _ .vmem, ⟨1, _⟩ => ⟨S1x8x512, .f32⟩
  | .local _ .vmem, ⟨2, _⟩ => ⟨S1x8x512, .f32⟩
  | .local _ .vmem, ⟨3, _⟩ => ⟨S1x1024x512, .f32⟩
  | .local _ .vmem, ⟨4, _⟩ => ⟨S1x1024x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference37Ideal.lean ====
abbrev S8x1024 : Shape := ⟨2, ![8, 1024]⟩
abbrev S2x8x1536 : Shape := ⟨3, ![2, 8, 1536]⟩
abbrev S_ : Shape := ⟨0, ![]⟩
abbrev S1024x1536 : Shape := ⟨2, ![1024, 1536]⟩
abbrev S8x1536 : Shape := ⟨2, ![8, 1536]⟩
abbrev S1x8x1536 : Shape := ⟨3, ![1, 8, 1536]⟩
abbrev S1536x1024 : Shape := ⟨2, ![1536, 1024]⟩
abbrev S1x1024x1536 : Shape := ⟨3, ![1, 1024, 1536]⟩
abbrev S2x1024x1536 : Shape := ⟨3, ![2, 1024, 1536]⟩

abbrev nBuf : Space → Nat
  | .hbm => 28
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x8x1536, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S1024x1536, .f32⟩
  | .hbm, ⟨13, _⟩ => ⟨S8x1536, .f32⟩
  | .hbm, ⟨14, _⟩ => ⟨S1x8x1536, .f32⟩
  | .hbm, ⟨15, _⟩ => ⟨S8x1536, .f32⟩
  | .hbm, ⟨16, _⟩ => ⟨S1536x1024, .f32⟩
  | .hbm, ⟨17, _⟩ => ⟨S1024x1536, .f32⟩
  | .hbm, ⟨18, _⟩ => ⟨S_, .f32⟩
  | .hbm, ⟨19, _⟩ => ⟨S1024x1536, .f32⟩
  | .hbm, ⟨20, _⟩ => ⟨S8x1536, .f32⟩
  | .hbm, ⟨21, _⟩ => ⟨S1x8x1536, .f32⟩
  | .hbm, ⟨22, _⟩ => ⟨S8x1536, .f32⟩
  | .hbm, ⟨23, _⟩ => ⟨S1536x1024, .f32⟩
  | .hbm, ⟨24, _⟩ => ⟨S1024x1536, .f32⟩
  | .hbm, ⟨25, _⟩ => ⟨S1x1024x1536, .f32⟩
  | .hbm, ⟨26, _⟩ => ⟨S1x1024x1536, .f32⟩
  | .hbm, ⟨27, _⟩ => ⟨S2x1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]
-- ==== Kernel38.lean ====
abbrev S4096x1024 : Shape := ⟨2, ![4096, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .bf16⟩
  | .hbm, ⟨4, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_7 : BitVec 32 := 0#32
  let v12 : BitVec 1 := Scalar.cmpi .ne v11 c0_i32_7
  v12

def k0_cond2 (i : grid0.Coords) : BitVec 1 :=
  let arg0 : BitVec 32 := BitVec.ofNat 32 (i 0).val
  let c0_i32_8 : BitVec 32 := 0#32
  let v13 : BitVec 1 := Scalar.cmpi .sgt arg0 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference38Ideal.lean ====
abbrev S4096x1024 : Shape := ⟨2, ![4096, 1024]⟩
abbrev S1x1024 : Shape := ⟨2, ![1, 1024]⟩
abbrev S_ : Shape := ⟨0, ![]⟩
abbrev S1024 : Shape := ⟨1, ![1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel39.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_6 : BitVec 32 := 0#32
  let v17 : BitVec 1 := Scalar.cmpi .ne v16 c0_i32_6
  v17

def k0_cond2 (i : grid0.Coords) : BitVec 1 :=
  let arg0 : BitVec 32 := BitVec.ofNat 32 (i 0).val
  let c0_i32_7 : BitVec 32 := 0#32
  let v18 : BitVec 1 := Scalar.cmpi .sgt arg0 c0_i32_7
  let v19 : BitVec 32 := Scalar.extui v18
  let c0_i32_8 : BitVec 32 := 0#32
  let v20 : BitVec 1 := Scalar.cmpi .ne v19 c0_i32_8
  v20

def k0_cond3 (i : grid0.Coords) : BitVec 1 :=
  let arg0 : BitVec 32 := BitVec.ofNat 32 (i 0).val
  let c0_i32_10 : BitVec 32 := 0#32
  let v23 : BitVec 1 := Scalar.cmpi .eq arg0 c0_i32_10
  let v24 : BitVec 32 := Scalar.extui v23
  let c0_i32_11 : BitVec 32 := 0#32
  let v25 : BitVec 1 := Scalar.cmpi .ne v24 c0_i32_11
  v25

def k0_cond4 (i : grid0.Coords) : BitVec 1 :=
  let arg0 : BitVec 32 := BitVec.ofNat 32 (i 0).val
  let c0_i32_12 : BitVec 32 := 0#32
  let v26 : BitVec 1 := Scalar.cmpi .sgt arg0 c0_i32_12
  let v27 : BitVec 32 := Scalar.extui v26
  let c0_i32_13 : BitVec 32 := 0#32
  let v28 : BitVec 1 := Scalar.cmpi .ne v27 c0_i32_13
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference39Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel40.lean ====
abbrev S4096x512 : Shape := ⟨2, ![4096, 512]⟩
abbrev S4096x1024 : Shape := ⟨2, ![4096, 1024]⟩
abbrev S1x512 : Shape := ⟨2, ![1, 512]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S1x512, .f32⟩
  | .hbm, ⟨4, _⟩ => ⟨S1x512, .f32⟩
  | .hbm, ⟨5, _⟩ => ⟨S4096x512, .f32⟩
  | .hbm, ⟨6, _⟩ => ⟨S4096x512, .f32⟩
  | .hbm, ⟨7, _⟩ => ⟨S1x512, .f32⟩
  | .hbm, ⟨8, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1x512, .f32⟩
  | .local _ .vmem, ⟨13, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_6 : BitVec 32 := 0#32
  let v17 : BitVec 1 := Scalar.cmpi .ne v16 c0_i32_6
  v17

def k0_cond2 (i : grid0.Coords) : BitVec 1 :=
  let arg0 : BitVec 32 := BitVec.ofNat 32 (i 0).val
  let c0_i32_7 : BitVec 32 := 0#32
  let v18 : BitVec 1 := Scalar.cmpi .sgt arg0 c0_i32_7
  let v19 : BitVec 32 := Scalar.extui v18
  let c0_i32_8 : BitVec 32 := 0#32
  let v20 : BitVec 1 := Scalar.cmpi .ne v19 c0_i32_8
  v20

def k0_cond3 (i : grid0.Coords) : BitVec 1 :=
  let arg0 : BitVec 32 := BitVec.ofNat 32 (i 0).val
  let c0_i32_22 : BitVec 32 := 0#32
  let v50 : BitVec 1 := Scalar.cmpi .eq arg0 c0_i32_22
  let v51 : BitVec 32 := Scalar.extui v50
  let c0_i32_23 : BitVec 32 := 0#32
  let v52 : BitVec 1 := Scalar.cmpi .ne v51 c0_i32_23
  v52

def k0_cond4 (i : grid0.Coords) : BitVec 1 :=
  let arg0 : BitVec 32 := BitVec.ofNat 32 (i 0).val
  let c0_i32_24 : BitVec 32 := 0#32
  let v53 : BitVec 1 := Scalar.cmpi .sgt arg0 c0_i32_24
  let v54 : BitVec 32 := Scalar.extui v53
  let c0_i32_25 : BitVec 32 := 0#32
  let v55 : BitVec 1 := Scalar.cmpi .ne v54 c0_i32_25
  v55

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference40Ideal.lean ====
abbrev S4096x512 : Shape := ⟨2, ![4096, 512]⟩
abbrev S4096x1024 : Shape := ⟨2, ![4096, 1024]⟩
abbrev S1x512 : Shape := ⟨2, ![1, 512]⟩
abbrev S_ : Shape := ⟨0, ![]⟩
abbrev S4096 : Shape := ⟨1, ![4096]⟩
abbrev S4096x1 : Shape := ⟨2, ![4096, 1]⟩
abbrev S512 : Shape := ⟨1, ![512]⟩

abbrev nBuf : Space → Nat
  | .hbm => 92
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S1x512, .f32⟩
  | .hbm, ⟨4, _⟩ => ⟨S1x512, .f32⟩
  | .hbm, ⟨5, _⟩ => ⟨S4096x512, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S4096x1024, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S_, .f32⟩
  | .hbm, ⟨48, _⟩ => ⟨S512, .f32⟩
  | .hbm, ⟨49, _⟩ => ⟨S1x512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x512, .f32⟩
  | .hbm, ⟨57, _⟩ => ⟨S4096x512, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096, .f32⟩
  | .hbm, ⟨64, _⟩ => ⟨S4096x512, .f32⟩
  | .hbm, ⟨65, _⟩ => ⟨S4096x512, .f32⟩
  | .hbm, ⟨66, _⟩ => ⟨S4096x512, .f32⟩
  | .hbm, ⟨67, _⟩ => ⟨S4096x512, .f32⟩
  | .hbm, ⟨68, _⟩ => ⟨S4096x512, .f32⟩
  | .hbm, ⟨69, _⟩ => ⟨S4096x512, .f32⟩
  | .hbm, ⟨70, _⟩ => ⟨S_, .f32⟩
  | .hbm, ⟨71, _⟩ => ⟨S512, .f32⟩
  | .hbm, ⟨72, _⟩ => ⟨S1x512, .f32⟩
  | .hbm, ⟨73, _⟩ => ⟨S4096x512, .f32⟩
  | .hbm, ⟨74, _⟩ => ⟨S4096x512, .f32⟩
  | .hbm, ⟨75, _⟩ => ⟨S4096x512, .f32⟩
  | .hbm, ⟨76, _⟩ => ⟨S_, .f32⟩
  | .hbm, ⟨77, _⟩ => ⟨S4096, .f32⟩
  | .hbm, ⟨78, _⟩ => ⟨S4096x1, .f32⟩
  | .hbm, ⟨79, _⟩ => ⟨S4096x512, .f32⟩
  | .hbm, ⟨80, _⟩ => ⟨S4096x512, .f32⟩
  | .hbm, ⟨81, _⟩ => ⟨S4096x1, .f32⟩
  | .hbm, ⟨82, _⟩ => ⟨S_, .f32⟩
  | .hbm, ⟨83, _⟩ => ⟨S4096x1, .f32⟩
  | .hbm, ⟨84, _⟩ => ⟨S4096x1, .f32⟩
  | .hbm, ⟨85, _⟩ => ⟨S_, .f32⟩
  | .hbm, ⟨86, _⟩ => ⟨S4096, .f32⟩
  | .hbm, ⟨87, _⟩ => ⟨S4096x512, .f32⟩
  | .hbm, ⟨88, _⟩ => ⟨S4096x512, .f32⟩
  | .hbm, ⟨89, _⟩ => ⟨S4096x512, .f32⟩
  | .hbm, ⟨90, _⟩ => ⟨S4096x512, .f32⟩
  | .hbm, ⟨91, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_12 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_13 : Ref sig .tc := ⟨.hbm, 82, rfl⟩
abbrev main_v63 : Ref sig .tc := ⟨.hbm, 83, rfl⟩
abbrev main_v64 : Ref sig .tc := ⟨.hbm, 84, rfl⟩
abbrev main_cst_14 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩

abbrev nD : Nat := 1
abbrev τ : Topo := Topo.v7x

variable {F : FTy → Type} [FloatOps F]
-- ==== Kernel41.lean ====
abbrev S4096x1024 : Shape := ⟨2, ![4096, 1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S1x1, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v25 : BitVec 1 := Scalar.cmpi .eq arg0 c0_i32
  let v26 : BitVec 32 := Scalar.extui v25
  let c0_i32_11 : BitVec 32 := 0#32
  let v27 : BitVec 1 := Scalar.cmpi .ne v26 c0_i32_11
  v27

def k0_cond2 (i : grid0.Coords) : BitVec 1 :=
  let arg0 : BitVec 32 := BitVec.ofNat 32 (i 0).val
  let c0_i32_12 : BitVec 32 := 0#32
  let v28 : BitVec 1 := Scalar.cmpi .sgt arg0 c0_i32_12
  let v29 : BitVec 32 := Scalar.extui v28
  let c0_i32_13 : BitVec 32 := 0#32
  let v30 : BitVec 1 := Scalar.cmpi .ne v29 c0_i32_13
  v30

def k0_cond3 (i : grid0.Coords) : BitVec 1 :=
  let arg0 : BitVec 32 := BitVec.ofNat 32 (i 0).val
  let c0_i32_16 : BitVec 32 := 0#32
  let v36 : BitVec 1 := Scalar.cmpi .eq arg0 c0_i32_16
  let v37 : BitVec 32 := Scalar.extui v36
  let c0_i32_17 : BitVec 32 := 0#32
  let v38 : BitVec 1 := Scalar.cmpi .ne v37 c0_i32_17
  v38

def k0_cond4 (i : grid0.Coords) : BitVec 1 :=
  let arg0 : BitVec 32 := BitVec.ofNat 32 (i 0).val
  let c0_i32_18 : BitVec 32 := 0#32
  let v39 : BitVec 1 := Scalar.cmpi .sgt arg0 c0_i32_18
  let v40 : BitVec 32 := Scalar.extui v39
  let c0_i32_19 : BitVec 32 := 0#32
  let v41 : BitVec 1 := Scalar.cmpi .ne v40 c0_i32_19
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference41Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x1 : Shape := ⟨2, ![1, 1]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S1x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel42.lean ====
abbrev S4096x5632 : Shape := ⟨2, ![4096, 5632]⟩
abbrev S3x5632 : Shape := ⟨2, ![3, 5632]⟩
abbrev S1x5632 : Shape := ⟨2, ![1, 5632]⟩
abbrev S4096x2816 : Shape := ⟨2, ![4096, 2816]⟩
abbrev S4096x128 : Shape := ⟨2, ![4096, 128]⟩
abbrev S3x128 : Shape := ⟨2, ![3, 128]⟩
abbrev S1x128 : Shape := ⟨2, ![1, 128]⟩
abbrev S256x128 : Shape := ⟨2, ![256, 128]⟩
abbrev S8x128 : Shape := ⟨2, ![8, 128]⟩
abbrev S264x128 : Shape := ⟨2, ![264, 128]⟩

abbrev nBuf : Space → Nat
  | .hbm => 4
  | .vmem => 14
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S1x5632, .f32⟩
  | .hbm, ⟨3, _⟩ => ⟨S4096x2816, .bf16⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | .local _ .vmem, ⟨7, _⟩ => ⟨S3x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S4096x128, .bf16⟩
  | .local _ .vmem, ⟨13, _⟩ => ⟨S4096x128, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![22], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  v1
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v3 : Index := Scalar.indexCast v2
  let c0 : Index := 0#32
  ![v3.toNat, 0]
def k0_mult2 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let c8_i32 : BitVec 32 := 8#32
  let v5 : BitVec 32 := Scalar.subi v2 c8_i32
  let c0_i32_1 : BitVec 32 := 0#32
  let v6 : BitVec 32 := Scalar.maxsi v5 c0_i32_1
  v6
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let c8_i32 : BitVec 32 := 8#32
  let v5 : BitVec 32 := Scalar.subi v2 c8_i32
  let c0_i32_1 : BitVec 32 := 0#32
  let v6 : BitVec 32 := Scalar.maxsi v5 c0_i32_1
  let v7 : BitVec 32 := v6
  let v8 : Index := Scalar.indexCast v7
  let c0_2 : Index := 0#32
  ![v8.toNat, 0]
def k0_mult3 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let c8_i32_12 : BitVec 32 := 8#32
  let v34 : BitVec 32 := Scalar.subi v2 c8_i32_12
  let c0_i32_13 : BitVec 32 := 0#32
  let v35 : BitVec 32 := Scalar.maxsi v34 c0_i32_13
  v35
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference42Ideal.lean ====
abbrev S4096x5632 : Shape := ⟨2, ![4096, 5632]⟩
abbrev S3x5632 : Shape := ⟨2, ![3, 5632]⟩
abbrev S1x5632 : Shape := ⟨2, ![1, 5632]⟩
abbrev S_ : Shape := ⟨0, ![]⟩
abbrev S2x5632 : Shape := ⟨2, ![2, 5632]⟩
abbrev S4098x5632 : Shape := ⟨2, ![4098, 5632]⟩
abbrev S5632 : Shape := ⟨1, ![5632]⟩
abbrev S4096x2816 : Shape := ⟨2, ![4096, 2816]⟩

abbrev nBuf : Space → Nat
  | .hbm => 41
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S1x5632, .f32⟩
  | .hbm, ⟨3, _⟩ => ⟨S_, .f32⟩
  | .hbm, ⟨4, _⟩ => ⟨S2x5632, .f32⟩
  | .hbm, ⟨5, _⟩ => ⟨S4098x5632, .f32⟩
  | .hbm, ⟨6, _⟩ => ⟨S1x5632, .f32⟩
  | .hbm, ⟨7, _⟩ => ⟨S5632, .f32⟩
  | .hbm, ⟨8, _⟩ => ⟨S4096x5632, .f32⟩
  | .hbm, ⟨9, _⟩ => ⟨S1x5632, .f32⟩
  | .hbm, ⟨10, _⟩ => ⟨S4096x5632, .f32⟩
  | .hbm, ⟨11, _⟩ => ⟨S4096x5632, .f32⟩
  | .hbm, ⟨12, _⟩ => ⟨S1x5632, .f32⟩
  | .hbm, ⟨13, _⟩ => ⟨S5632, .f32⟩
  | .hbm, ⟨14, _⟩ => ⟨S4096x5632, .f32⟩
  | .hbm, ⟨15, _⟩ => ⟨S1x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S1x5632, .f32⟩
  | .hbm, ⟨20, _⟩ => ⟨S5632, .f32⟩
  | .hbm, ⟨21, _⟩ => ⟨S4096x5632, .f32⟩
  | .hbm, ⟨22, _⟩ => ⟨S1x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel43.lean ====
abbrev S4096x3072 : Shape := ⟨2, ![4096, 3072]⟩
abbrev S8x257 : Shape := ⟨2, ![8, 257]⟩
abbrev S8x1 : Shape := ⟨2, ![8, 1]⟩
abbrev S8x448 : Shape := ⟨2, ![8, 448]⟩
abbrev S8x191 : Shape := ⟨2, ![8, 191]⟩
abbrev S8x639 : Shape := ⟨2, ![8, 639]⟩
abbrev S8x576 : Shape := ⟨2, ![8, 576]⟩
abbrev S8x1x576 : Shape := ⟨3, ![8, 1, 576]⟩
abbrev S8x16x576 : Shape := ⟨3, ![8, 16, 576]⟩
abbrev S8x64x576 : Shape := ⟨3, ![8, 64, 576]⟩
abbrev S4096x512 : Shape := ⟨2, ![4096, 512]⟩
abbrev S256x128 : Shape := ⟨2, ![256, 128]⟩
abbrev S4096x128 : Shape := ⟨2, ![4096, 128]⟩
abbrev S2x64x576 : Shape := ⟨3, ![2, 64, 576]⟩
abbrev S4608x128 : Shape := ⟨2, ![4608, 128]⟩
abbrev S1x128 : Shape := ⟨2, ![1, 128]⟩
abbrev S512x128 : Shape := ⟨2, ![512, 128]⟩
abbrev S576x128 : Shape := ⟨2, ![576, 128]⟩
abbrev S64x128 : Shape := ⟨2, ![64, 128]⟩
abbrev S64x576 : Shape := ⟨2, ![64, 576]⟩
abbrev S1x64x576 : Shape := ⟨3, ![1, 64, 576]⟩
abbrev S1x576 : Shape := ⟨2, ![1, 576]⟩
abbrev S64 : Shape := ⟨1, ![64]⟩
abbrev S64x1 : Shape := ⟨2, ![64, 1]⟩

abbrev nBuf : Space → Nat
  | .hbm => 141
  | .vmem => 12
  | .smem => 0
  | _ => 0

abbrev hbmTy0_0 (i : Nat) : BufTy := match i % 128 with
  | 0 => ⟨S4096x3072, .bf16⟩
  | 1 => ⟨S8x257, .f32⟩
  | 2 => ⟨S8x1, .f32⟩
  | 3 => ⟨S8x448, .f32⟩
  | 4 => ⟨S8x191, .f32⟩
  | 5 => ⟨S8x191, .f32⟩
  | 6 => ⟨S8x639, .f32⟩
  | 7 => ⟨S8x576, .f32⟩
  | 8 => ⟨S8x576, .f32⟩
  | 9 => ⟨S8x576, .f32⟩
  | 10 => ⟨S8x576, .f32⟩
  | 11 => ⟨S8x576, .f32⟩
  | 12 => ⟨S8x576, .f32⟩
  | 13 => ⟨S8x576, .f32⟩
  | 14 => ⟨S8x576, .f32⟩
  | 15 => ⟨S8x576, .f32⟩
  | 16 => ⟨S8x576, .f32⟩
  | 17 => ⟨S8x576, .f32⟩
  | 18 => ⟨S8x576, .f32⟩
  | 19 => ⟨S8x576, .f32⟩
  | 20 => ⟨S8x576, .f32⟩
  | 21 => ⟨S8x576, .f32⟩
  | 22 => ⟨S8x576, .f32⟩
  | 23 => ⟨S8x576, .f32⟩
  | 24 => ⟨S8x576, .f32⟩
  | 25 => ⟨S8x576, .f32⟩
  | 26 => ⟨S8x576, .f32⟩
  | 27 => ⟨S8x576, .f32⟩
  | 28 => ⟨S8x576, .f32⟩
  | 29 => ⟨S8x576, .f32⟩
  | 30 => ⟨S8x576, .f32⟩
  | 31 => ⟨S8x576, .f32⟩
  | 32 => ⟨S8x576, .f32⟩
  | 33 => ⟨S8x576, .f32⟩
  | 34 => ⟨S8x576, .f32⟩
  | 35 => ⟨S8x576, .f32⟩
  | 36 => ⟨S8x576, .f32⟩
  | 37 => ⟨S8x576, .f32⟩
  | 38 => ⟨S8x576, .f32⟩
  | 39 => ⟨S8x576, .f32⟩
  | 40 => ⟨S8x576, .f32⟩
  | 41 => ⟨S8x576, .f32⟩
  | 42 => ⟨S8x576, .f32⟩
  | 43 => ⟨S8x576, .f32⟩
  | 44 => ⟨S8x576, .f32⟩
  | 45 => ⟨S8x576, .f32⟩
  | 46 => ⟨S8x576, .f32⟩
  | 47 => ⟨S8x576, .f32⟩
  | 48 => ⟨S8x576, .f32⟩
  | 49 => ⟨S8x576, .f32⟩
  | 50 => ⟨S8x576, .f32⟩
  | 51 => ⟨S8x576, .f32⟩
  | 52 => ⟨S8x576, .f32⟩
  | 53 => ⟨S8x576, .f32⟩
  | 54 => ⟨S8x576, .f32⟩
  | 55 => ⟨S8x576, .f32⟩
  | 56 => ⟨S8x576, .f32⟩
  | 57 => ⟨S8x576, .f32⟩
  | 58 => ⟨S8x576, .f32⟩
  | 59 => ⟨S8x576, .f32⟩
  | 60 => ⟨S8x576, .f32⟩
  | 61 => ⟨S8x576, .f32⟩
  | 62 => ⟨S8x576, .f32⟩
  | 63 => ⟨S8x576, .f32⟩
  | 64 => ⟨S8x576, .f32⟩
  | 65 => ⟨S8x576, .f32⟩
  | 66 => ⟨S8x576, .f32⟩
  | 67 => ⟨S8x576, .f32⟩
  | 68 => ⟨S8x576, .f32⟩
  | 69 => ⟨S8x576, .f32⟩
  | 70 => ⟨S8x576, .f32⟩
  | 71 => ⟨S8x1x576, .f32⟩
  | 72 => ⟨S8x1x576, .f32⟩
  | 73 => ⟨S8x1x576, .f32⟩
  | 74 => ⟨S8x1x576, .f32⟩
  | 75 => ⟨S8x1x576, .f32⟩
  | 76 => ⟨S8x1x576, .f32⟩
  | 77 => ⟨S8x1x576, .f32⟩
  | 78 => ⟨S8x1x576, .f32⟩
  | 79 => ⟨S8x1x576, .f32⟩
  | 80 => ⟨S8x1x576, .f32⟩
  | 81 => ⟨S8x1x576, .f32⟩
  | 82 => ⟨S8x1x576, .f32⟩
  | 83 => ⟨S8x1x576, .f32⟩
  | 84 => ⟨S8x1x576, .f32⟩
  | 85 => ⟨S8x1x576, .f32⟩
  | 86 => ⟨S8x1x576, .f32⟩
  | 87 => ⟨S8x1x576, .f32⟩
  | 88 => ⟨S8x1x576, .f32⟩
  | 89 => ⟨S8x1x576, .f32⟩
  | 90 => ⟨S8x1x576, .f32⟩
  | 91 => ⟨S8x1x576, .f32⟩
  | 92 => ⟨S8x1x576, .f32⟩
  | 93 => ⟨S8x1x576, .f32⟩
  | 94 => ⟨S8x1x576, .f32⟩
  | 95 => ⟨S8x1x576, .f32⟩
  | 96 => ⟨S8x1x576, .f32⟩
  | 97 => ⟨S8x1x576, .f32⟩
  | 98 => ⟨S8x1x576, .f32⟩
  | 99 => ⟨S8x1x576, .f32⟩
  | 100 => ⟨S8x1x576, .f32⟩
  | 101 => ⟨S8x1x576, .f32⟩
  | 102 => ⟨S8x1x576, .f32⟩
  | 103 => ⟨S8x1x576, .f32⟩
  | 104 => ⟨S8x1x576, .f32⟩
  | 105 => ⟨S8x1x576, .f32⟩
  | 106 => ⟨S8x1x576, .f32⟩
  | 107 => ⟨S8x1x576, .f32⟩
  | 108 => ⟨S8x1x576, .f32⟩
  | 109 => ⟨S8x1x576, .f32⟩
  | 110 => ⟨S8x1x576, .f32⟩
  | 111 => ⟨S8x1x576, .f32⟩
  | 112 => ⟨S8x1x576, .f32⟩
  | 113 => ⟨S8x1x576, .f32⟩
  | 114 => ⟨S8x1x576, .f32⟩
  | 115 => ⟨S8x1x576, .f32⟩
  | 116 => ⟨S8x1x576, .f32⟩
  | 117 => ⟨S8x1x576, .f32⟩
  | 118 => ⟨S8x1x576, .f32⟩
  | 119 => ⟨S8x1x576, .f32⟩
  | 120 => ⟨S8x1x576, .f32⟩
  | 121 => ⟨S8x1x576, .f32⟩
  | 122 => ⟨S8x1x576, .f32⟩
  | 123 => ⟨S8x1x576, .f32⟩
  | 124 => ⟨S8x1x576, .f32⟩
  | 125 => ⟨S8x1x576, .f32⟩
  | 126 => ⟨S8x1x576, .f32⟩
  | 127 => ⟨S8x1x576, .f32⟩
  | _ => ⟨S4096x3072, .bf16⟩

abbrev hbmTy0_1 (i : Nat) : BufTy := match i % 128 with
  | 0 => ⟨S8x1x576, .f32⟩
  | 1 => ⟨S8x1x576, .f32⟩
  | 2 => ⟨S8x1x576, .f32⟩
  | 3 => ⟨S8x1x576, .f32⟩
  | 4 => ⟨S8x1x576, .f32⟩
  | 5 => ⟨S8x1x576, .f32⟩
  | 6 => ⟨S8x1x576, .f32⟩
  | 7 => ⟨S8x16x576, .f32⟩
  | 8 => ⟨S8x16x576, .f32⟩
  | 9 => ⟨S8x16x576, .f32⟩
  | 10 => ⟨S8x16x576, .f32⟩
  | 11 => ⟨S8x64x576, .f32⟩
  | 12 => ⟨S4096x512, .f32⟩
  | _ => ⟨S4096x3072, .bf16⟩

abbrev hbmTy (i : Nat) : BufTy := match i / 128 with
  | 0 => hbmTy0_0 i
  | 1 => hbmTy0_1 i
  | _ => ⟨S4096x3072, .bf16⟩

abbrev bufTy : (tb : Table) → Fin (tcTables nBuf tb) → BufTy
  | .hbm, ⟨i, _⟩ => hbmTy i
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S2x64x576, .f32⟩
  | .local _ .vmem, ⟨7, _⟩ => ⟨S2x64x576, .f32⟩
  | .local _ .vmem, ⟨8, _⟩ => ⟨S256x128, .f32⟩
  | .local _ .vmem, ⟨9, _⟩ => ⟨S256x128, .f32⟩
  | .local _ .vmem, ⟨10, _⟩ => ⟨S4608x128, .bf16⟩
  | .local _ .vmem, ⟨11, _⟩ => ⟨S4608x128, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩
abbrev main_v68 : Ref sig .tc := ⟨.hbm, 70, rfl⟩
abbrev main_v69 : Ref sig .tc := ⟨.hbm, 71, rfl⟩
abbrev main_v70 : Ref sig .tc := ⟨.hbm, 72, rfl⟩
abbrev main_v71 : Ref sig .tc := ⟨.hbm, 73, rfl⟩
abbrev main_v72 : Ref sig .tc := ⟨.hbm, 74, rfl⟩
abbrev main_v73 : Ref sig .tc := ⟨.hbm, 75, rfl⟩
abbrev main_v74 : Ref sig .tc := ⟨.hbm, 76, rfl⟩
abbrev main_v75 : Ref sig .tc := ⟨.hbm, 77, rfl⟩
abbrev main_v76 : Ref sig .tc := ⟨.hbm, 78, rfl⟩
abbrev main_v77 : Ref sig .tc := ⟨.hbm, 79, rfl⟩
abbrev main_v78 : Ref sig .tc := ⟨.hbm, 80, rfl⟩
abbrev main_v79 : Ref sig .tc := ⟨.hbm, 81, rfl⟩
abbrev main_v80 : Ref sig .tc := ⟨.hbm, 82, rfl⟩
abbrev main_v81 : Ref sig .tc := ⟨.hbm, 83, rfl⟩
abbrev main_v82 : Ref sig .tc := ⟨.hbm, 84, rfl⟩
abbrev main_v83 : Ref sig .tc := ⟨.hbm, 85, rfl⟩
abbrev main_v84 : Ref sig .tc := ⟨.hbm, 86, rfl⟩
abbrev main_v85 : Ref sig .tc := ⟨.hbm, 87, rfl⟩
abbrev main_v86 : Ref sig .tc := ⟨.hbm, 88, rfl⟩
abbrev main_v87 : Ref sig .tc := ⟨.hbm, 89, rfl⟩
abbrev main_v88 : Ref sig .tc := ⟨.hbm, 90, rfl⟩
abbrev main_v89 : Ref sig .tc := ⟨.hbm, 91, rfl⟩
abbrev main_v90 : Ref sig .tc := ⟨.hbm, 92, rfl⟩
abbrev main_v91 : Ref sig .tc := ⟨.hbm, 93, rfl⟩
abbrev main_v92 : Ref sig .tc := ⟨.hbm, 94, rfl⟩
abbrev main_v93 : Ref sig .tc := ⟨.hbm, 95, rfl⟩
abbrev main_v94 : Ref sig .tc := ⟨.hbm, 96, rfl⟩
abbrev main_v95 : Ref sig .tc := ⟨.hbm, 97, rfl⟩
abbrev main_v96 : Ref sig .tc := ⟨.hbm, 98, rfl⟩
abbrev main_v97 : Ref sig .tc := ⟨.hbm, 99, rfl⟩
abbrev main_v98 : Ref sig .tc := ⟨.hbm, 100, rfl⟩
abbrev main_v99 : Ref sig .tc := ⟨.hbm, 101, rfl⟩
abbrev main_v100 : Ref sig .tc := ⟨.hbm, 102, rfl⟩
abbrev main_v101 : Ref sig .tc := ⟨.hbm, 103, rfl⟩
abbrev main_v102 : Ref sig .tc := ⟨.hbm, 104, rfl⟩
abbrev main_v103 : Ref sig .tc := ⟨.hbm, 105, rfl⟩
abbrev main_v104 : Ref sig .tc := ⟨.hbm, 106, rfl⟩
abbrev main_v105 : Ref sig .tc := ⟨.hbm, 107, rfl⟩
abbrev main_v106 : Ref sig .tc := ⟨.hbm, 108, rfl⟩
abbrev main_v107 : Ref sig .tc := ⟨.hbm, 109, rfl⟩
abbrev main_v108 : Ref sig .tc := ⟨.hbm, 110, rfl⟩
abbrev main_v109 : Ref sig .tc := ⟨.hbm, 111, rfl⟩
abbrev main_v110 : Ref sig .tc := ⟨.hbm, 112, rfl⟩
abbrev main_v111 : Ref sig .tc := ⟨.hbm, 113, rfl⟩
abbrev main_v112 : Ref sig .tc := ⟨.hbm, 114, rfl⟩
abbrev main_v113 : Ref sig .tc := ⟨.hbm, 115, rfl⟩
abbrev main_v114 : Ref sig .tc := ⟨.hbm, 116, rfl⟩
abbrev main_v115 : Ref sig .tc := ⟨.hbm, 117, rfl⟩
abbrev main_v116 : Ref sig .tc := ⟨.hbm, 118, rfl⟩
abbrev main_v117 : Ref sig .tc := ⟨.hbm, 119, rfl⟩
abbrev main_v118 : Ref sig .tc := ⟨.hbm, 120, rfl⟩
abbrev main_v119 : Ref sig .tc := ⟨.hbm, 121, rfl⟩
abbrev main_v120 : Ref sig .tc := ⟨.hbm, 122, rfl⟩
abbrev main_v121 : Ref sig .tc := ⟨.hbm, 123, rfl⟩
abbrev main_v122 : Ref sig .tc := ⟨.hbm, 124, rfl⟩
abbrev main_v123 : Ref sig .tc := ⟨.hbm, 125, rfl⟩
abbrev main_v124 : Ref sig .tc := ⟨.hbm, 126, rfl⟩
abbrev main_v125 : Ref sig .tc := ⟨.hbm, 127, rfl⟩
abbrev main_v126 : Ref sig .tc := ⟨.hbm, 128, rfl⟩
abbrev main_v127 : Ref sig .tc := ⟨.hbm, 129, rfl⟩
abbrev main_v128 : Ref sig .tc := ⟨.hbm, 130, rfl⟩
abbrev main_v129 : Ref sig .tc := ⟨.hbm, 131, rfl⟩
abbrev main_v130 : Ref sig .tc := ⟨.hbm, 132, rfl⟩
abbrev main_v131 : Ref sig .tc := ⟨.hbm, 133, rfl⟩
abbrev main_v132 : Ref sig .tc := ⟨.hbm, 134, rfl⟩
abbrev main_v133 : Ref sig .tc := ⟨.hbm, 135, rfl⟩
abbrev main_v134 : Ref sig .tc := ⟨.hbm, 136, rfl⟩
abbrev main_v135 : Ref sig .tc := ⟨.hbm, 137, rfl⟩
abbrev main_v136 : Ref sig .tc := ⟨.hbm, 138, rfl⟩
abbrev main_v137 : Ref sig .tc := ⟨.hbm, 139, rfl⟩
abbrev main_v138 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c4_i32 : BitVec 32 := 4#32
  let v8 : BitVec 32 := Scalar.muli arg1 c4_i32
  let c0_i32_2 : BitVec 32 := 0#32
  let v9 : BitVec 32 := Scalar.addi v8 c0_i32_2
  let c64_i32_6 : BitVec 32 := 64#32
  let v16 : BitVec 32 := Scalar.muli v9 c64_i32_6
  v16
def k0_mult2 (i : grid0.Coords) : BitVec 32 :=
  let arg1 : BitVec 32 := BitVec.ofNat 32 (i 1).val
  let c4_i32_3 : BitVec 32 := 4#32
  let v10 : BitVec 32 := Scalar.muli arg1 c4_i32_3
  let c1_i32 : BitVec 32 := 1#32
  let v11 : BitVec 32 := Scalar.addi v10 c1_i32
  let c64_i32_7 : BitVec 32 := 64#32
  let v18 : BitVec 32 := Scalar.muli v11 c64_i32_7
  v18
def k0_mult3 (i : grid0.Coords) : BitVec 32 :=
  let arg1 : BitVec 32 := BitVec.ofNat 32 (i 1).val
  let c4_i32_4 : BitVec 32 := 4#32
  let v12 : BitVec 32 := Scalar.muli arg1 c4_i32_4
  let c2_i32 : BitVec 32 := 2#32
  let v13 : BitVec 32 := Scalar.addi v12 c2_i32
  let c64_i32_8 : BitVec 32 := 64#32
  let v20 : BitVec 32 := Scalar.muli v13 c64_i32_8
  v20
def k0_mult4 (i : grid0.Coords) : BitVec 32 :=
  let arg1 : BitVec 32 := BitVec.ofNat 32 (i 1).val
  let c4_i32_5 : BitVec 32 := 4#32
  let v14 : BitVec 32 := Scalar.muli arg1 c4_i32_5
  let c3_i32 : BitVec 32 := 3#32
  let v15 : BitVec 32 := Scalar.addi v14 c3_i32
  let c64_i32_9 : BitVec 32 := 64#32
  let v22 : BitVec 32 := Scalar.muli v15 c64_i32_9
  v22
def k0_off1 (i : grid0.Coords) (c0_i32_2 : BitVec 32) : Fin 2 → Nat :=
  let arg1 : BitVec 32 := BitVec.ofNat 32 (i 1).val
  let c4_i32 : BitVec 32 := 4#32
  let v8 : BitVec 32 := Scalar.muli arg1 c4_i32
  let v9 : BitVec 32 := Scalar.addi v8 c0_i32_2
  let c64_i32_6 : BitVec 32 := 64#32
  let v16 : BitVec 32 := Scalar.muli v9 c64_i32_6
  let v17 : BitVec 32 := v16
  let v24 : Index := Scalar.indexCast v17
  let c0 : Index := 0#32
  ![v24.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x64x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel43Ideal.lean ====
variable {F : FTy → Type} [FloatOps F] [Named F]
def κ : String → Option EReal := fun
  | "mask" => some ⊥
  | _ => none
-- ==== Reference43Ideal.lean ====
abbrev S4096x3072 : Shape := ⟨2, ![4096, 3072]⟩
abbrev S8x257 : Shape := ⟨2, ![8, 257]⟩
abbrev S4096x512 : Shape := ⟨2, ![4096, 512]⟩
abbrev S64 : Shape := ⟨1, ![64]⟩
abbrev S_ : Shape := ⟨0, ![]⟩
abbrev S576 : Shape := ⟨1, ![576]⟩
abbrev S64x1 : Shape := ⟨2, ![64, 1]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S1x4096x8x64 : Shape := ⟨4, ![1, 4096, 8, 64]⟩
abbrev S1x64x64x8x64 : Shape := ⟨5, ![1, 64, 64, 8, 64]⟩
abbrev S1x8x64x8x64 : Shape := ⟨5, ![1, 8, 64, 8, 64]⟩
abbrev S1x72x64x8x64 : Shape := ⟨5, ![1, 72, 64, 8, 64]⟩
abbrev S9 : Shape := ⟨1, ![9]⟩
abbrev S1x9 : Shape := ⟨2, ![1, 9]⟩
abbrev S64x9 : Shape := ⟨2, ![64, 9]⟩
abbrev S64x9x1 : Shape := ⟨3, ![64, 9, 1]⟩
abbrev S1x64x9x64x8x64 : Shape := ⟨6, ![1, 64, 9, 64, 8, 64]⟩
abbrev S1x64x576x8x64 : Shape := ⟨5, ![1, 64, 576, 8, 64]⟩
abbrev S1x8x64x64x576 : Shape := ⟨5, ![1, 8, 64, 64, 576]⟩
abbrev S1x8x1x64x576 : Shape := ⟨5, ![1, 8, 1, 64, 576]⟩
abbrev S1x1x64x1x576 : Shape := ⟨5, ![1, 1, 64, 1, 576]⟩
abbrev S1x8x64x64 : Shape := ⟨4, ![1, 8, 64, 64]⟩
abbrev S1x8x64x64x1 : Shape := ⟨5, ![1, 8, 64, 64, 1]⟩
abbrev S1x64x8x64x64 : Shape := ⟨5, ![1, 64, 8, 64, 64]⟩
abbrev S1x4096x512 : Shape := ⟨3, ![1, 4096, 512]⟩

abbrev nBuf : Space → Nat
  | .hbm => 135
  | .vmem => 0
  | .smem => 0
  | _ => 0

abbrev hbmTy0_0 (i : Nat) : BufTy := match i % 128 with
  | 0 => ⟨S4096x3072, .bf16⟩
  | 1 => ⟨S8x257, .f32⟩
  | 2 => ⟨S4096x3072, .f32⟩
  | 3 => ⟨S4096x512, .f32⟩
  | 4 => ⟨S4096x512, .f32⟩
  | 5 => ⟨S4096x512, .f32⟩
  | 6 => ⟨S64, .i32⟩
  | 7 => ⟨S_, .i32⟩
  | 8 => ⟨S64, .i32⟩
  | 9 => ⟨S64, .i32⟩
  | 10 => ⟨S576, .i32⟩
  | 11 => ⟨S64x1, .i32⟩
  | 12 => ⟨S1x576, .i32⟩
  | 13 => ⟨S64x576, .i32⟩
  | 14 => ⟨S64x576, .i32⟩
  | 15 => ⟨S64x576, .i32⟩
  | 16 => ⟨S_, .i32⟩
  | 17 => ⟨S_, .i32⟩
  | 18 => ⟨S_, .i32⟩
  | 19 => ⟨S64x576, .i32⟩
  | 20 => ⟨S64x576, .i32⟩
  | 21 => ⟨S_, .i32⟩
  | 22 => ⟨S64x576, .i32⟩
  | 23 => ⟨S64x576, .i32⟩
  | 24 => ⟨S_, .i32⟩
  | 25 => ⟨S64x576, .i32⟩
  | 26 => ⟨S64x576, .i32⟩
  | 27 => ⟨S_, .i32⟩
  | 28 => ⟨S64x576, .i32⟩
  | 29 => ⟨S64x576, .i1⟩
  | 30 => ⟨S_, .i32⟩
  | 31 => ⟨S64x576, .i32⟩
  | 32 => ⟨S64x576, .i32⟩
  | 33 => ⟨S64x576, .i32⟩
  | 34 => ⟨S64x576x1, .i32⟩
  | 35 => ⟨S8x64x576, .f32⟩
  | 36 => ⟨S1x4096x8x64, .f32⟩
  | 37 => ⟨S1x4096x8x64, .f32⟩
  | 38 => ⟨S1x4096x8x64, .f32⟩
  | 39 => ⟨S1x64x64x8x64, .f32⟩
  | 40 => ⟨S_, .f32⟩
  | 41 => ⟨S1x8x64x8x64, .f32⟩
  | 42 => ⟨S1x64x64x8x64, .f32⟩
  | 43 => ⟨S1x72x64x8x64, .f32⟩
  | 44 => ⟨S1x64x64x8x64, .f32⟩
  | 45 => ⟨S1x72x64x8x64, .f32⟩
  | 46 => ⟨S64, .i32⟩
  | 47 => ⟨S64x1, .i32⟩
  | 48 => ⟨S9, .i32⟩
  | 49 => ⟨S1x9, .i32⟩
  | 50 => ⟨S64x9, .i32⟩
  | 51 => ⟨S64x9, .i32⟩
  | 52 => ⟨S64x9, .i32⟩
  | 53 => ⟨S_, .i32⟩
  | 54 => ⟨S64x9, .i32⟩
  | 55 => ⟨S64x9, .i1⟩
  | 56 => ⟨S_, .i32⟩
  | 57 => ⟨S64x9, .i32⟩
  | 58 => ⟨S64x9, .i32⟩
  | 59 => ⟨S64x9, .i32⟩
  | 60 => ⟨S64x9x1, .i32⟩
  | 61 => ⟨S1x64x9x64x8x64, .f32⟩
  | 62 => ⟨S1x64x576x8x64, .f32⟩
  | 63 => ⟨S_, .i32⟩
  | 64 => ⟨S64x9, .i32⟩
  | 65 => ⟨S64x9, .i1⟩
  | 66 => ⟨S_, .i32⟩
  | 67 => ⟨S64x9, .i32⟩
  | 68 => ⟨S64x9, .i32⟩
  | 69 => ⟨S64x9, .i32⟩
  | 70 => ⟨S64x9x1, .i32⟩
  | 71 => ⟨S1x64x9x64x8x64, .f32⟩
  | 72 => ⟨S1x64x576x8x64, .f32⟩
  | 73 => ⟨S1x8x64x64x576, .f32⟩
  | 74 => ⟨S_, .f32⟩
  | 75 => ⟨S1x8x64x64x576, .f32⟩
  | 76 => ⟨S1x8x64x64x576, .f32⟩
  | 77 => ⟨S1x8x1x64x576, .f32⟩
  | 78 => ⟨S1x8x64x64x576, .f32⟩
  | 79 => ⟨S1x8x64x64x576, .f32⟩
  | 80 => ⟨S64, .i32⟩
  | 81 => ⟨S64x1, .i32⟩
  | 82 => ⟨S_, .i32⟩
  | 83 => ⟨S64x1, .i32⟩
  | 84 => ⟨S64x1, .i32⟩
  | 85 => ⟨S576, .i32⟩
  | 86 => ⟨S_, .i32⟩
  | 87 => ⟨S_, .i32⟩
  | 88 => ⟨S576, .i32⟩
  | 89 => ⟨S576, .i32⟩
  | 90 => ⟨S576, .i32⟩
  | 91 => ⟨S_, .i32⟩
  | 92 => ⟨S576, .i32⟩
  | 93 => ⟨S576, .i1⟩
  | 94 => ⟨S576, .i32⟩
  | 95 => ⟨S576, .i32⟩
  | 96 => ⟨S_, .i32⟩
  | 97 => ⟨S576, .i32⟩
  | 98 => ⟨S576, .i1⟩
  | 99 => ⟨S576, .i1⟩
  | 100 => ⟨S_, .i32⟩
  | 101 => ⟨S576, .i32⟩
  | 102 => ⟨S576, .i32⟩
  | 103 => ⟨S576, .i32⟩
  | 104 => ⟨S1x576, .i32⟩
  | 105 => ⟨S64x576, .i32⟩
  | 106 => ⟨S64x576, .i32⟩
  | 107 => ⟨S64x576, .i32⟩
  | 108 => ⟨S_, .i32⟩
  | 109 => ⟨S64x576, .i32⟩
  | 110 => ⟨S64x576, .i1⟩
  | 111 => ⟨S1x1x64x1x576, .i1⟩
  | 112 => ⟨S_, .f32⟩
  | 113 => ⟨S_, .f32⟩
  | 114 => ⟨S1x8x64x64x576, .i1⟩
  | 115 => ⟨S1x8x64x64x576, .f32⟩
  | 116 => ⟨S1x8x64x64x576, .f32⟩
  | 117 => ⟨S_, .f32⟩
  | 118 => ⟨S1x8x64x64, .f32⟩
  | 119 => ⟨S_, .f32⟩
  | 120 => ⟨S1x8x64x64, .f32⟩
  | 121 => ⟨S1x8x64x64, .f32⟩
  | 122 => ⟨S1x8x64x64x1, .f32⟩
  | 123 => ⟨S1x8x64x64x576, .f32⟩
  | 124 => ⟨S1x8x64x64x576, .f32⟩
  | 125 => ⟨S1x8x64x64x576, .f32⟩
  | 126 => ⟨S_, .f32⟩
  | 127 => ⟨S1x8x64x64, .f32⟩
  | _ => ⟨S4096x3072, .bf16⟩

abbrev hbmTy0_1 (i : Nat) : BufTy := match i % 128 with
  | 0 => ⟨S1x8x64x64x1, .f32⟩
  | 1 => ⟨S1x8x64x64x576, .f32⟩
  | 2 => ⟨S1x8x64x64x576, .f32⟩
  | 3 => ⟨S1x64x8x64x64, .f32⟩
  | 4 => ⟨S1x64x64x8x64, .f32⟩
  | 5 => ⟨S1x4096x512, .f32⟩
  | 6 => ⟨S4096x512, .f32⟩
  | _ => ⟨S4096x3072, .bf16⟩

abbrev hbmTy (i : Nat) : BufTy := match i / 128 with
  | 0 => hbmTy0_0 i
  | 1 => hbmTy0_1 i
  | _ => ⟨S4096x3072, .bf16⟩

abbrev bufTy : (tb : Table) → Fin (tcTables nBuf tb) → BufTy
  | .hbm, ⟨i, _⟩ => hbmTy i
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c_0 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_5 : Ref sig .tc := ⟨.hbm, 53, rfl⟩
abbrev main_v39 : Ref sig .tc := ⟨.hbm, 54, rfl⟩
abbrev main_v40 : Ref sig .tc := ⟨.hbm, 55, rfl⟩
abbrev main_c_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_7 : Ref sig .tc := ⟨.hbm, 63, rfl⟩
abbrev main_v47 : Ref sig .tc := ⟨.hbm, 64, rfl⟩
abbrev main_v48 : Ref sig .tc := ⟨.hbm, 65, rfl⟩
abbrev main_c_8 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_c_10 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_c_11 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_v7 : Ref sig .tc := ⟨.hbm, 94, rfl⟩
abbrev main_call1_v8 : Ref sig .tc := ⟨.hbm, 95, rfl⟩
abbrev main_call1_c : Ref sig .tc := ⟨.hbm, 96, rfl⟩
abbrev main_call1_v9 : Ref sig .tc := ⟨.hbm, 97, rfl⟩
abbrev main_call1_v10 : Ref sig .tc := ⟨.hbm, 98, rfl⟩
abbrev main_call1_v11 : Ref sig .tc := ⟨.hbm, 99, rfl⟩
abbrev main_call1_c_0 : Ref sig .tc := ⟨.hbm, 100, rfl⟩
abbrev main_call1_v12 : Ref sig .tc := ⟨.hbm, 101, rfl⟩
abbrev main_call1_v13 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_c_12 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_13 : Ref sig .tc := ⟨.hbm, 112, rfl⟩
abbrev main_call2_v0 : Ref sig .tc := ⟨.hbm, 113, rfl⟩
abbrev main_call2_v1 : Ref sig .tc := ⟨.hbm, 114, rfl⟩
abbrev main_call2_v2 : Ref sig .tc := ⟨.hbm, 115, rfl⟩
abbrev main_v74 : Ref sig .tc := ⟨.hbm, 116, rfl⟩
abbrev main_cst_14 : Ref sig .tc := ⟨.hbm, 117, rfl⟩
abbrev main_v75 : Ref sig .tc := ⟨.hbm, 118, rfl⟩
abbrev main_cst_15 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_cst_16 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩

abbrev nD : Nat := 1
abbrev τ : Topo := Topo.v7x

variable {F : FTy → Type} [FloatOps F]
-- ==== Proof.Base.lean ====
/- What many of the modules use: offsets that are all zero, and arrays that are equal at every element. -/
module

public import proofs.«01_k».proof.Defs
public import Idealize.ShloMosaic.Lib.Pointwise
public import Idealize.ShloMosaic.Lib.Quiescent
public import Idealize.ShloMosaic.Lib.Tactic.ValueTie

@[expose] public section

namespace Cert

open Idealize.ShloMosaic

/-- Offsets that are all zero, on one, two and three axes. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Two arrays of two axes are equal when they are at every element. -/
theorem ext2 {n k : Nat} {α : Type} {f g : (⟨2, ![n, k]⟩ : Shape).Idx → α} (h : ∀ (a : Fin n) (b : Fin k), f (ix2 a b) = g (ix2 a b)) : f = g :=
  funext fun j => by rw [eq_ix2 j]; exact h _ _

/-- Two arrays of three axes are equal when they are at every element. -/
theorem ext3 {n k w : Nat} {α : Type} {f g : (⟨3, ![n, k, w]⟩ : Shape).Idx → α} (h : ∀ (l : Fin n) (a : Fin k) (b : Fin w), f (ix3 l a b) = g (ix3 l a b)) : f = g :=
  funext fun j => by rw [eq_ix3 j]; exact h _ _ _

end Cert

end
-- ==== Proof.UpDw.lean ====
/- The gradient of the up projection's weight: each grid point multiplies a block of rows of the normed activations by a
   block of rows of the gate's gradient, and the two row blocks of an output block are added. Here: what an output
   element ends holding, as the sum over the two row blocks. -/
module

public import proofs.«01_k».proof.Proof.Gen.KernelIdeal.Value
public import proofs.«01_k».proof.Proof.Base

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- At the first row block the scratch receives the block product. -/
theorem sout_A (c : Dev nD) (i : grid0.Coords) (a3 : Memref sig .tc .vmem S2048x512 .bf16) (h3 : a3.IsWhole) (a4 : Memref sig .tc .vmem S1x2048x1408 .bf16) (h4 : a4.IsWhole) (a5 : Memref sig .tc .vmem S1x512x1408 .f32) (h5 : a5.IsWhole) (a6 : Memref sig .tc .vmem S512x1408 .f32) (h6 : a6.IsWhole) (hc0 : cond0_0 i) (hc1 : ¬cond0_1 i) (hc2 : ¬cond0_2 i)
    (x0 : Vec F S2048x512 .bf16) (x1 : Vec F S1x2048x1408 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz2]
  unfold k0_pay2
  simp only [View.readAt_eq_ld, h3.read_unread, h4.read_unread, View.ld_unit_zero (S := S2048x512) hz2, View.ld_unit_zero (S := S1x2048x1408) hz3, shapeCast_self]

/-- At the second row block the output receives the scratch plus the block product. -/
theorem out_B (c : Dev nD) (i : grid0.Coords) (a3 : Memref sig .tc .vmem S2048x512 .bf16) (h3 : a3.IsWhole) (a4 : Memref sig .tc .vmem S1x2048x1408 .bf16) (h4 : a4.IsWhole) (a5 : Memref sig .tc .vmem S1x512x1408 .f32) (h5 : a5.IsWhole) (a6 : Memref sig .tc .vmem S512x1408 .f32) (h6 : a6.IsWhole) (hc0 : ¬cond0_0 i) (hc1 : ¬cond0_1 i) (hc2 : cond0_2 i)
    (x0 : Vec F S2048x512 .bf16) (x1 : Vec F S1x2048x1408 .bf16) (xs : Vec F S512x1408 .f32) :
    out0_B_2 c i a3 h3 a4 h4 a5 h5 a6 h6 hc0 hc1 hc2 x0 x1 xs = k0_pay4 x0 x1 xs := by
  unfold out0_B_2
  rw [View.read_writes_eq_canon _ _ _ (cover0_B_2 c i a3 h3 a4 h4 a5 h5 a6 h6 hc0 hc1 hc2 x0 x1 xs)]
  unfold kernelRun0_B
  dsimp only
  rw [View.canon_unit_zero hz3]
  simp only [View.readAt_eq_ld, h3.read_unread, h4.read_unread, h6.read_unread, View.ld_unit_zero (S := S2048x512) hz2, View.ld_unit_zero (S := S1x2048x1408) hz3, View.ld_unit_zero (S := S512x1408) hz2]

/-- The block of the activations a point reads: rows `2048·(t mod 2)…`, columns `512·(t / 8)…`. -/
theorem iblk0_apply (c : Dev nD) (t : Fin cfg0.N) (k : Fin 2048) (r : Fin 512) (i : S4096x1024.Idx)
    (h0 : (i 0).val = t.val % 2 * 2048 + k.val) (h1 : (i 1).val = t.val / 8 * 512 + r.val) :
    (iblk m c 0 t : Vec F S2048x512 .bf16) (ix2 k r) = m ((c : Thread nD τ).loc main_arg0) i := by
  have hi := (by decide +kernel : ∀ t : Fin grid0.N, win0_0.index t 0 = t.val % 2 ∧ win0_0.index t 1 = t.val / 8) t
  refine congrArg (m ((c : Thread nD τ).loc main_arg0)) (funext fun a => Fin.ext ?_)
  match a with
  | ⟨0, _⟩ => show win0_0.index t 0 * 2048 + 1 * k.val = (i 0).val; rw [hi.1, h0]; omega
  | ⟨1, _⟩ => show win0_0.index t 1 * 512 + 1 * r.val = (i 1).val; rw [hi.2, h1]; omega

/-- The block of the gate's gradient a point reads: half `t / 4 mod 2`, rows `2048·(t mod 2)…`, columns `1408·(t / 2 mod 2)…`. -/
theorem iblk1_apply (c : Dev nD) (t : Fin cfg0.N) (z : Fin 1) (k : Fin 2048) (r : Fin 1408) (i : S2x4096x2816.Idx)
    (h0 : (i 0).val = t.val / 4 % 2) (h1 : (i 1).val = t.val % 2 * 2048 + k.val) (h2 : (i 2).val = t.val / 2 % 2 * 1408 + r.val) :
    (iblk m c 1 t : Vec F S1x2048x1408 .bf16) (ix3 z k r) = m ((c : Thread nD τ).loc main_arg1) i := by
  have hi := (by decide +kernel : ∀ t : Fin grid0.N, win0_1.index t 0 = t.val / 4 % 2 ∧ win0_1.index t 1 = t.val % 2 ∧ win0_1.index t 2 = t.val / 2 % 2) t
  refine congrArg (m ((c : Thread nD τ).loc main_arg1)) (funext fun a => Fin.ext ?_)
  match a with
  | ⟨0, _⟩ => show win0_1.index t 0 * 1 + 1 * z.val = (i 0).val; rw [hi.1, h0]; omega
  | ⟨1, _⟩ => show win0_1.index t 1 * 2048 + 1 * k.val = (i 1).val; rw [hi.2.1, h1]; omega
  | ⟨2, _⟩ => show win0_1.index t 2 * 1408 + 1 * r.val = (i 2).val; rw [hi.2.2, h2]; omega

/-- Column `q` of the up projection's output lies in half `q / 2816` of the gate's gradient; the weight's shard `a` and
    column `b` are column `1408·a + b`. -/
abbrev half (a : Fin 4) (b : Fin 1408) (k : Fin 4096) : S2x4096x2816.Idx :=
  ix3 (⟨a.val / 2, by omega⟩ : Fin 2) k (⟨a.val % 2 * 1408 + b.val, by omega⟩ : Fin 2816)

end Cert.KernelIdeal.Value

namespace Cert.KernelIdeal.Value

open Cert.KernelIdeal Cert.KernelIdeal.Gen Idealize.ShloMosaic Idealize.ShloMosaic.TcCoe Idealize.SL.Sem

variable (m : (ℓ : Loc nD τ sig) → Buf (Elt Ideal) ℓ)

/-- The block product at an element: the sum over the block's rows. -/
theorem pay1_apply (x0 : Vec Ideal S2048x512 .bf16) (x1 : Vec Ideal S1x2048x1408 .bf16) (p : Fin 512) (q : Fin 1408) :
    k0_pay1 x0 x1 (ix2 p q) = ∑ k : Fin 2048, x0 (ix2 k p) * x1 (ix3 (0 : Fin 1) k q) := by
  pointwise [k0_pay1]

/-- The product of the two arguments over all the rows, at an element. -/
def prod (x : Vec Ideal S4096x1024 .bf16) (y : Vec Ideal S2x4096x2816 .bf16) (a : Fin 4) (p : Fin 1024) (b : Fin 1408) : EReal :=
  ∑ k : Fin 4096, x (ix2 k p) * y (half a b k)

/-- What the scratch holds after the first row block of an output block. -/
theorem scratch_even (c : Dev nD) (t : Fin cfg0.N) (h : t.val % 2 = 0) :
    (outsAt0 m c t.val t.isLt).2 = k0_pay1 (iblk m c 0 t) (iblk m c 1 t) := by
  rw [outsAt0_A m c t h (by omega)]
  dsimp only
  rw [sout_A]

/-- What the output's buffer holds after the second row block. -/
theorem out_odd (c : Dev nD) (t t' : Fin cfg0.N) (h : t.val % 2 = 1) (h' : t'.val = t.val - 1) :
    (outsAt0 m c t.val t.isLt).1 = k0_pay4 (iblk m c 0 t) (iblk m c 1 t) (k0_pay1 (iblk m c 0 t') (iblk m c 1 t')) := by
  have h0 : ¬t.val % 2 = 0 := by omega
  have e := scratch_even m c t' (by omega)
  obtain ⟨n, hn⟩ := t'
  dsimp only at h' e
  subst h'
  rw [outsAt0_B m c t h0 h]
  dsimp only
  rw [out_B, e]

/-- An element of an output block: the sum over all the rows. -/
theorem block_apply (c : Dev nD) (a : Fin 4) (p : Fin 1024) (b : Fin 1408) (t t' : Fin cfg0.N)
    (h : t.val = 2 * (a.val + 4 * (p.val / 512)) + 1) (h' : t'.val = 2 * (a.val + 4 * (p.val / 512))) :
    k0_pay4 (iblk m c 0 t) (iblk m c 1 t) (k0_pay1 (iblk m c 0 t') (iblk m c 1 t'))
        (ix3 (0 : Fin 1) (⟨p.val % 512, by omega⟩ : Fin 512) b)
      = prod (m ((c : Thread nD τ).loc main_arg0)) (m ((c : Thread nD τ).loc main_arg1)) a p b := by
  unfold prod
  rw [Fin.sum_univ_two_halves 2048 2048 rfl]
  pointwise [k0_pay4]
  rw [pay1_apply, pay1_apply]
  congr 1
  · refine Finset.sum_congr rfl fun k _ => ?_
    congr 1
    · exact iblk0_apply m c _ k _ _ (by simp; omega) (by simp; omega)
    · exact iblk1_apply m c _ 0 k _ _ (by simp; omega) (by simp; omega) (by simp; omega)
  · refine Finset.sum_congr rfl fun k _ => ?_
    congr 1
    · exact iblk0_apply m c _ k _ _ (by simp; omega) (by simp; omega)
    · exact iblk1_apply m c _ 0 k _ _ (by simp; omega) (by simp; omega) (by simp; omega)

/-- An element of the weight's gradient: the sum over all the rows. -/
theorem G2_apply (c : Dev nD) (a : Fin 4) (p : Fin 1024) (b : Fin 1408) :
    (G2 m c : Vec Ideal S4x1024x1408 .f32) (ix3 a p b)
      = prod (m ((c : Thread nD τ).loc main_arg0)) (m ((c : Thread nD τ).loc main_arg1)) a p b := by
  have hN : cfg0.N = 16 := N_0
  have hp : pt2Of (ix3 a p b) = 2 * (a.val + 4 * (p.val / 512)) + 1 := by
    show 2 * (1 * (a.val / 1 - 0) + 4 * (p.val / 512 - 0) + 8 * (b.val / 1408 - 0)) + 1 = _
    omega
  have hlt : pt2Of (ix3 a p b) < cfg0.N := by rw [hp, hN]; omega
  have hl : loc2Of (ix3 a p b) = ix3 (0 : Fin 1) (⟨p.val % 512, by omega⟩ : Fin 512) b := by
    funext d; apply Fin.ext
    match d with
    | ⟨0, _⟩ => show a.val % 1 = 0; omega
    | ⟨1, _⟩ => rfl
    | ⟨2, _⟩ => show b.val % 1408 = b.val; omega
  unfold G2
  rw [dif_pos hlt, ← outsAt0_sweep m c (pt2Of (ix3 a p b)) hlt,
    out_odd m c ⟨pt2Of (ix3 a p b), hlt⟩ ⟨pt2Of (ix3 a p b) - 1, by omega⟩ (by dsimp only; omega) rfl, hl]
  exact block_apply m c a p b _ _ hp (by dsimp only; omega)

end Cert.KernelIdeal.Value

end
-- ==== Proof.UpDwRef.lean ====
/- The gradient of the up projection's weight: the reference's result is the same sum over the rows, and the claims about
   this product. -/
module

public import proofs.«01_k».proof.Proof.UpDw
public import proofs.«01_k».proof.Proof.Gen.ReferenceIdeal.Run
public import proofs.«01_k».proof.Proof.Gen.Kernel.Frame
public import proofs.«01_k».proof.Proof.Base

@[expose] public section

set_option maxRecDepth 16384

noncomputable section

namespace Cert.UpDw

open Idealize.ShloMosaic Idealize.ShloMosaic.TcCoe Idealize.SL.Sem
open Cert.ReferenceIdeal Cert.ReferenceIdeal.Gen

/-- The reference's expression of its two arguments. -/
abbrev ref (x : Vec Ideal S4096x1024 .bf16) (y : Vec Ideal S2x4096x2816 .bf16) : Vec Ideal S4x1024x1408 .f32 :=
  transpose S4x1024x1408 [1, 0, 2] (shapeCast _ (Host.dotGeneral (F := Ideal) (φ₁ := .f32) (φ₂ := .f32) dot_S1024x4096_S4096x5632_S1024x5632_1_0_0_1_n_n none (transpose S1024x4096 [1, 0] (extf (F := Ideal) .f32 x bitsLt_bf16_f32) transposes_S4096x1024_S1024x4096_1_0) (concatenate S4096x5632 1 [⟨S4096x2816, (shapeCast _ (extractStridedSlice S1x4096x2816 ![0, 0, 0] (extf (F := Ideal) .f32 y bitsLt_bf16_f32) slices_S2x4096x2816_S1x4096x2816_0_0_0) shapeCasts_S1x4096x2816_S4096x2816)⟩, ⟨S4096x2816, (shapeCast _ (extractStridedSlice S1x4096x2816 ![1, 0, 0] (extf (F := Ideal) .f32 y bitsLt_bf16_f32) slices_S2x4096x2816_S1x4096x2816_1_0_0) shapeCasts_S1x4096x2816_S4096x2816)⟩] concatenates_S4096x2816_S4096x2816_S4096x5632_d1)) shapeCasts_S1024x5632_S1024x4x1408) transposes_S1024x4x1408_S4x1024x1408_1_0_2

/-- The reference's element: the sum over all the rows. -/
theorem ref_apply (x : Vec Ideal S4096x1024 .bf16) (y : Vec Ideal S2x4096x2816 .bf16) (a : Fin 4) (p : Fin 1024) (b : Fin 1408) :
    ref x y (ix3 a p b) = Cert.KernelIdeal.Value.prod x y a p b := by
  pointwise [ref, Cert.KernelIdeal.Value.prod, Cert.KernelIdeal.Value.half]
  refine Finset.sum_congr rfl fun k _ => ?_
  congr 1
  split
  · refine congrArg y ?_
    funext d; apply Fin.ext
    match d with
    | ⟨0, _⟩ => show 0 = a.val / 2; omega
    | ⟨1, _⟩ => rfl
    | ⟨2, _⟩ => show a.val * 1408 + b.val = a.val % 2 * 1408 + b.val; omega
  · refine congrArg y ?_
    funext d; apply Fin.ext
    match d with
    | ⟨0, _⟩ => show 1 = a.val / 2; omega
    | ⟨1, _⟩ => rfl
    | ⟨2, _⟩ => show a.val * 1408 + b.val - 2816 = a.val % 2 * 1408 + b.val; omega

/-- Kernel and reference end with equal results. -/
theorem algebraic : Cert.algebraic_KernelIdeal_ReferenceIdeal := by
  intro m ρ m' ρ' _ hagree
  refine ⟨fun c => Cert.KernelIdeal.Value.G2 m c, Cert.KernelIdeal.Value.run m ρ, ?_⟩
  refine (θ_run _ _ _).mono (fun _ h c => ?_) (Cert.ReferenceIdeal.Value.run m' ρ')
  refine ⟨(h c).1.trans ?_, (h c).2⟩
  rw [(hagree c).1, (hagree c).2]
  refine funext fun (j : S4x1024x1408.Idx) => ?_
  obtain ⟨a, p, b, rfl⟩ : ∃ (a : Fin 4) (p : Fin 1024) (b : Fin 1408), j = ix3 a p b := ⟨j 0, j 1, j 2, eq_ix3 j⟩
  exact (ref_apply _ _ a p b).trans (Cert.KernelIdeal.Value.G2_apply m c a p b).symm

/-- The frames of the three programs. -/
theorem frame_p : Cert.quiescent_Kernel := fun m ρ _ => Cert.Kernel.Gen.frame m ρ
theorem frame_i : Cert.quiescent_KernelIdeal := fun m ρ _ => Cert.KernelIdeal.Gen.frame m ρ
theorem frame_r : Cert.quiescent_ReferenceIdeal := fun m ρ _ =>
  (θ_run _ _ _).mono (fun r h => ⟨fun c => (h c).2, sem_eq_zero_of_no_sems (by decide) r.2⟩)
    (Cert.ReferenceIdeal.Value.run m ρ)

end Cert.UpDw

end
-- ==== Proof.ConvTrip.lean ====
/- The gradient of the convolution and its gate: what one trip of the kernel's first loop computes from the blocks it
   reads, at the vectors' level. -/
module

public import proofs.«01_k».proof.Proof.Gen.Kernel2Ideal.Frame.Runs
public import Idealize.ShloMosaic.Lib.Pointwise

@[expose] public section

set_option maxRecDepth 16384

noncomputable section

namespace Cert.Kernel2Ideal.Conv

open Cert.Kernel2Ideal Cert.Kernel2Ideal.Gen Idealize.ShloMosaic Idealize.ShloMosaic.TcCoe Idealize.SL.Sem

variable {F : FTy → Type} [FloatOps F]

/-- Rows `256·k …` of a block of columns, -/
def strip (x : Vec F S4096x128 .f32) (k : Fin k0_t1_loop.trips) : Vec F S256x128 .f32 :=
  View.ld x (Rect.unit (k0_off1 k) S256x128.size (k0_off1_inb k))

/-- and the eight rows before them (the first eight rows, at the first strip). -/
def before (x : Vec F S4096x128 .f32) (k : Fin k0_t1_loop.trips) : Vec F S8x128 .f32 :=
  View.ld x (Rect.unit (k0_off2 k) S8x128.size (k0_off2_inb k))

/-- The three taps' weights and the bias. -/
def tap0 (w : Vec F S3x128 .f32) : Vec F S1x128 .f32 := View.ld w (Rect.unit ![0, 0] S1x128.size inb_S3x128_S1x128_0_0)
def tap1 (w : Vec F S3x128 .f32) : Vec F S1x128 .f32 := View.ld w (Rect.unit ![1, 0] S1x128.size inb_S3x128_S1x128_1_0)
def tap2 (w : Vec F S3x128 .f32) : Vec F S1x128 .f32 := View.ld w (Rect.unit ![2, 0] S1x128.size inb_S3x128_S1x128_2_0)
def bias (b : Vec F S1x128 .f32) : Vec F S1x128 .f32 := View.ld b (Rect.unit ![0, 0] S1x128.size inb_S1x128_S1x128_0_0)

/-- The rows two and one before each row of a strip, for the gate's columns -/
def back2 (x : Vec F S4096x128 .f32) (k : Fin k0_t1_loop.trips) : FVec F S256x128 .f32 := k0_pay9 0#32 1#32 k (strip x k) (before x k)
def back1 (x : Vec F S4096x128 .f32) (k : Fin k0_t1_loop.trips) : FVec F S256x128 .f32 := k0_pay8 0#32 1#32 k (strip x k) (before x k)

/-- and for the value's. -/
def vback2 (x : Vec F S4096x128 .f32) (k : Fin k0_t1_loop.trips) : FVec F S256x128 .f32 := k0_pay13 (Scf.iv 0#32 1#32 k) (strip x k) (before x k)
def vback1 (x : Vec F S4096x128 .f32) (k : Fin k0_t1_loop.trips) : FVec F S256x128 .f32 := k0_pay12 (Scf.iv 0#32 1#32 k) (strip x k) (before x k)

/-- The convolution's gate columns on a strip. -/
def gate (x0 : Vec F S4096x128 .f32) (x3 : Vec F S3x128 .f32) (x5 : Vec F S1x128 .f32) (k : Fin k0_t1_loop.trips) : FVec F S256x128 .f32 :=
  k0_pay10 0#32 1#32 k (strip x0 k) (before x0 k) (tap0 x3) (tap1 x3) (tap2 x3) (bias x5)

/-- The gradient with respect to the gate on a strip, -/
def dgate (x0 : Vec F S4096x128 .f32) (x1 : Vec F S4096x128 .f32) (x2 : Vec F S4096x128 .f32) (x3 : Vec F S3x128 .f32) (x4 : Vec F S3x128 .f32) (x5 : Vec F S1x128 .f32) (x6 : Vec F S1x128 .f32) (k : Fin k0_t1_loop.trips) : FVec F S256x128 .f32 :=
  k0_pay15 (Scf.iv 0#32 1#32 k) (gate x0 x3 x5 k) (strip x1 k) (before x1 k) (tap0 x4) (tap1 x4) (tap2 x4) (bias x6) (strip x2 k)

/-- and with respect to the value. -/
def dval (x0 : Vec F S4096x128 .f32) (x2 : Vec F S4096x128 .f32) (x3 : Vec F S3x128 .f32) (x5 : Vec F S1x128 .f32) (k : Fin k0_t1_loop.trips) : FVec F S256x128 .f32 :=
  k0_pay16 (gate x0 x3 x5 k) (strip x2 k)

/-- The sum of a strip's groups of eight rows. -/
def fold8 (v : FVec F S256x128 .f32) : FVec F S8x128 .f32 :=
  addf (addf (addf (addf (addf (addf (addf (addf (addf (addf (addf (addf (addf (addf (addf (addf (addf (addf (addf (addf (addf (addf (addf (addf (addf (addf (addf (addf (addf (addf (addf (extractStridedSlice S8x128 ![0, 0] v slices_S256x128_o0_0_S8x128) (extractStridedSlice S8x128 ![8, 0] v slices_S256x128_o8_0_S8x128)) (extractStridedSlice S8x128 ![16, 0] v slices_S256x128_o16_0_S8x128)) (extractStridedSlice S8x128 ![24, 0] v slices_S256x128_o24_0_S8x128)) (extractStridedSlice S8x128 ![32, 0] v slices_S256x128_o32_0_S8x128)) (extractStridedSlice S8x128 ![40, 0] v slices_S256x128_o40_0_S8x128)) (extractStridedSlice S8x128 ![48, 0] v slices_S256x128_o48_0_S8x128)) (extractStridedSlice S8x128 ![56, 0] v slices_S256x128_o56_0_S8x128)) (extractStridedSlice S8x128 ![64, 0] v slices_S256x128_o64_0_S8x128)) (extractStridedSlice S8x128 ![72, 0] v slices_S256x128_o72_0_S8x128)) (extractStridedSlice S8x128 ![80, 0] v slices_S256x128_o80_0_S8x128)) (extractStridedSlice S8x128 ![88, 0] v slices_S256x128_o88_0_S8x128)) (extractStridedSlice S8x128 ![96, 0] v slices_S256x128_o96_0_S8x128)) (extractStridedSlice S8x128 ![104, 0] v slices_S256x128_o104_0_S8x128)) (extractStridedSlice S8x128 ![112, 0] v slices_S256x128_o112_0_S8x128)) (extractStridedSlice S8x128 ![120, 0] v slices_S256x128_o120_0_S8x128)) (extractStridedSlice S8x128 ![128, 0] v slices_S256x128_o128_0_S8x128)) (extractStridedSlice S8x128 ![136, 0] v slices_S256x128_o136_0_S8x128)) (extractStridedSlice S8x128 ![144, 0] v slices_S256x128_o144_0_S8x128)) (extractStridedSlice S8x128 ![152, 0] v slices_S256x128_o152_0_S8x128)) (extractStridedSlice S8x128 ![160, 0] v slices_S256x128_o160_0_S8x128)) (extractStridedSlice S8x128 ![168, 0] v slices_S256x128_o168_0_S8x128)) (extractStridedSlice S8x128 ![176, 0] v slices_S256x128_o176_0_S8x128)) (extractStridedSlice S8x128 ![184, 0] v slices_S256x128_o184_0_S8x128)) (extractStridedSlice S8x128 ![192, 0] v slices_S256x128_o192_0_S8x128)) (extractStridedSlice S8x128 ![200, 0] v slices_S256x128_o200_0_S8x128)) (extractStridedSlice S8x128 ![208, 0] v slices_S256x128_o208_0_S8x128)) (extractStridedSlice S8x128 ![216, 0] v slices_S256x128_o216_0_S8x128)) (extractStridedSlice S8x128 ![224, 0] v slices_S256x128_o224_0_S8x128)) (extractStridedSlice S8x128 ![232, 0] v slices_S256x128_o232_0_S8x128)) (extractStridedSlice S8x128 ![240, 0] v slices_S256x128_o240_0_S8x128)) (extractStridedSlice S8x128 ![248, 0] v slices_S256x128_o248_0_S8x128)

/-- A trip's contribution to the eight running sums. -/
def step (x0 : Vec F S4096x128 .f32) (x1 : Vec F S4096x128 .f32) (x2 : Vec F S4096x128 .f32) (x3 : Vec F S3x128 .f32) (x4 : Vec F S3x128 .f32) (x5 : Vec F S1x128 .f32) (x6 : Vec F S1x128 .f32) (k : Fin k0_t1_loop.trips) (acc : FVec F S8x128 .f32 × FVec F S8x128 .f32 × FVec F S8x128 .f32 × FVec F S8x128 .f32 × FVec F S8x128 .f32 × FVec F S8x128 .f32 × FVec F S8x128 .f32 × FVec F S8x128 .f32) : FVec F S8x128 .f32 × FVec F S8x128 .f32 × FVec F S8x128 .f32 × FVec F S8x128 .f32 × FVec F S8x128 .f32 × FVec F S8x128 .f32 × FVec F S8x128 .f32 × FVec F S8x128 .f32 :=
  (addf acc.1 (fold8 (mulf (dgate x0 x1 x2 x3 x4 x5 x6 k) (back2 x0 k))),
   addf acc.2.1 (fold8 (mulf (dgate x0 x1 x2 x3 x4 x5 x6 k) (back1 x0 k))),
   addf acc.2.2.1 (fold8 (mulf (dgate x0 x1 x2 x3 x4 x5 x6 k) (strip x0 k))),
   addf acc.2.2.2.1 (fold8 (mulf (dval x0 x2 x3 x5 k) (vback2 x1 k))),
   addf acc.2.2.2.2.1 (fold8 (mulf (dval x0 x2 x3 x5 k) (vback1 x1 k))),
   addf acc.2.2.2.2.2.1 (fold8 (mulf (dval x0 x2 x3 x5 k) (strip x1 k))),
   addf acc.2.2.2.2.2.2.1 (fold8 (dgate x0 x1 x2 x3 x4 x5 x6 k)),
   addf acc.2.2.2.2.2.2.2 (fold8 (dval x0 x2 x3 x5 k)))

section Trip

variable (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S3x128 .f32) (harg4 : arg4.IsWhole) (arg5 : Memref sig .tc .vmem S3x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2x4096x128 .bf16) (harg8 : arg8.IsWhole) (arg9 : Memref sig .tc .vmem S2x3x128 .f32) (harg9 : arg9.IsWhole) (arg10 : Memref sig .tc .vmem S2x1x128 .f32) (harg10 : arg10.IsWhole) (arg11 : Memref sig .tc .vmem S4104x128 .f32) (harg11 : arg11.IsWhole) (arg12 : Memref sig .tc .vmem S4104x128 .f32) (harg12 : arg12.IsWhole)
variable (x0 : Vec F S4096x128 .f32) (x1 : Vec F S4096x128 .f32) (x2 : Vec F S4096x128 .f32) (x3 : Vec F S3x128 .f32) (x4 : Vec F S3x128 .f32) (x5 : Vec F S1x128 .f32) (x6 : Vec F S1x128 .f32) (k : Fin k0_t1_loop.trips)

/-- One trip's sums. -/
theorem trip_sums (acc : FVec F S8x128 .f32 × FVec F S8x128 .f32 × FVec F S8x128 .f32 × FVec F S8x128 .f32 × FVec F S8x128 .f32 × FVec F S8x128 .f32 × FVec F S8x128 .f32 × FVec F S8x128 .f32) : (trip_k0_t1 (F := F) 𝒱 c bd i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg4.unread x3) (harg5.unread x4) (harg6.unread x5) (harg7.unread x6) k).1 acc = step x0 x1 x2 x3 x4 x5 x6 k acc := by
  unfold trip_k0_t1
  dsimp only
  unfold step
  simp only [Prod.mk.injEq]
  refine ⟨?_, ?_, ?_, ?_, ?_, ?_, ?_, ?_⟩
  all_goals
    sl_unfold_run_names
    simp only [View.readAt_eq_ld, harg1.read_unread, harg2.read_unread, harg3.read_unread, harg4.read_unread, harg5.read_unread, harg6.read_unread, harg7.read_unread]
    rfl

/-- The store of a strip of the gate's gradient -/
def putGate (x0 : Vec F S4096x128 .f32) (x1 : Vec F S4096x128 .f32) (x2 : Vec F S4096x128 .f32) (x3 : Vec F S3x128 .f32) (x4 : Vec F S3x128 .f32) (x5 : Vec F S1x128 .f32) (x6 : Vec F S1x128 .f32) (k : Fin k0_t1_loop.trips) : View.Piece (Elt F) S4104x128 .f32 :=
  ⟨Rect.unit (k0_off3 k) ![256, 128] (k0_off3_inb k), dgate x0 x1 x2 x3 x4 x5 x6 k⟩

/-- and of the value's. -/
def putVal (x0 : Vec F S4096x128 .f32) (x2 : Vec F S4096x128 .f32) (x3 : Vec F S3x128 .f32) (x5 : Vec F S1x128 .f32) (k : Fin k0_t1_loop.trips) : View.Piece (Elt F) S4104x128 .f32 :=
  ⟨Rect.unit (k0_off3 k) ![256, 128] (k0_off3_inb k), dval x0 x2 x3 x5 k⟩

/-- One trip's store of the gate's gradient -/
theorem trip_gate (acc : FVec F S8x128 .f32 × FVec F S8x128 .f32 × FVec F S8x128 .f32 × FVec F S8x128 .f32 × FVec F S8x128 .f32 × FVec F S8x128 .f32 × FVec F S8x128 .f32 × FVec F S8x128 .f32) : (trip_k0_t1 (F := F) 𝒱 c bd i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg4.unread x3) (harg5.unread x4) (harg6.unread x5) (harg7.unread x6) k).2.1 acc = [putGate x0 x1 x2 x3 x4 x5 x6 k] := by
  unfold trip_k0_t1
  dsimp only
  sl_unfold_run_names
  simp only [View.readAt_eq_ld, harg1.read_unread, harg2.read_unread, harg3.read_unread, harg4.read_unread, harg5.read_unread, harg6.read_unread, harg7.read_unread]
  simp only [k0_pay17, shapeCast_self]
  rfl

/-- and of the value's. -/
theorem trip_val (acc : FVec F S8x128 .f32 × FVec F S8x128 .f32 × FVec F S8x128 .f32 × FVec F S8x128 .f32 × FVec F S8x128 .f32 × FVec F S8x128 .f32 × FVec F S8x128 .f32 × FVec F S8x128 .f32) : (trip_k0_t1 (F := F) 𝒱 c bd i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg4.unread x3) (harg5.unread x4) (harg6.unread x5) (harg7.unread x6) k).2.2.1 acc = [putVal x0 x2 x3 x5 k] := by
  unfold trip_k0_t1
  dsimp only
  sl_unfold_run_names
  simp only [View.readAt_eq_ld, harg1.read_unread, harg2.read_unread, harg3.read_unread, harg4.read_unread, harg5.read_unread, harg6.read_unread, harg7.read_unread]
  simp only [k0_pay18, shapeCast_self]
  rfl

end Trip

end Cert.Kernel2Ideal.Conv

end
-- ==== Proof.ConvState.lean ====
/- The gradient of the convolution and its gate: what the kernel's two loops leave after all their trips — the running
   sums, the two scratches (whatever they held before), and the stores of the gradient of the convolution's argument. -/
module

public import proofs.«01_k».proof.Proof.ConvTrip
public import Idealize.ShloMosaic.Lib.WritesUnit

@[expose] public section

set_option maxRecDepth 16384

noncomputable section

namespace Cert.Kernel2Ideal.Conv

open Cert.Kernel2Ideal Cert.Kernel2Ideal.Gen Idealize.ShloMosaic Idealize.ShloMosaic.TcCoe Idealize.SL.Sem

variable {F : FTy → Type} [FloatOps F]

/-- The eight running sums before trip `n`. -/
def sums (x0 : Vec F S4096x128 .f32) (x1 : Vec F S4096x128 .f32) (x2 : Vec F S4096x128 .f32) (x3 : Vec F S3x128 .f32) (x4 : Vec F S3x128 .f32) (x5 : Vec F S1x128 .f32) (x6 : Vec F S1x128 .f32) (init : FVec F S8x128 .f32 × FVec F S8x128 .f32 × FVec F S8x128 .f32 × FVec F S8x128 .f32 × FVec F S8x128 .f32 × FVec F S8x128 .f32 × FVec F S8x128 .f32 × FVec F S8x128 .f32) : ℕ → FVec F S8x128 .f32 × FVec F S8x128 .f32 × FVec F S8x128 .f32 × FVec F S8x128 .f32 × FVec F S8x128 .f32 × FVec F S8x128 .f32 × FVec F S8x128 .f32 × FVec F S8x128 .f32
  | 0 => init
  | n + 1 => if h : n < k0_t1_loop.trips then step x0 x1 x2 x3 x4 x5 x6 ⟨n, h⟩ (sums x0 x1 x2 x3 x4 x5 x6 init n) else sums x0 x1 x2 x3 x4 x5 x6 init n

/-- The stores of the gate's gradient before trip `n`, the newest first, -/
def gates (x0 : Vec F S4096x128 .f32) (x1 : Vec F S4096x128 .f32) (x2 : Vec F S4096x128 .f32) (x3 : Vec F S3x128 .f32) (x4 : Vec F S3x128 .f32) (x5 : Vec F S1x128 .f32) (x6 : Vec F S1x128 .f32) : ℕ → List (View.Piece (Elt F) S4104x128 .f32)
  | 0 => []
  | n + 1 => if h : n < k0_t1_loop.trips then putGate x0 x1 x2 x3 x4 x5 x6 ⟨n, h⟩ :: gates x0 x1 x2 x3 x4 x5 x6 n else gates x0 x1 x2 x3 x4 x5 x6 n

/-- and of the value's. -/
def vals (x0 : Vec F S4096x128 .f32) (x2 : Vec F S4096x128 .f32) (x3 : Vec F S3x128 .f32) (x5 : Vec F S1x128 .f32) : ℕ → List (View.Piece (Elt F) S4104x128 .f32)
  | 0 => []
  | n + 1 => if h : n < k0_t1_loop.trips then putVal x0 x2 x3 x5 ⟨n, h⟩ :: vals x0 x2 x3 x5 n else vals x0 x2 x3 x5 n

/-- Strips stacked into an array, eight rows of zeros after them. -/
def stack (d : Fin k0_t1_loop.trips → FVec F S256x128 .f32) : Vec F S4104x128 .f32 := fun y =>
  if h : (y (0 : Fin 2)).val < 4096 then
    d ⟨(y (0 : Fin 2)).val / 256, by have : k0_t1_loop.trips = 16 := by decide
                                     omega⟩ (ix2 ⟨(y (0 : Fin 2)).val % 256, by omega⟩ (y (1 : Fin 2)))
  else k0_pay4 (k0_pay199 (F := F)) (ix2 ⟨(y (0 : Fin 2)).val - 4096, by have := (y (0 : Fin 2)).isLt; change _ < 4104 at this; omega⟩ (y (1 : Fin 2)))

/-- The scratches after the first loop. -/
def gateAll (x0 : Vec F S4096x128 .f32) (x1 : Vec F S4096x128 .f32) (x2 : Vec F S4096x128 .f32) (x3 : Vec F S3x128 .f32) (x4 : Vec F S3x128 .f32) (x5 : Vec F S1x128 .f32) (x6 : Vec F S1x128 .f32) : Vec F S4104x128 .f32 := stack (dgate x0 x1 x2 x3 x4 x5 x6)
def valAll (x0 : Vec F S4096x128 .f32) (x2 : Vec F S4096x128 .f32) (x3 : Vec F S3x128 .f32) (x5 : Vec F S1x128 .f32) : Vec F S4104x128 .f32 := stack (dval x0 x2 x3 x5)

section Stored

variable (a : Memref sig .tc .vmem S4104x128 .f32) (f : a.view.ty.Contents (Elt F))

/-- Strips stored one after another read back as the array they stack to. -/
theorem read_strips (d : Fin k0_t1_loop.trips → FVec F S256x128 .f32) (L : ℕ → List (View.Piece (Elt F) S4104x128 .f32)) (h0 : L 0 = [])
    (hL : ∀ k : Fin k0_t1_loop.trips, L (k.val + 1) = ⟨Rect.unit (k0_off3 k) ![256, 128] (k0_off3_inb k), d k⟩ :: L k.val)
    (n : ℕ) (hn : n ≤ k0_t1_loop.trips) (y : S4104x128.Idx) (hy : (y (0 : Fin 2)).val < 256 * n) :
    a.view.read (Elt F) (a.view.writes (Elt F) f (L n)) y = stack d y := by
  induction n with
  | zero => omega
  | succ n ih =>
    rw [hL ⟨n, hn⟩]
    by_cases hc : (y (0 : Fin 2)).val < 256 * n
    · refine (View.read_writes_cons_rows_of_not_mem a.view f (k0_off3_inb ⟨n, hn⟩) (d ⟨n, hn⟩) (L n) y (k0_off3_eq ⟨n, hn⟩) rfl (Or.inl hc)).trans ?_
      exact ih (by omega) hc
    · have h16 : k0_t1_loop.trips = 16 := by decide
      have hq : (y (0 : Fin 2)).val / 256 = n := by omega
      refine (View.read_writes_cons_rows_of_mem a.view f (k0_off3_inb ⟨n, hn⟩) (d ⟨n, hn⟩) (L n) y
        (ix2 ⟨(y (0 : Fin 2)).val % 256, Nat.mod_lt _ (by decide)⟩ (y (1 : Fin 2))) (k0_off3_eq ⟨n, hn⟩) (by show _ = 256 * n + (y (0 : Fin 2)).val % 256; omega) rfl).trans ?_
      unfold stack
      rw [dif_pos (by omega)]
      exact congrFun (congrArg d (Fin.ext hq.symm)) _

/-- With the zeros stored after them. -/
theorem read_stack (d : Fin k0_t1_loop.trips → FVec F S256x128 .f32) (L : ℕ → List (View.Piece (Elt F) S4104x128 .f32)) (h0 : L 0 = [])
    (hL : ∀ k : Fin k0_t1_loop.trips, L (k.val + 1) = ⟨Rect.unit (k0_off3 k) ![256, 128] (k0_off3_inb k), d k⟩ :: L k.val) :
    a.view.read (Elt F) (a.view.writes (Elt F) f
      ((⟨Rect.unit ![4096, 0] ![8, 128] inb_S4104x128_S8x128_4096_0, k0_pay4 (k0_pay199 (F := F))⟩ : View.Piece (Elt F) S4104x128 .f32) :: L 16)) = stack d := by
  funext y
  have h16 : k0_t1_loop.trips = 16 := by decide
  have hy := (y (0 : Fin 2)).isLt
  change _ < 4104 at hy
  by_cases hc : (y (0 : Fin 2)).val < 4096
  · refine (View.read_writes_cons_rows_of_not_mem a.view f inb_S4104x128_S8x128_4096_0 (k0_pay4 (k0_pay199 (F := F))) (L 16) y rfl rfl (Or.inl hc)).trans ?_
    exact read_strips a f d L h0 hL 16 (by omega) y (by omega)
  · refine (View.read_writes_cons_rows_of_mem a.view f inb_S4104x128_S8x128_4096_0 (k0_pay4 (k0_pay199 (F := F))) (L 16) y
        (ix2 ⟨(y (0 : Fin 2)).val - 4096, by show _ < 8; omega⟩ (y (1 : Fin 2))) rfl (by show _ = 4096 + ((y (0 : Fin 2)).val - 4096); omega) rfl).trans ?_
    unfold stack
    rw [dif_neg hc]

end Stored

theorem gates_succ (x0 : Vec F S4096x128 .f32) (x1 : Vec F S4096x128 .f32) (x2 : Vec F S4096x128 .f32) (x3 : Vec F S3x128 .f32) (x4 : Vec F S3x128 .f32) (x5 : Vec F S1x128 .f32) (x6 : Vec F S1x128 .f32) (k : Fin k0_t1_loop.trips) : gates x0 x1 x2 x3 x4 x5 x6 (k.val + 1) = putGate x0 x1 x2 x3 x4 x5 x6 k :: gates x0 x1 x2 x3 x4 x5 x6 k.val := by
  rw [gates]; exact dif_pos k.isLt

theorem vals_succ (x0 : Vec F S4096x128 .f32) (x2 : Vec F S4096x128 .f32) (x3 : Vec F S3x128 .f32) (x5 : Vec F S1x128 .f32) (k : Fin k0_t1_loop.trips) : vals x0 x2 x3 x5 (k.val + 1) = putVal x0 x2 x3 x5 k :: vals x0 x2 x3 x5 k.val := by
  rw [vals]; exact dif_pos k.isLt

theorem sums_succ (x0 : Vec F S4096x128 .f32) (x1 : Vec F S4096x128 .f32) (x2 : Vec F S4096x128 .f32) (x3 : Vec F S3x128 .f32) (x4 : Vec F S3x128 .f32) (x5 : Vec F S1x128 .f32) (x6 : Vec F S1x128 .f32) (init : FVec F S8x128 .f32 × FVec F S8x128 .f32 × FVec F S8x128 .f32 × FVec F S8x128 .f32 × FVec F S8x128 .f32 × FVec F S8x128 .f32 × FVec F S8x128 .f32 × FVec F S8x128 .f32) (k : Fin k0_t1_loop.trips) : sums x0 x1 x2 x3 x4 x5 x6 init (k.val + 1) = step x0 x1 x2 x3 x4 x5 x6 k (sums x0 x1 x2 x3 x4 x5 x6 init k.val) := by
  rw [sums]; exact dif_pos k.isLt

/-- The rows `256·k …` of a scratch and the eight after them. -/
def here (d : Vec F S4104x128 .f32) (k : Fin k0_t2_loop.trips) : Vec F S256x128 .f32 :=
  View.ld d (Rect.unit (k0_off4 k) S256x128.size (k0_off4_inb k))
def after (d : Vec F S4104x128 .f32) (k : Fin k0_t2_loop.trips) : Vec F S8x128 .f32 :=
  View.ld d (Rect.unit (k0_off5 k) S8x128.size (k0_off5_inb k))

/-- The rows of the gradient of the convolution's argument that a trip of the second loop stores: the gate's columns -/
def outGate (d : Vec F S4104x128 .f32) (w : Vec F S3x128 .f32) (k : Fin k0_t2_loop.trips) : FVec F S1x256x128 .bf16 :=
  k0_pay195 (here d k) (after d k) (tap2 w) (tap1 w) (tap0 w)

/-- and the value's. -/
def outVal (d : Vec F S4104x128 .f32) (w : Vec F S3x128 .f32) (k : Fin k0_t2_loop.trips) : FVec F S1x256x128 .bf16 :=
  k0_pay6 (here d k) (k0_pay197 (here d k) (after d k)) (k0_pay198 (here d k) (after d k)) (tap2 w) (tap1 w) (tap0 w)

/-- All the stores of the second loop before trip `n`, the newest first. -/
def outs (d e : Vec F S4104x128 .f32) (x3 x4 : Vec F S3x128 .f32) : ℕ → List (View.Piece (Elt F) S2x4096x128 .bf16)
  | 0 => []
  | n + 1 => if h : n < k0_t2_loop.trips then
      (⟨Rect.unit (k0_off7 ⟨n, h⟩) ![1, 256, 128] (k0_off7_inb ⟨n, h⟩), outVal e x4 ⟨n, h⟩⟩ : View.Piece (Elt F) S2x4096x128 .bf16)
        :: (⟨Rect.unit (k0_off6 ⟨n, h⟩) ![1, 256, 128] (k0_off6_inb ⟨n, h⟩), outGate d x3 ⟨n, h⟩⟩ : View.Piece (Elt F) S2x4096x128 .bf16)
        :: outs d e x3 x4 n
    else outs d e x3 x4 n

section State

variable (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S3x128 .f32) (harg4 : arg4.IsWhole) (arg5 : Memref sig .tc .vmem S3x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2x4096x128 .bf16) (harg8 : arg8.IsWhole) (arg9 : Memref sig .tc .vmem S2x3x128 .f32) (harg9 : arg9.IsWhole) (arg10 : Memref sig .tc .vmem S2x1x128 .f32) (harg10 : arg10.IsWhole) (arg11 : Memref sig .tc .vmem S4104x128 .f32) (harg11 : arg11.IsWhole) (arg12 : Memref sig .tc .vmem S4104x128 .f32) (harg12 : arg12.IsWhole)

/-- The first loop's state, the blocks read being `x0 …`. -/
theorem state_eq (x0 : Vec F S4096x128 .f32) (x1 : Vec F S4096x128 .f32) (x2 : Vec F S4096x128 .f32) (x3 : Vec F S3x128 .f32) (x4 : Vec F S3x128 .f32) (x5 : Vec F S1x128 .f32) (x6 : Vec F S1x128 .f32) (init : FVec F S8x128 .f32 × FVec F S8x128 .f32 × FVec F S8x128 .f32 × FVec F S8x128 .f32 × FVec F S8x128 .f32 × FVec F S8x128 .f32 × FVec F S8x128 .f32 × FVec F S8x128 .f32) (n : ℕ) (hn : n ≤ k0_t1_loop.trips) :
    st_k0_t1 (F := F) 𝒱 c bd i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg4.unread x3) (harg5.unread x4) (harg6.unread x5) (harg7.unread x6) init n = (sums x0 x1 x2 x3 x4 x5 x6 init n, gates x0 x1 x2 x3 x4 x5 x6 n, vals x0 x2 x3 x5 n) := by
  induction n with
  | zero => rfl
  | succ n ih =>
    refine (st_k0_t1_succ 𝒱 c bd i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg4.unread x3) (harg5.unread x4) (harg6.unread x5) (harg7.unread x6) init ⟨n, hn⟩).trans ?_
    rw [ih (by omega), sums_succ x0 x1 x2 x3 x4 x5 x6 init ⟨n, hn⟩, gates_succ x0 x1 x2 x3 x4 x5 x6 ⟨n, hn⟩, vals_succ x0 x2 x3 x5 ⟨n, hn⟩]
    dsimp only [tripR_k0_t1, tripL_k0_t1]
    rw [trip_sums, trip_gate, trip_val]
    rfl

/-- One trip of the second loop, the scratches read being `d` and `e`. -/
theorem trip2_eq (x3 x4 : Vec F S3x128 .f32) (d e : Vec F S4104x128 .f32) (k : Fin k0_t2_loop.trips) :
    (trip_k0_t2 (F := F) 𝒱 c bd i arg1 harg1 arg2 harg2 arg3 harg3 arg4 harg4 arg5 harg5 arg6 harg6 arg7 harg7 arg8 harg8 arg9 harg9 arg10 harg10 arg11 harg11 arg12 harg12 (harg4.unread x3) (harg5.unread x4) (harg11.unread d) (harg12.unread e) k).1 =
      [(⟨Rect.unit (k0_off7 k) ![1, 256, 128] (k0_off7_inb k), outVal e x4 k⟩ : View.Piece (Elt F) S2x4096x128 .bf16),
       (⟨Rect.unit (k0_off6 k) ![1, 256, 128] (k0_off6_inb k), outGate d x3 k⟩ : View.Piece (Elt F) S2x4096x128 .bf16)] := by
  unfold trip_k0_t2
  dsimp only
  sl_unfold_run_names
  simp only [View.readAt_eq_ld, harg4.read_unread, harg5.read_unread, harg11.read_unread, harg12.read_unread]
  rfl

/-- The second loop's stores. -/
theorem outs_eq (x3 x4 : Vec F S3x128 .f32) (d e : Vec F S4104x128 .f32) (n : ℕ) (hn : n ≤ k0_t2_loop.trips) :
    pb_k0_t2 (F := F) 𝒱 c bd i arg1 harg1 arg2 harg2 arg3 harg3 arg4 harg4 arg5 harg5 arg6 harg6 arg7 harg7 arg8 harg8 arg9 harg9 arg10 harg10 arg11 harg11 arg12 harg12 (harg4.unread x3) (harg5.unread x4) (harg11.unread d) (harg12.unread e) n = outs d e x3 x4 n := by
  induction n with
  | zero => rfl
  | succ n ih =>
    refine (pb_k0_t2_succ 𝒱 c bd i arg1 harg1 arg2 harg2 arg3 harg3 arg4 harg4 arg5 harg5 arg6 harg6 arg7 harg7 arg8 harg8 arg9 harg9 arg10 harg10 arg11 harg11 arg12 harg12 (harg4.unread x3) (harg5.unread x4) (harg11.unread d) (harg12.unread e) ⟨n, hn⟩).trans ?_
    rw [ih (by omega)]
    dsimp only [tripL_k0_t2]
    have hn' : n < k0_t2_loop.trips := hn
    rw [trip2_eq, outs, dif_pos hn']
    rfl

/-- What the first scratch holds when the second loop starts, whatever it held before, -/
theorem scratch_gate (x0 : Vec F S4096x128 .f32) (x1 : Vec F S4096x128 .f32) (x2 : Vec F S4096x128 .f32) (x3 : Vec F S3x128 .f32) (x4 : Vec F S3x128 .f32) (x5 : Vec F S1x128 .f32) (x6 : Vec F S1x128 .f32) (init : FVec F S8x128 .f32 × FVec F S8x128 .f32 × FVec F S8x128 .f32 × FVec F S8x128 .f32 × FVec F S8x128 .f32 × FVec F S8x128 .f32 × FVec F S8x128 .f32 × FVec F S8x128 .f32) (f : arg11.view.ty.Contents (Elt F)) :
    arg11.view.writes (Elt F) f ((⟨Rect.unit ![4096, 0] ![8, 128] inb_S4104x128_S8x128_4096_0, k0_pay4 (k0_pay199 (F := F))⟩ : View.Piece (Elt F) S4104x128 .f32)
      :: (st_k0_t1 (F := F) 𝒱 c bd i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg4.unread x3) (harg5.unread x4) (harg6.unread x5) (harg7.unread x6) init 16).2.1) = harg11.unread (gateAll x0 x1 x2 x3 x4 x5 x6) := by
  rw [state_eq 𝒱 c bd i arg1 harg1 arg2 harg2 arg3 harg3 arg4 harg4 arg5 harg5 arg6 harg6 arg7 harg7 arg8 harg8 arg9 harg9 arg10 harg10 arg11 harg11 arg12 harg12 x0 x1 x2 x3 x4 x5 x6 init 16 (by decide)]
  exact harg11.eq_unread (read_stack arg11 f (dgate x0 x1 x2 x3 x4 x5 x6) (gates x0 x1 x2 x3 x4 x5 x6) rfl (gates_succ x0 x1 x2 x3 x4 x5 x6))

/-- and the second. -/
theorem scratch_val (x0 : Vec F S4096x128 .f32) (x1 : Vec F S4096x128 .f32) (x2 : Vec F S4096x128 .f32) (x3 : Vec F S3x128 .f32) (x4 : Vec F S3x128 .f32) (x5 : Vec F S1x128 .f32) (x6 : Vec F S1x128 .f32) (init : FVec F S8x128 .f32 × FVec F S8x128 .f32 × FVec F S8x128 .f32 × FVec F S8x128 .f32 × FVec F S8x128 .f32 × FVec F S8x128 .f32 × FVec F S8x128 .f32 × FVec F S8x128 .f32) (f : arg12.view.ty.Contents (Elt F)) :
    arg12.view.writes (Elt F) f ((⟨Rect.unit ![4096, 0] ![8, 128] inb_S4104x128_S8x128_4096_0, k0_pay5 (k0_pay199 (F := F))⟩ : View.Piece (Elt F) S4104x128 .f32)
      :: (st_k0_t1 (F := F) 𝒱 c bd i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg4.unread x3) (harg5.unread x4) (harg6.unread x5) (harg7.unread x6) init 16).2.2) = harg12.unread (valAll x0 x2 x3 x5) := by
  rw [state_eq 𝒱 c bd i arg1 harg1 arg2 harg2 arg3 harg3 arg4 harg4 arg5 harg5 arg6 harg6 arg7 harg7 arg8 harg8 arg9 harg9 arg10 harg10 arg11 harg11 arg12 harg12 x0 x1 x2 x3 x4 x5 x6 init 16 (by decide)]
  exact harg12.eq_unread (read_stack arg12 f (dval x0 x2 x3 x5) (vals x0 x2 x3 x5) rfl (vals_succ x0 x2 x3 x5))

end State

end Cert.Kernel2Ideal.Conv

end
-- ==== Proof.ConvSpec.lean ====
/- The gradient of the convolution and its gate, one column at a time over the extended reals: the mathematics both
   programs are compared against. -/
module

public import Idealize.ShloMosaic.Lib.Pointwise

@[expose] public section

noncomputable section

namespace Cert.ConvSpec

open Idealize.ShloMosaic

/-- A column delayed by `d` rows, zero before the first row. -/
def lag (f : Fin 4096 → EReal) (d : ℕ) (t : Fin 4096) : EReal := if h : d ≤ t.val then f ⟨t.val - d, by omega⟩ else 0

/-- A column advanced by `d` rows, zero after the last row. -/
def lead (f : Fin 4096 → EReal) (d : ℕ) (t : Fin 4096) : EReal := if h : t.val + d < 4096 then f ⟨t.val + d, h⟩ else 0

/-- A column of the causal three-tap convolution. -/
def conv (w : Fin 3 → EReal) (b : EReal) (f : Fin 4096 → EReal) (t : Fin 4096) : EReal :=
  w 0 * lag f 2 t + w 1 * lag f 1 t + w 2 * f t + b

/-- The gradient with respect to the gate `g`, the other factor being `v` and the incoming gradient `a`, -/
def dgate (a g v : EReal) : EReal := a * v * (Ideal.logistic g * (1 + g * (1 - Ideal.logistic g)))

/-- and with respect to the other factor. -/
def dval (a g : EReal) : EReal := a * (g * Ideal.logistic g)

/-- The gradient with respect to the convolution's argument, from the gradient `f` with respect to its result. -/
def dconv (w : Fin 3 → EReal) (f : Fin 4096 → EReal) (t : Fin 4096) : EReal :=
  w 2 * f t + w 1 * lead f 1 t + w 0 * lead f 2 t

/-- Column `q` of half `h` of the convolution's columns. -/
abbrev cat (h : Fin 2) (q : Fin 2816) : Fin 5632 := ⟨2816 * h.val + q.val, by omega⟩

section Arrays

variable (u : Fin 4096 → Fin 5632 → EReal) (da : Fin 4096 → Fin 2816 → EReal) (w : Fin 3 → Fin 5632 → EReal) (b : Fin 5632 → EReal)

/-- The convolution of column `j`. -/
def Y (j : Fin 5632) (t : Fin 4096) : EReal := conv (fun i => w i j) (b j) (fun t => u t j) t

/-- The gradient with respect to the convolution's column `q` of half `h`: the gate's columns, then the value's. -/
def DY (h : Fin 2) (q : Fin 2816) (t : Fin 4096) : EReal :=
  if h.val = 0 then dgate (da t q) (Y u w b (cat 0 q) t) (Y u w b (cat 1 q) t) else dval (da t q) (Y u w b (cat 0 q) t)

/-- The gradients with respect to the argument, the weights and the bias. -/
def DU (h : Fin 2) (t : Fin 4096) (q : Fin 2816) : EReal := dconv (fun i => w i (cat h q)) (DY u da w b h q) t
def DW (h : Fin 2) (j : Fin 3) (q : Fin 2816) : EReal := ∑ t : Fin 4096, DY u da w b h q t * lag (fun t => u t (cat h q)) (2 - j.val) t
def DB (h : Fin 2) (q : Fin 2816) : EReal := ∑ t : Fin 4096, DY u da w b h q t

end Arrays

/-- Rows in strips of 256, each in groups of eight: the sum over a column, regrouped the way the running sums take it. -/
theorem sum_strips (f : Fin 4096 → EReal) :
    ∑ s : Fin 8, ∑ k : Fin 16, ∑ g : Fin 32, f ⟨256 * k.val + (8 * g.val + s.val), by omega⟩ = ∑ t : Fin 4096, f t := by
  let e : Fin 8 × Fin 16 × Fin 32 ≃ Fin 4096 :=
    { toFun := fun p => ⟨256 * p.2.1.val + (8 * p.2.2.val + p.1.val), by omega⟩
      invFun := fun t => (⟨t.val % 8, by omega⟩, ⟨t.val / 256, by omega⟩, ⟨t.val / 8 % 32, by omega⟩)
      left_inv := fun p => by
        refine Prod.ext (Fin.ext ?_) (Prod.ext (Fin.ext ?_) (Fin.ext ?_)) <;> dsimp only <;> omega
      right_inv := fun t => by apply Fin.ext; dsimp only; omega }
  rw [← Equiv.sum_comp e f, Fintype.sum_prod_type]
  refine Finset.sum_congr rfl fun s _ => ?_
  rw [Fintype.sum_prod_type]
  rfl

end Cert.ConvSpec

end
-- ==== Proof.ConvPoint.lean ====
/- The gradient of the convolution and its gate: the kernel's strips at an index, over the extended reals. -/
module

public import proofs.«01_k».proof.Proof.ConvState
public import proofs.«01_k».proof.Proof.ConvSpec
public import Idealize.ShloMosaic.Lib.Pipeline.ValueKit.Tiles

@[expose] public section

set_option maxRecDepth 16384

noncomputable section

namespace Cert.Kernel2Ideal.Conv

open Cert.Kernel2Ideal Cert.Kernel2Ideal.Gen Idealize.ShloMosaic Idealize.ShloMosaic.TcCoe Idealize.SL.Sem

/-- A column of a block, -/
abbrev col (x : Vec Ideal S4096x128 .f32) (l : Fin 128) : Fin 4096 → EReal := fun t => x (ix2 t l)

/-- the three weights of a column, -/
abbrev wcol (w : Vec Ideal S3x128 .f32) (l : Fin 128) : Fin 3 → EReal := fun i => w (ix2 i l)

/-- and the row of a block that is row `r` of strip `k`. -/
abbrev row (k : Fin k0_t1_loop.trips) (r : Fin 256) : Fin 4096 :=
  ⟨256 * k.val + r.val, by have : k.val < 16 := k.isLt; omega⟩

/-- The three taps and the bias at an index. -/
theorem tap0_apply (w : Vec Ideal S3x128 .f32) (z : Fin 1) (l : Fin 128) : tap0 w (ix2 z l) = wcol w l 0 :=
  View.ld_unit_apply_of w ![0, 0] S1x128.size inb_S3x128_S1x128_0_0 (ix2 z l) (ix2 0 l) fun a => by
    match a with
    | ⟨0, _⟩ => show 0 = 0 + z.val; omega
    | ⟨1, _⟩ => show l.val = 0 + l.val; omega
theorem tap1_apply (w : Vec Ideal S3x128 .f32) (z : Fin 1) (l : Fin 128) : tap1 w (ix2 z l) = wcol w l 1 :=
  View.ld_unit_apply_of w ![1, 0] S1x128.size inb_S3x128_S1x128_1_0 (ix2 z l) (ix2 1 l) fun a => by
    match a with
    | ⟨0, _⟩ => show 1 = 1 + z.val; omega
    | ⟨1, _⟩ => show l.val = 0 + l.val; omega
theorem tap2_apply (w : Vec Ideal S3x128 .f32) (z : Fin 1) (l : Fin 128) : tap2 w (ix2 z l) = wcol w l 2 :=
  View.ld_unit_apply_of w ![2, 0] S1x128.size inb_S3x128_S1x128_2_0 (ix2 z l) (ix2 2 l) fun a => by
    match a with
    | ⟨0, _⟩ => show 2 = 2 + z.val; omega
    | ⟨1, _⟩ => show l.val = 0 + l.val; omega
theorem bias_apply (b : Vec Ideal S1x128 .f32) (z : Fin 1) (l : Fin 128) : bias b (ix2 z l) = b (ix2 z l) :=
  View.ld_unit_apply_of b ![0, 0] S1x128.size inb_S1x128_S1x128_0_0 (ix2 z l) (ix2 z l) fun a => by
    match a with
    | ⟨0, _⟩ => show z.val = 0 + z.val; omega
    | ⟨1, _⟩ => show l.val = 0 + l.val; omega

/-- A strip at an index, -/
theorem strip_apply (x : Vec Ideal S4096x128 .f32) (k : Fin k0_t1_loop.trips) (r : Fin 256) (l : Fin 128) :
    strip x k (ix2 r l) = col x l (row k r) :=
  View.ld_unit_apply_of x (k0_off1 k) S256x128.size (k0_off1_inb k) (ix2 r l) (ix2 (row k r) l) fun a => by
    refine Eq.trans ?_ (congrArg (· + (ix2 r l a).val) (congrFun (k0_off1_eq k).symm a))
    match a with
    | ⟨0, _⟩ => rfl
    | ⟨1, _⟩ => show l.val = 0 + l.val; omega

/-- and the rows before it. -/
theorem before_apply (x : Vec Ideal S4096x128 .f32) (k : Fin k0_t1_loop.trips) (hk : 0 < k.val) (r : Fin 8) (l : Fin 128) (t : Fin 4096)
    (ht : t.val + 8 = 256 * k.val + r.val) : before x k (ix2 r l) = col x l t :=
  View.ld_unit_apply_of x (k0_off2 k) S8x128.size (k0_off2_inb k) (ix2 r l) (ix2 t l) fun a => by
    refine Eq.trans ?_ (congrArg (· + (ix2 r l a).val) (congrFun ((by decide +kernel : ∀ k : Fin k0_t1_loop.trips, k0_off2 k = ![256 * k.val - 8, 0]) k).symm a))
    match a with
    | ⟨0, _⟩ => show t.val = 256 * k.val - 8 + r.val; omega
    | ⟨1, _⟩ => show l.val = 0 + l.val; omega

/-- The test that a strip is not the first. -/
theorem first_test (k : Fin k0_t1_loop.trips) : Scalar.cmpi .sgt (Scf.iv 0#32 1#32 k) 0#32 = if k.val = 0 then 0#1 else 1#1 :=
  (by decide +kernel : ∀ k : Fin k0_t1_loop.trips, Scalar.cmpi .sgt (Scf.iv 0#32 1#32 k) 0#32 = if k.val = 0 then 0#1 else 1#1) k

/-- Rows rotated by `n` read at an index. -/
theorem rot_apply (n : BitVec 32) (v : FVec Ideal S264x128 .f32) (r : Fin 264) (l : Fin 128) (q : Fin 264)
    (hq : (r.val + 264 - n.toNat % 264) % 264 = q.val) : dynamicRotate 0 n none v rotates_S264x128_d0 (ix2 r l) = v (ix2 q l) := by
  unfold dynamicRotate
  show v _ = v _
  congr 1
  funext b
  match b with
  | ⟨0, _⟩ => exact Fin.ext hq
  | ⟨1, _⟩ => rfl

/-- The strip with the eight rows before it, zeros before the first strip. -/
theorem pay7_apply (x : Vec Ideal S4096x128 .f32) (k : Fin k0_t1_loop.trips) (r : Fin 264) (l : Fin 128) (d : ℕ) (r' : Fin 256) (hr : r.val + d = r'.val + 8) (hd : d ≤ 8) :
    k0_pay7 0#32 1#32 k (strip x k) (before x k) (ix2 r l) = ConvSpec.lag (col x l) d (row k r') := by
  have hk16 : k.val < 16 := k.isLt
  unfold ConvSpec.lag
  pointwise [k0_pay7]
  by_cases h8 : r.val < 8
  · simp only [dif_pos h8]
    rw [first_test]
    by_cases hk : k.val = 0
    · rw [if_pos hk, dif_neg (by show ¬ d ≤ 256 * k.val + r'.val; omega)]
      rfl
    · rw [if_neg hk, dif_pos (by show d ≤ 256 * k.val + r'.val; omega)]
      exact before_apply x k (by omega) _ l _ (by show 256 * k.val + r'.val - d + 8 = 256 * k.val + r.val; omega)
  · simp only [dif_neg h8]
    rw [dif_pos (by show d ≤ 256 * k.val + r'.val; omega)]
    refine (strip_apply x k _ l).trans ?_
    exact congrArg (col x l) (Fin.ext (by show 256 * k.val + (r.val - 8) = 256 * k.val + r'.val - d; omega))

/-- Rows `8 …` of a rotated array. -/
theorem rot8_apply (n : BitVec 32) (hn : n.toNat ≤ 8) (v : FVec Ideal S264x128 .f32) (r : Fin 256) (l : Fin 128) :
    extractStridedSlice S256x128 ![8, 0] (dynamicRotate 0 n none v rotates_S264x128_d0) slices_S264x128_o8_0_S256x128 (ix2 r l) =
      v (ix2 ⟨r.val + 8 - n.toNat, by omega⟩ l) := by
  pointwise []
  refine congrArg (fun q => v (ix2 q l)) (Fin.ext ?_)
  show (8 + r.val + 264 - n.toNat % 264) % 264 = r.val + 8 - n.toNat
  omega

theorem back2_apply (x : Vec Ideal S4096x128 .f32) (k : Fin k0_t1_loop.trips) (r : Fin 256) (l : Fin 128) :
    back2 x k (ix2 r l) = ConvSpec.lag (col x l) 2 (row k r) :=
  (rot8_apply 2#32 (by decide) _ r l).trans (pay7_apply x k _ l 2 r (by show r.val + 8 - 2 + 2 = r.val + 8; omega) (by omega))

theorem back1_apply (x : Vec Ideal S4096x128 .f32) (k : Fin k0_t1_loop.trips) (r : Fin 256) (l : Fin 128) :
    back1 x k (ix2 r l) = ConvSpec.lag (col x l) 1 (row k r) :=
  (rot8_apply 1#32 (by decide) _ r l).trans (pay7_apply x k _ l 1 r (by show r.val + 8 - 1 + 1 = r.val + 8; omega) (by omega))

theorem vback2_apply (x : Vec Ideal S4096x128 .f32) (k : Fin k0_t1_loop.trips) (r : Fin 256) (l : Fin 128) :
    vback2 x k (ix2 r l) = ConvSpec.lag (col x l) 2 (row k r) := back2_apply x k r l

theorem vback1_apply (x : Vec Ideal S4096x128 .f32) (k : Fin k0_t1_loop.trips) (r : Fin 256) (l : Fin 128) :
    vback1 x k (ix2 r l) = ConvSpec.lag (col x l) 1 (row k r) := back1_apply x k r l

/-- The convolution on a strip, at an index. -/
theorem gate_apply (x0 : Vec Ideal S4096x128 .f32) (x3 : Vec Ideal S3x128 .f32) (x5 : Vec Ideal S1x128 .f32) (k : Fin k0_t1_loop.trips) (r : Fin 256) (l : Fin 128) :
    gate x0 x3 x5 k (ix2 r l) = ConvSpec.conv (wcol x3 l) (x5 (ix2 0 l)) (col x0 l) (row k r) := by
  have h2 := back2_apply x0 k r l
  have h1 := back1_apply x0 k r l
  unfold back2 at h2
  unfold back1 at h1
  pointwise [gate, k0_pay10]
  rw [h2, h1, tap0_apply, tap1_apply, tap2_apply, bias_apply, strip_apply]
  rfl

/-- The gradient with respect to the gate on a strip, at an index, -/
theorem dgate_apply (x0 x1 x2 : Vec Ideal S4096x128 .f32) (x3 x4 : Vec Ideal S3x128 .f32) (x5 x6 : Vec Ideal S1x128 .f32) (k : Fin k0_t1_loop.trips) (r : Fin 256) (l : Fin 128) :
    dgate x0 x1 x2 x3 x4 x5 x6 k (ix2 r l) = ConvSpec.dgate (col x2 l (row k r)) (ConvSpec.conv (wcol x3 l) (x5 (ix2 0 l)) (col x0 l) (row k r))
      (ConvSpec.conv (wcol x4 l) (x6 (ix2 0 l)) (col x1 l) (row k r)) := by
  have h2 := vback2_apply x1 k r l
  have h1 := vback1_apply x1 k r l
  unfold vback2 at h2
  unfold vback1 at h1
  pointwise [dgate, k0_pay15, k0_pay14]
  rw [h2, h1, tap0_apply, tap1_apply, tap2_apply, bias_apply, strip_apply, strip_apply, gate_apply]
  rfl

/-- and with respect to the value. -/
theorem dval_apply (x0 x2 : Vec Ideal S4096x128 .f32) (x3 : Vec Ideal S3x128 .f32) (x5 : Vec Ideal S1x128 .f32) (k : Fin k0_t1_loop.trips) (r : Fin 256) (l : Fin 128) :
    dval x0 x2 x3 x5 k (ix2 r l) = ConvSpec.dval (col x2 l (row k r)) (ConvSpec.conv (wcol x3 l) (x5 (ix2 0 l)) (col x0 l) (row k r)) := by
  pointwise [dval, k0_pay16, k0_pay14]
  rw [strip_apply, gate_apply]
  rfl

/-- The sum of groups of eight rows at an index. -/
theorem fold8_apply (v : FVec Ideal S256x128 .f32) (r : Fin 8) (l : Fin 128) :
    fold8 v (ix2 r l) = ∑ g : Fin 32, v (ix2 ⟨8 * g.val + r.val, by omega⟩ l) := by
  have h : ∀ f : Fin 32 → EReal, ∑ g : Fin 32, f g = f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 + f 31 := by
    intro f
    simp only [Fin.sum_univ_castSucc, Fin.sum_univ_zero, zero_add]
    rfl
  rw [h]
  pointwise [fold8]

end Cert.Kernel2Ideal.Conv

end
-- ==== Proof.ConvRun.lean ====
module

public import proofs.«01_k».proof.Proof.Gen.Kernel2Ideal.Frame.Runs
public import proofs.«01_k».proof.Proof.ConvState

@[expose] public section

-- membership in a rectangle of production extents (`View.cover_of_tiled`): the elaborator's structural look
-- recurses once per coordinate of the long axes
set_option maxRecDepth 16384

noncomputable section

namespace Cert.Kernel2Ideal.Conv

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The second loop's stores, the scratches being what the first loop left in them over any contents. -/
theorem stores_eq (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S3x128 .f32) (harg4 : arg4.IsWhole) (arg5 : Memref sig .tc .vmem S3x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2x4096x128 .bf16) (harg8 : arg8.IsWhole) (arg9 : Memref sig .tc .vmem S2x3x128 .f32) (harg9 : arg9.IsWhole) (arg10 : Memref sig .tc .vmem S2x1x128 .f32) (harg10 : arg10.IsWhole) (arg11 : Memref sig .tc .vmem S4104x128 .f32) (harg11 : arg11.IsWhole) (arg12 : Memref sig .tc .vmem S4104x128 .f32) (harg12 : arg12.IsWhole) (x0 : Vec F S4096x128 .f32) (x1 : Vec F S4096x128 .f32) (x2 : Vec F S4096x128 .f32) (x3 : Vec F S3x128 .f32) (x4 : Vec F S3x128 .f32) (x5 : Vec F S1x128 .f32) (x6 : Vec F S1x128 .f32) (f : arg8.view.ty.Contents (Elt F)) (fs0 : arg11.view.ty.Contents (Elt F)) (fs1 : arg12.view.ty.Contents (Elt F)) :
    arg8.view.writes (Elt F) f (pb_k0_t2 (F := F) Variants.none c none i arg1 harg1 arg2 harg2 arg3 harg3 arg4 harg4 arg5 harg5 arg6 harg6 arg7 harg7 arg8 harg8 arg9 harg9 arg10 harg10 arg11 harg11 arg12 harg12 (harg4.unread x3) (harg5.unread x4)
      (arg11.view.writes (Elt F) fs0 ((⟨Rect.unit ![4096, 0] ![8, 128] inb_S4104x128_S8x128_4096_0, k0_pay4 (k0_pay199 (F := F))⟩ : View.Piece (Elt F) S4104x128 .f32) :: (st_k0_t1 (F := F) Variants.none c none i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg4.unread x3) (harg5.unread x4) (harg6.unread x5) (harg7.unread x6) (k0_pay199, k0_pay199, k0_pay199, k0_pay199, k0_pay199, k0_pay199, k0_pay199, k0_pay199) 16).2.1))
      (arg12.view.writes (Elt F) fs1 ((⟨Rect.unit ![4096, 0] ![8, 128] inb_S4104x128_S8x128_4096_0, k0_pay5 (k0_pay199 (F := F))⟩ : View.Piece (Elt F) S4104x128 .f32) :: (st_k0_t1 (F := F) Variants.none c none i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg4.unread x3) (harg5.unread x4) (harg6.unread x5) (harg7.unread x6) (k0_pay199, k0_pay199, k0_pay199, k0_pay199, k0_pay199, k0_pay199, k0_pay199, k0_pay199) 16).2.2)) 16)
    = arg8.view.writes (Elt F) f (outs (gateAll x0 x1 x2 x3 x4 x5 x6) (valAll x0 x2 x3 x5) x3 x4 16) := by
  rw [scratch_gate Variants.none c none i arg1 harg1 arg2 harg2 arg3 harg3 arg4 harg4 arg5 harg5 arg6 harg6 arg7 harg7 arg8 harg8 arg9 harg9 arg10 harg10 arg11 harg11 arg12 harg12 x0 x1 x2 x3 x4 x5 x6, scratch_val Variants.none c none i arg1 harg1 arg2 harg2 arg3 harg3 arg4 harg4 arg5 harg5 arg6 harg6 arg7 harg7 arg8 harg8 arg9 harg9 arg10 harg10 arg11 harg11 arg12 harg12 x0 x1 x2 x3 x4 x5 x6, outs_eq Variants.none c none i arg1 harg1 arg2 harg2 arg3 harg3 arg4 harg4 arg5 harg5 arg6 harg6 arg7 harg7 arg8 harg8 arg9 harg9 arg10 harg10 arg11 harg11 arg12 harg12 x3 x4 _ _ 16 (by decide)]

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S3x128 .f32) (harg4 : arg4.IsWhole) (arg5 : Memref sig .tc .vmem S3x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2x4096x128 .bf16) (harg8 : arg8.IsWhole) (arg9 : Memref sig .tc .vmem S2x3x128 .f32) (harg9 : arg9.IsWhole) (arg10 : Memref sig .tc .vmem S2x1x128 .f32) (harg10 : arg10.IsWhole) (arg11 : Memref sig .tc .vmem S4104x128 .f32) (harg11 : arg11.IsWhole) (arg12 : Memref sig .tc .vmem S4104x128 .f32) (harg12 : arg12.IsWhole)
    (x0 : Vec F S4096x128 .f32) (x1 : Vec F S4096x128 .f32) (x2 : Vec F S4096x128 .f32) (x3 : Vec F S3x128 .f32) (x4 : Vec F S3x128 .f32) (x5 : Vec F S1x128 .f32) (x6 : Vec F S1x128 .f32) :
    Σ' (L7 : List (View.Piece (Elt F) S2x4096x128 .bf16)), Σ' (L8 : List (View.Piece (Elt F) S2x3x128 .f32)), { L9 : List (View.Piece (Elt F) S2x1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ d, owns (c : Thread nD τ) arg11 fullShare d) ∗ (∃ d, owns (c : Thread nD τ) arg12 fullShare d)) -∗ K ⟨⟩))
          ⊢ wp frame (wpE (defs₀ (F := F)) Variants.none c none) E (cc0_conv_glu_bwd_l1 i arg1 harg1 arg2 harg2 arg3 harg3 arg4 harg4 arg5 harg5 arg6 harg6 arg7 harg7 arg8 harg8 arg9 harg9 arg10 harg10 arg11 harg11 arg12 harg12) K } := by
  refine ⟨outs (gateAll x0 x1 x2 x3 x4 x5 x6) (valAll x0 x2 x3 x5) x3 x4 16, ?_, ?_, fun E K => ?run⟩
  case run =>
    simp only [cc0_conv_glu_bwd_l1_eq_skeleton]; unfold cc0_conv_glu_bwd_l1_skel
    simp only [k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists f7
      rw [← stores_eq c i arg1 harg1 arg2 harg2 arg3 harg3 arg4 harg4 arg5 harg5 arg6 harg6 arg7 harg7 arg8 harg8 arg9 harg9 arg10 harg10 arg11 harg11 arg12 harg12 x0 x1 x2 x3 x4 x5 x6 f7 fs0 fs1]
      iexact H7
    isplitl [H8]; · iexists _; iexact H8
    isplitl [H9]; · iexists _; iexact H9
    isplitl [HS0]
    · iexists _, _; isplitr; swap; · iexact HS0
      ipureintro; rfl
    iexists _, _; isplitr; swap; · iexact HS1
    ipureintro; rfl

end Cert.Kernel2Ideal.Conv

end
-- ==== Proof.ConvFrame.lean ====
/- The gradient of the convolution and its gate: the kernel's run over its grid, from the body's run (ConvRun.lean). The
   text follows the one written for a kernel of this class, whose own run of this body does not end: it cannot name the
   second loop's stores without what the scratches held at first. -/
module

public import proofs.«01_k».proof.Proof.ConvRun
public import Idealize.ShloMosaic.Lib.Claim

@[expose] public section

-- membership in a rectangle of production extents (`View.cover_of_tiled`): the elaborator's structural look
-- recurses once per coordinate of the long axes
set_option maxRecDepth 16384

noncomputable section

namespace Cert.Kernel2Ideal.Conv

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem cover0_A_7 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S3x128 .f32) (harg4 : arg4.IsWhole) (arg5 : Memref sig .tc .vmem S3x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2x4096x128 .bf16) (harg8 : arg8.IsWhole) (arg9 : Memref sig .tc .vmem S2x3x128 .f32) (harg9 : arg9.IsWhole) (arg10 : Memref sig .tc .vmem S2x1x128 .f32) (harg10 : arg10.IsWhole) (arg11 : Memref sig .tc .vmem S4104x128 .f32) (harg11 : arg11.IsWhole) (arg12 : Memref sig .tc .vmem S4104x128 .f32) (harg12 : arg12.IsWhole)
    (x0 : Vec F S4096x128 .f32) (x1 : Vec F S4096x128 .f32) (x2 : Vec F S4096x128 .f32) (x3 : Vec F S3x128 .f32) (x4 : Vec F S3x128 .f32) (x5 : Vec F S1x128 .f32) (x6 : Vec F S1x128 .f32) (y : S2x4096x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6).1 S1x256x128.size (by sl_kernel_rfl) y

def out0_A_7 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S3x128 .f32) (harg4 : arg4.IsWhole) (arg5 : Memref sig .tc .vmem S3x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2x4096x128 .bf16) (harg8 : arg8.IsWhole) (arg9 : Memref sig .tc .vmem S2x3x128 .f32) (harg9 : arg9.IsWhole) (arg10 : Memref sig .tc .vmem S2x1x128 .f32) (harg10 : arg10.IsWhole) (arg11 : Memref sig .tc .vmem S4104x128 .f32) (harg11 : arg11.IsWhole) (arg12 : Memref sig .tc .vmem S4104x128 .f32) (harg12 : arg12.IsWhole)
    (x0 : Vec F S4096x128 .f32) (x1 : Vec F S4096x128 .f32) (x2 : Vec F S4096x128 .f32) (x3 : Vec F S3x128 .f32) (x4 : Vec F S3x128 .f32) (x5 : Vec F S1x128 .f32) (x6 : Vec F S1x128 .f32) : Vec F S2x4096x128 .bf16 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6).1)

theorem cover0_A_8 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S3x128 .f32) (harg4 : arg4.IsWhole) (arg5 : Memref sig .tc .vmem S3x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2x4096x128 .bf16) (harg8 : arg8.IsWhole) (arg9 : Memref sig .tc .vmem S2x3x128 .f32) (harg9 : arg9.IsWhole) (arg10 : Memref sig .tc .vmem S2x1x128 .f32) (harg10 : arg10.IsWhole) (arg11 : Memref sig .tc .vmem S4104x128 .f32) (harg11 : arg11.IsWhole) (arg12 : Memref sig .tc .vmem S4104x128 .f32) (harg12 : arg12.IsWhole)
    (x0 : Vec F S4096x128 .f32) (x1 : Vec F S4096x128 .f32) (x2 : Vec F S4096x128 .f32) (x3 : Vec F S3x128 .f32) (x4 : Vec F S3x128 .f32) (x5 : Vec F S1x128 .f32) (x6 : Vec F S1x128 .f32) (y : S2x3x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6).2.1 S1x1x128.size (by sl_kernel_rfl) y

def out0_A_8 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S3x128 .f32) (harg4 : arg4.IsWhole) (arg5 : Memref sig .tc .vmem S3x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2x4096x128 .bf16) (harg8 : arg8.IsWhole) (arg9 : Memref sig .tc .vmem S2x3x128 .f32) (harg9 : arg9.IsWhole) (arg10 : Memref sig .tc .vmem S2x1x128 .f32) (harg10 : arg10.IsWhole) (arg11 : Memref sig .tc .vmem S4104x128 .f32) (harg11 : arg11.IsWhole) (arg12 : Memref sig .tc .vmem S4104x128 .f32) (harg12 : arg12.IsWhole)
    (x0 : Vec F S4096x128 .f32) (x1 : Vec F S4096x128 .f32) (x2 : Vec F S4096x128 .f32) (x3 : Vec F S3x128 .f32) (x4 : Vec F S3x128 .f32) (x5 : Vec F S1x128 .f32) (x6 : Vec F S1x128 .f32) : Vec F S2x3x128 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6).2.1)

theorem cover0_A_9 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S3x128 .f32) (harg4 : arg4.IsWhole) (arg5 : Memref sig .tc .vmem S3x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2x4096x128 .bf16) (harg8 : arg8.IsWhole) (arg9 : Memref sig .tc .vmem S2x3x128 .f32) (harg9 : arg9.IsWhole) (arg10 : Memref sig .tc .vmem S2x1x128 .f32) (harg10 : arg10.IsWhole) (arg11 : Memref sig .tc .vmem S4104x128 .f32) (harg11 : arg11.IsWhole) (arg12 : Memref sig .tc .vmem S4104x128 .f32) (harg12 : arg12.IsWhole)
    (x0 : Vec F S4096x128 .f32) (x1 : Vec F S4096x128 .f32) (x2 : Vec F S4096x128 .f32) (x3 : Vec F S3x128 .f32) (x4 : Vec F S3x128 .f32) (x5 : Vec F S1x128 .f32) (x6 : Vec F S1x128 .f32) (y : S2x1x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6).2.2.1 S1x1x128.size (by sl_kernel_rfl) y

def out0_A_9 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S3x128 .f32) (harg4 : arg4.IsWhole) (arg5 : Memref sig .tc .vmem S3x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2x4096x128 .bf16) (harg8 : arg8.IsWhole) (arg9 : Memref sig .tc .vmem S2x3x128 .f32) (harg9 : arg9.IsWhole) (arg10 : Memref sig .tc .vmem S2x1x128 .f32) (harg10 : arg10.IsWhole) (arg11 : Memref sig .tc .vmem S4104x128 .f32) (harg11 : arg11.IsWhole) (arg12 : Memref sig .tc .vmem S4104x128 .f32) (harg12 : arg12.IsWhole)
    (x0 : Vec F S4096x128 .f32) (x1 : Vec F S4096x128 .f32) (x2 : Vec F S4096x128 .f32) (x3 : Vec F S3x128 .f32) (x4 : Vec F S3x128 .f32) (x5 : Vec F S1x128 .f32) (x6 : Vec F S1x128 .f32) : Vec F S2x1x128 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6).2.2.1)

/-! ## What the outputs hold after each point -/

def outsAt0 (c : Dev nD) (t : Fin cfg0.N) : Vec F S2x4096x128 .bf16 × Vec F S2x3x128 .f32 × Vec F S2x1x128 .f32 :=
  (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t))

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t).1
    | ⟨8, _⟩ => (outsAt0 m c t).2.1
    | ⟨9, _⟩ => (outsAt0 m c t).2.2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t).1 := by dsimp only [dats]
theorem after0_8 (c : Dev nD) (t : Fin cfg0.N) : (dats m 0 c).after 8 t = (outsAt0 m c t).2.1 := by dsimp only [dats]
theorem after0_9 (c : Dev nD) (t : Fin cfg0.N) : (dats m 0 c).after 9 t = (outsAt0 m c t).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 1200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  unfold outsAt0
  unfold out0_A_7 out0_A_8 out0_A_9; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS0]; · iexact HS0
  isplitl [HS1]; · iexact HS1
  iintro ⟨H0, H1, H2, H3, H4, H5, H6, ⟨%e7, H7⟩, ⟨%e8, H8⟩, ⟨%e9, H9⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover0_A_8 c _ _ _ _ _ _ _ _ _ _ _ _ _ _ _ _ _ _ _ _ _ _ _ _ _ _ _ _ _ _ _ _)
  unfold owns; iexists _; isplitr
  swap; · iexact H9
  ipureintro; exact View.read_writes_of_cover _ _ _ _ _ (cover0_A_9 c _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel2Ideal.Conv

end
-- ==== Proof.ConvOut.lean ====
/- The gradient of the convolution and its gate: what one grid point's three output blocks hold, at an index, over the
   extended reals. -/
module

public import proofs.«01_k».proof.Proof.ConvPoint
public import proofs.«01_k».proof.Proof.ConvFrame

@[expose] public section

set_option maxRecDepth 16384

noncomputable section

namespace Cert.Kernel2Ideal.Conv

open Cert.Kernel2Ideal Cert.Kernel2Ideal.Gen Idealize.ShloMosaic Idealize.ShloMosaic.TcCoe Idealize.SL.Sem

/-- The gate's gradient and the value's in a column of the block. -/
def dG (x0 x1 x2 : Vec Ideal S4096x128 .f32) (x3 x4 : Vec Ideal S3x128 .f32) (x5 x6 : Vec Ideal S1x128 .f32) (l : Fin 128) (t : Fin 4096) : EReal :=
  ConvSpec.dgate (col x2 l t) (ConvSpec.conv (wcol x3 l) (x5 (ix2 0 l)) (col x0 l) t) (ConvSpec.conv (wcol x4 l) (x6 (ix2 0 l)) (col x1 l) t)
def dV (x0 x2 : Vec Ideal S4096x128 .f32) (x3 : Vec Ideal S3x128 .f32) (x5 : Vec Ideal S1x128 .f32) (l : Fin 128) (t : Fin 4096) : EReal :=
  ConvSpec.dval (col x2 l t) (ConvSpec.conv (wcol x3 l) (x5 (ix2 0 l)) (col x0 l) t)

/-- Stacked strips at an index. -/
theorem stack_apply (d : Fin k0_t1_loop.trips → FVec Ideal S256x128 .f32) (g : Fin 128 → Fin 4096 → EReal) (hd : ∀ k r l, d k (ix2 r l) = g l (row k r))
    (r : Fin 4104) (l : Fin 128) : stack d (ix2 r l) = if h : r.val < 4096 then g l ⟨r.val, h⟩ else 0 := by
  unfold stack
  by_cases h : r.val < 4096
  · rw [dif_pos h]
    refine (dif_pos h).trans ((hd _ _ l).trans (congrArg (g l) (Fin.ext ?_)))
    show 256 * (r.val / 256) + r.val % 256 = r.val
    omega
  · rw [dif_neg h]
    refine (dif_neg h).trans ?_
    pointwise [k0_pay4, k0_pay199]

theorem gateAll_apply (x0 x1 x2 : Vec Ideal S4096x128 .f32) (x3 x4 : Vec Ideal S3x128 .f32) (x5 x6 : Vec Ideal S1x128 .f32) (r : Fin 4104) (l : Fin 128) :
    gateAll x0 x1 x2 x3 x4 x5 x6 (ix2 r l) = if h : r.val < 4096 then dG x0 x1 x2 x3 x4 x5 x6 l ⟨r.val, h⟩ else 0 :=
  stack_apply _ (dG x0 x1 x2 x3 x4 x5 x6) (dgate_apply x0 x1 x2 x3 x4 x5 x6) r l

theorem valAll_apply (x0 x2 : Vec Ideal S4096x128 .f32) (x3 : Vec Ideal S3x128 .f32) (x5 : Vec Ideal S1x128 .f32) (r : Fin 4104) (l : Fin 128) :
    valAll x0 x2 x3 x5 (ix2 r l) = if h : r.val < 4096 then dV x0 x2 x3 x5 l ⟨r.val, h⟩ else 0 :=
  stack_apply _ (dV x0 x2 x3 x5) (dval_apply x0 x2 x3 x5) r l

/-- The row of a block that is row `r` of strip `k` of the second loop. -/
abbrev row2 (k : Fin k0_t2_loop.trips) (r : Fin 256) : Fin 4096 :=
  ⟨256 * k.val + r.val, by have : k.val < 16 := k.isLt; omega⟩

theorem here_apply (d : Vec Ideal S4104x128 .f32) (k : Fin k0_t2_loop.trips) (r : Fin 256) (l : Fin 128) (t : Fin 4104) (ht : t.val = 256 * k.val + r.val) :
    here d k (ix2 r l) = d (ix2 t l) :=
  View.ld_unit_apply_of d (k0_off4 k) S256x128.size (k0_off4_inb k) (ix2 r l) (ix2 t l) fun a => by
    refine Eq.trans ?_ (congrArg (· + (ix2 r l a).val) (congrFun ((by decide +kernel : ∀ k : Fin k0_t2_loop.trips, k0_off4 k = ![256 * k.val, 0]) k).symm a))
    match a with
    | ⟨0, _⟩ => exact ht
    | ⟨1, _⟩ => show l.val = 0 + l.val; omega

theorem after_apply (d : Vec Ideal S4104x128 .f32) (k : Fin k0_t2_loop.trips) (r : Fin 8) (l : Fin 128) (t : Fin 4104) (ht : t.val = 256 * k.val + 256 + r.val) :
    after d k (ix2 r l) = d (ix2 t l) :=
  View.ld_unit_apply_of d (k0_off5 k) S8x128.size (k0_off5_inb k) (ix2 r l) (ix2 t l) fun a => by
    refine Eq.trans ?_ (congrArg (· + (ix2 r l a).val) (congrFun ((by decide +kernel : ∀ k : Fin k0_t2_loop.trips, k0_off5 k = ![256 * k.val + 256, 0]) k).symm a))
    match a with
    | ⟨0, _⟩ => exact ht
    | ⟨1, _⟩ => show l.val = 0 + l.val; omega

/-- A strip of a scratch with the eight rows after it, -/
theorem pay196_apply (d : Vec Ideal S4104x128 .f32) (k : Fin k0_t2_loop.trips) (r : Fin 264) (l : Fin 128) (t : Fin 4104) (ht : t.val = 256 * k.val + r.val) :
    k0_pay196 (here d k) (after d k) (ix2 r l) = d (ix2 t l) := by
  pointwise [k0_pay196]
  by_cases h : r.val < 256
  · rw [dif_pos h]
    exact here_apply d k _ l t ht
  · rw [dif_neg h]
    exact after_apply d k _ l t (by show t.val = 256 * k.val + 256 + (r.val - 256); omega)

/-- Rows `0 …` of an array rotated nearly all the way. -/
theorem rot0_apply (n : BitVec 32) (hn : 256 ≤ n.toNat) (hn' : n.toNat < 264) (v : FVec Ideal S264x128 .f32) (r : Fin 256) (l : Fin 128) (q : Fin 264) (hq : q.val + n.toNat = r.val + 264) :
    extractStridedSlice S256x128 ![0, 0] (dynamicRotate 0 n none v rotates_S264x128_d0) slices_S264x128_o0_0_S256x128 (ix2 r l) = v (ix2 q l) := by
  pointwise []
  refine congrArg (fun q => v (ix2 q l)) (Fin.ext ?_)
  show (r.val + 264 - n.toNat % 264) % 264 = q.val
  have := q.isLt
  omega

/-- moved up by one and two rows. -/
theorem pay197_apply (d : Vec Ideal S4104x128 .f32) (k : Fin k0_t2_loop.trips) (r : Fin 256) (l : Fin 128) (t : Fin 4104) (ht : t.val = 256 * k.val + r.val + 1) :
    k0_pay197 (here d k) (after d k) (ix2 r l) = d (ix2 t l) :=
  (rot0_apply 263#32 (by decide) (by decide) _ r l ⟨r.val + 1, by omega⟩ (by show r.val + 1 + 263 = r.val + 264; omega)).trans
    (pay196_apply d k _ l t (by show t.val = 256 * k.val + (r.val + 1); omega))

theorem pay198_apply (d : Vec Ideal S4104x128 .f32) (k : Fin k0_t2_loop.trips) (r : Fin 256) (l : Fin 128) (t : Fin 4104) (ht : t.val = 256 * k.val + r.val + 2) :
    k0_pay198 (here d k) (after d k) (ix2 r l) = d (ix2 t l) :=
  (rot0_apply 262#32 (by decide) (by decide) _ r l ⟨r.val + 2, by omega⟩ (by show r.val + 2 + 262 = r.val + 264; omega)).trans
    (pay196_apply d k _ l t (by show t.val = 256 * k.val + (r.val + 2); omega))

/-- The gradient with respect to the convolution's argument on a strip, at an index: the value's columns -/
theorem outVal_apply (d : Vec Ideal S4104x128 .f32) (w : Vec Ideal S3x128 .f32) (g : Fin 128 → Fin 4096 → EReal)
    (hd : ∀ r l, d (ix2 r l) = if h : r.val < 4096 then g l ⟨r.val, h⟩ else 0) (k : Fin k0_t2_loop.trips) (z : Fin 1) (r : Fin 256) (l : Fin 128) :
    outVal d w k (ix3 z r l) = ConvSpec.dconv (wcol w l) (g l) (row2 k r) := by
  have hk16 : k.val < 16 := k.isLt
  have h1 := pay197_apply d k r l ⟨256 * k.val + r.val + 1, by omega⟩ rfl
  have h2 := pay198_apply d k r l ⟨256 * k.val + r.val + 2, by omega⟩ rfl
  have h0 := here_apply d k r l ⟨256 * k.val + r.val, by omega⟩ rfl
  rw [hd] at h0 h1 h2
  pointwise [outVal, k0_pay6]
  rw [h0, h1, h2, tap0_apply, tap1_apply, tap2_apply, dif_pos (by show 256 * k.val + r.val < 4096; omega)]
  rfl

/-- and the gate's. -/
theorem outGate_apply (d : Vec Ideal S4104x128 .f32) (w : Vec Ideal S3x128 .f32) (g : Fin 128 → Fin 4096 → EReal)
    (hd : ∀ r l, d (ix2 r l) = if h : r.val < 4096 then g l ⟨r.val, h⟩ else 0) (k : Fin k0_t2_loop.trips) (z : Fin 1) (r : Fin 256) (l : Fin 128) :
    outGate d w k (ix3 z r l) = ConvSpec.dconv (wcol w l) (g l) (row2 k r) :=
  (congrFun (rfl : outGate d w k = outVal d w k) _).trans (outVal_apply d w g hd k z r l)

/-- What all the stores of the second loop leave, at an index. -/
theorem read_outs {sp : Space} (v : View sig .tc sp S2x4096x128 .bf16) (f : v.ty.Contents (Elt Ideal)) (d e : Vec Ideal S4104x128 .f32) (x3 x4 : Vec Ideal S3x128 .f32)
    (gd ge : Fin 128 → Fin 4096 → EReal)
    (hd : ∀ r l, d (ix2 r l) = if h : r.val < 4096 then gd l ⟨r.val, h⟩ else 0) (he : ∀ r l, e (ix2 r l) = if h : r.val < 4096 then ge l ⟨r.val, h⟩ else 0)
    (n : ℕ) (hn : n ≤ k0_t2_loop.trips) (h : Fin 2) (t : Fin 4096) (ht : t.val < 256 * n) (l : Fin 128) :
    v.read (Elt Ideal) (v.writes (Elt Ideal) f (outs d e x3 x4 n)) (ix3 h t l) =
      if h.val = 0 then ConvSpec.dconv (wcol x3 l) (gd l) t else ConvSpec.dconv (wcol x4 l) (ge l) t := by
  induction n with
  | zero => omega
  | succ n ih =>
    have hn' : n < k0_t2_loop.trips := hn
    have e1 : outs d e x3 x4 (n + 1) =
      (⟨Rect.unit (k0_off7 ⟨n, hn'⟩) ![1, 256, 128] (k0_off7_inb ⟨n, hn'⟩), outVal e x4 ⟨n, hn'⟩⟩ : View.Piece (Elt Ideal) S2x4096x128 .bf16)
        :: (⟨Rect.unit (k0_off6 ⟨n, hn'⟩) ![1, 256, 128] (k0_off6_inb ⟨n, hn'⟩), outGate d x3 ⟨n, hn'⟩⟩ : View.Piece (Elt Ideal) S2x4096x128 .bf16)
        :: outs d e x3 x4 n := by
      rw [outs]
      exact dif_pos hn'
    rw [e1]
    by_cases hc : t.val < 256 * n
    · refine (View.read_writes_cons_unit_of_not_mem v f (k0_off7_inb ⟨n, hn'⟩) _ _ (ix3 h t l) (k0_off7_eq ⟨n, hn'⟩) 1 (Or.inl hc)).trans ?_
      refine (View.read_writes_cons_unit_of_not_mem v f (k0_off6_inb ⟨n, hn'⟩) _ _ (ix3 h t l) (k0_off6_eq ⟨n, hn'⟩) 1 (Or.inl hc)).trans ?_
      exact ih (by omega) hc
    · have hrow : row2 ⟨n, hn'⟩ ⟨t.val - 256 * n, by omega⟩ = t := Fin.ext (by show 256 * n + (t.val - 256 * n) = t.val; omega)
      by_cases h0 : h.val = 0
      · rw [if_pos h0]
        refine (View.read_writes_cons_unit_of_not_mem v f (k0_off7_inb ⟨n, hn'⟩) _ _ (ix3 h t l) (k0_off7_eq ⟨n, hn'⟩) 0 (Or.inl (by show h.val < 1; omega))).trans ?_
        refine (View.read_writes_cons_unit_of_mem v f (k0_off6_inb ⟨n, hn'⟩) _ _ (ix3 h t l) (ix3 (0 : Fin 1) (⟨t.val - 256 * n, by omega⟩ : Fin 256) l) (k0_off6_eq ⟨n, hn'⟩) ?_).trans ?_
        · intro a
          match a with
          | ⟨0, _⟩ => exact h0
          | ⟨1, _⟩ => show t.val = 256 * n + (t.val - 256 * n); omega
          | ⟨2, _⟩ => show l.val = 0 + l.val; omega
        · rw [outGate_apply d x3 gd hd, hrow]
      · rw [if_neg h0]
        refine (View.read_writes_cons_unit_of_mem v f (k0_off7_inb ⟨n, hn'⟩) _ _ (ix3 h t l) (ix3 (0 : Fin 1) (⟨t.val - 256 * n, by omega⟩ : Fin 256) l) (k0_off7_eq ⟨n, hn'⟩) ?_).trans ?_
        · intro a
          match a with
          | ⟨0, _⟩ => show h.val = 1 + 0; omega
          | ⟨1, _⟩ => show t.val = 256 * n + (t.val - 256 * n); omega
          | ⟨2, _⟩ => show l.val = 0 + l.val; omega
        · rw [outVal_apply e x4 ge he, hrow]

/-- A running sum after the sixteen trips. -/
theorem sum_trips (a : ℕ → EReal) (b : Fin 16 → EReal) (h0 : a 0 = 0) (h : ∀ k : Fin 16, a (k.val + 1) = a k.val + b k) : a 16 = ∑ k : Fin 16, b k := by
  have key : ∀ n (hn : n ≤ 16), a n = ∑ k : Fin n, b (Fin.castLE hn k) := by
    intro n
    induction n with
    | zero => intro _; rw [h0]; rfl
    | succ n ih =>
      intro hn
      rw [Fin.sum_univ_castSucc, h ⟨n, by omega⟩, ih (by omega)]
      rfl
  exact key 16 (le_refl _)

/-- One component of the running sums, summed over its eight rows, is the sum over the column. -/
theorem sum_col (a : ℕ → FVec Ideal S8x128 .f32) (d : Fin 16 → FVec Ideal S256x128 .f32) (f : Fin 4096 → EReal) (l : Fin 128)
    (h0 : a 0 = k0_pay199) (h : ∀ k : Fin 16, a (k.val + 1) = addf (a k.val) (fold8 (d k)))
    (hd : ∀ (k : Fin 16) (r : Fin 256), d k (ix2 r l) = f ⟨256 * k.val + r.val, by omega⟩) :
    ∑ s : Fin 8, a 16 (ix2 s l) = ∑ t : Fin 4096, f t := by
  rw [← ConvSpec.sum_strips]
  refine Finset.sum_congr rfl fun s _ => ?_
  refine sum_trips (fun n => a n (ix2 s l)) _ ?_ fun k => ?_
  · rw [h0]
    pointwise [k0_pay199]
  · rw [h k]
    pointwise []
    rw [fold8_apply]
    simp only [hd]

end Cert.Kernel2Ideal.Conv

end
-- ==== Proof.ConvBlock.lean ====
/- The gradient of the convolution and its gate: the stores of the two small outputs, and the three output blocks of one
   grid point at an index. -/
module

public import proofs.«01_k».proof.Proof.ConvOut

@[expose] public section

set_option maxRecDepth 16384

noncomputable section

namespace Cert.Kernel2Ideal.Conv

open Cert.Kernel2Ideal Cert.Kernel2Ideal.Gen Idealize.ShloMosaic Idealize.ShloMosaic.TcCoe Idealize.SL.Sem

variable (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S3x128 .f32) (harg4 : arg4.IsWhole) (arg5 : Memref sig .tc .vmem S3x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2x4096x128 .bf16) (harg8 : arg8.IsWhole) (arg9 : Memref sig .tc .vmem S2x3x128 .f32) (harg9 : arg9.IsWhole) (arg10 : Memref sig .tc .vmem S2x1x128 .f32) (harg10 : arg10.IsWhole) (arg11 : Memref sig .tc .vmem S4104x128 .f32) (harg11 : arg11.IsWhole) (arg12 : Memref sig .tc .vmem S4104x128 .f32) (harg12 : arg12.IsWhole)
variable (x0 x1 x2 : Vec Ideal S4096x128 .f32) (x3 x4 : Vec Ideal S3x128 .f32) (x5 x6 : Vec Ideal S1x128 .f32)

/-- The eight running sums when the first loop is over. -/
abbrev fin : FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 :=
  sums x0 x1 x2 x3 x4 x5 x6 (k0_pay199, k0_pay199, k0_pay199, k0_pay199, k0_pay199, k0_pay199, k0_pay199, k0_pay199) 16

/-- A running sum added over its eight rows, as one row. -/
theorem pay_row (v : FVec Ideal S8x128 .f32) (y z : Fin 1) (l : Fin 128) : k0_pay210 v (ix3 y z l) = ∑ s : Fin 8, v (ix2 s l) := by
  pointwise [k0_pay210]

/-- The stores of the weights' gradient, the newest first: one row for each half and tap, -/
theorem pieces8 : (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6).2.1 =
    [(⟨Rect.unit ![1, 2, 0] ![1, 1, 128] inb_S2x3x128_S1x1x128_1_2_0, k0_pay210 (fin x0 x1 x2 x3 x4 x5 x6).2.2.2.2.2.1⟩ : View.Piece (Elt Ideal) S2x3x128 .f32),
     (⟨Rect.unit ![1, 1, 0] ![1, 1, 128] inb_S2x3x128_S1x1x128_1_1_0, k0_pay210 (fin x0 x1 x2 x3 x4 x5 x6).2.2.2.2.1⟩ : View.Piece (Elt Ideal) S2x3x128 .f32),
     (⟨Rect.unit ![1, 0, 0] ![1, 1, 128] inb_S2x3x128_S1x1x128_1_0_0, k0_pay210 (fin x0 x1 x2 x3 x4 x5 x6).2.2.2.1⟩ : View.Piece (Elt Ideal) S2x3x128 .f32),
     (⟨Rect.unit ![0, 2, 0] ![1, 1, 128] inb_S2x3x128_S1x1x128_0_2_0, k0_pay210 (fin x0 x1 x2 x3 x4 x5 x6).2.2.1⟩ : View.Piece (Elt Ideal) S2x3x128 .f32),
     (⟨Rect.unit ![0, 1, 0] ![1, 1, 128] inb_S2x3x128_S1x1x128_0_1_0, k0_pay210 (fin x0 x1 x2 x3 x4 x5 x6).2.1⟩ : View.Piece (Elt Ideal) S2x3x128 .f32),
     (⟨Rect.unit ![0, 0, 0] ![1, 1, 128] inb_S2x3x128_S1x1x128_0_0_0, k0_pay210 (fin x0 x1 x2 x3 x4 x5 x6).1⟩ : View.Piece (Elt Ideal) S2x3x128 .f32)] := by
  unfold kernelRun0_A
  dsimp only
  sl_unfold_run_names
  rw [show Scf.trips k0_t1_loop.lb k0_t1_loop.ub k0_t1_loop.st = 16 from by decide]
  rw [state_eq Variants.none c none i arg1 harg1 arg2 harg2 arg3 harg3 arg4 harg4 arg5 harg5 arg6 harg6 arg7 harg7 arg8 harg8 arg9 harg9 arg10 harg10 arg11 harg11 arg12 harg12 x0 x1 x2 x3 x4 x5 x6 _ 16 (by decide)]
  rfl

/-- and of the bias's. -/
theorem pieces9 : (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6).2.2.1 =
    [(⟨Rect.unit ![1, 0, 0] ![1, 1, 128] inb_S2x1x128_S1x1x128_1_0_0, k0_pay210 (fin x0 x1 x2 x3 x4 x5 x6).2.2.2.2.2.2.2⟩ : View.Piece (Elt Ideal) S2x1x128 .f32),
     (⟨Rect.unit ![0, 0, 0] ![1, 1, 128] inb_S2x1x128_S1x1x128_0_0_0, k0_pay210 (fin x0 x1 x2 x3 x4 x5 x6).2.2.2.2.2.2.1⟩ : View.Piece (Elt Ideal) S2x1x128 .f32)] := by
  unfold kernelRun0_A
  dsimp only
  sl_unfold_run_names
  rw [show Scf.trips k0_t1_loop.lb k0_t1_loop.ub k0_t1_loop.st = 16 from by decide]
  rw [state_eq Variants.none c none i arg1 harg1 arg2 harg2 arg3 harg3 arg4 harg4 arg5 harg5 arg6 harg6 arg7 harg7 arg8 harg8 arg9 harg9 arg10 harg10 arg11 harg11 arg12 harg12 x0 x1 x2 x3 x4 x5 x6 _ 16 (by decide)]
  rfl

/-- The gradient with respect to the convolution's result in a column of half `h` of the block. -/
abbrev dY (h : Fin 2) (l : Fin 128) (t : Fin 4096) : EReal :=
  if h.val = 0 then dG x0 x1 x2 x3 x4 x5 x6 l t else dV x0 x2 x3 x5 l t

/-- The convolution's argument and weights in half `h`. -/
abbrev xh (h : Fin 2) : Vec Ideal S4096x128 .f32 := if h.val = 0 then x0 else x1
abbrev wh (h : Fin 2) : Vec Ideal S3x128 .f32 := if h.val = 0 then x3 else x4

theorem fin_0 (l : Fin 128) : ∑ s : Fin 8, (fin x0 x1 x2 x3 x4 x5 x6).1 (ix2 s l) = ∑ t : Fin 4096, (fun t => dG x0 x1 x2 x3 x4 x5 x6 l t * ConvSpec.lag (col x0 l) 2 t) t := by
  refine sum_col (fun n => (sums x0 x1 x2 x3 x4 x5 x6 (k0_pay199, k0_pay199, k0_pay199, k0_pay199, k0_pay199, k0_pay199, k0_pay199, k0_pay199) n).1) (fun k => mulf (dgate x0 x1 x2 x3 x4 x5 x6 k) (back2 x0 k)) (fun t => dG x0 x1 x2 x3 x4 x5 x6 l t * ConvSpec.lag (col x0 l) 2 t) l rfl (fun k => ?_) (fun k r => ?_)
  · exact congrArg (fun p => p.1) (sums_succ x0 x1 x2 x3 x4 x5 x6 _ k)
  · exact congrArg₂ (· * ·) (dgate_apply x0 x1 x2 x3 x4 x5 x6 k r l) (back2_apply _ k r l)

theorem fin_1 (l : Fin 128) : ∑ s : Fin 8, (fin x0 x1 x2 x3 x4 x5 x6).2.1 (ix2 s l) = ∑ t : Fin 4096, (fun t => dG x0 x1 x2 x3 x4 x5 x6 l t * ConvSpec.lag (col x0 l) 1 t) t := by
  refine sum_col (fun n => (sums x0 x1 x2 x3 x4 x5 x6 (k0_pay199, k0_pay199, k0_pay199, k0_pay199, k0_pay199, k0_pay199, k0_pay199, k0_pay199) n).2.1) (fun k => mulf (dgate x0 x1 x2 x3 x4 x5 x6 k) (back1 x0 k)) (fun t => dG x0 x1 x2 x3 x4 x5 x6 l t * ConvSpec.lag (col x0 l) 1 t) l rfl (fun k => ?_) (fun k r => ?_)
  · exact congrArg (fun p => p.2.1) (sums_succ x0 x1 x2 x3 x4 x5 x6 _ k)
  · exact congrArg₂ (· * ·) (dgate_apply x0 x1 x2 x3 x4 x5 x6 k r l) (back1_apply _ k r l)

theorem fin_2 (l : Fin 128) : ∑ s : Fin 8, (fin x0 x1 x2 x3 x4 x5 x6).2.2.1 (ix2 s l) = ∑ t : Fin 4096, (fun t => dG x0 x1 x2 x3 x4 x5 x6 l t * col x0 l t) t := by
  refine sum_col (fun n => (sums x0 x1 x2 x3 x4 x5 x6 (k0_pay199, k0_pay199, k0_pay199, k0_pay199, k0_pay199, k0_pay199, k0_pay199, k0_pay199) n).2.2.1) (fun k => mulf (dgate x0 x1 x2 x3 x4 x5 x6 k) (strip x0 k)) (fun t => dG x0 x1 x2 x3 x4 x5 x6 l t * col x0 l t) l rfl (fun k => ?_) (fun k r => ?_)
  · exact congrArg (fun p => p.2.2.1) (sums_succ x0 x1 x2 x3 x4 x5 x6 _ k)
  · exact congrArg₂ (· * ·) (dgate_apply x0 x1 x2 x3 x4 x5 x6 k r l) (strip_apply _ k r l)

theorem fin_3 (l : Fin 128) : ∑ s : Fin 8, (fin x0 x1 x2 x3 x4 x5 x6).2.2.2.1 (ix2 s l) = ∑ t : Fin 4096, (fun t => dV x0 x2 x3 x5 l t * ConvSpec.lag (col x1 l) 2 t) t := by
  refine sum_col (fun n => (sums x0 x1 x2 x3 x4 x5 x6 (k0_pay199, k0_pay199, k0_pay199, k0_pay199, k0_pay199, k0_pay199, k0_pay199, k0_pay199) n).2.2.2.1) (fun k => mulf (dval x0 x2 x3 x5 k) (vback2 x1 k)) (fun t => dV x0 x2 x3 x5 l t * ConvSpec.lag (col x1 l) 2 t) l rfl (fun k => ?_) (fun k r => ?_)
  · exact congrArg (fun p => p.2.2.2.1) (sums_succ x0 x1 x2 x3 x4 x5 x6 _ k)
  · exact congrArg₂ (· * ·) (dval_apply x0 x2 x3 x5 k r l) (vback2_apply _ k r l)

theorem fin_4 (l : Fin 128) : ∑ s : Fin 8, (fin x0 x1 x2 x3 x4 x5 x6).2.2.2.2.1 (ix2 s l) = ∑ t : Fin 4096, (fun t => dV x0 x2 x3 x5 l t * ConvSpec.lag (col x1 l) 1 t) t := by
  refine sum_col (fun n => (sums x0 x1 x2 x3 x4 x5 x6 (k0_pay199, k0_pay199, k0_pay199, k0_pay199, k0_pay199, k0_pay199, k0_pay199, k0_pay199) n).2.2.2.2.1) (fun k => mulf (dval x0 x2 x3 x5 k) (vback1 x1 k)) (fun t => dV x0 x2 x3 x5 l t * ConvSpec.lag (col x1 l) 1 t) l rfl (fun k => ?_) (fun k r => ?_)
  · exact congrArg (fun p => p.2.2.2.2.1) (sums_succ x0 x1 x2 x3 x4 x5 x6 _ k)
  · exact congrArg₂ (· * ·) (dval_apply x0 x2 x3 x5 k r l) (vback1_apply _ k r l)

theorem fin_5 (l : Fin 128) : ∑ s : Fin 8, (fin x0 x1 x2 x3 x4 x5 x6).2.2.2.2.2.1 (ix2 s l) = ∑ t : Fin 4096, (fun t => dV x0 x2 x3 x5 l t * col x1 l t) t := by
  refine sum_col (fun n => (sums x0 x1 x2 x3 x4 x5 x6 (k0_pay199, k0_pay199, k0_pay199, k0_pay199, k0_pay199, k0_pay199, k0_pay199, k0_pay199) n).2.2.2.2.2.1) (fun k => mulf (dval x0 x2 x3 x5 k) (strip x1 k)) (fun t => dV x0 x2 x3 x5 l t * col x1 l t) l rfl (fun k => ?_) (fun k r => ?_)
  · exact congrArg (fun p => p.2.2.2.2.2.1) (sums_succ x0 x1 x2 x3 x4 x5 x6 _ k)
  · exact congrArg₂ (· * ·) (dval_apply x0 x2 x3 x5 k r l) (strip_apply _ k r l)

theorem fin_6 (l : Fin 128) : ∑ s : Fin 8, (fin x0 x1 x2 x3 x4 x5 x6).2.2.2.2.2.2.1 (ix2 s l) = ∑ t : Fin 4096, (dG x0 x1 x2 x3 x4 x5 x6 l) t := by
  refine sum_col (fun n => (sums x0 x1 x2 x3 x4 x5 x6 (k0_pay199, k0_pay199, k0_pay199, k0_pay199, k0_pay199, k0_pay199, k0_pay199, k0_pay199) n).2.2.2.2.2.2.1) (dgate x0 x1 x2 x3 x4 x5 x6) (dG x0 x1 x2 x3 x4 x5 x6 l) l rfl (fun k => ?_) (fun k r => ?_)
  · exact congrArg (fun p => p.2.2.2.2.2.2.1) (sums_succ x0 x1 x2 x3 x4 x5 x6 _ k)
  · exact dgate_apply x0 x1 x2 x3 x4 x5 x6 k r l

theorem fin_7 (l : Fin 128) : ∑ s : Fin 8, (fin x0 x1 x2 x3 x4 x5 x6).2.2.2.2.2.2.2 (ix2 s l) = ∑ t : Fin 4096, (dV x0 x2 x3 x5 l) t := by
  refine sum_col (fun n => (sums x0 x1 x2 x3 x4 x5 x6 (k0_pay199, k0_pay199, k0_pay199, k0_pay199, k0_pay199, k0_pay199, k0_pay199, k0_pay199) n).2.2.2.2.2.2.2) (dval x0 x2 x3 x5) (dV x0 x2 x3 x5 l) l rfl (fun k => ?_) (fun k r => ?_)
  · exact congrArg (fun p => p.2.2.2.2.2.2.2) (sums_succ x0 x1 x2 x3 x4 x5 x6 _ k)
  · exact dval_apply x0 x2 x3 x5 k r l

/-- The block of the convolution's argument's gradient a point leaves, at an index, -/
theorem out7_apply (h : Fin 2) (t : Fin 4096) (l : Fin 128) : out0_A_7 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 (ix3 h t l) =
    ConvSpec.dconv (wcol (wh x3 x4 h) l) (dY x0 x1 x2 x3 x4 x5 x6 h l) t := by
  unfold out0_A_7
  refine (read_outs VO0_7 VO0_7.junk _ _ x3 x4 (dG x0 x1 x2 x3 x4 x5 x6) (dV x0 x2 x3 x5) (gateAll_apply x0 x1 x2 x3 x4 x5 x6) (valAll_apply x0 x2 x3 x5) 16 (by decide) h t (by omega) l).trans ?_
  by_cases h0 : h.val = 0
  · have e : dY x0 x1 x2 x3 x4 x5 x6 h l = dG x0 x1 x2 x3 x4 x5 x6 l := funext fun t => if_pos h0
    rw [e]
    simp only [wh, if_pos h0]
  · have e : dY x0 x1 x2 x3 x4 x5 x6 h l = dV x0 x2 x3 x5 l := funext fun t => if_neg h0
    rw [e]
    simp only [wh, if_neg h0]

/-- of the weights', -/
theorem out8_apply (h : Fin 2) (j : Fin 3) (l : Fin 128) : out0_A_8 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 (ix3 h j l) =
    ∑ t : Fin 4096, dY x0 x1 x2 x3 x4 x5 x6 h l t * ConvSpec.lag (col (xh x0 x1 h) l) (2 - j.val) t := by
  unfold out0_A_8
  rw [pieces8]
  have lag0 : ∀ (f : Fin 4096 → EReal) t, ConvSpec.lag f 0 t = f t := fun f t => dif_pos (Nat.zero_le _)
  match h, j with
  | ⟨0, _⟩, ⟨0, _⟩ =>
    refine (View.read_writes_cons_unit_of_not_mem _ _ inb_S2x3x128_S1x1x128_1_2_0 _ _ _ rfl 0 (Or.inl (by show (0 : ℕ) < 1; decide))).trans ?_
    refine (View.read_writes_cons_unit_of_not_mem _ _ inb_S2x3x128_S1x1x128_1_1_0 _ _ _ rfl 0 (Or.inl (by show (0 : ℕ) < 1; decide))).trans ?_
    refine (View.read_writes_cons_unit_of_not_mem _ _ inb_S2x3x128_S1x1x128_1_0_0 _ _ _ rfl 0 (Or.inl (by show (0 : ℕ) < 1; decide))).trans ?_
    refine (View.read_writes_cons_unit_of_not_mem _ _ inb_S2x3x128_S1x1x128_0_2_0 _ _ _ rfl 1 (Or.inl (by show (0 : ℕ) < 2; decide))).trans ?_
    refine (View.read_writes_cons_unit_of_not_mem _ _ inb_S2x3x128_S1x1x128_0_1_0 _ _ _ rfl 1 (Or.inl (by show (0 : ℕ) < 1; decide))).trans ?_
    refine (View.read_writes_cons_unit_of_mem _ _ inb_S2x3x128_S1x1x128_0_0_0 _ _ _ (ix3 (0 : Fin 1) (0 : Fin 1) l) rfl (fun a => by match a with | ⟨0, _⟩ => rfl | ⟨1, _⟩ => rfl | ⟨2, _⟩ => exact (Nat.zero_add _).symm)).trans ?_
    refine (pay_row _ _ _ l).trans ((fin_0 x0 x1 x2 x3 x4 x5 x6 l).trans ?_)
    rfl
  | ⟨0, _⟩, ⟨1, _⟩ =>
    refine (View.read_writes_cons_unit_of_not_mem _ _ inb_S2x3x128_S1x1x128_1_2_0 _ _ _ rfl 0 (Or.inl (by show (0 : ℕ) < 1; decide))).trans ?_
    refine (View.read_writes_cons_unit_of_not_mem _ _ inb_S2x3x128_S1x1x128_1_1_0 _ _ _ rfl 0 (Or.inl (by show (0 : ℕ) < 1; decide))).trans ?_
    refine (View.read_writes_cons_unit_of_not_mem _ _ inb_S2x3x128_S1x1x128_1_0_0 _ _ _ rfl 0 (Or.inl (by show (0 : ℕ) < 1; decide))).trans ?_
    refine (View.read_writes_cons_unit_of_not_mem _ _ inb_S2x3x128_S1x1x128_0_2_0 _ _ _ rfl 1 (Or.inl (by show (1 : ℕ) < 2; decide))).trans ?_
    refine (View.read_writes_cons_unit_of_mem _ _ inb_S2x3x128_S1x1x128_0_1_0 _ _ _ (ix3 (0 : Fin 1) (0 : Fin 1) l) rfl (fun a => by match a with | ⟨0, _⟩ => rfl | ⟨1, _⟩ => rfl | ⟨2, _⟩ => exact (Nat.zero_add _).symm)).trans ?_
    refine (pay_row _ _ _ l).trans ((fin_1 x0 x1 x2 x3 x4 x5 x6 l).trans ?_)
    rfl
  | ⟨0, _⟩, ⟨2, _⟩ =>
    refine (View.read_writes_cons_unit_of_not_mem _ _ inb_S2x3x128_S1x1x128_1_2_0 _ _ _ rfl 0 (Or.inl (by show (0 : ℕ) < 1; decide))).trans ?_
    refine (View.read_writes_cons_unit_of_not_mem _ _ inb_S2x3x128_S1x1x128_1_1_0 _ _ _ rfl 0 (Or.inl (by show (0 : ℕ) < 1; decide))).trans ?_
    refine (View.read_writes_cons_unit_of_not_mem _ _ inb_S2x3x128_S1x1x128_1_0_0 _ _ _ rfl 0 (Or.inl (by show (0 : ℕ) < 1; decide))).trans ?_
    refine (View.read_writes_cons_unit_of_mem _ _ inb_S2x3x128_S1x1x128_0_2_0 _ _ _ (ix3 (0 : Fin 1) (0 : Fin 1) l) rfl (fun a => by match a with | ⟨0, _⟩ => rfl | ⟨1, _⟩ => rfl | ⟨2, _⟩ => exact (Nat.zero_add _).symm)).trans ?_
    refine (pay_row _ _ _ l).trans ((fin_2 x0 x1 x2 x3 x4 x5 x6 l).trans ?_)
    refine Finset.sum_congr rfl fun t _ => ?_
    exact congrArg ((dG x0 x1 x2 x3 x4 x5 x6 l t) * ·) (lag0 (col x0 l) t).symm
  | ⟨1, _⟩, ⟨0, _⟩ =>
    refine (View.read_writes_cons_unit_of_not_mem _ _ inb_S2x3x128_S1x1x128_1_2_0 _ _ _ rfl 1 (Or.inl (by show (0 : ℕ) < 2; decide))).trans ?_
    refine (View.read_writes_cons_unit_of_not_mem _ _ inb_S2x3x128_S1x1x128_1_1_0 _ _ _ rfl 1 (Or.inl (by show (0 : ℕ) < 1; decide))).trans ?_
    refine (View.read_writes_cons_unit_of_mem _ _ inb_S2x3x128_S1x1x128_1_0_0 _ _ _ (ix3 (0 : Fin 1) (0 : Fin 1) l) rfl (fun a => by match a with | ⟨0, _⟩ => rfl | ⟨1, _⟩ => rfl | ⟨2, _⟩ => exact (Nat.zero_add _).symm)).trans ?_
    refine (pay_row _ _ _ l).trans ((fin_3 x0 x1 x2 x3 x4 x5 x6 l).trans ?_)
    rfl
  | ⟨1, _⟩, ⟨1, _⟩ =>
    refine (View.read_writes_cons_unit_of_not_mem _ _ inb_S2x3x128_S1x1x128_1_2_0 _ _ _ rfl 1 (Or.inl (by show (1 : ℕ) < 2; decide))).trans ?_
    refine (View.read_writes_cons_unit_of_mem _ _ inb_S2x3x128_S1x1x128_1_1_0 _ _ _ (ix3 (0 : Fin 1) (0 : Fin 1) l) rfl (fun a => by match a with | ⟨0, _⟩ => rfl | ⟨1, _⟩ => rfl | ⟨2, _⟩ => exact (Nat.zero_add _).symm)).trans ?_
    refine (pay_row _ _ _ l).trans ((fin_4 x0 x1 x2 x3 x4 x5 x6 l).trans ?_)
    rfl
  | ⟨1, _⟩, ⟨2, _⟩ =>
    refine (View.read_writes_cons_unit_of_mem _ _ inb_S2x3x128_S1x1x128_1_2_0 _ _ _ (ix3 (0 : Fin 1) (0 : Fin 1) l) rfl (fun a => by match a with | ⟨0, _⟩ => rfl | ⟨1, _⟩ => rfl | ⟨2, _⟩ => exact (Nat.zero_add _).symm)).trans ?_
    refine (pay_row _ _ _ l).trans ((fin_5 x0 x1 x2 x3 x4 x5 x6 l).trans ?_)
    refine Finset.sum_congr rfl fun t _ => ?_
    exact congrArg ((dV x0 x2 x3 x5 l t) * ·) (lag0 (col x1 l) t).symm

/-- and of the bias's. -/
theorem out9_apply (h : Fin 2) (z : Fin 1) (l : Fin 128) : out0_A_9 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 (ix3 h z l) =
    ∑ t : Fin 4096, dY x0 x1 x2 x3 x4 x5 x6 h l t := by
  unfold out0_A_9
  rw [pieces9]
  match h, z with
  | ⟨0, _⟩, ⟨0, _⟩ =>
    refine (View.read_writes_cons_unit_of_not_mem _ _ inb_S2x1x128_S1x1x128_1_0_0 _ _ _ rfl 0 (Or.inl (by show (0 : ℕ) < 1; decide))).trans ?_
    refine (View.read_writes_cons_unit_of_mem _ _ inb_S2x1x128_S1x1x128_0_0_0 _ _ _ (ix3 (0 : Fin 1) (0 : Fin 1) l) rfl (fun a => by match a with | ⟨0, _⟩ => rfl | ⟨1, _⟩ => rfl | ⟨2, _⟩ => exact (Nat.zero_add _).symm)).trans ?_
    exact (pay_row _ _ _ l).trans (fin_6 x0 x1 x2 x3 x4 x5 x6 l)
  | ⟨1, _⟩, ⟨0, _⟩ =>
    refine (View.read_writes_cons_unit_of_mem _ _ inb_S2x1x128_S1x1x128_1_0_0 _ _ _ (ix3 (0 : Fin 1) (0 : Fin 1) l) rfl (fun a => by match a with | ⟨0, _⟩ => rfl | ⟨1, _⟩ => rfl | ⟨2, _⟩ => exact (Nat.zero_add _).symm)).trans ?_
    exact (pay_row _ _ _ l).trans (fin_7 x0 x1 x2 x3 x4 x5 x6 l)

end Cert.Kernel2Ideal.Conv

end
-- ==== Proof.ConvBlocks.lean ====
/- The gradient of the convolution and its gate: what each grid point writes back, and the result arrays block by block. -/
module

public import proofs.«01_k».proof.Proof.ConvFrame
public import Idealize.ShloMosaic.Lib.Pipeline.Value

@[expose] public section

noncomputable section

namespace Cert.Kernel2Ideal.Conv

open Cert.Kernel2Ideal.Gen
open Cert.Kernel2Ideal Cert.Kernel2Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

theorem flushed7 (c : Dev nD) (t : Fin cfg0.N) :
    (dats m 0 c).flushed 7 t = (cfg0.win 7).cut (grid0.coords t) ((outsAt0 m c t).1) := by
  show (cfg0.win 7).cut (grid0.coords t) ((dats m 0 c).after 7 t) = _
  rw [after0_7]

theorem flushed7_A (c : Dev nD) (t : Fin cfg0.N) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t)) := by
  simp only [flushed7, outsAt0]

theorem idx_inj7 : ∀ t t' : Fin cfg0.N, win0_7.index t = win0_7.index t' → t = t' :=
  (by decide +kernel : ∀ t t' : Fin grid0.N, win0_7.index t = win0_7.index t' → t = t')

theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

theorem entry7 (c : Dev nD) (i : S2x4096x2816.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

theorem flushed8 (c : Dev nD) (t : Fin cfg0.N) :
    (dats m 0 c).flushed 8 t = (cfg0.win 8).cut (grid0.coords t) ((outsAt0 m c t).2.1) := by
  show (cfg0.win 8).cut (grid0.coords t) ((dats m 0 c).after 8 t) = _
  rw [after0_8]

theorem flushed8_A (c : Dev nD) (t : Fin cfg0.N) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t)) := by
  simp only [flushed8, outsAt0]

theorem idx_inj8 : ∀ t t' : Fin cfg0.N, win0_8.index t = win0_8.index t' → t = t' :=
  (by decide +kernel : ∀ t t' : Fin grid0.N, win0_8.index t = win0_8.index t' → t = t')

theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

theorem entry8 (c : Dev nD) (i : S2x3x2816.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

theorem flushed9 (c : Dev nD) (t : Fin cfg0.N) :
    (dats m 0 c).flushed 9 t = (cfg0.win 9).cut (grid0.coords t) ((outsAt0 m c t).2.2) := by
  show (cfg0.win 9).cut (grid0.coords t) ((dats m 0 c).after 9 t) = _
  rw [after0_9]

theorem flushed9_A (c : Dev nD) (t : Fin cfg0.N) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t)) := by
  simp only [flushed9, outsAt0]

theorem idx_inj9 : ∀ t t' : Fin cfg0.N, win0_9.index t = win0_9.index t' → t = t' :=
  (by decide +kernel : ∀ t t' : Fin grid0.N, win0_9.index t = win0_9.index t' → t = t')

theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

theorem entry9 (c : Dev nD) (i : S2x1x2816.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

theorem post7 (r : PUnit × MemSt nD τ sig (Elt F)) (h : Pipeline.FramePost cfgs (dats m) 0 (V m) r) (c : Dev nD) :
    r.2.mem ((c : Thread nD τ).loc main_v0_0) = (dats m 0 c).arrAt 7 cfg0.N :=
  (h c).1 7

theorem post8 (r : PUnit × MemSt nD τ sig (Elt F)) (h : Pipeline.FramePost cfgs (dats m) 0 (V m) r) (c : Dev nD) :
    r.2.mem ((c : Thread nD τ).loc main_v0_1) = (dats m 0 c).arrAt 8 cfg0.N :=
  (h c).1 8

theorem post9 (r : PUnit × MemSt nD τ sig (Elt F)) (h : Pipeline.FramePost cfgs (dats m) 0 (V m) r) (c : Dev nD) :
    r.2.mem ((c : Thread nD τ).loc main_v0_2) = (dats m 0 c).arrAt 9 cfg0.N :=
  (h c).1 9

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 1).trans (((dats m 0 c).arrAt_in 1 rfl _).trans ((A_eq m c 1).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 2).trans (((dats m 0 c).arrAt_in 2 rfl _).trans ((A_eq m c 2).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 4).trans (((dats m 0 c).arrAt_in 4 rfl _).trans ((A_eq m c 4).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 6).trans (((dats m 0 c).arrAt_in 6 rfl _).trans ((A_eq m c 6).trans (V_main_arg3 m c)))

theorem run_blocks : θ_run defs (onTc (τ := τ) (main (F := F))) ⟨m, fun _ => 0, ρ⟩ fun r => ∀ c : Dev nD,
      r.2.mem ((c : Thread nD τ).loc main_v0_0) = (dats m 0 c).arrAt 7 cfg0.N
      ∧ r.2.mem ((c : Thread nD τ).loc main_v0_1) = (dats m 0 c).arrAt 8 cfg0.N
      ∧ r.2.mem ((c : Thread nD τ).loc main_v0_2) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post7 m r h c,
      post8 m r h c,
      post9 m r h c,
      kept_main_arg0 m r h c,
      kept_main_arg1 m r h c,
      kept_main_arg2 m r h c,
      kept_main_arg3 m r h c⟩)
    (run_main m ρ)

end Cert.Kernel2Ideal.Conv

end
-- ==== Proof.ConvValue.lean ====
/- The gradient of the convolution and its gate: the kernel's three result arrays, element by element, over the extended
   reals. -/
module

public import proofs.«01_k».proof.Proof.ConvBlock
public import proofs.«01_k».proof.Proof.ConvBlocks

@[expose] public section

set_option maxRecDepth 16384

noncomputable section

namespace Cert.Kernel2Ideal.Conv

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The arguments, by their coordinates. -/
abbrev uOf (x : Vec Ideal S4096x5632 .f32) : Fin 4096 → Fin 5632 → EReal := fun t j => x (ix2 t j)
abbrev daOf (x : Vec Ideal S4096x2816 .f32) : Fin 4096 → Fin 2816 → EReal := fun t j => x (ix2 t j)
abbrev wOf (x : Vec Ideal S3x5632 .f32) : Fin 3 → Fin 5632 → EReal := fun i j => x (ix2 i j)
abbrev bOf (x : Vec Ideal S1x5632 .f32) : Fin 5632 → EReal := fun j => x (ix2 0 j)

/-- The blocks a point reads: its columns of each argument. -/
theorem iblk0_apply (c : Dev nD) (t : Fin cfg0.N) (r : Fin 4096) (l : Fin 128) (j : Fin 5632) (hj : j.val = 128 * t.val + l.val) :
    (iblk m c 0 t : Vec Ideal S4096x128 .f32) (ix2 r l) = (m ((c : Thread nD τ).loc main_arg0) : Vec Ideal S4096x5632 .f32) (ix2 r j) := by
  have hi := (by decide +kernel : ∀ t : Fin grid0.N, win0_0.index t 0 = 0 ∧ win0_0.index t 1 = t.val) t
  refine congrArg (m ((c : Thread nD τ).loc main_arg0)) (funext fun a => Fin.ext ?_)
  match a with
  | ⟨0, _⟩ => show win0_0.index t 0 * 4096 + 1 * r.val = r.val; rw [hi.1]; omega
  | ⟨1, _⟩ => show win0_0.index t 1 * 128 + 1 * l.val = j.val; rw [hi.2, hj]; omega

theorem iblk1_apply (c : Dev nD) (t : Fin cfg0.N) (r : Fin 4096) (l : Fin 128) (j : Fin 5632) (hj : j.val = 2816 + (128 * t.val + l.val)) :
    (iblk m c 1 t : Vec Ideal S4096x128 .f32) (ix2 r l) = (m ((c : Thread nD τ).loc main_arg0) : Vec Ideal S4096x5632 .f32) (ix2 r j) := by
  have hi := (by decide +kernel : ∀ t : Fin grid0.N, win0_1.index t 0 = 0 ∧ win0_1.index t 1 = 22 + t.val) t
  refine congrArg (m ((c : Thread nD τ).loc main_arg0)) (funext fun a => Fin.ext ?_)
  match a with
  | ⟨0, _⟩ => show win0_1.index t 0 * 4096 + 1 * r.val = r.val; rw [hi.1]; omega
  | ⟨1, _⟩ => show win0_1.index t 1 * 128 + 1 * l.val = j.val; rw [hi.2, hj]; omega

theorem iblk2_apply (c : Dev nD) (t : Fin cfg0.N) (r : Fin 4096) (l : Fin 128) (j : Fin 2816) (hj : j.val = 128 * t.val + l.val) :
    (iblk m c 2 t : Vec Ideal S4096x128 .f32) (ix2 r l) = (m ((c : Thread nD τ).loc main_arg1) : Vec Ideal S4096x2816 .f32) (ix2 r j) := by
  have hi := (by decide +kernel : ∀ t : Fin grid0.N, win0_2.index t 0 = 0 ∧ win0_2.index t 1 = t.val) t
  refine congrArg (m ((c : Thread nD τ).loc main_arg1)) (funext fun a => Fin.ext ?_)
  match a with
  | ⟨0, _⟩ => show win0_2.index t 0 * 4096 + 1 * r.val = r.val; rw [hi.1]; omega
  | ⟨1, _⟩ => show win0_2.index t 1 * 128 + 1 * l.val = j.val; rw [hi.2, hj]; omega

theorem iblk3_apply (c : Dev nD) (t : Fin cfg0.N) (r : Fin 3) (l : Fin 128) (j : Fin 5632) (hj : j.val = 128 * t.val + l.val) :
    (iblk m c 3 t : Vec Ideal S3x128 .f32) (ix2 r l) = (m ((c : Thread nD τ).loc main_arg2) : Vec Ideal S3x5632 .f32) (ix2 r j) := by
  have hi := (by decide +kernel : ∀ t : Fin grid0.N, win0_3.index t 0 = 0 ∧ win0_3.index t 1 = t.val) t
  refine congrArg (m ((c : Thread nD τ).loc main_arg2)) (funext fun a => Fin.ext ?_)
  match a with
  | ⟨0, _⟩ => show win0_3.index t 0 * 3 + 1 * r.val = r.val; rw [hi.1]; omega
  | ⟨1, _⟩ => show win0_3.index t 1 * 128 + 1 * l.val = j.val; rw [hi.2, hj]; omega

theorem iblk4_apply (c : Dev nD) (t : Fin cfg0.N) (r : Fin 3) (l : Fin 128) (j : Fin 5632) (hj : j.val = 2816 + (128 * t.val + l.val)) :
    (iblk m c 4 t : Vec Ideal S3x128 .f32) (ix2 r l) = (m ((c : Thread nD τ).loc main_arg2) : Vec Ideal S3x5632 .f32) (ix2 r j) := by
  have hi := (by decide +kernel : ∀ t : Fin grid0.N, win0_4.index t 0 = 0 ∧ win0_4.index t 1 = 22 + t.val) t
  refine congrArg (m ((c : Thread nD τ).loc main_arg2)) (funext fun a => Fin.ext ?_)
  match a with
  | ⟨0, _⟩ => show win0_4.index t 0 * 3 + 1 * r.val = r.val; rw [hi.1]; omega
  | ⟨1, _⟩ => show win0_4.index t 1 * 128 + 1 * l.val = j.val; rw [hi.2, hj]; omega

theorem iblk5_apply (c : Dev nD) (t : Fin cfg0.N) (r : Fin 1) (l : Fin 128) (j : Fin 5632) (hj : j.val = 128 * t.val + l.val) :
    (iblk m c 5 t : Vec Ideal S1x128 .f32) (ix2 r l) = (m ((c : Thread nD τ).loc main_arg3) : Vec Ideal S1x5632 .f32) (ix2 r j) := by
  have hi := (by decide +kernel : ∀ t : Fin grid0.N, win0_5.index t 0 = 0 ∧ win0_5.index t 1 = t.val) t
  refine congrArg (m ((c : Thread nD τ).loc main_arg3)) (funext fun a => Fin.ext ?_)
  match a with
  | ⟨0, _⟩ => show win0_5.index t 0 * 1 + 1 * r.val = r.val; rw [hi.1]; omega
  | ⟨1, _⟩ => show win0_5.index t 1 * 128 + 1 * l.val = j.val; rw [hi.2, hj]; omega

theorem iblk6_apply (c : Dev nD) (t : Fin cfg0.N) (r : Fin 1) (l : Fin 128) (j : Fin 5632) (hj : j.val = 2816 + (128 * t.val + l.val)) :
    (iblk m c 6 t : Vec Ideal S1x128 .f32) (ix2 r l) = (m ((c : Thread nD τ).loc main_arg3) : Vec Ideal S1x5632 .f32) (ix2 r j) := by
  have hi := (by decide +kernel : ∀ t : Fin grid0.N, win0_6.index t 0 = 0 ∧ win0_6.index t 1 = 22 + t.val) t
  refine congrArg (m ((c : Thread nD τ).loc main_arg3)) (funext fun a => Fin.ext ?_)
  match a with
  | ⟨0, _⟩ => show win0_6.index t 0 * 1 + 1 * r.val = r.val; rw [hi.1]; omega
  | ⟨1, _⟩ => show win0_6.index t 1 * 128 + 1 * l.val = j.val; rw [hi.2, hj]; omega

/-- The gradient with respect to the convolution's result in a point's block is that of its columns. -/
theorem dY_block (c : Dev nD) (t : Fin cfg0.N) (h : Fin 2) (l : Fin 128) (q : Fin 2816) (hq : q.val = 128 * t.val + l.val) :
    dY (iblk m c 0 t) (iblk m c 1 t) (iblk m c 2 t) (iblk m c 3 t) (iblk m c 4 t) (iblk m c 5 t) (iblk m c 6 t) h l = ConvSpec.DY (uOf (m ((c : Thread nD τ).loc main_arg0))) (daOf (m ((c : Thread nD τ).loc main_arg1))) (wOf (m ((c : Thread nD τ).loc main_arg2))) (bOf (m ((c : Thread nD τ).loc main_arg3))) h q := by
  have e0 : col (iblk m c 0 t) l = fun r => uOf (m ((c : Thread nD τ).loc main_arg0)) r (ConvSpec.cat 0 q) :=
    funext fun r => iblk0_apply m c t r l _ (by show 2816 * 0 + q.val = _; omega)
  have e1 : col (iblk m c 1 t) l = fun r => uOf (m ((c : Thread nD τ).loc main_arg0)) r (ConvSpec.cat 1 q) :=
    funext fun r => iblk1_apply m c t r l _ (by show 2816 * 1 + q.val = _; omega)
  have e2 : ∀ r, col (iblk m c 2 t) l r = daOf (m ((c : Thread nD τ).loc main_arg1)) r q :=
    fun r => iblk2_apply m c t r l q hq
  have e3 : wcol (iblk m c 3 t) l = fun r => wOf (m ((c : Thread nD τ).loc main_arg2)) r (ConvSpec.cat 0 q) :=
    funext fun r => iblk3_apply m c t r l _ (by show 2816 * 0 + q.val = _; omega)
  have e4 : wcol (iblk m c 4 t) l = fun r => wOf (m ((c : Thread nD τ).loc main_arg2)) r (ConvSpec.cat 1 q) :=
    funext fun r => iblk4_apply m c t r l _ (by show 2816 * 1 + q.val = _; omega)
  have e5 : (iblk m c 5 t : Vec Ideal S1x128 .f32) (ix2 0 l) = bOf (m ((c : Thread nD τ).loc main_arg3)) (ConvSpec.cat 0 q) :=
    iblk5_apply m c t 0 l _ (by show 2816 * 0 + q.val = _; omega)
  have e6 : (iblk m c 6 t : Vec Ideal S1x128 .f32) (ix2 0 l) = bOf (m ((c : Thread nD τ).loc main_arg3)) (ConvSpec.cat 1 q) :=
    iblk6_apply m c t 0 l _ (by show 2816 * 1 + q.val = _; omega)
  funext r
  unfold dY dG dV ConvSpec.DY ConvSpec.Y
  rw [e0, e1, e2, e3, e4, e5, e6]

theorem arr7_apply (c : Dev nD) (h : Fin 2) (r : Fin 4096) (q : Fin 2816) :
    ((dats m 0 c).arrAt 7 cfg0.N : Vec Ideal S2x4096x2816 .bf16) (ix3 h r q) = ConvSpec.DU (uOf (m ((c : Thread nD τ).loc main_arg0))) (daOf (m ((c : Thread nD τ).loc main_arg1))) (wOf (m ((c : Thread nD τ).loc main_arg2))) (bOf (m ((c : Thread nD τ).loc main_arg3))) h r q := by
  have hN : cfg0.N = 22 := by decide
  have hq : q.val / 128 < cfg0.N := by omega
  obtain ⟨t, ht⟩ : ∃ t : Fin cfg0.N, t.val = q.val / 128 := ⟨⟨q.val / 128, hq⟩, rfl⟩
  obtain ⟨l, hl⟩ : ∃ l : Fin 128, l.val = q.val % 128 := ⟨⟨q.val % 128, by omega⟩, rfl⟩
  have hqt : q.val = 128 * t.val + l.val := by omega
  have hf : (cfg0.win 7).flush t = true := (by decide +kernel : ∀ t : Fin grid0.N, win0_7.flush t = true) t
  have e := congrFun (blocks7 m c t hf) (ix3 h r l)
  rw [View.read_apply, flushed7_A] at e
  have hi := (by decide +kernel : ∀ t : Fin grid0.N, win0_7.index t 0 = 0 ∧ win0_7.index t 1 = 0 ∧ win0_7.index t 2 = t.val) t
  have hidx : ((cfg0.win 7).blk t).view.emb (ix3 h r l) = ix3 h r q := by
    funext a
    apply Fin.ext
    match a with
    | ⟨0, _⟩ => show win0_7.index t 0 * 2 + 1 * h.val = h.val; rw [hi.1]; omega
    | ⟨1, _⟩ => show win0_7.index t 1 * 4096 + 1 * r.val = r.val; rw [hi.2.1]; omega
    | ⟨2, _⟩ => show win0_7.index t 2 * 128 + 1 * l.val = q.val; rw [hi.2.2]; omega
  rw [hidx] at e
  refine e.trans ?_
  refine (out7_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) h r l).trans ?_
  rw [dY_block m c t h l q hqt]
  have ew : wcol (wh (iblk m c 3 t) (iblk m c 4 t) h) l = fun i => wOf (m ((c : Thread nD τ).loc main_arg2)) i (ConvSpec.cat h q) := by
    funext i
    by_cases h0 : h.val = 0
    · simp only [wh, if_pos h0]
      exact iblk3_apply m c t i l _ (by show 2816 * h.val + q.val = _; omega)
    · simp only [wh, if_neg h0]
      exact iblk4_apply m c t i l _ (by show 2816 * h.val + q.val = _; omega)
  rw [ew]
  rfl

theorem arr8_apply (c : Dev nD) (h : Fin 2) (r : Fin 3) (q : Fin 2816) :
    ((dats m 0 c).arrAt 8 cfg0.N : Vec Ideal S2x3x2816 .f32) (ix3 h r q) = ConvSpec.DW (uOf (m ((c : Thread nD τ).loc main_arg0))) (daOf (m ((c : Thread nD τ).loc main_arg1))) (wOf (m ((c : Thread nD τ).loc main_arg2))) (bOf (m ((c : Thread nD τ).loc main_arg3))) h r q := by
  have hN : cfg0.N = 22 := by decide
  have hq : q.val / 128 < cfg0.N := by omega
  obtain ⟨t, ht⟩ : ∃ t : Fin cfg0.N, t.val = q.val / 128 := ⟨⟨q.val / 128, hq⟩, rfl⟩
  obtain ⟨l, hl⟩ : ∃ l : Fin 128, l.val = q.val % 128 := ⟨⟨q.val % 128, by omega⟩, rfl⟩
  have hqt : q.val = 128 * t.val + l.val := by omega
  have hf : (cfg0.win 8).flush t = true := (by decide +kernel : ∀ t : Fin grid0.N, win0_8.flush t = true) t
  have e := congrFun (blocks8 m c t hf) (ix3 h r l)
  rw [View.read_apply, flushed8_A] at e
  have hi := (by decide +kernel : ∀ t : Fin grid0.N, win0_8.index t 0 = 0 ∧ win0_8.index t 1 = 0 ∧ win0_8.index t 2 = t.val) t
  have hidx : ((cfg0.win 8).blk t).view.emb (ix3 h r l) = ix3 h r q := by
    funext a
    apply Fin.ext
    match a with
    | ⟨0, _⟩ => show win0_8.index t 0 * 2 + 1 * h.val = h.val; rw [hi.1]; omega
    | ⟨1, _⟩ => show win0_8.index t 1 * 3 + 1 * r.val = r.val; rw [hi.2.1]; omega
    | ⟨2, _⟩ => show win0_8.index t 2 * 128 + 1 * l.val = q.val; rw [hi.2.2]; omega
  rw [hidx] at e
  refine e.trans ?_
  refine (out8_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) h r l).trans ?_
  rw [dY_block m c t h l q hqt]
  have ex : col (xh (iblk m c 0 t) (iblk m c 1 t) h) l = fun i => uOf (m ((c : Thread nD τ).loc main_arg0)) i (ConvSpec.cat h q) := by
    funext i
    by_cases h0 : h.val = 0
    · simp only [xh, if_pos h0]
      exact iblk0_apply m c t i l _ (by show 2816 * h.val + q.val = _; omega)
    · simp only [xh, if_neg h0]
      exact iblk1_apply m c t i l _ (by show 2816 * h.val + q.val = _; omega)
  rw [ex]
  rfl

theorem arr9_apply (c : Dev nD) (h : Fin 2) (r : Fin 1) (q : Fin 2816) :
    ((dats m 0 c).arrAt 9 cfg0.N : Vec Ideal S2x1x2816 .f32) (ix3 h r q) = ConvSpec.DB (uOf (m ((c : Thread nD τ).loc main_arg0))) (daOf (m ((c : Thread nD τ).loc main_arg1))) (wOf (m ((c : Thread nD τ).loc main_arg2))) (bOf (m ((c : Thread nD τ).loc main_arg3))) h q := by
  have hN : cfg0.N = 22 := by decide
  have hq : q.val / 128 < cfg0.N := by omega
  obtain ⟨t, ht⟩ : ∃ t : Fin cfg0.N, t.val = q.val / 128 := ⟨⟨q.val / 128, hq⟩, rfl⟩
  obtain ⟨l, hl⟩ : ∃ l : Fin 128, l.val = q.val % 128 := ⟨⟨q.val % 128, by omega⟩, rfl⟩
  have hqt : q.val = 128 * t.val + l.val := by omega
  have hf : (cfg0.win 9).flush t = true := (by decide +kernel : ∀ t : Fin grid0.N, win0_9.flush t = true) t
  have e := congrFun (blocks9 m c t hf) (ix3 h r l)
  rw [View.read_apply, flushed9_A] at e
  have hi := (by decide +kernel : ∀ t : Fin grid0.N, win0_9.index t 0 = 0 ∧ win0_9.index t 1 = 0 ∧ win0_9.index t 2 = t.val) t
  have hidx : ((cfg0.win 9).blk t).view.emb (ix3 h r l) = ix3 h r q := by
    funext a
    apply Fin.ext
    match a with
    | ⟨0, _⟩ => show win0_9.index t 0 * 2 + 1 * h.val = h.val; rw [hi.1]; omega
    | ⟨1, _⟩ => show win0_9.index t 1 * 1 + 1 * r.val = r.val; rw [hi.2.1]; omega
    | ⟨2, _⟩ => show win0_9.index t 2 * 128 + 1 * l.val = q.val; rw [hi.2.2]; omega
  rw [hidx] at e
  refine e.trans ?_
  refine (out9_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) h r l).trans ?_
  rw [dY_block m c t h l q hqt]
  rfl

end Cert.Kernel2Ideal.Conv

end
-- ==== Proof.ConvRef.lean ====
/- The gradient of the convolution and its gate: the reference's arrays at an index, over the extended reals. -/
module

public import proofs.«01_k».proof.Proof.ConvSpec
public import proofs.«01_k».proof.Proof.Gen.Reference2Ideal.Run

@[expose] public section

set_option maxRecDepth 16384

noncomputable section

namespace Cert.Reference2Ideal.Value

open Cert.Reference2Ideal Cert.Reference2Ideal.Gen Idealize.ShloMosaic Idealize.ShloMosaic.TcCoe Idealize.SL.Sem Idealize.ShloMosaic.StableHlo

/-- The two ways of writing the gate's gradient agree where the incoming product is a real number. -/
theorem gate_identity (d : ℝ) (g : EReal) :
    (d : EReal) * Ideal.logistic g + g * (d : EReal) * (Ideal.logistic g * (1 - Ideal.logistic g)) =
      (d : EReal) * (Ideal.logistic g * (1 + g * (1 - Ideal.logistic g))) := by
  induction g with
  | bot => simp
  | top =>
    have h : (1 : EReal) - 1 = 0 := by rw [← EReal.coe_one, ← EReal.coe_sub, sub_self, EReal.coe_zero]
    simp [h]
  | coe r =>
    rw [Ideal.logistic_coe]
    generalize (1 + Real.exp (-r))⁻¹ = s
    rw [← EReal.coe_one]
    norm_cast
    ring

variable (V0 : Valuation τ sig (Elt Ideal))

/-- The arguments, by their coordinates. -/
abbrev u : Fin 4096 → Fin 5632 → EReal := fun t j => (V0 (Proc.devRef .tc main_arg0) : Vec Ideal S4096x5632 .f32) (ix2 t j)
abbrev da : Fin 4096 → Fin 2816 → EReal := fun t j => (V0 (Proc.devRef .tc main_arg1) : Vec Ideal S4096x2816 .f32) (ix2 t j)
abbrev w : Fin 3 → Fin 5632 → EReal := fun t j => (V0 (Proc.devRef .tc main_arg2) : Vec Ideal S3x5632 .f32) (ix2 t j)
abbrev b : Fin 5632 → EReal := fun j => (V0 (Proc.devRef .tc main_arg3) : Vec Ideal S1x5632 .f32) (ix2 0 j)

/-- The argument delayed. -/
theorem v5_apply (t : Fin 4096) (j : Fin 5632) : (res_main_v5 V0 : Vec Ideal S4096x5632 .f32) (ix2 t j) = ConvSpec.lag (fun t => u V0 t j) 2 t := by
  pointwise [res_main_v5, res_main_v1]
  unfold ConvSpec.lag
  by_cases h : t.val < 2
  · rw [dif_pos h, dif_neg (by omega)]
  · rw [dif_neg h, dif_pos (by omega)]

theorem v11_apply (t : Fin 4096) (j : Fin 5632) : (res_main_v11 V0 : Vec Ideal S4096x5632 .f32) (ix2 t j) = ConvSpec.lag (fun t => u V0 t j) 1 t := by
  pointwise [res_main_v11, res_main_v1]
  unfold ConvSpec.lag
  by_cases h : 1 ≤ t.val
  · rw [dif_pos h, dif_neg (by omega)]
    exact congrArg (fun t => u V0 t j) (Fin.ext (by show 1 + t.val - 2 = t.val - 1; omega))
  · rw [dif_neg h, dif_pos (by omega)]

theorem v18_apply (t : Fin 4096) (j : Fin 5632) : (res_main_v18 V0 : Vec Ideal S4096x5632 .f32) (ix2 t j) = u V0 t j := by
  pointwise [res_main_v18, res_main_v1]

/-- The weights. -/
theorem v6_apply (z : Fin 1) (j : Fin 5632) : (res_main_v6 V0 : Vec Ideal S1x5632 .f32) (ix2 z j) = w V0 0 j := by
  pointwise [res_main_v6]
theorem v12_apply (z : Fin 1) (j : Fin 5632) : (res_main_v12 V0 : Vec Ideal S1x5632 .f32) (ix2 z j) = w V0 1 j := by
  pointwise [res_main_v12]
theorem v19_apply (z : Fin 1) (j : Fin 5632) : (res_main_v19 V0 : Vec Ideal S1x5632 .f32) (ix2 z j) = w V0 2 j := by
  pointwise [res_main_v19]

/-- The convolution. -/
theorem v24_apply (t : Fin 4096) (j : Fin 5632) : (res_main_v24 V0 : Vec Ideal S4096x5632 .f32) (ix2 t j) = ConvSpec.Y (u V0) (w V0) (b V0) j t := by
  pointwise [res_main_v24]
  rw [v5_apply, v11_apply, v18_apply, v6_apply, v12_apply, v19_apply]
  rfl

theorem v25_apply (t : Fin 4096) (q : Fin 2816) : (res_main_v25 V0 : Vec Ideal S4096x2816 .f32) (ix2 t q) = ConvSpec.Y (u V0) (w V0) (b V0) (ConvSpec.cat 0 q) t := by
  pointwise [res_main_v25]
  refine (v24_apply V0 t _).trans ?_
  exact congrArg (fun j => ConvSpec.Y (u V0) (w V0) (b V0) j t) (Fin.ext (by show q.val = 2816 * 0 + q.val; omega))

theorem v26_apply (t : Fin 4096) (q : Fin 2816) : (res_main_v26 V0 : Vec Ideal S4096x2816 .f32) (ix2 t q) = ConvSpec.Y (u V0) (w V0) (b V0) (ConvSpec.cat 1 q) t := by
  pointwise [res_main_v26]
  refine (v24_apply V0 t _).trans ?_
  exact congrArg (fun j => ConvSpec.Y (u V0) (w V0) (b V0) j t) (Fin.ext (by show 2816 + q.val = 2816 * 1 + q.val; omega))

/-- The gate's logistic. -/
theorem v27_apply (t : Fin 4096) (q : Fin 2816) : (res_main_v27_2 V0 : Vec Ideal S4096x2816 .f32) (ix2 t q) = Ideal.logistic (ConvSpec.Y (u V0) (w V0) (b V0) (ConvSpec.cat 0 q) t) := by
  pointwise [res_main_v27_2]
  rw [v25_apply]
  rfl

/-- The gradient with respect to the convolution's result. -/
theorem v32_apply (H : ∀ t q, ∃ d : ℝ, da V0 t q * ConvSpec.Y (u V0) (w V0) (b V0) (ConvSpec.cat 1 q) t = d) (t : Fin 4096) (h : Fin 2) (q : Fin 2816) :
    (res_main_v32 V0 : Vec Ideal S4096x5632 .f32) (ix2 t (ConvSpec.cat h q)) = ConvSpec.DY (u V0) (da V0) (w V0) (b V0) h q t := by
  obtain ⟨d, hd⟩ := H t q
  pointwise [res_main_v32, res_main_v30, res_main_v27_0]
  unfold ConvSpec.DY
  by_cases h0 : h.val = 0
  · rw [dif_pos (by omega), if_pos h0]
    have e : ∀ hh, (⟨2816 * h.val + q.val, hh⟩ : Fin 2816) = q := fun hh => Fin.ext (by show 2816 * h.val + q.val = q.val; omega)
    simp only [e]
    rw [v26_apply, v27_apply, v25_apply]
    unfold ConvSpec.dgate
    refine Eq.trans ?_ ((gate_identity d (ConvSpec.Y (u V0) (w V0) (b V0) (ConvSpec.cat 0 q) t)).trans ?_)
    · exact congrArg₂ (fun x y => x * _ + _ * y * _) hd hd
    · exact congrArg (· * _) hd.symm
  · rw [dif_neg (by omega), if_neg h0]
    have e : ∀ hh, (⟨2816 * h.val + q.val - 2816, hh⟩ : Fin 2816) = q := fun hh => Fin.ext (by show 2816 * h.val + q.val - 2816 = q.val; omega)
    simp only [e]
    rw [v27_apply, v25_apply]
    exact mul_comm (_ : EReal) _

/-- Sums of equal terms, and of products of equal factors. -/
theorem sum_eq {f g : Fin 4096 → EReal} (h : ∀ t, f t = g t) : ∑ t, f t = ∑ t, g t := Finset.sum_congr rfl fun t _ => h t
theorem sum_mul_eq {f g f' g' : Fin 4096 → EReal} (h : ∀ t, f t = f' t) (h' : ∀ t, g t = g' t) : ∑ t, f t * g t = ∑ t, f' t * g' t :=
  sum_eq fun t => congrArg₂ (· * ·) (h t) (h' t)

theorem lag_zero (f : Fin 4096 → EReal) (t : Fin 4096) : ConvSpec.lag f 0 t = f t := dif_pos (Nat.zero_le _)

section Results

variable (H : ∀ t q, ∃ d : ℝ, da V0 t q * ConvSpec.Y (u V0) (w V0) (b V0) (ConvSpec.cat 1 q) t = d)

include H

/-- The bias's gradient. -/
theorem v34_apply (z : Fin 1) (h : Fin 2) (q : Fin 2816) :
    (res_main_v34 V0 : Vec Ideal S1x5632 .f32) (ix2 z (ConvSpec.cat h q)) = ConvSpec.DB (u V0) (da V0) (w V0) (b V0) h q := by
  pointwise [res_main_v34]
  exact sum_eq fun t => v32_apply V0 H t h q

/-- The argument's gradient. -/
theorem v67_apply (t : Fin 4096) (h : Fin 2) (q : Fin 2816) :
    (res_main_v67 V0 : Vec Ideal S4096x5632 .f32) (ix2 t (ConvSpec.cat h q)) = ConvSpec.DU (u V0) (da V0) (w V0) (b V0) h t q := by
  have hq : 2816 * h.val + q.val < 5632 := by omega
  pointwise [res_main_v67, res_main_v62]
  unfold ConvSpec.DU ConvSpec.dconv ConvSpec.lead
  rw [dif_pos hq]
  refine congrArg₂ (· + ·) (congrArg₂ (· + ·) (congrArg₂ (· * ·) (v19_apply V0 0 _) (v32_apply V0 H t h q)) ?_) ?_
  · by_cases h1 : t.val + 1 < 4096
    · rw [dif_pos ⟨⟨by omega, by omega⟩, hq⟩, dif_pos h1]
      refine congrArg₂ (· * ·) (v12_apply V0 0 _) (Eq.trans ?_ (v32_apply V0 H _ h q))
      exact congrArg (fun t => (res_main_v32 V0 : Vec Ideal S4096x5632 .f32) (ix2 t (ConvSpec.cat h q))) (Fin.ext (by show 2 + t.val - 1 = t.val + 1; omega))
    · rw [dif_neg (by omega), dif_neg h1, mul_zero]
  · by_cases h1 : t.val + 2 < 4096
    · rw [dif_pos ⟨by omega, hq⟩, dif_pos h1]
      refine congrArg₂ (· * ·) (v6_apply V0 0 _) (Eq.trans ?_ (v32_apply V0 H _ h q))
      exact congrArg (fun t => (res_main_v32 V0 : Vec Ideal S4096x5632 .f32) (ix2 t (ConvSpec.cat h q))) (Fin.ext (by show 2 + t.val = t.val + 2; omega))
    · rw [dif_neg (by omega), dif_neg h1, mul_zero]

set_option maxHeartbeats 1000000 in
/-- The weights' gradient. -/
theorem v65_apply (i : Fin 3) (h : Fin 2) (q : Fin 2816) :
    (res_main_v65 V0 : Vec Ideal S3x5632 .f32) (ix2 i (ConvSpec.cat h q)) = ConvSpec.DW (u V0) (da V0) (w V0) (b V0) h i q := by
  have hq : 2816 * h.val + q.val < 5632 := by omega
  pointwise [res_main_v65]
  simp only [Fin.sum_univ_one]
  unfold ConvSpec.DW
  match i with
  | ⟨0, _⟩ =>
    rw [dif_neg (by simp), dif_neg (by simp), dif_pos ⟨by simp, hq⟩, zero_add, zero_add]
    exact sum_mul_eq (fun t => v32_apply V0 H t h q) fun t => v5_apply V0 t (ConvSpec.cat h q)
  | ⟨1, _⟩ =>
    rw [dif_neg (by simp), dif_pos ⟨by simp, hq⟩, dif_neg (by simp), zero_add, add_zero]
    exact sum_mul_eq (fun t => v32_apply V0 H t h q) fun t => v11_apply V0 t (ConvSpec.cat h q)
  | ⟨2, _⟩ =>
    rw [dif_pos ⟨by simp, hq⟩, dif_neg (by simp), dif_neg (by simp), add_zero, add_zero]
    exact sum_mul_eq (fun t => v32_apply V0 H t h q) fun t => (v18_apply V0 t (ConvSpec.cat h q)).trans (lag_zero (fun t => u V0 t (ConvSpec.cat h q)) t).symm

end Results

end Cert.Reference2Ideal.Value

end
-- ==== Proof.ConvFinite.lean ====
/- The precondition's finiteness, element by element, and what it says of the convolution's values. -/
module

public import proofs.«01_k».proof.Proof.Gen.Pre_all_finite
public import proofs.«01_k».proof.Proof.ConvSpec
public import proofs.«01_k».proof.Proof.Base

@[expose] public section

noncomputable section

namespace Cert.ConvFinite

open Idealize.ShloMosaic Cert.Pre_all_finite

/-- An extended real that is a real number. -/
def Real (x : EReal) : Prop := ∃ r : ℝ, x = r

theorem Real.zero : Real 0 := ⟨0, rfl⟩
theorem Real.add {x y : EReal} : Real x → Real y → Real (x + y) := by
  rintro ⟨a, rfl⟩ ⟨b, rfl⟩; exact ⟨a + b, rfl⟩
theorem Real.mul {x y : EReal} : Real x → Real y → Real (x * y) := by
  rintro ⟨a, rfl⟩ ⟨b, rfl⟩; exact ⟨a * b, rfl⟩

theorem Real.of_abs {x : EReal} (h : max x (-x) < ⊤) : Real x := by
  induction x with
  | bot => simp at h
  | top => simp at h
  | coe r => exact ⟨r, rfl⟩

theorem Real.lag {f : Fin 4096 → EReal} (h : ∀ t, Real (f t)) (d : ℕ) (t : Fin 4096) : Real (ConvSpec.lag f d t) := by
  unfold ConvSpec.lag
  split
  · exact h _
  · exact Real.zero

/-- A convolution of real numbers is one. -/
theorem Real.conv {w : Fin 3 → EReal} {b : EReal} {f : Fin 4096 → EReal} (hw : ∀ i, Real (w i)) (hb : Real b)
    (hf : ∀ t, Real (f t)) (t : Fin 4096) : Real (ConvSpec.conv w b f t) :=
  ((((hw 0).mul (Real.lag hf 2 t)).add ((hw 1).mul (Real.lag hf 1 t))).add ((hw 2).mul (hf t))).add hb

theorem and_one (a b : BitVec 1) (h : IntOp.andi a b = 1#1) : a = 1#1 ∧ b = 1#1 := by
  revert a b; decide

theorem inf_word : Ideal.ofBits .f32 2139095040#32 = (⊤ : EReal) := by
  simp [Ideal.ofBits, Ideal.ieee]

theorem Real.of_flag {x : EReal} (h : BitVec.ofBool (decide (FloatOps.absf (F := Ideal) (φ := .f32) x < Ideal.ofBits .f32 2139095040#32)) = 1#1) : Real x := by
  refine Real.of_abs ?_
  have e : decide (FloatOps.absf (F := Ideal) (φ := .f32) x < Ideal.ofBits .f32 2139095040#32) = true := by
    revert h
    cases decide (FloatOps.absf (F := Ideal) (φ := .f32) x < Ideal.ofBits .f32 2139095040#32) <;> decide
  have e' := of_decide_eq_true e
  rw [inf_word] at e'
  exact e'

variable (x0 : FVec Ideal S4096x5632 .f32) (x1 : FVec Ideal S4096x2816 .f32) (x2 : FVec Ideal S3x5632 .f32) (x3 : FVec Ideal S1x5632 .f32)

/-- Where the precondition holds, every element its row reaches is a real number. -/
theorem fn_elt (h : fn (F := Ideal) x0 x1 x2 x3 = fun _ => 1#1) (t : Fin 4096) (j : Fin 5632) :
    Real (x0 (ix2 t j)) ∧ Real (if h : j.val < 2816 then x1 (ix2 t ⟨j.val, h⟩) else x1 (ix2 t ⟨j.val - 2816, by omega⟩))
      ∧ Real (x2 (ix2 (0 : Fin 3) j)) ∧ Real (x2 (ix2 (1 : Fin 3) j)) ∧ Real (x2 (ix2 (2 : Fin 3) j)) ∧ Real (x3 (ix2 (0 : Fin 1) j)) := by
  have e := congrFun h (ix2 t j)
  revert e
  pointwise [fn, fn_part1]
  intro e
  obtain ⟨e1, e2⟩ := and_one _ _ e
  obtain ⟨e1, e3⟩ := and_one _ _ e1
  obtain ⟨e4, e5⟩ := and_one _ _ e2
  obtain ⟨e4, e6⟩ := and_one _ _ e4
  obtain ⟨e4, e7⟩ := and_one _ _ e4
  refine ⟨Real.of_flag e1, ?_, Real.of_flag e4, Real.of_flag e7, Real.of_flag e6, Real.of_flag e5⟩
  split at e3
  · rw [dif_pos (by assumption)]; exact Real.of_flag e3
  · rw [dif_neg (by assumption)]; exact Real.of_flag e3

/-- The incoming gradient times the value's column is a real number. -/
theorem real_product (h : fn (F := Ideal) x0 x1 x2 x3 = fun _ => 1#1) (t : Fin 4096) (q : Fin 2816) (j : Fin 5632) :
    Real (x1 (ix2 t q) * ConvSpec.Y (fun t j => x0 (ix2 t j)) (fun i j => x2 (ix2 i j)) (fun j => x3 (ix2 (0 : Fin 1) j)) j t) := by
  refine Real.mul ?_ (Real.conv ?_ (fn_elt x0 x1 x2 x3 h t j).2.2.2.2.2 (fun t => (fn_elt x0 x1 x2 x3 h t j).1) t)
  · have e := (fn_elt x0 x1 x2 x3 h t ⟨q.val, by omega⟩).2.1
    rwa [dif_pos q.isLt] at e
  · intro i
    match i with
    | ⟨0, _⟩ => exact (fn_elt x0 x1 x2 x3 h t j).2.2.1
    | ⟨1, _⟩ => exact (fn_elt x0 x1 x2 x3 h t j).2.2.2.1
    | ⟨2, _⟩ => exact (fn_elt x0 x1 x2 x3 h t j).2.2.2.2.1

end Cert.ConvFinite

end
-- ==== Proof.ConvSame.lean ====
/- The gradient of the convolution as printed and as read over the extended reals are one program: the rewriting changed
   none of its operations, so that what is proved of the one over any floats is a statement about the other. -/
module

public import proofs.«01_k».proof.Defs
public import proofs.«01_k».proof.Proof.ConvFrame
public import proofs.«01_k».proof.Proof.Gen.Kernel2

@[expose] public section

namespace Cert.Conv

open Idealize.ShloMosaic Idealize.ShloMosaic.TcCoe Idealize.SL.Sem

variable {F : FTy → Type} [FloatOps F]

/-- One body, -/
theorem body_same : Cert.Kernel2.cc0_conv_glu_bwd_l1 (F := F) = Cert.Kernel2Ideal.cc0_conv_glu_bwd_l1 (F := F) := rfl

/-- one table of bodies, -/
theorem bodies_same : Cert.Kernel2.defs₀ (F := F) = Cert.Kernel2Ideal.defs₀ (F := F) := by
  refine funext fun p => ?_
  match p with
  | .tc =>
    refine funext fun l => funext fun x => ?_
    match l, x with
    | (0 : Fin 1), (t, s) =>
      show Cert.Kernel2.cc0_conv_glu_bwd_l1 (F := F) _ _ _ _ _ _ _ _ _ _ _ _ _ _ _ _ _ _ _ _ _ _ _ _ _ = _
      rw [body_same]
      rfl
  | .scScalar _ => rfl
  | .scVector _ _ => rfl

/-- one run. -/
theorem frame_p : Cert.quiescent_Kernel2 := by
  intro m ρ _
  have h := Cert.Kernel2Ideal.Conv.frame (F := Bits) m ρ
  unfold Cert.Kernel2Ideal.defs at h
  rw [← bodies_same] at h
  exact h

end Cert.Conv
-- ==== Proof.ConvClaims.lean ====
/- The gradient of the convolution and its gate: the claims about it. -/
module

public import proofs.«01_k».proof.Proof.ConvValue
public import proofs.«01_k».proof.Proof.ConvRef
public import proofs.«01_k».proof.Proof.ConvFinite
public import proofs.«01_k».proof.Proof.ConvBlocks
public import proofs.«01_k».proof.Proof.ConvSame
public import proofs.«01_k».proof.Proof.Base

@[expose] public section

set_option maxRecDepth 16384

noncomputable section

namespace Cert.Conv

open Idealize.ShloMosaic Idealize.ShloMosaic.TcCoe Idealize.SL.Sem
open Cert.Reference2Ideal Cert.Reference2Ideal.Gen

/-- The reference's two halves of columns, stacked. -/
abbrev stack0 (x : Vec Ideal S4096x5632 .f32) : Vec Ideal S2x4096x2816 .bf16 :=
  truncf (F := Ideal) .bf16 (concatenate S2x4096x2816 0 [⟨S1x4096x2816, (broadcastInDim S1x4096x2816 ![1, 2] bcast_S4096x2816_S1x4096x2816_1_2 (extractStridedSlice S4096x2816 ![0, 0] x slices_S4096x5632_S4096x2816_0_0))⟩, ⟨S1x4096x2816, (broadcastInDim S1x4096x2816 ![1, 2] bcast_S4096x2816_S1x4096x2816_1_2 (extractStridedSlice S4096x2816 ![0, 2816] x slices_S4096x5632_S4096x2816_0_2816))⟩] concatenates_S1x4096x2816_S1x4096x2816_S2x4096x2816_d0) bitsLt_bf16_f32
abbrev stack1 (x : Vec Ideal S3x5632 .f32) : Vec Ideal S2x3x2816 .f32 :=
  concatenate S2x3x2816 0 [⟨S1x3x2816, (broadcastInDim S1x3x2816 ![1, 2] bcast_S3x2816_S1x3x2816_1_2 (extractStridedSlice S3x2816 ![0, 0] x slices_S3x5632_S3x2816_0_0))⟩, ⟨S1x3x2816, (broadcastInDim S1x3x2816 ![1, 2] bcast_S3x2816_S1x3x2816_1_2 (extractStridedSlice S3x2816 ![0, 2816] x slices_S3x5632_S3x2816_0_2816))⟩] concatenates_S1x3x2816_S1x3x2816_S2x3x2816_d0
abbrev stack2 (x : Vec Ideal S1x5632 .f32) : Vec Ideal S2x1x2816 .f32 :=
  concatenate S2x1x2816 0 [⟨S1x1x2816, (broadcastInDim S1x1x2816 ![1, 2] bcast_S1x2816_S1x1x2816_1_2 (extractStridedSlice S1x2816 ![0, 0] x slices_S1x5632_S1x2816_0_0))⟩, ⟨S1x1x2816, (broadcastInDim S1x1x2816 ![1, 2] bcast_S1x2816_S1x1x2816_1_2 (extractStridedSlice S1x2816 ![0, 2816] x slices_S1x5632_S1x2816_0_2816))⟩] concatenates_S1x1x2816_S1x1x2816_S2x1x2816_d0

theorem stack0_apply (x : Vec Ideal S4096x5632 .f32) (h : Fin 2) (r : Fin 4096) (q : Fin 2816) :
    stack0 x (ix3 h r q) = x (ix2 r (ConvSpec.cat h q)) := by
  pointwise [stack0]
  match h with
  | ⟨0, _⟩ => exact congrArg (fun j => x (ix2 r j)) (Fin.ext (show q.val = 2816 * 0 + q.val by omega))
  | ⟨1, _⟩ => exact congrArg (fun j => x (ix2 r j)) (Fin.ext (show 2816 + q.val = 2816 * 1 + q.val by omega))

theorem stack1_apply (x : Vec Ideal S3x5632 .f32) (h : Fin 2) (r : Fin 3) (q : Fin 2816) :
    stack1 x (ix3 h r q) = x (ix2 r (ConvSpec.cat h q)) := by
  pointwise [stack1]
  match h with
  | ⟨0, _⟩ => exact congrArg (fun j => x (ix2 r j)) (Fin.ext (show q.val = 2816 * 0 + q.val by omega))
  | ⟨1, _⟩ => exact congrArg (fun j => x (ix2 r j)) (Fin.ext (show 2816 + q.val = 2816 * 1 + q.val by omega))

theorem stack2_apply (x : Vec Ideal S1x5632 .f32) (h : Fin 2) (r : Fin 1) (q : Fin 2816) :
    stack2 x (ix3 h r q) = x (ix2 r (ConvSpec.cat h q)) := by
  obtain rfl : r = 0 := Subsingleton.elim _ _
  pointwise [stack2]
  match h with
  | ⟨0, _⟩ => exact congrArg (fun j : Fin 5632 => x (ix2 (0 : Fin 1) j)) (Fin.ext (show q.val = 2816 * 0 + q.val by omega))
  | ⟨1, _⟩ => exact congrArg (fun j : Fin 5632 => x (ix2 (0 : Fin 1) j)) (Fin.ext (show 2816 + q.val = 2816 * 1 + q.val by omega))

/-- The precondition, read on the reference's own arguments, makes the product real. -/
theorem real (V0 : Valuation τ sig (Elt Ideal))
    (h : Cert.Pre_all_finite.fn (F := Ideal) (V0 (Proc.devRef .tc main_arg0)) (V0 (Proc.devRef .tc main_arg1))
      (V0 (Proc.devRef .tc main_arg2)) (V0 (Proc.devRef .tc main_arg3)) = fun _ => 1#1) (t : Fin 4096) (q : Fin 2816) :
    ∃ d : ℝ, Value.da V0 t q * ConvSpec.Y (Value.u V0) (Value.w V0) (Value.b V0) (ConvSpec.cat 1 q) t = d :=
  ConvFinite.real_product _ _ _ _ h t q (ConvSpec.cat 1 q)

set_option maxHeartbeats 1000000 in
/-- Kernel and reference end with equal results. -/
theorem algebraic : Cert.algebraic_Kernel2Ideal_Reference2Ideal_pre_all_finite := by
  intro m ρ m' ρ' hpre hagree
  refine ⟨fun c => (Cert.Kernel2Ideal.Conv.dats m 0 c).arrAt 7 Cert.Kernel2Ideal.cfg0.N,
    fun c => (Cert.Kernel2Ideal.Conv.dats m 0 c).arrAt 8 Cert.Kernel2Ideal.cfg0.N,
    fun c => (Cert.Kernel2Ideal.Conv.dats m 0 c).arrAt 9 Cert.Kernel2Ideal.cfg0.N, Cert.Kernel2Ideal.Conv.run_blocks (F := Ideal) m ρ, ?_⟩
  refine (θ_run _ _ _).mono (fun _ h c => ?_) (Cert.Reference2Ideal.Value.run m' ρ')
  have a0 := (hagree c).1
  have a1 := (hagree c).2.1
  have a2 := (hagree c).2.2.1
  have a3 := (hagree c).2.2.2
  have hp := hpre c
  rw [← a0, ← a1, ← a2, ← a3] at hp
  have H := real (StableHlo.launchContents m' c) hp
  refine ⟨(h c).1.trans ?_, (h c).2.1.trans ?_, (h c).2.2.1.trans ?_, (h c).2.2.2⟩
  · refine funext fun (j : S2x4096x2816.Idx) => ?_
    obtain ⟨a, p, b, rfl⟩ : ∃ (a : Fin 2) (p : Fin 4096) (b : Fin 2816), j = ix3 a p b := ⟨j 0, j 1, j 2, eq_ix3 j⟩
    refine (stack0_apply _ a p b).trans ((Value.v67_apply _ H p a b).trans (Eq.trans ?_ (Cert.Kernel2Ideal.Conv.arr7_apply m c a p b).symm))
    rw [← a0, ← a1, ← a2, ← a3]
  · refine funext fun (j : S2x3x2816.Idx) => ?_
    obtain ⟨a, p, b, rfl⟩ : ∃ (a : Fin 2) (p : Fin 3) (b : Fin 2816), j = ix3 a p b := ⟨j 0, j 1, j 2, eq_ix3 j⟩
    refine (stack1_apply _ a p b).trans ((Value.v65_apply _ H p a b).trans (Eq.trans ?_ (Cert.Kernel2Ideal.Conv.arr8_apply m c a p b).symm))
    rw [← a0, ← a1, ← a2, ← a3]
  · refine funext fun (j : S2x1x2816.Idx) => ?_
    obtain ⟨a, p, b, rfl⟩ : ∃ (a : Fin 2) (p : Fin 1) (b : Fin 2816), j = ix3 a p b := ⟨j 0, j 1, j 2, eq_ix3 j⟩
    refine (stack2_apply _ a p b).trans ((Value.v34_apply _ H p a b).trans (Eq.trans ?_ (Cert.Kernel2Ideal.Conv.arr9_apply m c a p b).symm))
    rw [← a0, ← a1, ← a2, ← a3]

/-- The frames of the other programs. -/
theorem frame_i : Cert.quiescent_Kernel2Ideal := fun m ρ _ => Cert.Kernel2Ideal.Conv.frame m ρ
theorem frame_i_pre : Cert.quiescent_Kernel2Ideal_pre_all_finite := fun m ρ _ => Cert.Kernel2Ideal.Conv.frame m ρ
theorem frame_r : Cert.quiescent_Reference2Ideal := fun m ρ _ =>
  (θ_run _ _ _).mono (fun r h => ⟨fun c => (h c).2.2.2, sem_eq_zero_of_no_sems (by decide) r.2⟩)
    (Cert.Reference2Ideal.Value.run m ρ)
theorem frame_r_pre : Cert.quiescent_Reference2Ideal_pre_all_finite := fun m ρ _ => frame_r m ρ trivial

end Cert.Conv

end
-- ==== Proof.UpDx.lean ====
/- The gradient entering the feed-forward block's up projection: each output block is the sum of two products of blocks, the first kept in the scratch. Here:
   what an output element ends holding, as the sum over the contracted axis; the reference's element, which is the same sum;
   and the claims about this product. -/
module

public import proofs.«01_k».proof.Proof.Gen.Kernel3Ideal.Value
public import proofs.«01_k».proof.Proof.Gen.Kernel3.Frame
public import proofs.«01_k».proof.Proof.Gen.Reference3Ideal.Run
public import proofs.«01_k».proof.Proof.Base

@[expose] public section

set_option maxRecDepth 16384

noncomputable section

namespace Cert.UpDx

section
open Cert.Kernel3Ideal Cert.Kernel3Ideal.Gen Cert.Kernel3Ideal.Value Idealize.ShloMosaic Idealize.ShloMosaic.TcCoe Idealize.SL.Sem

variable {F : FTy → Type} [FloatOps F]
variable (m : (ℓ : Loc nD τ sig) → Buf (Elt F) ℓ)

/-- The first product of an output block goes to the scratch. -/
theorem sout_A (c : Dev nD) (i : grid0.Coords) (a3 : Memref sig .tc .vmem S1x512x2816 .bf16) (h3 : a3.IsWhole) (a4 : Memref sig .tc .vmem S1024x2816 .bf16) (h4 : a4.IsWhole) (a5 : Memref sig .tc .vmem S512x1024 .f32) (h5 : a5.IsWhole) (a6 : Memref sig .tc .vmem S512x1024 .f32) (h6 : a6.IsWhole) (hc0 : cond0_0 i) (hc1 : ¬cond0_1 i) (hc2 : ¬cond0_2 i)
    (x0 : Vec F S1x512x2816 .bf16) (x1 : Vec F S1024x2816 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz2]
  unfold k0_pay2
  simp only [View.readAt_eq_ld, h3.read_unread, h4.read_unread, View.ld_unit_zero (S := S1x512x2816) hz3, View.ld_unit_zero (S := S1024x2816) hz2, shapeCast_self]

/-- The second product is added to the scratch and goes to the output block. -/
theorem out_B (c : Dev nD) (i : grid0.Coords) (a3 : Memref sig .tc .vmem S1x512x2816 .bf16) (h3 : a3.IsWhole) (a4 : Memref sig .tc .vmem S1024x2816 .bf16) (h4 : a4.IsWhole) (a5 : Memref sig .tc .vmem S512x1024 .f32) (h5 : a5.IsWhole) (a6 : Memref sig .tc .vmem S512x1024 .f32) (h6 : a6.IsWhole) (hc0 : ¬cond0_0 i) (hc1 : ¬cond0_1 i) (hc2 : cond0_2 i)
    (x0 : Vec F S1x512x2816 .bf16) (x1 : Vec F S1024x2816 .bf16) (xs : Vec F S512x1024 .f32) :
    out0_B_2 c i a3 h3 a4 h4 a5 h5 a6 h6 hc0 hc1 hc2 x0 x1 xs = k0_pay4 x0 x1 xs := by
  unfold out0_B_2
  rw [View.read_writes_eq_canon _ _ _ (cover0_B_2 c i a3 h3 a4 h4 a5 h5 a6 h6 hc0 hc1 hc2 x0 x1 xs)]
  unfold kernelRun0_B
  dsimp only
  rw [View.canon_unit_zero hz2]
  simp only [View.readAt_eq_ld, h3.read_unread, h4.read_unread, h6.read_unread, View.ld_unit_zero (S := S1x512x2816) hz3, View.ld_unit_zero (S := S1024x2816) hz2, View.ld_unit_zero (S := S512x1024) hz2]

/-- The block of the first argument that point `t` reads, at an element. -/
theorem x_block (c : Dev nD) (t : Fin cfg0.N) (l0 : Fin 1) (l1 : Fin 512) (l2 : Fin 2816) (i : S2x4096x2816.Idx)
    (h0 : (i 0).val = t.val % 2 * 1 + l0.val) (h1 : (i 1).val = t.val / 2 * 512 + l1.val) (h2 : (i 2).val = (0) * 2816 + l2.val) :
    (iblk m c 0 t : Vec F S1x512x2816 .bf16) (ix3 l0 l1 l2) = m ((c : Thread nD τ).loc main_arg0) i := by
  have hi := (by decide +kernel : ∀ t : Fin grid0.N, win0_0.index t 0 = t.val % 2 ∧ win0_0.index t 1 = t.val / 2 ∧ win0_0.index t 2 = 0) t
  refine congrArg (m ((c : Thread nD τ).loc main_arg0)) (funext fun a => Fin.ext ?_)
  match a with
  | ⟨0, _⟩ => show win0_0.index t 0 * 1 + 1 * l0.val = (i 0).val; rw [hi.1, h0]; omega
  | ⟨1, _⟩ => show win0_0.index t 1 * 512 + 1 * l1.val = (i 1).val; rw [hi.2.1, h1]; omega
  | ⟨2, _⟩ => show win0_0.index t 2 * 2816 + 1 * l2.val = (i 2).val; rw [hi.2.2, h2]; omega

/-- The block of the second argument that point `t` reads, at an element. -/
theorem y_block (c : Dev nD) (t : Fin cfg0.N) (l0 : Fin 1024) (l1 : Fin 2816) (i : S1024x5632.Idx)
    (h0 : (i 0).val = (0) * 1024 + l0.val) (h1 : (i 1).val = t.val % 2 * 2816 + l1.val) :
    (iblk m c 1 t : Vec F S1024x2816 .bf16) (ix2 l0 l1) = m ((c : Thread nD τ).loc main_arg1) i := by
  have hi := (by decide +kernel : ∀ t : Fin grid0.N, win0_1.index t 0 = 0 ∧ win0_1.index t 1 = t.val % 2) t
  refine congrArg (m ((c : Thread nD τ).loc main_arg1)) (funext fun a => Fin.ext ?_)
  match a with
  | ⟨0, _⟩ => show win0_1.index t 0 * 1024 + 1 * l0.val = (i 0).val; rw [hi.1, h0]; omega
  | ⟨1, _⟩ => show win0_1.index t 1 * 2816 + 1 * l1.val = (i 1).val; rw [hi.2, h1]; omega

end

section
open Cert.Kernel3Ideal Cert.Kernel3Ideal.Gen Cert.Kernel3Ideal.Value Idealize.ShloMosaic Idealize.ShloMosaic.TcCoe Idealize.SL.Sem

variable (m : (ℓ : Loc nD τ sig) → Buf (Elt Ideal) ℓ)

/-- The product of two blocks at an element: the sum over the blocks' contracted axis. -/
theorem pay1_apply (x0 : Vec Ideal S1x512x2816 .bf16) (x1 : Vec Ideal S1024x2816 .bf16) (p : Fin 512) (q : Fin 1024) :
    k0_pay1 x0 x1 (ix2 p q) = ∑ k : Fin 2816, x0 (ix3 (0 : Fin 1) p k) * x1 (ix2 q k) := by
  pointwise [k0_pay1]

/-- The product of the two arguments at an element of the result. -/
def prod (x : Vec Ideal S2x4096x2816 .bf16) (y : Vec Ideal S1024x5632 .bf16) (p : Fin 4096) (b : Fin 1024) : EReal :=
  ∑ k : Fin 5632, x (ix3 (⟨k.val / 2816, by omega⟩ : Fin 2) p (⟨k.val % 2816, by omega⟩ : Fin 2816)) * y (ix2 b k)

/-- What the scratch holds after the first product of an output block. -/
theorem scratch_even (c : Dev nD) (t : Fin cfg0.N) (h : t.val % 2 = 0) :
    (outsAt0 m c t.val t.isLt).2 = k0_pay1 (iblk m c 0 t) (iblk m c 1 t) := by
  rw [outsAt0_A m c t h (by omega)]
  dsimp only
  rw [sout_A]

/-- What the output's buffer holds after the second product. -/
theorem out_odd (c : Dev nD) (t t' : Fin cfg0.N) (h : t.val % 2 = 1) (h' : t'.val = t.val - 1) :
    (outsAt0 m c t.val t.isLt).1 = k0_pay4 (iblk m c 0 t) (iblk m c 1 t) (k0_pay1 (iblk m c 0 t') (iblk m c 1 t')) := by
  have h0 : ¬t.val % 2 = 0 := by omega
  have e := scratch_even m c t' (by omega)
  obtain ⟨n, hn⟩ := t'
  dsimp only at h' e
  subst h'
  rw [outsAt0_B m c t h0 h]
  dsimp only
  rw [out_B, e]

/-- An element of an output block: the sum over the whole contracted axis. -/
theorem block_apply (c : Dev nD) (p : Fin 4096) (b : Fin 1024) (t t' : Fin cfg0.N)
    (h : t.val = 2 * ((p.val / 512)) + 1) (h' : t'.val = 2 * ((p.val / 512))) :
    k0_pay4 (iblk m c 0 t) (iblk m c 1 t) (k0_pay1 (iblk m c 0 t') (iblk m c 1 t')) (ix2 (⟨p.val % 512, by omega⟩ : Fin 512) (⟨b.val % 1024, by omega⟩ : Fin 1024))
      = prod (m ((c : Thread nD τ).loc main_arg0)) (m ((c : Thread nD τ).loc main_arg1)) p b := by
  unfold prod
  rw [Fin.sum_univ_two_halves 2816 2816 rfl]
  pointwise [k0_pay4]
  rw [pay1_apply, pay1_apply]
  congr 1
  · refine Finset.sum_congr rfl fun k _ => ?_
    congr 1
    · exact x_block m c _ 0 _ k _ (by simp <;> omega) (by simp <;> omega) (by simp <;> omega)
    · exact y_block m c _ _ k _ (by simp <;> omega) (by simp <;> omega)
  · refine Finset.sum_congr rfl fun k _ => ?_
    congr 1
    · exact x_block m c _ 0 _ k _ (by simp <;> omega) (by simp <;> omega) (by simp <;> omega)
    · exact y_block m c _ _ k _ (by simp <;> omega) (by simp <;> omega)

/-- An element of the result: the sum over the whole contracted axis. -/
theorem result_apply (c : Dev nD) (p : Fin 4096) (b : Fin 1024) :
    (G2 m c : Vec Ideal S4096x1024 .f32) (ix2 p b) = prod (m ((c : Thread nD τ).loc main_arg0)) (m ((c : Thread nD τ).loc main_arg1)) p b := by
  have hN : cfg0.N = 16 := N_0
  have hp : pt2Of (ix2 p b) = 2 * ((p.val / 512)) + 1 := by
    show 2 * (1 * (p.val / 512 - 0) + 1 * (b.val / 1024 - 0)) + 1 = _
    omega
  have hlt : pt2Of (ix2 p b) < cfg0.N := by rw [hp, hN]; omega
  have hl : loc2Of (ix2 p b) = (ix2 (⟨p.val % 512, by omega⟩ : Fin 512) (⟨b.val % 1024, by omega⟩ : Fin 1024)) := by
    funext d; apply Fin.ext
    match d with
    | ⟨0, _⟩ => rfl
    | ⟨1, _⟩ => rfl
  unfold G2
  rw [dif_pos hlt, ← outsAt0_sweep m c (pt2Of (ix2 p b)) hlt,
    out_odd m c ⟨pt2Of (ix2 p b), hlt⟩ ⟨pt2Of (ix2 p b) - 1, by omega⟩ (by dsimp only; omega) rfl, hl]
  exact block_apply m c p b _ _ hp (by dsimp only; omega)

end

section
open Idealize.ShloMosaic Idealize.ShloMosaic.TcCoe Idealize.SL.Sem
open Cert.Reference3Ideal Cert.Reference3Ideal.Gen

/-- The reference's expression of its two arguments. -/
abbrev ref (x : Vec Ideal S2x4096x2816 .bf16) (y : Vec Ideal S1024x5632 .bf16) : Vec Ideal S4096x1024 .f32 :=
  Host.dotGeneral (F := Ideal) (φ₁ := .f32) (φ₂ := .f32) dot_S4096x5632_S1024x5632_S4096x1024_1_1_0_0_n_n none (concatenate S4096x5632 1 [⟨S4096x2816, (shapeCast _ (extractStridedSlice S1x4096x2816 ![0, 0, 0] (extf (F := Ideal) .f32 x bitsLt_bf16_f32) slices_S2x4096x2816_S1x4096x2816_0_0_0) shapeCasts_S1x4096x2816_S4096x2816)⟩, ⟨S4096x2816, (shapeCast _ (extractStridedSlice S1x4096x2816 ![1, 0, 0] (extf (F := Ideal) .f32 x bitsLt_bf16_f32) slices_S2x4096x2816_S1x4096x2816_1_0_0) shapeCasts_S1x4096x2816_S4096x2816)⟩] concatenates_S4096x2816_S4096x2816_S4096x5632_d1) (extf (F := Ideal) .f32 y bitsLt_bf16_f32)

/-- The reference's element: the same sum. -/
theorem ref_apply (x : Vec Ideal S2x4096x2816 .bf16) (y : Vec Ideal S1024x5632 .bf16) (p : Fin 4096) (b : Fin 1024) :
    ref x y (ix2 p b) = prod x y p b := by
  pointwise [ref, prod]
  rw [Fin.sum_univ_two_halves 2816 2816 rfl]
  congr 1

/-- Kernel and reference end with equal results. -/
theorem algebraic : Cert.algebraic_Kernel3Ideal_Reference3Ideal := by
  intro m ρ m' ρ' _ hagree
  refine ⟨fun c => Cert.Kernel3Ideal.Value.G2 m c, Cert.Kernel3Ideal.Value.run m ρ, ?_⟩
  refine (θ_run _ _ _).mono (fun _ h c => ?_) (Cert.Reference3Ideal.Value.run m' ρ')
  refine ⟨(h c).1.trans ?_, (h c).2⟩
  rw [(hagree c).1, (hagree c).2]
  refine funext fun (j : S4096x1024.Idx) => ?_
  obtain ⟨p, b, rfl⟩ : ∃ (p : Fin 4096) (b : Fin 1024), j = ix2 p b := ⟨j 0, j 1, eq_ix2 j⟩
  exact (ref_apply _ _ p b).trans (result_apply m c p b).symm

/-- The frames of the three programs. -/
theorem frame_p : Cert.quiescent_Kernel3 := fun m ρ _ => Cert.Kernel3.Gen.frame m ρ
theorem frame_i : Cert.quiescent_Kernel3Ideal := fun m ρ _ => Cert.Kernel3Ideal.Gen.frame m ρ
theorem frame_r : Cert.quiescent_Reference3Ideal := fun m ρ _ =>
  (θ_run _ _ _).mono (fun r h => ⟨fun c => (h c).2, sem_eq_zero_of_no_sems (by decide) r.2⟩)
    (Cert.Reference3Ideal.Value.run m ρ)

end

end Cert.UpDx

end
-- ==== Proof.DownDx.lean ====
/- The gradient entering the feed-forward block's down projection: each output block is one product of two blocks. Here:
   what an output element ends holding, as the sum over the contracted axis; the reference's element, which is the same sum;
   and the claims about this product. -/
module

public import proofs.«01_k».proof.Proof.Gen.Kernel4Ideal.Value
public import proofs.«01_k».proof.Proof.Gen.Kernel4.Frame
public import proofs.«01_k».proof.Proof.Gen.Reference4Ideal.Run
public import proofs.«01_k».proof.Proof.Base

@[expose] public section

set_option maxRecDepth 16384

noncomputable section

namespace Cert.DownDx

section
open Cert.Kernel4Ideal Cert.Kernel4Ideal.Gen Cert.Kernel4Ideal.Value Idealize.ShloMosaic Idealize.ShloMosaic.TcCoe Idealize.SL.Sem

variable {F : FTy → Type} [FloatOps F]
variable (m : (ℓ : Loc nD τ sig) → Buf (Elt F) ℓ)

/-- The block of the first argument that point `t` reads, at an element. -/
theorem x_block (c : Dev nD) (t : Fin cfg0.N) (l0 : Fin 512) (l1 : Fin 1024) (i : S4096x1024.Idx)
    (h0 : (i 0).val = t.val % 8 * 512 + l0.val) (h1 : (i 1).val = (0) * 1024 + l1.val) :
    (iblk m c 0 t : Vec F S512x1024 .bf16) (ix2 l0 l1) = m ((c : Thread nD τ).loc main_arg0) i := by
  have hi := (by decide +kernel : ∀ t : Fin grid0.N, win0_0.index t 0 = t.val % 8 ∧ win0_0.index t 1 = 0) t
  refine congrArg (m ((c : Thread nD τ).loc main_arg0)) (funext fun a => Fin.ext ?_)
  match a with
  | ⟨0, _⟩ => show win0_0.index t 0 * 512 + 1 * l0.val = (i 0).val; rw [hi.1, h0]; omega
  | ⟨1, _⟩ => show win0_0.index t 1 * 1024 + 1 * l1.val = (i 1).val; rw [hi.2, h1]; omega

/-- The block of the second argument that point `t` reads, at an element. -/
theorem y_block (c : Dev nD) (t : Fin cfg0.N) (l0 : Fin 1408) (l1 : Fin 1024) (i : S2816x1024.Idx)
    (h0 : (i 0).val = t.val / 8 * 1408 + l0.val) (h1 : (i 1).val = (0) * 1024 + l1.val) :
    (iblk m c 1 t : Vec F S1408x1024 .bf16) (ix2 l0 l1) = m ((c : Thread nD τ).loc main_arg1) i := by
  have hi := (by decide +kernel : ∀ t : Fin grid0.N, win0_1.index t 0 = t.val / 8 ∧ win0_1.index t 1 = 0) t
  refine congrArg (m ((c : Thread nD τ).loc main_arg1)) (funext fun a => Fin.ext ?_)
  match a with
  | ⟨0, _⟩ => show win0_1.index t 0 * 1408 + 1 * l0.val = (i 0).val; rw [hi.1, h0]; omega
  | ⟨1, _⟩ => show win0_1.index t 1 * 1024 + 1 * l1.val = (i 1).val; rw [hi.2, h1]; omega

end

section
open Cert.Kernel4Ideal Cert.Kernel4Ideal.Gen Cert.Kernel4Ideal.Value Idealize.ShloMosaic Idealize.ShloMosaic.TcCoe Idealize.SL.Sem

variable (m : (ℓ : Loc nD τ sig) → Buf (Elt Ideal) ℓ)

/-- The product of two blocks at an element: the sum over the blocks' contracted axis. -/
theorem pay1_apply (x0 : Vec Ideal S512x1024 .bf16) (x1 : Vec Ideal S1408x1024 .bf16) (p : Fin 512) (q : Fin 1408) :
    k0_pay1 x0 x1 (ix2 p q) = ∑ k : Fin 1024, x0 (ix2 p k) * x1 (ix2 q k) := by
  pointwise [k0_pay1]

/-- The product of the two arguments at an element of the result. -/
def prod (x : Vec Ideal S4096x1024 .bf16) (y : Vec Ideal S2816x1024 .bf16) (p : Fin 4096) (b : Fin 2816) : EReal :=
  ∑ k : Fin 1024, x (ix2 p k) * y (ix2 b k)

/-- An element of the block a point writes. -/
theorem out_apply (x0 : Vec Ideal S512x1024 .bf16) (x1 : Vec Ideal S1408x1024 .bf16) (p : Fin 512) (q : Fin 1408) :
    (out0_2 x0 x1 : Vec Ideal S512x1408 .f32) (ix2 p q) = ∑ k : Fin 1024, x0 (ix2 p k) * x1 (ix2 q k) := by
  unfold out0_2
  rw [View.canon_unit_zero hz2]
  simp only [View.ld_unit_zero (S := S512x1024) hz2, View.ld_unit_zero (S := S1408x1024) hz2]
  exact pay1_apply x0 x1 p q

/-- An element of the result: the sum over the contracted axis. -/
theorem result_apply (c : Dev nD) (p : Fin 4096) (b : Fin 2816) :
    ((dats m 0 c).arrAt 2 cfg0.N : Vec Ideal S4096x2816 .f32) (ix2 p b) = prod (m ((c : Thread nD τ).loc main_arg0)) (m ((c : Thread nD τ).loc main_arg1)) p b := by
  have hN : cfg0.N = 16 := N_0
  obtain ⟨t, ht⟩ : ∃ t : Fin cfg0.N, t.val = p.val / 512 + 8 * (b.val / 1408) := ⟨⟨p.val / 512 + 8 * (b.val / 1408), by omega⟩, rfl⟩
  have hf : (cfg0.win 2).flush t = true := (by decide +kernel : ∀ t : Fin grid0.N, win0_2.flush t = true) t
  have e := congrFun (blocks2 m c t hf) (ix2 (⟨p.val % 512, by omega⟩ : Fin 512) (⟨b.val % 1408, by omega⟩ : Fin 1408))
  rw [View.read_apply, flushed2] at e
  have hi := (by decide +kernel : ∀ t : Fin grid0.N, win0_2.index t 0 = t.val % 8 ∧ win0_2.index t 1 = t.val / 8) t
  have hidx : ((cfg0.win 2).blk t).view.emb (ix2 (⟨p.val % 512, by omega⟩ : Fin 512) (⟨b.val % 1408, by omega⟩ : Fin 1408)) = (ix2 p b) := by
    refine funext fun d => Fin.ext ?_
    match d with
    | ⟨0, _⟩ => show win0_2.index t 0 * 512 + 1 * (p.val % 512) = p.val; rw [hi.1]; omega
    | ⟨1, _⟩ => show win0_2.index t 1 * 1408 + 1 * (b.val % 1408) = b.val; rw [hi.2]; omega
  rw [hidx] at e
  refine e.trans ?_
  refine (out_apply (iblk m c 0 t) (iblk m c 1 t) _ _).trans ?_
  unfold prod
  refine Finset.sum_congr rfl fun k _ => ?_
  congr 1
  · exact x_block m c _ _ k _ (by simp <;> omega) (by simp <;> omega)
  · exact y_block m c _ _ k _ (by simp <;> omega) (by simp <;> omega)

end

section
open Idealize.ShloMosaic Idealize.ShloMosaic.TcCoe Idealize.SL.Sem
open Cert.Reference4Ideal Cert.Reference4Ideal.Gen

/-- The reference's expression of its two arguments. -/
abbrev ref (x : Vec Ideal S4096x1024 .bf16) (y : Vec Ideal S2816x1024 .bf16) : Vec Ideal S4096x2816 .f32 :=
  Host.dotGeneral (F := Ideal) (φ₁ := .f32) (φ₂ := .f32) dot_S4096x1024_S2816x1024_S4096x2816_1_1_0_0_n_n none (extf (F := Ideal) .f32 x bitsLt_bf16_f32) (extf (F := Ideal) .f32 y bitsLt_bf16_f32)

/-- The reference's element: the same sum. -/
theorem ref_apply (x : Vec Ideal S4096x1024 .bf16) (y : Vec Ideal S2816x1024 .bf16) (p : Fin 4096) (b : Fin 2816) :
    ref x y (ix2 p b) = prod x y p b := by
  pointwise [ref, prod]

/-- Kernel and reference end with equal results. -/
theorem algebraic : Cert.algebraic_Kernel4Ideal_Reference4Ideal := by
  intro m ρ m' ρ' _ hagree
  refine ⟨fun c => (Cert.Kernel4Ideal.Gen.dats m 0 c).arrAt 2 Cert.Kernel4Ideal.cfg0.N, Cert.Kernel4Ideal.Value.run_blocks (F := Ideal) m ρ, ?_⟩
  refine (θ_run _ _ _).mono (fun _ h c => ?_) (Cert.Reference4Ideal.Value.run m' ρ')
  refine ⟨(h c).1.trans ?_, (h c).2⟩
  rw [(hagree c).1, (hagree c).2]
  refine funext fun (j : S4096x2816.Idx) => ?_
  obtain ⟨p, b, rfl⟩ : ∃ (p : Fin 4096) (b : Fin 2816), j = ix2 p b := ⟨j 0, j 1, eq_ix2 j⟩
  exact (ref_apply _ _ p b).trans (result_apply m c p b).symm

/-- The frames of the three programs. -/
theorem frame_p : Cert.quiescent_Kernel4 := fun m ρ _ => Cert.Kernel4.Gen.frame m ρ
theorem frame_i : Cert.quiescent_Kernel4Ideal := fun m ρ _ => Cert.Kernel4Ideal.Gen.frame m ρ
theorem frame_r : Cert.quiescent_Reference4Ideal := fun m ρ _ =>
  (θ_run _ _ _).mono (fun r h => ⟨fun c => (h c).2, sem_eq_zero_of_no_sems (by decide) r.2⟩)
    (Cert.Reference4Ideal.Value.run m ρ)

end

end Cert.DownDx

end
-- ==== Proof.DownDw.lean ====
/- The gradient of the down projection's weight: each output block is the sum of two products of blocks, the first kept in the scratch. Here:
   what an output element ends holding, as the sum over the contracted axis; the reference's element, which is the same sum;
   and the claims about this product. -/
module

public import proofs.«01_k».proof.Proof.Gen.Kernel5Ideal.Value
public import proofs.«01_k».proof.Proof.Gen.Kernel5.Frame
public import proofs.«01_k».proof.Proof.Gen.Reference5Ideal.Run
public import proofs.«01_k».proof.Proof.Base

@[expose] public section

set_option maxRecDepth 16384

noncomputable section

namespace Cert.DownDw

section
open Cert.Kernel5Ideal Cert.Kernel5Ideal.Gen Cert.Kernel5Ideal.Value Idealize.ShloMosaic Idealize.ShloMosaic.TcCoe Idealize.SL.Sem

variable {F : FTy → Type} [FloatOps F]
variable (m : (ℓ : Loc nD τ sig) → Buf (Elt F) ℓ)

/-- The first product of an output block goes to the scratch. -/
theorem sout_A (c : Dev nD) (i : grid0.Coords) (a3 : Memref sig .tc .vmem S2048x1408 .bf16) (h3 : a3.IsWhole) (a4 : Memref sig .tc .vmem S2048x512 .bf16) (h4 : a4.IsWhole) (a5 : Memref sig .tc .vmem S1408x512 .f32) (h5 : a5.IsWhole) (a6 : Memref sig .tc .vmem S1408x512 .f32) (h6 : a6.IsWhole) (hc0 : cond0_0 i) (hc1 : ¬cond0_1 i) (hc2 : ¬cond0_2 i)
    (x0 : Vec F S2048x1408 .bf16) (x1 : Vec F S2048x512 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz2]
  unfold k0_pay2
  simp only [View.readAt_eq_ld, h3.read_unread, h4.read_unread, View.ld_unit_zero (S := S2048x1408) hz2, View.ld_unit_zero (S := S2048x512) hz2, shapeCast_self]

/-- The second product is added to the scratch and goes to the output block. -/
theorem out_B (c : Dev nD) (i : grid0.Coords) (a3 : Memref sig .tc .vmem S2048x1408 .bf16) (h3 : a3.IsWhole) (a4 : Memref sig .tc .vmem S2048x512 .bf16) (h4 : a4.IsWhole) (a5 : Memref sig .tc .vmem S1408x512 .f32) (h5 : a5.IsWhole) (a6 : Memref sig .tc .vmem S1408x512 .f32) (h6 : a6.IsWhole) (hc0 : ¬cond0_0 i) (hc1 : ¬cond0_1 i) (hc2 : cond0_2 i)
    (x0 : Vec F S2048x1408 .bf16) (x1 : Vec F S2048x512 .bf16) (xs : Vec F S1408x512 .f32) :
    out0_B_2 c i a3 h3 a4 h4 a5 h5 a6 h6 hc0 hc1 hc2 x0 x1 xs = k0_pay4 x0 x1 xs := by
  unfold out0_B_2
  rw [View.read_writes_eq_canon _ _ _ (cover0_B_2 c i a3 h3 a4 h4 a5 h5 a6 h6 hc0 hc1 hc2 x0 x1 xs)]
  unfold kernelRun0_B
  dsimp only
  rw [View.canon_unit_zero hz2]
  simp only [View.readAt_eq_ld, h3.read_unread, h4.read_unread, h6.read_unread, View.ld_unit_zero (S := S2048x1408) hz2, View.ld_unit_zero (S := S2048x512) hz2, View.ld_unit_zero (S := S1408x512) hz2]

/-- The block of the first argument that point `t` reads, at an element. -/
theorem x_block (c : Dev nD) (t : Fin cfg0.N) (l0 : Fin 2048) (l1 : Fin 1408) (i : S4096x2816.Idx)
    (h0 : (i 0).val = t.val % 2 * 2048 + l0.val) (h1 : (i 1).val = t.val / 4 * 1408 + l1.val) :
    (iblk m c 0 t : Vec F S2048x1408 .bf16) (ix2 l0 l1) = m ((c : Thread nD τ).loc main_arg0) i := by
  have hi := (by decide +kernel : ∀ t : Fin grid0.N, win0_0.index t 0 = t.val % 2 ∧ win0_0.index t 1 = t.val / 4) t
  refine congrArg (m ((c : Thread nD τ).loc main_arg0)) (funext fun a => Fin.ext ?_)
  match a with
  | ⟨0, _⟩ => show win0_0.index t 0 * 2048 + 1 * l0.val = (i 0).val; rw [hi.1, h0]; omega
  | ⟨1, _⟩ => show win0_0.index t 1 * 1408 + 1 * l1.val = (i 1).val; rw [hi.2, h1]; omega

/-- The block of the second argument that point `t` reads, at an element. -/
theorem y_block (c : Dev nD) (t : Fin cfg0.N) (l0 : Fin 2048) (l1 : Fin 512) (i : S4096x1024.Idx)
    (h0 : (i 0).val = t.val % 2 * 2048 + l0.val) (h1 : (i 1).val = t.val / 2 % 2 * 512 + l1.val) :
    (iblk m c 1 t : Vec F S2048x512 .bf16) (ix2 l0 l1) = m ((c : Thread nD τ).loc main_arg1) i := by
  have hi := (by decide +kernel : ∀ t : Fin grid0.N, win0_1.index t 0 = t.val % 2 ∧ win0_1.index t 1 = t.val / 2 % 2) t
  refine congrArg (m ((c : Thread nD τ).loc main_arg1)) (funext fun a => Fin.ext ?_)
  match a with
  | ⟨0, _⟩ => show win0_1.index t 0 * 2048 + 1 * l0.val = (i 0).val; rw [hi.1, h0]; omega
  | ⟨1, _⟩ => show win0_1.index t 1 * 512 + 1 * l1.val = (i 1).val; rw [hi.2, h1]; omega

end

section
open Cert.Kernel5Ideal Cert.Kernel5Ideal.Gen Cert.Kernel5Ideal.Value Idealize.ShloMosaic Idealize.ShloMosaic.TcCoe Idealize.SL.Sem

variable (m : (ℓ : Loc nD τ sig) → Buf (Elt Ideal) ℓ)

/-- The product of two blocks at an element: the sum over the blocks' contracted axis. -/
theorem pay1_apply (x0 : Vec Ideal S2048x1408 .bf16) (x1 : Vec Ideal S2048x512 .bf16) (p : Fin 1408) (q : Fin 512) :
    k0_pay1 x0 x1 (ix2 p q) = ∑ k : Fin 2048, x0 (ix2 k p) * x1 (ix2 k q) := by
  pointwise [k0_pay1]

/-- The product of the two arguments at an element of the result. -/
def prod (x : Vec Ideal S4096x2816 .bf16) (y : Vec Ideal S4096x1024 .bf16) (p : Fin 2816) (b : Fin 1024) : EReal :=
  ∑ k : Fin 4096, x (ix2 k p) * y (ix2 k b)

/-- What the scratch holds after the first product of an output block. -/
theorem scratch_even (c : Dev nD) (t : Fin cfg0.N) (h : t.val % 2 = 0) :
    (outsAt0 m c t.val t.isLt).2 = k0_pay1 (iblk m c 0 t) (iblk m c 1 t) := by
  rw [outsAt0_A m c t h (by omega)]
  dsimp only
  rw [sout_A]

/-- What the output's buffer holds after the second product. -/
theorem out_odd (c : Dev nD) (t t' : Fin cfg0.N) (h : t.val % 2 = 1) (h' : t'.val = t.val - 1) :
    (outsAt0 m c t.val t.isLt).1 = k0_pay4 (iblk m c 0 t) (iblk m c 1 t) (k0_pay1 (iblk m c 0 t') (iblk m c 1 t')) := by
  have h0 : ¬t.val % 2 = 0 := by omega
  have e := scratch_even m c t' (by omega)
  obtain ⟨n, hn⟩ := t'
  dsimp only at h' e
  subst h'
  rw [outsAt0_B m c t h0 h]
  dsimp only
  rw [out_B, e]

/-- An element of an output block: the sum over the whole contracted axis. -/
theorem block_apply (c : Dev nD) (p : Fin 2816) (b : Fin 1024) (t t' : Fin cfg0.N)
    (h : t.val = 2 * (2 * (p.val / 1408) + b.val / 512) + 1) (h' : t'.val = 2 * (2 * (p.val / 1408) + b.val / 512)) :
    k0_pay4 (iblk m c 0 t) (iblk m c 1 t) (k0_pay1 (iblk m c 0 t') (iblk m c 1 t')) (ix2 (⟨p.val % 1408, by omega⟩ : Fin 1408) (⟨b.val % 512, by omega⟩ : Fin 512))
      = prod (m ((c : Thread nD τ).loc main_arg0)) (m ((c : Thread nD τ).loc main_arg1)) p b := by
  unfold prod
  rw [Fin.sum_univ_two_halves 2048 2048 rfl]
  pointwise [k0_pay4]
  rw [pay1_apply, pay1_apply]
  congr 1
  · refine Finset.sum_congr rfl fun k _ => ?_
    congr 1
    · exact x_block m c _ k _ _ (by simp <;> omega) (by simp <;> omega)
    · exact y_block m c _ k _ _ (by simp <;> omega) (by simp <;> omega)
  · refine Finset.sum_congr rfl fun k _ => ?_
    congr 1
    · exact x_block m c _ k _ _ (by simp <;> omega) (by simp <;> omega)
    · exact y_block m c _ k _ _ (by simp <;> omega) (by simp <;> omega)

/-- An element of the result: the sum over the whole contracted axis. -/
theorem result_apply (c : Dev nD) (p : Fin 2816) (b : Fin 1024) :
    (G2 m c : Vec Ideal S2816x1024 .f32) (ix2 p b) = prod (m ((c : Thread nD τ).loc main_arg0)) (m ((c : Thread nD τ).loc main_arg1)) p b := by
  have hN : cfg0.N = 8 := N_0
  have hp : pt2Of (ix2 p b) = 2 * (2 * (p.val / 1408) + b.val / 512) + 1 := by
    show 2 * (2 * (p.val / 1408 - 0) + 1 * (b.val / 512 - 0)) + 1 = _
    omega
  have hlt : pt2Of (ix2 p b) < cfg0.N := by rw [hp, hN]; omega
  have hl : loc2Of (ix2 p b) = (ix2 (⟨p.val % 1408, by omega⟩ : Fin 1408) (⟨b.val % 512, by omega⟩ : Fin 512)) := by
    funext d; apply Fin.ext
    match d with
    | ⟨0, _⟩ => rfl
    | ⟨1, _⟩ => rfl
  unfold G2
  rw [dif_pos hlt, ← outsAt0_sweep m c (pt2Of (ix2 p b)) hlt,
    out_odd m c ⟨pt2Of (ix2 p b), hlt⟩ ⟨pt2Of (ix2 p b) - 1, by omega⟩ (by dsimp only; omega) rfl, hl]
  exact block_apply m c p b _ _ hp (by dsimp only; omega)

end

section
open Idealize.ShloMosaic Idealize.ShloMosaic.TcCoe Idealize.SL.Sem
open Cert.Reference5Ideal Cert.Reference5Ideal.Gen

/-- The reference's expression of its two arguments. -/
abbrev ref (x : Vec Ideal S4096x2816 .bf16) (y : Vec Ideal S4096x1024 .bf16) : Vec Ideal S2816x1024 .f32 :=
  transpose S2816x1024 [1, 0] (Host.dotGeneral (F := Ideal) (φ₁ := .f32) (φ₂ := .f32) dot_S4096x1024_S4096x2816_S1024x2816_0_0_1_1_n_n none (extf (F := Ideal) .f32 y bitsLt_bf16_f32) (extf (F := Ideal) .f32 x bitsLt_bf16_f32)) transposes_S1024x2816_S2816x1024_1_0

/-- The reference's element: the same sum. -/
theorem ref_apply (x : Vec Ideal S4096x2816 .bf16) (y : Vec Ideal S4096x1024 .bf16) (p : Fin 2816) (b : Fin 1024) :
    ref x y (ix2 p b) = prod x y p b := by
  pointwise [ref, prod]
  refine Finset.sum_congr rfl fun k _ => ?_
  exact mul_comm _ _

/-- Kernel and reference end with equal results. -/
theorem algebraic : Cert.algebraic_Kernel5Ideal_Reference5Ideal := by
  intro m ρ m' ρ' _ hagree
  refine ⟨fun c => Cert.Kernel5Ideal.Value.G2 m c, Cert.Kernel5Ideal.Value.run m ρ, ?_⟩
  refine (θ_run _ _ _).mono (fun _ h c => ?_) (Cert.Reference5Ideal.Value.run m' ρ')
  refine ⟨(h c).1.trans ?_, (h c).2⟩
  rw [(hagree c).1, (hagree c).2]
  refine funext fun (j : S2816x1024.Idx) => ?_
  obtain ⟨p, b, rfl⟩ : ∃ (p : Fin 2816) (b : Fin 1024), j = ix2 p b := ⟨j 0, j 1, eq_ix2 j⟩
  exact (ref_apply _ _ p b).trans (result_apply m c p b).symm

/-- The frames of the three programs. -/
theorem frame_p : Cert.quiescent_Kernel5 := fun m ρ _ => Cert.Kernel5.Gen.frame m ρ
theorem frame_i : Cert.quiescent_Kernel5Ideal := fun m ρ _ => Cert.Kernel5Ideal.Gen.frame m ρ
theorem frame_r : Cert.quiescent_Reference5Ideal := fun m ρ _ =>
  (θ_run _ _ _).mono (fun r h => ⟨fun c => (h c).2, sem_eq_zero_of_no_sems (by decide) r.2⟩)
    (Cert.Reference5Ideal.Value.run m ρ)

end

end Cert.DownDw

end
-- ==== Proof.ProjDx.lean ====
/- The gradient entering the mixers' input projection: each output block is one product of two blocks. Here:
   what an output element ends holding, as the sum over the contracted axis; the reference's element, which is the same sum;
   and the claims about this product. -/
module

public import proofs.«01_k».proof.Proof.Gen.Kernel6Ideal.Value
public import proofs.«01_k».proof.Proof.Gen.Kernel6.Frame
public import proofs.«01_k».proof.Proof.Gen.Reference6Ideal.Run
public import proofs.«01_k».proof.Proof.Base

@[expose] public section

set_option maxRecDepth 16384

noncomputable section

namespace Cert.ProjDx

section
open Cert.Kernel6Ideal Cert.Kernel6Ideal.Gen Cert.Kernel6Ideal.Value Idealize.ShloMosaic Idealize.ShloMosaic.TcCoe Idealize.SL.Sem

variable {F : FTy → Type} [FloatOps F]
variable (m : (ℓ : Loc nD τ sig) → Buf (Elt F) ℓ)

/-- The block of the first argument that point `t` reads, at an element. -/
theorem x_block (c : Dev nD) (t : Fin cfg0.N) (l0 : Fin 512) (l1 : Fin 3072) (i : S4096x3072.Idx)
    (h0 : (i 0).val = t.val * 512 + l0.val) (h1 : (i 1).val = (0) * 3072 + l1.val) :
    (iblk m c 0 t : Vec F S512x3072 .bf16) (ix2 l0 l1) = m ((c : Thread nD τ).loc main_arg0) i := by
  have hi := (by decide +kernel : ∀ t : Fin grid0.N, win0_0.index t 0 = t.val ∧ win0_0.index t 1 = 0) t
  refine congrArg (m ((c : Thread nD τ).loc main_arg0)) (funext fun a => Fin.ext ?_)
  match a with
  | ⟨0, _⟩ => show win0_0.index t 0 * 512 + 1 * l0.val = (i 0).val; rw [hi.1, h0]; omega
  | ⟨1, _⟩ => show win0_0.index t 1 * 3072 + 1 * l1.val = (i 1).val; rw [hi.2, h1]; omega

/-- The block of the second argument that point `t` reads, at an element. -/
theorem y_block (c : Dev nD) (t : Fin cfg0.N) (l0 : Fin 1024) (l1 : Fin 3072) (i : S1024x3072.Idx)
    (h0 : (i 0).val = (0) * 1024 + l0.val) (h1 : (i 1).val = (0) * 3072 + l1.val) :
    (iblk m c 1 t : Vec F S1024x3072 .bf16) (ix2 l0 l1) = m ((c : Thread nD τ).loc main_arg1) i := by
  have hi := (by decide +kernel : ∀ t : Fin grid0.N, win0_1.index t 0 = 0 ∧ win0_1.index t 1 = 0) t
  refine congrArg (m ((c : Thread nD τ).loc main_arg1)) (funext fun a => Fin.ext ?_)
  match a with
  | ⟨0, _⟩ => show win0_1.index t 0 * 1024 + 1 * l0.val = (i 0).val; rw [hi.1, h0]; omega
  | ⟨1, _⟩ => show win0_1.index t 1 * 3072 + 1 * l1.val = (i 1).val; rw [hi.2, h1]; omega

end

section
open Cert.Kernel6Ideal Cert.Kernel6Ideal.Gen Cert.Kernel6Ideal.Value Idealize.ShloMosaic Idealize.ShloMosaic.TcCoe Idealize.SL.Sem

variable (m : (ℓ : Loc nD τ sig) → Buf (Elt Ideal) ℓ)

/-- The product of two blocks at an element: the sum over the blocks' contracted axis. -/
theorem pay1_apply (x0 : Vec Ideal S512x3072 .bf16) (x1 : Vec Ideal S1024x3072 .bf16) (p : Fin 512) (q : Fin 1024) :
    k0_pay1 x0 x1 (ix2 p q) = ∑ k : Fin 3072, x0 (ix2 p k) * x1 (ix2 q k) := by
  pointwise [k0_pay1]

/-- The product of the two arguments at an element of the result. -/
def prod (x : Vec Ideal S4096x3072 .bf16) (y : Vec Ideal S1024x3072 .bf16) (p : Fin 4096) (b : Fin 1024) : EReal :=
  ∑ k : Fin 3072, x (ix2 p k) * y (ix2 b k)

/-- An element of the block a point writes. -/
theorem out_apply (x0 : Vec Ideal S512x3072 .bf16) (x1 : Vec Ideal S1024x3072 .bf16) (p : Fin 512) (q : Fin 1024) :
    (out0_2 x0 x1 : Vec Ideal S512x1024 .f32) (ix2 p q) = ∑ k : Fin 3072, x0 (ix2 p k) * x1 (ix2 q k) := by
  unfold out0_2
  rw [View.canon_unit_zero hz2]
  simp only [View.ld_unit_zero (S := S512x3072) hz2, View.ld_unit_zero (S := S1024x3072) hz2]
  exact pay1_apply x0 x1 p q

/-- An element of the result: the sum over the contracted axis. -/
theorem result_apply (c : Dev nD) (p : Fin 4096) (b : Fin 1024) :
    ((dats m 0 c).arrAt 2 cfg0.N : Vec Ideal S4096x1024 .f32) (ix2 p b) = prod (m ((c : Thread nD τ).loc main_arg0)) (m ((c : Thread nD τ).loc main_arg1)) p b := by
  have hN : cfg0.N = 8 := N_0
  obtain ⟨t, ht⟩ : ∃ t : Fin cfg0.N, t.val = p.val / 512 := ⟨⟨p.val / 512, by omega⟩, rfl⟩
  have hf : (cfg0.win 2).flush t = true := (by decide +kernel : ∀ t : Fin grid0.N, win0_2.flush t = true) t
  have e := congrFun (blocks2 m c t hf) (ix2 (⟨p.val % 512, by omega⟩ : Fin 512) (⟨b.val % 1024, by omega⟩ : Fin 1024))
  rw [View.read_apply, flushed2] at e
  have hi := (by decide +kernel : ∀ t : Fin grid0.N, win0_2.index t 0 = t.val ∧ win0_2.index t 1 = 0) t
  have hidx : ((cfg0.win 2).blk t).view.emb (ix2 (⟨p.val % 512, by omega⟩ : Fin 512) (⟨b.val % 1024, by omega⟩ : Fin 1024)) = (ix2 p b) := by
    refine funext fun d => Fin.ext ?_
    match d with
    | ⟨0, _⟩ => show win0_2.index t 0 * 512 + 1 * (p.val % 512) = p.val; rw [hi.1]; omega
    | ⟨1, _⟩ => show win0_2.index t 1 * 1024 + 1 * (b.val % 1024) = b.val; rw [hi.2]; omega
  rw [hidx] at e
  refine e.trans ?_
  refine (out_apply (iblk m c 0 t) (iblk m c 1 t) _ _).trans ?_
  unfold prod
  refine Finset.sum_congr rfl fun k _ => ?_
  congr 1
  · exact x_block m c _ _ k _ (by simp <;> omega) (by simp <;> omega)
  · exact y_block m c _ _ k _ (by simp <;> omega) (by simp <;> omega)

end

section
open Idealize.ShloMosaic Idealize.ShloMosaic.TcCoe Idealize.SL.Sem
open Cert.Reference6Ideal Cert.Reference6Ideal.Gen

/-- The reference's expression of its two arguments. -/
abbrev ref (x : Vec Ideal S4096x3072 .bf16) (y : Vec Ideal S1024x3072 .bf16) : Vec Ideal S4096x1024 .f32 :=
  Host.dotGeneral (F := Ideal) (φ₁ := .f32) (φ₂ := .f32) dot_S4096x3072_S1024x3072_S4096x1024_1_1_0_0_n_n none (extf (F := Ideal) .f32 x bitsLt_bf16_f32) (extf (F := Ideal) .f32 y bitsLt_bf16_f32)

/-- The reference's element: the same sum. -/
theorem ref_apply (x : Vec Ideal S4096x3072 .bf16) (y : Vec Ideal S1024x3072 .bf16) (p : Fin 4096) (b : Fin 1024) :
    ref x y (ix2 p b) = prod x y p b := by
  pointwise [ref, prod]

/-- Kernel and reference end with equal results. -/
theorem algebraic : Cert.algebraic_Kernel6Ideal_Reference6Ideal := by
  intro m ρ m' ρ' _ hagree
  refine ⟨fun c => (Cert.Kernel6Ideal.Gen.dats m 0 c).arrAt 2 Cert.Kernel6Ideal.cfg0.N, Cert.Kernel6Ideal.Value.run_blocks (F := Ideal) m ρ, ?_⟩
  refine (θ_run _ _ _).mono (fun _ h c => ?_) (Cert.Reference6Ideal.Value.run m' ρ')
  refine ⟨(h c).1.trans ?_, (h c).2⟩
  rw [(hagree c).1, (hagree c).2]
  refine funext fun (j : S4096x1024.Idx) => ?_
  obtain ⟨p, b, rfl⟩ : ∃ (p : Fin 4096) (b : Fin 1024), j = ix2 p b := ⟨j 0, j 1, eq_ix2 j⟩
  exact (ref_apply _ _ p b).trans (result_apply m c p b).symm

/-- The frames of the three programs. -/
theorem frame_p : Cert.quiescent_Kernel6 := fun m ρ _ => Cert.Kernel6.Gen.frame m ρ
theorem frame_i : Cert.quiescent_Kernel6Ideal := fun m ρ _ => Cert.Kernel6Ideal.Gen.frame m ρ
theorem frame_r : Cert.quiescent_Reference6Ideal := fun m ρ _ =>
  (θ_run _ _ _).mono (fun r h => ⟨fun c => (h c).2, sem_eq_zero_of_no_sems (by decide) r.2⟩)
    (Cert.Reference6Ideal.Value.run m ρ)

end

end Cert.ProjDx

end
-- ==== Proof.ProjDw.lean ====
/- The gradient of the mixers' input projection's weight: each output block is the sum of two products of blocks, the first kept in the scratch. Here:
   what an output element ends holding, as the sum over the contracted axis; the reference's element, which is the same sum;
   and the claims about this product. -/
module

public import proofs.«01_k».proof.Proof.Gen.Kernel7Ideal.Value
public import proofs.«01_k».proof.Proof.Gen.Kernel7.Frame
public import proofs.«01_k».proof.Proof.Gen.Reference7Ideal.Run
public import proofs.«01_k».proof.Proof.Base

@[expose] public section

set_option maxRecDepth 16384

noncomputable section

namespace Cert.ProjDw

section
open Cert.Kernel7Ideal Cert.Kernel7Ideal.Gen Cert.Kernel7Ideal.Value Idealize.ShloMosaic Idealize.ShloMosaic.TcCoe Idealize.SL.Sem

variable {F : FTy → Type} [FloatOps F]
variable (m : (ℓ : Loc nD τ sig) → Buf (Elt F) ℓ)

/-- The first product of an output block goes to the scratch. -/
theorem sout_A (c : Dev nD) (i : grid0.Coords) (a3 : Memref sig .tc .vmem S2048x512 .bf16) (h3 : a3.IsWhole) (a4 : Memref sig .tc .vmem S2048x768 .bf16) (h4 : a4.IsWhole) (a5 : Memref sig .tc .vmem S1x512x768 .f32) (h5 : a5.IsWhole) (a6 : Memref sig .tc .vmem S512x768 .f32) (h6 : a6.IsWhole) (hc0 : cond0_0 i) (hc1 : ¬cond0_1 i) (hc2 : ¬cond0_2 i)
    (x0 : Vec F S2048x512 .bf16) (x1 : Vec F S2048x768 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz2]
  unfold k0_pay2
  simp only [View.readAt_eq_ld, h3.read_unread, h4.read_unread, View.ld_unit_zero (S := S2048x512) hz2, View.ld_unit_zero (S := S2048x768) hz2, shapeCast_self]

/-- The second product is added to the scratch and goes to the output block. -/
theorem out_B (c : Dev nD) (i : grid0.Coords) (a3 : Memref sig .tc .vmem S2048x512 .bf16) (h3 : a3.IsWhole) (a4 : Memref sig .tc .vmem S2048x768 .bf16) (h4 : a4.IsWhole) (a5 : Memref sig .tc .vmem S1x512x768 .f32) (h5 : a5.IsWhole) (a6 : Memref sig .tc .vmem S512x768 .f32) (h6 : a6.IsWhole) (hc0 : ¬cond0_0 i) (hc1 : ¬cond0_1 i) (hc2 : cond0_2 i)
    (x0 : Vec F S2048x512 .bf16) (x1 : Vec F S2048x768 .bf16) (xs : Vec F S512x768 .f32) :
    out0_B_2 c i a3 h3 a4 h4 a5 h5 a6 h6 hc0 hc1 hc2 x0 x1 xs = k0_pay4 x0 x1 xs := by
  unfold out0_B_2
  rw [View.read_writes_eq_canon _ _ _ (cover0_B_2 c i a3 h3 a4 h4 a5 h5 a6 h6 hc0 hc1 hc2 x0 x1 xs)]
  unfold kernelRun0_B
  dsimp only
  rw [View.canon_unit_zero hz3]
  simp only [View.readAt_eq_ld, h3.read_unread, h4.read_unread, h6.read_unread, View.ld_unit_zero (S := S2048x512) hz2, View.ld_unit_zero (S := S2048x768) hz2, View.ld_unit_zero (S := S512x768) hz2]

/-- The block of the first argument that point `t` reads, at an element. -/
theorem x_block (c : Dev nD) (t : Fin cfg0.N) (l0 : Fin 2048) (l1 : Fin 512) (i : S4096x1024.Idx)
    (h0 : (i 0).val = t.val % 2 * 2048 + l0.val) (h1 : (i 1).val = t.val / 8 * 512 + l1.val) :
    (iblk m c 0 t : Vec F S2048x512 .bf16) (ix2 l0 l1) = m ((c : Thread nD τ).loc main_arg0) i := by
  have hi := (by decide +kernel : ∀ t : Fin grid0.N, win0_0.index t 0 = t.val % 2 ∧ win0_0.index t 1 = t.val / 8) t
  refine congrArg (m ((c : Thread nD τ).loc main_arg0)) (funext fun a => Fin.ext ?_)
  match a with
  | ⟨0, _⟩ => show win0_0.index t 0 * 2048 + 1 * l0.val = (i 0).val; rw [hi.1, h0]; omega
  | ⟨1, _⟩ => show win0_0.index t 1 * 512 + 1 * l1.val = (i 1).val; rw [hi.2, h1]; omega

/-- The block of the second argument that point `t` reads, at an element. -/
theorem y_block (c : Dev nD) (t : Fin cfg0.N) (l0 : Fin 2048) (l1 : Fin 768) (i : S4096x3072.Idx)
    (h0 : (i 0).val = t.val % 2 * 2048 + l0.val) (h1 : (i 1).val = t.val / 2 % 4 * 768 + l1.val) :
    (iblk m c 1 t : Vec F S2048x768 .bf16) (ix2 l0 l1) = m ((c : Thread nD τ).loc main_arg1) i := by
  have hi := (by decide +kernel : ∀ t : Fin grid0.N, win0_1.index t 0 = t.val % 2 ∧ win0_1.index t 1 = t.val / 2 % 4) t
  refine congrArg (m ((c : Thread nD τ).loc main_arg1)) (funext fun a => Fin.ext ?_)
  match a with
  | ⟨0, _⟩ => show win0_1.index t 0 * 2048 + 1 * l0.val = (i 0).val; rw [hi.1, h0]; omega
  | ⟨1, _⟩ => show win0_1.index t 1 * 768 + 1 * l1.val = (i 1).val; rw [hi.2, h1]; omega

end

section
open Cert.Kernel7Ideal Cert.Kernel7Ideal.Gen Cert.Kernel7Ideal.Value Idealize.ShloMosaic Idealize.ShloMosaic.TcCoe Idealize.SL.Sem

variable (m : (ℓ : Loc nD τ sig) → Buf (Elt Ideal) ℓ)

/-- The product of two blocks at an element: the sum over the blocks' contracted axis. -/
theorem pay1_apply (x0 : Vec Ideal S2048x512 .bf16) (x1 : Vec Ideal S2048x768 .bf16) (p : Fin 512) (q : Fin 768) :
    k0_pay1 x0 x1 (ix2 p q) = ∑ k : Fin 2048, x0 (ix2 k p) * x1 (ix2 k q) := by
  pointwise [k0_pay1]

/-- The product of the two arguments at an element of the result. -/
def prod (x : Vec Ideal S4096x1024 .bf16) (y : Vec Ideal S4096x3072 .bf16) (a : Fin 4) (p : Fin 1024) (b : Fin 768) : EReal :=
  ∑ k : Fin 4096, x (ix2 k p) * y (ix2 k (⟨a.val * 768 + b.val, by omega⟩ : Fin 3072))

/-- What the scratch holds after the first product of an output block. -/
theorem scratch_even (c : Dev nD) (t : Fin cfg0.N) (h : t.val % 2 = 0) :
    (outsAt0 m c t.val t.isLt).2 = k0_pay1 (iblk m c 0 t) (iblk m c 1 t) := by
  rw [outsAt0_A m c t h (by omega)]
  dsimp only
  rw [sout_A]

/-- What the output's buffer holds after the second product. -/
theorem out_odd (c : Dev nD) (t t' : Fin cfg0.N) (h : t.val % 2 = 1) (h' : t'.val = t.val - 1) :
    (outsAt0 m c t.val t.isLt).1 = k0_pay4 (iblk m c 0 t) (iblk m c 1 t) (k0_pay1 (iblk m c 0 t') (iblk m c 1 t')) := by
  have h0 : ¬t.val % 2 = 0 := by omega
  have e := scratch_even m c t' (by omega)
  obtain ⟨n, hn⟩ := t'
  dsimp only at h' e
  subst h'
  rw [outsAt0_B m c t h0 h]
  dsimp only
  rw [out_B, e]

/-- An element of an output block: the sum over the whole contracted axis. -/
theorem block_apply (c : Dev nD) (a : Fin 4) (p : Fin 1024) (b : Fin 768) (t t' : Fin cfg0.N)
    (h : t.val = 2 * (4 * (p.val / 512) + a.val) + 1) (h' : t'.val = 2 * (4 * (p.val / 512) + a.val)) :
    k0_pay4 (iblk m c 0 t) (iblk m c 1 t) (k0_pay1 (iblk m c 0 t') (iblk m c 1 t')) (ix3 (0 : Fin 1) (⟨p.val % 512, by omega⟩ : Fin 512) b)
      = prod (m ((c : Thread nD τ).loc main_arg0)) (m ((c : Thread nD τ).loc main_arg1)) a p b := by
  unfold prod
  rw [Fin.sum_univ_two_halves 2048 2048 rfl]
  pointwise [k0_pay4]
  rw [pay1_apply, pay1_apply]
  congr 1
  · refine Finset.sum_congr rfl fun k _ => ?_
    congr 1
    · exact x_block m c _ k _ _ (by simp <;> omega) (by simp <;> omega)
    · exact y_block m c _ k _ _ (by simp <;> omega) (by simp <;> omega)
  · refine Finset.sum_congr rfl fun k _ => ?_
    congr 1
    · exact x_block m c _ k _ _ (by simp <;> omega) (by simp <;> omega)
    · exact y_block m c _ k _ _ (by simp <;> omega) (by simp <;> omega)

/-- An element of the result: the sum over the whole contracted axis. -/
theorem result_apply (c : Dev nD) (a : Fin 4) (p : Fin 1024) (b : Fin 768) :
    (G2 m c : Vec Ideal S4x1024x768 .f32) (ix3 a p b) = prod (m ((c : Thread nD τ).loc main_arg0)) (m ((c : Thread nD τ).loc main_arg1)) a p b := by
  have hN : cfg0.N = 16 := N_0
  have hp : pt2Of (ix3 a p b) = 2 * (4 * (p.val / 512) + a.val) + 1 := by
    show 2 * (1 * (a.val / 1 - 0) + 4 * (p.val / 512 - 0) + 8 * (b.val / 768 - 0)) + 1 = _
    omega
  have hlt : pt2Of (ix3 a p b) < cfg0.N := by rw [hp, hN]; omega
  have hl : loc2Of (ix3 a p b) = (ix3 (0 : Fin 1) (⟨p.val % 512, by omega⟩ : Fin 512) b) := by
    funext d; apply Fin.ext
    match d with
    | ⟨0, _⟩ => show a.val % 1 = 0; omega
    | ⟨1, _⟩ => rfl
    | ⟨2, _⟩ => show b.val % 768 = b.val; omega
  unfold G2
  rw [dif_pos hlt, ← outsAt0_sweep m c (pt2Of (ix3 a p b)) hlt,
    out_odd m c ⟨pt2Of (ix3 a p b), hlt⟩ ⟨pt2Of (ix3 a p b) - 1, by omega⟩ (by dsimp only; omega) rfl, hl]
  exact block_apply m c a p b _ _ hp (by dsimp only; omega)

end

section
open Idealize.ShloMosaic Idealize.ShloMosaic.TcCoe Idealize.SL.Sem
open Cert.Reference7Ideal Cert.Reference7Ideal.Gen

/-- The reference's expression of its two arguments. -/
abbrev ref (x : Vec Ideal S4096x1024 .bf16) (y : Vec Ideal S4096x3072 .bf16) : Vec Ideal S4x1024x768 .f32 :=
  transpose S4x1024x768 [1, 0, 2] (shapeCast _ (transpose S1024x3072 [1, 0] (Host.dotGeneral (F := Ideal) (φ₁ := .f32) (φ₂ := .f32) dot_S4096x3072_S4096x1024_S3072x1024_0_0_1_1_n_n none (extf (F := Ideal) .f32 y bitsLt_bf16_f32) (extf (F := Ideal) .f32 x bitsLt_bf16_f32)) transposes_S3072x1024_S1024x3072_1_0) shapeCasts_S1024x3072_S1024x4x768) transposes_S1024x4x768_S4x1024x768_1_0_2

/-- The reference's element: the same sum. -/
theorem ref_apply (x : Vec Ideal S4096x1024 .bf16) (y : Vec Ideal S4096x3072 .bf16) (a : Fin 4) (p : Fin 1024) (b : Fin 768) :
    ref x y (ix3 a p b) = prod x y a p b := by
  pointwise [ref, prod]
  refine Finset.sum_congr rfl fun k _ => ?_
  exact mul_comm _ _

/-- Kernel and reference end with equal results. -/
theorem algebraic : Cert.algebraic_Kernel7Ideal_Reference7Ideal := by
  intro m ρ m' ρ' _ hagree
  refine ⟨fun c => Cert.Kernel7Ideal.Value.G2 m c, Cert.Kernel7Ideal.Value.run m ρ, ?_⟩
  refine (θ_run _ _ _).mono (fun _ h c => ?_) (Cert.Reference7Ideal.Value.run m' ρ')
  refine ⟨(h c).1.trans ?_, (h c).2⟩
  rw [(hagree c).1, (hagree c).2]
  refine funext fun (j : S4x1024x768.Idx) => ?_
  obtain ⟨a, p, b, rfl⟩ : ∃ (a : Fin 4) (p : Fin 1024) (b : Fin 768), j = ix3 a p b := ⟨j 0, j 1, j 2, eq_ix3 j⟩
  exact (ref_apply _ _ a p b).trans (result_apply m c a p b).symm

/-- The frames of the three programs. -/
theorem frame_p : Cert.quiescent_Kernel7 := fun m ρ _ => Cert.Kernel7.Gen.frame m ρ
theorem frame_i : Cert.quiescent_Kernel7Ideal := fun m ρ _ => Cert.Kernel7Ideal.Gen.frame m ρ
theorem frame_r : Cert.quiescent_Reference7Ideal := fun m ρ _ =>
  (θ_run _ _ _).mono (fun r h => ⟨fun c => (h c).2, sem_eq_zero_of_no_sems (by decide) r.2⟩)
    (Cert.Reference7Ideal.Value.run m ρ)

end

end Cert.ProjDw

end
-- ==== Proof.MixDx.lean ====
/- The gradient entering the mixers' output projection: each output block is one product of two blocks. Here:
   what an output element ends holding, as the sum over the contracted axis; the reference's element, which is the same sum;
   and the claims about this product. -/
module

public import proofs.«01_k».proof.Proof.Gen.Kernel8Ideal.Value
public import proofs.«01_k».proof.Proof.Gen.Kernel8.Frame
public import proofs.«01_k».proof.Proof.Gen.Reference8Ideal.Run
public import proofs.«01_k».proof.Proof.Base

@[expose] public section

set_option maxRecDepth 16384

noncomputable section

namespace Cert.MixDx

section
open Cert.Kernel8Ideal Cert.Kernel8Ideal.Gen Cert.Kernel8Ideal.Value Idealize.ShloMosaic Idealize.ShloMosaic.TcCoe Idealize.SL.Sem

variable {F : FTy → Type} [FloatOps F]
variable (m : (ℓ : Loc nD τ sig) → Buf (Elt F) ℓ)

/-- The block of the first argument that point `t` reads, at an element. -/
theorem x_block (c : Dev nD) (t : Fin cfg0.N) (l0 : Fin 512) (l1 : Fin 1024) (i : S4096x1024.Idx)
    (h0 : (i 0).val = t.val * 512 + l0.val) (h1 : (i 1).val = (0) * 1024 + l1.val) :
    (iblk m c 0 t : Vec F S512x1024 .bf16) (ix2 l0 l1) = m ((c : Thread nD τ).loc main_arg0) i := by
  have hi := (by decide +kernel : ∀ t : Fin grid0.N, win0_0.index t 0 = t.val ∧ win0_0.index t 1 = 0) t
  refine congrArg (m ((c : Thread nD τ).loc main_arg0)) (funext fun a => Fin.ext ?_)
  match a with
  | ⟨0, _⟩ => show win0_0.index t 0 * 512 + 1 * l0.val = (i 0).val; rw [hi.1, h0]; omega
  | ⟨1, _⟩ => show win0_0.index t 1 * 1024 + 1 * l1.val = (i 1).val; rw [hi.2, h1]; omega

/-- The block of the second argument that point `t` reads, at an element. -/
theorem y_block (c : Dev nD) (t : Fin cfg0.N) (l0 : Fin 1024) (l1 : Fin 1024) (i : S1024x1024.Idx)
    (h0 : (i 0).val = (0) * 1024 + l0.val) (h1 : (i 1).val = (0) * 1024 + l1.val) :
    (iblk m c 1 t : Vec F S1024x1024 .bf16) (ix2 l0 l1) = m ((c : Thread nD τ).loc main_arg1) i := by
  have hi := (by decide +kernel : ∀ t : Fin grid0.N, win0_1.index t 0 = 0 ∧ win0_1.index t 1 = 0) t
  refine congrArg (m ((c : Thread nD τ).loc main_arg1)) (funext fun a => Fin.ext ?_)
  match a with
  | ⟨0, _⟩ => show win0_1.index t 0 * 1024 + 1 * l0.val = (i 0).val; rw [hi.1, h0]; omega
  | ⟨1, _⟩ => show win0_1.index t 1 * 1024 + 1 * l1.val = (i 1).val; rw [hi.2, h1]; omega

end

section
open Cert.Kernel8Ideal Cert.Kernel8Ideal.Gen Cert.Kernel8Ideal.Value Idealize.ShloMosaic Idealize.ShloMosaic.TcCoe Idealize.SL.Sem

variable (m : (ℓ : Loc nD τ sig) → Buf (Elt Ideal) ℓ)

/-- The product of two blocks at an element: the sum over the blocks' contracted axis. -/
theorem pay1_apply (x0 : Vec Ideal S512x1024 .bf16) (x1 : Vec Ideal S1024x1024 .bf16) (p : Fin 512) (q : Fin 1024) :
    k0_pay1 x0 x1 (ix2 p q) = ∑ k : Fin 1024, x0 (ix2 p k) * x1 (ix2 q k) := by
  pointwise [k0_pay1]

/-- The product of the two arguments at an element of the result. -/
def prod (x : Vec Ideal S4096x1024 .bf16) (y : Vec Ideal S1024x1024 .bf16) (p : Fin 4096) (b : Fin 1024) : EReal :=
  ∑ k : Fin 1024, x (ix2 p k) * y (ix2 b k)

/-- An element of the block a point writes. -/
theorem out_apply (x0 : Vec Ideal S512x1024 .bf16) (x1 : Vec Ideal S1024x1024 .bf16) (p : Fin 512) (q : Fin 1024) :
    (out0_2 x0 x1 : Vec Ideal S512x1024 .f32) (ix2 p q) = ∑ k : Fin 1024, x0 (ix2 p k) * x1 (ix2 q k) := by
  unfold out0_2
  rw [View.canon_unit_zero hz2]
  simp only [View.ld_unit_zero (S := S512x1024) hz2, View.ld_unit_zero (S := S1024x1024) hz2]
  exact pay1_apply x0 x1 p q

/-- An element of the result: the sum over the contracted axis. -/
theorem result_apply (c : Dev nD) (p : Fin 4096) (b : Fin 1024) :
    ((dats m 0 c).arrAt 2 cfg0.N : Vec Ideal S4096x1024 .f32) (ix2 p b) = prod (m ((c : Thread nD τ).loc main_arg0)) (m ((c : Thread nD τ).loc main_arg1)) p b := by
  have hN : cfg0.N = 8 := N_0
  obtain ⟨t, ht⟩ : ∃ t : Fin cfg0.N, t.val = p.val / 512 := ⟨⟨p.val / 512, by omega⟩, rfl⟩
  have hf : (cfg0.win 2).flush t = true := (by decide +kernel : ∀ t : Fin grid0.N, win0_2.flush t = true) t
  have e := congrFun (blocks2 m c t hf) (ix2 (⟨p.val % 512, by omega⟩ : Fin 512) (⟨b.val % 1024, by omega⟩ : Fin 1024))
  rw [View.read_apply, flushed2] at e
  have hi := (by decide +kernel : ∀ t : Fin grid0.N, win0_2.index t 0 = t.val ∧ win0_2.index t 1 = 0) t
  have hidx : ((cfg0.win 2).blk t).view.emb (ix2 (⟨p.val % 512, by omega⟩ : Fin 512) (⟨b.val % 1024, by omega⟩ : Fin 1024)) = (ix2 p b) := by
    refine funext fun d => Fin.ext ?_
    match d with
    | ⟨0, _⟩ => show win0_2.index t 0 * 512 + 1 * (p.val % 512) = p.val; rw [hi.1]; omega
    | ⟨1, _⟩ => show win0_2.index t 1 * 1024 + 1 * (b.val % 1024) = b.val; rw [hi.2]; omega
  rw [hidx] at e
  refine e.trans ?_
  refine (out_apply (iblk m c 0 t) (iblk m c 1 t) _ _).trans ?_
  unfold prod
  refine Finset.sum_congr rfl fun k _ => ?_
  congr 1
  · exact x_block m c _ _ k _ (by simp <;> omega) (by simp <;> omega)
  · exact y_block m c _ _ k _ (by simp <;> omega) (by simp <;> omega)

end

section
open Idealize.ShloMosaic Idealize.ShloMosaic.TcCoe Idealize.SL.Sem
open Cert.Reference8Ideal Cert.Reference8Ideal.Gen

/-- The reference's expression of its two arguments. -/
abbrev ref (x : Vec Ideal S4096x1024 .bf16) (y : Vec Ideal S1024x1024 .bf16) : Vec Ideal S4096x1024 .f32 :=
  Host.dotGeneral (F := Ideal) (φ₁ := .f32) (φ₂ := .f32) dot_S4096x1024_S1024x1024_S4096x1024_1_1_0_0_n_n none (extf (F := Ideal) .f32 x bitsLt_bf16_f32) (extf (F := Ideal) .f32 y bitsLt_bf16_f32)

/-- The reference's element: the same sum. -/
theorem ref_apply (x : Vec Ideal S4096x1024 .bf16) (y : Vec Ideal S1024x1024 .bf16) (p : Fin 4096) (b : Fin 1024) :
    ref x y (ix2 p b) = prod x y p b := by
  pointwise [ref, prod]

/-- Kernel and reference end with equal results. -/
theorem algebraic : Cert.algebraic_Kernel8Ideal_Reference8Ideal := by
  intro m ρ m' ρ' _ hagree
  refine ⟨fun c => (Cert.Kernel8Ideal.Gen.dats m 0 c).arrAt 2 Cert.Kernel8Ideal.cfg0.N, Cert.Kernel8Ideal.Value.run_blocks (F := Ideal) m ρ, ?_⟩
  refine (θ_run _ _ _).mono (fun _ h c => ?_) (Cert.Reference8Ideal.Value.run m' ρ')
  refine ⟨(h c).1.trans ?_, (h c).2⟩
  rw [(hagree c).1, (hagree c).2]
  refine funext fun (j : S4096x1024.Idx) => ?_
  obtain ⟨p, b, rfl⟩ : ∃ (p : Fin 4096) (b : Fin 1024), j = ix2 p b := ⟨j 0, j 1, eq_ix2 j⟩
  exact (ref_apply _ _ p b).trans (result_apply m c p b).symm

/-- The frames of the three programs. -/
theorem frame_p : Cert.quiescent_Kernel8 := fun m ρ _ => Cert.Kernel8.Gen.frame m ρ
theorem frame_i : Cert.quiescent_Kernel8Ideal := fun m ρ _ => Cert.Kernel8Ideal.Gen.frame m ρ
theorem frame_r : Cert.quiescent_Reference8Ideal := fun m ρ _ =>
  (θ_run _ _ _).mono (fun r h => ⟨fun c => (h c).2, sem_eq_zero_of_no_sems (by decide) r.2⟩)
    (Cert.Reference8Ideal.Value.run m ρ)

end

end Cert.MixDx

end
-- ==== Proof.MixDw.lean ====
/- The gradient of the mixers' output projection's weight: each output block is the sum of two products of blocks, the first kept in the scratch. Here:
   what an output element ends holding, as the sum over the contracted axis; the reference's element, which is the same sum;
   and the claims about this product. -/
module

public import proofs.«01_k».proof.Proof.Gen.Kernel9Ideal.Value
public import proofs.«01_k».proof.Proof.Gen.Kernel9.Frame
public import proofs.«01_k».proof.Proof.Gen.Reference9Ideal.Run
public import proofs.«01_k».proof.Proof.Base

@[expose] public section

set_option maxRecDepth 16384

noncomputable section

namespace Cert.MixDw

section
open Cert.Kernel9Ideal Cert.Kernel9Ideal.Gen Cert.Kernel9Ideal.Value Idealize.ShloMosaic Idealize.ShloMosaic.TcCoe Idealize.SL.Sem

variable {F : FTy → Type} [FloatOps F]
variable (m : (ℓ : Loc nD τ sig) → Buf (Elt F) ℓ)

/-- The first product of an output block goes to the scratch. -/
theorem sout_A (c : Dev nD) (i : grid0.Coords) (a3 : Memref sig .tc .vmem S2048x512 .bf16) (h3 : a3.IsWhole) (a4 : Memref sig .tc .vmem S2048x1024 .bf16) (h4 : a4.IsWhole) (a5 : Memref sig .tc .vmem S512x1024 .f32) (h5 : a5.IsWhole) (a6 : Memref sig .tc .vmem S512x1024 .f32) (h6 : a6.IsWhole) (hc0 : cond0_0 i) (hc1 : ¬cond0_1 i) (hc2 : ¬cond0_2 i)
    (x0 : Vec F S2048x512 .bf16) (x1 : Vec F S2048x1024 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz2]
  unfold k0_pay2
  simp only [View.readAt_eq_ld, h3.read_unread, h4.read_unread, View.ld_unit_zero (S := S2048x512) hz2, View.ld_unit_zero (S := S2048x1024) hz2, shapeCast_self]

/-- The second product is added to the scratch and goes to the output block. -/
theorem out_B (c : Dev nD) (i : grid0.Coords) (a3 : Memref sig .tc .vmem S2048x512 .bf16) (h3 : a3.IsWhole) (a4 : Memref sig .tc .vmem S2048x1024 .bf16) (h4 : a4.IsWhole) (a5 : Memref sig .tc .vmem S512x1024 .f32) (h5 : a5.IsWhole) (a6 : Memref sig .tc .vmem S512x1024 .f32) (h6 : a6.IsWhole) (hc0 : ¬cond0_0 i) (hc1 : ¬cond0_1 i) (hc2 : cond0_2 i)
    (x0 : Vec F S2048x512 .bf16) (x1 : Vec F S2048x1024 .bf16) (xs : Vec F S512x1024 .f32) :
    out0_B_2 c i a3 h3 a4 h4 a5 h5 a6 h6 hc0 hc1 hc2 x0 x1 xs = k0_pay4 x0 x1 xs := by
  unfold out0_B_2
  rw [View.read_writes_eq_canon _ _ _ (cover0_B_2 c i a3 h3 a4 h4 a5 h5 a6 h6 hc0 hc1 hc2 x0 x1 xs)]
  unfold kernelRun0_B
  dsimp only
  rw [View.canon_unit_zero hz2]
  simp only [View.readAt_eq_ld, h3.read_unread, h4.read_unread, h6.read_unread, View.ld_unit_zero (S := S2048x512) hz2, View.ld_unit_zero (S := S2048x1024) hz2, View.ld_unit_zero (S := S512x1024) hz2]

/-- The block of the first argument that point `t` reads, at an element. -/
theorem x_block (c : Dev nD) (t : Fin cfg0.N) (l0 : Fin 2048) (l1 : Fin 512) (i : S4096x1024.Idx)
    (h0 : (i 0).val = t.val % 2 * 2048 + l0.val) (h1 : (i 1).val = t.val / 2 * 512 + l1.val) :
    (iblk m c 0 t : Vec F S2048x512 .bf16) (ix2 l0 l1) = m ((c : Thread nD τ).loc main_arg0) i := by
  have hi := (by decide +kernel : ∀ t : Fin grid0.N, win0_0.index t 0 = t.val % 2 ∧ win0_0.index t 1 = t.val / 2) t
  refine congrArg (m ((c : Thread nD τ).loc main_arg0)) (funext fun a => Fin.ext ?_)
  match a with
  | ⟨0, _⟩ => show win0_0.index t 0 * 2048 + 1 * l0.val = (i 0).val; rw [hi.1, h0]; omega
  | ⟨1, _⟩ => show win0_0.index t 1 * 512 + 1 * l1.val = (i 1).val; rw [hi.2, h1]; omega

/-- The block of the second argument that point `t` reads, at an element. -/
theorem y_block (c : Dev nD) (t : Fin cfg0.N) (l0 : Fin 2048) (l1 : Fin 1024) (i : S4096x1024.Idx)
    (h0 : (i 0).val = t.val % 2 * 2048 + l0.val) (h1 : (i 1).val = (0) * 1024 + l1.val) :
    (iblk m c 1 t : Vec F S2048x1024 .bf16) (ix2 l0 l1) = m ((c : Thread nD τ).loc main_arg1) i := by
  have hi := (by decide +kernel : ∀ t : Fin grid0.N, win0_1.index t 0 = t.val % 2 ∧ win0_1.index t 1 = 0) t
  refine congrArg (m ((c : Thread nD τ).loc main_arg1)) (funext fun a => Fin.ext ?_)
  match a with
  | ⟨0, _⟩ => show win0_1.index t 0 * 2048 + 1 * l0.val = (i 0).val; rw [hi.1, h0]; omega
  | ⟨1, _⟩ => show win0_1.index t 1 * 1024 + 1 * l1.val = (i 1).val; rw [hi.2, h1]; omega

end

section
open Cert.Kernel9Ideal Cert.Kernel9Ideal.Gen Cert.Kernel9Ideal.Value Idealize.ShloMosaic Idealize.ShloMosaic.TcCoe Idealize.SL.Sem

variable (m : (ℓ : Loc nD τ sig) → Buf (Elt Ideal) ℓ)

/-- The product of two blocks at an element: the sum over the blocks' contracted axis. -/
theorem pay1_apply (x0 : Vec Ideal S2048x512 .bf16) (x1 : Vec Ideal S2048x1024 .bf16) (p : Fin 512) (q : Fin 1024) :
    k0_pay1 x0 x1 (ix2 p q) = ∑ k : Fin 2048, x0 (ix2 k p) * x1 (ix2 k q) := by
  pointwise [k0_pay1]

/-- The product of the two arguments at an element of the result. -/
def prod (x : Vec Ideal S4096x1024 .bf16) (y : Vec Ideal S4096x1024 .bf16) (p : Fin 1024) (b : Fin 1024) : EReal :=
  ∑ k : Fin 4096, x (ix2 k p) * y (ix2 k b)

/-- What the scratch holds after the first product of an output block. -/
theorem scratch_even (c : Dev nD) (t : Fin cfg0.N) (h : t.val % 2 = 0) :
    (outsAt0 m c t.val t.isLt).2 = k0_pay1 (iblk m c 0 t) (iblk m c 1 t) := by
  rw [outsAt0_A m c t h (by omega)]
  dsimp only
  rw [sout_A]

/-- What the output's buffer holds after the second product. -/
theorem out_odd (c : Dev nD) (t t' : Fin cfg0.N) (h : t.val % 2 = 1) (h' : t'.val = t.val - 1) :
    (outsAt0 m c t.val t.isLt).1 = k0_pay4 (iblk m c 0 t) (iblk m c 1 t) (k0_pay1 (iblk m c 0 t') (iblk m c 1 t')) := by
  have h0 : ¬t.val % 2 = 0 := by omega
  have e := scratch_even m c t' (by omega)
  obtain ⟨n, hn⟩ := t'
  dsimp only at h' e
  subst h'
  rw [outsAt0_B m c t h0 h]
  dsimp only
  rw [out_B, e]

/-- An element of an output block: the sum over the whole contracted axis. -/
theorem block_apply (c : Dev nD) (p : Fin 1024) (b : Fin 1024) (t t' : Fin cfg0.N)
    (h : t.val = 2 * ((p.val / 512)) + 1) (h' : t'.val = 2 * ((p.val / 512))) :
    k0_pay4 (iblk m c 0 t) (iblk m c 1 t) (k0_pay1 (iblk m c 0 t') (iblk m c 1 t')) (ix2 (⟨p.val % 512, by omega⟩ : Fin 512) (⟨b.val % 1024, by omega⟩ : Fin 1024))
      = prod (m ((c : Thread nD τ).loc main_arg0)) (m ((c : Thread nD τ).loc main_arg1)) p b := by
  unfold prod
  rw [Fin.sum_univ_two_halves 2048 2048 rfl]
  pointwise [k0_pay4]
  rw [pay1_apply, pay1_apply]
  congr 1
  · refine Finset.sum_congr rfl fun k _ => ?_
    congr 1
    · exact x_block m c _ k _ _ (by simp <;> omega) (by simp <;> omega)
    · exact y_block m c _ k _ _ (by simp <;> omega) (by simp <;> omega)
  · refine Finset.sum_congr rfl fun k _ => ?_
    congr 1
    · exact x_block m c _ k _ _ (by simp <;> omega) (by simp <;> omega)
    · exact y_block m c _ k _ _ (by simp <;> omega) (by simp <;> omega)

/-- An element of the result: the sum over the whole contracted axis. -/
theorem result_apply (c : Dev nD) (p : Fin 1024) (b : Fin 1024) :
    (G2 m c : Vec Ideal S1024x1024 .f32) (ix2 p b) = prod (m ((c : Thread nD τ).loc main_arg0)) (m ((c : Thread nD τ).loc main_arg1)) p b := by
  have hN : cfg0.N = 4 := N_0
  have hp : pt2Of (ix2 p b) = 2 * ((p.val / 512)) + 1 := by
    show 2 * (1 * (p.val / 512 - 0) + 1 * (b.val / 1024 - 0)) + 1 = _
    omega
  have hlt : pt2Of (ix2 p b) < cfg0.N := by rw [hp, hN]; omega
  have hl : loc2Of (ix2 p b) = (ix2 (⟨p.val % 512, by omega⟩ : Fin 512) (⟨b.val % 1024, by omega⟩ : Fin 1024)) := by
    funext d; apply Fin.ext
    match d with
    | ⟨0, _⟩ => rfl
    | ⟨1, _⟩ => rfl
  unfold G2
  rw [dif_pos hlt, ← outsAt0_sweep m c (pt2Of (ix2 p b)) hlt,
    out_odd m c ⟨pt2Of (ix2 p b), hlt⟩ ⟨pt2Of (ix2 p b) - 1, by omega⟩ (by dsimp only; omega) rfl, hl]
  exact block_apply m c p b _ _ hp (by dsimp only; omega)

end

section
open Idealize.ShloMosaic Idealize.ShloMosaic.TcCoe Idealize.SL.Sem
open Cert.Reference9Ideal Cert.Reference9Ideal.Gen

/-- The reference's expression of its two arguments. -/
abbrev ref (x : Vec Ideal S4096x1024 .bf16) (y : Vec Ideal S4096x1024 .bf16) : Vec Ideal S1024x1024 .f32 :=
  transpose S1024x1024 [1, 0] (Host.dotGeneral (F := Ideal) (φ₁ := .f32) (φ₂ := .f32) dot_S4096x1024_S4096x1024_S1024x1024_0_0_1_1_n_n none (extf (F := Ideal) .f32 y bitsLt_bf16_f32) (extf (F := Ideal) .f32 x bitsLt_bf16_f32)) transposes_S1024x1024_S1024x1024_1_0

/-- The reference's element: the same sum. -/
theorem ref_apply (x : Vec Ideal S4096x1024 .bf16) (y : Vec Ideal S4096x1024 .bf16) (p : Fin 1024) (b : Fin 1024) :
    ref x y (ix2 p b) = prod x y p b := by
  pointwise [ref, prod]
  refine Finset.sum_congr rfl fun k _ => ?_
  exact mul_comm _ _

/-- Kernel and reference end with equal results. -/
theorem algebraic : Cert.algebraic_Kernel9Ideal_Reference9Ideal := by
  intro m ρ m' ρ' _ hagree
  refine ⟨fun c => Cert.Kernel9Ideal.Value.G2 m c, Cert.Kernel9Ideal.Value.run m ρ, ?_⟩
  refine (θ_run _ _ _).mono (fun _ h c => ?_) (Cert.Reference9Ideal.Value.run m' ρ')
  refine ⟨(h c).1.trans ?_, (h c).2⟩
  rw [(hagree c).1, (hagree c).2]
  refine funext fun (j : S1024x1024.Idx) => ?_
  obtain ⟨p, b, rfl⟩ : ∃ (p : Fin 1024) (b : Fin 1024), j = ix2 p b := ⟨j 0, j 1, eq_ix2 j⟩
  exact (ref_apply _ _ p b).trans (result_apply m c p b).symm

/-- The frames of the three programs. -/
theorem frame_p : Cert.quiescent_Kernel9 := fun m ρ _ => Cert.Kernel9.Gen.frame m ρ
theorem frame_i : Cert.quiescent_Kernel9Ideal := fun m ρ _ => Cert.Kernel9Ideal.Gen.frame m ρ
theorem frame_r : Cert.quiescent_Reference9Ideal := fun m ρ _ =>
  (θ_run _ _ _).mono (fun r h => ⟨fun c => (h c).2, sem_eq_zero_of_no_sems (by decide) r.2⟩)
    (Cert.Reference9Ideal.Value.run m ρ)

end

end Cert.MixDw

end
-- ==== Proof.Up.lean ====
/- The up projection of the feed-forward block: each output block is one product of two blocks. Here:
   what an output element ends holding, as the sum over the contracted axis; the reference's element, which is the same sum;
   and the claims about this product. -/
module

public import proofs.«01_k».proof.Proof.Gen.Kernel10Ideal.Value
public import proofs.«01_k».proof.Proof.Gen.Kernel10.Frame
public import proofs.«01_k».proof.Proof.Gen.Reference10Ideal.Run
public import proofs.«01_k».proof.Proof.Base

@[expose] public section

set_option maxRecDepth 16384

noncomputable section

namespace Cert.Up

section
open Cert.Kernel10Ideal Cert.Kernel10Ideal.Gen Cert.Kernel10Ideal.Value Idealize.ShloMosaic Idealize.ShloMosaic.TcCoe Idealize.SL.Sem

variable {F : FTy → Type} [FloatOps F]
variable (m : (ℓ : Loc nD τ sig) → Buf (Elt F) ℓ)

/-- The block of the first argument that point `t` reads, at an element. -/
theorem x_block (c : Dev nD) (t : Fin cfg0.N) (l0 : Fin 512) (l1 : Fin 1024) (i : S4096x1024.Idx)
    (h0 : (i 0).val = t.val % 8 * 512 + l0.val) (h1 : (i 1).val = (0) * 1024 + l1.val) :
    (iblk m c 0 t : Vec F S512x1024 .bf16) (ix2 l0 l1) = m ((c : Thread nD τ).loc main_arg0) i := by
  have hi := (by decide +kernel : ∀ t : Fin grid0.N, win0_0.index t 0 = t.val % 8 ∧ win0_0.index t 1 = 0) t
  refine congrArg (m ((c : Thread nD τ).loc main_arg0)) (funext fun a => Fin.ext ?_)
  match a with
  | ⟨0, _⟩ => show win0_0.index t 0 * 512 + 1 * l0.val = (i 0).val; rw [hi.1, h0]; omega
  | ⟨1, _⟩ => show win0_0.index t 1 * 1024 + 1 * l1.val = (i 1).val; rw [hi.2, h1]; omega

/-- The block of the second argument that point `t` reads, at an element. -/
theorem y_block (c : Dev nD) (t : Fin cfg0.N) (l0 : Fin 1024) (l1 : Fin 1408) (i : S1024x5632.Idx)
    (h0 : (i 0).val = (0) * 1024 + l0.val) (h1 : (i 1).val = t.val / 8 * 1408 + l1.val) :
    (iblk m c 1 t : Vec F S1024x1408 .bf16) (ix2 l0 l1) = m ((c : Thread nD τ).loc main_arg1) i := by
  have hi := (by decide +kernel : ∀ t : Fin grid0.N, win0_1.index t 0 = 0 ∧ win0_1.index t 1 = t.val / 8) t
  refine congrArg (m ((c : Thread nD τ).loc main_arg1)) (funext fun a => Fin.ext ?_)
  match a with
  | ⟨0, _⟩ => show win0_1.index t 0 * 1024 + 1 * l0.val = (i 0).val; rw [hi.1, h0]; omega
  | ⟨1, _⟩ => show win0_1.index t 1 * 1408 + 1 * l1.val = (i 1).val; rw [hi.2, h1]; omega

end

section
open Cert.Kernel10Ideal Cert.Kernel10Ideal.Gen Cert.Kernel10Ideal.Value Idealize.ShloMosaic Idealize.ShloMosaic.TcCoe Idealize.SL.Sem

variable (m : (ℓ : Loc nD τ sig) → Buf (Elt Ideal) ℓ)

/-- The product of two blocks at an element: the sum over the blocks' contracted axis. -/
theorem pay1_apply (x0 : Vec Ideal S512x1024 .bf16) (x1 : Vec Ideal S1024x1408 .bf16) (p : Fin 512) (q : Fin 1408) :
    k0_pay1 x0 x1 (ix2 p q) = ∑ k : Fin 1024, x0 (ix2 p k) * x1 (ix2 k q) := by
  pointwise [k0_pay1]

/-- The product of the two arguments at an element of the result. -/
def prod (x : Vec Ideal S4096x1024 .bf16) (y : Vec Ideal S1024x5632 .bf16) (p : Fin 4096) (b : Fin 5632) : EReal :=
  ∑ k : Fin 1024, x (ix2 p k) * y (ix2 k b)

/-- An element of the block a point writes. -/
theorem out_apply (x0 : Vec Ideal S512x1024 .bf16) (x1 : Vec Ideal S1024x1408 .bf16) (p : Fin 512) (q : Fin 1408) :
    (out0_2 x0 x1 : Vec Ideal S512x1408 .f32) (ix2 p q) = ∑ k : Fin 1024, x0 (ix2 p k) * x1 (ix2 k q) := by
  unfold out0_2
  rw [View.canon_unit_zero hz2]
  simp only [View.ld_unit_zero (S := S512x1024) hz2, View.ld_unit_zero (S := S1024x1408) hz2]
  exact pay1_apply x0 x1 p q

/-- An element of the result: the sum over the contracted axis. -/
theorem result_apply (c : Dev nD) (p : Fin 4096) (b : Fin 5632) :
    ((dats m 0 c).arrAt 2 cfg0.N : Vec Ideal S4096x5632 .f32) (ix2 p b) = prod (m ((c : Thread nD τ).loc main_arg0)) (m ((c : Thread nD τ).loc main_arg1)) p b := by
  have hN : cfg0.N = 32 := N_0
  obtain ⟨t, ht⟩ : ∃ t : Fin cfg0.N, t.val = p.val / 512 + 8 * (b.val / 1408) := ⟨⟨p.val / 512 + 8 * (b.val / 1408), by omega⟩, rfl⟩
  have hf : (cfg0.win 2).flush t = true := (by decide +kernel : ∀ t : Fin grid0.N, win0_2.flush t = true) t
  have e := congrFun (blocks2 m c t hf) (ix2 (⟨p.val % 512, by omega⟩ : Fin 512) (⟨b.val % 1408, by omega⟩ : Fin 1408))
  rw [View.read_apply, flushed2] at e
  have hi := (by decide +kernel : ∀ t : Fin grid0.N, win0_2.index t 0 = t.val % 8 ∧ win0_2.index t 1 = t.val / 8) t
  have hidx : ((cfg0.win 2).blk t).view.emb (ix2 (⟨p.val % 512, by omega⟩ : Fin 512) (⟨b.val % 1408, by omega⟩ : Fin 1408)) = (ix2 p b) := by
    refine funext fun d => Fin.ext ?_
    match d with
    | ⟨0, _⟩ => show win0_2.index t 0 * 512 + 1 * (p.val % 512) = p.val; rw [hi.1]; omega
    | ⟨1, _⟩ => show win0_2.index t 1 * 1408 + 1 * (b.val % 1408) = b.val; rw [hi.2]; omega
  rw [hidx] at e
  refine e.trans ?_
  refine (out_apply (iblk m c 0 t) (iblk m c 1 t) _ _).trans ?_
  unfold prod
  refine Finset.sum_congr rfl fun k _ => ?_
  congr 1
  · exact x_block m c _ _ k _ (by simp <;> omega) (by simp <;> omega)
  · exact y_block m c _ k _ _ (by simp <;> omega) (by simp <;> omega)

end

section
open Idealize.ShloMosaic Idealize.ShloMosaic.TcCoe Idealize.SL.Sem
open Cert.Reference10Ideal Cert.Reference10Ideal.Gen

/-- The reference's expression of its two arguments. -/
abbrev ref (x : Vec Ideal S4096x1024 .bf16) (y : Vec Ideal S1024x5632 .bf16) : Vec Ideal S4096x5632 .f32 :=
  Host.dotGeneral (F := Ideal) (φ₁ := .bf16) (φ₂ := .bf16) dot_S4096x1024_S1024x5632_S4096x5632_1_0_0_1_n_n none x y

/-- The reference's element: the same sum. -/
theorem ref_apply (x : Vec Ideal S4096x1024 .bf16) (y : Vec Ideal S1024x5632 .bf16) (p : Fin 4096) (b : Fin 5632) :
    ref x y (ix2 p b) = prod x y p b := by
  pointwise [ref, prod]

/-- Kernel and reference end with equal results. -/
theorem algebraic : Cert.algebraic_Kernel10Ideal_Reference10Ideal := by
  intro m ρ m' ρ' _ hagree
  refine ⟨fun c => (Cert.Kernel10Ideal.Gen.dats m 0 c).arrAt 2 Cert.Kernel10Ideal.cfg0.N, Cert.Kernel10Ideal.Value.run_blocks (F := Ideal) m ρ, ?_⟩
  refine (θ_run _ _ _).mono (fun _ h c => ?_) (Cert.Reference10Ideal.Value.run m' ρ')
  refine ⟨(h c).1.trans ?_, (h c).2⟩
  rw [(hagree c).1, (hagree c).2]
  refine funext fun (j : S4096x5632.Idx) => ?_
  obtain ⟨p, b, rfl⟩ : ∃ (p : Fin 4096) (b : Fin 5632), j = ix2 p b := ⟨j 0, j 1, eq_ix2 j⟩
  exact (ref_apply _ _ p b).trans (result_apply m c p b).symm

/-- The frames of the three programs. -/
theorem frame_p : Cert.quiescent_Kernel10 := fun m ρ _ => Cert.Kernel10.Gen.frame m ρ
theorem frame_i : Cert.quiescent_Kernel10Ideal := fun m ρ _ => Cert.Kernel10Ideal.Gen.frame m ρ
theorem frame_r : Cert.quiescent_Reference10Ideal := fun m ρ _ =>
  (θ_run _ _ _).mono (fun r h => ⟨fun c => (h c).2, sem_eq_zero_of_no_sems (by decide) r.2⟩)
    (Cert.Reference10Ideal.Value.run m ρ)

end

end Cert.Up

end
-- ==== Proof.Down.lean ====
/- The down projection of the feed-forward block: each output block is one product of two blocks. Here:
   what an output element ends holding, as the sum over the contracted axis; the reference's element, which is the same sum;
   and the claims about this product. -/
module

public import proofs.«01_k».proof.Proof.Gen.Kernel11Ideal.Value
public import proofs.«01_k».proof.Proof.Gen.Kernel11.Frame
public import proofs.«01_k».proof.Proof.Gen.Reference11Ideal.Run
public import proofs.«01_k».proof.Proof.Base

@[expose] public section

set_option maxRecDepth 16384

noncomputable section

namespace Cert.Down

section
open Cert.Kernel11Ideal Cert.Kernel11Ideal.Gen Cert.Kernel11Ideal.Value Idealize.ShloMosaic Idealize.ShloMosaic.TcCoe Idealize.SL.Sem

variable {F : FTy → Type} [FloatOps F]
variable (m : (ℓ : Loc nD τ sig) → Buf (Elt F) ℓ)

/-- The block of the first argument that point `t` reads, at an element. -/
theorem x_block (c : Dev nD) (t : Fin cfg0.N) (l0 : Fin 512) (l1 : Fin 2816) (i : S4096x2816.Idx)
    (h0 : (i 0).val = t.val * 512 + l0.val) (h1 : (i 1).val = (0) * 2816 + l1.val) :
    (iblk m c 0 t : Vec F S512x2816 .bf16) (ix2 l0 l1) = m ((c : Thread nD τ).loc main_arg0) i := by
  have hi := (by decide +kernel : ∀ t : Fin grid0.N, win0_0.index t 0 = t.val ∧ win0_0.index t 1 = 0) t
  refine congrArg (m ((c : Thread nD τ).loc main_arg0)) (funext fun a => Fin.ext ?_)
  match a with
  | ⟨0, _⟩ => show win0_0.index t 0 * 512 + 1 * l0.val = (i 0).val; rw [hi.1, h0]; omega
  | ⟨1, _⟩ => show win0_0.index t 1 * 2816 + 1 * l1.val = (i 1).val; rw [hi.2, h1]; omega

/-- The block of the second argument that point `t` reads, at an element. -/
theorem y_block (c : Dev nD) (t : Fin cfg0.N) (l0 : Fin 2816) (l1 : Fin 1024) (i : S2816x1024.Idx)
    (h0 : (i 0).val = (0) * 2816 + l0.val) (h1 : (i 1).val = (0) * 1024 + l1.val) :
    (iblk m c 1 t : Vec F S2816x1024 .bf16) (ix2 l0 l1) = m ((c : Thread nD τ).loc main_arg1) i := by
  have hi := (by decide +kernel : ∀ t : Fin grid0.N, win0_1.index t 0 = 0 ∧ win0_1.index t 1 = 0) t
  refine congrArg (m ((c : Thread nD τ).loc main_arg1)) (funext fun a => Fin.ext ?_)
  match a with
  | ⟨0, _⟩ => show win0_1.index t 0 * 2816 + 1 * l0.val = (i 0).val; rw [hi.1, h0]; omega
  | ⟨1, _⟩ => show win0_1.index t 1 * 1024 + 1 * l1.val = (i 1).val; rw [hi.2, h1]; omega

end

section
open Cert.Kernel11Ideal Cert.Kernel11Ideal.Gen Cert.Kernel11Ideal.Value Idealize.ShloMosaic Idealize.ShloMosaic.TcCoe Idealize.SL.Sem

variable (m : (ℓ : Loc nD τ sig) → Buf (Elt Ideal) ℓ)

/-- The product of two blocks at an element: the sum over the blocks' contracted axis. -/
theorem pay1_apply (x0 : Vec Ideal S512x2816 .bf16) (x1 : Vec Ideal S2816x1024 .bf16) (p : Fin 512) (q : Fin 1024) :
    k0_pay1 x0 x1 (ix2 p q) = ∑ k : Fin 2816, x0 (ix2 p k) * x1 (ix2 k q) := by
  pointwise [k0_pay1]

/-- The product of the two arguments at an element of the result. -/
def prod (x : Vec Ideal S4096x2816 .bf16) (y : Vec Ideal S2816x1024 .bf16) (p : Fin 4096) (b : Fin 1024) : EReal :=
  ∑ k : Fin 2816, x (ix2 p k) * y (ix2 k b)

/-- An element of the block a point writes. -/
theorem out_apply (x0 : Vec Ideal S512x2816 .bf16) (x1 : Vec Ideal S2816x1024 .bf16) (p : Fin 512) (q : Fin 1024) :
    (out0_2 x0 x1 : Vec Ideal S512x1024 .f32) (ix2 p q) = ∑ k : Fin 2816, x0 (ix2 p k) * x1 (ix2 k q) := by
  unfold out0_2
  rw [View.canon_unit_zero hz2]
  simp only [View.ld_unit_zero (S := S512x2816) hz2, View.ld_unit_zero (S := S2816x1024) hz2]
  exact pay1_apply x0 x1 p q

/-- An element of the result: the sum over the contracted axis. -/
theorem result_apply (c : Dev nD) (p : Fin 4096) (b : Fin 1024) :
    ((dats m 0 c).arrAt 2 cfg0.N : Vec Ideal S4096x1024 .f32) (ix2 p b) = prod (m ((c : Thread nD τ).loc main_arg0)) (m ((c : Thread nD τ).loc main_arg1)) p b := by
  have hN : cfg0.N = 8 := N_0
  obtain ⟨t, ht⟩ : ∃ t : Fin cfg0.N, t.val = p.val / 512 := ⟨⟨p.val / 512, by omega⟩, rfl⟩
  have hf : (cfg0.win 2).flush t = true := (by decide +kernel : ∀ t : Fin grid0.N, win0_2.flush t = true) t
  have e := congrFun (blocks2 m c t hf) (ix2 (⟨p.val % 512, by omega⟩ : Fin 512) (⟨b.val % 1024, by omega⟩ : Fin 1024))
  rw [View.read_apply, flushed2] at e
  have hi := (by decide +kernel : ∀ t : Fin grid0.N, win0_2.index t 0 = t.val ∧ win0_2.index t 1 = 0) t
  have hidx : ((cfg0.win 2).blk t).view.emb (ix2 (⟨p.val % 512, by omega⟩ : Fin 512) (⟨b.val % 1024, by omega⟩ : Fin 1024)) = (ix2 p b) := by
    refine funext fun d => Fin.ext ?_
    match d with
    | ⟨0, _⟩ => show win0_2.index t 0 * 512 + 1 * (p.val % 512) = p.val; rw [hi.1]; omega
    | ⟨1, _⟩ => show win0_2.index t 1 * 1024 + 1 * (b.val % 1024) = b.val; rw [hi.2]; omega
  rw [hidx] at e
  refine e.trans ?_
  refine (out_apply (iblk m c 0 t) (iblk m c 1 t) _ _).trans ?_
  unfold prod
  refine Finset.sum_congr rfl fun k _ => ?_
  congr 1
  · exact x_block m c _ _ k _ (by simp <;> omega) (by simp <;> omega)
  · exact y_block m c _ k _ _ (by simp <;> omega) (by simp <;> omega)

end

section
open Idealize.ShloMosaic Idealize.ShloMosaic.TcCoe Idealize.SL.Sem
open Cert.Reference11Ideal Cert.Reference11Ideal.Gen

/-- The reference's expression of its two arguments. -/
abbrev ref (x : Vec Ideal S4096x2816 .bf16) (y : Vec Ideal S2816x1024 .bf16) : Vec Ideal S4096x1024 .f32 :=
  Host.dotGeneral (F := Ideal) (φ₁ := .bf16) (φ₂ := .bf16) dot_S4096x2816_S2816x1024_S4096x1024_1_0_0_1_n_n none x y

/-- The reference's element: the same sum. -/
theorem ref_apply (x : Vec Ideal S4096x2816 .bf16) (y : Vec Ideal S2816x1024 .bf16) (p : Fin 4096) (b : Fin 1024) :
    ref x y (ix2 p b) = prod x y p b := by
  pointwise [ref, prod]

/-- Kernel and reference end with equal results. -/
theorem algebraic : Cert.algebraic_Kernel11Ideal_Reference11Ideal := by
  intro m ρ m' ρ' _ hagree
  refine ⟨fun c => (Cert.Kernel11Ideal.Gen.dats m 0 c).arrAt 2 Cert.Kernel11Ideal.cfg0.N, Cert.Kernel11Ideal.Value.run_blocks (F := Ideal) m ρ, ?_⟩
  refine (θ_run _ _ _).mono (fun _ h c => ?_) (Cert.Reference11Ideal.Value.run m' ρ')
  refine ⟨(h c).1.trans ?_, (h c).2⟩
  rw [(hagree c).1, (hagree c).2]
  refine funext fun (j : S4096x1024.Idx) => ?_
  obtain ⟨p, b, rfl⟩ : ∃ (p : Fin 4096) (b : Fin 1024), j = ix2 p b := ⟨j 0, j 1, eq_ix2 j⟩
  exact (ref_apply _ _ p b).trans (result_apply m c p b).symm

/-- The frames of the three programs. -/
theorem frame_p : Cert.quiescent_Kernel11 := fun m ρ _ => Cert.Kernel11.Gen.frame m ρ
theorem frame_i : Cert.quiescent_Kernel11Ideal := fun m ρ _ => Cert.Kernel11Ideal.Gen.frame m ρ
theorem frame_r : Cert.quiescent_Reference11Ideal := fun m ρ _ =>
  (θ_run _ _ _).mono (fun r h => ⟨fun c => (h c).2, sem_eq_zero_of_no_sems (by decide) r.2⟩)
    (Cert.Reference11Ideal.Value.run m ρ)

end

end Cert.Down

end
-- ==== Proof.Proj.lean ====
/- The mixers' input projection: each output block is one product of two blocks. Here:
   what an output element ends holding, as the sum over the contracted axis; the reference's element, which is the same sum;
   and the claims about this product. -/
module

public import proofs.«01_k».proof.Proof.Gen.Kernel12Ideal.Value
public import proofs.«01_k».proof.Proof.Gen.Kernel12.Frame
public import proofs.«01_k».proof.Proof.Gen.Reference12Ideal.Run
public import proofs.«01_k».proof.Proof.Base

@[expose] public section

set_option maxRecDepth 16384

noncomputable section

namespace Cert.Proj

section
open Cert.Kernel12Ideal Cert.Kernel12Ideal.Gen Cert.Kernel12Ideal.Value Idealize.ShloMosaic Idealize.ShloMosaic.TcCoe Idealize.SL.Sem

variable {F : FTy → Type} [FloatOps F]
variable (m : (ℓ : Loc nD τ sig) → Buf (Elt F) ℓ)

/-- The block of the first argument that point `t` reads, at an element. -/
theorem x_block (c : Dev nD) (t : Fin cfg0.N) (l0 : Fin 512) (l1 : Fin 1024) (i : S4096x1024.Idx)
    (h0 : (i 0).val = t.val % 8 * 512 + l0.val) (h1 : (i 1).val = (0) * 1024 + l1.val) :
    (iblk m c 0 t : Vec F S512x1024 .bf16) (ix2 l0 l1) = m ((c : Thread nD τ).loc main_arg0) i := by
  have hi := (by decide +kernel : ∀ t : Fin grid0.N, win0_0.index t 0 = t.val % 8 ∧ win0_0.index t 1 = 0) t
  refine congrArg (m ((c : Thread nD τ).loc main_arg0)) (funext fun a => Fin.ext ?_)
  match a with
  | ⟨0, _⟩ => show win0_0.index t 0 * 512 + 1 * l0.val = (i 0).val; rw [hi.1, h0]; omega
  | ⟨1, _⟩ => show win0_0.index t 1 * 1024 + 1 * l1.val = (i 1).val; rw [hi.2, h1]; omega

/-- The block of the second argument that point `t` reads, at an element. -/
theorem y_block (c : Dev nD) (t : Fin cfg0.N) (l0 : Fin 1024) (l1 : Fin 768) (i : S1024x3072.Idx)
    (h0 : (i 0).val = (0) * 1024 + l0.val) (h1 : (i 1).val = t.val / 8 * 768 + l1.val) :
    (iblk m c 1 t : Vec F S1024x768 .bf16) (ix2 l0 l1) = m ((c : Thread nD τ).loc main_arg1) i := by
  have hi := (by decide +kernel : ∀ t : Fin grid0.N, win0_1.index t 0 = 0 ∧ win0_1.index t 1 = t.val / 8) t
  refine congrArg (m ((c : Thread nD τ).loc main_arg1)) (funext fun a => Fin.ext ?_)
  match a with
  | ⟨0, _⟩ => show win0_1.index t 0 * 1024 + 1 * l0.val = (i 0).val; rw [hi.1, h0]; omega
  | ⟨1, _⟩ => show win0_1.index t 1 * 768 + 1 * l1.val = (i 1).val; rw [hi.2, h1]; omega

end

section
open Cert.Kernel12Ideal Cert.Kernel12Ideal.Gen Cert.Kernel12Ideal.Value Idealize.ShloMosaic Idealize.ShloMosaic.TcCoe Idealize.SL.Sem

variable (m : (ℓ : Loc nD τ sig) → Buf (Elt Ideal) ℓ)

/-- The product of two blocks at an element: the sum over the blocks' contracted axis. -/
theorem pay1_apply (x0 : Vec Ideal S512x1024 .bf16) (x1 : Vec Ideal S1024x768 .bf16) (p : Fin 512) (q : Fin 768) :
    k0_pay1 x0 x1 (ix2 p q) = ∑ k : Fin 1024, x0 (ix2 p k) * x1 (ix2 k q) := by
  pointwise [k0_pay1]

/-- The product of the two arguments at an element of the result. -/
def prod (x : Vec Ideal S4096x1024 .bf16) (y : Vec Ideal S1024x3072 .bf16) (p : Fin 4096) (b : Fin 3072) : EReal :=
  ∑ k : Fin 1024, x (ix2 p k) * y (ix2 k b)

/-- An element of the block a point writes. -/
theorem out_apply (x0 : Vec Ideal S512x1024 .bf16) (x1 : Vec Ideal S1024x768 .bf16) (p : Fin 512) (q : Fin 768) :
    (out0_2 x0 x1 : Vec Ideal S512x768 .bf16) (ix2 p q) = ∑ k : Fin 1024, x0 (ix2 p k) * x1 (ix2 k q) := by
  unfold out0_2
  rw [View.canon_unit_zero hz2]
  simp only [View.ld_unit_zero (S := S512x1024) hz2, View.ld_unit_zero (S := S1024x768) hz2]
  exact pay1_apply x0 x1 p q

/-- An element of the result: the sum over the contracted axis. -/
theorem result_apply (c : Dev nD) (p : Fin 4096) (b : Fin 3072) :
    ((dats m 0 c).arrAt 2 cfg0.N : Vec Ideal S4096x3072 .bf16) (ix2 p b) = prod (m ((c : Thread nD τ).loc main_arg0)) (m ((c : Thread nD τ).loc main_arg1)) p b := by
  have hN : cfg0.N = 32 := N_0
  obtain ⟨t, ht⟩ : ∃ t : Fin cfg0.N, t.val = p.val / 512 + 8 * (b.val / 768) := ⟨⟨p.val / 512 + 8 * (b.val / 768), by omega⟩, rfl⟩
  have hf : (cfg0.win 2).flush t = true := (by decide +kernel : ∀ t : Fin grid0.N, win0_2.flush t = true) t
  have e := congrFun (blocks2 m c t hf) (ix2 (⟨p.val % 512, by omega⟩ : Fin 512) (⟨b.val % 768, by omega⟩ : Fin 768))
  rw [View.read_apply, flushed2] at e
  have hi := (by decide +kernel : ∀ t : Fin grid0.N, win0_2.index t 0 = t.val % 8 ∧ win0_2.index t 1 = t.val / 8) t
  have hidx : ((cfg0.win 2).blk t).view.emb (ix2 (⟨p.val % 512, by omega⟩ : Fin 512) (⟨b.val % 768, by omega⟩ : Fin 768)) = (ix2 p b) := by
    refine funext fun d => Fin.ext ?_
    match d with
    | ⟨0, _⟩ => show win0_2.index t 0 * 512 + 1 * (p.val % 512) = p.val; rw [hi.1]; omega
    | ⟨1, _⟩ => show win0_2.index t 1 * 768 + 1 * (b.val % 768) = b.val; rw [hi.2]; omega
  rw [hidx] at e
  refine e.trans ?_
  refine (out_apply (iblk m c 0 t) (iblk m c 1 t) _ _).trans ?_
  unfold prod
  refine Finset.sum_congr rfl fun k _ => ?_
  congr 1
  · exact x_block m c _ _ k _ (by simp <;> omega) (by simp <;> omega)
  · exact y_block m c _ k _ _ (by simp <;> omega) (by simp <;> omega)

end

section
open Idealize.ShloMosaic Idealize.ShloMosaic.TcCoe Idealize.SL.Sem
open Cert.Reference12Ideal Cert.Reference12Ideal.Gen

/-- The reference's expression of its two arguments. -/
abbrev ref (x : Vec Ideal S4096x1024 .bf16) (y : Vec Ideal S1024x3072 .bf16) : Vec Ideal S4096x3072 .bf16 :=
  truncf (F := Ideal) .bf16 (Host.dotGeneral (F := Ideal) (φ₁ := .bf16) (φ₂ := .bf16) dot_S4096x1024_S1024x3072_S4096x3072_1_0_0_1_n_n none x y) bitsLt_bf16_f32

/-- The reference's element: the same sum. -/
theorem ref_apply (x : Vec Ideal S4096x1024 .bf16) (y : Vec Ideal S1024x3072 .bf16) (p : Fin 4096) (b : Fin 3072) :
    ref x y (ix2 p b) = prod x y p b := by
  pointwise [ref, prod]

/-- Kernel and reference end with equal results. -/
theorem algebraic : Cert.algebraic_Kernel12Ideal_Reference12Ideal := by
  intro m ρ m' ρ' _ hagree
  refine ⟨fun c => (Cert.Kernel12Ideal.Gen.dats m 0 c).arrAt 2 Cert.Kernel12Ideal.cfg0.N, Cert.Kernel12Ideal.Value.run_blocks (F := Ideal) m ρ, ?_⟩
  refine (θ_run _ _ _).mono (fun _ h c => ?_) (Cert.Reference12Ideal.Value.run m' ρ')
  refine ⟨(h c).1.trans ?_, (h c).2⟩
  rw [(hagree c).1, (hagree c).2]
  refine funext fun (j : S4096x3072.Idx) => ?_
  obtain ⟨p, b, rfl⟩ : ∃ (p : Fin 4096) (b : Fin 3072), j = ix2 p b := ⟨j 0, j 1, eq_ix2 j⟩
  exact (ref_apply _ _ p b).trans (result_apply m c p b).symm

/-- The frames of the three programs. -/
theorem frame_p : Cert.quiescent_Kernel12 := fun m ρ _ => Cert.Kernel12.Gen.frame m ρ
theorem frame_i : Cert.quiescent_Kernel12Ideal := fun m ρ _ => Cert.Kernel12Ideal.Gen.frame m ρ
theorem frame_r : Cert.quiescent_Reference12Ideal := fun m ρ _ =>
  (θ_run _ _ _).mono (fun r h => ⟨fun c => (h c).2, sem_eq_zero_of_no_sems (by decide) r.2⟩)
    (Cert.Reference12Ideal.Value.run m ρ)

end

end Cert.Proj

end
-- ==== Proof.Mix.lean ====
/- The mixers' output projection: each output block is one product of two blocks. Here:
   what an output element ends holding, as the sum over the contracted axis; the reference's element, which is the same sum;
   and the claims about this product. -/
module

public import proofs.«01_k».proof.Proof.Gen.Kernel13Ideal.Value
public import proofs.«01_k».proof.Proof.Gen.Kernel13.Frame
public import proofs.«01_k».proof.Proof.Gen.Reference13Ideal.Run
public import proofs.«01_k».proof.Proof.Base

@[expose] public section

set_option maxRecDepth 16384

noncomputable section

namespace Cert.Mix

section
open Cert.Kernel13Ideal Cert.Kernel13Ideal.Gen Cert.Kernel13Ideal.Value Idealize.ShloMosaic Idealize.ShloMosaic.TcCoe Idealize.SL.Sem

variable {F : FTy → Type} [FloatOps F]
variable (m : (ℓ : Loc nD τ sig) → Buf (Elt F) ℓ)

/-- The block of the first argument that point `t` reads, at an element. -/
theorem x_block (c : Dev nD) (t : Fin cfg0.N) (l0 : Fin 512) (l1 : Fin 1024) (i : S4096x1024.Idx)
    (h0 : (i 0).val = t.val * 512 + l0.val) (h1 : (i 1).val = (0) * 1024 + l1.val) :
    (iblk m c 0 t : Vec F S512x1024 .bf16) (ix2 l0 l1) = m ((c : Thread nD τ).loc main_arg0) i := by
  have hi := (by decide +kernel : ∀ t : Fin grid0.N, win0_0.index t 0 = t.val ∧ win0_0.index t 1 = 0) t
  refine congrArg (m ((c : Thread nD τ).loc main_arg0)) (funext fun a => Fin.ext ?_)
  match a with
  | ⟨0, _⟩ => show win0_0.index t 0 * 512 + 1 * l0.val = (i 0).val; rw [hi.1, h0]; omega
  | ⟨1, _⟩ => show win0_0.index t 1 * 1024 + 1 * l1.val = (i 1).val; rw [hi.2, h1]; omega

/-- The block of the second argument that point `t` reads, at an element. -/
theorem y_block (c : Dev nD) (t : Fin cfg0.N) (l0 : Fin 1024) (l1 : Fin 1024) (i : S1024x1024.Idx)
    (h0 : (i 0).val = (0) * 1024 + l0.val) (h1 : (i 1).val = (0) * 1024 + l1.val) :
    (iblk m c 1 t : Vec F S1024x1024 .bf16) (ix2 l0 l1) = m ((c : Thread nD τ).loc main_arg1) i := by
  have hi := (by decide +kernel : ∀ t : Fin grid0.N, win0_1.index t 0 = 0 ∧ win0_1.index t 1 = 0) t
  refine congrArg (m ((c : Thread nD τ).loc main_arg1)) (funext fun a => Fin.ext ?_)
  match a with
  | ⟨0, _⟩ => show win0_1.index t 0 * 1024 + 1 * l0.val = (i 0).val; rw [hi.1, h0]; omega
  | ⟨1, _⟩ => show win0_1.index t 1 * 1024 + 1 * l1.val = (i 1).val; rw [hi.2, h1]; omega

end

section
open Cert.Kernel13Ideal Cert.Kernel13Ideal.Gen Cert.Kernel13Ideal.Value Idealize.ShloMosaic Idealize.ShloMosaic.TcCoe Idealize.SL.Sem

variable (m : (ℓ : Loc nD τ sig) → Buf (Elt Ideal) ℓ)

/-- The product of two blocks at an element: the sum over the blocks' contracted axis. -/
theorem pay1_apply (x0 : Vec Ideal S512x1024 .bf16) (x1 : Vec Ideal S1024x1024 .bf16) (p : Fin 512) (q : Fin 1024) :
    k0_pay1 x0 x1 (ix2 p q) = ∑ k : Fin 1024, x0 (ix2 p k) * x1 (ix2 k q) := by
  pointwise [k0_pay1]

/-- The product of the two arguments at an element of the result. -/
def prod (x : Vec Ideal S4096x1024 .bf16) (y : Vec Ideal S1024x1024 .bf16) (p : Fin 4096) (b : Fin 1024) : EReal :=
  ∑ k : Fin 1024, x (ix2 p k) * y (ix2 k b)

/-- An element of the block a point writes. -/
theorem out_apply (x0 : Vec Ideal S512x1024 .bf16) (x1 : Vec Ideal S1024x1024 .bf16) (p : Fin 512) (q : Fin 1024) :
    (out0_2 x0 x1 : Vec Ideal S512x1024 .f32) (ix2 p q) = ∑ k : Fin 1024, x0 (ix2 p k) * x1 (ix2 k q) := by
  unfold out0_2
  rw [View.canon_unit_zero hz2]
  simp only [View.ld_unit_zero (S := S512x1024) hz2, View.ld_unit_zero (S := S1024x1024) hz2]
  exact pay1_apply x0 x1 p q

/-- An element of the result: the sum over the contracted axis. -/
theorem result_apply (c : Dev nD) (p : Fin 4096) (b : Fin 1024) :
    ((dats m 0 c).arrAt 2 cfg0.N : Vec Ideal S4096x1024 .f32) (ix2 p b) = prod (m ((c : Thread nD τ).loc main_arg0)) (m ((c : Thread nD τ).loc main_arg1)) p b := by
  have hN : cfg0.N = 8 := N_0
  obtain ⟨t, ht⟩ : ∃ t : Fin cfg0.N, t.val = p.val / 512 := ⟨⟨p.val / 512, by omega⟩, rfl⟩
  have hf : (cfg0.win 2).flush t = true := (by decide +kernel : ∀ t : Fin grid0.N, win0_2.flush t = true) t
  have e := congrFun (blocks2 m c t hf) (ix2 (⟨p.val % 512, by omega⟩ : Fin 512) (⟨b.val % 1024, by omega⟩ : Fin 1024))
  rw [View.read_apply, flushed2] at e
  have hi := (by decide +kernel : ∀ t : Fin grid0.N, win0_2.index t 0 = t.val ∧ win0_2.index t 1 = 0) t
  have hidx : ((cfg0.win 2).blk t).view.emb (ix2 (⟨p.val % 512, by omega⟩ : Fin 512) (⟨b.val % 1024, by omega⟩ : Fin 1024)) = (ix2 p b) := by
    refine funext fun d => Fin.ext ?_
    match d with
    | ⟨0, _⟩ => show win0_2.index t 0 * 512 + 1 * (p.val % 512) = p.val; rw [hi.1]; omega
    | ⟨1, _⟩ => show win0_2.index t 1 * 1024 + 1 * (b.val % 1024) = b.val; rw [hi.2]; omega
  rw [hidx] at e
  refine e.trans ?_
  refine (out_apply (iblk m c 0 t) (iblk m c 1 t) _ _).trans ?_
  unfold prod
  refine Finset.sum_congr rfl fun k _ => ?_
  congr 1
  · exact x_block m c _ _ k _ (by simp <;> omega) (by simp <;> omega)
  · exact y_block m c _ k _ _ (by simp <;> omega) (by simp <;> omega)

end

section
open Idealize.ShloMosaic Idealize.ShloMosaic.TcCoe Idealize.SL.Sem
open Cert.Reference13Ideal Cert.Reference13Ideal.Gen

/-- The reference's expression of its two arguments. -/
abbrev ref (x : Vec Ideal S4096x1024 .bf16) (y : Vec Ideal S1024x1024 .bf16) : Vec Ideal S4096x1024 .f32 :=
  Host.dotGeneral (F := Ideal) (φ₁ := .bf16) (φ₂ := .bf16) dot_S4096x1024_S1024x1024_S4096x1024_1_0_0_1_n_n none x y

/-- The reference's element: the same sum. -/
theorem ref_apply (x : Vec Ideal S4096x1024 .bf16) (y : Vec Ideal S1024x1024 .bf16) (p : Fin 4096) (b : Fin 1024) :
    ref x y (ix2 p b) = prod x y p b := by
  pointwise [ref, prod]

/-- Kernel and reference end with equal results. -/
theorem algebraic : Cert.algebraic_Kernel13Ideal_Reference13Ideal := by
  intro m ρ m' ρ' _ hagree
  refine ⟨fun c => (Cert.Kernel13Ideal.Gen.dats m 0 c).arrAt 2 Cert.Kernel13Ideal.cfg0.N, Cert.Kernel13Ideal.Value.run_blocks (F := Ideal) m ρ, ?_⟩
  refine (θ_run _ _ _).mono (fun _ h c => ?_) (Cert.Reference13Ideal.Value.run m' ρ')
  refine ⟨(h c).1.trans ?_, (h c).2⟩
  rw [(hagree c).1, (hagree c).2]
  refine funext fun (j : S4096x1024.Idx) => ?_
  obtain ⟨p, b, rfl⟩ : ∃ (p : Fin 4096) (b : Fin 1024), j = ix2 p b := ⟨j 0, j 1, eq_ix2 j⟩
  exact (ref_apply _ _ p b).trans (result_apply m c p b).symm

/-- The frames of the three programs. -/
theorem frame_p : Cert.quiescent_Kernel13 := fun m ρ _ => Cert.Kernel13.Gen.frame m ρ
theorem frame_i : Cert.quiescent_Kernel13Ideal := fun m ρ _ => Cert.Kernel13Ideal.Gen.frame m ρ
theorem frame_r : Cert.quiescent_Reference13Ideal := fun m ρ _ =>
  (θ_run _ _ _).mono (fun r h => ⟨fun c => (h c).2, sem_eq_zero_of_no_sems (by decide) r.2⟩)
    (Cert.Reference13Ideal.Value.run m ρ)

end

end Cert.Mix

end
-- ==== Proof.AdamSpec.lean ====
/- The AdamW update of one number: the two moments and the step, the constants being those of the
   optimiser as both programs spell them. -/
module

public import proofs.«01_k».proof.Proof.Base

@[expose] public section

noncomputable section

namespace Cert.AdamSpec

open Idealize.ShloMosaic

/-- The first moment after the step: `b1 m + (1 - b1) g`. -/
def mom1 (g m : Ideal .f32) : Ideal .f32 :=
  FloatOps.addf (FloatOps.mulf (Scalar.ofBits .f32 0x3F666666#32) m) (FloatOps.mulf (Scalar.ofBits .f32 0x3DCCCCCD#32) g)

/-- The second moment after the step: `b2 v + (1 - b2) g g`. -/
def mom2 (g v : Ideal .f32) : Ideal .f32 :=
  FloatOps.addf (FloatOps.mulf (Scalar.ofBits .f32 0x3F7FBE77#32) v)
    (FloatOps.mulf (Scalar.ofBits .f32 0x3A83126F#32) (FloatOps.mulf g g))

/-- The change of the parameter: minus the rate times the debiased quotient plus the decay. -/
def step (g w m v : Ideal .f32) : Ideal .f32 :=
  FloatOps.mulf (Scalar.ofBits .f32 0xBA83126F#32)
    (FloatOps.addf
      (FloatOps.divf (FloatOps.divf (mom1 g m) (Scalar.ofBits .f32 0x3F26BD02#32))
        (FloatOps.addf (FloatOps.sqrt (FloatOps.divf (mom2 g v) (Scalar.ofBits .f32 0x3C231ACC#32)))
          (Scalar.ofBits .f32 0x322BCC77#32)))
      (FloatOps.mulf (Scalar.ofBits .f32 0x3C23D70A#32) w))

end Cert.AdamSpec

end

end
-- ==== Proof.Adam20.lean ====
/- The AdamW update of one leaf whose rows are laid out on the host before the call: each result element is
   the update of the same element of the gradient, the parameter and the two moments, and so is the reference's. -/
module

public import proofs.«01_k».proof.Proof.Gen.Kernel20.Frame
public import proofs.«01_k».proof.Proof.Gen.Kernel20Ideal.Value
public import proofs.«01_k».proof.Proof.Gen.Reference20Ideal.Run
public import proofs.«01_k».proof.Proof.AdamSpec

@[expose] public section

set_option maxRecDepth 16384

noncomputable section

namespace Cert.Adam20

section
open Cert.Kernel20Ideal Cert.Kernel20Ideal.Gen Cert.Kernel20Ideal.Value Idealize.ShloMosaic Idealize.ShloMosaic.TcCoe Idealize.SL.Sem

variable (m : (ℓ : Loc nD τ sig) → Buf (Elt Ideal) ℓ)

/-- The rows of an argument, and of the gradient, the parameter and the two moments. -/
abbrev rows (x : Vec Ideal S2x1024x1536 .f32) : Vec Ideal S2048x1536 .f32 := shapeCast S2048x1536 x shapeCasts_S2x1024x1536_S2048x1536
abbrev grad (c : Dev nD) : Vec Ideal S2048x1536 .f32 := rows (m ((c : Thread nD τ).loc main_arg0))
abbrev par (c : Dev nD) : Vec Ideal S2048x1536 .f32 := rows (m ((c : Thread nD τ).loc main_arg1))
abbrev mom (c : Dev nD) : Vec Ideal S2048x1536 .f32 := rows (m ((c : Thread nD τ).loc main_arg2))
abbrev var (c : Dev nD) : Vec Ideal S2048x1536 .f32 := rows (m ((c : Thread nD τ).loc main_arg3))

/-- The rows that point `t` takes of each array: their index maps are the same. -/
theorem emb {t : Fin cfg0.N} {a : Fin 2048} (ht : t.val = a.val / 512) (b : Fin 1536) :
    ((cfg0.win 0).blk t).view.emb (ix2 (⟨a.val % 512, by omega⟩ : Fin 512) b) = ix2 a b := by
  have hi := (by decide +kernel : ∀ t : Fin grid0.N, win0_0.index t 0 = t.val ∧ win0_0.index t 1 = 0) t
  refine funext fun d => Fin.ext ?_
  match d with
  | ⟨0, _⟩ => show win0_0.index t 0 * 512 + 1 * (a.val % 512) = a.val; rw [hi.1]; omega
  | ⟨1, _⟩ => show win0_0.index t 1 * 1536 + 1 * b.val = b.val; rw [hi.2]; omega

/-- The array of an input window is its argument, row by row, and so is a block at an element. -/
theorem entry_0 (c : Dev nD) : (V m c main_v0 : Vec Ideal S2048x1536 .f32) = grad m c := by
  unfold_abbrev_sides
  after_results
  rfl
theorem entry_1 (c : Dev nD) : (V m c main_v1 : Vec Ideal S2048x1536 .f32) = par m c := by
  unfold_abbrev_sides
  after_results
  rfl
theorem entry_2 (c : Dev nD) : (V m c main_v2 : Vec Ideal S2048x1536 .f32) = mom m c := by
  unfold_abbrev_sides
  after_results
  rfl
theorem entry_3 (c : Dev nD) : (V m c main_v3 : Vec Ideal S2048x1536 .f32) = var m c := by
  unfold_abbrev_sides
  after_results
  rfl

section
variable (c : Dev nD) {t : Fin cfg0.N} {a : Fin 2048} (ht : t.val = a.val / 512) (b : Fin 1536)
include ht

theorem block_0 :
    (iblk m c 0 t : Vec Ideal S512x1536 .f32) (ix2 (⟨a.val % 512, by omega⟩ : Fin 512) b) = grad m c (ix2 a b) :=
  (congrArg (V m c main_v0) (emb ht b)).trans (congrFun (entry_0 m c) _)
theorem block_1 :
    (iblk m c 1 t : Vec Ideal S512x1536 .f32) (ix2 (⟨a.val % 512, by omega⟩ : Fin 512) b) = par m c (ix2 a b) :=
  (congrArg (V m c main_v1) (emb ht b)).trans (congrFun (entry_1 m c) _)
theorem block_2 :
    (iblk m c 2 t : Vec Ideal S512x1536 .f32) (ix2 (⟨a.val % 512, by omega⟩ : Fin 512) b) = mom m c (ix2 a b) :=
  (congrArg (V m c main_v2) (emb ht b)).trans (congrFun (entry_2 m c) _)
theorem block_3 :
    (iblk m c 3 t : Vec Ideal S512x1536 .f32) (ix2 (⟨a.val % 512, by omega⟩ : Fin 512) b) = var m c (ix2 a b) :=
  (congrArg (V m c main_v3) (emb ht b)).trans (congrFun (entry_3 m c) _)

end

/-- The point that writes a row. -/
theorem point (a : Fin 2048) : ∃ t : Fin cfg0.N, t.val = a.val / 512 :=
  have hN : cfg0.N = 4 := N_0
  ⟨⟨a.val / 512, by omega⟩, rfl⟩

/-- What a point writes back to output window 4, at an element, and an element of the result. -/
theorem out4_apply (x0 x1 x2 x3 : Vec Ideal S512x1536 .f32) (p : Fin 512) (q : Fin 1536) :
    (out0_4 x0 x1 x2 x3 : Vec Ideal S512x1536 .f32) (ix2 p q) = AdamSpec.step (x0 (ix2 p q)) (x1 (ix2 p q)) (x2 (ix2 p q)) (x3 (ix2 p q)) := by
  unfold out0_4
  rw [View.canon_unit_zero hz2]
  simp only [View.ld_unit_zero (S := S512x1536) hz2, k0_pay4, k0_pay3, k0_pay2, k0_pay1, shapeCast_self]
  rfl
theorem result4 (c : Dev nD) (a : Fin 2048) (b : Fin 1536) :
    ((dats m 0 c).arrAt 4 cfg0.N : Vec Ideal S2048x1536 .f32) (ix2 a b) = AdamSpec.step (grad m c (ix2 a b)) (par m c (ix2 a b)) (mom m c (ix2 a b)) (var m c (ix2 a b)) := by
  obtain ⟨t, ht⟩ := point a
  have hf : (cfg0.win 4).flush t = true := (by decide +kernel : ∀ t : Fin grid0.N, win0_4.flush t = true) t
  refine (congrArg ((dats m 0 c).arrAt 4 cfg0.N) (emb ht b).symm).trans ((congrFun ((blocks4 m c t hf).trans (flushed4 ..)) _).trans ((out4_apply ..).trans ?_))
  rw [block_0 m c ht, block_1 m c ht, block_2 m c ht, block_3 m c ht]

/-- What a point writes back to output window 5, at an element, and an element of the result. -/
theorem out5_apply (x0 x1 x2 x3 : Vec Ideal S512x1536 .f32) (p : Fin 512) (q : Fin 1536) :
    (out0_5 x0 x1 x2 x3 : Vec Ideal S512x1536 .f32) (ix2 p q) = AdamSpec.mom1 (x0 (ix2 p q)) (x2 (ix2 p q)) := by
  unfold out0_5
  rw [View.canon_unit_zero hz2]
  simp only [View.ld_unit_zero (S := S512x1536) hz2, k0_pay4, k0_pay3, k0_pay2, k0_pay1, shapeCast_self]
  rfl
theorem result5 (c : Dev nD) (a : Fin 2048) (b : Fin 1536) :
    ((dats m 0 c).arrAt 5 cfg0.N : Vec Ideal S2048x1536 .f32) (ix2 a b) = AdamSpec.mom1 (grad m c (ix2 a b)) (mom m c (ix2 a b)) := by
  obtain ⟨t, ht⟩ := point a
  have hf : (cfg0.win 5).flush t = true := (by decide +kernel : ∀ t : Fin grid0.N, win0_5.flush t = true) t
  refine (congrArg ((dats m 0 c).arrAt 5 cfg0.N) (emb ht b).symm).trans ((congrFun ((blocks5 m c t hf).trans (flushed5 ..)) _).trans ((out5_apply ..).trans ?_))
  rw [block_0 m c ht, block_2 m c ht]

/-- What a point writes back to output window 6, at an element, and an element of the result. -/
theorem out6_apply (x0 x1 x2 x3 : Vec Ideal S512x1536 .f32) (p : Fin 512) (q : Fin 1536) :
    (out0_6 x0 x1 x2 x3 : Vec Ideal S512x1536 .f32) (ix2 p q) = AdamSpec.mom2 (x0 (ix2 p q)) (x3 (ix2 p q)) := by
  unfold out0_6
  rw [View.canon_unit_zero hz2]
  simp only [View.ld_unit_zero (S := S512x1536) hz2, k0_pay4, k0_pay3, k0_pay2, k0_pay1, shapeCast_self]
  rfl
theorem result6 (c : Dev nD) (a : Fin 2048) (b : Fin 1536) :
    ((dats m 0 c).arrAt 6 cfg0.N : Vec Ideal S2048x1536 .f32) (ix2 a b) = AdamSpec.mom2 (grad m c (ix2 a b)) (var m c (ix2 a b)) := by
  obtain ⟨t, ht⟩ := point a
  have hf : (cfg0.win 6).flush t = true := (by decide +kernel : ∀ t : Fin grid0.N, win0_6.flush t = true) t
  refine (congrArg ((dats m 0 c).arrAt 6 cfg0.N) (emb ht b).symm).trans ((congrFun ((blocks6 m c t hf).trans (flushed6 ..)) _).trans ((out6_apply ..).trans ?_))
  rw [block_0 m c ht, block_3 m c ht]

end

open Idealize.ShloMosaic Idealize.ShloMosaic.TcCoe Idealize.SL.Sem

/-- Kernel and reference end with equal results. -/
theorem algebraic : Cert.algebraic_Kernel20Ideal_Reference20Ideal := by
  intro m ρ m' ρ' _ hagree
  refine ⟨fun c => (Cert.Kernel20Ideal.Gen.dats m 0 c).arrAt 4 Cert.Kernel20Ideal.cfg0.N, fun c => (Cert.Kernel20Ideal.Gen.dats m 0 c).arrAt 5 Cert.Kernel20Ideal.cfg0.N,
    fun c => (Cert.Kernel20Ideal.Gen.dats m 0 c).arrAt 6 Cert.Kernel20Ideal.cfg0.N, Cert.Kernel20Ideal.Value.run_blocks (F := Ideal) m ρ, ?_⟩
  refine (θ_run _ _ _).mono (fun _ h c => ?_) (Cert.Reference20Ideal.Value.run m' ρ')
  obtain ⟨h0, h1, h2, h3⟩ := hagree c
  refine ⟨(h c).1.trans ?_, (h c).2.1.trans ?_, (h c).2.2.1.trans ?_, (h c).2.2.2⟩
  · rw [h0, h1, h2, h3]
    exact ext2 fun a b => (result4 m c a b).symm
  · rw [h0, h2]
    exact ext2 fun a b => (result5 m c a b).symm
  · rw [h0, h3]
    exact ext2 fun a b => (result6 m c a b).symm

/-- The frames of the three programs. -/
theorem frame_p : Cert.quiescent_Kernel20 := fun m ρ _ => Cert.Kernel20.Gen.frame m ρ
theorem frame_i : Cert.quiescent_Kernel20Ideal := fun m ρ _ => Cert.Kernel20Ideal.Gen.frame m ρ
theorem frame_r : Cert.quiescent_Reference20Ideal := fun m ρ _ =>
  (θ_run _ _ _).mono (fun r h => ⟨fun c => (h c).2.2.2, sem_eq_zero_of_no_sems (by decide) r.2⟩)
    (Cert.Reference20Ideal.Value.run m ρ)

end Cert.Adam20

end

end
-- ==== Proof.Adam21.lean ====
/- The AdamW update of one leaf whose rows are taken whole: the three results are pointwise in the gradient,
   the parameter and the two moments, operation for operation those of the reference. -/
module

public import proofs.«01_k».proof.Proof.Gen.Kernel21.Frame
public import proofs.«01_k».proof.Proof.Gen.Kernel21Ideal.Value
public import proofs.«01_k».proof.Proof.Gen.Reference21Ideal.Run
public import proofs.«01_k».proof.Proof.Base

@[expose] public section

set_option maxRecDepth 16384

noncomputable section

open Idealize.ShloMosaic Idealize.ShloMosaic.TcCoe Idealize.SL.Sem Cert

namespace Cert.Adam21

theorem frame_p : quiescent_Kernel21 := fun m ρ _ => Cert.Kernel21.Gen.frame m ρ

theorem frame_i : quiescent_Kernel21Ideal := fun m ρ _ => Cert.Kernel21Ideal.Gen.frame m ρ

theorem frame_r : quiescent_Reference21Ideal := fun m ρ _ =>
  (θ_run _ _ _).mono
    (fun r h => ⟨fun c => (h c).2.2.2, sem_eq_zero_of_no_sems (by decide) r.2⟩)
    (Cert.Reference21Ideal.Value.run m ρ)

theorem algebraic : algebraic_Kernel21Ideal_Reference21Ideal := by
  intro m ρ m' ρ' _ hagree
  refine ⟨_, _, _, Cert.Kernel21Ideal.Value.run m ρ, ?_⟩
  refine (θ_run _ _ _).mono (fun _ h c => ⟨?_, ?_, ?_, (h c).2.2.2⟩)
    (Cert.Reference21Ideal.Value.run m' ρ')
  · rw [(h c).1]
    simp only [hagree c]
    value_tie Cert.Kernel21Ideal
  · rw [(h c).2.1]
    simp only [hagree c]
    value_tie Cert.Kernel21Ideal
  · rw [(h c).2.2.1]
    simp only [hagree c]
    value_tie Cert.Kernel21Ideal

end Cert.Adam21

end

end
-- ==== Proof.Adam22.lean ====
/- The AdamW update of one leaf whose rows are laid out on the host before the call: each result element is
   the update of the same element of the gradient, the parameter and the two moments, and so is the reference's. -/
module

public import proofs.«01_k».proof.Proof.Gen.Kernel22.Frame
public import proofs.«01_k».proof.Proof.Gen.Kernel22Ideal.Value
public import proofs.«01_k».proof.Proof.Gen.Reference22Ideal.Run
public import proofs.«01_k».proof.Proof.AdamSpec

@[expose] public section

set_option maxRecDepth 16384

noncomputable section

namespace Cert.Adam22

section
open Cert.Kernel22Ideal Cert.Kernel22Ideal.Gen Cert.Kernel22Ideal.Value Idealize.ShloMosaic Idealize.ShloMosaic.TcCoe Idealize.SL.Sem

variable (m : (ℓ : Loc nD τ sig) → Buf (Elt Ideal) ℓ)

/-- The rows of an argument, and of the gradient, the parameter and the two moments. -/
abbrev rows (x : Vec Ideal S2x8x257 .f32) : Vec Ideal S16x257 .f32 := shapeCast S16x257 x shapeCasts_S2x8x257_S16x257
abbrev grad (c : Dev nD) : Vec Ideal S16x257 .f32 := rows (m ((c : Thread nD τ).loc main_arg0))
abbrev par (c : Dev nD) : Vec Ideal S16x257 .f32 := rows (m ((c : Thread nD τ).loc main_arg1))
abbrev mom (c : Dev nD) : Vec Ideal S16x257 .f32 := rows (m ((c : Thread nD τ).loc main_arg2))
abbrev var (c : Dev nD) : Vec Ideal S16x257 .f32 := rows (m ((c : Thread nD τ).loc main_arg3))

/-- The rows that point `t` takes of each array: their index maps are the same. -/
theorem emb {t : Fin cfg0.N} {a : Fin 16} (ht : t.val = a.val / 16) (b : Fin 257) :
    ((cfg0.win 0).blk t).view.emb (ix2 (⟨a.val % 16, by omega⟩ : Fin 16) b) = ix2 a b := by
  have hi := (by decide +kernel : ∀ t : Fin grid0.N, win0_0.index t 0 = t.val ∧ win0_0.index t 1 = 0) t
  refine funext fun d => Fin.ext ?_
  match d with
  | ⟨0, _⟩ => show win0_0.index t 0 * 16 + 1 * (a.val % 16) = a.val; rw [hi.1]; omega
  | ⟨1, _⟩ => show win0_0.index t 1 * 257 + 1 * b.val = b.val; rw [hi.2]; omega

/-- The array of an input window is its argument, row by row, and so is a block at an element. -/
theorem entry_0 (c : Dev nD) : (V m c main_v0 : Vec Ideal S16x257 .f32) = grad m c := by
  unfold_abbrev_sides
  after_results
  rfl
theorem entry_1 (c : Dev nD) : (V m c main_v1 : Vec Ideal S16x257 .f32) = par m c := by
  unfold_abbrev_sides
  after_results
  rfl
theorem entry_2 (c : Dev nD) : (V m c main_v2 : Vec Ideal S16x257 .f32) = mom m c := by
  unfold_abbrev_sides
  after_results
  rfl
theorem entry_3 (c : Dev nD) : (V m c main_v3 : Vec Ideal S16x257 .f32) = var m c := by
  unfold_abbrev_sides
  after_results
  rfl

section
variable (c : Dev nD) {t : Fin cfg0.N} {a : Fin 16} (ht : t.val = a.val / 16) (b : Fin 257)
include ht

theorem block_0 :
    (iblk m c 0 t : Vec Ideal S16x257 .f32) (ix2 (⟨a.val % 16, by omega⟩ : Fin 16) b) = grad m c (ix2 a b) :=
  (congrArg (V m c main_v0) (emb ht b)).trans (congrFun (entry_0 m c) _)
theorem block_1 :
    (iblk m c 1 t : Vec Ideal S16x257 .f32) (ix2 (⟨a.val % 16, by omega⟩ : Fin 16) b) = par m c (ix2 a b) :=
  (congrArg (V m c main_v1) (emb ht b)).trans (congrFun (entry_1 m c) _)
theorem block_2 :
    (iblk m c 2 t : Vec Ideal S16x257 .f32) (ix2 (⟨a.val % 16, by omega⟩ : Fin 16) b) = mom m c (ix2 a b) :=
  (congrArg (V m c main_v2) (emb ht b)).trans (congrFun (entry_2 m c) _)
theorem block_3 :
    (iblk m c 3 t : Vec Ideal S16x257 .f32) (ix2 (⟨a.val % 16, by omega⟩ : Fin 16) b) = var m c (ix2 a b) :=
  (congrArg (V m c main_v3) (emb ht b)).trans (congrFun (entry_3 m c) _)

end

/-- The point that writes a row. -/
theorem point (a : Fin 16) : ∃ t : Fin cfg0.N, t.val = a.val / 16 :=
  have hN : cfg0.N = 1 := N_0
  ⟨⟨a.val / 16, by omega⟩, rfl⟩

/-- What a point writes back to output window 4, at an element, and an element of the result. -/
theorem out4_apply (x0 x1 x2 x3 : Vec Ideal S16x257 .f32) (p : Fin 16) (q : Fin 257) :
    (out0_4 x0 x1 x2 x3 : Vec Ideal S16x257 .f32) (ix2 p q) = AdamSpec.step (x0 (ix2 p q)) (x1 (ix2 p q)) (x2 (ix2 p q)) (x3 (ix2 p q)) := by
  unfold out0_4
  rw [View.canon_unit_zero hz2]
  simp only [View.ld_unit_zero (S := S16x257) hz2, k0_pay4, k0_pay3, k0_pay2, k0_pay1, shapeCast_self]
  rfl
theorem result4 (c : Dev nD) (a : Fin 16) (b : Fin 257) :
    ((dats m 0 c).arrAt 4 cfg0.N : Vec Ideal S16x257 .f32) (ix2 a b) = AdamSpec.step (grad m c (ix2 a b)) (par m c (ix2 a b)) (mom m c (ix2 a b)) (var m c (ix2 a b)) := by
  obtain ⟨t, ht⟩ := point a
  have hf : (cfg0.win 4).flush t = true := (by decide +kernel : ∀ t : Fin grid0.N, win0_4.flush t = true) t
  refine (congrArg ((dats m 0 c).arrAt 4 cfg0.N) (emb ht b).symm).trans ((congrFun ((blocks4 m c t hf).trans (flushed4 ..)) _).trans ((out4_apply ..).trans ?_))
  rw [block_0 m c ht, block_1 m c ht, block_2 m c ht, block_3 m c ht]

/-- What a point writes back to output window 5, at an element, and an element of the result. -/
theorem out5_apply (x0 x1 x2 x3 : Vec Ideal S16x257 .f32) (p : Fin 16) (q : Fin 257) :
    (out0_5 x0 x1 x2 x3 : Vec Ideal S16x257 .f32) (ix2 p q) = AdamSpec.mom1 (x0 (ix2 p q)) (x2 (ix2 p q)) := by
  unfold out0_5
  rw [View.canon_unit_zero hz2]
  simp only [View.ld_unit_zero (S := S16x257) hz2, k0_pay4, k0_pay3, k0_pay2, k0_pay1, shapeCast_self]
  rfl
theorem result5 (c : Dev nD) (a : Fin 16) (b : Fin 257) :
    ((dats m 0 c).arrAt 5 cfg0.N : Vec Ideal S16x257 .f32) (ix2 a b) = AdamSpec.mom1 (grad m c (ix2 a b)) (mom m c (ix2 a b)) := by
  obtain ⟨t, ht⟩ := point a
  have hf : (cfg0.win 5).flush t = true := (by decide +kernel : ∀ t : Fin grid0.N, win0_5.flush t = true) t
  refine (congrArg ((dats m 0 c).arrAt 5 cfg0.N) (emb ht b).symm).trans ((congrFun ((blocks5 m c t hf).trans (flushed5 ..)) _).trans ((out5_apply ..).trans ?_))
  rw [block_0 m c ht, block_2 m c ht]

/-- What a point writes back to output window 6, at an element, and an element of the result. -/
theorem out6_apply (x0 x1 x2 x3 : Vec Ideal S16x257 .f32) (p : Fin 16) (q : Fin 257) :
    (out0_6 x0 x1 x2 x3 : Vec Ideal S16x257 .f32) (ix2 p q) = AdamSpec.mom2 (x0 (ix2 p q)) (x3 (ix2 p q)) := by
  unfold out0_6
  rw [View.canon_unit_zero hz2]
  simp only [View.ld_unit_zero (S := S16x257) hz2, k0_pay4, k0_pay3, k0_pay2, k0_pay1, shapeCast_self]
  rfl
theorem result6 (c : Dev nD) (a : Fin 16) (b : Fin 257) :
    ((dats m 0 c).arrAt 6 cfg0.N : Vec Ideal S16x257 .f32) (ix2 a b) = AdamSpec.mom2 (grad m c (ix2 a b)) (var m c (ix2 a b)) := by
  obtain ⟨t, ht⟩ := point a
  have hf : (cfg0.win 6).flush t = true := (by decide +kernel : ∀ t : Fin grid0.N, win0_6.flush t = true) t
  refine (congrArg ((dats m 0 c).arrAt 6 cfg0.N) (emb ht b).symm).trans ((congrFun ((blocks6 m c t hf).trans (flushed6 ..)) _).trans ((out6_apply ..).trans ?_))
  rw [block_0 m c ht, block_3 m c ht]

end

open Idealize.ShloMosaic Idealize.ShloMosaic.TcCoe Idealize.SL.Sem

/-- Kernel and reference end with equal results. -/
theorem algebraic : Cert.algebraic_Kernel22Ideal_Reference22Ideal := by
  intro m ρ m' ρ' _ hagree
  refine ⟨fun c => (Cert.Kernel22Ideal.Gen.dats m 0 c).arrAt 4 Cert.Kernel22Ideal.cfg0.N, fun c => (Cert.Kernel22Ideal.Gen.dats m 0 c).arrAt 5 Cert.Kernel22Ideal.cfg0.N,
    fun c => (Cert.Kernel22Ideal.Gen.dats m 0 c).arrAt 6 Cert.Kernel22Ideal.cfg0.N, Cert.Kernel22Ideal.Value.run_blocks (F := Ideal) m ρ, ?_⟩
  refine (θ_run _ _ _).mono (fun _ h c => ?_) (Cert.Reference22Ideal.Value.run m' ρ')
  obtain ⟨h0, h1, h2, h3⟩ := hagree c
  refine ⟨(h c).1.trans ?_, (h c).2.1.trans ?_, (h c).2.2.1.trans ?_, (h c).2.2.2⟩
  · rw [h0, h1, h2, h3]
    exact ext2 fun a b => (result4 m c a b).symm
  · rw [h0, h2]
    exact ext2 fun a b => (result5 m c a b).symm
  · rw [h0, h3]
    exact ext2 fun a b => (result6 m c a b).symm

/-- The frames of the three programs. -/
theorem frame_p : Cert.quiescent_Kernel22 := fun m ρ _ => Cert.Kernel22.Gen.frame m ρ
theorem frame_i : Cert.quiescent_Kernel22Ideal := fun m ρ _ => Cert.Kernel22Ideal.Gen.frame m ρ
theorem frame_r : Cert.quiescent_Reference22Ideal := fun m ρ _ =>
  (θ_run _ _ _).mono (fun r h => ⟨fun c => (h c).2.2.2, sem_eq_zero_of_no_sems (by decide) r.2⟩)
    (Cert.Reference22Ideal.Value.run m ρ)

end Cert.Adam22

end

end
-- ==== Proof.Adam23.lean ====
/- The AdamW update of one leaf whose rows are taken whole: the three results are pointwise in the gradient,
   the parameter and the two moments, operation for operation those of the reference. -/
module

public import proofs.«01_k».proof.Proof.Gen.Kernel23.Frame
public import proofs.«01_k».proof.Proof.Gen.Kernel23Ideal.Value
public import proofs.«01_k».proof.Proof.Gen.Reference23Ideal.Run
public import proofs.«01_k».proof.Proof.Base

@[expose] public section

set_option maxRecDepth 16384

noncomputable section

open Idealize.ShloMosaic Idealize.ShloMosaic.TcCoe Idealize.SL.Sem Cert

namespace Cert.Adam23

theorem frame_p : quiescent_Kernel23 := fun m ρ _ => Cert.Kernel23.Gen.frame m ρ

theorem frame_i : quiescent_Kernel23Ideal := fun m ρ _ => Cert.Kernel23Ideal.Gen.frame m ρ

theorem frame_r : quiescent_Reference23Ideal := fun m ρ _ =>
  (θ_run _ _ _).mono
    (fun r h => ⟨fun c => (h c).2.2.2, sem_eq_zero_of_no_sems (by decide) r.2⟩)
    (Cert.Reference23Ideal.Value.run m ρ)

theorem algebraic : algebraic_Kernel23Ideal_Reference23Ideal := by
  intro m ρ m' ρ' _ hagree
  refine ⟨_, _, _, Cert.Kernel23Ideal.Value.run m ρ, ?_⟩
  refine (θ_run _ _ _).mono (fun _ h c => ⟨?_, ?_, ?_, (h c).2.2.2⟩)
    (Cert.Reference23Ideal.Value.run m' ρ')
  · rw [(h c).1]
    simp only [hagree c]
    value_tie Cert.Kernel23Ideal
  · rw [(h c).2.1]
    simp only [hagree c]
    value_tie Cert.Kernel23Ideal
  · rw [(h c).2.2.1]
    simp only [hagree c]
    value_tie Cert.Kernel23Ideal

end Cert.Adam23

end

end
-- ==== Proof.Adam24.lean ====
/- The AdamW update of one leaf whose rows are taken whole: the three results are pointwise in the gradient,
   the parameter and the two moments, operation for operation those of the reference. -/
module

public import proofs.«01_k».proof.Proof.Gen.Kernel24.Frame
public import proofs.«01_k».proof.Proof.Gen.Kernel24Ideal.Value
public import proofs.«01_k».proof.Proof.Gen.Reference24Ideal.Run
public import proofs.«01_k».proof.Proof.Base

@[expose] public section

set_option maxRecDepth 16384

noncomputable section

open Idealize.ShloMosaic Idealize.ShloMosaic.TcCoe Idealize.SL.Sem Cert

namespace Cert.Adam24

theorem frame_p : quiescent_Kernel24 := fun m ρ _ => Cert.Kernel24.Gen.frame m ρ

theorem frame_i : quiescent_Kernel24Ideal := fun m ρ _ => Cert.Kernel24Ideal.Gen.frame m ρ

theorem frame_r : quiescent_Reference24Ideal := fun m ρ _ =>
  (θ_run _ _ _).mono
    (fun r h => ⟨fun c => (h c).2.2.2, sem_eq_zero_of_no_sems (by decide) r.2⟩)
    (Cert.Reference24Ideal.Value.run m ρ)

theorem algebraic : algebraic_Kernel24Ideal_Reference24Ideal := by
  intro m ρ m' ρ' _ hagree
  refine ⟨_, _, _, Cert.Kernel24Ideal.Value.run m ρ, ?_⟩
  refine (θ_run _ _ _).mono (fun _ h c => ⟨?_, ?_, ?_, (h c).2.2.2⟩)
    (Cert.Reference24Ideal.Value.run m' ρ')
  · rw [(h c).1]
    simp only [hagree c]
    value_tie Cert.Kernel24Ideal
  · rw [(h c).2.1]
    simp only [hagree c]
    value_tie Cert.Kernel24Ideal
  · rw [(h c).2.2.1]
    simp only [hagree c]
    value_tie Cert.Kernel24Ideal

end Cert.Adam24

end

end
-- ==== Proof.Adam25.lean ====
/- The AdamW update of one leaf whose rows are laid out on the host before the call: each result element is
   the update of the same element of the gradient, the parameter and the two moments, and so is the reference's. -/
module

public import proofs.«01_k».proof.Proof.Gen.Kernel25.Frame
public import proofs.«01_k».proof.Proof.Gen.Kernel25Ideal.Value
public import proofs.«01_k».proof.Proof.Gen.Reference25Ideal.Run
public import proofs.«01_k».proof.Proof.AdamSpec

@[expose] public section

set_option maxRecDepth 16384

noncomputable section

namespace Cert.Adam25

section
open Cert.Kernel25Ideal Cert.Kernel25Ideal.Gen Cert.Kernel25Ideal.Value Idealize.ShloMosaic Idealize.ShloMosaic.TcCoe Idealize.SL.Sem

variable (m : (ℓ : Loc nD τ sig) → Buf (Elt Ideal) ℓ)

/-- The rows of an argument, and of the gradient, the parameter and the two moments. -/
abbrev rows (x : Vec Ideal S2x3x1408 .f32) : Vec Ideal S6x1408 .f32 := shapeCast S6x1408 x shapeCasts_S2x3x1408_S6x1408
abbrev grad (c : Dev nD) : Vec Ideal S6x1408 .f32 := rows (m ((c : Thread nD τ).loc main_arg0))
abbrev par (c : Dev nD) : Vec Ideal S6x1408 .f32 := rows (m ((c : Thread nD τ).loc main_arg1))
abbrev mom (c : Dev nD) : Vec Ideal S6x1408 .f32 := rows (m ((c : Thread nD τ).loc main_arg2))
abbrev var (c : Dev nD) : Vec Ideal S6x1408 .f32 := rows (m ((c : Thread nD τ).loc main_arg3))

/-- The rows that point `t` takes of each array: their index maps are the same. -/
theorem emb {t : Fin cfg0.N} {a : Fin 6} (ht : t.val = a.val / 6) (b : Fin 1408) :
    ((cfg0.win 0).blk t).view.emb (ix2 (⟨a.val % 6, by omega⟩ : Fin 6) b) = ix2 a b := by
  have hi := (by decide +kernel : ∀ t : Fin grid0.N, win0_0.index t 0 = t.val ∧ win0_0.index t 1 = 0) t
  refine funext fun d => Fin.ext ?_
  match d with
  | ⟨0, _⟩ => show win0_0.index t 0 * 6 + 1 * (a.val % 6) = a.val; rw [hi.1]; omega
  | ⟨1, _⟩ => show win0_0.index t 1 * 1408 + 1 * b.val = b.val; rw [hi.2]; omega

/-- The array of an input window is its argument, row by row, and so is a block at an element. -/
theorem entry_0 (c : Dev nD) : (V m c main_v0 : Vec Ideal S6x1408 .f32) = grad m c := by
  unfold_abbrev_sides
  after_results
  rfl
theorem entry_1 (c : Dev nD) : (V m c main_v1 : Vec Ideal S6x1408 .f32) = par m c := by
  unfold_abbrev_sides
  after_results
  rfl
theorem entry_2 (c : Dev nD) : (V m c main_v2 : Vec Ideal S6x1408 .f32) = mom m c := by
  unfold_abbrev_sides
  after_results
  rfl
theorem entry_3 (c : Dev nD) : (V m c main_v3 : Vec Ideal S6x1408 .f32) = var m c := by
  unfold_abbrev_sides
  after_results
  rfl

section
variable (c : Dev nD) {t : Fin cfg0.N} {a : Fin 6} (ht : t.val = a.val / 6) (b : Fin 1408)
include ht

theorem block_0 :
    (iblk m c 0 t : Vec Ideal S6x1408 .f32) (ix2 (⟨a.val % 6, by omega⟩ : Fin 6) b) = grad m c (ix2 a b) :=
  (congrArg (V m c main_v0) (emb ht b)).trans (congrFun (entry_0 m c) _)
theorem block_1 :
    (iblk m c 1 t : Vec Ideal S6x1408 .f32) (ix2 (⟨a.val % 6, by omega⟩ : Fin 6) b) = par m c (ix2 a b) :=
  (congrArg (V m c main_v1) (emb ht b)).trans (congrFun (entry_1 m c) _)
theorem block_2 :
    (iblk m c 2 t : Vec Ideal S6x1408 .f32) (ix2 (⟨a.val % 6, by omega⟩ : Fin 6) b) = mom m c (ix2 a b) :=
  (congrArg (V m c main_v2) (emb ht b)).trans (congrFun (entry_2 m c) _)
theorem block_3 :
    (iblk m c 3 t : Vec Ideal S6x1408 .f32) (ix2 (⟨a.val % 6, by omega⟩ : Fin 6) b) = var m c (ix2 a b) :=
  (congrArg (V m c main_v3) (emb ht b)).trans (congrFun (entry_3 m c) _)

end

/-- The point that writes a row. -/
theorem point (a : Fin 6) : ∃ t : Fin cfg0.N, t.val = a.val / 6 :=
  have hN : cfg0.N = 1 := N_0
  ⟨⟨a.val / 6, by omega⟩, rfl⟩

/-- What a point writes back to output window 4, at an element, and an element of the result. -/
theorem out4_apply (x0 x1 x2 x3 : Vec Ideal S6x1408 .f32) (p : Fin 6) (q : Fin 1408) :
    (out0_4 x0 x1 x2 x3 : Vec Ideal S6x1408 .f32) (ix2 p q) = AdamSpec.step (x0 (ix2 p q)) (x1 (ix2 p q)) (x2 (ix2 p q)) (x3 (ix2 p q)) := by
  unfold out0_4
  rw [View.canon_unit_zero hz2]
  simp only [View.ld_unit_zero (S := S6x1408) hz2, k0_pay4, k0_pay3, k0_pay2, k0_pay1, shapeCast_self]
  rfl
theorem result4 (c : Dev nD) (a : Fin 6) (b : Fin 1408) :
    ((dats m 0 c).arrAt 4 cfg0.N : Vec Ideal S6x1408 .f32) (ix2 a b) = AdamSpec.step (grad m c (ix2 a b)) (par m c (ix2 a b)) (mom m c (ix2 a b)) (var m c (ix2 a b)) := by
  obtain ⟨t, ht⟩ := point a
  have hf : (cfg0.win 4).flush t = true := (by decide +kernel : ∀ t : Fin grid0.N, win0_4.flush t = true) t
  refine (congrArg ((dats m 0 c).arrAt 4 cfg0.N) (emb ht b).symm).trans ((congrFun ((blocks4 m c t hf).trans (flushed4 ..)) _).trans ((out4_apply ..).trans ?_))
  rw [block_0 m c ht, block_1 m c ht, block_2 m c ht, block_3 m c ht]

/-- What a point writes back to output window 5, at an element, and an element of the result. -/
theorem out5_apply (x0 x1 x2 x3 : Vec Ideal S6x1408 .f32) (p : Fin 6) (q : Fin 1408) :
    (out0_5 x0 x1 x2 x3 : Vec Ideal S6x1408 .f32) (ix2 p q) = AdamSpec.mom1 (x0 (ix2 p q)) (x2 (ix2 p q)) := by
  unfold out0_5
  rw [View.canon_unit_zero hz2]
  simp only [View.ld_unit_zero (S := S6x1408) hz2, k0_pay4, k0_pay3, k0_pay2, k0_pay1, shapeCast_self]
  rfl
theorem result5 (c : Dev nD) (a : Fin 6) (b : Fin 1408) :
    ((dats m 0 c).arrAt 5 cfg0.N : Vec Ideal S6x1408 .f32) (ix2 a b) = AdamSpec.mom1 (grad m c (ix2 a b)) (mom m c (ix2 a b)) := by
  obtain ⟨t, ht⟩ := point a
  have hf : (cfg0.win 5).flush t = true := (by decide +kernel : ∀ t : Fin grid0.N, win0_5.flush t = true) t
  refine (congrArg ((dats m 0 c).arrAt 5 cfg0.N) (emb ht b).symm).trans ((congrFun ((blocks5 m c t hf).trans (flushed5 ..)) _).trans ((out5_apply ..).trans ?_))
  rw [block_0 m c ht, block_2 m c ht]

/-- What a point writes back to output window 6, at an element, and an element of the result. -/
theorem out6_apply (x0 x1 x2 x3 : Vec Ideal S6x1408 .f32) (p : Fin 6) (q : Fin 1408) :
    (out0_6 x0 x1 x2 x3 : Vec Ideal S6x1408 .f32) (ix2 p q) = AdamSpec.mom2 (x0 (ix2 p q)) (x3 (ix2 p q)) := by
  unfold out0_6
  rw [View.canon_unit_zero hz2]
  simp only [View.ld_unit_zero (S := S6x1408) hz2, k0_pay4, k0_pay3, k0_pay2, k0_pay1, shapeCast_self]
  rfl
theorem result6 (c : Dev nD) (a : Fin 6) (b : Fin 1408) :
    ((dats m 0 c).arrAt 6 cfg0.N : Vec Ideal S6x1408 .f32) (ix2 a b) = AdamSpec.mom2 (grad m c (ix2 a b)) (var m c (ix2 a b)) := by
  obtain ⟨t, ht⟩ := point a
  have hf : (cfg0.win 6).flush t = true := (by decide +kernel : ∀ t : Fin grid0.N, win0_6.flush t = true) t
  refine (congrArg ((dats m 0 c).arrAt 6 cfg0.N) (emb ht b).symm).trans ((congrFun ((blocks6 m c t hf).trans (flushed6 ..)) _).trans ((out6_apply ..).trans ?_))
  rw [block_0 m c ht, block_3 m c ht]

end

open Idealize.ShloMosaic Idealize.ShloMosaic.TcCoe Idealize.SL.Sem

/-- Kernel and reference end with equal results. -/
theorem algebraic : Cert.algebraic_Kernel25Ideal_Reference25Ideal := by
  intro m ρ m' ρ' _ hagree
  refine ⟨fun c => (Cert.Kernel25Ideal.Gen.dats m 0 c).arrAt 4 Cert.Kernel25Ideal.cfg0.N, fun c => (Cert.Kernel25Ideal.Gen.dats m 0 c).arrAt 5 Cert.Kernel25Ideal.cfg0.N,
    fun c => (Cert.Kernel25Ideal.Gen.dats m 0 c).arrAt 6 Cert.Kernel25Ideal.cfg0.N, Cert.Kernel25Ideal.Value.run_blocks (F := Ideal) m ρ, ?_⟩
  refine (θ_run _ _ _).mono (fun _ h c => ?_) (Cert.Reference25Ideal.Value.run m' ρ')
  obtain ⟨h0, h1, h2, h3⟩ := hagree c
  refine ⟨(h c).1.trans ?_, (h c).2.1.trans ?_, (h c).2.2.1.trans ?_, (h c).2.2.2⟩
  · rw [h0, h1, h2, h3]
    exact ext2 fun a b => (result4 m c a b).symm
  · rw [h0, h2]
    exact ext2 fun a b => (result5 m c a b).symm
  · rw [h0, h3]
    exact ext2 fun a b => (result6 m c a b).symm

/-- The frames of the three programs. -/
theorem frame_p : Cert.quiescent_Kernel25 := fun m ρ _ => Cert.Kernel25.Gen.frame m ρ
theorem frame_i : Cert.quiescent_Kernel25Ideal := fun m ρ _ => Cert.Kernel25Ideal.Gen.frame m ρ
theorem frame_r : Cert.quiescent_Reference25Ideal := fun m ρ _ =>
  (θ_run _ _ _).mono (fun r h => ⟨fun c => (h c).2.2.2, sem_eq_zero_of_no_sems (by decide) r.2⟩)
    (Cert.Reference25Ideal.Value.run m ρ)

end Cert.Adam25

end

end
-- ==== Proof.Adam26.lean ====
/- The AdamW update of one leaf whose rows are taken whole: the three results are pointwise in the gradient,
   the parameter and the two moments, operation for operation those of the reference. -/
module

public import proofs.«01_k».proof.Proof.Gen.Kernel26.Frame
public import proofs.«01_k».proof.Proof.Gen.Kernel26Ideal.Value
public import proofs.«01_k».proof.Proof.Gen.Reference26Ideal.Run
public import proofs.«01_k».proof.Proof.Base

@[expose] public section

set_option maxRecDepth 16384

noncomputable section

open Idealize.ShloMosaic Idealize.ShloMosaic.TcCoe Idealize.SL.Sem Cert

namespace Cert.Adam26

theorem frame_p : quiescent_Kernel26 := fun m ρ _ => Cert.Kernel26.Gen.frame m ρ

theorem frame_i : quiescent_Kernel26Ideal := fun m ρ _ => Cert.Kernel26Ideal.Gen.frame m ρ

theorem frame_r : quiescent_Reference26Ideal := fun m ρ _ =>
  (θ_run _ _ _).mono
    (fun r h => ⟨fun c => (h c).2.2.2, sem_eq_zero_of_no_sems (by decide) r.2⟩)
    (Cert.Reference26Ideal.Value.run m ρ)

theorem algebraic : algebraic_Kernel26Ideal_Reference26Ideal := by
  intro m ρ m' ρ' _ hagree
  refine ⟨_, _, _, Cert.Kernel26Ideal.Value.run m ρ, ?_⟩
  refine (θ_run _ _ _).mono (fun _ h c => ⟨?_, ?_, ?_, (h c).2.2.2⟩)
    (Cert.Reference26Ideal.Value.run m' ρ')
  · rw [(h c).1]
    simp only [hagree c]
    value_tie Cert.Kernel26Ideal
  · rw [(h c).2.1]
    simp only [hagree c]
    value_tie Cert.Kernel26Ideal
  · rw [(h c).2.2.1]
    simp only [hagree c]
    value_tie Cert.Kernel26Ideal

end Cert.Adam26

end

end
-- ==== Proof.Adam27.lean ====
/- The AdamW update of one leaf whose rows are laid out on the host before the call: each result element is
   the update of the same element of the gradient, the parameter and the two moments, and so is the reference's. -/
module

public import proofs.«01_k».proof.Proof.Gen.Kernel27.Frame
public import proofs.«01_k».proof.Proof.Gen.Kernel27Ideal.Value
public import proofs.«01_k».proof.Proof.Gen.Reference27Ideal.Run
public import proofs.«01_k».proof.Proof.AdamSpec

@[expose] public section

set_option maxRecDepth 16384

noncomputable section

namespace Cert.Adam27

section
open Cert.Kernel27Ideal Cert.Kernel27Ideal.Gen Cert.Kernel27Ideal.Value Idealize.ShloMosaic Idealize.ShloMosaic.TcCoe Idealize.SL.Sem

variable (m : (ℓ : Loc nD τ sig) → Buf (Elt Ideal) ℓ)

/-- The rows of an argument, and of the gradient, the parameter and the two moments. -/
abbrev rows (x : Vec Ideal S1024 .f32) : Vec Ideal S1x1024 .f32 := shapeCast S1x1024 x shapeCasts_S1024_S1x1024
abbrev grad (c : Dev nD) : Vec Ideal S1x1024 .f32 := rows (m ((c : Thread nD τ).loc main_arg0))
abbrev par (c : Dev nD) : Vec Ideal S1x1024 .f32 := rows (m ((c : Thread nD τ).loc main_arg1))
abbrev mom (c : Dev nD) : Vec Ideal S1x1024 .f32 := rows (m ((c : Thread nD τ).loc main_arg2))
abbrev var (c : Dev nD) : Vec Ideal S1x1024 .f32 := rows (m ((c : Thread nD τ).loc main_arg3))

/-- The rows that point `t` takes of each array: their index maps are the same. -/
theorem emb {t : Fin cfg0.N} {a : Fin 1} (ht : t.val = a.val / 1) (b : Fin 1024) :
    ((cfg0.win 0).blk t).view.emb (ix2 (⟨a.val % 1, by omega⟩ : Fin 1) b) = ix2 a b := by
  have hi := (by decide +kernel : ∀ t : Fin grid0.N, win0_0.index t 0 = t.val ∧ win0_0.index t 1 = 0) t
  refine funext fun d => Fin.ext ?_
  match d with
  | ⟨0, _⟩ => show win0_0.index t 0 * 1 + 1 * (a.val % 1) = a.val; rw [hi.1]; omega
  | ⟨1, _⟩ => show win0_0.index t 1 * 1024 + 1 * b.val = b.val; rw [hi.2]; omega

/-- The array of an input window is its argument, row by row, and so is a block at an element. -/
theorem entry_0 (c : Dev nD) : (V m c main_v0 : Vec Ideal S1x1024 .f32) = grad m c := by
  unfold_abbrev_sides
  after_results
  rfl
theorem entry_1 (c : Dev nD) : (V m c main_v1 : Vec Ideal S1x1024 .f32) = par m c := by
  unfold_abbrev_sides
  after_results
  rfl
theorem entry_2 (c : Dev nD) : (V m c main_v2 : Vec Ideal S1x1024 .f32) = mom m c := by
  unfold_abbrev_sides
  after_results
  rfl
theorem entry_3 (c : Dev nD) : (V m c main_v3 : Vec Ideal S1x1024 .f32) = var m c := by
  unfold_abbrev_sides
  after_results
  rfl

section
variable (c : Dev nD) {t : Fin cfg0.N} {a : Fin 1} (ht : t.val = a.val / 1) (b : Fin 1024)
include ht

theorem block_0 :
    (iblk m c 0 t : Vec Ideal S1x1024 .f32) (ix2 (⟨a.val % 1, by omega⟩ : Fin 1) b) = grad m c (ix2 a b) :=
  (congrArg (V m c main_v0) (emb ht b)).trans (congrFun (entry_0 m c) _)
theorem block_1 :
    (iblk m c 1 t : Vec Ideal S1x1024 .f32) (ix2 (⟨a.val % 1, by omega⟩ : Fin 1) b) = par m c (ix2 a b) :=
  (congrArg (V m c main_v1) (emb ht b)).trans (congrFun (entry_1 m c) _)
theorem block_2 :
    (iblk m c 2 t : Vec Ideal S1x1024 .f32) (ix2 (⟨a.val % 1, by omega⟩ : Fin 1) b) = mom m c (ix2 a b) :=
  (congrArg (V m c main_v2) (emb ht b)).trans (congrFun (entry_2 m c) _)
theorem block_3 :
    (iblk m c 3 t : Vec Ideal S1x1024 .f32) (ix2 (⟨a.val % 1, by omega⟩ : Fin 1) b) = var m c (ix2 a b) :=
  (congrArg (V m c main_v3) (emb ht b)).trans (congrFun (entry_3 m c) _)

end

/-- The point that writes a row. -/
theorem point (a : Fin 1) : ∃ t : Fin cfg0.N, t.val = a.val / 1 :=
  have hN : cfg0.N = 1 := N_0
  ⟨⟨a.val / 1, by omega⟩, rfl⟩

/-- What a point writes back to output window 4, at an element, and an element of the result. -/
theorem out4_apply (x0 x1 x2 x3 : Vec Ideal S1x1024 .f32) (p : Fin 1) (q : Fin 1024) :
    (out0_4 x0 x1 x2 x3 : Vec Ideal S1x1024 .f32) (ix2 p q) = AdamSpec.step (x0 (ix2 p q)) (x1 (ix2 p q)) (x2 (ix2 p q)) (x3 (ix2 p q)) := by
  unfold out0_4
  rw [View.canon_unit_zero hz2]
  simp only [View.ld_unit_zero (S := S1x1024) hz2, k0_pay4, k0_pay3, k0_pay2, k0_pay1, shapeCast_self]
  rfl
theorem result4 (c : Dev nD) (a : Fin 1) (b : Fin 1024) :
    ((dats m 0 c).arrAt 4 cfg0.N : Vec Ideal S1x1024 .f32) (ix2 a b) = AdamSpec.step (grad m c (ix2 a b)) (par m c (ix2 a b)) (mom m c (ix2 a b)) (var m c (ix2 a b)) := by
  obtain ⟨t, ht⟩ := point a
  have hf : (cfg0.win 4).flush t = true := (by decide +kernel : ∀ t : Fin grid0.N, win0_4.flush t = true) t
  refine (congrArg ((dats m 0 c).arrAt 4 cfg0.N) (emb ht b).symm).trans ((congrFun ((blocks4 m c t hf).trans (flushed4 ..)) _).trans ((out4_apply ..).trans ?_))
  rw [block_0 m c ht, block_1 m c ht, block_2 m c ht, block_3 m c ht]

/-- What a point writes back to output window 5, at an element, and an element of the result. -/
theorem out5_apply (x0 x1 x2 x3 : Vec Ideal S1x1024 .f32) (p : Fin 1) (q : Fin 1024) :
    (out0_5 x0 x1 x2 x3 : Vec Ideal S1x1024 .f32) (ix2 p q) = AdamSpec.mom1 (x0 (ix2 p q)) (x2 (ix2 p q)) := by
  unfold out0_5
  rw [View.canon_unit_zero hz2]
  simp only [View.ld_unit_zero (S := S1x1024) hz2, k0_pay4, k0_pay3, k0_pay2, k0_pay1, shapeCast_self]
  rfl
theorem result5 (c : Dev nD) (a : Fin 1) (b : Fin 1024) :
    ((dats m 0 c).arrAt 5 cfg0.N : Vec Ideal S1x1024 .f32) (ix2 a b) = AdamSpec.mom1 (grad m c (ix2 a b)) (mom m c (ix2 a b)) := by
  obtain ⟨t, ht⟩ := point a
  have hf : (cfg0.win 5).flush t = true := (by decide +kernel : ∀ t : Fin grid0.N, win0_5.flush t = true) t
  refine (congrArg ((dats m 0 c).arrAt 5 cfg0.N) (emb ht b).symm).trans ((congrFun ((blocks5 m c t hf).trans (flushed5 ..)) _).trans ((out5_apply ..).trans ?_))
  rw [block_0 m c ht, block_2 m c ht]

/-- What a point writes back to output window 6, at an element, and an element of the result. -/
theorem out6_apply (x0 x1 x2 x3 : Vec Ideal S1x1024 .f32) (p : Fin 1) (q : Fin 1024) :
    (out0_6 x0 x1 x2 x3 : Vec Ideal S1x1024 .f32) (ix2 p q) = AdamSpec.mom2 (x0 (ix2 p q)) (x3 (ix2 p q)) := by
  unfold out0_6
  rw [View.canon_unit_zero hz2]
  simp only [View.ld_unit_zero (S := S1x1024) hz2, k0_pay4, k0_pay3, k0_pay2, k0_pay1, shapeCast_self]
  rfl
theorem result6 (c : Dev nD) (a : Fin 1) (b : Fin 1024) :
    ((dats m 0 c).arrAt 6 cfg0.N : Vec Ideal S1x1024 .f32) (ix2 a b) = AdamSpec.mom2 (grad m c (ix2 a b)) (var m c (ix2 a b)) := by
  obtain ⟨t, ht⟩ := point a
  have hf : (cfg0.win 6).flush t = true := (by decide +kernel : ∀ t : Fin grid0.N, win0_6.flush t = true) t
  refine (congrArg ((dats m 0 c).arrAt 6 cfg0.N) (emb ht b).symm).trans ((congrFun ((blocks6 m c t hf).trans (flushed6 ..)) _).trans ((out6_apply ..).trans ?_))
  rw [block_0 m c ht, block_3 m c ht]

end

open Idealize.ShloMosaic Idealize.ShloMosaic.TcCoe Idealize.SL.Sem

/-- Kernel and reference end with equal results. -/
theorem algebraic : Cert.algebraic_Kernel27Ideal_Reference27Ideal := by
  intro m ρ m' ρ' _ hagree
  refine ⟨fun c => (Cert.Kernel27Ideal.Gen.dats m 0 c).arrAt 4 Cert.Kernel27Ideal.cfg0.N, fun c => (Cert.Kernel27Ideal.Gen.dats m 0 c).arrAt 5 Cert.Kernel27Ideal.cfg0.N,
    fun c => (Cert.Kernel27Ideal.Gen.dats m 0 c).arrAt 6 Cert.Kernel27Ideal.cfg0.N, Cert.Kernel27Ideal.Value.run_blocks (F := Ideal) m ρ, ?_⟩
  refine (θ_run _ _ _).mono (fun _ h c => ?_) (Cert.Reference27Ideal.Value.run m' ρ')
  obtain ⟨h0, h1, h2, h3⟩ := hagree c
  refine ⟨(h c).1.trans ?_, (h c).2.1.trans ?_, (h c).2.2.1.trans ?_, (h c).2.2.2⟩
  · rw [h0, h1, h2, h3]
    exact ext2 fun a b => (result4 m c a b).symm
  · rw [h0, h2]
    exact ext2 fun a b => (result5 m c a b).symm
  · rw [h0, h3]
    exact ext2 fun a b => (result6 m c a b).symm

/-- The frames of the three programs. -/
theorem frame_p : Cert.quiescent_Kernel27 := fun m ρ _ => Cert.Kernel27.Gen.frame m ρ
theorem frame_i : Cert.quiescent_Kernel27Ideal := fun m ρ _ => Cert.Kernel27Ideal.Gen.frame m ρ
theorem frame_r : Cert.quiescent_Reference27Ideal := fun m ρ _ =>
  (θ_run _ _ _).mono (fun r h => ⟨fun c => (h c).2.2.2, sem_eq_zero_of_no_sems (by decide) r.2⟩)
    (Cert.Reference27Ideal.Value.run m ρ)

end Cert.Adam27

end

end
-- ==== Proof.Adam28.lean ====
/- The AdamW update of a leaf of which each core holds the gradient of half the rows: the whole gradient is one
   core's half above the other's, and each result element is the update of the same element of it, of the
   parameter and of the two moments; so is the reference's. -/
module

public import proofs.«01_k».proof.Proof.Gen.Kernel28.Frame
public import proofs.«01_k».proof.Proof.Gen.Kernel28Ideal.Frame
public import proofs.«01_k».proof.Proof.Gen.Reference28Ideal.Run
public import proofs.«01_k».proof.Proof.AdamSpec

@[expose] public section

set_option maxRecDepth 16384

noncomputable section

namespace Cert.Adam28

section
open Cert.Reference28Ideal Cert.Reference28Ideal.Gen Cert.Reference28Ideal.Value Idealize.ShloMosaic Idealize.ShloMosaic.TcCoe Idealize.SL.Sem

/-- A row's place in its half and in its block. -/
abbrev inHalf (a : Fin 1024) : Fin 512 := ⟨a.val % 512, by omega⟩
abbrev inBlock (a : Fin 1024) : Fin 256 := ⟨a.val % 256, by omega⟩

/-- The whole gradient at an element: this core's half where the row is in this core's half, else the other's. -/
def whole (x0 x1 : Vec Ideal S2x512x768 .f32) (x2 : Vec Ideal S1 .i32) (l : Fin 2) (a : Fin 1024) (b : Fin 768) : Ideal .f32 :=
  if BitVec.ofNat 32 (a.val / 512) = x2 (ix1 (0 : Fin 1)) then x0 (ix3 l (inHalf a) b) else x1 (ix3 l (inHalf a) b)

/-- The reference's gradient. -/
def grad (x0 x1 : Vec Ideal S2x512x768 .f32) (x2 : Vec Ideal S1 .i32) : Vec Ideal S2x1024x768 .f32 :=
  concatenate S2x1024x768 1 [⟨S2x512x768, (select (broadcastInDim S2x512x768 ![] bcast_S_S2x512x768 (cmpi .eq (shapeCast _ x2 shapeCasts_S1_S_) (constantI S_ 32 0#32))) x0 x1)⟩, ⟨S2x512x768, (select (broadcastInDim S2x512x768 ![] bcast_S_S2x512x768 (cmpi .eq (shapeCast _ x2 shapeCasts_S1_S_) (constantI S_ 32 1#32))) x0 x1)⟩] concatenates_S2x512x768_S2x512x768_S2x1024x768_d1

/-- It is the whole gradient. -/
theorem grad_apply (x0 x1 : Vec Ideal S2x512x768 .f32) (x2 : Vec Ideal S1 .i32) (l : Fin 2) (a : Fin 1024) (b : Fin 768) :
    grad x0 x1 x2 (ix3 l a b) = whole x0 x1 x2 l a b := by
  unfold grad whole
  pointwise []
  by_cases h : a.val < 512
  · have h0 : a.val / 512 = 0 := by omega
    have h1 : (⟨a.val, h⟩ : Fin 512) = inHalf a := Fin.ext (show a.val = a.val % 512 by omega)
    rw [dif_pos h, h0, h1]
    by_cases e : BitVec.ofNat 32 0 = x2 (ix1 (0 : Fin 1))
    · rw [if_pos e]; exact if_pos (IntOp.cmpi_eq.mpr e.symm)
    · rw [if_neg e]; exact if_neg fun g => e (IntOp.cmpi_eq.mp g).symm
  · have h0 : a.val / 512 = 1 := by omega
    have h1 : (⟨a.val - 512, by omega⟩ : Fin 512) = inHalf a := Fin.ext (show a.val - 512 = a.val % 512 by omega)
    rw [dif_neg h, h0, h1]
    by_cases e : BitVec.ofNat 32 1 = x2 (ix1 (0 : Fin 1))
    · rw [if_pos e]; exact if_pos (IntOp.cmpi_eq.mpr e.symm)
    · rw [if_neg e]; exact if_neg fun g => e (IntOp.cmpi_eq.mp g).symm

end

section
open Cert.Kernel28Ideal Cert.Kernel28Ideal.Gen Idealize.ShloMosaic Idealize.ShloMosaic.TcCoe Idealize.SL.Sem

section
variable {F : FTy → Type} [FloatOps F]

/-- The core's number, as the kernel reads it off its table. -/
abbrev word (c : Dev nD) (xt0 : TbBuf0 (F := F) c tbM0_0) : Elt F .i32 := kernelRun0_A.sl.r c xt0

variable (c : Dev nD) (i : grid0.Coords) (arg4 : Memref sig .tc .vmem S1x256x768 .f32) (harg4 : arg4.IsWhole) (arg5 : Memref sig .tc .vmem S1x256x768 .f32) (harg5 : arg5.IsWhole) (arg6 : Memref sig .tc .vmem S1x256x768 .f32) (harg6 : arg6.IsWhole) (arg7 : Memref sig .tc .vmem S1x256x768 .f32) (harg7 : arg7.IsWhole) (arg8 : Memref sig .tc .vmem S1x256x768 .f32) (harg8 : arg8.IsWhole) (arg9 : Memref sig .tc .vmem S1x256x768 .f32) (harg9 : arg9.IsWhole) (arg10 : Memref sig .tc .vmem S1x256x768 .f32) (harg10 : arg10.IsWhole) (arg11 : Memref sig .tc .vmem S1x256x768 .f32) (harg11 : arg11.IsWhole) (arg12 : Memref sig .tc .vmem S1x256x768 .f32) (harg12 : arg12.IsWhole)
  (x0 x1 x2 x3 x4 : Vec F S1x256x768 .f32) (xt0 : TbBuf0 (F := F) c tbM0_0)

/-- What the body leaves in output window 5. -/
theorem out_5 : out0_A_5 c i arg4 harg4 arg5 harg5 arg6 harg6 arg7 harg7 arg8 harg8 arg9 harg9 arg10 harg10 arg11 harg11 arg12 harg12 x0 x1 x2 x3 x4 xt0 = k0_pay5 i (word c xt0) x0 x1 := by
  unfold out0_A_5
  rw [View.read_writes_eq_canon _ _ _ (fun _ => cover0_A_5 ..)]
  unfold kernelRun0_A
  dsimp only
  rw [View.canon_unit_zero hz3]
  simp only [View.readAt_eq_ld, harg4.read_unread, harg5.read_unread, harg6.read_unread, harg7.read_unread, harg8.read_unread, View.ld_unit_zero (S := S1x256x768) hz3]

/-- What the body leaves in output window 6. -/
theorem out_6 : out0_A_6 c i arg4 harg4 arg5 harg5 arg6 harg6 arg7 harg7 arg8 harg8 arg9 harg9 arg10 harg10 arg11 harg11 arg12 harg12 x0 x1 x2 x3 x4 xt0 = k0_pay1 (k0_pay6 x2) (k0_pay9 i (word c xt0) x0 x1 x3) (k0_pay10 i (word c xt0) x0 x1 x4) := by
  unfold out0_A_6
  rw [View.read_writes_eq_canon _ _ _ (fun _ => cover0_A_6 ..)]
  unfold kernelRun0_A
  dsimp only
  rw [View.canon_unit_zero hz3]
  unfold kernelRun0_A.sl.r_1 kernelRun0_A.sl.r_4 kernelRun0_A.sl.r_5
  simp only [View.readAt_eq_ld, harg4.read_unread, harg5.read_unread, harg6.read_unread, harg7.read_unread, harg8.read_unread, View.ld_unit_zero (S := S1x256x768) hz3]

/-- What the body leaves in output window 7. -/
theorem out_7 : out0_A_7 c i arg4 harg4 arg5 harg5 arg6 harg6 arg7 harg7 arg8 harg8 arg9 harg9 arg10 harg10 arg11 harg11 arg12 harg12 x0 x1 x2 x3 x4 xt0 = k0_pay2 (k0_pay7 i (word c xt0) x0 x1 x3) := by
  unfold out0_A_7
  rw [View.read_writes_eq_canon _ _ _ (fun _ => cover0_A_7 ..)]
  unfold kernelRun0_A
  dsimp only
  rw [View.canon_unit_zero hz3]
  unfold kernelRun0_A.sl.r_2
  simp only [View.readAt_eq_ld, harg4.read_unread, harg5.read_unread, harg6.read_unread, harg7.read_unread, harg8.read_unread, View.ld_unit_zero (S := S1x256x768) hz3]

/-- What the body leaves in output window 8. -/
theorem out_8 : out0_A_8 c i arg4 harg4 arg5 harg5 arg6 harg6 arg7 harg7 arg8 harg8 arg9 harg9 arg10 harg10 arg11 harg11 arg12 harg12 x0 x1 x2 x3 x4 xt0 = k0_pay3 (k0_pay8 i (word c xt0) x0 x1 x4) := by
  unfold out0_A_8
  rw [View.read_writes_eq_canon _ _ _ (fun _ => cover0_A_8 ..)]
  unfold kernelRun0_A
  dsimp only
  rw [View.canon_unit_zero hz3]
  unfold kernelRun0_A.sl.r_3
  simp only [View.readAt_eq_ld, harg4.read_unread, harg5.read_unread, harg6.read_unread, harg7.read_unread, harg8.read_unread, View.ld_unit_zero (S := S1x256x768) hz3]

end

attribute [local irreducible] k0_pay1 k0_pay2 k0_pay3 k0_pay5 out0_A_5 out0_A_6 out0_A_7 out0_A_8 Pipeline.Dat.arrAt

variable (m : (ℓ : Loc nD τ sig) → Buf (Elt Ideal) ℓ)

/-- The tables are as the call needs them: no index map reads one. -/
theorem ok : Ok m := trivial

/-- The pipeline, its data on a core, and the blocks its input windows take. -/
abbrev cf : Pipeline.Cfg sig Λ₀ := cfgM m (ok m)
abbrev dat (c : Dev nD) := dats m (ok m) 0 c

/-- The arguments: the two halves of the gradient, the core's number, the parameter and the two moments. -/
abbrev mine (c : Dev nD) : Vec Ideal S2x512x768 .f32 := m ((c : Thread nD τ).loc main_arg0)
abbrev theirs (c : Dev nD) : Vec Ideal S2x512x768 .f32 := m ((c : Thread nD τ).loc main_arg1)
abbrev number (c : Dev nD) : Vec Ideal S1 .i32 := m ((c : Thread nD τ).loc main_arg2)
abbrev par (c : Dev nD) : Vec Ideal S2x1024x768 .f32 := m ((c : Thread nD τ).loc main_arg3)
abbrev mom (c : Dev nD) : Vec Ideal S2x1024x768 .f32 := m ((c : Thread nD τ).loc main_arg4)
abbrev var (c : Dev nD) : Vec Ideal S2x1024x768 .f32 := m ((c : Thread nD τ).loc main_arg5)

/-- The gradient block a point takes, at an element. -/
theorem pay4_apply (i : grid0.Coords) (n : BitVec 32) (x0 x1 : Vec Ideal S1x256x768 .f32) (p : Fin 256) (q : Fin 768) :
    k0_pay4 i n x0 x1 (ix2 p q) = if BitVec.ofNat 32 (i 1).val = n then x0 (ix3 (0 : Fin 1) p q) else x1 (ix3 (0 : Fin 1) p q) := by
  pointwise [k0_pay4]
  by_cases h : BitVec.ofNat 32 (i 1).val = n
  · rw [if_pos h]; exact if_pos (IntOp.cmpi_eq.mpr h)
  · rw [if_neg h]; exact if_neg fun e => h (IntOp.cmpi_eq.mp e)

section
variable (i : grid0.Coords) (n : BitVec 32) (x0 x1 x2 x3 x4 : Vec Ideal S1x256x768 .f32) (p : Fin 256) (q : Fin 768)

/-- What a point writes to each output window, at an element. -/
theorem pay5_apply : k0_pay5 i n x0 x1 (ix3 (0 : Fin 1) p q) =  k0_pay4 i n x0 x1 (ix2 p q)  := by
  pointwise [k0_pay5, k0_pay1, k0_pay2, k0_pay3, k0_pay6, k0_pay7, k0_pay8, k0_pay9, k0_pay10]

theorem pay6_apply : k0_pay1 (k0_pay6 x2) (k0_pay9 i n x0 x1 x3) (k0_pay10 i n x0 x1 x4) (ix3 (0 : Fin 1) p q) = AdamSpec.step (k0_pay4 i n x0 x1 (ix2 p q)) (x2 (ix3 (0 : Fin 1) p q)) (x3 (ix3 (0 : Fin 1) p q)) (x4 (ix3 (0 : Fin 1) p q)) := by
  pointwise [k0_pay5, k0_pay1, k0_pay2, k0_pay3, k0_pay6, k0_pay7, k0_pay8, k0_pay9, k0_pay10]
  rfl

theorem pay7_apply : k0_pay2 (k0_pay7 i n x0 x1 x3) (ix3 (0 : Fin 1) p q) = AdamSpec.mom1 (k0_pay4 i n x0 x1 (ix2 p q)) (x3 (ix3 (0 : Fin 1) p q)) := by
  pointwise [k0_pay5, k0_pay1, k0_pay2, k0_pay3, k0_pay6, k0_pay7, k0_pay8, k0_pay9, k0_pay10]
  rfl

theorem pay8_apply : k0_pay3 (k0_pay8 i n x0 x1 x4) (ix3 (0 : Fin 1) p q) = AdamSpec.mom2 (k0_pay4 i n x0 x1 (ix2 p q)) (x4 (ix3 (0 : Fin 1) p q)) := by
  pointwise [k0_pay5, k0_pay1, k0_pay2, k0_pay3, k0_pay6, k0_pay7, k0_pay8, k0_pay9, k0_pay10]
  rfl

end

/-- The point that writes a row. -/
theorem point_of (l : Fin 2) (a : Fin 1024) : ∃ t : Fin (cf m).N, t.val = (l.val * 2 + a.val / 512) * 2 + a.val % 512 / 256 ∧ (grid0.coords t 1).val = a.val / 512 := by
  have hN : (cf m).N = 8 := N_0
  refine ⟨⟨(l.val * 2 + a.val / 512) * 2 + a.val % 512 / 256, by omega⟩, rfl, ?_⟩
  exact ((by decide +kernel : ∀ t : Fin grid0.N, (grid0.coords t 1).val = t.val / 2 % 2) _).trans (by show ((l.val * 2 + a.val / 512) * 2 + a.val % 512 / 256) / 2 % 2 = a.val / 512; omega)

section
variable {t : Fin (cf m).N} {l : Fin 2} {a : Fin 1024} {b : Fin 768} (ht : t.val = (l.val * 2 + a.val / 512) * 2 + a.val % 512 / 256)
include ht

/-- A point's block of a half of the gradient. -/
theorem emb_half : (((cf m).win 0).blk t).view.emb (ix3 (0 : Fin 1) (inBlock a) b) = ix3 l (inHalf a) b := by
  have hi := (by decide +kernel : ∀ t : Fin grid0.N, cc0_transform_0 (grid0.coords t) 0 = t.val / 4 ∧ cc0_transform_0 (grid0.coords t) 1 = t.val % 2 ∧ cc0_transform_0 (grid0.coords t) 2 = 0) t
  refine funext fun d => Fin.ext ?_
  match d with
  | ⟨0, _⟩ => show cc0_transform_0 (grid0.coords t) 0 * 1 + 1 * 0 = l.val; rw [hi.1]; omega
  | ⟨1, _⟩ => show cc0_transform_0 (grid0.coords t) 1 * 256 + 1 * (a.val % 256) = a.val % 512; rw [hi.2.1]; omega
  | ⟨2, _⟩ => show cc0_transform_0 (grid0.coords t) 2 * 768 + 1 * b.val = b.val; rw [hi.2.2]; omega

/-- A point's block of any other array: their index maps are the same. -/
theorem emb_whole : (((cf m).win 2).blk t).view.emb (ix3 (0 : Fin 1) (inBlock a) b) = ix3 l a b := by
  have hi := (by decide +kernel : ∀ t : Fin grid0.N, cc0_transform_2 (grid0.coords t) 0 = t.val / 4 ∧ cc0_transform_2 (grid0.coords t) 1 = t.val / 2 % 2 * 2 + t.val % 2 ∧ cc0_transform_2 (grid0.coords t) 2 = 0) t
  refine funext fun d => Fin.ext ?_
  match d with
  | ⟨0, _⟩ => show cc0_transform_2 (grid0.coords t) 0 * 1 + 1 * 0 = l.val; rw [hi.1]; omega
  | ⟨1, _⟩ => show cc0_transform_2 (grid0.coords t) 1 * 256 + 1 * (a.val % 256) = a.val; rw [hi.2.1]; omega
  | ⟨2, _⟩ => show cc0_transform_2 (grid0.coords t) 2 * 768 + 1 * b.val = b.val; rw [hi.2.2]; omega

variable (c : Dev nD)

/-- The input blocks, at an element. -/
theorem block_0 : (iblk m (ok m) c 0 t : Vec Ideal S1x256x768 .f32) (ix3 (0 : Fin 1) (inBlock a) b) = mine m c (ix3 l (inHalf a) b) :=
  congrArg (mine m c) (emb_half m ht)
theorem block_1 : (iblk m (ok m) c 1 t : Vec Ideal S1x256x768 .f32) (ix3 (0 : Fin 1) (inBlock a) b) = theirs m c (ix3 l (inHalf a) b) :=
  congrArg (theirs m c) (emb_half m ht)
theorem block_2 : (iblk m (ok m) c 2 t : Vec Ideal S1x256x768 .f32) (ix3 (0 : Fin 1) (inBlock a) b) = par m c (ix3 l a b) :=
  congrArg (par m c) (emb_whole m ht)
theorem block_3 : (iblk m (ok m) c 3 t : Vec Ideal S1x256x768 .f32) (ix3 (0 : Fin 1) (inBlock a) b) = mom m c (ix3 l a b) :=
  congrArg (mom m c) (emb_whole m ht)
theorem block_4 : (iblk m (ok m) c 4 t : Vec Ideal S1x256x768 .f32) (ix3 (0 : Fin 1) (inBlock a) b) = var m c (ix3 l a b) :=
  congrArg (var m c) (emb_whole m ht)

end

/-- Two points' blocks of an output window share no element. -/
theorem disj (t t' : Fin (cf m).N) (hne : t ≠ t') : Disjoint (((cf m).win 5).blk t).view.set (((cf m).win 5).blk t').view.set :=
  ((cf m).win 5).disjoint_blk fun h => hne
    ((by decide +kernel : ∀ t t' : Fin grid0.N, cc0_transform_5 (grid0.coords t) = cc0_transform_5 (grid0.coords t') → t = t') t t' h)

/-- The read of the table, of any contents. -/
theorem word_at (xt : TbBuf0 (F := Ideal) (0 : Dev nD) tbM0_0) : word (0 : Dev nD) xt = (xt : Vec Ideal S1 .i32) (ix1 (0 : Fin 1)) := by
  unfold word kernelRun0_A.sl.r
  rw [View.readAt_eq_ld, View.ld_unit_zero (S := S1) hz1, View.read_apply]
  refine congrArg (xt : Vec Ideal S1 .i32) ?_
  funext a
  match a with
  | ⟨0, _⟩ => exact Subsingleton.elim (α := Fin 1) _ _

/-- Its number is the one the pipeline's table holds. -/
theorem word_eq (c : Dev nD) : word c (tbl m 0) = number m c (ix1 (0 : Fin 1)) := by
  obtain rfl : c = 0 := Subsingleton.elim _ _
  exact word_at (tbl m 0)

/-- The gradient block a point takes. -/
theorem taken (c : Dev nD) {t : Fin (cf m).N} {l : Fin 2} {a : Fin 1024} {b : Fin 768} (ht : t.val = (l.val * 2 + a.val / 512) * 2 + a.val % 512 / 256) (hc : (grid0.coords t 1).val = a.val / 512) :
    k0_pay4 (grid0.coords t) (word c (tbl m 0)) (iblk m (ok m) c 0 t) (iblk m (ok m) c 1 t) (ix2 (inBlock a) b) = grad (mine m c) (theirs m c) (number m c) (ix3 l a b) := by
  rw [grad_apply, pay4_apply (grid0.coords t) (word c (tbl m 0)) (iblk m (ok m) c 0 t) (iblk m (ok m) c 1 t), word_eq m c, hc, block_0 m ht c, block_1 m ht c]
  rfl

/-- An element of result 5. -/
theorem result5 (c : Dev nD) (l : Fin 2) (a : Fin 1024) (b : Fin 768) :
    ((dat m c).arrAt 5 (cf m).N : Vec Ideal S2x1024x768 .f32) (ix3 l a b) = grad (mine m c) (theirs m c) (number m c) (ix3 l a b) := by
  obtain ⟨t, ht, hc⟩ := point_of m l a
  refine (congrArg ((dat m c).arrAt 5 (cf m).N) (emb_whole m ht).symm).trans (((dat m c).arrAt_emb_eq_flushed 5 (fun t t' _ _ h => disj m t t' h) t (flush0_5 (adm m (ok m)) t) _).trans
    ((congrFun ((after0_5 ..).trans (out_5 ..)) _).trans ((pay5_apply ..).trans ?_)))
  rw [taken m c ht hc]

/-- An element of result 6. -/
theorem result6 (c : Dev nD) (l : Fin 2) (a : Fin 1024) (b : Fin 768) :
    ((dat m c).arrAt 6 (cf m).N : Vec Ideal S2x1024x768 .f32) (ix3 l a b) = AdamSpec.step (grad (mine m c) (theirs m c) (number m c) (ix3 l a b)) (par m c (ix3 l a b)) (mom m c (ix3 l a b)) (var m c (ix3 l a b)) := by
  obtain ⟨t, ht, hc⟩ := point_of m l a
  refine (congrArg ((dat m c).arrAt 6 (cf m).N) (emb_whole m ht).symm).trans (((dat m c).arrAt_emb_eq_flushed 6 (fun t t' _ _ h => disj m t t' h) t (flush0_6 (adm m (ok m)) t) _).trans
    ((congrFun ((after0_6 ..).trans (out_6 ..)) _).trans ((pay6_apply ..).trans ?_)))
  rw [taken m c ht hc, block_2 m ht c, block_3 m ht c, block_4 m ht c]

/-- An element of result 7. -/
theorem result7 (c : Dev nD) (l : Fin 2) (a : Fin 1024) (b : Fin 768) :
    ((dat m c).arrAt 7 (cf m).N : Vec Ideal S2x1024x768 .f32) (ix3 l a b) = AdamSpec.mom1 (grad (mine m c) (theirs m c) (number m c) (ix3 l a b)) (mom m c (ix3 l a b)) := by
  obtain ⟨t, ht, hc⟩ := point_of m l a
  refine (congrArg ((dat m c).arrAt 7 (cf m).N) (emb_whole m ht).symm).trans (((dat m c).arrAt_emb_eq_flushed 7 (fun t t' _ _ h => disj m t t' h) t (flush0_7 (adm m (ok m)) t) _).trans
    ((congrFun ((after0_7 ..).trans (out_7 ..)) _).trans ((pay7_apply ..).trans ?_)))
  rw [taken m c ht hc, block_3 m ht c]

/-- An element of result 8. -/
theorem result8 (c : Dev nD) (l : Fin 2) (a : Fin 1024) (b : Fin 768) :
    ((dat m c).arrAt 8 (cf m).N : Vec Ideal S2x1024x768 .f32) (ix3 l a b) = AdamSpec.mom2 (grad (mine m c) (theirs m c) (number m c) (ix3 l a b)) (var m c (ix3 l a b)) := by
  obtain ⟨t, ht, hc⟩ := point_of m l a
  refine (congrArg ((dat m c).arrAt 8 (cf m).N) (emb_whole m ht).symm).trans (((dat m c).arrAt_emb_eq_flushed 8 (fun t t' _ _ h => disj m t t' h) t (flush0_8 (adm m (ok m)) t) _).trans
    ((congrFun ((after0_8 ..).trans (out_8 ..)) _).trans ((pay8_apply ..).trans ?_)))
  rw [taken m c ht hc, block_4 m ht c]

end

open Idealize.ShloMosaic Idealize.ShloMosaic.TcCoe Idealize.SL.Sem

/-- Kernel and reference end with equal results. -/
theorem algebraic : Cert.algebraic_Kernel28Ideal_Reference28Ideal := by
  intro m ρ m' ρ' _ hagree
  refine ⟨fun c => (dat m c).arrAt 5 (cf m).N, fun c => (dat m c).arrAt 6 (cf m).N, fun c => (dat m c).arrAt 7 (cf m).N,
    fun c => (dat m c).arrAt 8 (cf m).N, (θ_run Cert.Kernel28Ideal.defs _ _).mono (fun r h c => ⟨(h.1 c).1 5, (h.1 c).1 6, (h.1 c).1 7, (h.1 c).1 8, h.2 c⟩)
      (θ_run_and (Cert.Kernel28Ideal.Gen.run_main m ρ (ok m)) (Cert.Kernel28Ideal.Gen.unchanged m ρ (ok m))), ?_⟩
  refine (θ_run _ _ _).mono (fun _ h c => ?_) (Cert.Reference28Ideal.Value.run m' ρ')
  obtain ⟨h0, h1, h2, h3, h4, h5⟩ := hagree c
  refine ⟨(h c).1.trans ?_, (h c).2.1.trans ?_, (h c).2.2.1.trans ?_, (h c).2.2.2.1.trans ?_, (h c).2.2.2.2⟩
  · rw [h0, h1, h2]
    exact ext3 fun l a b => (result5 m c l a b).symm
  · rw [h0, h1, h2, h3, h4, h5]
    exact ext3 fun l a b => (result6 m c l a b).symm
  · rw [h0, h1, h2, h4]
    exact ext3 fun l a b => (result7 m c l a b).symm
  · rw [h0, h1, h2, h5]
    exact ext3 fun l a b => (result8 m c l a b).symm

/-- The frames of the three programs. -/
theorem frame_p : Cert.quiescent_Kernel28 := fun m ρ _ => Cert.Kernel28.Gen.frame m ρ trivial
theorem frame_i : Cert.quiescent_Kernel28Ideal := fun m ρ _ => Cert.Kernel28Ideal.Gen.frame m ρ trivial
theorem frame_r : Cert.quiescent_Reference28Ideal := fun m ρ _ =>
  (θ_run _ _ _).mono (fun r h => ⟨fun c => (h c).2.2.2.2, sem_eq_zero_of_no_sems (by decide) r.2⟩)
    (Cert.Reference28Ideal.Value.run m ρ)

end Cert.Adam28

end

end
-- ==== Proof.Adam29.lean ====
/- The AdamW update of a leaf of which each core holds the gradient of half the rows: the whole gradient is one
   core's half above the other's, and each result element is the update of the same element of it, of the
   parameter and of the two moments; so is the reference's. -/
module

public import proofs.«01_k».proof.Proof.Gen.Kernel29.Frame
public import proofs.«01_k».proof.Proof.Gen.Kernel29Ideal.Frame
public import proofs.«01_k».proof.Proof.Gen.Reference29Ideal.Run
public import proofs.«01_k».proof.Proof.AdamSpec

@[expose] public section

set_option maxRecDepth 16384

noncomputable section

namespace Cert.Adam29

section
open Cert.Reference29Ideal Cert.Reference29Ideal.Gen Cert.Reference29Ideal.Value Idealize.ShloMosaic Idealize.ShloMosaic.TcCoe Idealize.SL.Sem

/-- A row's place in its half and in its block. -/
abbrev inHalf (a : Fin 256) : Fin 128 := ⟨a.val % 128, by omega⟩
abbrev inBlock (a : Fin 256) : Fin 128 := ⟨a.val % 128, by omega⟩

/-- The whole gradient at an element: this core's half where the row is in this core's half, else the other's. -/
def whole (x0 x1 : Vec Ideal S2x128x1024 .f32) (x2 : Vec Ideal S1 .i32) (l : Fin 2) (a : Fin 256) (b : Fin 1024) : Ideal .f32 :=
  if BitVec.ofNat 32 (a.val / 128) = x2 (ix1 (0 : Fin 1)) then x0 (ix3 l (inHalf a) b) else x1 (ix3 l (inHalf a) b)

/-- The reference's gradient. -/
def grad (x0 x1 : Vec Ideal S2x128x1024 .f32) (x2 : Vec Ideal S1 .i32) : Vec Ideal S2x256x1024 .f32 :=
  concatenate S2x256x1024 1 [⟨S2x128x1024, (select (broadcastInDim S2x128x1024 ![] bcast_S_S2x128x1024 (cmpi .eq (shapeCast _ x2 shapeCasts_S1_S_) (constantI S_ 32 0#32))) x0 x1)⟩, ⟨S2x128x1024, (select (broadcastInDim S2x128x1024 ![] bcast_S_S2x128x1024 (cmpi .eq (shapeCast _ x2 shapeCasts_S1_S_) (constantI S_ 32 1#32))) x0 x1)⟩] concatenates_S2x128x1024_S2x128x1024_S2x256x1024_d1

/-- It is the whole gradient. -/
theorem grad_apply (x0 x1 : Vec Ideal S2x128x1024 .f32) (x2 : Vec Ideal S1 .i32) (l : Fin 2) (a : Fin 256) (b : Fin 1024) :
    grad x0 x1 x2 (ix3 l a b) = whole x0 x1 x2 l a b := by
  unfold grad whole
  pointwise []
  by_cases h : a.val < 128
  · have h0 : a.val / 128 = 0 := by omega
    have h1 : (⟨a.val, h⟩ : Fin 128) = inHalf a := Fin.ext (show a.val = a.val % 128 by omega)
    rw [dif_pos h, h0, h1]
    by_cases e : BitVec.ofNat 32 0 = x2 (ix1 (0 : Fin 1))
    · rw [if_pos e]; exact if_pos (IntOp.cmpi_eq.mpr e.symm)
    · rw [if_neg e]; exact if_neg fun g => e (IntOp.cmpi_eq.mp g).symm
  · have h0 : a.val / 128 = 1 := by omega
    have h1 : (⟨a.val - 128, by omega⟩ : Fin 128) = inHalf a := Fin.ext (show a.val - 128 = a.val % 128 by omega)
    rw [dif_neg h, h0, h1]
    by_cases e : BitVec.ofNat 32 1 = x2 (ix1 (0 : Fin 1))
    · rw [if_pos e]; exact if_pos (IntOp.cmpi_eq.mpr e.symm)
    · rw [if_neg e]; exact if_neg fun g => e (IntOp.cmpi_eq.mp g).symm

end

section
open Cert.Kernel29Ideal Cert.Kernel29Ideal.Gen Idealize.ShloMosaic Idealize.ShloMosaic.TcCoe Idealize.SL.Sem

section
variable {F : FTy → Type} [FloatOps F]

/-- The core's number, as the kernel reads it off its table. -/
abbrev word (c : Dev nD) (xt0 : TbBuf0 (F := F) c tbM0_0) : Elt F .i32 := kernelRun0_A.sl.r c xt0

variable (c : Dev nD) (i : grid0.Coords) (arg4 : Memref sig .tc .vmem S1x128x1024 .f32) (harg4 : arg4.IsWhole) (arg5 : Memref sig .tc .vmem S1x128x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x128x1024 .f32) (harg9 : arg9.IsWhole) (arg10 : Memref sig .tc .vmem S1x128x1024 .f32) (harg10 : arg10.IsWhole) (arg11 : Memref sig .tc .vmem S1x128x1024 .f32) (harg11 : arg11.IsWhole) (arg12 : Memref sig .tc .vmem S1x128x1024 .f32) (harg12 : arg12.IsWhole)
  (x0 x1 x2 x3 x4 : Vec F S1x128x1024 .f32) (xt0 : TbBuf0 (F := F) c tbM0_0)

/-- What the body leaves in output window 5. -/
theorem out_5 : out0_A_5 c i arg4 harg4 arg5 harg5 arg6 harg6 arg7 harg7 arg8 harg8 arg9 harg9 arg10 harg10 arg11 harg11 arg12 harg12 x0 x1 x2 x3 x4 xt0 = k0_pay5 i (word c xt0) x0 x1 := by
  unfold out0_A_5
  rw [View.read_writes_eq_canon _ _ _ (fun _ => cover0_A_5 ..)]
  unfold kernelRun0_A
  dsimp only
  rw [View.canon_unit_zero hz3]
  simp only [View.readAt_eq_ld, harg4.read_unread, harg5.read_unread, harg6.read_unread, harg7.read_unread, harg8.read_unread, View.ld_unit_zero (S := S1x128x1024) hz3]

/-- What the body leaves in output window 6. -/
theorem out_6 : out0_A_6 c i arg4 harg4 arg5 harg5 arg6 harg6 arg7 harg7 arg8 harg8 arg9 harg9 arg10 harg10 arg11 harg11 arg12 harg12 x0 x1 x2 x3 x4 xt0 = k0_pay1 (k0_pay6 x2) (k0_pay9 i (word c xt0) x0 x1 x3) (k0_pay10 i (word c xt0) x0 x1 x4) := by
  unfold out0_A_6
  rw [View.read_writes_eq_canon _ _ _ (fun _ => cover0_A_6 ..)]
  unfold kernelRun0_A
  dsimp only
  rw [View.canon_unit_zero hz3]
  unfold kernelRun0_A.sl.r_1 kernelRun0_A.sl.r_4 kernelRun0_A.sl.r_5
  simp only [View.readAt_eq_ld, harg4.read_unread, harg5.read_unread, harg6.read_unread, harg7.read_unread, harg8.read_unread, View.ld_unit_zero (S := S1x128x1024) hz3]

/-- What the body leaves in output window 7. -/
theorem out_7 : out0_A_7 c i arg4 harg4 arg5 harg5 arg6 harg6 arg7 harg7 arg8 harg8 arg9 harg9 arg10 harg10 arg11 harg11 arg12 harg12 x0 x1 x2 x3 x4 xt0 = k0_pay2 (k0_pay7 i (word c xt0) x0 x1 x3) := by
  unfold out0_A_7
  rw [View.read_writes_eq_canon _ _ _ (fun _ => cover0_A_7 ..)]
  unfold kernelRun0_A
  dsimp only
  rw [View.canon_unit_zero hz3]
  unfold kernelRun0_A.sl.r_2
  simp only [View.readAt_eq_ld, harg4.read_unread, harg5.read_unread, harg6.read_unread, harg7.read_unread, harg8.read_unread, View.ld_unit_zero (S := S1x128x1024) hz3]

/-- What the body leaves in output window 8. -/
theorem out_8 : out0_A_8 c i arg4 harg4 arg5 harg5 arg6 harg6 arg7 harg7 arg8 harg8 arg9 harg9 arg10 harg10 arg11 harg11 arg12 harg12 x0 x1 x2 x3 x4 xt0 = k0_pay3 (k0_pay8 i (word c xt0) x0 x1 x4) := by
  unfold out0_A_8
  rw [View.read_writes_eq_canon _ _ _ (fun _ => cover0_A_8 ..)]
  unfold kernelRun0_A
  dsimp only
  rw [View.canon_unit_zero hz3]
  unfold kernelRun0_A.sl.r_3
  simp only [View.readAt_eq_ld, harg4.read_unread, harg5.read_unread, harg6.read_unread, harg7.read_unread, harg8.read_unread, View.ld_unit_zero (S := S1x128x1024) hz3]

end

attribute [local irreducible] k0_pay1 k0_pay2 k0_pay3 k0_pay5 out0_A_5 out0_A_6 out0_A_7 out0_A_8 Pipeline.Dat.arrAt

variable (m : (ℓ : Loc nD τ sig) → Buf (Elt Ideal) ℓ)

/-- The tables are as the call needs them: no index map reads one. -/
theorem ok : Ok m := trivial

/-- The pipeline, its data on a core, and the blocks its input windows take. -/
abbrev cf : Pipeline.Cfg sig Λ₀ := cfgM m (ok m)
abbrev dat (c : Dev nD) := dats m (ok m) 0 c

/-- The arguments: the two halves of the gradient, the core's number, the parameter and the two moments. -/
abbrev mine (c : Dev nD) : Vec Ideal S2x128x1024 .f32 := m ((c : Thread nD τ).loc main_arg0)
abbrev theirs (c : Dev nD) : Vec Ideal S2x128x1024 .f32 := m ((c : Thread nD τ).loc main_arg1)
abbrev number (c : Dev nD) : Vec Ideal S1 .i32 := m ((c : Thread nD τ).loc main_arg2)
abbrev par (c : Dev nD) : Vec Ideal S2x256x1024 .f32 := m ((c : Thread nD τ).loc main_arg3)
abbrev mom (c : Dev nD) : Vec Ideal S2x256x1024 .f32 := m ((c : Thread nD τ).loc main_arg4)
abbrev var (c : Dev nD) : Vec Ideal S2x256x1024 .f32 := m ((c : Thread nD τ).loc main_arg5)

/-- The gradient block a point takes, at an element. -/
theorem pay4_apply (i : grid0.Coords) (n : BitVec 32) (x0 x1 : Vec Ideal S1x128x1024 .f32) (p : Fin 128) (q : Fin 1024) :
    k0_pay4 i n x0 x1 (ix2 p q) = if BitVec.ofNat 32 (i 1).val = n then x0 (ix3 (0 : Fin 1) p q) else x1 (ix3 (0 : Fin 1) p q) := by
  pointwise [k0_pay4]
  by_cases h : BitVec.ofNat 32 (i 1).val = n
  · rw [if_pos h]; exact if_pos (IntOp.cmpi_eq.mpr h)
  · rw [if_neg h]; exact if_neg fun e => h (IntOp.cmpi_eq.mp e)

section
variable (i : grid0.Coords) (n : BitVec 32) (x0 x1 x2 x3 x4 : Vec Ideal S1x128x1024 .f32) (p : Fin 128) (q : Fin 1024)

/-- What a point writes to each output window, at an element. -/
theorem pay5_apply : k0_pay5 i n x0 x1 (ix3 (0 : Fin 1) p q) =  k0_pay4 i n x0 x1 (ix2 p q)  := by
  pointwise [k0_pay5, k0_pay1, k0_pay2, k0_pay3, k0_pay6, k0_pay7, k0_pay8, k0_pay9, k0_pay10]

theorem pay6_apply : k0_pay1 (k0_pay6 x2) (k0_pay9 i n x0 x1 x3) (k0_pay10 i n x0 x1 x4) (ix3 (0 : Fin 1) p q) = AdamSpec.step (k0_pay4 i n x0 x1 (ix2 p q)) (x2 (ix3 (0 : Fin 1) p q)) (x3 (ix3 (0 : Fin 1) p q)) (x4 (ix3 (0 : Fin 1) p q)) := by
  pointwise [k0_pay5, k0_pay1, k0_pay2, k0_pay3, k0_pay6, k0_pay7, k0_pay8, k0_pay9, k0_pay10]
  rfl

theorem pay7_apply : k0_pay2 (k0_pay7 i n x0 x1 x3) (ix3 (0 : Fin 1) p q) = AdamSpec.mom1 (k0_pay4 i n x0 x1 (ix2 p q)) (x3 (ix3 (0 : Fin 1) p q)) := by
  pointwise [k0_pay5, k0_pay1, k0_pay2, k0_pay3, k0_pay6, k0_pay7, k0_pay8, k0_pay9, k0_pay10]
  rfl

theorem pay8_apply : k0_pay3 (k0_pay8 i n x0 x1 x4) (ix3 (0 : Fin 1) p q) = AdamSpec.mom2 (k0_pay4 i n x0 x1 (ix2 p q)) (x4 (ix3 (0 : Fin 1) p q)) := by
  pointwise [k0_pay5, k0_pay1, k0_pay2, k0_pay3, k0_pay6, k0_pay7, k0_pay8, k0_pay9, k0_pay10]
  rfl

end

/-- The point that writes a row. -/
theorem point_of (l : Fin 2) (a : Fin 256) : ∃ t : Fin (cf m).N, t.val = (l.val * 2 + a.val / 128) * 1 + a.val % 128 / 128 ∧ (grid0.coords t 1).val = a.val / 128 := by
  have hN : (cf m).N = 4 := N_0
  refine ⟨⟨(l.val * 2 + a.val / 128) * 1 + a.val % 128 / 128, by omega⟩, rfl, ?_⟩
  exact ((by decide +kernel : ∀ t : Fin grid0.N, (grid0.coords t 1).val = t.val / 1 % 2) _).trans (by show ((l.val * 2 + a.val / 128) * 1 + a.val % 128 / 128) / 1 % 2 = a.val / 128; omega)

section
variable {t : Fin (cf m).N} {l : Fin 2} {a : Fin 256} {b : Fin 1024} (ht : t.val = (l.val * 2 + a.val / 128) * 1 + a.val % 128 / 128)
include ht

/-- A point's block of a half of the gradient. -/
theorem emb_half : (((cf m).win 0).blk t).view.emb (ix3 (0 : Fin 1) (inBlock a) b) = ix3 l (inHalf a) b := by
  have hi := (by decide +kernel : ∀ t : Fin grid0.N, cc0_transform_0 (grid0.coords t) 0 = t.val / 2 ∧ cc0_transform_0 (grid0.coords t) 1 = t.val % 1 ∧ cc0_transform_0 (grid0.coords t) 2 = 0) t
  refine funext fun d => Fin.ext ?_
  match d with
  | ⟨0, _⟩ => show cc0_transform_0 (grid0.coords t) 0 * 1 + 1 * 0 = l.val; rw [hi.1]; omega
  | ⟨1, _⟩ => show cc0_transform_0 (grid0.coords t) 1 * 128 + 1 * (a.val % 128) = a.val % 128; rw [hi.2.1]; omega
  | ⟨2, _⟩ => show cc0_transform_0 (grid0.coords t) 2 * 1024 + 1 * b.val = b.val; rw [hi.2.2]; omega

/-- A point's block of any other array: their index maps are the same. -/
theorem emb_whole : (((cf m).win 2).blk t).view.emb (ix3 (0 : Fin 1) (inBlock a) b) = ix3 l a b := by
  have hi := (by decide +kernel : ∀ t : Fin grid0.N, cc0_transform_2 (grid0.coords t) 0 = t.val / 2 ∧ cc0_transform_2 (grid0.coords t) 1 = t.val / 1 % 2 * 1 + t.val % 1 ∧ cc0_transform_2 (grid0.coords t) 2 = 0) t
  refine funext fun d => Fin.ext ?_
  match d with
  | ⟨0, _⟩ => show cc0_transform_2 (grid0.coords t) 0 * 1 + 1 * 0 = l.val; rw [hi.1]; omega
  | ⟨1, _⟩ => show cc0_transform_2 (grid0.coords t) 1 * 128 + 1 * (a.val % 128) = a.val; rw [hi.2.1]; omega
  | ⟨2, _⟩ => show cc0_transform_2 (grid0.coords t) 2 * 1024 + 1 * b.val = b.val; rw [hi.2.2]; omega

variable (c : Dev nD)

/-- The input blocks, at an element. -/
theorem block_0 : (iblk m (ok m) c 0 t : Vec Ideal S1x128x1024 .f32) (ix3 (0 : Fin 1) (inBlock a) b) = mine m c (ix3 l (inHalf a) b) :=
  congrArg (mine m c) (emb_half m ht)
theorem block_1 : (iblk m (ok m) c 1 t : Vec Ideal S1x128x1024 .f32) (ix3 (0 : Fin 1) (inBlock a) b) = theirs m c (ix3 l (inHalf a) b) :=
  congrArg (theirs m c) (emb_half m ht)
theorem block_2 : (iblk m (ok m) c 2 t : Vec Ideal S1x128x1024 .f32) (ix3 (0 : Fin 1) (inBlock a) b) = par m c (ix3 l a b) :=
  congrArg (par m c) (emb_whole m ht)
theorem block_3 : (iblk m (ok m) c 3 t : Vec Ideal S1x128x1024 .f32) (ix3 (0 : Fin 1) (inBlock a) b) = mom m c (ix3 l a b) :=
  congrArg (mom m c) (emb_whole m ht)
theorem block_4 : (iblk m (ok m) c 4 t : Vec Ideal S1x128x1024 .f32) (ix3 (0 : Fin 1) (inBlock a) b) = var m c (ix3 l a b) :=
  congrArg (var m c) (emb_whole m ht)

end

/-- Two points' blocks of an output window share no element. -/
theorem disj (t t' : Fin (cf m).N) (hne : t ≠ t') : Disjoint (((cf m).win 5).blk t).view.set (((cf m).win 5).blk t').view.set :=
  ((cf m).win 5).disjoint_blk fun h => hne
    ((by decide +kernel : ∀ t t' : Fin grid0.N, cc0_transform_5 (grid0.coords t) = cc0_transform_5 (grid0.coords t') → t = t') t t' h)

/-- The read of the table, of any contents. -/
theorem word_at (xt : TbBuf0 (F := Ideal) (0 : Dev nD) tbM0_0) : word (0 : Dev nD) xt = (xt : Vec Ideal S1 .i32) (ix1 (0 : Fin 1)) := by
  unfold word kernelRun0_A.sl.r
  rw [View.readAt_eq_ld, View.ld_unit_zero (S := S1) hz1, View.read_apply]
  refine congrArg (xt : Vec Ideal S1 .i32) ?_
  funext a
  match a with
  | ⟨0, _⟩ => exact Subsingleton.elim (α := Fin 1) _ _

/-- Its number is the one the pipeline's table holds. -/
theorem word_eq (c : Dev nD) : word c (tbl m 0) = number m c (ix1 (0 : Fin 1)) := by
  obtain rfl : c = 0 := Subsingleton.elim _ _
  exact word_at (tbl m 0)

/-- The gradient block a point takes. -/
theorem taken (c : Dev nD) {t : Fin (cf m).N} {l : Fin 2} {a : Fin 256} {b : Fin 1024} (ht : t.val = (l.val * 2 + a.val / 128) * 1 + a.val % 128 / 128) (hc : (grid0.coords t 1).val = a.val / 128) :
    k0_pay4 (grid0.coords t) (word c (tbl m 0)) (iblk m (ok m) c 0 t) (iblk m (ok m) c 1 t) (ix2 (inBlock a) b) = grad (mine m c) (theirs m c) (number m c) (ix3 l a b) := by
  rw [grad_apply, pay4_apply (grid0.coords t) (word c (tbl m 0)) (iblk m (ok m) c 0 t) (iblk m (ok m) c 1 t), word_eq m c, hc, block_0 m ht c, block_1 m ht c]
  rfl

/-- An element of result 5. -/
theorem result5 (c : Dev nD) (l : Fin 2) (a : Fin 256) (b : Fin 1024) :
    ((dat m c).arrAt 5 (cf m).N : Vec Ideal S2x256x1024 .f32) (ix3 l a b) = grad (mine m c) (theirs m c) (number m c) (ix3 l a b) := by
  obtain ⟨t, ht, hc⟩ := point_of m l a
  refine (congrArg ((dat m c).arrAt 5 (cf m).N) (emb_whole m ht).symm).trans (((dat m c).arrAt_emb_eq_flushed 5 (fun t t' _ _ h => disj m t t' h) t (flush0_5 (adm m (ok m)) t) _).trans
    ((congrFun ((after0_5 ..).trans (out_5 ..)) _).trans ((pay5_apply ..).trans ?_)))
  rw [taken m c ht hc]

/-- An element of result 6. -/
theorem result6 (c : Dev nD) (l : Fin 2) (a : Fin 256) (b : Fin 1024) :
    ((dat m c).arrAt 6 (cf m).N : Vec Ideal S2x256x1024 .f32) (ix3 l a b) = AdamSpec.step (grad (mine m c) (theirs m c) (number m c) (ix3 l a b)) (par m c (ix3 l a b)) (mom m c (ix3 l a b)) (var m c (ix3 l a b)) := by
  obtain ⟨t, ht, hc⟩ := point_of m l a
  refine (congrArg ((dat m c).arrAt 6 (cf m).N) (emb_whole m ht).symm).trans (((dat m c).arrAt_emb_eq_flushed 6 (fun t t' _ _ h => disj m t t' h) t (flush0_6 (adm m (ok m)) t) _).trans
    ((congrFun ((after0_6 ..).trans (out_6 ..)) _).trans ((pay6_apply ..).trans ?_)))
  rw [taken m c ht hc, block_2 m ht c, block_3 m ht c, block_4 m ht c]

/-- An element of result 7. -/
theorem result7 (c : Dev nD) (l : Fin 2) (a : Fin 256) (b : Fin 1024) :
    ((dat m c).arrAt 7 (cf m).N : Vec Ideal S2x256x1024 .f32) (ix3 l a b) = AdamSpec.mom1 (grad (mine m c) (theirs m c) (number m c) (ix3 l a b)) (mom m c (ix3 l a b)) := by
  obtain ⟨t, ht, hc⟩ := point_of m l a
  refine (congrArg ((dat m c).arrAt 7 (cf m).N) (emb_whole m ht).symm).trans (((dat m c).arrAt_emb_eq_flushed 7 (fun t t' _ _ h => disj m t t' h) t (flush0_7 (adm m (ok m)) t) _).trans
    ((congrFun ((after0_7 ..).trans (out_7 ..)) _).trans ((pay7_apply ..).trans ?_)))
  rw [taken m c ht hc, block_3 m ht c]

/-- An element of result 8. -/
theorem result8 (c : Dev nD) (l : Fin 2) (a : Fin 256) (b : Fin 1024) :
    ((dat m c).arrAt 8 (cf m).N : Vec Ideal S2x256x1024 .f32) (ix3 l a b) = AdamSpec.mom2 (grad (mine m c) (theirs m c) (number m c) (ix3 l a b)) (var m c (ix3 l a b)) := by
  obtain ⟨t, ht, hc⟩ := point_of m l a
  refine (congrArg ((dat m c).arrAt 8 (cf m).N) (emb_whole m ht).symm).trans (((dat m c).arrAt_emb_eq_flushed 8 (fun t t' _ _ h => disj m t t' h) t (flush0_8 (adm m (ok m)) t) _).trans
    ((congrFun ((after0_8 ..).trans (out_8 ..)) _).trans ((pay8_apply ..).trans ?_)))
  rw [taken m c ht hc, block_4 m ht c]

end

open Idealize.ShloMosaic Idealize.ShloMosaic.TcCoe Idealize.SL.Sem

/-- Kernel and reference end with equal results. -/
theorem algebraic : Cert.algebraic_Kernel29Ideal_Reference29Ideal := by
  intro m ρ m' ρ' _ hagree
  refine ⟨fun c => (dat m c).arrAt 5 (cf m).N, fun c => (dat m c).arrAt 6 (cf m).N, fun c => (dat m c).arrAt 7 (cf m).N,
    fun c => (dat m c).arrAt 8 (cf m).N, (θ_run Cert.Kernel29Ideal.defs _ _).mono (fun r h c => ⟨(h.1 c).1 5, (h.1 c).1 6, (h.1 c).1 7, (h.1 c).1 8, h.2 c⟩)
      (θ_run_and (Cert.Kernel29Ideal.Gen.run_main m ρ (ok m)) (Cert.Kernel29Ideal.Gen.unchanged m ρ (ok m))), ?_⟩
  refine (θ_run _ _ _).mono (fun _ h c => ?_) (Cert.Reference29Ideal.Value.run m' ρ')
  obtain ⟨h0, h1, h2, h3, h4, h5⟩ := hagree c
  refine ⟨(h c).1.trans ?_, (h c).2.1.trans ?_, (h c).2.2.1.trans ?_, (h c).2.2.2.1.trans ?_, (h c).2.2.2.2⟩
  · rw [h0, h1, h2]
    exact ext3 fun l a b => (result5 m c l a b).symm
  · rw [h0, h1, h2, h3, h4, h5]
    exact ext3 fun l a b => (result6 m c l a b).symm
  · rw [h0, h1, h2, h4]
    exact ext3 fun l a b => (result7 m c l a b).symm
  · rw [h0, h1, h2, h5]
    exact ext3 fun l a b => (result8 m c l a b).symm

/-- The frames of the three programs. -/
theorem frame_p : Cert.quiescent_Kernel29 := fun m ρ _ => Cert.Kernel29.Gen.frame m ρ trivial
theorem frame_i : Cert.quiescent_Kernel29Ideal := fun m ρ _ => Cert.Kernel29Ideal.Gen.frame m ρ trivial
theorem frame_r : Cert.quiescent_Reference29Ideal := fun m ρ _ =>
  (θ_run _ _ _).mono (fun r h => ⟨fun c => (h c).2.2.2.2, sem_eq_zero_of_no_sems (by decide) r.2⟩)
    (Cert.Reference29Ideal.Value.run m ρ)

end Cert.Adam29

end

end
-- ==== Proof.Adam30.lean ====
/- The AdamW update of a leaf of which each core holds the gradient of half the rows: the whole gradient is one
   core's half above the other's, and each result element is the update of the same element of it, of the
   parameter and of the two moments; so is the reference's. -/
module

public import proofs.«01_k».proof.Proof.Gen.Kernel30.Frame
public import proofs.«01_k».proof.Proof.Gen.Kernel30Ideal.Frame
public import proofs.«01_k».proof.Proof.Gen.Reference30Ideal.Run
public import proofs.«01_k».proof.Proof.AdamSpec

@[expose] public section

set_option maxRecDepth 16384

noncomputable section

namespace Cert.Adam30

section
open Cert.Reference30Ideal Cert.Reference30Ideal.Gen Cert.Reference30Ideal.Value Idealize.ShloMosaic Idealize.ShloMosaic.TcCoe Idealize.SL.Sem

/-- A row's place in its half and in its block. -/
abbrev inHalf (a : Fin 1024) : Fin 512 := ⟨a.val % 512, by omega⟩
abbrev inBlock (a : Fin 1024) : Fin 256 := ⟨a.val % 256, by omega⟩

/-- The whole gradient at an element: this core's half where the row is in this core's half, else the other's. -/
def whole (x0 x1 : Vec Ideal S2x512x1408 .f32) (x2 : Vec Ideal S1 .i32) (l : Fin 2) (a : Fin 1024) (b : Fin 1408) : Ideal .f32 :=
  if BitVec.ofNat 32 (a.val / 512) = x2 (ix1 (0 : Fin 1)) then x0 (ix3 l (inHalf a) b) else x1 (ix3 l (inHalf a) b)

/-- The reference's gradient. -/
def grad (x0 x1 : Vec Ideal S2x512x1408 .f32) (x2 : Vec Ideal S1 .i32) : Vec Ideal S2x1024x1408 .f32 :=
  concatenate S2x1024x1408 1 [⟨S2x512x1408, (select (broadcastInDim S2x512x1408 ![] bcast_S_S2x512x1408 (cmpi .eq (shapeCast _ x2 shapeCasts_S1_S_) (constantI S_ 32 0#32))) x0 x1)⟩, ⟨S2x512x1408, (select (broadcastInDim S2x512x1408 ![] bcast_S_S2x512x1408 (cmpi .eq (shapeCast _ x2 shapeCasts_S1_S_) (constantI S_ 32 1#32))) x0 x1)⟩] concatenates_S2x512x1408_S2x512x1408_S2x1024x1408_d1

/-- It is the whole gradient. -/
theorem grad_apply (x0 x1 : Vec Ideal S2x512x1408 .f32) (x2 : Vec Ideal S1 .i32) (l : Fin 2) (a : Fin 1024) (b : Fin 1408) :
    grad x0 x1 x2 (ix3 l a b) = whole x0 x1 x2 l a b := by
  unfold grad whole
  pointwise []
  by_cases h : a.val < 512
  · have h0 : a.val / 512 = 0 := by omega
    have h1 : (⟨a.val, h⟩ : Fin 512) = inHalf a := Fin.ext (show a.val = a.val % 512 by omega)
    rw [dif_pos h, h0, h1]
    by_cases e : BitVec.ofNat 32 0 = x2 (ix1 (0 : Fin 1))
    · rw [if_pos e]; exact if_pos (IntOp.cmpi_eq.mpr e.symm)
    · rw [if_neg e]; exact if_neg fun g => e (IntOp.cmpi_eq.mp g).symm
  · have h0 : a.val / 512 = 1 := by omega
    have h1 : (⟨a.val - 512, by omega⟩ : Fin 512) = inHalf a := Fin.ext (show a.val - 512 = a.val % 512 by omega)
    rw [dif_neg h, h0, h1]
    by_cases e : BitVec.ofNat 32 1 = x2 (ix1 (0 : Fin 1))
    · rw [if_pos e]; exact if_pos (IntOp.cmpi_eq.mpr e.symm)
    · rw [if_neg e]; exact if_neg fun g => e (IntOp.cmpi_eq.mp g).symm

end

section
open Cert.Kernel30Ideal Cert.Kernel30Ideal.Gen Idealize.ShloMosaic Idealize.ShloMosaic.TcCoe Idealize.SL.Sem

section
variable {F : FTy → Type} [FloatOps F]

/-- The core's number, as the kernel reads it off its table. -/
abbrev word (c : Dev nD) (xt0 : TbBuf0 (F := F) c tbM0_0) : Elt F .i32 := kernelRun0_A.sl.r c xt0

variable (c : Dev nD) (i : grid0.Coords) (arg4 : Memref sig .tc .vmem S1x256x1408 .f32) (harg4 : arg4.IsWhole) (arg5 : Memref sig .tc .vmem S1x256x1408 .f32) (harg5 : arg5.IsWhole) (arg6 : Memref sig .tc .vmem S1x256x1408 .f32) (harg6 : arg6.IsWhole) (arg7 : Memref sig .tc .vmem S1x256x1408 .f32) (harg7 : arg7.IsWhole) (arg8 : Memref sig .tc .vmem S1x256x1408 .f32) (harg8 : arg8.IsWhole) (arg9 : Memref sig .tc .vmem S1x256x1408 .f32) (harg9 : arg9.IsWhole) (arg10 : Memref sig .tc .vmem S1x256x1408 .f32) (harg10 : arg10.IsWhole) (arg11 : Memref sig .tc .vmem S1x256x1408 .f32) (harg11 : arg11.IsWhole) (arg12 : Memref sig .tc .vmem S1x256x1408 .f32) (harg12 : arg12.IsWhole)
  (x0 x1 x2 x3 x4 : Vec F S1x256x1408 .f32) (xt0 : TbBuf0 (F := F) c tbM0_0)

/-- What the body leaves in output window 5. -/
theorem out_5 : out0_A_5 c i arg4 harg4 arg5 harg5 arg6 harg6 arg7 harg7 arg8 harg8 arg9 harg9 arg10 harg10 arg11 harg11 arg12 harg12 x0 x1 x2 x3 x4 xt0 = k0_pay5 i (word c xt0) x0 x1 := by
  unfold out0_A_5
  rw [View.read_writes_eq_canon _ _ _ (fun _ => cover0_A_5 ..)]
  unfold kernelRun0_A
  dsimp only
  rw [View.canon_unit_zero hz3]
  simp only [View.readAt_eq_ld, harg4.read_unread, harg5.read_unread, harg6.read_unread, harg7.read_unread, harg8.read_unread, View.ld_unit_zero (S := S1x256x1408) hz3]

/-- What the body leaves in output window 6. -/
theorem out_6 : out0_A_6 c i arg4 harg4 arg5 harg5 arg6 harg6 arg7 harg7 arg8 harg8 arg9 harg9 arg10 harg10 arg11 harg11 arg12 harg12 x0 x1 x2 x3 x4 xt0 = k0_pay1 (k0_pay6 x2) (k0_pay9 i (word c xt0) x0 x1 x3) (k0_pay10 i (word c xt0) x0 x1 x4) := by
  unfold out0_A_6
  rw [View.read_writes_eq_canon _ _ _ (fun _ => cover0_A_6 ..)]
  unfold kernelRun0_A
  dsimp only
  rw [View.canon_unit_zero hz3]
  unfold kernelRun0_A.sl.r_1 kernelRun0_A.sl.r_4 kernelRun0_A.sl.r_5
  simp only [View.readAt_eq_ld, harg4.read_unread, harg5.read_unread, harg6.read_unread, harg7.read_unread, harg8.read_unread, View.ld_unit_zero (S := S1x256x1408) hz3]

/-- What the body leaves in output window 7. -/
theorem out_7 : out0_A_7 c i arg4 harg4 arg5 harg5 arg6 harg6 arg7 harg7 arg8 harg8 arg9 harg9 arg10 harg10 arg11 harg11 arg12 harg12 x0 x1 x2 x3 x4 xt0 = k0_pay2 (k0_pay7 i (word c xt0) x0 x1 x3) := by
  unfold out0_A_7
  rw [View.read_writes_eq_canon _ _ _ (fun _ => cover0_A_7 ..)]
  unfold kernelRun0_A
  dsimp only
  rw [View.canon_unit_zero hz3]
  unfold kernelRun0_A.sl.r_2
  simp only [View.readAt_eq_ld, harg4.read_unread, harg5.read_unread, harg6.read_unread, harg7.read_unread, harg8.read_unread, View.ld_unit_zero (S := S1x256x1408) hz3]

/-- What the body leaves in output window 8. -/
theorem out_8 : out0_A_8 c i arg4 harg4 arg5 harg5 arg6 harg6 arg7 harg7 arg8 harg8 arg9 harg9 arg10 harg10 arg11 harg11 arg12 harg12 x0 x1 x2 x3 x4 xt0 = k0_pay3 (k0_pay8 i (word c xt0) x0 x1 x4) := by
  unfold out0_A_8
  rw [View.read_writes_eq_canon _ _ _ (fun _ => cover0_A_8 ..)]
  unfold kernelRun0_A
  dsimp only
  rw [View.canon_unit_zero hz3]
  unfold kernelRun0_A.sl.r_3
  simp only [View.readAt_eq_ld, harg4.read_unread, harg5.read_unread, harg6.read_unread, harg7.read_unread, harg8.read_unread, View.ld_unit_zero (S := S1x256x1408) hz3]

end

attribute [local irreducible] k0_pay1 k0_pay2 k0_pay3 k0_pay5 out0_A_5 out0_A_6 out0_A_7 out0_A_8 Pipeline.Dat.arrAt

variable (m : (ℓ : Loc nD τ sig) → Buf (Elt Ideal) ℓ)

/-- The tables are as the call needs them: no index map reads one. -/
theorem ok : Ok m := trivial

/-- The pipeline, its data on a core, and the blocks its input windows take. -/
abbrev cf : Pipeline.Cfg sig Λ₀ := cfgM m (ok m)
abbrev dat (c : Dev nD) := dats m (ok m) 0 c

/-- The arguments: the two halves of the gradient, the core's number, the parameter and the two moments. -/
abbrev mine (c : Dev nD) : Vec Ideal S2x512x1408 .f32 := m ((c : Thread nD τ).loc main_arg0)
abbrev theirs (c : Dev nD) : Vec Ideal S2x512x1408 .f32 := m ((c : Thread nD τ).loc main_arg1)
abbrev number (c : Dev nD) : Vec Ideal S1 .i32 := m ((c : Thread nD τ).loc main_arg2)
abbrev par (c : Dev nD) : Vec Ideal S2x1024x1408 .f32 := m ((c : Thread nD τ).loc main_arg3)
abbrev mom (c : Dev nD) : Vec Ideal S2x1024x1408 .f32 := m ((c : Thread nD τ).loc main_arg4)
abbrev var (c : Dev nD) : Vec Ideal S2x1024x1408 .f32 := m ((c : Thread nD τ).loc main_arg5)

/-- The gradient block a point takes, at an element. -/
theorem pay4_apply (i : grid0.Coords) (n : BitVec 32) (x0 x1 : Vec Ideal S1x256x1408 .f32) (p : Fin 256) (q : Fin 1408) :
    k0_pay4 i n x0 x1 (ix2 p q) = if BitVec.ofNat 32 (i 1).val = n then x0 (ix3 (0 : Fin 1) p q) else x1 (ix3 (0 : Fin 1) p q) := by
  pointwise [k0_pay4]
  by_cases h : BitVec.ofNat 32 (i 1).val = n
  · rw [if_pos h]; exact if_pos (IntOp.cmpi_eq.mpr h)
  · rw [if_neg h]; exact if_neg fun e => h (IntOp.cmpi_eq.mp e)

section
variable (i : grid0.Coords) (n : BitVec 32) (x0 x1 x2 x3 x4 : Vec Ideal S1x256x1408 .f32) (p : Fin 256) (q : Fin 1408)

/-- What a point writes to each output window, at an element. -/
theorem pay5_apply : k0_pay5 i n x0 x1 (ix3 (0 : Fin 1) p q) =  k0_pay4 i n x0 x1 (ix2 p q)  := by
  pointwise [k0_pay5, k0_pay1, k0_pay2, k0_pay3, k0_pay6, k0_pay7, k0_pay8, k0_pay9, k0_pay10]

theorem pay6_apply : k0_pay1 (k0_pay6 x2) (k0_pay9 i n x0 x1 x3) (k0_pay10 i n x0 x1 x4) (ix3 (0 : Fin 1) p q) = AdamSpec.step (k0_pay4 i n x0 x1 (ix2 p q)) (x2 (ix3 (0 : Fin 1) p q)) (x3 (ix3 (0 : Fin 1) p q)) (x4 (ix3 (0 : Fin 1) p q)) := by
  pointwise [k0_pay5, k0_pay1, k0_pay2, k0_pay3, k0_pay6, k0_pay7, k0_pay8, k0_pay9, k0_pay10]
  rfl

theorem pay7_apply : k0_pay2 (k0_pay7 i n x0 x1 x3) (ix3 (0 : Fin 1) p q) = AdamSpec.mom1 (k0_pay4 i n x0 x1 (ix2 p q)) (x3 (ix3 (0 : Fin 1) p q)) := by
  pointwise [k0_pay5, k0_pay1, k0_pay2, k0_pay3, k0_pay6, k0_pay7, k0_pay8, k0_pay9, k0_pay10]
  rfl

theorem pay8_apply : k0_pay3 (k0_pay8 i n x0 x1 x4) (ix3 (0 : Fin 1) p q) = AdamSpec.mom2 (k0_pay4 i n x0 x1 (ix2 p q)) (x4 (ix3 (0 : Fin 1) p q)) := by
  pointwise [k0_pay5, k0_pay1, k0_pay2, k0_pay3, k0_pay6, k0_pay7, k0_pay8, k0_pay9, k0_pay10]
  rfl

end

/-- The point that writes a row. -/
theorem point_of (l : Fin 2) (a : Fin 1024) : ∃ t : Fin (cf m).N, t.val = (l.val * 2 + a.val / 512) * 2 + a.val % 512 / 256 ∧ (grid0.coords t 1).val = a.val / 512 := by
  have hN : (cf m).N = 8 := N_0
  refine ⟨⟨(l.val * 2 + a.val / 512) * 2 + a.val % 512 / 256, by omega⟩, rfl, ?_⟩
  exact ((by decide +kernel : ∀ t : Fin grid0.N, (grid0.coords t 1).val = t.val / 2 % 2) _).trans (by show ((l.val * 2 + a.val / 512) * 2 + a.val % 512 / 256) / 2 % 2 = a.val / 512; omega)

section
variable {t : Fin (cf m).N} {l : Fin 2} {a : Fin 1024} {b : Fin 1408} (ht : t.val = (l.val * 2 + a.val / 512) * 2 + a.val % 512 / 256)
include ht

/-- A point's block of a half of the gradient. -/
theorem emb_half : (((cf m).win 0).blk t).view.emb (ix3 (0 : Fin 1) (inBlock a) b) = ix3 l (inHalf a) b := by
  have hi := (by decide +kernel : ∀ t : Fin grid0.N, cc0_transform_0 (grid0.coords t) 0 = t.val / 4 ∧ cc0_transform_0 (grid0.coords t) 1 = t.val % 2 ∧ cc0_transform_0 (grid0.coords t) 2 = 0) t
  refine funext fun d => Fin.ext ?_
  match d with
  | ⟨0, _⟩ => show cc0_transform_0 (grid0.coords t) 0 * 1 + 1 * 0 = l.val; rw [hi.1]; omega
  | ⟨1, _⟩ => show cc0_transform_0 (grid0.coords t) 1 * 256 + 1 * (a.val % 256) = a.val % 512; rw [hi.2.1]; omega
  | ⟨2, _⟩ => show cc0_transform_0 (grid0.coords t) 2 * 1408 + 1 * b.val = b.val; rw [hi.2.2]; omega

/-- A point's block of any other array: their index maps are the same. -/
theorem emb_whole : (((cf m).win 2).blk t).view.emb (ix3 (0 : Fin 1) (inBlock a) b) = ix3 l a b := by
  have hi := (by decide +kernel : ∀ t : Fin grid0.N, cc0_transform_2 (grid0.coords t) 0 = t.val / 4 ∧ cc0_transform_2 (grid0.coords t) 1 = t.val / 2 % 2 * 2 + t.val % 2 ∧ cc0_transform_2 (grid0.coords t) 2 = 0) t
  refine funext fun d => Fin.ext ?_
  match d with
  | ⟨0, _⟩ => show cc0_transform_2 (grid0.coords t) 0 * 1 + 1 * 0 = l.val; rw [hi.1]; omega
  | ⟨1, _⟩ => show cc0_transform_2 (grid0.coords t) 1 * 256 + 1 * (a.val % 256) = a.val; rw [hi.2.1]; omega
  | ⟨2, _⟩ => show cc0_transform_2 (grid0.coords t) 2 * 1408 + 1 * b.val = b.val; rw [hi.2.2]; omega

variable (c : Dev nD)

/-- The input blocks, at an element. -/
theorem block_0 : (iblk m (ok m) c 0 t : Vec Ideal S1x256x1408 .f32) (ix3 (0 : Fin 1) (inBlock a) b) = mine m c (ix3 l (inHalf a) b) :=
  congrArg (mine m c) (emb_half m ht)
theorem block_1 : (iblk m (ok m) c 1 t : Vec Ideal S1x256x1408 .f32) (ix3 (0 : Fin 1) (inBlock a) b) = theirs m c (ix3 l (inHalf a) b) :=
  congrArg (theirs m c) (emb_half m ht)
theorem block_2 : (iblk m (ok m) c 2 t : Vec Ideal S1x256x1408 .f32) (ix3 (0 : Fin 1) (inBlock a) b) = par m c (ix3 l a b) :=
  congrArg (par m c) (emb_whole m ht)
theorem block_3 : (iblk m (ok m) c 3 t : Vec Ideal S1x256x1408 .f32) (ix3 (0 : Fin 1) (inBlock a) b) = mom m c (ix3 l a b) :=
  congrArg (mom m c) (emb_whole m ht)
theorem block_4 : (iblk m (ok m) c 4 t : Vec Ideal S1x256x1408 .f32) (ix3 (0 : Fin 1) (inBlock a) b) = var m c (ix3 l a b) :=
  congrArg (var m c) (emb_whole m ht)

end

/-- Two points' blocks of an output window share no element. -/
theorem disj (t t' : Fin (cf m).N) (hne : t ≠ t') : Disjoint (((cf m).win 5).blk t).view.set (((cf m).win 5).blk t').view.set :=
  ((cf m).win 5).disjoint_blk fun h => hne
    ((by decide +kernel : ∀ t t' : Fin grid0.N, cc0_transform_5 (grid0.coords t) = cc0_transform_5 (grid0.coords t') → t = t') t t' h)

/-- The read of the table, of any contents. -/
theorem word_at (xt : TbBuf0 (F := Ideal) (0 : Dev nD) tbM0_0) : word (0 : Dev nD) xt = (xt : Vec Ideal S1 .i32) (ix1 (0 : Fin 1)) := by
  unfold word kernelRun0_A.sl.r
  rw [View.readAt_eq_ld, View.ld_unit_zero (S := S1) hz1, View.read_apply]
  refine congrArg (xt : Vec Ideal S1 .i32) ?_
  funext a
  match a with
  | ⟨0, _⟩ => exact Subsingleton.elim (α := Fin 1) _ _

/-- Its number is the one the pipeline's table holds. -/
theorem word_eq (c : Dev nD) : word c (tbl m 0) = number m c (ix1 (0 : Fin 1)) := by
  obtain rfl : c = 0 := Subsingleton.elim _ _
  exact word_at (tbl m 0)

/-- The gradient block a point takes. -/
theorem taken (c : Dev nD) {t : Fin (cf m).N} {l : Fin 2} {a : Fin 1024} {b : Fin 1408} (ht : t.val = (l.val * 2 + a.val / 512) * 2 + a.val % 512 / 256) (hc : (grid0.coords t 1).val = a.val / 512) :
    k0_pay4 (grid0.coords t) (word c (tbl m 0)) (iblk m (ok m) c 0 t) (iblk m (ok m) c 1 t) (ix2 (inBlock a) b) = grad (mine m c) (theirs m c) (number m c) (ix3 l a b) := by
  rw [grad_apply, pay4_apply (grid0.coords t) (word c (tbl m 0)) (iblk m (ok m) c 0 t) (iblk m (ok m) c 1 t), word_eq m c, hc, block_0 m ht c, block_1 m ht c]
  rfl

/-- An element of result 5. -/
theorem result5 (c : Dev nD) (l : Fin 2) (a : Fin 1024) (b : Fin 1408) :
    ((dat m c).arrAt 5 (cf m).N : Vec Ideal S2x1024x1408 .f32) (ix3 l a b) = grad (mine m c) (theirs m c) (number m c) (ix3 l a b) := by
  obtain ⟨t, ht, hc⟩ := point_of m l a
  refine (congrArg ((dat m c).arrAt 5 (cf m).N) (emb_whole m ht).symm).trans (((dat m c).arrAt_emb_eq_flushed 5 (fun t t' _ _ h => disj m t t' h) t (flush0_5 (adm m (ok m)) t) _).trans
    ((congrFun ((after0_5 ..).trans (out_5 ..)) _).trans ((pay5_apply ..).trans ?_)))
  rw [taken m c ht hc]

/-- An element of result 6. -/
theorem result6 (c : Dev nD) (l : Fin 2) (a : Fin 1024) (b : Fin 1408) :
    ((dat m c).arrAt 6 (cf m).N : Vec Ideal S2x1024x1408 .f32) (ix3 l a b) = AdamSpec.step (grad (mine m c) (theirs m c) (number m c) (ix3 l a b)) (par m c (ix3 l a b)) (mom m c (ix3 l a b)) (var m c (ix3 l a b)) := by
  obtain ⟨t, ht, hc⟩ := point_of m l a
  refine (congrArg ((dat m c).arrAt 6 (cf m).N) (emb_whole m ht).symm).trans (((dat m c).arrAt_emb_eq_flushed 6 (fun t t' _ _ h => disj m t t' h) t (flush0_6 (adm m (ok m)) t) _).trans
    ((congrFun ((after0_6 ..).trans (out_6 ..)) _).trans ((pay6_apply ..).trans ?_)))
  rw [taken m c ht hc, block_2 m ht c, block_3 m ht c, block_4 m ht c]

/-- An element of result 7. -/
theorem result7 (c : Dev nD) (l : Fin 2) (a : Fin 1024) (b : Fin 1408) :
    ((dat m c).arrAt 7 (cf m).N : Vec Ideal S2x1024x1408 .f32) (ix3 l a b) = AdamSpec.mom1 (grad (mine m c) (theirs m c) (number m c) (ix3 l a b)) (mom m c (ix3 l a b)) := by
  obtain ⟨t, ht, hc⟩ := point_of m l a
  refine (congrArg ((dat m c).arrAt 7 (cf m).N) (emb_whole m ht).symm).trans (((dat m c).arrAt_emb_eq_flushed 7 (fun t t' _ _ h => disj m t t' h) t (flush0_7 (adm m (ok m)) t) _).trans
    ((congrFun ((after0_7 ..).trans (out_7 ..)) _).trans ((pay7_apply ..).trans ?_)))
  rw [taken m c ht hc, block_3 m ht c]

/-- An element of result 8. -/
theorem result8 (c : Dev nD) (l : Fin 2) (a : Fin 1024) (b : Fin 1408) :
    ((dat m c).arrAt 8 (cf m).N : Vec Ideal S2x1024x1408 .f32) (ix3 l a b) = AdamSpec.mom2 (grad (mine m c) (theirs m c) (number m c) (ix3 l a b)) (var m c (ix3 l a b)) := by
  obtain ⟨t, ht, hc⟩ := point_of m l a
  refine (congrArg ((dat m c).arrAt 8 (cf m).N) (emb_whole m ht).symm).trans (((dat m c).arrAt_emb_eq_flushed 8 (fun t t' _ _ h => disj m t t' h) t (flush0_8 (adm m (ok m)) t) _).trans
    ((congrFun ((after0_8 ..).trans (out_8 ..)) _).trans ((pay8_apply ..).trans ?_)))
  rw [taken m c ht hc, block_4 m ht c]

end

open Idealize.ShloMosaic Idealize.ShloMosaic.TcCoe Idealize.SL.Sem

/-- Kernel and reference end with equal results. -/
theorem algebraic : Cert.algebraic_Kernel30Ideal_Reference30Ideal := by
  intro m ρ m' ρ' _ hagree
  refine ⟨fun c => (dat m c).arrAt 5 (cf m).N, fun c => (dat m c).arrAt 6 (cf m).N, fun c => (dat m c).arrAt 7 (cf m).N,
    fun c => (dat m c).arrAt 8 (cf m).N, (θ_run Cert.Kernel30Ideal.defs _ _).mono (fun r h c => ⟨(h.1 c).1 5, (h.1 c).1 6, (h.1 c).1 7, (h.1 c).1 8, h.2 c⟩)
      (θ_run_and (Cert.Kernel30Ideal.Gen.run_main m ρ (ok m)) (Cert.Kernel30Ideal.Gen.unchanged m ρ (ok m))), ?_⟩
  refine (θ_run _ _ _).mono (fun _ h c => ?_) (Cert.Reference30Ideal.Value.run m' ρ')
  obtain ⟨h0, h1, h2, h3, h4, h5⟩ := hagree c
  refine ⟨(h c).1.trans ?_, (h c).2.1.trans ?_, (h c).2.2.1.trans ?_, (h c).2.2.2.1.trans ?_, (h c).2.2.2.2⟩
  · rw [h0, h1, h2]
    exact ext3 fun l a b => (result5 m c l a b).symm
  · rw [h0, h1, h2, h3, h4, h5]
    exact ext3 fun l a b => (result6 m c l a b).symm
  · rw [h0, h1, h2, h4]
    exact ext3 fun l a b => (result7 m c l a b).symm
  · rw [h0, h1, h2, h5]
    exact ext3 fun l a b => (result8 m c l a b).symm

/-- The frames of the three programs. -/
theorem frame_p : Cert.quiescent_Kernel30 := fun m ρ _ => Cert.Kernel30.Gen.frame m ρ trivial
theorem frame_i : Cert.quiescent_Kernel30Ideal := fun m ρ _ => Cert.Kernel30Ideal.Gen.frame m ρ trivial
theorem frame_r : Cert.quiescent_Reference30Ideal := fun m ρ _ =>
  (θ_run _ _ _).mono (fun r h => ⟨fun c => (h c).2.2.2.2, sem_eq_zero_of_no_sems (by decide) r.2⟩)
    (Cert.Reference30Ideal.Value.run m ρ)

end Cert.Adam30

end

end
-- ==== Proof.Adam31.lean ====
/- The AdamW update of a leaf of which each core holds the gradient of half the rows: the whole gradient is one
   core's half above the other's, and each result element is the update of the same element of it, of the
   parameter and of the two moments; so is the reference's. -/
module

public import proofs.«01_k».proof.Proof.Gen.Kernel31.Frame
public import proofs.«01_k».proof.Proof.Gen.Kernel31Ideal.Frame
public import proofs.«01_k».proof.Proof.Gen.Reference31Ideal.Run
public import proofs.«01_k».proof.Proof.AdamSpec

@[expose] public section

set_option maxRecDepth 16384

noncomputable section

namespace Cert.Adam31

section
open Cert.Reference31Ideal Cert.Reference31Ideal.Gen Cert.Reference31Ideal.Value Idealize.ShloMosaic Idealize.ShloMosaic.TcCoe Idealize.SL.Sem

/-- A row's place in its half and in its block. -/
abbrev inHalf (a : Fin 704) : Fin 352 := ⟨a.val % 352, by omega⟩
abbrev inBlock (a : Fin 704) : Fin 176 := ⟨a.val % 176, by omega⟩

/-- The whole gradient at an element: this core's half where the row is in this core's half, else the other's. -/
def whole (x0 x1 : Vec Ideal S2x352x1024 .f32) (x2 : Vec Ideal S1 .i32) (l : Fin 2) (a : Fin 704) (b : Fin 1024) : Ideal .f32 :=
  if BitVec.ofNat 32 (a.val / 352) = x2 (ix1 (0 : Fin 1)) then x0 (ix3 l (inHalf a) b) else x1 (ix3 l (inHalf a) b)

/-- The reference's gradient. -/
def grad (x0 x1 : Vec Ideal S2x352x1024 .f32) (x2 : Vec Ideal S1 .i32) : Vec Ideal S2x704x1024 .f32 :=
  concatenate S2x704x1024 1 [⟨S2x352x1024, (select (broadcastInDim S2x352x1024 ![] bcast_S_S2x352x1024 (cmpi .eq (shapeCast _ x2 shapeCasts_S1_S_) (constantI S_ 32 0#32))) x0 x1)⟩, ⟨S2x352x1024, (select (broadcastInDim S2x352x1024 ![] bcast_S_S2x352x1024 (cmpi .eq (shapeCast _ x2 shapeCasts_S1_S_) (constantI S_ 32 1#32))) x0 x1)⟩] concatenates_S2x352x1024_S2x352x1024_S2x704x1024_d1

/-- It is the whole gradient. -/
theorem grad_apply (x0 x1 : Vec Ideal S2x352x1024 .f32) (x2 : Vec Ideal S1 .i32) (l : Fin 2) (a : Fin 704) (b : Fin 1024) :
    grad x0 x1 x2 (ix3 l a b) = whole x0 x1 x2 l a b := by
  unfold grad whole
  pointwise []
  by_cases h : a.val < 352
  · have h0 : a.val / 352 = 0 := by omega
    have h1 : (⟨a.val, h⟩ : Fin 352) = inHalf a := Fin.ext (show a.val = a.val % 352 by omega)
    rw [dif_pos h, h0, h1]
    by_cases e : BitVec.ofNat 32 0 = x2 (ix1 (0 : Fin 1))
    · rw [if_pos e]; exact if_pos (IntOp.cmpi_eq.mpr e.symm)
    · rw [if_neg e]; exact if_neg fun g => e (IntOp.cmpi_eq.mp g).symm
  · have h0 : a.val / 352 = 1 := by omega
    have h1 : (⟨a.val - 352, by omega⟩ : Fin 352) = inHalf a := Fin.ext (show a.val - 352 = a.val % 352 by omega)
    rw [dif_neg h, h0, h1]
    by_cases e : BitVec.ofNat 32 1 = x2 (ix1 (0 : Fin 1))
    · rw [if_pos e]; exact if_pos (IntOp.cmpi_eq.mpr e.symm)
    · rw [if_neg e]; exact if_neg fun g => e (IntOp.cmpi_eq.mp g).symm

end

section
open Cert.Kernel31Ideal Cert.Kernel31Ideal.Gen Idealize.ShloMosaic Idealize.ShloMosaic.TcCoe Idealize.SL.Sem

section
variable {F : FTy → Type} [FloatOps F]

/-- The core's number, as the kernel reads it off its table. -/
abbrev word (c : Dev nD) (xt0 : TbBuf0 (F := F) c tbM0_0) : Elt F .i32 := kernelRun0_A.sl.r c xt0

variable (c : Dev nD) (i : grid0.Coords) (arg4 : Memref sig .tc .vmem S1x176x1024 .f32) (harg4 : arg4.IsWhole) (arg5 : Memref sig .tc .vmem S1x176x1024 .f32) (harg5 : arg5.IsWhole) (arg6 : Memref sig .tc .vmem S1x176x1024 .f32) (harg6 : arg6.IsWhole) (arg7 : Memref sig .tc .vmem S1x176x1024 .f32) (harg7 : arg7.IsWhole) (arg8 : Memref sig .tc .vmem S1x176x1024 .f32) (harg8 : arg8.IsWhole) (arg9 : Memref sig .tc .vmem S1x176x1024 .f32) (harg9 : arg9.IsWhole) (arg10 : Memref sig .tc .vmem S1x176x1024 .f32) (harg10 : arg10.IsWhole) (arg11 : Memref sig .tc .vmem S1x176x1024 .f32) (harg11 : arg11.IsWhole) (arg12 : Memref sig .tc .vmem S1x176x1024 .f32) (harg12 : arg12.IsWhole)
  (x0 x1 x2 x3 x4 : Vec F S1x176x1024 .f32) (xt0 : TbBuf0 (F := F) c tbM0_0)

/-- What the body leaves in output window 5. -/
theorem out_5 : out0_A_5 c i arg4 harg4 arg5 harg5 arg6 harg6 arg7 harg7 arg8 harg8 arg9 harg9 arg10 harg10 arg11 harg11 arg12 harg12 x0 x1 x2 x3 x4 xt0 = k0_pay5 i (word c xt0) x0 x1 := by
  unfold out0_A_5
  rw [View.read_writes_eq_canon _ _ _ (fun _ => cover0_A_5 ..)]
  unfold kernelRun0_A
  dsimp only
  rw [View.canon_unit_zero hz3]
  simp only [View.readAt_eq_ld, harg4.read_unread, harg5.read_unread, harg6.read_unread, harg7.read_unread, harg8.read_unread, View.ld_unit_zero (S := S1x176x1024) hz3]

/-- What the body leaves in output window 6. -/
theorem out_6 : out0_A_6 c i arg4 harg4 arg5 harg5 arg6 harg6 arg7 harg7 arg8 harg8 arg9 harg9 arg10 harg10 arg11 harg11 arg12 harg12 x0 x1 x2 x3 x4 xt0 = k0_pay1 (k0_pay6 x2) (k0_pay9 i (word c xt0) x0 x1 x3) (k0_pay10 i (word c xt0) x0 x1 x4) := by
  unfold out0_A_6
  rw [View.read_writes_eq_canon _ _ _ (fun _ => cover0_A_6 ..)]
  unfold kernelRun0_A
  dsimp only
  rw [View.canon_unit_zero hz3]
  unfold kernelRun0_A.sl.r_1 kernelRun0_A.sl.r_4 kernelRun0_A.sl.r_5
  simp only [View.readAt_eq_ld, harg4.read_unread, harg5.read_unread, harg6.read_unread, harg7.read_unread, harg8.read_unread, View.ld_unit_zero (S := S1x176x1024) hz3]

/-- What the body leaves in output window 7. -/
theorem out_7 : out0_A_7 c i arg4 harg4 arg5 harg5 arg6 harg6 arg7 harg7 arg8 harg8 arg9 harg9 arg10 harg10 arg11 harg11 arg12 harg12 x0 x1 x2 x3 x4 xt0 = k0_pay2 (k0_pay7 i (word c xt0) x0 x1 x3) := by
  unfold out0_A_7
  rw [View.read_writes_eq_canon _ _ _ (fun _ => cover0_A_7 ..)]
  unfold kernelRun0_A
  dsimp only
  rw [View.canon_unit_zero hz3]
  unfold kernelRun0_A.sl.r_2
  simp only [View.readAt_eq_ld, harg4.read_unread, harg5.read_unread, harg6.read_unread, harg7.read_unread, harg8.read_unread, View.ld_unit_zero (S := S1x176x1024) hz3]

/-- What the body leaves in output window 8. -/
theorem out_8 : out0_A_8 c i arg4 harg4 arg5 harg5 arg6 harg6 arg7 harg7 arg8 harg8 arg9 harg9 arg10 harg10 arg11 harg11 arg12 harg12 x0 x1 x2 x3 x4 xt0 = k0_pay3 (k0_pay8 i (word c xt0) x0 x1 x4) := by
  unfold out0_A_8
  rw [View.read_writes_eq_canon _ _ _ (fun _ => cover0_A_8 ..)]
  unfold kernelRun0_A
  dsimp only
  rw [View.canon_unit_zero hz3]
  unfold kernelRun0_A.sl.r_3
  simp only [View.readAt_eq_ld, harg4.read_unread, harg5.read_unread, harg6.read_unread, harg7.read_unread, harg8.read_unread, View.ld_unit_zero (S := S1x176x1024) hz3]

end

attribute [local irreducible] k0_pay1 k0_pay2 k0_pay3 k0_pay5 out0_A_5 out0_A_6 out0_A_7 out0_A_8 Pipeline.Dat.arrAt

variable (m : (ℓ : Loc nD τ sig) → Buf (Elt Ideal) ℓ)

/-- The tables are as the call needs them: no index map reads one. -/
theorem ok : Ok m := trivial

/-- The pipeline, its data on a core, and the blocks its input windows take. -/
abbrev cf : Pipeline.Cfg sig Λ₀ := cfgM m (ok m)
abbrev dat (c : Dev nD) := dats m (ok m) 0 c

/-- The arguments: the two halves of the gradient, the core's number, the parameter and the two moments. -/
abbrev mine (c : Dev nD) : Vec Ideal S2x352x1024 .f32 := m ((c : Thread nD τ).loc main_arg0)
abbrev theirs (c : Dev nD) : Vec Ideal S2x352x1024 .f32 := m ((c : Thread nD τ).loc main_arg1)
abbrev number (c : Dev nD) : Vec Ideal S1 .i32 := m ((c : Thread nD τ).loc main_arg2)
abbrev par (c : Dev nD) : Vec Ideal S2x704x1024 .f32 := m ((c : Thread nD τ).loc main_arg3)
abbrev mom (c : Dev nD) : Vec Ideal S2x704x1024 .f32 := m ((c : Thread nD τ).loc main_arg4)
abbrev var (c : Dev nD) : Vec Ideal S2x704x1024 .f32 := m ((c : Thread nD τ).loc main_arg5)

/-- The gradient block a point takes, at an element. -/
theorem pay4_apply (i : grid0.Coords) (n : BitVec 32) (x0 x1 : Vec Ideal S1x176x1024 .f32) (p : Fin 176) (q : Fin 1024) :
    k0_pay4 i n x0 x1 (ix2 p q) = if BitVec.ofNat 32 (i 1).val = n then x0 (ix3 (0 : Fin 1) p q) else x1 (ix3 (0 : Fin 1) p q) := by
  pointwise [k0_pay4]
  by_cases h : BitVec.ofNat 32 (i 1).val = n
  · rw [if_pos h]; exact if_pos (IntOp.cmpi_eq.mpr h)
  · rw [if_neg h]; exact if_neg fun e => h (IntOp.cmpi_eq.mp e)

section
variable (i : grid0.Coords) (n : BitVec 32) (x0 x1 x2 x3 x4 : Vec Ideal S1x176x1024 .f32) (p : Fin 176) (q : Fin 1024)

/-- What a point writes to each output window, at an element. -/
theorem pay5_apply : k0_pay5 i n x0 x1 (ix3 (0 : Fin 1) p q) =  k0_pay4 i n x0 x1 (ix2 p q)  := by
  pointwise [k0_pay5, k0_pay1, k0_pay2, k0_pay3, k0_pay6, k0_pay7, k0_pay8, k0_pay9, k0_pay10]

theorem pay6_apply : k0_pay1 (k0_pay6 x2) (k0_pay9 i n x0 x1 x3) (k0_pay10 i n x0 x1 x4) (ix3 (0 : Fin 1) p q) = AdamSpec.step (k0_pay4 i n x0 x1 (ix2 p q)) (x2 (ix3 (0 : Fin 1) p q)) (x3 (ix3 (0 : Fin 1) p q)) (x4 (ix3 (0 : Fin 1) p q)) := by
  pointwise [k0_pay5, k0_pay1, k0_pay2, k0_pay3, k0_pay6, k0_pay7, k0_pay8, k0_pay9, k0_pay10]
  rfl

theorem pay7_apply : k0_pay2 (k0_pay7 i n x0 x1 x3) (ix3 (0 : Fin 1) p q) = AdamSpec.mom1 (k0_pay4 i n x0 x1 (ix2 p q)) (x3 (ix3 (0 : Fin 1) p q)) := by
  pointwise [k0_pay5, k0_pay1, k0_pay2, k0_pay3, k0_pay6, k0_pay7, k0_pay8, k0_pay9, k0_pay10]
  rfl

theorem pay8_apply : k0_pay3 (k0_pay8 i n x0 x1 x4) (ix3 (0 : Fin 1) p q) = AdamSpec.mom2 (k0_pay4 i n x0 x1 (ix2 p q)) (x4 (ix3 (0 : Fin 1) p q)) := by
  pointwise [k0_pay5, k0_pay1, k0_pay2, k0_pay3, k0_pay6, k0_pay7, k0_pay8, k0_pay9, k0_pay10]
  rfl

end

/-- The point that writes a row. -/
theorem point_of (l : Fin 2) (a : Fin 704) : ∃ t : Fin (cf m).N, t.val = (l.val * 2 + a.val / 352) * 2 + a.val % 352 / 176 ∧ (grid0.coords t 1).val = a.val / 352 := by
  have hN : (cf m).N = 8 := N_0
  refine ⟨⟨(l.val * 2 + a.val / 352) * 2 + a.val % 352 / 176, by omega⟩, rfl, ?_⟩
  exact ((by decide +kernel : ∀ t : Fin grid0.N, (grid0.coords t 1).val = t.val / 2 % 2) _).trans (by show ((l.val * 2 + a.val / 352) * 2 + a.val % 352 / 176) / 2 % 2 = a.val / 352; omega)

section
variable {t : Fin (cf m).N} {l : Fin 2} {a : Fin 704} {b : Fin 1024} (ht : t.val = (l.val * 2 + a.val / 352) * 2 + a.val % 352 / 176)
include ht

/-- A point's block of a half of the gradient. -/
theorem emb_half : (((cf m).win 0).blk t).view.emb (ix3 (0 : Fin 1) (inBlock a) b) = ix3 l (inHalf a) b := by
  have hi := (by decide +kernel : ∀ t : Fin grid0.N, cc0_transform_0 (grid0.coords t) 0 = t.val / 4 ∧ cc0_transform_0 (grid0.coords t) 1 = t.val % 2 ∧ cc0_transform_0 (grid0.coords t) 2 = 0) t
  refine funext fun d => Fin.ext ?_
  match d with
  | ⟨0, _⟩ => show cc0_transform_0 (grid0.coords t) 0 * 1 + 1 * 0 = l.val; rw [hi.1]; omega
  | ⟨1, _⟩ => show cc0_transform_0 (grid0.coords t) 1 * 176 + 1 * (a.val % 176) = a.val % 352; rw [hi.2.1]; omega
  | ⟨2, _⟩ => show cc0_transform_0 (grid0.coords t) 2 * 1024 + 1 * b.val = b.val; rw [hi.2.2]; omega

/-- A point's block of any other array: their index maps are the same. -/
theorem emb_whole : (((cf m).win 2).blk t).view.emb (ix3 (0 : Fin 1) (inBlock a) b) = ix3 l a b := by
  have hi := (by decide +kernel : ∀ t : Fin grid0.N, cc0_transform_2 (grid0.coords t) 0 = t.val / 4 ∧ cc0_transform_2 (grid0.coords t) 1 = t.val / 2 % 2 * 2 + t.val % 2 ∧ cc0_transform_2 (grid0.coords t) 2 = 0) t
  refine funext fun d => Fin.ext ?_
  match d with
  | ⟨0, _⟩ => show cc0_transform_2 (grid0.coords t) 0 * 1 + 1 * 0 = l.val; rw [hi.1]; omega
  | ⟨1, _⟩ => show cc0_transform_2 (grid0.coords t) 1 * 176 + 1 * (a.val % 176) = a.val; rw [hi.2.1]; omega
  | ⟨2, _⟩ => show cc0_transform_2 (grid0.coords t) 2 * 1024 + 1 * b.val = b.val; rw [hi.2.2]; omega

variable (c : Dev nD)

/-- The input blocks, at an element. -/
theorem block_0 : (iblk m (ok m) c 0 t : Vec Ideal S1x176x1024 .f32) (ix3 (0 : Fin 1) (inBlock a) b) = mine m c (ix3 l (inHalf a) b) :=
  congrArg (mine m c) (emb_half m ht)
theorem block_1 : (iblk m (ok m) c 1 t : Vec Ideal S1x176x1024 .f32) (ix3 (0 : Fin 1) (inBlock a) b) = theirs m c (ix3 l (inHalf a) b) :=
  congrArg (theirs m c) (emb_half m ht)
theorem block_2 : (iblk m (ok m) c 2 t : Vec Ideal S1x176x1024 .f32) (ix3 (0 : Fin 1) (inBlock a) b) = par m c (ix3 l a b) :=
  congrArg (par m c) (emb_whole m ht)
theorem block_3 : (iblk m (ok m) c 3 t : Vec Ideal S1x176x1024 .f32) (ix3 (0 : Fin 1) (inBlock a) b) = mom m c (ix3 l a b) :=
  congrArg (mom m c) (emb_whole m ht)
theorem block_4 : (iblk m (ok m) c 4 t : Vec Ideal S1x176x1024 .f32) (ix3 (0 : Fin 1) (inBlock a) b) = var m c (ix3 l a b) :=
  congrArg (var m c) (emb_whole m ht)

end

/-- Two points' blocks of an output window share no element. -/
theorem disj (t t' : Fin (cf m).N) (hne : t ≠ t') : Disjoint (((cf m).win 5).blk t).view.set (((cf m).win 5).blk t').view.set :=
  ((cf m).win 5).disjoint_blk fun h => hne
    ((by decide +kernel : ∀ t t' : Fin grid0.N, cc0_transform_5 (grid0.coords t) = cc0_transform_5 (grid0.coords t') → t = t') t t' h)

/-- The read of the table, of any contents. -/
theorem word_at (xt : TbBuf0 (F := Ideal) (0 : Dev nD) tbM0_0) : word (0 : Dev nD) xt = (xt : Vec Ideal S1 .i32) (ix1 (0 : Fin 1)) := by
  unfold word kernelRun0_A.sl.r
  rw [View.readAt_eq_ld, View.ld_unit_zero (S := S1) hz1, View.read_apply]
  refine congrArg (xt : Vec Ideal S1 .i32) ?_
  funext a
  match a with
  | ⟨0, _⟩ => exact Subsingleton.elim (α := Fin 1) _ _

/-- Its number is the one the pipeline's table holds. -/
theorem word_eq (c : Dev nD) : word c (tbl m 0) = number m c (ix1 (0 : Fin 1)) := by
  obtain rfl : c = 0 := Subsingleton.elim _ _
  exact word_at (tbl m 0)

/-- The gradient block a point takes. -/
theorem taken (c : Dev nD) {t : Fin (cf m).N} {l : Fin 2} {a : Fin 704} {b : Fin 1024} (ht : t.val = (l.val * 2 + a.val / 352) * 2 + a.val % 352 / 176) (hc : (grid0.coords t 1).val = a.val / 352) :
    k0_pay4 (grid0.coords t) (word c (tbl m 0)) (iblk m (ok m) c 0 t) (iblk m (ok m) c 1 t) (ix2 (inBlock a) b) = grad (mine m c) (theirs m c) (number m c) (ix3 l a b) := by
  rw [grad_apply, pay4_apply (grid0.coords t) (word c (tbl m 0)) (iblk m (ok m) c 0 t) (iblk m (ok m) c 1 t), word_eq m c, hc, block_0 m ht c, block_1 m ht c]
  rfl

/-- An element of result 5. -/
theorem result5 (c : Dev nD) (l : Fin 2) (a : Fin 704) (b : Fin 1024) :
    ((dat m c).arrAt 5 (cf m).N : Vec Ideal S2x704x1024 .f32) (ix3 l a b) = grad (mine m c) (theirs m c) (number m c) (ix3 l a b) := by
  obtain ⟨t, ht, hc⟩ := point_of m l a
  refine (congrArg ((dat m c).arrAt 5 (cf m).N) (emb_whole m ht).symm).trans (((dat m c).arrAt_emb_eq_flushed 5 (fun t t' _ _ h => disj m t t' h) t (flush0_5 (adm m (ok m)) t) _).trans
    ((congrFun ((after0_5 ..).trans (out_5 ..)) _).trans ((pay5_apply ..).trans ?_)))
  rw [taken m c ht hc]

/-- An element of result 6. -/
theorem result6 (c : Dev nD) (l : Fin 2) (a : Fin 704) (b : Fin 1024) :
    ((dat m c).arrAt 6 (cf m).N : Vec Ideal S2x704x1024 .f32) (ix3 l a b) = AdamSpec.step (grad (mine m c) (theirs m c) (number m c) (ix3 l a b)) (par m c (ix3 l a b)) (mom m c (ix3 l a b)) (var m c (ix3 l a b)) := by
  obtain ⟨t, ht, hc⟩ := point_of m l a
  refine (congrArg ((dat m c).arrAt 6 (cf m).N) (emb_whole m ht).symm).trans (((dat m c).arrAt_emb_eq_flushed 6 (fun t t' _ _ h => disj m t t' h) t (flush0_6 (adm m (ok m)) t) _).trans
    ((congrFun ((after0_6 ..).trans (out_6 ..)) _).trans ((pay6_apply ..).trans ?_)))
  rw [taken m c ht hc, block_2 m ht c, block_3 m ht c, block_4 m ht c]

/-- An element of result 7. -/
theorem result7 (c : Dev nD) (l : Fin 2) (a : Fin 704) (b : Fin 1024) :
    ((dat m c).arrAt 7 (cf m).N : Vec Ideal S2x704x1024 .f32) (ix3 l a b) = AdamSpec.mom1 (grad (mine m c) (theirs m c) (number m c) (ix3 l a b)) (mom m c (ix3 l a b)) := by
  obtain ⟨t, ht, hc⟩ := point_of m l a
  refine (congrArg ((dat m c).arrAt 7 (cf m).N) (emb_whole m ht).symm).trans (((dat m c).arrAt_emb_eq_flushed 7 (fun t t' _ _ h => disj m t t' h) t (flush0_7 (adm m (ok m)) t) _).trans
    ((congrFun ((after0_7 ..).trans (out_7 ..)) _).trans ((pay7_apply ..).trans ?_)))
  rw [taken m c ht hc, block_3 m ht c]

/-- An element of result 8. -/
theorem result8 (c : Dev nD) (l : Fin 2) (a : Fin 704) (b : Fin 1024) :
    ((dat m c).arrAt 8 (cf m).N : Vec Ideal S2x704x1024 .f32) (ix3 l a b) = AdamSpec.mom2 (grad (mine m c) (theirs m c) (number m c) (ix3 l a b)) (var m c (ix3 l a b)) := by
  obtain ⟨t, ht, hc⟩ := point_of m l a
  refine (congrArg ((dat m c).arrAt 8 (cf m).N) (emb_whole m ht).symm).trans (((dat m c).arrAt_emb_eq_flushed 8 (fun t t' _ _ h => disj m t t' h) t (flush0_8 (adm m (ok m)) t) _).trans
    ((congrFun ((after0_8 ..).trans (out_8 ..)) _).trans ((pay8_apply ..).trans ?_)))
  rw [taken m c ht hc, block_4 m ht c]

end

open Idealize.ShloMosaic Idealize.ShloMosaic.TcCoe Idealize.SL.Sem

/-- Kernel and reference end with equal results. -/
theorem algebraic : Cert.algebraic_Kernel31Ideal_Reference31Ideal := by
  intro m ρ m' ρ' _ hagree
  refine ⟨fun c => (dat m c).arrAt 5 (cf m).N, fun c => (dat m c).arrAt 6 (cf m).N, fun c => (dat m c).arrAt 7 (cf m).N,
    fun c => (dat m c).arrAt 8 (cf m).N, (θ_run Cert.Kernel31Ideal.defs _ _).mono (fun r h c => ⟨(h.1 c).1 5, (h.1 c).1 6, (h.1 c).1 7, (h.1 c).1 8, h.2 c⟩)
      (θ_run_and (Cert.Kernel31Ideal.Gen.run_main m ρ (ok m)) (Cert.Kernel31Ideal.Gen.unchanged m ρ (ok m))), ?_⟩
  refine (θ_run _ _ _).mono (fun _ h c => ?_) (Cert.Reference31Ideal.Value.run m' ρ')
  obtain ⟨h0, h1, h2, h3, h4, h5⟩ := hagree c
  refine ⟨(h c).1.trans ?_, (h c).2.1.trans ?_, (h c).2.2.1.trans ?_, (h c).2.2.2.1.trans ?_, (h c).2.2.2.2⟩
  · rw [h0, h1, h2]
    exact ext3 fun l a b => (result5 m c l a b).symm
  · rw [h0, h1, h2, h3, h4, h5]
    exact ext3 fun l a b => (result6 m c l a b).symm
  · rw [h0, h1, h2, h4]
    exact ext3 fun l a b => (result7 m c l a b).symm
  · rw [h0, h1, h2, h5]
    exact ext3 fun l a b => (result8 m c l a b).symm

/-- The frames of the three programs. -/
theorem frame_p : Cert.quiescent_Kernel31 := fun m ρ _ => Cert.Kernel31.Gen.frame m ρ trivial
theorem frame_i : Cert.quiescent_Kernel31Ideal := fun m ρ _ => Cert.Kernel31Ideal.Gen.frame m ρ trivial
theorem frame_r : Cert.quiescent_Reference31Ideal := fun m ρ _ =>
  (θ_run _ _ _).mono (fun r h => ⟨fun c => (h c).2.2.2.2, sem_eq_zero_of_no_sems (by decide) r.2⟩)
    (Cert.Reference31Ideal.Value.run m ρ)

end Cert.Adam31

end

end
-- ==== Proof.Residual.lean ====
/- The residual: `x` plus the gate times the branch, element by element, in blocks of 512 rows; so is the reference. -/
module

public import proofs.«01_k».proof.Proof.Gen.Kernel32.Frame
public import proofs.«01_k».proof.Proof.Gen.Kernel32Ideal.Value
public import proofs.«01_k».proof.Proof.Gen.Reference32Ideal.Run
public import proofs.«01_k».proof.Proof.Base

@[expose] public section

set_option maxRecDepth 16384

noncomputable section

namespace Cert.Residual

section
open Cert.Kernel32Ideal Cert.Kernel32Ideal.Gen Cert.Kernel32Ideal.Value Idealize.ShloMosaic Idealize.ShloMosaic.TcCoe Idealize.SL.Sem

variable (m : (ℓ : Loc nD τ sig) → Buf (Elt Ideal) ℓ)

/-- The arguments. -/
abbrev src0 (c : Dev nD) : Vec Ideal S4096x1024 .f32 := m ((c : Thread nD τ).loc main_arg0)
abbrev src1 (c : Dev nD) : Vec Ideal S1x1024 .f32 := m ((c : Thread nD τ).loc main_arg1)
abbrev src2 (c : Dev nD) : Vec Ideal S4096x1024 .f32 := m ((c : Thread nD τ).loc main_arg2)

/-- An element of the sum. -/
def elem (x g y : Ideal .f32) : Ideal .f32 := x + g * y

/-- The block of argument 0 that point `t` reads, at an element. -/
theorem block_0 (c : Dev nD) (t : Fin cfg0.N) (l0 : Fin 512) (l1 : Fin 1024) (i : S4096x1024.Idx)
    (h0 : (i 0).val = (t.val) * 512 + l0.val) (h1 : (i 1).val = (0) * 1024 + l1.val) :
    (iblk m c 0 t : Vec Ideal S512x1024 .f32) (ix2 l0 l1) = src0 m c i := by
  have hi := (by decide +kernel : ∀ t : Fin grid0.N, win0_0.index t 0 = t.val ∧ win0_0.index t 1 = 0) t
  refine congrArg (src0 m c) (funext fun a => Fin.ext ?_)
  match a with
  | ⟨0, _⟩ => show win0_0.index t 0 * 512 + 1 * l0.val = (i 0).val; rw [hi.1, h0]; omega
  | ⟨1, _⟩ => show win0_0.index t 1 * 1024 + 1 * l1.val = (i 1).val; rw [hi.2, h1]; omega

/-- The block of argument 1 that point `t` reads, at an element. -/
theorem block_1 (c : Dev nD) (t : Fin cfg0.N) (l0 : Fin 1) (l1 : Fin 1024) (i : S1x1024.Idx)
    (h0 : (i 0).val = (0) * 1 + l0.val) (h1 : (i 1).val = (0) * 1024 + l1.val) :
    (iblk m c 1 t : Vec Ideal S1x1024 .f32) (ix2 l0 l1) = src1 m c i := by
  have hi := (by decide +kernel : ∀ t : Fin grid0.N, win0_1.index t 0 = 0 ∧ win0_1.index t 1 = 0) t
  refine congrArg (src1 m c) (funext fun a => Fin.ext ?_)
  match a with
  | ⟨0, _⟩ => show win0_1.index t 0 * 1 + 1 * l0.val = (i 0).val; rw [hi.1, h0]; omega
  | ⟨1, _⟩ => show win0_1.index t 1 * 1024 + 1 * l1.val = (i 1).val; rw [hi.2, h1]; omega

/-- The block of argument 2 that point `t` reads, at an element. -/
theorem block_2 (c : Dev nD) (t : Fin cfg0.N) (l0 : Fin 512) (l1 : Fin 1024) (i : S4096x1024.Idx)
    (h0 : (i 0).val = (t.val) * 512 + l0.val) (h1 : (i 1).val = (0) * 1024 + l1.val) :
    (iblk m c 2 t : Vec Ideal S512x1024 .f32) (ix2 l0 l1) = src2 m c i := by
  have hi := (by decide +kernel : ∀ t : Fin grid0.N, win0_2.index t 0 = t.val ∧ win0_2.index t 1 = 0) t
  refine congrArg (src2 m c) (funext fun a => Fin.ext ?_)
  match a with
  | ⟨0, _⟩ => show win0_2.index t 0 * 512 + 1 * l0.val = (i 0).val; rw [hi.1, h0]; omega
  | ⟨1, _⟩ => show win0_2.index t 1 * 1024 + 1 * l1.val = (i 1).val; rw [hi.2, h1]; omega

/-- What a point writes, at an element. -/
theorem out_apply (x0 : Vec Ideal S512x1024 .f32) (x1 : Vec Ideal S1x1024 .f32) (x2 : Vec Ideal S512x1024 .f32) (p : Fin 512) (q : Fin 1024) :
    (out0_3 x0 x1 x2 : Vec Ideal S512x1024 .f32) (ix2 p q) = elem (x0 (ix2 p q)) (x1 (ix2 (0 : Fin 1) q)) (x2 (ix2 p q)) := by
  unfold out0_3
  rw [View.canon_unit_zero hz2]
  simp only [View.ld_unit_zero (S := S512x1024) hz2, View.ld_unit_zero (S := S1x1024) hz2]
  pointwise [k0_pay1, elem]

/-- An element of the result. -/
theorem result3 (c : Dev nD) (p0 : Fin 4096) (p1 : Fin 1024) :
    ((dats m 0 c).arrAt 3 cfg0.N : Vec Ideal S4096x1024 .f32) (ix2 p0 p1) = elem (src0 m c (ix2 p0 p1)) (src1 m c (ix2 (0 : Fin 1) p1)) (src2 m c (ix2 p0 p1)) := by
  have hN : cfg0.N = 8 := N_0
  obtain ⟨t, ht⟩ : ∃ t : Fin cfg0.N, t.val = p0.val / 512 := ⟨⟨p0.val / 512, by omega⟩, rfl⟩
  have hf : (cfg0.win 3).flush t = true := (by decide +kernel : ∀ t : Fin grid0.N, win0_3.flush t = true) t
  have e := congrFun (blocks3 m c t hf) (ix2 (⟨p0.val % 512, by omega⟩ : Fin 512) (⟨p1.val % 1024, by omega⟩ : Fin 1024))
  rw [View.read_apply, flushed3] at e
  have hi := (by decide +kernel : ∀ t : Fin grid0.N, win0_3.index t 0 = t.val ∧ win0_3.index t 1 = 0) t
  have hidx : ((cfg0.win 3).blk t).view.emb (ix2 (⟨p0.val % 512, by omega⟩ : Fin 512) (⟨p1.val % 1024, by omega⟩ : Fin 1024)) = ix2 p0 p1 := by
    refine funext fun d => Fin.ext ?_
    match d with
    | ⟨0, _⟩ => show win0_3.index t 0 * 512 + 1 * (p0.val % 512) = p0.val; rw [hi.1]; omega
    | ⟨1, _⟩ => show win0_3.index t 1 * 1024 + 1 * (p1.val % 1024) = p1.val; rw [hi.2]; omega
  rw [hidx] at e
  refine e.trans ?_
  refine (out_apply (iblk m c 0 t) (iblk m c 1 t) (iblk m c 2 t) _ _).trans ?_
  rw [block_0 m c t _ _ (ix2 p0 p1) (by simp <;> omega) (by simp <;> omega), block_1 m c t _ _ (ix2 (0 : Fin 1) p1) (by simp <;> omega) (by simp <;> omega),
    block_2 m c t _ _ (ix2 p0 p1) (by simp <;> omega) (by simp <;> omega)]

end

open Idealize.ShloMosaic Idealize.ShloMosaic.TcCoe Idealize.SL.Sem

/-- Kernel and reference end with equal results. -/
theorem algebraic : Cert.algebraic_Kernel32Ideal_Reference32Ideal := by
  intro m ρ m' ρ' _ hagree
  refine ⟨fun c => (Cert.Kernel32Ideal.Gen.dats m 0 c).arrAt 3 Cert.Kernel32Ideal.cfg0.N, Cert.Kernel32Ideal.Value.run_blocks (F := Ideal) m ρ, ?_⟩
  refine (θ_run _ _ _).mono (fun _ h c => ?_) (Cert.Reference32Ideal.Value.run m' ρ')
  obtain ⟨h0, h1, h2⟩ : _ = src0 m c ∧ _ = src1 m c ∧ _ = src2 m c := hagree c
  refine ⟨(h c).1.trans ?_, (h c).2⟩
  · rw [h0, h1, h2]
    refine funext fun (j : Cert.Kernel32Ideal.S4096x1024.Idx) => ?_
    obtain ⟨p0, p1, rfl⟩ : ∃ (p0 : Fin 4096) (p1 : Fin 1024), j = ix2 p0 p1 := ⟨j 0, j 1, eq_ix2 j⟩
    refine Eq.trans ?_ (result3 m c p0 p1).symm
    generalize src0 m c = x0
    generalize src1 m c = x1
    generalize src2 m c = x2
    pointwise [elem]

/-- The frames of the three programs. -/
theorem frame_p : Cert.quiescent_Kernel32 := fun m ρ _ => Cert.Kernel32.Gen.frame m ρ
theorem frame_i : Cert.quiescent_Kernel32Ideal := fun m ρ _ => Cert.Kernel32Ideal.Gen.frame m ρ
theorem frame_r : Cert.quiescent_Reference32Ideal := fun m ρ _ =>
  (θ_run _ _ _).mono (fun r h => ⟨fun c => (h c).2, sem_eq_zero_of_no_sems (by decide) r.2⟩)
    (Cert.Reference32Ideal.Value.run m ρ)

end Cert.Residual

end

end
-- ==== Proof.NormMod.lean ====
/- The norm of a row with scale and shift, in blocks of 512 rows. -/
module

public import proofs.«01_k».proof.Proof.Gen.Kernel33.Frame
public import proofs.«01_k».proof.Proof.Gen.Kernel33Ideal.Value
public import proofs.«01_k».proof.Proof.Gen.Reference33Ideal.Run
public import proofs.«01_k».proof.Proof.Base

@[expose] public section

set_option maxRecDepth 16384

noncomputable section

namespace Cert.NormMod

section
open Cert.Kernel33Ideal Cert.Kernel33Ideal.Gen Cert.Kernel33Ideal.Value Idealize.ShloMosaic Idealize.ShloMosaic.TcCoe Idealize.SL.Sem

variable (m : (ℓ : Loc nD τ sig) → Buf (Elt Ideal) ℓ)

/-- The arguments. -/
abbrev src0 (c : Dev nD) : Vec Ideal S4096x1024 .f32 := m ((c : Thread nD τ).loc main_arg0)
abbrev src1 (c : Dev nD) : Vec Ideal S1x1024 .f32 := m ((c : Thread nD τ).loc main_arg1)
abbrev src2 (c : Dev nD) : Vec Ideal S1x1024 .f32 := m ((c : Thread nD τ).loc main_arg2)

/-- An element of a normalised, scaled and shifted row. -/
def elem (x : Fin 1024 → Ideal .f32) (s h : Ideal .f32) (b : Fin 1024) : Ideal .bf16 :=
  x b * Ideal.rsqrt (Ideal.div (∑ k, x k * x k) (Ideal.ofBits FTy.f32 1149239296#32) + Ideal.ofBits FTy.f32 897988541#32) * (1 + s) + h
/-- The block of argument 0 that point `t` reads, at an element. -/
theorem block_0 (c : Dev nD) (t : Fin cfg0.N) (l0 : Fin 512) (l1 : Fin 1024) (i : S4096x1024.Idx)
    (h0 : (i 0).val = (t.val) * 512 + l0.val) (h1 : (i 1).val = (0) * 1024 + l1.val) :
    (iblk m c 0 t : Vec Ideal S512x1024 .f32) (ix2 l0 l1) = src0 m c i := by
  have hi := (by decide +kernel : ∀ t : Fin grid0.N, win0_0.index t 0 = t.val ∧ win0_0.index t 1 = 0) t
  refine congrArg (src0 m c) (funext fun a => Fin.ext ?_)
  match a with
  | ⟨0, _⟩ => show win0_0.index t 0 * 512 + 1 * l0.val = (i 0).val; rw [hi.1, h0]; omega
  | ⟨1, _⟩ => show win0_0.index t 1 * 1024 + 1 * l1.val = (i 1).val; rw [hi.2, h1]; omega

/-- The block of argument 1 that point `t` reads, at an element. -/
theorem block_1 (c : Dev nD) (t : Fin cfg0.N) (l0 : Fin 1) (l1 : Fin 1024) (i : S1x1024.Idx)
    (h0 : (i 0).val = (0) * 1 + l0.val) (h1 : (i 1).val = (0) * 1024 + l1.val) :
    (iblk m c 1 t : Vec Ideal S1x1024 .f32) (ix2 l0 l1) = src1 m c i := by
  have hi := (by decide +kernel : ∀ t : Fin grid0.N, win0_1.index t 0 = 0 ∧ win0_1.index t 1 = 0) t
  refine congrArg (src1 m c) (funext fun a => Fin.ext ?_)
  match a with
  | ⟨0, _⟩ => show win0_1.index t 0 * 1 + 1 * l0.val = (i 0).val; rw [hi.1, h0]; omega
  | ⟨1, _⟩ => show win0_1.index t 1 * 1024 + 1 * l1.val = (i 1).val; rw [hi.2, h1]; omega

/-- The block of argument 2 that point `t` reads, at an element. -/
theorem block_2 (c : Dev nD) (t : Fin cfg0.N) (l0 : Fin 1) (l1 : Fin 1024) (i : S1x1024.Idx)
    (h0 : (i 0).val = (0) * 1 + l0.val) (h1 : (i 1).val = (0) * 1024 + l1.val) :
    (iblk m c 2 t : Vec Ideal S1x1024 .f32) (ix2 l0 l1) = src2 m c i := by
  have hi := (by decide +kernel : ∀ t : Fin grid0.N, win0_2.index t 0 = 0 ∧ win0_2.index t 1 = 0) t
  refine congrArg (src2 m c) (funext fun a => Fin.ext ?_)
  match a with
  | ⟨0, _⟩ => show win0_2.index t 0 * 1 + 1 * l0.val = (i 0).val; rw [hi.1, h0]; omega
  | ⟨1, _⟩ => show win0_2.index t 1 * 1024 + 1 * l1.val = (i 1).val; rw [hi.2, h1]; omega

/-- What a point writes, at an element. -/
theorem out_apply (x0 : Vec Ideal S512x1024 .f32) (x1 x2 : Vec Ideal S1x1024 .f32) (p : Fin 512) (q : Fin 1024) :
    (out0_3 x0 x1 x2 : Vec Ideal S512x1024 .bf16) (ix2 p q) = elem (fun k => x0 (ix2 p k)) (x1 (ix2 (0 : Fin 1) q)) (x2 (ix2 (0 : Fin 1) q)) q := by
  unfold out0_3
  rw [View.canon_unit_zero hz2]
  simp only [View.ld_unit_zero (S := S512x1024) hz2, View.ld_unit_zero (S := S1x1024) hz2]
  pointwise [k0_pay1, elem]

/-- An element of the result. -/
theorem result3 (c : Dev nD) (p0 : Fin 4096) (p1 : Fin 1024) :
    ((dats m 0 c).arrAt 3 cfg0.N : Vec Ideal S4096x1024 .bf16) (ix2 p0 p1) = elem (fun k => src0 m c (ix2 p0 k)) (src1 m c (ix2 (0 : Fin 1) p1)) (src2 m c (ix2 (0 : Fin 1) p1)) p1 := by
  have hN : cfg0.N = 8 := N_0
  obtain ⟨t, ht⟩ : ∃ t : Fin cfg0.N, t.val = p0.val / 512 := ⟨⟨p0.val / 512, by omega⟩, rfl⟩
  have hf : (cfg0.win 3).flush t = true := (by decide +kernel : ∀ t : Fin grid0.N, win0_3.flush t = true) t
  have e := congrFun (blocks3 m c t hf) (ix2 (⟨p0.val % 512, by omega⟩ : Fin 512) (⟨p1.val % 1024, by omega⟩ : Fin 1024))
  rw [View.read_apply, flushed3] at e
  have hi := (by decide +kernel : ∀ t : Fin grid0.N, win0_3.index t 0 = t.val ∧ win0_3.index t 1 = 0) t
  have hidx : ((cfg0.win 3).blk t).view.emb (ix2 (⟨p0.val % 512, by omega⟩ : Fin 512) (⟨p1.val % 1024, by omega⟩ : Fin 1024)) = ix2 p0 p1 := by
    refine funext fun d => Fin.ext ?_
    match d with
    | ⟨0, _⟩ => show win0_3.index t 0 * 512 + 1 * (p0.val % 512) = p0.val; rw [hi.1]; omega
    | ⟨1, _⟩ => show win0_3.index t 1 * 1024 + 1 * (p1.val % 1024) = p1.val; rw [hi.2]; omega
  rw [hidx] at e
  refine e.trans ?_
  refine (out_apply (iblk m c 0 t) (iblk m c 1 t) (iblk m c 2 t) _ _).trans ?_
  have hq : (⟨p1.val % 1024, by omega⟩ : Fin 1024) = p1 := Fin.ext (by simp <;> omega)
  rw [hq]
  have hx : (fun k => (iblk m c 0 t : Vec Ideal S512x1024 .f32) (ix2 (⟨p0.val % 512, by omega⟩ : Fin 512) k)) = fun k => src0 m c (ix2 p0 k) :=
    funext fun k => block_0 m c t _ k (ix2 p0 k) (by simp <;> omega) (by simp <;> omega)
  rw [hx, block_1 m c t 0 p1 (ix2 (0 : Fin 1) p1) (by simp <;> omega) (by simp <;> omega),
    block_2 m c t 0 p1 (ix2 (0 : Fin 1) p1) (by simp <;> omega) (by simp <;> omega)]

end

open Idealize.ShloMosaic Idealize.ShloMosaic.TcCoe Idealize.SL.Sem

/-- Kernel and reference end with equal results. -/
theorem algebraic : Cert.algebraic_Kernel33Ideal_Reference33Ideal := by
  intro m ρ m' ρ' _ hagree
  refine ⟨fun c => (Cert.Kernel33Ideal.Gen.dats m 0 c).arrAt 3 Cert.Kernel33Ideal.cfg0.N, Cert.Kernel33Ideal.Value.run_blocks (F := Ideal) m ρ, ?_⟩
  refine (θ_run _ _ _).mono (fun _ h c => ?_) (Cert.Reference33Ideal.Value.run m' ρ')
  obtain ⟨h0, h1, h2⟩ : _ = src0 m c ∧ _ = src1 m c ∧ _ = src2 m c := hagree c
  refine ⟨(h c).1.trans ?_, (h c).2⟩
  · rw [h0, h1, h2]
    refine funext fun (j : Cert.Kernel33Ideal.S4096x1024.Idx) => ?_
    obtain ⟨p0, p1, rfl⟩ : ∃ (p0 : Fin 4096) (p1 : Fin 1024), j = ix2 p0 p1 := ⟨j 0, j 1, eq_ix2 j⟩
    refine Eq.trans ?_ (result3 m c p0 p1).symm
    generalize src0 m c = x0
    generalize src1 m c = x1
    generalize src2 m c = x2
    pointwise [elem]

/-- The frames of the three programs. -/
theorem frame_p : Cert.quiescent_Kernel33 := fun m ρ _ => Cert.Kernel33.Gen.frame m ρ
theorem frame_i : Cert.quiescent_Kernel33Ideal := fun m ρ _ => Cert.Kernel33Ideal.Gen.frame m ρ
theorem frame_r : Cert.quiescent_Reference33Ideal := fun m ρ _ =>
  (θ_run _ _ _).mono (fun r h => ⟨fun c => (h c).2, sem_eq_zero_of_no_sems (by decide) r.2⟩)
    (Cert.Reference33Ideal.Value.run m ρ)

end Cert.NormMod

end

end
-- ==== Proof.OutNorm.lean ====
/- The norms of the two mixers' outputs, each times its gain, side by side, in blocks of 512 rows. -/
module

public import proofs.«01_k».proof.Proof.Gen.Kernel34.Frame
public import proofs.«01_k».proof.Proof.Gen.Kernel34Ideal.Value
public import proofs.«01_k».proof.Proof.Gen.Reference34Ideal.Run
public import proofs.«01_k».proof.Proof.Base

@[expose] public section

set_option maxRecDepth 16384

noncomputable section

namespace Cert.OutNorm

section
open Cert.Kernel34Ideal Cert.Kernel34Ideal.Gen Cert.Kernel34Ideal.Value Idealize.ShloMosaic Idealize.ShloMosaic.TcCoe Idealize.SL.Sem

variable (m : (ℓ : Loc nD τ sig) → Buf (Elt Ideal) ℓ)

/-- The arguments. -/
abbrev src0 (c : Dev nD) : Vec Ideal S4096x512 .f32 := m ((c : Thread nD τ).loc main_arg0)
abbrev src1 (c : Dev nD) : Vec Ideal S4096x512 .f32 := m ((c : Thread nD τ).loc main_arg1)
abbrev src2 (c : Dev nD) : Vec Ideal S1x512 .f32 := m ((c : Thread nD τ).loc main_arg2)
abbrev src3 (c : Dev nD) : Vec Ideal S1x512 .f32 := m ((c : Thread nD τ).loc main_arg3)

/-- An element of a normalised row times the gain. -/
def half (x g : Fin 512 → Ideal .f32) (b : Fin 512) : Ideal .f32 :=
  x b * Ideal.rsqrt (Ideal.div (∑ k, x k * x k) (Ideal.ofBits FTy.f32 1140850688#32) + Ideal.ofBits FTy.f32 897988541#32) * g b

/-- An element of the two normalised rows side by side. -/
def elem (x y g h : Fin 512 → Ideal .f32) (b : Fin 1024) : Ideal .bf16 :=
  if hb : b.val < 512 then half x g ⟨b.val, hb⟩ else half y h ⟨b.val - 512, by omega⟩

theorem elem_lo (x y g h : Fin 512 → Ideal .f32) (q : Fin 512) (b : Fin 1024) (hb : b.val = q.val) : elem x y g h b = half x g q := by
  have h1 : b.val < 512 := by omega
  unfold elem
  rw [dif_pos h1]
  congr 1
  exact Fin.ext hb

theorem elem_hi (x y g h : Fin 512 → Ideal .f32) (q : Fin 512) (b : Fin 1024) (hb : b.val = 512 + q.val) : elem x y g h b = half y h q := by
  have h1 : ¬ b.val < 512 := by omega
  unfold elem
  rw [dif_neg h1]
  congr 1
  apply Fin.ext
  show b.val - 512 = q.val
  omega

/-- The block of argument 0 that point `t` reads, at an element. -/
theorem block_0 (c : Dev nD) (t : Fin cfg0.N) (l0 : Fin 512) (l1 : Fin 512) (i : S4096x512.Idx)
    (h0 : (i 0).val = (t.val) * 512 + l0.val) (h1 : (i 1).val = (0) * 512 + l1.val) :
    (iblk m c 0 t : Vec Ideal S512x512 .f32) (ix2 l0 l1) = src0 m c i := by
  have hi := (by decide +kernel : ∀ t : Fin grid0.N, win0_0.index t 0 = t.val ∧ win0_0.index t 1 = 0) t
  refine congrArg (src0 m c) (funext fun a => Fin.ext ?_)
  match a with
  | ⟨0, _⟩ => show win0_0.index t 0 * 512 + 1 * l0.val = (i 0).val; rw [hi.1, h0]; omega
  | ⟨1, _⟩ => show win0_0.index t 1 * 512 + 1 * l1.val = (i 1).val; rw [hi.2, h1]; omega

/-- The block of argument 1 that point `t` reads, at an element. -/
theorem block_1 (c : Dev nD) (t : Fin cfg0.N) (l0 : Fin 512) (l1 : Fin 512) (i : S4096x512.Idx)
    (h0 : (i 0).val = (t.val) * 512 + l0.val) (h1 : (i 1).val = (0) * 512 + l1.val) :
    (iblk m c 1 t : Vec Ideal S512x512 .f32) (ix2 l0 l1) = src1 m c i := by
  have hi := (by decide +kernel : ∀ t : Fin grid0.N, win0_1.index t 0 = t.val ∧ win0_1.index t 1 = 0) t
  refine congrArg (src1 m c) (funext fun a => Fin.ext ?_)
  match a with
  | ⟨0, _⟩ => show win0_1.index t 0 * 512 + 1 * l0.val = (i 0).val; rw [hi.1, h0]; omega
  | ⟨1, _⟩ => show win0_1.index t 1 * 512 + 1 * l1.val = (i 1).val; rw [hi.2, h1]; omega

/-- The block of argument 2 that point `t` reads, at an element. -/
theorem block_2 (c : Dev nD) (t : Fin cfg0.N) (l0 : Fin 1) (l1 : Fin 512) (i : S1x512.Idx)
    (h0 : (i 0).val = (0) * 1 + l0.val) (h1 : (i 1).val = (0) * 512 + l1.val) :
    (iblk m c 2 t : Vec Ideal S1x512 .f32) (ix2 l0 l1) = src2 m c i := by
  have hi := (by decide +kernel : ∀ t : Fin grid0.N, win0_2.index t 0 = 0 ∧ win0_2.index t 1 = 0) t
  refine congrArg (src2 m c) (funext fun a => Fin.ext ?_)
  match a with
  | ⟨0, _⟩ => show win0_2.index t 0 * 1 + 1 * l0.val = (i 0).val; rw [hi.1, h0]; omega
  | ⟨1, _⟩ => show win0_2.index t 1 * 512 + 1 * l1.val = (i 1).val; rw [hi.2, h1]; omega

/-- The block of argument 3 that point `t` reads, at an element. -/
theorem block_3 (c : Dev nD) (t : Fin cfg0.N) (l0 : Fin 1) (l1 : Fin 512) (i : S1x512.Idx)
    (h0 : (i 0).val = (0) * 1 + l0.val) (h1 : (i 1).val = (0) * 512 + l1.val) :
    (iblk m c 3 t : Vec Ideal S1x512 .f32) (ix2 l0 l1) = src3 m c i := by
  have hi := (by decide +kernel : ∀ t : Fin grid0.N, win0_3.index t 0 = 0 ∧ win0_3.index t 1 = 0) t
  refine congrArg (src3 m c) (funext fun a => Fin.ext ?_)
  match a with
  | ⟨0, _⟩ => show win0_3.index t 0 * 1 + 1 * l0.val = (i 0).val; rw [hi.1, h0]; omega
  | ⟨1, _⟩ => show win0_3.index t 1 * 512 + 1 * l1.val = (i 1).val; rw [hi.2, h1]; omega

/-- The two payloads at an element. -/
theorem pay1_apply (x0 : Vec Ideal S512x512 .f32) (x1 : Vec Ideal S1x512 .f32) (p : Fin 512) (q : Fin 512) :
    k0_pay1 x0 x1 (ix2 p q) = half (fun k => x0 (ix2 p k)) (fun k => x1 (ix2 (0 : Fin 1) k)) q := by
  pointwise [k0_pay1, half]

theorem pay2_apply (x0 : Vec Ideal S512x512 .f32) (x1 : Vec Ideal S1x512 .f32) (p : Fin 512) (q : Fin 512) :
    k0_pay2 x0 x1 (ix2 p q) = half (fun k => x0 (ix2 p k)) (fun k => x1 (ix2 (0 : Fin 1) k)) q := by
  pointwise [k0_pay2, half]

/-- What a point writes, at an element. -/
theorem out_apply (x0 x1 : Vec Ideal S512x512 .f32) (x2 x3 : Vec Ideal S1x512 .f32) (p : Fin 512) (q : Fin 1024) :
    (out0_4 x0 x1 x2 x3 : Vec Ideal S512x1024 .bf16) (ix2 p q) = elem (fun k => x0 (ix2 p k)) (fun k => x1 (ix2 p k)) (fun k => x2 (ix2 (0 : Fin 1) k)) (fun k => x3 (ix2 (0 : Fin 1) k)) q := by
  unfold out0_4
  simp only [View.ld_unit_zero (S := S512x512) hz2, View.ld_unit_zero (S := S1x512) hz2]
  refine View.canon_apply_of_pieces (Val := Elt Ideal) ((fun y : S512x1024.Idx => elem (fun k => x0 (ix2 (y 0 : Fin 512) k)) (fun k => x1 (ix2 (y 0 : Fin 512) k)) (fun k => x2 (ix2 (0 : Fin 1) k)) (fun k => x3 (ix2 (0 : Fin 1) k)) (y 1)) : Vec Ideal S512x1024 .bf16) _ ?_ (ix2 p q) (cover0_4 _ _ _)
  intro pc hpc
  rcases List.mem_cons.mp hpc with rfl | hpc
  · intro (x : S512x512.Idx)
    obtain ⟨a, b, rfl⟩ : ∃ (a : Fin 512) (b : Fin 512), x = ix2 a b := ⟨x 0, x 1, eq_ix2 x⟩
    have ha : (r0_3.emb (ix2 a b : S512x512.Idx) 0 : Fin 512) = a := Fin.ext (by show 0 + 1 * a.val = a.val; omega)
    refine (pay2_apply x1 x3 a b).trans ?_
    show _ = elem (fun k => x0 (ix2 (r0_3.emb (ix2 a b : S512x512.Idx) 0 : Fin 512) k)) (fun k => x1 (ix2 (r0_3.emb (ix2 a b : S512x512.Idx) 0 : Fin 512) k)) _ _ (r0_3.emb (ix2 a b : S512x512.Idx) 1)
    rw [ha]
    exact (elem_hi _ _ _ _ b _ (by show 512 + 1 * b.val = 512 + b.val; omega)).symm
  · obtain rfl := List.mem_singleton.mp hpc
    intro (x : S512x512.Idx)
    obtain ⟨a, b, rfl⟩ : ∃ (a : Fin 512) (b : Fin 512), x = ix2 a b := ⟨x 0, x 1, eq_ix2 x⟩
    have ha : (r0_2.emb (ix2 a b : S512x512.Idx) 0 : Fin 512) = a := Fin.ext (by show 0 + 1 * a.val = a.val; omega)
    refine (pay1_apply x0 x2 a b).trans ?_
    show _ = elem (fun k => x0 (ix2 (r0_2.emb (ix2 a b : S512x512.Idx) 0 : Fin 512) k)) (fun k => x1 (ix2 (r0_2.emb (ix2 a b : S512x512.Idx) 0 : Fin 512) k)) _ _ (r0_2.emb (ix2 a b : S512x512.Idx) 1)
    rw [ha]
    exact (elem_lo _ _ _ _ b _ (by show 0 + 1 * b.val = b.val; omega)).symm

/-- An element of the result. -/
theorem result4 (c : Dev nD) (p0 : Fin 4096) (p1 : Fin 1024) :
    ((dats m 0 c).arrAt 4 cfg0.N : Vec Ideal S4096x1024 .bf16) (ix2 p0 p1) = elem (fun k => src0 m c (ix2 p0 k)) (fun k => src1 m c (ix2 p0 k)) (fun k => src2 m c (ix2 (0 : Fin 1) k)) (fun k => src3 m c (ix2 (0 : Fin 1) k)) p1 := by
  have hN : cfg0.N = 8 := N_0
  obtain ⟨t, ht⟩ : ∃ t : Fin cfg0.N, t.val = p0.val / 512 := ⟨⟨p0.val / 512, by omega⟩, rfl⟩
  have hf : (cfg0.win 4).flush t = true := (by decide +kernel : ∀ t : Fin grid0.N, win0_4.flush t = true) t
  have e := congrFun (blocks4 m c t hf) (ix2 (⟨p0.val % 512, by omega⟩ : Fin 512) (⟨p1.val % 1024, by omega⟩ : Fin 1024))
  rw [View.read_apply, flushed4] at e
  have hi := (by decide +kernel : ∀ t : Fin grid0.N, win0_4.index t 0 = t.val ∧ win0_4.index t 1 = 0) t
  have hidx : ((cfg0.win 4).blk t).view.emb (ix2 (⟨p0.val % 512, by omega⟩ : Fin 512) (⟨p1.val % 1024, by omega⟩ : Fin 1024)) = ix2 p0 p1 := by
    refine funext fun d => Fin.ext ?_
    match d with
    | ⟨0, _⟩ => show win0_4.index t 0 * 512 + 1 * (p0.val % 512) = p0.val; rw [hi.1]; omega
    | ⟨1, _⟩ => show win0_4.index t 1 * 1024 + 1 * (p1.val % 1024) = p1.val; rw [hi.2]; omega
  rw [hidx] at e
  refine e.trans ?_
  refine (out_apply (iblk m c 0 t) (iblk m c 1 t) (iblk m c 2 t) (iblk m c 3 t) _ _).trans ?_
  have hq : (⟨p1.val % 1024, by omega⟩ : Fin 1024) = p1 := Fin.ext (by simp <;> omega)
  rw [hq]
  have h0 : (fun k => (iblk m c 0 t : Vec Ideal S512x512 .f32) (ix2 (⟨p0.val % 512, by omega⟩ : Fin 512) k)) = fun k => src0 m c (ix2 p0 k) :=
    funext fun k => block_0 m c t _ k (ix2 p0 k) (by simp <;> omega) (by simp <;> omega)
  have h2 : (fun k => (iblk m c 2 t : Vec Ideal S1x512 .f32) (ix2 (0 : Fin 1) k)) = fun k => src2 m c (ix2 (0 : Fin 1) k) :=
    funext fun k => block_2 m c t 0 k (ix2 (0 : Fin 1) k) (by simp <;> omega) (by simp <;> omega)
  have h1 : (fun k => (iblk m c 1 t : Vec Ideal S512x512 .f32) (ix2 (⟨p0.val % 512, by omega⟩ : Fin 512) k)) = fun k => src1 m c (ix2 p0 k) :=
    funext fun k => block_1 m c t _ k (ix2 p0 k) (by simp <;> omega) (by simp <;> omega)
  have h3 : (fun k => (iblk m c 3 t : Vec Ideal S1x512 .f32) (ix2 (0 : Fin 1) k)) = fun k => src3 m c (ix2 (0 : Fin 1) k) :=
    funext fun k => block_3 m c t 0 k (ix2 (0 : Fin 1) k) (by simp <;> omega) (by simp <;> omega)
  rw [h0, h1, h2, h3]

end

open Idealize.ShloMosaic Idealize.ShloMosaic.TcCoe Idealize.SL.Sem

/-- Kernel and reference end with equal results. -/
theorem algebraic : Cert.algebraic_Kernel34Ideal_Reference34Ideal := by
  intro m ρ m' ρ' _ hagree
  refine ⟨fun c => (Cert.Kernel34Ideal.Gen.dats m 0 c).arrAt 4 Cert.Kernel34Ideal.cfg0.N, Cert.Kernel34Ideal.Value.run_blocks (F := Ideal) m ρ, ?_⟩
  refine (θ_run _ _ _).mono (fun _ h c => ?_) (Cert.Reference34Ideal.Value.run m' ρ')
  obtain ⟨h0, h1, h2, h3⟩ : _ = src0 m c ∧ _ = src1 m c ∧ _ = src2 m c ∧ _ = src3 m c := hagree c
  refine ⟨(h c).1.trans ?_, (h c).2⟩
  · rw [h0, h1, h2, h3]
    refine funext fun (j : Cert.Kernel34Ideal.S4096x1024.Idx) => ?_
    obtain ⟨p0, p1, rfl⟩ : ∃ (p0 : Fin 4096) (p1 : Fin 1024), j = ix2 p0 p1 := ⟨j 0, j 1, eq_ix2 j⟩
    refine Eq.trans ?_ (result4 m c p0 p1).symm
    generalize src0 m c = x0
    generalize src1 m c = x1
    generalize src2 m c = x2
    generalize src3 m c = x3
    pointwise [elem, half]

/-- The frames of the three programs. -/
theorem frame_p : Cert.quiescent_Kernel34 := fun m ρ _ => Cert.Kernel34.Gen.frame m ρ
theorem frame_i : Cert.quiescent_Kernel34Ideal := fun m ρ _ => Cert.Kernel34Ideal.Gen.frame m ρ
theorem frame_r : Cert.quiescent_Reference34Ideal := fun m ρ _ =>
  (θ_run _ _ _).mono (fun r h => ⟨fun c => (h c).2, sem_eq_zero_of_no_sems (by decide) r.2⟩)
    (Cert.Reference34Ideal.Value.run m ρ)

end Cert.OutNorm

end

end
-- ==== Proof.SumSlabs.lean ====
/- The sum of the eight devices' slabs, in blocks of 256 rows, slab after slab; the reference sums over the leading axis. -/
module

public import proofs.«01_k».proof.Proof.Gen.Kernel35.Frame
public import proofs.«01_k».proof.Proof.Gen.Kernel35Ideal.Value
public import proofs.«01_k».proof.Proof.Gen.Reference35Ideal.Run
public import proofs.«01_k».proof.Proof.Base

@[expose] public section

set_option maxRecDepth 16384

noncomputable section

namespace Cert.SumSlabs

section
open Cert.Kernel35Ideal Cert.Kernel35Ideal.Gen Cert.Kernel35Ideal.Value Idealize.ShloMosaic Idealize.ShloMosaic.TcCoe Idealize.SL.Sem

variable (m : (ℓ : Loc nD τ sig) → Buf (Elt Ideal) ℓ)

/-- The arguments. -/
abbrev src0 (c : Dev nD) : Vec Ideal S8x512x128 .f32 := m ((c : Thread nD τ).loc main_arg0)

/-- An element of the sum: over the eight slabs. -/
def elem (x : Fin 8 → Ideal .f32) : Ideal .f32 :=
  ∑ k, x k
/-- The block of argument 0 that point `t` reads, at an element. -/
theorem block_0 (c : Dev nD) (t : Fin cfg0.N) (l0 : Fin 8) (l1 : Fin 256) (l2 : Fin 128) (i : S8x512x128.Idx)
    (h0 : (i 0).val = (0) * 8 + l0.val) (h1 : (i 1).val = (t.val) * 256 + l1.val) (h2 : (i 2).val = (0) * 128 + l2.val) :
    (iblk m c 0 t : Vec Ideal S8x256x128 .f32) (ix3 l0 l1 l2) = src0 m c i := by
  have hi := (by decide +kernel : ∀ t : Fin grid0.N, win0_0.index t 0 = 0 ∧ win0_0.index t 1 = t.val ∧ win0_0.index t 2 = 0) t
  refine congrArg (src0 m c) (funext fun a => Fin.ext ?_)
  match a with
  | ⟨0, _⟩ => show win0_0.index t 0 * 8 + 1 * l0.val = (i 0).val; rw [hi.1, h0]; omega
  | ⟨1, _⟩ => show win0_0.index t 1 * 256 + 1 * l1.val = (i 1).val; rw [hi.2.1, h1]; omega
  | ⟨2, _⟩ => show win0_0.index t 2 * 128 + 1 * l2.val = (i 2).val; rw [hi.2.2, h2]; omega

/-- The sum the body forms, slab after slab. -/
theorem pay_apply (v0 v1 v2 v3 v4 v5 v6 v7 : Vec Ideal S1x256x128 .f32) (p : Fin 256) (q : Fin 128) :
    (k0_pay1 v0 v1 v2 v3 v4 v5 v6 v7 : Vec Ideal S256x128 .f32) (ix2 p q) = v0 (ix3 (0 : Fin 1) p q) + v1 (ix3 (0 : Fin 1) p q) + v2 (ix3 (0 : Fin 1) p q) + v3 (ix3 (0 : Fin 1) p q) + v4 (ix3 (0 : Fin 1) p q) + v5 (ix3 (0 : Fin 1) p q) + v6 (ix3 (0 : Fin 1) p q) + v7 (ix3 (0 : Fin 1) p q) := by
  pointwise [k0_pay1]

/-- A slab read from the block. -/
theorem slab (x : Vec Ideal S8x256x128 .f32) (k : Fin 8) (inb : ∀ a, (![k.val, 0, 0] : Fin 3 → Nat) a + S1x256x128.size a ≤ S8x256x128.size a) (p : Fin 256) (q : Fin 128) :
    View.ld x (Rect.unit (s := S8x256x128) ![k.val, 0, 0] S1x256x128.size inb) (ix3 (0 : Fin 1) p q : S1x256x128.Idx) = x (ix3 k p q) := by
  refine congrArg x (funext fun a => Fin.ext ?_)
  match a with
  | ⟨0, _⟩ => show k.val + 1 * 0 = k.val; omega
  | ⟨1, _⟩ => show 0 + 1 * p.val = p.val; omega
  | ⟨2, _⟩ => show 0 + 1 * q.val = q.val; omega

/-- What a point writes, at an element. -/
theorem out_apply (x0 : Vec Ideal S8x256x128 .f32) (p : Fin 256) (q : Fin 128) :
    (out0_1 x0 : Vec Ideal S256x128 .f32) (ix2 p q) = elem (fun k => x0 (ix3 k p q)) := by
  unfold out0_1
  rw [View.canon_unit_zero hz2]
  refine (pay_apply _ _ _ _ _ _ _ _ p q).trans ?_
  unfold elem
  rw [Fin.sum_univ_eight]
  exact congrArg₂ (· + ·) (congrArg₂ (· + ·) (congrArg₂ (· + ·) (congrArg₂ (· + ·) (congrArg₂ (· + ·) (congrArg₂ (· + ·) (congrArg₂ (· + ·) (slab x0 0 _ p q) (slab x0 1 _ p q)) (slab x0 2 _ p q)) (slab x0 3 _ p q)) (slab x0 4 _ p q)) (slab x0 5 _ p q)) (slab x0 6 _ p q)) (slab x0 7 _ p q)

/-- An element of the result. -/
theorem result1 (c : Dev nD) (p0 : Fin 512) (p1 : Fin 128) :
    ((dats m 0 c).arrAt 1 cfg0.N : Vec Ideal S512x128 .f32) (ix2 p0 p1) = elem (fun k => src0 m c (ix3 k p0 p1)) := by
  have hN : cfg0.N = 2 := N_0
  obtain ⟨t, ht⟩ : ∃ t : Fin cfg0.N, t.val = p0.val / 256 := ⟨⟨p0.val / 256, by omega⟩, rfl⟩
  have hf : (cfg0.win 1).flush t = true := (by decide +kernel : ∀ t : Fin grid0.N, win0_1.flush t = true) t
  have e := congrFun (blocks1 m c t hf) (ix2 (⟨p0.val % 256, by omega⟩ : Fin 256) (⟨p1.val % 128, by omega⟩ : Fin 128))
  rw [View.read_apply, flushed1] at e
  have hi := (by decide +kernel : ∀ t : Fin grid0.N, win0_1.index t 0 = t.val ∧ win0_1.index t 1 = 0) t
  have hidx : ((cfg0.win 1).blk t).view.emb (ix2 (⟨p0.val % 256, by omega⟩ : Fin 256) (⟨p1.val % 128, by omega⟩ : Fin 128)) = ix2 p0 p1 := by
    refine funext fun d => Fin.ext ?_
    match d with
    | ⟨0, _⟩ => show win0_1.index t 0 * 256 + 1 * (p0.val % 256) = p0.val; rw [hi.1]; omega
    | ⟨1, _⟩ => show win0_1.index t 1 * 128 + 1 * (p1.val % 128) = p1.val; rw [hi.2]; omega
  rw [hidx] at e
  refine e.trans ?_
  refine (out_apply (iblk m c 0 t) _ _).trans ?_
  have hx : (fun k => (iblk m c 0 t : Vec Ideal S8x256x128 .f32) (ix3 k (⟨p0.val % 256, by omega⟩ : Fin 256) (⟨p1.val % 128, by omega⟩ : Fin 128))) = fun k => src0 m c (ix3 k p0 p1) :=
    funext fun k => block_0 m c t k _ _ (ix3 k p0 p1) (by simp <;> omega) (by simp <;> omega) (by simp <;> omega)
  rw [hx]

end

open Idealize.ShloMosaic Idealize.ShloMosaic.TcCoe Idealize.SL.Sem

/-- Kernel and reference end with equal results. -/
theorem algebraic : Cert.algebraic_Kernel35Ideal_Reference35Ideal := by
  intro m ρ m' ρ' _ hagree
  refine ⟨fun c => (Cert.Kernel35Ideal.Gen.dats m 0 c).arrAt 1 Cert.Kernel35Ideal.cfg0.N, Cert.Kernel35Ideal.Value.run_blocks (F := Ideal) m ρ, ?_⟩
  refine (θ_run _ _ _).mono (fun _ h c => ?_) (Cert.Reference35Ideal.Value.run m' ρ')
  have h0 : _ = src0 m c := hagree c
  refine ⟨(h c).1.trans ?_, (h c).2⟩
  · rw [h0]
    refine funext fun (j : Cert.Kernel35Ideal.S512x128.Idx) => ?_
    obtain ⟨p0, p1, rfl⟩ : ∃ (p0 : Fin 512) (p1 : Fin 128), j = ix2 p0 p1 := ⟨j 0, j 1, eq_ix2 j⟩
    refine Eq.trans ?_ (result1 m c p0 p1).symm
    generalize src0 m c = x0
    pointwise [elem]

/-- The frames of the three programs. -/
theorem frame_p : Cert.quiescent_Kernel35 := fun m ρ _ => Cert.Kernel35.Gen.frame m ρ
theorem frame_i : Cert.quiescent_Kernel35Ideal := fun m ρ _ => Cert.Kernel35Ideal.Gen.frame m ρ
theorem frame_r : Cert.quiescent_Reference35Ideal := fun m ρ _ =>
  (θ_run _ _ _).mono (fun r h => ⟨fun c => (h c).2, sem_eq_zero_of_no_sems (by decide) r.2⟩)
    (Cert.Reference35Ideal.Value.run m ρ)

end Cert.SumSlabs

end

end
-- ==== Proof.AdaFwd.lean ====
/- The modulation of both layers: the activated conditioning vectors times the matrix, and the bias, in blocks of 512 columns. -/
module

public import proofs.«01_k».proof.Proof.Gen.Kernel36.Frame
public import proofs.«01_k».proof.Proof.Gen.Kernel36Ideal.Value
public import proofs.«01_k».proof.Proof.Gen.Reference36Ideal.Run
public import proofs.«01_k».proof.Proof.Base

@[expose] public section

set_option maxRecDepth 16384

noncomputable section

namespace Cert.AdaFwd

section
open Cert.Kernel36Ideal Cert.Kernel36Ideal.Gen Cert.Kernel36Ideal.Value Idealize.ShloMosaic Idealize.ShloMosaic.TcCoe Idealize.SL.Sem

variable (m : (ℓ : Loc nD τ sig) → Buf (Elt Ideal) ℓ)

/-- The arguments. -/
abbrev src0 (c : Dev nD) : Vec Ideal S8x1024 .f32 := m ((c : Thread nD τ).loc main_arg0)
abbrev src1 (c : Dev nD) : Vec Ideal S2x1024x1536 .f32 := m ((c : Thread nD τ).loc main_arg1)
abbrev src2 (c : Dev nD) : Vec Ideal S2x1x1536 .f32 := m ((c : Thread nD τ).loc main_arg2)

/-- An element of the modulation: the activation's row times the matrix's column, and the bias. -/
def elem (x y : Fin 1024 → Ideal .f32) (b : Ideal .f32) : Ideal .f32 :=
  (∑ k, x k * Ideal.div 1 (1 + Ideal.exp (-x k)) * y k) + b
/-- The block of argument 0 that point `t` reads, at an element. -/
theorem block_0 (c : Dev nD) (t : Fin cfg0.N) (l0 : Fin 8) (l1 : Fin 1024) (i : S8x1024.Idx)
    (h0 : (i 0).val = (0) * 8 + l0.val) (h1 : (i 1).val = (0) * 1024 + l1.val) :
    (iblk m c 0 t : Vec Ideal S8x1024 .f32) (ix2 l0 l1) = src0 m c i := by
  have hi := (by decide +kernel : ∀ t : Fin grid0.N, win0_0.index t 0 = 0 ∧ win0_0.index t 1 = 0) t
  refine congrArg (src0 m c) (funext fun a => Fin.ext ?_)
  match a with
  | ⟨0, _⟩ => show win0_0.index t 0 * 8 + 1 * l0.val = (i 0).val; rw [hi.1, h0]; omega
  | ⟨1, _⟩ => show win0_0.index t 1 * 1024 + 1 * l1.val = (i 1).val; rw [hi.2, h1]; omega

/-- The block of argument 1 that point `t` reads, at an element. -/
theorem block_1 (c : Dev nD) (t : Fin cfg0.N) (l0 : Fin 1) (l1 : Fin 1024) (l2 : Fin 512) (i : S2x1024x1536.Idx)
    (h0 : (i 0).val = (t.val / 3) * 1 + l0.val) (h1 : (i 1).val = (0) * 1024 + l1.val) (h2 : (i 2).val = (t.val % 3) * 512 + l2.val) :
    (iblk m c 1 t : Vec Ideal S1x1024x512 .f32) (ix3 l0 l1 l2) = src1 m c i := by
  have hi := (by decide +kernel : ∀ t : Fin grid0.N, win0_1.index t 0 = t.val / 3 ∧ win0_1.index t 1 = 0 ∧ win0_1.index t 2 = t.val % 3) t
  refine congrArg (src1 m c) (funext fun a => Fin.ext ?_)
  match a with
  | ⟨0, _⟩ => show win0_1.index t 0 * 1 + 1 * l0.val = (i 0).val; rw [hi.1, h0]; omega
  | ⟨1, _⟩ => show win0_1.index t 1 * 1024 + 1 * l1.val = (i 1).val; rw [hi.2.1, h1]; omega
  | ⟨2, _⟩ => show win0_1.index t 2 * 512 + 1 * l2.val = (i 2).val; rw [hi.2.2, h2]; omega

/-- The block of argument 2 that point `t` reads, at an element. -/
theorem block_2 (c : Dev nD) (t : Fin cfg0.N) (l0 : Fin 1) (l1 : Fin 1) (l2 : Fin 512) (i : S2x1x1536.Idx)
    (h0 : (i 0).val = (t.val / 3) * 1 + l0.val) (h1 : (i 1).val = (0) * 1 + l1.val) (h2 : (i 2).val = (t.val % 3) * 512 + l2.val) :
    (iblk m c 2 t : Vec Ideal S1x1x512 .f32) (ix3 l0 l1 l2) = src2 m c i := by
  have hi := (by decide +kernel : ∀ t : Fin grid0.N, win0_2.index t 0 = t.val / 3 ∧ win0_2.index t 1 = 0 ∧ win0_2.index t 2 = t.val % 3) t
  refine congrArg (src2 m c) (funext fun a => Fin.ext ?_)
  match a with
  | ⟨0, _⟩ => show win0_2.index t 0 * 1 + 1 * l0.val = (i 0).val; rw [hi.1, h0]; omega
  | ⟨1, _⟩ => show win0_2.index t 1 * 1 + 1 * l1.val = (i 1).val; rw [hi.2.1, h1]; omega
  | ⟨2, _⟩ => show win0_2.index t 2 * 512 + 1 * l2.val = (i 2).val; rw [hi.2.2, h2]; omega

/-- What a point writes, at an element. -/
theorem out_apply (x0 : Vec Ideal S8x1024 .f32) (x1 : Vec Ideal S1x1024x512 .f32) (x2 : Vec Ideal S1x1x512 .f32) (p : Fin 8) (q : Fin 512) :
    (out0_3 x0 x1 x2 : Vec Ideal S1x8x512 .f32) (ix3 (0 : Fin 1) p q) = elem (fun k => x0 (ix2 p k)) (fun k => x1 (ix3 (0 : Fin 1) k q)) (x2 (ix3 (0 : Fin 1) (0 : Fin 1) q)) := by
  unfold out0_3
  rw [View.canon_unit_zero hz3]
  simp only [View.ld_unit_zero (S := S8x1024) hz2, View.ld_unit_zero (S := S1x1024x512) hz3, View.ld_unit_zero (S := S1x1x512) hz3]
  pointwise [k0_pay1, elem]
  rfl

/-- An element of the result. -/
theorem result3 (c : Dev nD) (p0 : Fin 2) (p1 : Fin 8) (p2 : Fin 1536) :
    ((dats m 0 c).arrAt 3 cfg0.N : Vec Ideal S2x8x1536 .f32) (ix3 p0 p1 p2) = elem (fun k => src0 m c (ix2 p1 k)) (fun k => src1 m c (ix3 p0 k p2)) (src2 m c (ix3 p0 (0 : Fin 1) p2)) := by
  have hN : cfg0.N = 6 := N_0
  obtain ⟨t, ht⟩ : ∃ t : Fin cfg0.N, t.val = p0.val * 3 + p2.val / 512 := ⟨⟨p0.val * 3 + p2.val / 512, by omega⟩, rfl⟩
  have hf : (cfg0.win 3).flush t = true := (by decide +kernel : ∀ t : Fin grid0.N, win0_3.flush t = true) t
  have e := congrFun (blocks3 m c t hf) (ix3 (0 : Fin 1) (⟨p1.val % 8, by omega⟩ : Fin 8) (⟨p2.val % 512, by omega⟩ : Fin 512))
  rw [View.read_apply, flushed3] at e
  have hi := (by decide +kernel : ∀ t : Fin grid0.N, win0_3.index t 0 = t.val / 3 ∧ win0_3.index t 1 = 0 ∧ win0_3.index t 2 = t.val % 3) t
  have hidx : ((cfg0.win 3).blk t).view.emb (ix3 (0 : Fin 1) (⟨p1.val % 8, by omega⟩ : Fin 8) (⟨p2.val % 512, by omega⟩ : Fin 512)) = ix3 p0 p1 p2 := by
    refine funext fun d => Fin.ext ?_
    match d with
    | ⟨0, _⟩ => show win0_3.index t 0 * 1 + 1 * 0 = p0.val; rw [hi.1]; omega
    | ⟨1, _⟩ => show win0_3.index t 1 * 8 + 1 * (p1.val % 8) = p1.val; rw [hi.2.1]; omega
    | ⟨2, _⟩ => show win0_3.index t 2 * 512 + 1 * (p2.val % 512) = p2.val; rw [hi.2.2]; omega
  rw [hidx] at e
  refine e.trans ?_
  refine (out_apply (iblk m c 0 t) (iblk m c 1 t) (iblk m c 2 t) _ _).trans ?_
  have hq : (⟨p1.val % 8, by omega⟩ : Fin 8) = p1 := Fin.ext (by simp <;> omega)
  rw [hq]
  have hx : (fun k => (iblk m c 0 t : Vec Ideal S8x1024 .f32) (ix2 p1 k)) = fun k => src0 m c (ix2 p1 k) :=
    funext fun k => block_0 m c t p1 k (ix2 p1 k) (by simp <;> omega) (by simp <;> omega)
  have hy : (fun k => (iblk m c 1 t : Vec Ideal S1x1024x512 .f32) (ix3 (0 : Fin 1) k (⟨p2.val % 512, by omega⟩ : Fin 512))) = fun k => src1 m c (ix3 p0 k p2) :=
    funext fun k => block_1 m c t 0 k _ (ix3 p0 k p2) (by simp <;> omega) (by simp <;> omega) (by simp <;> omega)
  rw [hx, hy, block_2 m c t 0 0 _ (ix3 p0 (0 : Fin 1) p2) (by simp <;> omega) (by simp <;> omega) (by simp <;> omega)]

end

open Idealize.ShloMosaic Idealize.ShloMosaic.TcCoe Idealize.SL.Sem

/-- Kernel and reference end with equal results. -/
theorem algebraic : Cert.algebraic_Kernel36Ideal_Reference36Ideal := by
  intro m ρ m' ρ' _ hagree
  refine ⟨fun c => (Cert.Kernel36Ideal.Gen.dats m 0 c).arrAt 3 Cert.Kernel36Ideal.cfg0.N, Cert.Kernel36Ideal.Value.run_blocks (F := Ideal) m ρ, ?_⟩
  refine (θ_run _ _ _).mono (fun _ h c => ?_) (Cert.Reference36Ideal.Value.run m' ρ')
  obtain ⟨h0, h1, h2⟩ : _ = src0 m c ∧ _ = src1 m c ∧ _ = src2 m c := hagree c
  refine ⟨(h c).1.trans ?_, (h c).2⟩
  · rw [h0, h1, h2]
    refine funext fun (j : Cert.Kernel36Ideal.S2x8x1536.Idx) => ?_
    obtain ⟨p0, p1, p2, rfl⟩ : ∃ (p0 : Fin 2) (p1 : Fin 8) (p2 : Fin 1536), j = ix3 p0 p1 p2 := ⟨j 0, j 1, j 2, eq_ix3 j⟩
    refine Eq.trans ?_ (result3 m c p0 p1 p2).symm
    generalize src0 m c = x0
    generalize src1 m c = x1
    generalize src2 m c = x2
    pointwise [elem]
    split
    · obtain rfl : p0 = 0 := Fin.ext (by omega)
      rfl
    · obtain rfl : p0 = 1 := Fin.ext (by omega)
      rfl

/-- The frames of the three programs. -/
theorem frame_p : Cert.quiescent_Kernel36 := fun m ρ _ => Cert.Kernel36.Gen.frame m ρ
theorem frame_i : Cert.quiescent_Kernel36Ideal := fun m ρ _ => Cert.Kernel36Ideal.Gen.frame m ρ
theorem frame_r : Cert.quiescent_Reference36Ideal := fun m ρ _ =>
  (θ_run _ _ _).mono (fun r h => ⟨fun c => (h c).2, sem_eq_zero_of_no_sems (by decide) r.2⟩)
    (Cert.Reference36Ideal.Value.run m ρ)

end Cert.AdaFwd

end

end
-- ==== Proof.AdaBwd.lean ====
/- The gradient of the conditioning matrix of both layers: the products of the activations, transposed, with the modulation gradient, summed over the eight samples. -/
module

public import proofs.«01_k».proof.Proof.Gen.Kernel37.Frame
public import proofs.«01_k».proof.Proof.Gen.Kernel37Ideal.Value
public import proofs.«01_k».proof.Proof.Gen.Reference37Ideal.Run
public import proofs.«01_k».proof.Proof.Base

@[expose] public section

set_option maxRecDepth 16384

noncomputable section

namespace Cert.AdaBwd

section
open Cert.Kernel37Ideal Cert.Kernel37Ideal.Gen Cert.Kernel37Ideal.Value Idealize.ShloMosaic Idealize.ShloMosaic.TcCoe Idealize.SL.Sem

variable (m : (ℓ : Loc nD τ sig) → Buf (Elt Ideal) ℓ)

/-- The arguments. -/
abbrev src0 (c : Dev nD) : Vec Ideal S8x1024 .f32 := m ((c : Thread nD τ).loc main_arg0)
abbrev src1 (c : Dev nD) : Vec Ideal S2x8x1536 .f32 := m ((c : Thread nD τ).loc main_arg1)

/-- An element of the gradient: the sum over the eight samples. -/
def elem (x y : Fin 8 → Ideal .f32) : Ideal .f32 :=
  ∑ k, y k * (x k * Ideal.div 1 (1 + Ideal.exp (-x k)))
/-- The block of argument 0 that point `t` reads, at an element. -/
theorem block_0 (c : Dev nD) (t : Fin cfg0.N) (l0 : Fin 8) (l1 : Fin 1024) (i : S8x1024.Idx)
    (h0 : (i 0).val = (0) * 8 + l0.val) (h1 : (i 1).val = (0) * 1024 + l1.val) :
    (iblk m c 0 t : Vec Ideal S8x1024 .f32) (ix2 l0 l1) = src0 m c i := by
  have hi := (by decide +kernel : ∀ t : Fin grid0.N, win0_0.index t 0 = 0 ∧ win0_0.index t 1 = 0) t
  refine congrArg (src0 m c) (funext fun a => Fin.ext ?_)
  match a with
  | ⟨0, _⟩ => show win0_0.index t 0 * 8 + 1 * l0.val = (i 0).val; rw [hi.1, h0]; omega
  | ⟨1, _⟩ => show win0_0.index t 1 * 1024 + 1 * l1.val = (i 1).val; rw [hi.2, h1]; omega

/-- The block of argument 1 that point `t` reads, at an element. -/
theorem block_1 (c : Dev nD) (t : Fin cfg0.N) (l0 : Fin 1) (l1 : Fin 8) (l2 : Fin 512) (i : S2x8x1536.Idx)
    (h0 : (i 0).val = (t.val / 3) * 1 + l0.val) (h1 : (i 1).val = (0) * 8 + l1.val) (h2 : (i 2).val = (t.val % 3) * 512 + l2.val) :
    (iblk m c 1 t : Vec Ideal S1x8x512 .f32) (ix3 l0 l1 l2) = src1 m c i := by
  have hi := (by decide +kernel : ∀ t : Fin grid0.N, win0_1.index t 0 = t.val / 3 ∧ win0_1.index t 1 = 0 ∧ win0_1.index t 2 = t.val % 3) t
  refine congrArg (src1 m c) (funext fun a => Fin.ext ?_)
  match a with
  | ⟨0, _⟩ => show win0_1.index t 0 * 1 + 1 * l0.val = (i 0).val; rw [hi.1, h0]; omega
  | ⟨1, _⟩ => show win0_1.index t 1 * 8 + 1 * l1.val = (i 1).val; rw [hi.2.1, h1]; omega
  | ⟨2, _⟩ => show win0_1.index t 2 * 512 + 1 * l2.val = (i 2).val; rw [hi.2.2, h2]; omega

/-- What a point writes, at an element. -/
theorem out_apply (x0 : Vec Ideal S8x1024 .f32) (x1 : Vec Ideal S1x8x512 .f32) (p : Fin 1024) (q : Fin 512) :
    (out0_2 x0 x1 : Vec Ideal S1x1024x512 .f32) (ix3 (0 : Fin 1) p q) = elem (fun k => x0 (ix2 k p)) (fun k => x1 (ix3 (0 : Fin 1) k q)) := by
  unfold out0_2
  rw [View.canon_unit_zero hz3]
  simp only [View.ld_unit_zero (S := S8x1024) hz2, View.ld_unit_zero (S := S1x8x512) hz3]
  pointwise [k0_pay1, elem]
  exact Finset.sum_congr rfl fun k _ => mul_comm _ _

/-- An element of the result. -/
theorem result2 (c : Dev nD) (p0 : Fin 2) (p1 : Fin 1024) (p2 : Fin 1536) :
    ((dats m 0 c).arrAt 2 cfg0.N : Vec Ideal S2x1024x1536 .f32) (ix3 p0 p1 p2) = elem (fun k => src0 m c (ix2 k p1)) (fun k => src1 m c (ix3 p0 k p2)) := by
  have hN : cfg0.N = 6 := N_0
  obtain ⟨t, ht⟩ : ∃ t : Fin cfg0.N, t.val = p0.val * 3 + p2.val / 512 := ⟨⟨p0.val * 3 + p2.val / 512, by omega⟩, rfl⟩
  have hf : (cfg0.win 2).flush t = true := (by decide +kernel : ∀ t : Fin grid0.N, win0_2.flush t = true) t
  have e := congrFun (blocks2 m c t hf) (ix3 (0 : Fin 1) (⟨p1.val % 1024, by omega⟩ : Fin 1024) (⟨p2.val % 512, by omega⟩ : Fin 512))
  rw [View.read_apply, flushed2] at e
  have hi := (by decide +kernel : ∀ t : Fin grid0.N, win0_2.index t 0 = t.val / 3 ∧ win0_2.index t 1 = 0 ∧ win0_2.index t 2 = t.val % 3) t
  have hidx : ((cfg0.win 2).blk t).view.emb (ix3 (0 : Fin 1) (⟨p1.val % 1024, by omega⟩ : Fin 1024) (⟨p2.val % 512, by omega⟩ : Fin 512)) = ix3 p0 p1 p2 := by
    refine funext fun d => Fin.ext ?_
    match d with
    | ⟨0, _⟩ => show win0_2.index t 0 * 1 + 1 * 0 = p0.val; rw [hi.1]; omega
    | ⟨1, _⟩ => show win0_2.index t 1 * 1024 + 1 * (p1.val % 1024) = p1.val; rw [hi.2.1]; omega
    | ⟨2, _⟩ => show win0_2.index t 2 * 512 + 1 * (p2.val % 512) = p2.val; rw [hi.2.2]; omega
  rw [hidx] at e
  refine e.trans ?_
  refine (out_apply (iblk m c 0 t) (iblk m c 1 t) _ _).trans ?_
  have hq : (⟨p1.val % 1024, by omega⟩ : Fin 1024) = p1 := Fin.ext (by simp <;> omega)
  rw [hq]
  have hx : (fun k => (iblk m c 0 t : Vec Ideal S8x1024 .f32) (ix2 k p1)) = fun k => src0 m c (ix2 k p1) :=
    funext fun k => block_0 m c t k p1 (ix2 k p1) (by simp <;> omega) (by simp <;> omega)
  have hy : (fun k => (iblk m c 1 t : Vec Ideal S1x8x512 .f32) (ix3 (0 : Fin 1) k (⟨p2.val % 512, by omega⟩ : Fin 512))) = fun k => src1 m c (ix3 p0 k p2) :=
    funext fun k => block_1 m c t 0 k _ (ix3 p0 k p2) (by simp <;> omega) (by simp <;> omega) (by simp <;> omega)
  rw [hx, hy]

end

open Idealize.ShloMosaic Idealize.ShloMosaic.TcCoe Idealize.SL.Sem

/-- Kernel and reference end with equal results. -/
theorem algebraic : Cert.algebraic_Kernel37Ideal_Reference37Ideal := by
  intro m ρ m' ρ' _ hagree
  refine ⟨fun c => (Cert.Kernel37Ideal.Gen.dats m 0 c).arrAt 2 Cert.Kernel37Ideal.cfg0.N, Cert.Kernel37Ideal.Value.run_blocks (F := Ideal) m ρ, ?_⟩
  refine (θ_run _ _ _).mono (fun _ h c => ?_) (Cert.Reference37Ideal.Value.run m' ρ')
  obtain ⟨h0, h1⟩ : _ = src0 m c ∧ _ = src1 m c := hagree c
  refine ⟨(h c).1.trans ?_, (h c).2⟩
  · rw [h0, h1]
    refine funext fun (j : Cert.Kernel37Ideal.S2x1024x1536.Idx) => ?_
    obtain ⟨p0, p1, p2, rfl⟩ : ∃ (p0 : Fin 2) (p1 : Fin 1024) (p2 : Fin 1536), j = ix3 p0 p1 p2 := ⟨j 0, j 1, j 2, eq_ix3 j⟩
    refine Eq.trans ?_ (result2 m c p0 p1 p2).symm
    generalize src0 m c = x0
    generalize src1 m c = x1
    pointwise [elem]
    split
    · obtain rfl : p0 = 0 := Fin.ext (by omega)
      rfl
    · obtain rfl : p0 = 1 := Fin.ext (by omega)
      rfl

/-- The frames of the three programs. -/
theorem frame_p : Cert.quiescent_Kernel37 := fun m ρ _ => Cert.Kernel37.Gen.frame m ρ
theorem frame_i : Cert.quiescent_Kernel37Ideal := fun m ρ _ => Cert.Kernel37Ideal.Gen.frame m ρ
theorem frame_r : Cert.quiescent_Reference37Ideal := fun m ρ _ =>
  (θ_run _ _ _).mono (fun r h => ⟨fun c => (h c).2, sem_eq_zero_of_no_sems (by decide) r.2⟩)
    (Cert.Reference37Ideal.Value.run m ρ)

end Cert.AdaBwd

end

end
-- ==== Proof.RowSums.lean ====
/- A sum over 4096 rows, taken block after block. -/
module

public import Idealize.ShloMosaic.Lib.Pointwise

@[expose] public section

noncomputable section

namespace Cert.RowSums

open Idealize.ShloMosaic

/-- The rows come in eight blocks of 512. -/
theorem sum_rows (f : Fin 4096 → Ideal .f32) : ∑ r, f r = ∑ s : Fin 8, ∑ k : Fin 512, f ⟨s.val * 512 + k.val, by omega⟩ := by
  rw [← Fintype.sum_prod_type']
  refine (Fintype.sum_equiv (finProdFinEquiv (m := 8) (n := 512)) _ _ fun x => ?_).symm
  congr 1
  apply Fin.ext
  show x.1.val * 512 + x.2.val = x.2.val + 512 * x.1.val
  omega

end Cert.RowSums

end

end
-- ==== Proof.GateBwd.lean ====
/- The backward pass of the gate, in blocks of 512 rows: the gradient of the gated value row by row, and the gate's own gradient summed over the points. -/
module

public import proofs.«01_k».proof.Proof.Gen.Kernel38.Frame
public import proofs.«01_k».proof.Proof.Gen.Kernel38Ideal.Value
public import proofs.«01_k».proof.Proof.Gen.Reference38Ideal.Run
public import proofs.«01_k».proof.Proof.RowSums
public import proofs.«01_k».proof.Proof.Base

@[expose] public section

set_option maxRecDepth 16384

noncomputable section

namespace Cert.GateBwd

section
open Cert.Kernel38Ideal Cert.Kernel38Ideal.Gen Cert.Kernel38Ideal.Value Idealize.ShloMosaic Idealize.ShloMosaic.TcCoe Idealize.SL.Sem

variable (m : (ℓ : Loc nD τ sig) → Buf (Elt Ideal) ℓ)

/-- The arguments. -/
abbrev src0 (c : Dev nD) : Vec Ideal S4096x1024 .f32 := m ((c : Thread nD τ).loc main_arg0)
abbrev src1 (c : Dev nD) : Vec Ideal S4096x1024 .f32 := m ((c : Thread nD τ).loc main_arg1)
abbrev src2 (c : Dev nD) : Vec Ideal S1x1024 .f32 := m ((c : Thread nD τ).loc main_arg2)

/-- An element of the gated value's gradient. -/
def rowE (x g : Ideal .f32) : Ideal .bf16 := g * x

/-- An element of the gate's gradient: the sum over the rows. -/
def gateE (x y : Fin 4096 → Ideal .f32) : Ideal .f32 := ∑ r, x r * y r

section
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S1x1024 .f32) (harg5 : arg5.IsWhole) (hc0 : cond0_0 i) (hc1 : ¬cond0_1 i) (x0 : Vec Ideal S512x1024 .f32) (x1 : Vec Ideal S512x1024 .f32) (x2 : Vec Ideal S1x1024 .f32)

/-- What the first point stores in window 3. -/
theorem outA3 : out0_A_3 c i arg1 harg1 arg2 harg2 arg3 harg3 arg4 harg4 arg5 harg5 hc0 hc1 x0 x1 x2 = k0_pay1 x0 x2 := by
  unfold out0_A_3
  rw [View.read_writes_eq_canon _ _ _ (fun _ => cover0_A_3 ..)]
  unfold kernelRun0_A
  dsimp only
  rw [View.canon_unit_zero hz2]
  simp only [View.readAt_eq_ld, harg1.read_unread, harg2.read_unread, harg3.read_unread, harg4.read_unread, harg5.read_unread, View.ld_unit_zero (S := S512x1024) hz2, View.ld_unit_zero (S := S1x1024) hz2]

/-- What the first point stores in window 4. -/
theorem outA4 : out0_A_4 c i arg1 harg1 arg2 harg2 arg3 harg3 arg4 harg4 arg5 harg5 hc0 hc1 x0 x1 x2 = k0_pay2 x0 x1 := by
  unfold out0_A_4
  rw [View.read_writes_eq_canon _ _ _ (fun _ => cover0_A_4 ..)]
  unfold kernelRun0_A
  dsimp only
  rw [View.canon_unit_zero hz2]
  simp only [View.readAt_eq_ld, harg1.read_unread, harg2.read_unread, harg3.read_unread, harg4.read_unread, harg5.read_unread, View.ld_unit_zero (S := S512x1024) hz2, View.ld_unit_zero (S := S1x1024) hz2]

end

section
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S1x1024 .f32) (harg5 : arg5.IsWhole) (hc0 : ¬cond0_0 i) (hc1 : cond0_1 i) (x0 : Vec Ideal S512x1024 .f32) (x1 : Vec Ideal S512x1024 .f32) (x2 : Vec Ideal S1x1024 .f32) (xo4 : Vec Ideal S1x1024 .f32)

/-- What the later points store in window 3. -/
theorem outB3 : out0_B_3 c i arg1 harg1 arg2 harg2 arg3 harg3 arg4 harg4 arg5 harg5 hc0 hc1 x0 x1 x2 xo4 = k0_pay1 x0 x2 := by
  unfold out0_B_3
  rw [View.read_writes_eq_canon _ _ _ (fun _ => cover0_B_3 ..)]
  unfold kernelRun0_B
  dsimp only
  rw [View.canon_unit_zero hz2]
  simp only [View.readAt_eq_ld, harg1.read_unread, harg2.read_unread, harg3.read_unread, harg4.read_unread, harg5.read_unread, View.ld_unit_zero (S := S512x1024) hz2, View.ld_unit_zero (S := S1x1024) hz2]

/-- What the later points store in window 4. -/
theorem outB4 : out0_B_4 c i arg1 harg1 arg2 harg2 arg3 harg3 arg4 harg4 arg5 harg5 hc0 hc1 x0 x1 x2 xo4 = k0_pay3 x0 x1 xo4 := by
  unfold out0_B_4
  rw [View.read_writes_eq_canon _ _ _ (fun _ => cover0_B_4 ..)]
  unfold kernelRun0_B
  dsimp only
  rw [View.canon_unit_zero hz2]
  simp only [View.readAt_eq_ld, harg1.read_unread, harg2.read_unread, harg3.read_unread, harg4.read_unread, harg5.read_unread, View.ld_unit_zero (S := S512x1024) hz2, View.ld_unit_zero (S := S1x1024) hz2]

end

/-- The block of argument 0 that point `t` reads, at an element. -/
theorem block_0 (c : Dev nD) (t : Fin cfg0.N) (l0 : Fin 512) (l1 : Fin 1024) (i : S4096x1024.Idx)
    (h0 : (i 0).val = (t.val) * 512 + l0.val) (h1 : (i 1).val = (0) * 1024 + l1.val) :
    (iblk m c 0 t : Vec Ideal S512x1024 .f32) (ix2 l0 l1) = src0 m c i := by
  have hi := (by decide +kernel : ∀ t : Fin grid0.N, win0_0.index t 0 = t.val ∧ win0_0.index t 1 = 0) t
  refine congrArg (src0 m c) (funext fun a => Fin.ext ?_)
  match a with
  | ⟨0, _⟩ => show win0_0.index t 0 * 512 + 1 * l0.val = (i 0).val; rw [hi.1, h0]; omega
  | ⟨1, _⟩ => show win0_0.index t 1 * 1024 + 1 * l1.val = (i 1).val; rw [hi.2, h1]; omega

/-- The block of argument 1 that point `t` reads, at an element. -/
theorem block_1 (c : Dev nD) (t : Fin cfg0.N) (l0 : Fin 512) (l1 : Fin 1024) (i : S4096x1024.Idx)
    (h0 : (i 0).val = (t.val) * 512 + l0.val) (h1 : (i 1).val = (0) * 1024 + l1.val) :
    (iblk m c 1 t : Vec Ideal S512x1024 .f32) (ix2 l0 l1) = src1 m c i := by
  have hi := (by decide +kernel : ∀ t : Fin grid0.N, win0_1.index t 0 = t.val ∧ win0_1.index t 1 = 0) t
  refine congrArg (src1 m c) (funext fun a => Fin.ext ?_)
  match a with
  | ⟨0, _⟩ => show win0_1.index t 0 * 512 + 1 * l0.val = (i 0).val; rw [hi.1, h0]; omega
  | ⟨1, _⟩ => show win0_1.index t 1 * 1024 + 1 * l1.val = (i 1).val; rw [hi.2, h1]; omega

/-- The block of argument 2 that point `t` reads, at an element. -/
theorem block_2 (c : Dev nD) (t : Fin cfg0.N) (l0 : Fin 1) (l1 : Fin 1024) (i : S1x1024.Idx)
    (h0 : (i 0).val = (0) * 1 + l0.val) (h1 : (i 1).val = (0) * 1024 + l1.val) :
    (iblk m c 2 t : Vec Ideal S1x1024 .f32) (ix2 l0 l1) = src2 m c i := by
  have hi := (by decide +kernel : ∀ t : Fin grid0.N, win0_2.index t 0 = 0 ∧ win0_2.index t 1 = 0) t
  refine congrArg (src2 m c) (funext fun a => Fin.ext ?_)
  match a with
  | ⟨0, _⟩ => show win0_2.index t 0 * 1 + 1 * l0.val = (i 0).val; rw [hi.1, h0]; omega
  | ⟨1, _⟩ => show win0_2.index t 1 * 1024 + 1 * l1.val = (i 1).val; rw [hi.2, h1]; omega

/-- Their element. -/
theorem pay1_apply (x0 : Vec Ideal S512x1024 .f32) (x2 : Vec Ideal S1x1024 .f32) (p : Fin 512) (q : Fin 1024) :
    k0_pay1 x0 x2 (ix2 p q) = rowE (x0 (ix2 p q)) (x2 (ix2 (0 : Fin 1) q)) := by
  pointwise [k0_pay1, rowE]
  exact mul_comm _ _

/-- The sums over a block's rows. -/
theorem pay2_apply (x0 x1 : Vec Ideal S512x1024 .f32) (q : Fin 1024) :
    k0_pay2 x0 x1 (ix2 (0 : Fin 1) q) = ∑ k : Fin 512, x0 (ix2 k q) * x1 (ix2 k q) := by
  pointwise [k0_pay2]

/-- The rows point `t` writes. -/
theorem rows (c : Dev nD) (t : Fin cfg0.N) : (outsAt0 m c t.val t.isLt).1 = k0_pay1 (iblk m c 0 t) (iblk m c 2 t) := by
  have hN : cfg0.N = 8 := N_0
  by_cases h : t.val = 0
  · rw [outsAt0_A m c t (by omega) (by omega)]
    dsimp only
    rw [outA3]
  · rw [outsAt0_B m c t (by omega) (by omega)]
    dsimp only
    rw [outB3]

/-- What point `s` adds to the sums. -/
def gatePart (c : Dev nD) (q : Fin 1024) (s : ℕ) : Ideal .f32 :=
  if h : s < cfg0.N then k0_pay2 (iblk m c 0 ⟨s, h⟩) (iblk m c 1 ⟨s, h⟩) (ix2 (0 : Fin 1) q) else 0

/-- The sums after point `n`. -/
theorem gateSums (c : Dev nD) (q : Fin 1024) : ∀ (n : ℕ) (hn : n < cfg0.N),
    ((outsAt0 m c n hn).2 : Vec Ideal S1x1024 .f32) (ix2 (0 : Fin 1) q) = ∑ s ∈ Finset.range (n + 1), gatePart m c q s
  | 0, hn => by
    have e := outsAt0_A m c ⟨0, hn⟩ (Nat.zero_mod _) (by simp)
    dsimp only at e
    rw [e, Finset.sum_range_one]
    unfold gatePart
    rw [dif_pos hn]
    dsimp only
    rw [outA4]
  | n + 1, hn => by
    have hN : cfg0.N = 8 := N_0
    have e := outsAt0_B m c ⟨n + 1, hn⟩ (by dsimp only; omega) (by dsimp only; omega)
    dsimp only at e
    rw [e, Finset.sum_range_succ, ← gateSums c q n (Nat.lt_of_succ_lt hn)]
    unfold gatePart
    rw [dif_pos hn]
    dsimp only
    rw [outB4]
    pointwise [k0_pay3]
    rfl

/-- The last point's sums are the sums over all the rows. -/
theorem last (c : Dev nD) (q : Fin 1024) (h : 7 < cfg0.N) :
    ((outsAt0 m c 7 h).2 : Vec Ideal S1x1024 .f32) (ix2 (0 : Fin 1) q) = gateE (fun r => src0 m c (ix2 r q)) (fun r => src1 m c (ix2 r q)) := by
  have hN : cfg0.N = 8 := N_0
  unfold gateE
  rw [gateSums, RowSums.sum_rows, Finset.sum_range]
  refine Finset.sum_congr rfl fun s _ => ?_
  unfold gatePart
  rw [dif_pos (by omega)]
  refine (pay2_apply (iblk m c 0 _) (iblk m c 1 _) q).trans (Finset.sum_congr rfl fun k _ => ?_)
  exact congrArg₂ (· * ·) (block_0 m c _ k q (ix2 (⟨s.val * 512 + k.val, by omega⟩ : Fin 4096) q) (by simp <;> omega) (by simp <;> omega))
    (block_1 m c _ k q (ix2 (⟨s.val * 512 + k.val, by omega⟩ : Fin 4096) q) (by simp <;> omega) (by simp <;> omega))

/-- An element of the result. -/
theorem result3 (c : Dev nD) (p0 : Fin 4096) (p1 : Fin 1024) :
    ((dats m 0 c).arrAt 3 cfg0.N : Vec Ideal S4096x1024 .bf16) (ix2 p0 p1) = rowE (src0 m c (ix2 p0 p1)) (src2 m c (ix2 (0 : Fin 1) p1)) := by
  have hN : cfg0.N = 8 := N_0
  obtain ⟨t, ht⟩ : ∃ t : Fin cfg0.N, t.val = p0.val / 512 := ⟨⟨p0.val / 512, by omega⟩, rfl⟩
  have hf : (cfg0.win 3).flush t = true := (by decide +kernel : ∀ t : Fin grid0.N, win0_3.flush t = true) t
  have e := congrFun (blocks3 m c t hf) (ix2 (⟨p0.val % 512, by omega⟩ : Fin 512) (⟨p1.val % 1024, by omega⟩ : Fin 1024))
  rw [View.read_apply, flushed3] at e
  have hi := (by decide +kernel : ∀ t : Fin grid0.N, win0_3.index t 0 = t.val ∧ win0_3.index t 1 = 0) t
  have hidx : ((cfg0.win 3).blk t).view.emb (ix2 (⟨p0.val % 512, by omega⟩ : Fin 512) (⟨p1.val % 1024, by omega⟩ : Fin 1024)) = ix2 p0 p1 := by
    refine funext fun d => Fin.ext ?_
    match d with
    | ⟨0, _⟩ => show win0_3.index t 0 * 512 + 1 * (p0.val % 512) = p0.val; rw [hi.1]; omega
    | ⟨1, _⟩ => show win0_3.index t 1 * 1024 + 1 * (p1.val % 1024) = p1.val; rw [hi.2]; omega
  rw [hidx] at e
  refine e.trans ?_
  rw [rows]
  refine (pay1_apply (iblk m c 0 t) (iblk m c 2 t) _ _).trans ?_
  rw [block_0 m c t _ _ (ix2 p0 p1) (by simp <;> omega) (by simp <;> omega), block_2 m c t 0 _ (ix2 (0 : Fin 1) p1) (by simp <;> omega) (by simp <;> omega)]

/-- Only the last point writes the sums back. -/
theorem flush4 : ∀ t t' : Fin cfg0.N, (cfg0.win 4).flush t = true → (cfg0.win 4).flush t' = true → t = t' :=
  (by decide +kernel : ∀ t t' : Fin grid0.N, win0_4.flush t = true → win0_4.flush t' = true → t = t')

set_option maxHeartbeats 1000000 in
/-- An element of the sums. -/
theorem result4 (c : Dev nD) (p0 : Fin 1) (p1 : Fin 1024) :
    ((dats m 0 c).arrAt 4 cfg0.N : Vec Ideal S1x1024 .f32) (ix2 p0 p1) = gateE (fun r => src0 m c (ix2 r p1)) (fun r => src1 m c (ix2 r p1)) := by
  have hN : cfg0.N = 8 := N_0
  obtain ⟨t, ht⟩ : ∃ t : Fin cfg0.N, t.val = 7 := ⟨⟨7, by omega⟩, rfl⟩
  have hf : (cfg0.win 4).flush t = true := (by decide +kernel : ∀ t : Fin grid0.N, t.val = 7 → win0_4.flush t = true) t ht
  have hi := (by decide +kernel : ∀ t : Fin grid0.N, win0_4.index t 0 = 0 ∧ win0_4.index t 1 = 0) t
  have e := congrFun ((dats m 0 c).read_blk_arrAt_eq_flushed 4 (fun t t' h h' hne => absurd (flush4 t t' h h') hne) cfg0.N t t.isLt hf) (ix2 p0 p1)
  rw [View.read_apply, flushed4] at e
  have hidx : ((cfg0.win 4).blk t).view.emb (ix2 p0 p1) = ix2 p0 p1 := by
    refine funext fun d => Fin.ext ?_
    match d with
    | ⟨0, _⟩ => show win0_4.index t 0 * 1 + 1 * p0.val = p0.val; rw [hi.1]; omega
    | ⟨1, _⟩ => show win0_4.index t 1 * 1024 + 1 * p1.val = p1.val; rw [hi.2]; omega
  rw [hidx] at e
  refine e.trans ?_
  obtain rfl : p0 = 0 := Subsingleton.elim _ _
  obtain ⟨n, hn⟩ := t
  dsimp only at ht
  subst ht
  exact last m c p1 hn
end

open Idealize.ShloMosaic Idealize.ShloMosaic.TcCoe Idealize.SL.Sem

/-- Kernel and reference end with equal results. -/
theorem algebraic : Cert.algebraic_Kernel38Ideal_Reference38Ideal := by
  intro m ρ m' ρ' _ hagree
  refine ⟨fun c => (Cert.Kernel38Ideal.Gen.dats m 0 c).arrAt 3 Cert.Kernel38Ideal.cfg0.N, fun c => (Cert.Kernel38Ideal.Gen.dats m 0 c).arrAt 4 Cert.Kernel38Ideal.cfg0.N, Cert.Kernel38Ideal.Value.run_blocks (F := Ideal) m ρ, ?_⟩
  refine (θ_run _ _ _).mono (fun _ h c => ?_) (Cert.Reference38Ideal.Value.run m' ρ')
  obtain ⟨h0, h1, h2⟩ : _ = src0 m c ∧ _ = src1 m c ∧ _ = src2 m c := hagree c
  refine ⟨(h c).1.trans ?_, (h c).2.1.trans ?_, (h c).2.2⟩
  · rw [h0, h2]
    refine funext fun (j : Cert.Kernel38Ideal.S4096x1024.Idx) => ?_
    obtain ⟨p0, p1, rfl⟩ : ∃ (p0 : Fin 4096) (p1 : Fin 1024), j = ix2 p0 p1 := ⟨j 0, j 1, eq_ix2 j⟩
    refine Eq.trans ?_ (result3 m c p0 p1).symm
    generalize src0 m c = x0
    generalize src2 m c = x2
    pointwise [rowE]
  · rw [h0, h1]
    refine funext fun (j : Cert.Kernel38Ideal.S1x1024.Idx) => ?_
    obtain ⟨p0, p1, rfl⟩ : ∃ (p0 : Fin 1) (p1 : Fin 1024), j = ix2 p0 p1 := ⟨j 0, j 1, eq_ix2 j⟩
    refine Eq.trans ?_ (result4 m c p0 p1).symm
    generalize src0 m c = x0
    generalize src1 m c = x1
    obtain rfl : p0 = 0 := Subsingleton.elim _ _
    pointwise [gateE]

/-- The frames of the three programs. -/
theorem frame_p : Cert.quiescent_Kernel38 := fun m ρ _ => Cert.Kernel38.Gen.frame m ρ
theorem frame_i : Cert.quiescent_Kernel38Ideal := fun m ρ _ => Cert.Kernel38Ideal.Gen.frame m ρ
theorem frame_r : Cert.quiescent_Reference38Ideal := fun m ρ _ =>
  (θ_run _ _ _).mono (fun r h => ⟨fun c => (h c).2.2, sem_eq_zero_of_no_sems (by decide) r.2⟩)
    (Cert.Reference38Ideal.Value.run m ρ)

end Cert.GateBwd

end

end
-- ==== Proof.RmsBwd.lean ====
/- The two ways of writing the gradient through the division by the root of the mean square: with the normalised row, and as the product rule gives it. -/
module

public import proofs.«01_k».proof.Defs
public import Idealize.ShloMosaic.Lib.Pointwise
public import Idealize.ShloMosaic.Lib.Quiescent

@[expose] public section

noncomputable section

namespace Cert.RmsBwd

open Idealize.ShloMosaic

variable {n : ℕ}

/-- The mean of the squares, and a small number. -/
def meanSq (N ε : EReal) (x : Fin n → EReal) : EReal := Ideal.div (∑ k, x k * x k) N + ε

/-- The gradient written with the normalised row. -/
def viaRow (N ε : EReal) (x d : Fin n → EReal) (b : Fin n) : EReal :=
  Ideal.rsqrt (meanSq N ε x) * (d b - x b * Ideal.rsqrt (meanSq N ε x) * Ideal.div (∑ k, d k * (x k * Ideal.rsqrt (meanSq N ε x))) N)

/-- What the product rule gives through the mean of the squares. -/
def through (N ε h : EReal) (x d : Fin n → EReal) : EReal :=
  Ideal.div ((∑ k, x k * d k) * (h * Ideal.div (Ideal.rsqrt (meanSq N ε x)) (meanSq N ε x))) N

/-- The gradient as the product rule gives it. -/
def viaRule (N ε h : EReal) (x d : Fin n → EReal) (b : Fin n) : EReal :=
  d b * Ideal.rsqrt (meanSq N ε x) + (x b * through N ε h x d + x b * through N ε h x d)

theorem word_1024 : Ideal.ofBits .f32 1149239296#32 = ((1024 : ℝ) : EReal) := by
  simp [Ideal.ofBits, Ideal.ieee, -EReal.coe_mul]
  norm_num

theorem word_512 : Ideal.ofBits .f32 1140850688#32 = ((512 : ℝ) : EReal) := by
  simp [Ideal.ofBits, Ideal.ieee, -EReal.coe_mul]
  norm_num

theorem word_half : Ideal.ofBits .f32 0x3F000000#32 = ((1 / 2 : ℝ) : EReal) := by
  simp [Ideal.ofBits, Ideal.ieee, -EReal.coe_mul]
  norm_num

theorem word_two : Ideal.ofBits .f32 0x40000000#32 = ((2 : ℝ) : EReal) := by
  simp [Ideal.ofBits, Ideal.ieee, -EReal.coe_mul]
  norm_num

theorem word_neg_half : Ideal.ofBits .f32 0xBF000000#32 = ((-(1 / 2) : ℝ) : EReal) := by
  simp [Ideal.ofBits, Ideal.ieee, -EReal.coe_mul]
  norm_num

theorem word_small : ∃ r : ℝ, 0 < r ∧ Ideal.ofBits .f32 897988541#32 = (r : EReal) := by
  refine ⟨_, ?_, by simp [Ideal.ofBits, Ideal.ieee, -EReal.coe_mul]; rfl⟩
  positivity

theorem square_nonneg (a : EReal) : 0 ≤ a * a := by
  induction a with
  | bot => simp
  | top => simp
  | coe r => rw [← EReal.coe_mul]; exact_mod_cast _root_.mul_self_nonneg r

/-- The two equal terms of the product rule. -/
theorem twice (a x t : EReal) : a + x * t + t * x = a + (x * t + x * t) := by
  rw [add_assoc, mul_comm t x]

/-- A nonnegative real factor goes out of a sum. -/
theorem sum_mul_real (f : Fin n → EReal) (r : ℝ) (hr : 0 ≤ r) : ∑ k, f k * (r : EReal) = (∑ k, f k) * (r : EReal) := by
  classical
  induction (Finset.univ : Finset (Fin n)) using Finset.induction_on with
  | empty => simp
  | insert a s ha ih =>
    rw [Finset.sum_insert ha, Finset.sum_insert ha, ih, EReal.right_distrib_of_nonneg_of_ne_top (by exact_mod_cast hr) (EReal.coe_ne_top r)]

theorem div_real (y : EReal) (N : ℝ) (hN : 0 < N) : Ideal.div y (N : EReal) = y * ((N⁻¹ : ℝ) : EReal) := by
  have h : (N : EReal) ≠ 0 := by exact_mod_cast hN.ne'
  unfold Ideal.div
  rw [if_neg h, EReal.coe_inv]

theorem rsqrt_real (v : ℝ) (hv : 0 < v) : Ideal.rsqrt (v : EReal) = (((√v)⁻¹ : ℝ) : EReal) := by
  show (if v < 0 then ⊥ else if v = 0 then ⊤ else (((√v)⁻¹ : ℝ) : EReal)) = _
  rw [if_neg hv.not_gt, if_neg hv.ne']

/-- The two are equal, whatever the elements. -/
theorem viaRow_eq (N e : ℝ) (hN : 0 < N) (he : 0 < e) (x d : Fin n → EReal) (b : Fin n) :
    viaRow (N : EReal) (e : EReal) x d b = viaRule (N : EReal) (e : EReal) ((-(1 / 2) : ℝ) : EReal) x d b := by
  have hs : 0 ≤ ∑ k, x k * x k := Finset.sum_nonneg fun k _ => square_nonneg (x k)
  have hN' : (0 : ℝ) ≤ N⁻¹ := (inv_pos.mpr hN).le
  have hv : (e : EReal) ≤ meanSq (N : EReal) (e : EReal) x := by
    unfold meanSq
    rw [div_real _ _ hN]
    exact le_add_of_nonneg_left (mul_nonneg hs (by exact_mod_cast hN'))
  unfold viaRow viaRule through
  generalize meanSq (N : EReal) (e : EReal) x = v at hv ⊢
  induction v with
  | bot => simp at hv
  | top =>
    have hr : Ideal.rsqrt ⊤ = 0 := rfl
    have h0 : Ideal.div 0 ⊤ = 0 := by simp [Ideal.div]
    rw [hr, h0]
    simp only [div_real _ _ hN, mul_zero, zero_mul, add_zero]
  | coe v =>
    have hv : 0 < v := lt_of_lt_of_le he (by exact_mod_cast hv)
    obtain ⟨ρ, hρ, hr, hd⟩ : ∃ ρ : ℝ, 0 ≤ ρ ∧ Ideal.rsqrt (v : EReal) = (ρ : EReal) ∧ Ideal.div (ρ : EReal) (v : EReal) = ((ρ * ρ * ρ : ℝ) : EReal) := by
      refine ⟨(√v)⁻¹, by positivity, rsqrt_real v hv, ?_⟩
      rw [div_real _ _ hv, ← EReal.coe_mul]
      congr 1
      rw [show v⁻¹ = (√v)⁻¹ * (√v)⁻¹ by rw [← mul_inv, Real.mul_self_sqrt hv.le], mul_assoc]
    rw [hr, hd, div_real _ _ hN, div_real _ _ hN]
    have hsum : ∑ k, d k * (x k * (ρ : EReal)) = (∑ k, x k * d k) * (ρ : EReal) := by
      rw [← sum_mul_real _ ρ hρ]
      exact Finset.sum_congr rfl fun k _ => by rw [mul_comm (x k) (d k), mul_assoc]
    rw [hsum]
    generalize ∑ k, x k * d k = s
    rw [sub_eq_add_neg, EReal.left_distrib_of_nonneg_of_ne_top (by exact_mod_cast hρ) (EReal.coe_ne_top ρ), mul_comm (ρ : EReal) (d b)]
    congr 1
    have hc : (0 : ℝ) ≤ ρ * ρ * ρ * N⁻¹ * (1 / 2) := by positivity
    have e1 : x b * (s * (((-(1 / 2) : ℝ) : EReal) * ((ρ * ρ * ρ : ℝ) : EReal)) * ((N⁻¹ : ℝ) : EReal)) = -(x b * s) * ((ρ * ρ * ρ * N⁻¹ * (1 / 2) : ℝ) : EReal) := by
      rw [neg_mul, ← mul_neg, ← EReal.coe_neg, ← EReal.coe_mul, mul_assoc s, ← EReal.coe_mul, ← mul_assoc]
      congr 2
      ring
    rw [e1, ← EReal.left_distrib_of_nonneg (by exact_mod_cast hc) (by exact_mod_cast hc), ← EReal.coe_add]
    rw [neg_mul, mul_neg]
    congr 1
    have e2 : (ρ : EReal) * (x b * (ρ : EReal) * (s * (ρ : EReal) * ((N⁻¹ : ℝ) : EReal))) = x b * s * ((ρ : EReal) * (ρ : EReal) * (ρ : EReal) * ((N⁻¹ : ℝ) : EReal)) := by
      ac_rfl
    rw [e2, ← EReal.coe_mul, ← EReal.coe_mul, ← EReal.coe_mul]
    congr 2
    ring

end Cert.RmsBwd

end

end
-- ==== Proof.NormModBwd.lean ====
/- The backward pass of the norm and the modulation, in blocks of 512 rows: the argument's gradient row by row, the gradients of scale and shift summed over the points. -/
module

public import proofs.«01_k».proof.Proof.Gen.Kernel39.Frame
public import proofs.«01_k».proof.Proof.Gen.Kernel39Ideal.Value
public import proofs.«01_k».proof.Proof.Gen.Reference39Ideal.Run
public import proofs.«01_k».proof.Proof.RmsBwd
public import proofs.«01_k».proof.Proof.RowSums
public import proofs.«01_k».proof.Proof.Base

@[expose] public section

set_option maxRecDepth 16384

noncomputable section

namespace Cert.NormModBwd

section
open Cert.Kernel39Ideal Cert.Kernel39Ideal.Gen Cert.Kernel39Ideal.Value Idealize.ShloMosaic Idealize.ShloMosaic.TcCoe Idealize.SL.Sem

variable (m : (ℓ : Loc nD τ sig) → Buf (Elt Ideal) ℓ)

/-- The arguments. -/
abbrev src0 (c : Dev nD) : Vec Ideal S4096x1024 .f32 := m ((c : Thread nD τ).loc main_arg0)
abbrev src1 (c : Dev nD) : Vec Ideal S4096x1024 .f32 := m ((c : Thread nD τ).loc main_arg1)
abbrev src2 (c : Dev nD) : Vec Ideal S4096x1024 .f32 := m ((c : Thread nD τ).loc main_arg2)
abbrev src3 (c : Dev nD) : Vec Ideal S1x1024 .f32 := m ((c : Thread nD τ).loc main_arg3)

/-- An element of the argument's gradient: what the residual hands on, and the gradient through the norm. -/
def rowE (r : Ideal .f32) (x d s : Fin 1024 → Ideal .f32) (q : Fin 1024) : Ideal .f32 :=
  r + RmsBwd.viaRow (Ideal.ofBits .f32 1149239296#32) (Ideal.ofBits .f32 897988541#32) x (fun k => d k * (1 + s k)) q

/-- An element of the scale's gradient: the sum over the rows. -/
def scaleE (x : Fin 4096 → Fin 1024 → Ideal .f32) (d : Fin 4096 → Ideal .f32) (q : Fin 1024) : Ideal .f32 :=
  ∑ r, d r * (x r q * Ideal.rsqrt (RmsBwd.meanSq (Ideal.ofBits .f32 1149239296#32) (Ideal.ofBits .f32 897988541#32) (x r)))

/-- An element of the shift's gradient: the sum over the rows. -/
def shiftE (d : Fin 4096 → Ideal .f32) : Ideal .f32 := ∑ r, d r

section
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1x1024 .f32) (harg7 : arg7.IsWhole) (hc0 : cond0_0 i) (hc1 : ¬cond0_1 i) (hc2 : cond0_2 i) (hc3 : ¬cond0_3 i) (x0 : Vec Ideal S512x1024 .f32) (x1 : Vec Ideal S512x1024 .f32) (x2 : Vec Ideal S512x1024 .f32) (x3 : Vec Ideal S1x1024 .f32)

/-- What the first point stores in window 4. -/
theorem outA4 : out0_A_4 c i arg1 harg1 arg2 harg2 arg3 harg3 arg4 harg4 arg5 harg5 arg6 harg6 arg7 harg7 hc0 hc1 hc2 hc3 x0 x1 x2 x3 = k0_pay1 (k0_pay2 x0) (k0_pay3 x0) x1 x2 (k0_pay8 x3) := by
  unfold out0_A_4
  rw [View.read_writes_eq_canon _ _ _ (fun _ => cover0_A_4 ..)]
  unfold kernelRun0_A
  dsimp only
  rw [View.canon_unit_zero hz2]
  simp only [kernelRun0_A.sl.r, kernelRun0_A.sl.r_1, kernelRun0_A.sl.r_2, kernelRun0_A.sl.r_3, kernelRun0_A.sl.r_4, View.readAt_eq_ld, harg1.read_unread, harg2.read_unread, harg3.read_unread, harg4.read_unread, harg5.read_unread, harg6.read_unread, harg7.read_unread, View.ld_unit_zero (S := S512x1024) hz2, View.ld_unit_zero (S := S1x1024) hz2]

/-- What the first point stores in window 5. -/
theorem outA5 : out0_A_5 c i arg1 harg1 arg2 harg2 arg3 harg3 arg4 harg4 arg5 harg5 arg6 harg6 arg7 harg7 hc0 hc1 hc2 hc3 x0 x1 x2 x3 = k0_pay4 x0 x1 := by
  unfold out0_A_5
  rw [View.read_writes_eq_canon _ _ _ (fun _ => cover0_A_5 ..)]
  unfold kernelRun0_A
  dsimp only
  rw [View.canon_unit_zero hz2]
  simp only [View.readAt_eq_ld, harg1.read_unread, harg2.read_unread, harg3.read_unread, harg4.read_unread, harg5.read_unread, harg6.read_unread, harg7.read_unread, View.ld_unit_zero (S := S512x1024) hz2, View.ld_unit_zero (S := S1x1024) hz2]

/-- What the first point stores in window 6. -/
theorem outA6 : out0_A_6 c i arg1 harg1 arg2 harg2 arg3 harg3 arg4 harg4 arg5 harg5 arg6 harg6 arg7 harg7 hc0 hc1 hc2 hc3 x0 x1 x2 x3 = k0_pay6 x1 := by
  unfold out0_A_6
  rw [View.read_writes_eq_canon _ _ _ (fun _ => cover0_A_6 ..)]
  unfold kernelRun0_A
  dsimp only
  rw [View.canon_unit_zero hz2]
  simp only [View.readAt_eq_ld, harg1.read_unread, harg2.read_unread, harg3.read_unread, harg4.read_unread, harg5.read_unread, harg6.read_unread, harg7.read_unread, View.ld_unit_zero (S := S512x1024) hz2, View.ld_unit_zero (S := S1x1024) hz2]

end

section
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1x1024 .f32) (harg7 : arg7.IsWhole) (hc0 : ¬cond0_0 i) (hc1 : cond0_1 i) (hc2 : ¬cond0_2 i) (hc3 : cond0_3 i) (x0 : Vec Ideal S512x1024 .f32) (x1 : Vec Ideal S512x1024 .f32) (x2 : Vec Ideal S512x1024 .f32) (x3 : Vec Ideal S1x1024 .f32) (xo5 : Vec Ideal S1x1024 .f32) (xo6 : Vec Ideal S1x1024 .f32)

/-- What the later points store in window 4. -/
theorem outB4 : out0_B_4 c i arg1 harg1 arg2 harg2 arg3 harg3 arg4 harg4 arg5 harg5 arg6 harg6 arg7 harg7 hc0 hc1 hc2 hc3 x0 x1 x2 x3 xo5 xo6 = k0_pay1 (k0_pay2 x0) (k0_pay3 x0) x1 x2 (k0_pay8 x3) := by
  unfold out0_B_4
  rw [View.read_writes_eq_canon _ _ _ (fun _ => cover0_B_4 ..)]
  unfold kernelRun0_B
  dsimp only
  rw [View.canon_unit_zero hz2]
  simp only [kernelRun0_B.sl.r, kernelRun0_B.sl.r_1, kernelRun0_B.sl.r_2, kernelRun0_B.sl.r_3, kernelRun0_B.sl.r_4, View.readAt_eq_ld, harg1.read_unread, harg2.read_unread, harg3.read_unread, harg4.read_unread, harg5.read_unread, harg6.read_unread, harg7.read_unread, View.ld_unit_zero (S := S512x1024) hz2, View.ld_unit_zero (S := S1x1024) hz2]

/-- What the later points store in window 5. -/
theorem outB5 : out0_B_5 c i arg1 harg1 arg2 harg2 arg3 harg3 arg4 harg4 arg5 harg5 arg6 harg6 arg7 harg7 hc0 hc1 hc2 hc3 x0 x1 x2 x3 xo5 xo6 = k0_pay5 x0 x1 xo5 := by
  unfold out0_B_5
  rw [View.read_writes_eq_canon _ _ _ (fun _ => cover0_B_5 ..)]
  unfold kernelRun0_B
  dsimp only
  rw [View.canon_unit_zero hz2]
  simp only [View.readAt_eq_ld, harg1.read_unread, harg2.read_unread, harg3.read_unread, harg4.read_unread, harg5.read_unread, harg6.read_unread, harg7.read_unread, View.ld_unit_zero (S := S512x1024) hz2, View.ld_unit_zero (S := S1x1024) hz2]

/-- What the later points store in window 6. -/
theorem outB6 : out0_B_6 c i arg1 harg1 arg2 harg2 arg3 harg3 arg4 harg4 arg5 harg5 arg6 harg6 arg7 harg7 hc0 hc1 hc2 hc3 x0 x1 x2 x3 xo5 xo6 = k0_pay7 x1 xo6 := by
  unfold out0_B_6
  rw [View.read_writes_eq_canon _ _ _ (fun _ => cover0_B_6 ..)]
  unfold kernelRun0_B
  dsimp only
  rw [View.canon_unit_zero hz2]
  simp only [View.readAt_eq_ld, harg1.read_unread, harg2.read_unread, harg3.read_unread, harg4.read_unread, harg5.read_unread, harg6.read_unread, harg7.read_unread, View.ld_unit_zero (S := S512x1024) hz2, View.ld_unit_zero (S := S1x1024) hz2]

end

/-- The block of argument 0 that point `t` reads, at an element. -/
theorem block_0 (c : Dev nD) (t : Fin cfg0.N) (l0 : Fin 512) (l1 : Fin 1024) (i : S4096x1024.Idx)
    (h0 : (i 0).val = (t.val) * 512 + l0.val) (h1 : (i 1).val = (0) * 1024 + l1.val) :
    (iblk m c 0 t : Vec Ideal S512x1024 .f32) (ix2 l0 l1) = src0 m c i := by
  have hi := (by decide +kernel : ∀ t : Fin grid0.N, win0_0.index t 0 = t.val ∧ win0_0.index t 1 = 0) t
  refine congrArg (src0 m c) (funext fun a => Fin.ext ?_)
  match a with
  | ⟨0, _⟩ => show win0_0.index t 0 * 512 + 1 * l0.val = (i 0).val; rw [hi.1, h0]; omega
  | ⟨1, _⟩ => show win0_0.index t 1 * 1024 + 1 * l1.val = (i 1).val; rw [hi.2, h1]; omega

/-- The block of argument 1 that point `t` reads, at an element. -/
theorem block_1 (c : Dev nD) (t : Fin cfg0.N) (l0 : Fin 512) (l1 : Fin 1024) (i : S4096x1024.Idx)
    (h0 : (i 0).val = (t.val) * 512 + l0.val) (h1 : (i 1).val = (0) * 1024 + l1.val) :
    (iblk m c 1 t : Vec Ideal S512x1024 .f32) (ix2 l0 l1) = src1 m c i := by
  have hi := (by decide +kernel : ∀ t : Fin grid0.N, win0_1.index t 0 = t.val ∧ win0_1.index t 1 = 0) t
  refine congrArg (src1 m c) (funext fun a => Fin.ext ?_)
  match a with
  | ⟨0, _⟩ => show win0_1.index t 0 * 512 + 1 * l0.val = (i 0).val; rw [hi.1, h0]; omega
  | ⟨1, _⟩ => show win0_1.index t 1 * 1024 + 1 * l1.val = (i 1).val; rw [hi.2, h1]; omega

/-- The block of argument 2 that point `t` reads, at an element. -/
theorem block_2 (c : Dev nD) (t : Fin cfg0.N) (l0 : Fin 512) (l1 : Fin 1024) (i : S4096x1024.Idx)
    (h0 : (i 0).val = (t.val) * 512 + l0.val) (h1 : (i 1).val = (0) * 1024 + l1.val) :
    (iblk m c 2 t : Vec Ideal S512x1024 .f32) (ix2 l0 l1) = src2 m c i := by
  have hi := (by decide +kernel : ∀ t : Fin grid0.N, win0_2.index t 0 = t.val ∧ win0_2.index t 1 = 0) t
  refine congrArg (src2 m c) (funext fun a => Fin.ext ?_)
  match a with
  | ⟨0, _⟩ => show win0_2.index t 0 * 512 + 1 * l0.val = (i 0).val; rw [hi.1, h0]; omega
  | ⟨1, _⟩ => show win0_2.index t 1 * 1024 + 1 * l1.val = (i 1).val; rw [hi.2, h1]; omega

/-- The block of argument 3 that point `t` reads, at an element. -/
theorem block_3 (c : Dev nD) (t : Fin cfg0.N) (l0 : Fin 1) (l1 : Fin 1024) (i : S1x1024.Idx)
    (h0 : (i 0).val = (0) * 1 + l0.val) (h1 : (i 1).val = (0) * 1024 + l1.val) :
    (iblk m c 3 t : Vec Ideal S1x1024 .f32) (ix2 l0 l1) = src3 m c i := by
  have hi := (by decide +kernel : ∀ t : Fin grid0.N, win0_3.index t 0 = 0 ∧ win0_3.index t 1 = 0) t
  refine congrArg (src3 m c) (funext fun a => Fin.ext ?_)
  match a with
  | ⟨0, _⟩ => show win0_3.index t 0 * 1 + 1 * l0.val = (i 0).val; rw [hi.1, h0]; omega
  | ⟨1, _⟩ => show win0_3.index t 1 * 1024 + 1 * l1.val = (i 1).val; rw [hi.2, h1]; omega

/-- Their element. -/
theorem pay1_apply (x0 x1 x2 : Vec Ideal S512x1024 .f32) (x3 : Vec Ideal S1x1024 .f32) (p : Fin 512) (q : Fin 1024) :
    k0_pay1 (k0_pay2 x0) (k0_pay3 x0) x1 x2 (k0_pay8 x3) (ix2 p q) = rowE (x2 (ix2 p q)) (fun k => x0 (ix2 p k)) (fun k => x1 (ix2 p k)) (fun k => x3 (ix2 (0 : Fin 1) k)) q := by
  pointwise [k0_pay1, k0_pay2, k0_pay3, k0_pay8, rowE, RmsBwd.viaRow, RmsBwd.meanSq]

/-- The sums over a block's rows. -/
theorem pay4_apply (x0 x1 : Vec Ideal S512x1024 .f32) (q : Fin 1024) :
    k0_pay4 x0 x1 (ix2 (0 : Fin 1) q) = ∑ k : Fin 512, x1 (ix2 k q) * (x0 (ix2 k q) * Ideal.rsqrt (RmsBwd.meanSq (Ideal.ofBits .f32 1149239296#32) (Ideal.ofBits .f32 897988541#32) (fun j => x0 (ix2 k j)))) := by
  pointwise [k0_pay4, k0_pay3, k0_pay2, RmsBwd.meanSq]
theorem pay6_apply (x1 : Vec Ideal S512x1024 .f32) (q : Fin 1024) :
    k0_pay6 x1 (ix2 (0 : Fin 1) q) = ∑ k : Fin 512, x1 (ix2 k q) := by
  pointwise [k0_pay6]

/-- The rows point `t` writes. -/
theorem rows (c : Dev nD) (t : Fin cfg0.N) : (outsAt0 m c t.val t.isLt).1 =
    k0_pay1 (k0_pay2 (iblk m c 0 t)) (k0_pay3 (iblk m c 0 t)) (iblk m c 1 t) (iblk m c 2 t) (k0_pay8 (iblk m c 3 t)) := by
  have hN : cfg0.N = 8 := N_0
  by_cases h : t.val = 0
  · rw [outsAt0_A m c t (by omega) (by omega) (by omega) (by omega)]
    dsimp only
    rw [outA4]
  · rw [outsAt0_B m c t (by omega) (by omega) (by omega) (by omega)]
    dsimp only
    rw [outB4]

/-- What point `s` adds to the sums. -/
def scalePart (c : Dev nD) (q : Fin 1024) (s : ℕ) : Ideal .f32 :=
  if h : s < cfg0.N then k0_pay4 (iblk m c 0 ⟨s, h⟩) (iblk m c 1 ⟨s, h⟩) (ix2 (0 : Fin 1) q) else 0

/-- The sums after point `n`. -/
theorem scaleSums (c : Dev nD) (q : Fin 1024) : ∀ (n : ℕ) (hn : n < cfg0.N),
    ((outsAt0 m c n hn).2.1 : Vec Ideal S1x1024 .f32) (ix2 (0 : Fin 1) q) = ∑ s ∈ Finset.range (n + 1), scalePart m c q s
  | 0, hn => by
    have e := outsAt0_A m c ⟨0, hn⟩ (Nat.zero_mod _) (by simp) (Nat.zero_mod _) (by simp)
    dsimp only at e
    rw [e, Finset.sum_range_one]
    unfold scalePart
    rw [dif_pos hn]
    dsimp only
    rw [outA5]
  | n + 1, hn => by
    have hN : cfg0.N = 8 := N_0
    have e := outsAt0_B m c ⟨n + 1, hn⟩ (by dsimp only; omega) (by dsimp only; omega) (by dsimp only; omega) (by dsimp only; omega)
    dsimp only at e
    rw [e, Finset.sum_range_succ, ← scaleSums c q n (Nat.lt_of_succ_lt hn)]
    unfold scalePart
    rw [dif_pos hn]
    dsimp only
    rw [outB5]
    pointwise [k0_pay5]
    rfl

/-- What point `s` adds to the sums. -/
def shiftPart (c : Dev nD) (q : Fin 1024) (s : ℕ) : Ideal .f32 :=
  if h : s < cfg0.N then k0_pay6 (iblk m c 1 ⟨s, h⟩) (ix2 (0 : Fin 1) q) else 0

/-- The sums after point `n`. -/
theorem shiftSums (c : Dev nD) (q : Fin 1024) : ∀ (n : ℕ) (hn : n < cfg0.N),
    ((outsAt0 m c n hn).2.2 : Vec Ideal S1x1024 .f32) (ix2 (0 : Fin 1) q) = ∑ s ∈ Finset.range (n + 1), shiftPart m c q s
  | 0, hn => by
    have e := outsAt0_A m c ⟨0, hn⟩ (Nat.zero_mod _) (by simp) (Nat.zero_mod _) (by simp)
    dsimp only at e
    rw [e, Finset.sum_range_one]
    unfold shiftPart
    rw [dif_pos hn]
    dsimp only
    rw [outA6]
  | n + 1, hn => by
    have hN : cfg0.N = 8 := N_0
    have e := outsAt0_B m c ⟨n + 1, hn⟩ (by dsimp only; omega) (by dsimp only; omega) (by dsimp only; omega) (by dsimp only; omega)
    dsimp only at e
    rw [e, Finset.sum_range_succ, ← shiftSums c q n (Nat.lt_of_succ_lt hn)]
    unfold shiftPart
    rw [dif_pos hn]
    dsimp only
    rw [outB6]
    pointwise [k0_pay7]
    rfl

/-- The last point's sums are the sums over all the rows. -/
theorem scaleLast (c : Dev nD) (q : Fin 1024) (h : 7 < cfg0.N) :
    ((outsAt0 m c 7 h).2.1 : Vec Ideal S1x1024 .f32) (ix2 (0 : Fin 1) q) = scaleE (fun r k => src0 m c (ix2 r k)) (fun r => src1 m c (ix2 r q)) q := by
  have hN : cfg0.N = 8 := N_0
  rw [scaleSums, scaleE, RowSums.sum_rows, Finset.sum_range]
  refine Finset.sum_congr rfl fun s _ => ?_
  unfold scalePart
  rw [dif_pos (by omega)]
  refine (pay4_apply (iblk m c 0 _) (iblk m c 1 _) q).trans (Finset.sum_congr rfl fun k _ => ?_)
  have hx : ∀ j, (iblk m c 0 ⟨s.val, by omega⟩ : Vec Ideal S512x1024 .f32) (ix2 k j) = src0 m c (ix2 (⟨s.val * 512 + k.val, by omega⟩ : Fin 4096) j) :=
    fun j => block_0 m c _ k j _ (by simp <;> omega) (by simp <;> omega)
  have hd : (iblk m c 1 ⟨s.val, by omega⟩ : Vec Ideal S512x1024 .f32) (ix2 k q) = src1 m c (ix2 (⟨s.val * 512 + k.val, by omega⟩ : Fin 4096) q) :=
    block_1 m c _ k q _ (by simp <;> omega) (by simp <;> omega)
  rw [hd, hx q, funext hx]

/-- The last point's sums are the sums over all the rows. -/
theorem shiftLast (c : Dev nD) (q : Fin 1024) (h : 7 < cfg0.N) :
    ((outsAt0 m c 7 h).2.2 : Vec Ideal S1x1024 .f32) (ix2 (0 : Fin 1) q) = shiftE (fun r => src1 m c (ix2 r q)) := by
  have hN : cfg0.N = 8 := N_0
  rw [shiftSums, shiftE, RowSums.sum_rows, Finset.sum_range]
  refine Finset.sum_congr rfl fun s _ => ?_
  unfold shiftPart
  rw [dif_pos (by omega)]
  refine (pay6_apply (iblk m c 1 _) q).trans (Finset.sum_congr rfl fun k _ => ?_)
  exact block_1 m c _ k q (ix2 (⟨s.val * 512 + k.val, by omega⟩ : Fin 4096) q) (by simp <;> omega) (by simp <;> omega)

/-- An element of the result. -/
theorem result4 (c : Dev nD) (p0 : Fin 4096) (p1 : Fin 1024) :
    ((dats m 0 c).arrAt 4 cfg0.N : Vec Ideal S4096x1024 .f32) (ix2 p0 p1) = rowE (src2 m c (ix2 p0 p1)) (fun k => src0 m c (ix2 p0 k)) (fun k => src1 m c (ix2 p0 k)) (fun k => src3 m c (ix2 (0 : Fin 1) k)) p1 := by
  have hN : cfg0.N = 8 := N_0
  obtain ⟨t, ht⟩ : ∃ t : Fin cfg0.N, t.val = p0.val / 512 := ⟨⟨p0.val / 512, by omega⟩, rfl⟩
  have hf : (cfg0.win 4).flush t = true := (by decide +kernel : ∀ t : Fin grid0.N, win0_4.flush t = true) t
  have e := congrFun (blocks4 m c t hf) (ix2 (⟨p0.val % 512, by omega⟩ : Fin 512) (⟨p1.val % 1024, by omega⟩ : Fin 1024))
  rw [View.read_apply, flushed4] at e
  have hi := (by decide +kernel : ∀ t : Fin grid0.N, win0_4.index t 0 = t.val ∧ win0_4.index t 1 = 0) t
  have hidx : ((cfg0.win 4).blk t).view.emb (ix2 (⟨p0.val % 512, by omega⟩ : Fin 512) (⟨p1.val % 1024, by omega⟩ : Fin 1024)) = ix2 p0 p1 := by
    refine funext fun d => Fin.ext ?_
    match d with
    | ⟨0, _⟩ => show win0_4.index t 0 * 512 + 1 * (p0.val % 512) = p0.val; rw [hi.1]; omega
    | ⟨1, _⟩ => show win0_4.index t 1 * 1024 + 1 * (p1.val % 1024) = p1.val; rw [hi.2]; omega
  rw [hidx] at e
  refine e.trans ?_
  rw [rows]
  refine (pay1_apply (iblk m c 0 t) (iblk m c 1 t) (iblk m c 2 t) (iblk m c 3 t) _ _).trans ?_
  have hq : (⟨p1.val % 1024, by omega⟩ : Fin 1024) = p1 := Fin.ext (by simp <;> omega)
  rw [hq]
  have h0 : ∀ k, (iblk m c 0 t : Vec Ideal S512x1024 .f32) (ix2 (⟨p0.val % 512, by omega⟩ : Fin 512) k) = src0 m c (ix2 p0 k) :=
    fun k => block_0 m c t _ k (ix2 p0 k) (by simp <;> omega) (by simp <;> omega)
  have h1 : ∀ k, (iblk m c 1 t : Vec Ideal S512x1024 .f32) (ix2 (⟨p0.val % 512, by omega⟩ : Fin 512) k) = src1 m c (ix2 p0 k) :=
    fun k => block_1 m c t _ k (ix2 p0 k) (by simp <;> omega) (by simp <;> omega)
  have h3 : ∀ k, (iblk m c 3 t : Vec Ideal S1x1024 .f32) (ix2 (0 : Fin 1) k) = src3 m c (ix2 (0 : Fin 1) k) :=
    fun k => block_3 m c t 0 k (ix2 (0 : Fin 1) k) (by simp <;> omega) (by simp <;> omega)
  rw [funext h0, funext h1, funext h3, block_2 m c t _ _ (ix2 p0 p1) (by simp <;> omega) (by simp <;> omega)]

/-- Only the last point writes the sums back. -/
theorem flush5 : ∀ t t' : Fin cfg0.N, (cfg0.win 5).flush t = true → (cfg0.win 5).flush t' = true → t = t' :=
  (by decide +kernel : ∀ t t' : Fin grid0.N, win0_5.flush t = true → win0_5.flush t' = true → t = t')

set_option maxHeartbeats 1000000 in
/-- An element of the sums. -/
theorem result5 (c : Dev nD) (p0 : Fin 1) (p1 : Fin 1024) :
    ((dats m 0 c).arrAt 5 cfg0.N : Vec Ideal S1x1024 .f32) (ix2 p0 p1) = scaleE (fun r k => src0 m c (ix2 r k)) (fun r => src1 m c (ix2 r p1)) p1 := by
  have hN : cfg0.N = 8 := N_0
  obtain ⟨t, ht⟩ : ∃ t : Fin cfg0.N, t.val = 7 := ⟨⟨7, by omega⟩, rfl⟩
  have hf : (cfg0.win 5).flush t = true := (by decide +kernel : ∀ t : Fin grid0.N, t.val = 7 → win0_5.flush t = true) t ht
  have hi := (by decide +kernel : ∀ t : Fin grid0.N, win0_5.index t 0 = 0 ∧ win0_5.index t 1 = 0) t
  have e := congrFun ((dats m 0 c).read_blk_arrAt_eq_flushed 5 (fun t t' h h' hne => absurd (flush5 t t' h h') hne) cfg0.N t t.isLt hf) (ix2 p0 p1)
  rw [View.read_apply, flushed5] at e
  have hidx : ((cfg0.win 5).blk t).view.emb (ix2 p0 p1) = ix2 p0 p1 := by
    refine funext fun d => Fin.ext ?_
    match d with
    | ⟨0, _⟩ => show win0_5.index t 0 * 1 + 1 * p0.val = p0.val; rw [hi.1]; omega
    | ⟨1, _⟩ => show win0_5.index t 1 * 1024 + 1 * p1.val = p1.val; rw [hi.2]; omega
  rw [hidx] at e
  refine e.trans ?_
  obtain rfl : p0 = 0 := Subsingleton.elim _ _
  obtain ⟨n, hn⟩ := t
  dsimp only at ht
  subst ht
  exact scaleLast m c p1 hn
/-- Only the last point writes the sums back. -/
theorem flush6 : ∀ t t' : Fin cfg0.N, (cfg0.win 6).flush t = true → (cfg0.win 6).flush t' = true → t = t' :=
  (by decide +kernel : ∀ t t' : Fin grid0.N, win0_6.flush t = true → win0_6.flush t' = true → t = t')

set_option maxHeartbeats 1000000 in
/-- An element of the sums. -/
theorem result6 (c : Dev nD) (p0 : Fin 1) (p1 : Fin 1024) :
    ((dats m 0 c).arrAt 6 cfg0.N : Vec Ideal S1x1024 .f32) (ix2 p0 p1) = shiftE (fun r => src1 m c (ix2 r p1)) := by
  have hN : cfg0.N = 8 := N_0
  obtain ⟨t, ht⟩ : ∃ t : Fin cfg0.N, t.val = 7 := ⟨⟨7, by omega⟩, rfl⟩
  have hf : (cfg0.win 6).flush t = true := (by decide +kernel : ∀ t : Fin grid0.N, t.val = 7 → win0_6.flush t = true) t ht
  have hi := (by decide +kernel : ∀ t : Fin grid0.N, win0_6.index t 0 = 0 ∧ win0_6.index t 1 = 0) t
  have e := congrFun ((dats m 0 c).read_blk_arrAt_eq_flushed 6 (fun t t' h h' hne => absurd (flush6 t t' h h') hne) cfg0.N t t.isLt hf) (ix2 p0 p1)
  rw [View.read_apply, flushed6] at e
  have hidx : ((cfg0.win 6).blk t).view.emb (ix2 p0 p1) = ix2 p0 p1 := by
    refine funext fun d => Fin.ext ?_
    match d with
    | ⟨0, _⟩ => show win0_6.index t 0 * 1 + 1 * p0.val = p0.val; rw [hi.1]; omega
    | ⟨1, _⟩ => show win0_6.index t 1 * 1024 + 1 * p1.val = p1.val; rw [hi.2]; omega
  rw [hidx] at e
  refine e.trans ?_
  obtain rfl : p0 = 0 := Subsingleton.elim _ _
  obtain ⟨n, hn⟩ := t
  dsimp only at ht
  subst ht
  exact shiftLast m c p1 hn
end

open Idealize.ShloMosaic Idealize.ShloMosaic.TcCoe Idealize.SL.Sem

/-- Kernel and reference end with equal results. -/
theorem algebraic : Cert.algebraic_Kernel39Ideal_Reference39Ideal := by
  intro m ρ m' ρ' _ hagree
  refine ⟨fun c => (Cert.Kernel39Ideal.Gen.dats m 0 c).arrAt 4 Cert.Kernel39Ideal.cfg0.N, fun c => (Cert.Kernel39Ideal.Gen.dats m 0 c).arrAt 5 Cert.Kernel39Ideal.cfg0.N, fun c => (Cert.Kernel39Ideal.Gen.dats m 0 c).arrAt 6 Cert.Kernel39Ideal.cfg0.N, Cert.Kernel39Ideal.Value.run_blocks (F := Ideal) m ρ, ?_⟩
  refine (θ_run _ _ _).mono (fun _ h c => ?_) (Cert.Reference39Ideal.Value.run m' ρ')
  obtain ⟨h0, h1, h2, h3⟩ : _ = src0 m c ∧ _ = src1 m c ∧ _ = src2 m c ∧ _ = src3 m c := hagree c
  refine ⟨(h c).1.trans ?_, (h c).2.1.trans ?_, (h c).2.2.1.trans ?_, (h c).2.2.2⟩
  · unfold Cert.Reference39Ideal.Value.res_main_v42
    rw [h0, h1, h2, h3]
    refine funext fun (j : Cert.Kernel39Ideal.S4096x1024.Idx) => ?_
    obtain ⟨p0, p1, rfl⟩ : ∃ (p0 : Fin 4096) (p1 : Fin 1024), j = ix2 p0 p1 := ⟨j 0, j 1, eq_ix2 j⟩
    refine Eq.trans ?_ (result4 m c p0 p1).symm
    generalize src0 m c = x0
    generalize src1 m c = x1
    generalize src2 m c = x2
    generalize src3 m c = x3
    obtain ⟨e, he, hw⟩ := RmsBwd.word_small
    unfold rowE
    rw [hw, RmsBwd.word_1024, RmsBwd.viaRow_eq 1024 e (by norm_num) he, ← RmsBwd.word_1024, ← hw, ← RmsBwd.word_neg_half]
    pointwise [RmsBwd.viaRule, RmsBwd.through, RmsBwd.meanSq]
    simp only [Fin.sum_univ_one]
    exact congrArg _ (RmsBwd.twice _ _ _)
  · rw [h0, h1]
    refine funext fun (j : Cert.Kernel39Ideal.S1x1024.Idx) => ?_
    obtain ⟨p0, p1, rfl⟩ : ∃ (p0 : Fin 1) (p1 : Fin 1024), j = ix2 p0 p1 := ⟨j 0, j 1, eq_ix2 j⟩
    refine Eq.trans ?_ (result5 m c p0 p1).symm
    generalize src0 m c = x0
    generalize src1 m c = x1
    obtain rfl : p0 = 0 := Subsingleton.elim _ _
    pointwise [scaleE, RmsBwd.meanSq]
    exact Finset.sum_congr rfl fun k _ => mul_comm _ _
  · rw [h1]
    refine funext fun (j : Cert.Kernel39Ideal.S1x1024.Idx) => ?_
    obtain ⟨p0, p1, rfl⟩ : ∃ (p0 : Fin 1) (p1 : Fin 1024), j = ix2 p0 p1 := ⟨j 0, j 1, eq_ix2 j⟩
    refine Eq.trans ?_ (result6 m c p0 p1).symm
    generalize src1 m c = x1
    obtain rfl : p0 = 0 := Subsingleton.elim _ _
    pointwise [shiftE]

/-- The frames of the three programs. -/
theorem frame_p : Cert.quiescent_Kernel39 := fun m ρ _ => Cert.Kernel39.Gen.frame m ρ
theorem frame_i : Cert.quiescent_Kernel39Ideal := fun m ρ _ => Cert.Kernel39Ideal.Gen.frame m ρ
theorem frame_r : Cert.quiescent_Reference39Ideal := fun m ρ _ =>
  (θ_run _ _ _).mono (fun r h => ⟨fun c => (h c).2.2.2, sem_eq_zero_of_no_sems (by decide) r.2⟩)
    (Cert.Reference39Ideal.Value.run m ρ)

end Cert.NormModBwd

end

end
-- ==== Proof.OutNormBwd.lean ====
/- The backward pass of the two attentions' norms, in blocks of 512 rows: the arguments' gradients row by row, the gains' gradients summed over the points. -/
module

public import proofs.«01_k».proof.Proof.Gen.Kernel40.Frame
public import proofs.«01_k».proof.Proof.Gen.Kernel40Ideal.Value
public import proofs.«01_k».proof.Proof.Gen.Reference40Ideal.Run
public import proofs.«01_k».proof.Proof.RmsBwd
public import proofs.«01_k».proof.Proof.RowSums
public import proofs.«01_k».proof.Proof.Base

@[expose] public section

set_option maxRecDepth 16384

noncomputable section

namespace Cert.OutNormBwd

section
open Cert.Kernel40Ideal Cert.Kernel40Ideal.Gen Cert.Kernel40Ideal.Value Idealize.ShloMosaic Idealize.ShloMosaic.TcCoe Idealize.SL.Sem

variable (m : (ℓ : Loc nD τ sig) → Buf (Elt Ideal) ℓ)

/-- The arguments. -/
abbrev src0 (c : Dev nD) : Vec Ideal S4096x512 .f32 := m ((c : Thread nD τ).loc main_arg0)
abbrev src1 (c : Dev nD) : Vec Ideal S4096x512 .f32 := m ((c : Thread nD τ).loc main_arg1)
abbrev src2 (c : Dev nD) : Vec Ideal S4096x1024 .f32 := m ((c : Thread nD τ).loc main_arg2)
abbrev src3 (c : Dev nD) : Vec Ideal S1x512 .f32 := m ((c : Thread nD τ).loc main_arg3)
abbrev src4 (c : Dev nD) : Vec Ideal S1x512 .f32 := m ((c : Thread nD τ).loc main_arg4)

/-- The column of the left half's, and of the right half's, element. -/
def colA (q : Fin 512) : Fin 1024 := ⟨q.val, by omega⟩
def colB (q : Fin 512) : Fin 1024 := ⟨512 + q.val, by omega⟩

/-- The two halves of a block's columns, as the body reads them. -/
def left (x : Vec Ideal S512x1024 .f32) : Vec Ideal S512x512 .f32 :=
  View.ld x (Rect.unit (s := S512x1024) ![0, 0] ![512, 512] inb_S512x1024_S512x512_0_0)
def right (x : Vec Ideal S512x1024 .f32) : Vec Ideal S512x512 .f32 :=
  View.ld x (Rect.unit (s := S512x1024) ![0, 512] ![512, 512] inb_S512x1024_S512x512_0_512)

theorem left_apply (x : Vec Ideal S512x1024 .f32) (p q : Fin 512) : left x (ix2 p q) = x (ix2 p (colA q)) := by
  refine congrArg x (funext fun a => Fin.ext ?_)
  match a with
  | ⟨0, _⟩ => show 0 + 1 * p.val = p.val; omega
  | ⟨1, _⟩ => show 0 + 1 * q.val = q.val; omega
theorem right_apply (x : Vec Ideal S512x1024 .f32) (p q : Fin 512) : right x (ix2 p q) = x (ix2 p (colB q)) := by
  refine congrArg x (funext fun a => Fin.ext ?_)
  match a with
  | ⟨0, _⟩ => show 0 + 1 * p.val = p.val; omega
  | ⟨1, _⟩ => show 512 + 1 * q.val = 512 + q.val; omega

/-- An element of an argument's gradient. -/
def rowE (x d g : Fin 512 → Ideal .f32) (q : Fin 512) : Ideal .f32 :=
  RmsBwd.viaRow (Ideal.ofBits .f32 1140850688#32) (Ideal.ofBits .f32 897988541#32) x (fun k => d k * g k) q

/-- An element of a gain's gradient: the sum over the rows. -/
def gainE (x : Fin 4096 → Fin 512 → Ideal .f32) (d : Fin 4096 → Ideal .f32) (q : Fin 512) : Ideal .f32 :=
  ∑ r, d r * (x r q * Ideal.rsqrt (RmsBwd.meanSq (Ideal.ofBits .f32 1140850688#32) (Ideal.ofBits .f32 897988541#32) (x r)))

section
variable (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x1024 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1x512 .f32) (harg9 : arg9.IsWhole) (hc0 : cond0_0 i) (hc1 : ¬cond0_1 i) (hc2 : cond0_2 i) (hc3 : ¬cond0_3 i) (x0 : Vec Ideal S512x512 .f32) (x1 : Vec Ideal S512x512 .f32) (x2 : Vec Ideal S512x1024 .f32) (x3 : Vec Ideal S1x512 .f32) (x4 : Vec Ideal S1x512 .f32)

/-- What the first point stores in window 5. -/
theorem outA5 : out0_A_5 c i arg1 harg1 arg2 harg2 arg3 harg3 arg4 harg4 arg5 harg5 arg6 harg6 arg7 harg7 arg8 harg8 arg9 harg9 hc0 hc1 hc2 hc3 x0 x1 x2 x3 x4 = k0_pay10 x0 (left x2) x3 := by
  unfold out0_A_5
  rw [View.read_writes_eq_canon _ _ _ (fun _ => cover0_A_5 ..)]
  unfold kernelRun0_A
  dsimp only
  rw [View.canon_unit_zero hz2]
  simp only [View.readAt_eq_ld, harg1.read_unread, harg2.read_unread, harg3.read_unread, harg4.read_unread, harg5.read_unread, harg6.read_unread, harg7.read_unread, harg8.read_unread, harg9.read_unread, View.ld_unit_zero (S := S512x512) hz2, View.ld_unit_zero (S := S1x512) hz2]
  rfl

/-- What the first point stores in window 6. -/
theorem outA6 : out0_A_6 c i arg1 harg1 arg2 harg2 arg3 harg3 arg4 harg4 arg5 harg5 arg6 harg6 arg7 harg7 arg8 harg8 arg9 harg9 hc0 hc1 hc2 hc3 x0 x1 x2 x3 x4 = k0_pay5 x1 (right x2) x4 := by
  unfold out0_A_6
  rw [View.read_writes_eq_canon _ _ _ (fun _ => cover0_A_6 ..)]
  unfold kernelRun0_A
  dsimp only
  rw [View.canon_unit_zero hz2]
  simp only [kernelRun0_A.sl.r, View.readAt_eq_ld, harg1.read_unread, harg2.read_unread, harg3.read_unread, harg4.read_unread, harg5.read_unread, harg6.read_unread, harg7.read_unread, harg8.read_unread, harg9.read_unread, View.ld_unit_zero (S := S512x512) hz2, View.ld_unit_zero (S := S1x512) hz2]
  rfl

/-- What the first point stores in window 7. -/
theorem outA7 : out0_A_7 c i arg1 harg1 arg2 harg2 arg3 harg3 arg4 harg4 arg5 harg5 arg6 harg6 arg7 harg7 arg8 harg8 arg9 harg9 hc0 hc1 hc2 hc3 x0 x1 x2 x3 x4 = k0_pay8 x0 (left x2) := by
  unfold out0_A_7
  rw [View.read_writes_eq_canon _ _ _ (fun _ => cover0_A_7 ..)]
  unfold kernelRun0_A
  dsimp only
  rw [View.canon_unit_zero hz2]
  simp only [View.readAt_eq_ld, harg1.read_unread, harg2.read_unread, harg3.read_unread, harg4.read_unread, harg5.read_unread, harg6.read_unread, harg7.read_unread, harg8.read_unread, harg9.read_unread, View.ld_unit_zero (S := S512x512) hz2, View.ld_unit_zero (S := S1x512) hz2]
  rfl

/-- What the first point stores in window 8. -/
theorem outA8 : out0_A_8 c i arg1 harg1 arg2 harg2 arg3 harg3 arg4 harg4 arg5 harg5 arg6 harg6 arg7 harg7 arg8 harg8 arg9 harg9 hc0 hc1 hc2 hc3 x0 x1 x2 x3 x4 = k0_pay3 x1 (right x2) := by
  unfold out0_A_8
  rw [View.read_writes_eq_canon _ _ _ (fun _ => cover0_A_8 ..)]
  unfold kernelRun0_A
  dsimp only
  rw [View.canon_unit_zero hz2]
  simp only [kernelRun0_A.sl.r, View.readAt_eq_ld, harg1.read_unread, harg2.read_unread, harg3.read_unread, harg4.read_unread, harg5.read_unread, harg6.read_unread, harg7.read_unread, harg8.read_unread, harg9.read_unread, View.ld_unit_zero (S := S512x512) hz2, View.ld_unit_zero (S := S1x512) hz2]
  rfl

end

section
variable (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x1024 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1x512 .f32) (harg9 : arg9.IsWhole) (hc0 : ¬cond0_0 i) (hc1 : cond0_1 i) (hc2 : ¬cond0_2 i) (hc3 : cond0_3 i) (x0 : Vec Ideal S512x512 .f32) (x1 : Vec Ideal S512x512 .f32) (x2 : Vec Ideal S512x1024 .f32) (x3 : Vec Ideal S1x512 .f32) (x4 : Vec Ideal S1x512 .f32) (xo7 : Vec Ideal S1x512 .f32) (xo8 : Vec Ideal S1x512 .f32)

/-- What the later points store in window 5. -/
theorem outB5 : out0_B_5 c i arg1 harg1 arg2 harg2 arg3 harg3 arg4 harg4 arg5 harg5 arg6 harg6 arg7 harg7 arg8 harg8 arg9 harg9 hc0 hc1 hc2 hc3 x0 x1 x2 x3 x4 xo7 xo8 = k0_pay10 x0 (left x2) x3 := by
  unfold out0_B_5
  rw [View.read_writes_eq_canon _ _ _ (fun _ => cover0_B_5 ..)]
  unfold kernelRun0_B
  dsimp only
  rw [View.canon_unit_zero hz2]
  simp only [View.readAt_eq_ld, harg1.read_unread, harg2.read_unread, harg3.read_unread, harg4.read_unread, harg5.read_unread, harg6.read_unread, harg7.read_unread, harg8.read_unread, harg9.read_unread, View.ld_unit_zero (S := S512x512) hz2, View.ld_unit_zero (S := S1x512) hz2]
  rfl

/-- What the later points store in window 6. -/
theorem outB6 : out0_B_6 c i arg1 harg1 arg2 harg2 arg3 harg3 arg4 harg4 arg5 harg5 arg6 harg6 arg7 harg7 arg8 harg8 arg9 harg9 hc0 hc1 hc2 hc3 x0 x1 x2 x3 x4 xo7 xo8 = k0_pay5 x1 (right x2) x4 := by
  unfold out0_B_6
  rw [View.read_writes_eq_canon _ _ _ (fun _ => cover0_B_6 ..)]
  unfold kernelRun0_B
  dsimp only
  rw [View.canon_unit_zero hz2]
  simp only [kernelRun0_B.sl.r, View.readAt_eq_ld, harg1.read_unread, harg2.read_unread, harg3.read_unread, harg4.read_unread, harg5.read_unread, harg6.read_unread, harg7.read_unread, harg8.read_unread, harg9.read_unread, View.ld_unit_zero (S := S512x512) hz2, View.ld_unit_zero (S := S1x512) hz2]
  rfl

/-- What the later points store in window 7. -/
theorem outB7 : out0_B_7 c i arg1 harg1 arg2 harg2 arg3 harg3 arg4 harg4 arg5 harg5 arg6 harg6 arg7 harg7 arg8 harg8 arg9 harg9 hc0 hc1 hc2 hc3 x0 x1 x2 x3 x4 xo7 xo8 = k0_pay9 x0 (left x2) xo7 := by
  unfold out0_B_7
  rw [View.read_writes_eq_canon _ _ _ (fun _ => cover0_B_7 ..)]
  unfold kernelRun0_B
  dsimp only
  rw [View.canon_unit_zero hz2]
  simp only [View.readAt_eq_ld, harg1.read_unread, harg2.read_unread, harg3.read_unread, harg4.read_unread, harg5.read_unread, harg6.read_unread, harg7.read_unread, harg8.read_unread, harg9.read_unread, View.ld_unit_zero (S := S512x512) hz2, View.ld_unit_zero (S := S1x512) hz2]
  rfl

/-- What the later points store in window 8. -/
theorem outB8 : out0_B_8 c i arg1 harg1 arg2 harg2 arg3 harg3 arg4 harg4 arg5 harg5 arg6 harg6 arg7 harg7 arg8 harg8 arg9 harg9 hc0 hc1 hc2 hc3 x0 x1 x2 x3 x4 xo7 xo8 = k0_pay4 x1 (right x2) xo8 := by
  unfold out0_B_8
  rw [View.read_writes_eq_canon _ _ _ (fun _ => cover0_B_8 ..)]
  unfold kernelRun0_B
  dsimp only
  rw [View.canon_unit_zero hz2]
  simp only [kernelRun0_B.sl.r, View.readAt_eq_ld, harg1.read_unread, harg2.read_unread, harg3.read_unread, harg4.read_unread, harg5.read_unread, harg6.read_unread, harg7.read_unread, harg8.read_unread, harg9.read_unread, View.ld_unit_zero (S := S512x512) hz2, View.ld_unit_zero (S := S1x512) hz2]
  rfl

end

/-- The block of argument 0 that point `t` reads, at an element. -/
theorem block_0 (c : Dev nD) (t : Fin cfg0.N) (l0 : Fin 512) (l1 : Fin 512) (i : S4096x512.Idx)
    (h0 : (i 0).val = (t.val) * 512 + l0.val) (h1 : (i 1).val = (0) * 512 + l1.val) :
    (iblk m c 0 t : Vec Ideal S512x512 .f32) (ix2 l0 l1) = src0 m c i := by
  have hi := (by decide +kernel : ∀ t : Fin grid0.N, win0_0.index t 0 = t.val ∧ win0_0.index t 1 = 0) t
  refine congrArg (src0 m c) (funext fun a => Fin.ext ?_)
  match a with
  | ⟨0, _⟩ => show win0_0.index t 0 * 512 + 1 * l0.val = (i 0).val; rw [hi.1, h0]; omega
  | ⟨1, _⟩ => show win0_0.index t 1 * 512 + 1 * l1.val = (i 1).val; rw [hi.2, h1]; omega

/-- The block of argument 1 that point `t` reads, at an element. -/
theorem block_1 (c : Dev nD) (t : Fin cfg0.N) (l0 : Fin 512) (l1 : Fin 512) (i : S4096x512.Idx)
    (h0 : (i 0).val = (t.val) * 512 + l0.val) (h1 : (i 1).val = (0) * 512 + l1.val) :
    (iblk m c 1 t : Vec Ideal S512x512 .f32) (ix2 l0 l1) = src1 m c i := by
  have hi := (by decide +kernel : ∀ t : Fin grid0.N, win0_1.index t 0 = t.val ∧ win0_1.index t 1 = 0) t
  refine congrArg (src1 m c) (funext fun a => Fin.ext ?_)
  match a with
  | ⟨0, _⟩ => show win0_1.index t 0 * 512 + 1 * l0.val = (i 0).val; rw [hi.1, h0]; omega
  | ⟨1, _⟩ => show win0_1.index t 1 * 512 + 1 * l1.val = (i 1).val; rw [hi.2, h1]; omega

/-- The block of argument 2 that point `t` reads, at an element. -/
theorem block_2 (c : Dev nD) (t : Fin cfg0.N) (l0 : Fin 512) (l1 : Fin 1024) (i : S4096x1024.Idx)
    (h0 : (i 0).val = (t.val) * 512 + l0.val) (h1 : (i 1).val = (0) * 1024 + l1.val) :
    (iblk m c 2 t : Vec Ideal S512x1024 .f32) (ix2 l0 l1) = src2 m c i := by
  have hi := (by decide +kernel : ∀ t : Fin grid0.N, win0_2.index t 0 = t.val ∧ win0_2.index t 1 = 0) t
  refine congrArg (src2 m c) (funext fun a => Fin.ext ?_)
  match a with
  | ⟨0, _⟩ => show win0_2.index t 0 * 512 + 1 * l0.val = (i 0).val; rw [hi.1, h0]; omega
  | ⟨1, _⟩ => show win0_2.index t 1 * 1024 + 1 * l1.val = (i 1).val; rw [hi.2, h1]; omega

/-- The block of argument 3 that point `t` reads, at an element. -/
theorem block_3 (c : Dev nD) (t : Fin cfg0.N) (l0 : Fin 1) (l1 : Fin 512) (i : S1x512.Idx)
    (h0 : (i 0).val = (0) * 1 + l0.val) (h1 : (i 1).val = (0) * 512 + l1.val) :
    (iblk m c 3 t : Vec Ideal S1x512 .f32) (ix2 l0 l1) = src3 m c i := by
  have hi := (by decide +kernel : ∀ t : Fin grid0.N, win0_3.index t 0 = 0 ∧ win0_3.index t 1 = 0) t
  refine congrArg (src3 m c) (funext fun a => Fin.ext ?_)
  match a with
  | ⟨0, _⟩ => show win0_3.index t 0 * 1 + 1 * l0.val = (i 0).val; rw [hi.1, h0]; omega
  | ⟨1, _⟩ => show win0_3.index t 1 * 512 + 1 * l1.val = (i 1).val; rw [hi.2, h1]; omega

/-- The block of argument 4 that point `t` reads, at an element. -/
theorem block_4 (c : Dev nD) (t : Fin cfg0.N) (l0 : Fin 1) (l1 : Fin 512) (i : S1x512.Idx)
    (h0 : (i 0).val = (0) * 1 + l0.val) (h1 : (i 1).val = (0) * 512 + l1.val) :
    (iblk m c 4 t : Vec Ideal S1x512 .f32) (ix2 l0 l1) = src4 m c i := by
  have hi := (by decide +kernel : ∀ t : Fin grid0.N, win0_4.index t 0 = 0 ∧ win0_4.index t 1 = 0) t
  refine congrArg (src4 m c) (funext fun a => Fin.ext ?_)
  match a with
  | ⟨0, _⟩ => show win0_4.index t 0 * 1 + 1 * l0.val = (i 0).val; rw [hi.1, h0]; omega
  | ⟨1, _⟩ => show win0_4.index t 1 * 512 + 1 * l1.val = (i 1).val; rw [hi.2, h1]; omega

/-- Their elements. -/
theorem pay5_apply (x d : Vec Ideal S512x512 .f32) (g : Vec Ideal S1x512 .f32) (p q : Fin 512) :
    k0_pay5 x d g (ix2 p q) = rowE (fun k => x (ix2 p k)) (fun k => d (ix2 p k)) (fun k => g (ix2 (0 : Fin 1) k)) q := by
  pointwise [k0_pay5, k0_pay2, k0_pay1, rowE, RmsBwd.viaRow, RmsBwd.meanSq]
theorem pay10_apply (x d : Vec Ideal S512x512 .f32) (g : Vec Ideal S1x512 .f32) (p q : Fin 512) :
    k0_pay10 x d g (ix2 p q) = rowE (fun k => x (ix2 p k)) (fun k => d (ix2 p k)) (fun k => g (ix2 (0 : Fin 1) k)) q :=
  pay5_apply x d g p q
theorem pay3_apply (x d : Vec Ideal S512x512 .f32) (q : Fin 512) :
    k0_pay3 x d (ix2 (0 : Fin 1) q) = ∑ k : Fin 512, d (ix2 k q) * (x (ix2 k q) * Ideal.rsqrt (RmsBwd.meanSq (Ideal.ofBits .f32 1140850688#32) (Ideal.ofBits .f32 897988541#32) (fun j => x (ix2 k j)))) := by
  pointwise [k0_pay3, k0_pay2, k0_pay1, RmsBwd.meanSq]
theorem pay8_apply (x d : Vec Ideal S512x512 .f32) (q : Fin 512) :
    k0_pay8 x d (ix2 (0 : Fin 1) q) = ∑ k : Fin 512, d (ix2 k q) * (x (ix2 k q) * Ideal.rsqrt (RmsBwd.meanSq (Ideal.ofBits .f32 1140850688#32) (Ideal.ofBits .f32 897988541#32) (fun j => x (ix2 k j)))) :=
  pay3_apply x d q

/-- The rows point `t` writes. -/
theorem rows (c : Dev nD) (t : Fin cfg0.N) : (outsAt0 m c t.val t.isLt).1 = k0_pay10 (iblk m c 0 t) (left (iblk m c 2 t)) (iblk m c 3 t) ∧
    (outsAt0 m c t.val t.isLt).2.1 = k0_pay5 (iblk m c 1 t) (right (iblk m c 2 t)) (iblk m c 4 t) := by
  have hN : cfg0.N = 8 := N_0
  by_cases h : t.val = 0
  · rw [outsAt0_A m c t (by omega) (by omega) (by omega) (by omega)]
    dsimp only
    rw [outA5, outA6]
    exact ⟨rfl, rfl⟩
  · rw [outsAt0_B m c t (by omega) (by omega) (by omega) (by omega)]
    dsimp only
    rw [outB5, outB6]
    exact ⟨rfl, rfl⟩

/-- What point `s` adds to the sums. -/
def aPart (c : Dev nD) (q : Fin 512) (s : ℕ) : Ideal .f32 :=
  if h : s < cfg0.N then k0_pay8 (iblk m c 0 ⟨s, h⟩) (left (iblk m c 2 ⟨s, h⟩)) (ix2 (0 : Fin 1) q) else 0

/-- The sums after point `n`. -/
theorem aSums (c : Dev nD) (q : Fin 512) : ∀ (n : ℕ) (hn : n < cfg0.N),
    ((outsAt0 m c n hn).2.2.1 : Vec Ideal S1x512 .f32) (ix2 (0 : Fin 1) q) = ∑ s ∈ Finset.range (n + 1), aPart m c q s
  | 0, hn => by
    have e := outsAt0_A m c ⟨0, hn⟩ (Nat.zero_mod _) (by simp) (Nat.zero_mod _) (by simp)
    dsimp only at e
    rw [e, Finset.sum_range_one]
    unfold aPart
    rw [dif_pos hn]
    dsimp only
    rw [outA7]
  | n + 1, hn => by
    have hN : cfg0.N = 8 := N_0
    have e := outsAt0_B m c ⟨n + 1, hn⟩ (by dsimp only; omega) (by dsimp only; omega) (by dsimp only; omega) (by dsimp only; omega)
    dsimp only at e
    rw [e, Finset.sum_range_succ, ← aSums c q n (Nat.lt_of_succ_lt hn)]
    unfold aPart
    rw [dif_pos hn]
    dsimp only
    rw [outB7]
    pointwise [k0_pay9]
    rfl

/-- The last point's sums are the sums over all the rows. -/
theorem aLast (c : Dev nD) (q : Fin 512) (h : 7 < cfg0.N) :
    ((outsAt0 m c 7 h).2.2.1 : Vec Ideal S1x512 .f32) (ix2 (0 : Fin 1) q) = gainE (fun r k => src0 m c (ix2 r k)) (fun r => src2 m c (ix2 r (colA q))) q := by
  have hN : cfg0.N = 8 := N_0
  rw [aSums, gainE, RowSums.sum_rows, Finset.sum_range]
  refine Finset.sum_congr rfl fun s _ => ?_
  unfold aPart
  rw [dif_pos (by omega)]
  refine (pay8_apply (iblk m c 0 _) (left (iblk m c 2 _)) q).trans (Finset.sum_congr rfl fun k _ => ?_)
  have hx : ∀ j, (iblk m c 0 ⟨s.val, by omega⟩ : Vec Ideal S512x512 .f32) (ix2 k j) = src0 m c (ix2 (⟨s.val * 512 + k.val, by omega⟩ : Fin 4096) j) :=
    fun j => block_0 m c _ k j _ (by simp <;> omega) (by simp <;> omega)
  have hd : left (iblk m c 2 ⟨s.val, by omega⟩) (ix2 k q) = src2 m c (ix2 (⟨s.val * 512 + k.val, by omega⟩ : Fin 4096) (colA q)) :=
    (left_apply _ k q).trans (block_2 m c _ k (colA q) _ (by simp <;> omega) (by simp <;> omega))
  rw [hd, hx q, funext hx]

/-- An element of the result. -/
theorem result5 (c : Dev nD) (p0 : Fin 4096) (p1 : Fin 512) :
    ((dats m 0 c).arrAt 5 cfg0.N : Vec Ideal S4096x512 .f32) (ix2 p0 p1) = rowE (fun k => src0 m c (ix2 p0 k)) (fun k => src2 m c (ix2 p0 (colA k))) (fun k => src3 m c (ix2 (0 : Fin 1) k)) p1 := by
  have hN : cfg0.N = 8 := N_0
  obtain ⟨t, ht⟩ : ∃ t : Fin cfg0.N, t.val = p0.val / 512 := ⟨⟨p0.val / 512, by omega⟩, rfl⟩
  have hf : (cfg0.win 5).flush t = true := (by decide +kernel : ∀ t : Fin grid0.N, win0_5.flush t = true) t
  have e := congrFun (blocks5 m c t hf) (ix2 (⟨p0.val % 512, by omega⟩ : Fin 512) (⟨p1.val % 512, by omega⟩ : Fin 512))
  rw [View.read_apply, flushed5] at e
  have hi := (by decide +kernel : ∀ t : Fin grid0.N, win0_5.index t 0 = t.val ∧ win0_5.index t 1 = 0) t
  have hidx : ((cfg0.win 5).blk t).view.emb (ix2 (⟨p0.val % 512, by omega⟩ : Fin 512) (⟨p1.val % 512, by omega⟩ : Fin 512)) = ix2 p0 p1 := by
    refine funext fun d => Fin.ext ?_
    match d with
    | ⟨0, _⟩ => show win0_5.index t 0 * 512 + 1 * (p0.val % 512) = p0.val; rw [hi.1]; omega
    | ⟨1, _⟩ => show win0_5.index t 1 * 512 + 1 * (p1.val % 512) = p1.val; rw [hi.2]; omega
  rw [hidx] at e
  refine e.trans ?_
  rw [(rows m c t).1]
  refine (pay10_apply (iblk m c 0 t) (left (iblk m c 2 t)) (iblk m c 3 t) _ _).trans ?_
  have hq : (⟨p1.val % 512, by omega⟩ : Fin 512) = p1 := Fin.ext (by simp <;> omega)
  rw [hq]
  have h0 : ∀ k, (iblk m c 0 t : Vec Ideal S512x512 .f32) (ix2 (⟨p0.val % 512, by omega⟩ : Fin 512) k) = src0 m c (ix2 p0 k) :=
    fun k => block_0 m c t _ k (ix2 p0 k) (by simp <;> omega) (by simp <;> omega)
  have h1 : ∀ k, left (iblk m c 2 t) (ix2 (⟨p0.val % 512, by omega⟩ : Fin 512) k) = src2 m c (ix2 p0 (colA k)) :=
    fun k => (left_apply _ _ k).trans (block_2 m c t _ (colA k) (ix2 p0 (colA k)) (by simp <;> omega) (by simp <;> omega))
  have h3 : ∀ k, (iblk m c 3 t : Vec Ideal S1x512 .f32) (ix2 (0 : Fin 1) k) = src3 m c (ix2 (0 : Fin 1) k) :=
    fun k => block_3 m c t 0 k (ix2 (0 : Fin 1) k) (by simp <;> omega) (by simp <;> omega)
  rw [funext h0, funext h1, funext h3]

/-- Only the last point writes the sums back. -/
theorem flush7 : ∀ t t' : Fin cfg0.N, (cfg0.win 7).flush t = true → (cfg0.win 7).flush t' = true → t = t' :=
  (by decide +kernel : ∀ t t' : Fin grid0.N, win0_7.flush t = true → win0_7.flush t' = true → t = t')

set_option maxHeartbeats 1000000 in
/-- An element of the sums. -/
theorem result7 (c : Dev nD) (p0 : Fin 1) (p1 : Fin 512) :
    ((dats m 0 c).arrAt 7 cfg0.N : Vec Ideal S1x512 .f32) (ix2 p0 p1) = gainE (fun r k => src0 m c (ix2 r k)) (fun r => src2 m c (ix2 r (colA p1))) p1 := by
  have hN : cfg0.N = 8 := N_0
  obtain ⟨t, ht⟩ : ∃ t : Fin cfg0.N, t.val = 7 := ⟨⟨7, by omega⟩, rfl⟩
  have hf : (cfg0.win 7).flush t = true := (by decide +kernel : ∀ t : Fin grid0.N, t.val = 7 → win0_7.flush t = true) t ht
  have hi := (by decide +kernel : ∀ t : Fin grid0.N, win0_7.index t 0 = 0 ∧ win0_7.index t 1 = 0) t
  have e := congrFun ((dats m 0 c).read_blk_arrAt_eq_flushed 7 (fun t t' h h' hne => absurd (flush7 t t' h h') hne) cfg0.N t t.isLt hf) (ix2 p0 p1)
  rw [View.read_apply, flushed7] at e
  have hidx : ((cfg0.win 7).blk t).view.emb (ix2 p0 p1) = ix2 p0 p1 := by
    refine funext fun d => Fin.ext ?_
    match d with
    | ⟨0, _⟩ => show win0_7.index t 0 * 1 + 1 * p0.val = p0.val; rw [hi.1]; omega
    | ⟨1, _⟩ => show win0_7.index t 1 * 512 + 1 * p1.val = p1.val; rw [hi.2]; omega
  rw [hidx] at e
  refine e.trans ?_
  obtain rfl : p0 = 0 := Subsingleton.elim _ _
  obtain ⟨n, hn⟩ := t
  dsimp only at ht
  subst ht
  exact aLast m c p1 hn
/-- What point `s` adds to the sums. -/
def bPart (c : Dev nD) (q : Fin 512) (s : ℕ) : Ideal .f32 :=
  if h : s < cfg0.N then k0_pay3 (iblk m c 1 ⟨s, h⟩) (right (iblk m c 2 ⟨s, h⟩)) (ix2 (0 : Fin 1) q) else 0

/-- The sums after point `n`. -/
theorem bSums (c : Dev nD) (q : Fin 512) : ∀ (n : ℕ) (hn : n < cfg0.N),
    ((outsAt0 m c n hn).2.2.2 : Vec Ideal S1x512 .f32) (ix2 (0 : Fin 1) q) = ∑ s ∈ Finset.range (n + 1), bPart m c q s
  | 0, hn => by
    have e := outsAt0_A m c ⟨0, hn⟩ (Nat.zero_mod _) (by simp) (Nat.zero_mod _) (by simp)
    dsimp only at e
    rw [e, Finset.sum_range_one]
    unfold bPart
    rw [dif_pos hn]
    dsimp only
    rw [outA8]
  | n + 1, hn => by
    have hN : cfg0.N = 8 := N_0
    have e := outsAt0_B m c ⟨n + 1, hn⟩ (by dsimp only; omega) (by dsimp only; omega) (by dsimp only; omega) (by dsimp only; omega)
    dsimp only at e
    rw [e, Finset.sum_range_succ, ← bSums c q n (Nat.lt_of_succ_lt hn)]
    unfold bPart
    rw [dif_pos hn]
    dsimp only
    rw [outB8]
    pointwise [k0_pay4]
    rfl

/-- The last point's sums are the sums over all the rows. -/
theorem bLast (c : Dev nD) (q : Fin 512) (h : 7 < cfg0.N) :
    ((outsAt0 m c 7 h).2.2.2 : Vec Ideal S1x512 .f32) (ix2 (0 : Fin 1) q) = gainE (fun r k => src1 m c (ix2 r k)) (fun r => src2 m c (ix2 r (colB q))) q := by
  have hN : cfg0.N = 8 := N_0
  rw [bSums, gainE, RowSums.sum_rows, Finset.sum_range]
  refine Finset.sum_congr rfl fun s _ => ?_
  unfold bPart
  rw [dif_pos (by omega)]
  refine (pay3_apply (iblk m c 1 _) (right (iblk m c 2 _)) q).trans (Finset.sum_congr rfl fun k _ => ?_)
  have hx : ∀ j, (iblk m c 1 ⟨s.val, by omega⟩ : Vec Ideal S512x512 .f32) (ix2 k j) = src1 m c (ix2 (⟨s.val * 512 + k.val, by omega⟩ : Fin 4096) j) :=
    fun j => block_1 m c _ k j _ (by simp <;> omega) (by simp <;> omega)
  have hd : right (iblk m c 2 ⟨s.val, by omega⟩) (ix2 k q) = src2 m c (ix2 (⟨s.val * 512 + k.val, by omega⟩ : Fin 4096) (colB q)) :=
    (right_apply _ k q).trans (block_2 m c _ k (colB q) _ (by simp <;> omega) (by simp <;> omega))
  rw [hd, hx q, funext hx]

/-- An element of the result. -/
theorem result6 (c : Dev nD) (p0 : Fin 4096) (p1 : Fin 512) :
    ((dats m 0 c).arrAt 6 cfg0.N : Vec Ideal S4096x512 .f32) (ix2 p0 p1) = rowE (fun k => src1 m c (ix2 p0 k)) (fun k => src2 m c (ix2 p0 (colB k))) (fun k => src4 m c (ix2 (0 : Fin 1) k)) p1 := by
  have hN : cfg0.N = 8 := N_0
  obtain ⟨t, ht⟩ : ∃ t : Fin cfg0.N, t.val = p0.val / 512 := ⟨⟨p0.val / 512, by omega⟩, rfl⟩
  have hf : (cfg0.win 6).flush t = true := (by decide +kernel : ∀ t : Fin grid0.N, win0_6.flush t = true) t
  have e := congrFun (blocks6 m c t hf) (ix2 (⟨p0.val % 512, by omega⟩ : Fin 512) (⟨p1.val % 512, by omega⟩ : Fin 512))
  rw [View.read_apply, flushed6] at e
  have hi := (by decide +kernel : ∀ t : Fin grid0.N, win0_6.index t 0 = t.val ∧ win0_6.index t 1 = 0) t
  have hidx : ((cfg0.win 6).blk t).view.emb (ix2 (⟨p0.val % 512, by omega⟩ : Fin 512) (⟨p1.val % 512, by omega⟩ : Fin 512)) = ix2 p0 p1 := by
    refine funext fun d => Fin.ext ?_
    match d with
    | ⟨0, _⟩ => show win0_6.index t 0 * 512 + 1 * (p0.val % 512) = p0.val; rw [hi.1]; omega
    | ⟨1, _⟩ => show win0_6.index t 1 * 512 + 1 * (p1.val % 512) = p1.val; rw [hi.2]; omega
  rw [hidx] at e
  refine e.trans ?_
  rw [(rows m c t).2]
  refine (pay5_apply (iblk m c 1 t) (right (iblk m c 2 t)) (iblk m c 4 t) _ _).trans ?_
  have hq : (⟨p1.val % 512, by omega⟩ : Fin 512) = p1 := Fin.ext (by simp <;> omega)
  rw [hq]
  have h0 : ∀ k, (iblk m c 1 t : Vec Ideal S512x512 .f32) (ix2 (⟨p0.val % 512, by omega⟩ : Fin 512) k) = src1 m c (ix2 p0 k) :=
    fun k => block_1 m c t _ k (ix2 p0 k) (by simp <;> omega) (by simp <;> omega)
  have h1 : ∀ k, right (iblk m c 2 t) (ix2 (⟨p0.val % 512, by omega⟩ : Fin 512) k) = src2 m c (ix2 p0 (colB k)) :=
    fun k => (right_apply _ _ k).trans (block_2 m c t _ (colB k) (ix2 p0 (colB k)) (by simp <;> omega) (by simp <;> omega))
  have h3 : ∀ k, (iblk m c 4 t : Vec Ideal S1x512 .f32) (ix2 (0 : Fin 1) k) = src4 m c (ix2 (0 : Fin 1) k) :=
    fun k => block_4 m c t 0 k (ix2 (0 : Fin 1) k) (by simp <;> omega) (by simp <;> omega)
  rw [funext h0, funext h1, funext h3]

/-- Only the last point writes the sums back. -/
theorem flush8 : ∀ t t' : Fin cfg0.N, (cfg0.win 8).flush t = true → (cfg0.win 8).flush t' = true → t = t' :=
  (by decide +kernel : ∀ t t' : Fin grid0.N, win0_8.flush t = true → win0_8.flush t' = true → t = t')

set_option maxHeartbeats 1000000 in
/-- An element of the sums. -/
theorem result8 (c : Dev nD) (p0 : Fin 1) (p1 : Fin 512) :
    ((dats m 0 c).arrAt 8 cfg0.N : Vec Ideal S1x512 .f32) (ix2 p0 p1) = gainE (fun r k => src1 m c (ix2 r k)) (fun r => src2 m c (ix2 r (colB p1))) p1 := by
  have hN : cfg0.N = 8 := N_0
  obtain ⟨t, ht⟩ : ∃ t : Fin cfg0.N, t.val = 7 := ⟨⟨7, by omega⟩, rfl⟩
  have hf : (cfg0.win 8).flush t = true := (by decide +kernel : ∀ t : Fin grid0.N, t.val = 7 → win0_8.flush t = true) t ht
  have hi := (by decide +kernel : ∀ t : Fin grid0.N, win0_8.index t 0 = 0 ∧ win0_8.index t 1 = 0) t
  have e := congrFun ((dats m 0 c).read_blk_arrAt_eq_flushed 8 (fun t t' h h' hne => absurd (flush8 t t' h h') hne) cfg0.N t t.isLt hf) (ix2 p0 p1)
  rw [View.read_apply, flushed8] at e
  have hidx : ((cfg0.win 8).blk t).view.emb (ix2 p0 p1) = ix2 p0 p1 := by
    refine funext fun d => Fin.ext ?_
    match d with
    | ⟨0, _⟩ => show win0_8.index t 0 * 1 + 1 * p0.val = p0.val; rw [hi.1]; omega
    | ⟨1, _⟩ => show win0_8.index t 1 * 512 + 1 * p1.val = p1.val; rw [hi.2]; omega
  rw [hidx] at e
  refine e.trans ?_
  obtain rfl : p0 = 0 := Subsingleton.elim _ _
  obtain ⟨n, hn⟩ := t
  dsimp only at ht
  subst ht
  exact bLast m c p1 hn
end

open Idealize.ShloMosaic Idealize.ShloMosaic.TcCoe Idealize.SL.Sem

/-- Kernel and reference end with equal results. -/
theorem algebraic : Cert.algebraic_Kernel40Ideal_Reference40Ideal := by
  intro m ρ m' ρ' _ hagree
  refine ⟨fun c => (Cert.Kernel40Ideal.Gen.dats m 0 c).arrAt 5 Cert.Kernel40Ideal.cfg0.N, fun c => (Cert.Kernel40Ideal.Gen.dats m 0 c).arrAt 6 Cert.Kernel40Ideal.cfg0.N, fun c => (Cert.Kernel40Ideal.Gen.dats m 0 c).arrAt 7 Cert.Kernel40Ideal.cfg0.N, fun c => (Cert.Kernel40Ideal.Gen.dats m 0 c).arrAt 8 Cert.Kernel40Ideal.cfg0.N, Cert.Kernel40Ideal.Value.run_blocks (F := Ideal) m ρ, ?_⟩
  refine (θ_run _ _ _).mono (fun _ h c => ?_) (Cert.Reference40Ideal.Value.run m' ρ')
  obtain ⟨h0, h1, h2, h3, h4⟩ : _ = src0 m c ∧ _ = src1 m c ∧ _ = src2 m c ∧ _ = src3 m c ∧ _ = src4 m c := hagree c
  refine ⟨(h c).1.trans ?_, (h c).2.1.trans ?_, (h c).2.2.1.trans ?_, (h c).2.2.2.1.trans ?_, (h c).2.2.2.2⟩
  · rw [h0, h2, h3]
    refine funext fun (j : Cert.Kernel40Ideal.S4096x512.Idx) => ?_
    obtain ⟨p0, p1, rfl⟩ : ∃ (p0 : Fin 4096) (p1 : Fin 512), j = ix2 p0 p1 := ⟨j 0, j 1, eq_ix2 j⟩
    refine Eq.trans ?_ (result5 m c p0 p1).symm
    generalize src0 m c = x0
    generalize src2 m c = x2
    generalize src3 m c = x3
    obtain ⟨e, he, hw⟩ := RmsBwd.word_small
    unfold rowE
    rw [hw, RmsBwd.word_512, RmsBwd.viaRow_eq 512 e (by norm_num) he, ← RmsBwd.word_512, ← hw, ← RmsBwd.word_neg_half]
    pointwise [colA, RmsBwd.viaRule, RmsBwd.through, RmsBwd.meanSq]
    simp only [Fin.sum_univ_one]
    exact RmsBwd.twice _ _ _
  · rw [h1, h2, h4]
    refine funext fun (j : Cert.Kernel40Ideal.S4096x512.Idx) => ?_
    obtain ⟨p0, p1, rfl⟩ : ∃ (p0 : Fin 4096) (p1 : Fin 512), j = ix2 p0 p1 := ⟨j 0, j 1, eq_ix2 j⟩
    refine Eq.trans ?_ (result6 m c p0 p1).symm
    generalize src1 m c = x1
    generalize src2 m c = x2
    generalize src4 m c = x4
    obtain ⟨e, he, hw⟩ := RmsBwd.word_small
    unfold rowE
    rw [hw, RmsBwd.word_512, RmsBwd.viaRow_eq 512 e (by norm_num) he, ← RmsBwd.word_512, ← hw, ← RmsBwd.word_neg_half]
    pointwise [colB, RmsBwd.viaRule, RmsBwd.through, RmsBwd.meanSq]
    simp only [Fin.sum_univ_one]
    exact RmsBwd.twice _ _ _
  · rw [h0, h2]
    refine funext fun (j : Cert.Kernel40Ideal.S1x512.Idx) => ?_
    obtain ⟨p0, p1, rfl⟩ : ∃ (p0 : Fin 1) (p1 : Fin 512), j = ix2 p0 p1 := ⟨j 0, j 1, eq_ix2 j⟩
    refine Eq.trans ?_ (result7 m c p0 p1).symm
    generalize src0 m c = x0
    generalize src2 m c = x2
    obtain rfl : p0 = 0 := Subsingleton.elim _ _
    pointwise [gainE, colA, RmsBwd.meanSq]
    exact Finset.sum_congr rfl fun k _ => mul_comm _ _
  · rw [h1, h2]
    refine funext fun (j : Cert.Kernel40Ideal.S1x512.Idx) => ?_
    obtain ⟨p0, p1, rfl⟩ : ∃ (p0 : Fin 1) (p1 : Fin 512), j = ix2 p0 p1 := ⟨j 0, j 1, eq_ix2 j⟩
    refine Eq.trans ?_ (result8 m c p0 p1).symm
    generalize src1 m c = x1
    generalize src2 m c = x2
    obtain rfl : p0 = 0 := Subsingleton.elim _ _
    pointwise [gainE, colB, RmsBwd.meanSq]
    exact Finset.sum_congr rfl fun k _ => mul_comm _ _

/-- The frames of the three programs. -/
theorem frame_p : Cert.quiescent_Kernel40 := fun m ρ _ => Cert.Kernel40.Gen.frame m ρ
theorem frame_i : Cert.quiescent_Kernel40Ideal := fun m ρ _ => Cert.Kernel40Ideal.Gen.frame m ρ
theorem frame_r : Cert.quiescent_Reference40Ideal := fun m ρ _ =>
  (θ_run _ _ _).mono (fun r h => ⟨fun c => (h c).2.2.2.2, sem_eq_zero_of_no_sems (by decide) r.2⟩)
    (Cert.Reference40Ideal.Value.run m ρ)

end Cert.OutNormBwd

end

end
-- ==== Proof.LossHead.lean ====
/- The loss and its gradients, in blocks of 512 rows: the argument's gradient row by row, the loss and the gain's gradient summed over the points. -/
module

public import proofs.«01_k».proof.Proof.Gen.Kernel41.Frame
public import proofs.«01_k».proof.Proof.Gen.Kernel41Ideal.Value
public import proofs.«01_k».proof.Proof.Gen.Reference41Ideal.Run
public import proofs.«01_k».proof.Proof.RmsBwd
public import proofs.«01_k».proof.Proof.RowSums
public import proofs.«01_k».proof.Proof.Base

@[expose] public section

set_option maxRecDepth 16384

noncomputable section

namespace Cert.LossHead

section
open Cert.Kernel41Ideal Cert.Kernel41Ideal.Gen Cert.Kernel41Ideal.Value Idealize.ShloMosaic Idealize.ShloMosaic.TcCoe Idealize.SL.Sem

variable (m : (ℓ : Loc nD τ sig) → Buf (Elt Ideal) ℓ)

/-- The arguments. -/
abbrev src0 (c : Dev nD) : Vec Ideal S4096x1024 .f32 := m ((c : Thread nD τ).loc main_arg0)
abbrev src1 (c : Dev nD) : Vec Ideal S1x1024 .f32 := m ((c : Thread nD τ).loc main_arg1)
abbrev src2 (c : Dev nD) : Vec Ideal S4096x1024 .f32 := m ((c : Thread nD τ).loc main_arg2)

/-- The difference of the normed and scaled row and the target, at an element. -/
def diff (x g t : Fin 1024 → Ideal .f32) (k : Fin 1024) : Ideal .f32 :=
  x k * Ideal.rsqrt (RmsBwd.meanSq (Ideal.ofBits .f32 1149239296#32) (Ideal.ofBits .f32 897988541#32) x) * g k - t k

/-- The loss: half the sum over the rows of the mean square of the difference. -/
def lossE (x : Fin 4096 → Fin 1024 → Ideal .f32) (g : Fin 1024 → Ideal .f32) (t : Fin 4096 → Fin 1024 → Ideal .f32) : Ideal .f32 :=
  ∑ r, Ideal.div (Ideal.ofBits .f32 1056964608#32 * ∑ k, diff (x r) g (t r) k * diff (x r) g (t r) k) (Ideal.ofBits .f32 1149239296#32)

/-- An element of the argument's gradient. -/
def rowE (x g t : Fin 1024 → Ideal .f32) (q : Fin 1024) : Ideal .f32 :=
  RmsBwd.viaRow (Ideal.ofBits .f32 1149239296#32) (Ideal.ofBits .f32 897988541#32) x (fun k => Ideal.div (diff x g t k) (Ideal.ofBits .f32 1149239296#32) * g k) q

/-- An element of the gain's gradient: the sum over the rows. -/
def gainE (x : Fin 4096 → Fin 1024 → Ideal .f32) (g : Fin 1024 → Ideal .f32) (t : Fin 4096 → Fin 1024 → Ideal .f32) (q : Fin 1024) : Ideal .f32 :=
  ∑ r, Ideal.div (diff (x r) g (t r) q) (Ideal.ofBits .f32 1149239296#32) * (x r q * Ideal.rsqrt (RmsBwd.meanSq (Ideal.ofBits .f32 1149239296#32) (Ideal.ofBits .f32 897988541#32) (x r)))

/-- Half of a sum, divided, is the sum of the halves, divided. -/
theorem halves {n : ℕ} (f : Fin n → Ideal .f32) : ∑ k, Ideal.div (Ideal.ofBits .f32 1056964608#32 * f k) (Ideal.ofBits .f32 1149239296#32) = Ideal.div (Ideal.ofBits .f32 1056964608#32 * ∑ k, f k) (Ideal.ofBits .f32 1149239296#32) := by
  rw [RmsBwd.word_half, RmsBwd.word_1024]
  simp only [RmsBwd.div_real _ _ (show (0 : ℝ) < 1024 by norm_num)]
  rw [RmsBwd.sum_mul_real _ _ (by norm_num), mul_comm (((1 / 2 : ℝ) : EReal)) (∑ k, f k), ← RmsBwd.sum_mul_real f _ (by norm_num)]
  congr 1
  exact Finset.sum_congr rfl fun k _ => mul_comm _ _

/-- Half of a sum of quotients is the sum of the halves, divided. -/
theorem halves_out {n : ℕ} (f : Fin n → Ideal .f32) : Ideal.ofBits .f32 1056964608#32 * ∑ k, Ideal.div (f k) (Ideal.ofBits .f32 1149239296#32) = ∑ k, Ideal.div (Ideal.ofBits .f32 1056964608#32 * f k) (Ideal.ofBits .f32 1149239296#32) := by
  rw [halves, RmsBwd.word_half, RmsBwd.word_1024]
  simp only [RmsBwd.div_real _ _ (show (0 : ℝ) < 1024 by norm_num)]
  rw [RmsBwd.sum_mul_real _ _ (by norm_num)]
  exact (mul_assoc _ _ _).symm

/-- The factor the product rule gives is one over the row's length. -/
theorem factor (y : Ideal .f32) : Ideal.div (Ideal.ofBits .f32 1056964608#32 * 1) (Ideal.ofBits .f32 1149239296#32) * (Ideal.ofBits .f32 1073741824#32 * y) = Ideal.div y (Ideal.ofBits .f32 1149239296#32) := by
  rw [RmsBwd.word_half, RmsBwd.word_1024, RmsBwd.word_two]
  simp only [RmsBwd.div_real _ _ (show (0 : ℝ) < 1024 by norm_num), mul_one]
  refine (mul_assoc _ _ _).symm.trans ?_
  rw [← EReal.coe_mul, ← EReal.coe_mul, mul_comm]
  congr 2
  norm_num

/-- The argument's gradient with the product rule's factor. -/
theorem rowE_rule (x g t : Fin 1024 → Ideal .f32) (q : Fin 1024) :
    rowE x g t q = RmsBwd.viaRow (Ideal.ofBits .f32 1149239296#32) (Ideal.ofBits .f32 897988541#32) x (fun k => Ideal.div (Ideal.ofBits .f32 1056964608#32 * 1) (Ideal.ofBits .f32 1149239296#32) * (Ideal.ofBits .f32 1073741824#32 * diff x g t k) * g k) q := by
  unfold rowE
  congr 1
  funext k
  rw [factor]

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S512x1024 .f32) (harg3 : arg3.IsWhole) (arg4 : Memref sig .tc .vmem S1x1 .f32) (harg4 : arg4.IsWhole) (arg5 : Memref sig .tc .vmem S512x1024 .f32) (harg5 : arg5.IsWhole) (arg6 : Memref sig .tc .vmem S1x1024 .f32) (harg6 : arg6.IsWhole) (hc0 : cond0_0 i) (hc1 : ¬cond0_1 i) (hc2 : cond0_2 i) (hc3 : ¬cond0_3 i) (x0 : Vec Ideal S512x1024 .f32) (x1 : Vec Ideal S1x1024 .f32) (x2 : Vec Ideal S512x1024 .f32)

/-- What the first point stores in window 4. -/
theorem outA4 : out0_A_4 c i arg1 harg1 arg2 harg2 arg3 harg3 arg4 harg4 arg5 harg5 arg6 harg6 hc0 hc1 hc2 hc3 x0 x1 x2 = k0_pay2 (k0_pay3 x0) (k0_pay4 x0) (k0_pay8 x0 x1 x2) x1 := by
  unfold out0_A_4
  rw [View.read_writes_eq_canon _ _ _ (fun _ => cover0_A_4 ..)]
  unfold kernelRun0_A
  dsimp only
  rw [View.canon_unit_zero hz2]
  simp only [kernelRun0_A.sl.r, kernelRun0_A.sl.r_1, kernelRun0_A.sl.r_2, View.readAt_eq_ld, harg1.read_unread, harg2.read_unread, harg3.read_unread, harg4.read_unread, harg5.read_unread, harg6.read_unread, View.ld_unit_zero (S := S512x1024) hz2, View.ld_unit_zero (S := S1x1024) hz2, View.ld_unit_zero (S := S1x1) hz2]

/-- What the first point stores in window 3. -/
theorem outA3 : out0_A_3 c i arg1 harg1 arg2 harg2 arg3 harg3 arg4 harg4 arg5 harg5 arg6 harg6 hc0 hc1 hc2 hc3 x0 x1 x2 = k0_pay6 x0 x1 x2 := by
  unfold out0_A_3
  rw [View.read_writes_eq_canon _ _ _ (fun _ => cover0_A_3 ..)]
  unfold kernelRun0_A
  dsimp only
  rw [View.canon_unit_zero hz2]
  simp only [View.readAt_eq_ld, harg1.read_unread, harg2.read_unread, harg3.read_unread, harg4.read_unread, harg5.read_unread, harg6.read_unread, View.ld_unit_zero (S := S512x1024) hz2, View.ld_unit_zero (S := S1x1024) hz2, View.ld_unit_zero (S := S1x1) hz2]

/-- What the first point stores in window 5. -/
theorem outA5 : out0_A_5 c i arg1 harg1 arg2 harg2 arg3 harg3 arg4 harg4 arg5 harg5 arg6 harg6 hc0 hc1 hc2 hc3 x0 x1 x2 = k0_pay9 x0 x1 x2 := by
  unfold out0_A_5
  rw [View.read_writes_eq_canon _ _ _ (fun _ => cover0_A_5 ..)]
  unfold kernelRun0_A
  dsimp only
  rw [View.canon_unit_zero hz2]
  simp only [kernelRun0_A.sl.r_3, View.readAt_eq_ld, harg1.read_unread, harg2.read_unread, harg3.read_unread, harg4.read_unread, harg5.read_unread, harg6.read_unread, View.ld_unit_zero (S := S512x1024) hz2, View.ld_unit_zero (S := S1x1024) hz2, View.ld_unit_zero (S := S1x1) hz2]

end

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S512x1024 .f32) (harg3 : arg3.IsWhole) (arg4 : Memref sig .tc .vmem S1x1 .f32) (harg4 : arg4.IsWhole) (arg5 : Memref sig .tc .vmem S512x1024 .f32) (harg5 : arg5.IsWhole) (arg6 : Memref sig .tc .vmem S1x1024 .f32) (harg6 : arg6.IsWhole) (hc0 : ¬cond0_0 i) (hc1 : cond0_1 i) (hc2 : ¬cond0_2 i) (hc3 : cond0_3 i) (x0 : Vec Ideal S512x1024 .f32) (x1 : Vec Ideal S1x1024 .f32) (x2 : Vec Ideal S512x1024 .f32) (xo3 : Vec Ideal S1x1 .f32) (xo5 : Vec Ideal S1x1024 .f32)

/-- What the later points store in window 4. -/
theorem outB4 : out0_B_4 c i arg1 harg1 arg2 harg2 arg3 harg3 arg4 harg4 arg5 harg5 arg6 harg6 hc0 hc1 hc2 hc3 x0 x1 x2 xo3 xo5 = k0_pay2 (k0_pay3 x0) (k0_pay4 x0) (k0_pay8 x0 x1 x2) x1 := by
  unfold out0_B_4
  rw [View.read_writes_eq_canon _ _ _ (fun _ => cover0_B_4 ..)]
  unfold kernelRun0_B
  dsimp only
  rw [View.canon_unit_zero hz2]
  simp only [kernelRun0_B.sl.r, kernelRun0_B.sl.r_1, kernelRun0_B.sl.r_2, View.readAt_eq_ld, harg1.read_unread, harg2.read_unread, harg3.read_unread, harg4.read_unread, harg5.read_unread, harg6.read_unread, View.ld_unit_zero (S := S512x1024) hz2, View.ld_unit_zero (S := S1x1024) hz2, View.ld_unit_zero (S := S1x1) hz2]

/-- What the later points store in window 3. -/
theorem outB3 : out0_B_3 c i arg1 harg1 arg2 harg2 arg3 harg3 arg4 harg4 arg5 harg5 arg6 harg6 hc0 hc1 hc2 hc3 x0 x1 x2 xo3 xo5 = k0_pay7 x0 x1 x2 xo3 := by
  unfold out0_B_3
  rw [View.read_writes_eq_canon _ _ _ (fun _ => cover0_B_3 ..)]
  unfold kernelRun0_B
  dsimp only
  rw [View.canon_unit_zero hz2]
  simp only [View.readAt_eq_ld, harg1.read_unread, harg2.read_unread, harg3.read_unread, harg4.read_unread, harg5.read_unread, harg6.read_unread, View.ld_unit_zero (S := S512x1024) hz2, View.ld_unit_zero (S := S1x1024) hz2, View.ld_unit_zero (S := S1x1) hz2]

/-- What the later points store in window 5. -/
theorem outB5 : out0_B_5 c i arg1 harg1 arg2 harg2 arg3 harg3 arg4 harg4 arg5 harg5 arg6 harg6 hc0 hc1 hc2 hc3 x0 x1 x2 xo3 xo5 = k0_pay1 (k0_pay9 x0 x1 x2) xo5 := by
  unfold out0_B_5
  rw [View.read_writes_eq_canon _ _ _ (fun _ => cover0_B_5 ..)]
  unfold kernelRun0_B
  dsimp only
  rw [View.canon_unit_zero hz2]
  simp only [kernelRun0_B.sl.r_3, View.readAt_eq_ld, harg1.read_unread, harg2.read_unread, harg3.read_unread, harg4.read_unread, harg5.read_unread, harg6.read_unread, View.ld_unit_zero (S := S512x1024) hz2, View.ld_unit_zero (S := S1x1024) hz2, View.ld_unit_zero (S := S1x1) hz2]

end

/-- The block of argument 0 that point `t` reads, at an element. -/
theorem block_0 (c : Dev nD) (t : Fin cfg0.N) (l0 : Fin 512) (l1 : Fin 1024) (i : S4096x1024.Idx)
    (h0 : (i 0).val = (t.val) * 512 + l0.val) (h1 : (i 1).val = (0) * 1024 + l1.val) :
    (iblk m c 0 t : Vec Ideal S512x1024 .f32) (ix2 l0 l1) = src0 m c i := by
  have hi := (by decide +kernel : ∀ t : Fin grid0.N, win0_0.index t 0 = t.val ∧ win0_0.index t 1 = 0) t
  refine congrArg (src0 m c) (funext fun a => Fin.ext ?_)
  match a with
  | ⟨0, _⟩ => show win0_0.index t 0 * 512 + 1 * l0.val = (i 0).val; rw [hi.1, h0]; omega
  | ⟨1, _⟩ => show win0_0.index t 1 * 1024 + 1 * l1.val = (i 1).val; rw [hi.2, h1]; omega

/-- The block of argument 1 that point `t` reads, at an element. -/
theorem block_1 (c : Dev nD) (t : Fin cfg0.N) (l0 : Fin 1) (l1 : Fin 1024) (i : S1x1024.Idx)
    (h0 : (i 0).val = (0) * 1 + l0.val) (h1 : (i 1).val = (0) * 1024 + l1.val) :
    (iblk m c 1 t : Vec Ideal S1x1024 .f32) (ix2 l0 l1) = src1 m c i := by
  have hi := (by decide +kernel : ∀ t : Fin grid0.N, win0_1.index t 0 = 0 ∧ win0_1.index t 1 = 0) t
  refine congrArg (src1 m c) (funext fun a => Fin.ext ?_)
  match a with
  | ⟨0, _⟩ => show win0_1.index t 0 * 1 + 1 * l0.val = (i 0).val; rw [hi.1, h0]; omega
  | ⟨1, _⟩ => show win0_1.index t 1 * 1024 + 1 * l1.val = (i 1).val; rw [hi.2, h1]; omega

/-- The block of argument 2 that point `t` reads, at an element. -/
theorem block_2 (c : Dev nD) (t : Fin cfg0.N) (l0 : Fin 512) (l1 : Fin 1024) (i : S4096x1024.Idx)
    (h0 : (i 0).val = (t.val) * 512 + l0.val) (h1 : (i 1).val = (0) * 1024 + l1.val) :
    (iblk m c 2 t : Vec Ideal S512x1024 .f32) (ix2 l0 l1) = src2 m c i := by
  have hi := (by decide +kernel : ∀ t : Fin grid0.N, win0_2.index t 0 = t.val ∧ win0_2.index t 1 = 0) t
  refine congrArg (src2 m c) (funext fun a => Fin.ext ?_)
  match a with
  | ⟨0, _⟩ => show win0_2.index t 0 * 512 + 1 * l0.val = (i 0).val; rw [hi.1, h0]; omega
  | ⟨1, _⟩ => show win0_2.index t 1 * 1024 + 1 * l1.val = (i 1).val; rw [hi.2, h1]; omega

/-- Their element. -/
theorem pay2_apply (x0 x2 : Vec Ideal S512x1024 .f32) (x1 : Vec Ideal S1x1024 .f32) (p : Fin 512) (q : Fin 1024) :
    k0_pay2 (k0_pay3 x0) (k0_pay4 x0) (k0_pay8 x0 x1 x2) x1 (ix2 p q) = rowE (fun k => x0 (ix2 p k)) (fun k => x1 (ix2 (0 : Fin 1) k)) (fun k => x2 (ix2 p k)) q := by
  pointwise [k0_pay2, k0_pay3, k0_pay4, k0_pay5, k0_pay8, rowE, diff, RmsBwd.viaRow, RmsBwd.meanSq]

/-- The sums over a block's rows. -/
theorem pay6_apply (x0 x2 : Vec Ideal S512x1024 .f32) (x1 : Vec Ideal S1x1024 .f32) (z : Fin 1) :
    k0_pay6 x0 x1 x2 (ix2 (0 : Fin 1) z) = ∑ p : Fin 512, Ideal.div (Ideal.ofBits .f32 1056964608#32 * ∑ k, diff (fun j => x0 (ix2 p j)) (fun j => x1 (ix2 (0 : Fin 1) j)) (fun j => x2 (ix2 p j)) k * diff (fun j => x0 (ix2 p j)) (fun j => x1 (ix2 (0 : Fin 1) j)) (fun j => x2 (ix2 p j)) k) (Ideal.ofBits .f32 1149239296#32) := by
  refine Eq.trans ?_ (halves _).symm
  pointwise [k0_pay6, k0_pay5, k0_pay4, k0_pay3, diff, RmsBwd.meanSq]
theorem pay9_apply (x0 x2 : Vec Ideal S512x1024 .f32) (x1 : Vec Ideal S1x1024 .f32) (q : Fin 1024) :
    k0_pay9 x0 x1 x2 (ix2 (0 : Fin 1) q) = ∑ p : Fin 512, Ideal.div (diff (fun j => x0 (ix2 p j)) (fun j => x1 (ix2 (0 : Fin 1) j)) (fun j => x2 (ix2 p j)) q) (Ideal.ofBits .f32 1149239296#32) * (x0 (ix2 p q) * Ideal.rsqrt (RmsBwd.meanSq (Ideal.ofBits .f32 1149239296#32) (Ideal.ofBits .f32 897988541#32) (fun j => x0 (ix2 p j)))) := by
  pointwise [k0_pay9, k0_pay8, k0_pay5, k0_pay4, k0_pay3, diff, RmsBwd.meanSq]

/-- The rows point `t` writes. -/
theorem rows (c : Dev nD) (t : Fin cfg0.N) : (outsAt0 m c t.val t.isLt).2.1 =
    k0_pay2 (k0_pay3 (iblk m c 0 t)) (k0_pay4 (iblk m c 0 t)) (k0_pay8 (iblk m c 0 t) (iblk m c 1 t) (iblk m c 2 t)) (iblk m c 1 t) := by
  have hN : cfg0.N = 8 := N_0
  by_cases h : t.val = 0
  · rw [outsAt0_A m c t (by omega) (by omega) (by omega) (by omega)]
    dsimp only
    rw [outA4]
  · rw [outsAt0_B m c t (by omega) (by omega) (by omega) (by omega)]
    dsimp only
    rw [outB4]

/-- What point `s` adds to the sums. -/
def lossPart (c : Dev nD) (q : Fin 1) (s : ℕ) : Ideal .f32 :=
  if h : s < cfg0.N then k0_pay6 (iblk m c 0 ⟨s, h⟩) (iblk m c 1 ⟨s, h⟩) (iblk m c 2 ⟨s, h⟩) (ix2 (0 : Fin 1) q) else 0

/-- The sums after point `n`. -/
theorem lossSums (c : Dev nD) (q : Fin 1) : ∀ (n : ℕ) (hn : n < cfg0.N),
    ((outsAt0 m c n hn).1 : Vec Ideal S1x1 .f32) (ix2 (0 : Fin 1) q) = ∑ s ∈ Finset.range (n + 1), lossPart m c q s
  | 0, hn => by
    have e := outsAt0_A m c ⟨0, hn⟩ (Nat.zero_mod _) (by simp) (Nat.zero_mod _) (by simp)
    dsimp only at e
    rw [e, Finset.sum_range_one]
    unfold lossPart
    rw [dif_pos hn]
    dsimp only
    rw [outA3]
  | n + 1, hn => by
    have hN : cfg0.N = 8 := N_0
    have e := outsAt0_B m c ⟨n + 1, hn⟩ (by dsimp only; omega) (by dsimp only; omega) (by dsimp only; omega) (by dsimp only; omega)
    dsimp only at e
    rw [e, Finset.sum_range_succ, ← lossSums c q n (Nat.lt_of_succ_lt hn)]
    unfold lossPart
    rw [dif_pos hn]
    dsimp only
    rw [outB3]
    pointwise [k0_pay7]
    rfl

/-- What point `s` adds to the sums. -/
def gainPart (c : Dev nD) (q : Fin 1024) (s : ℕ) : Ideal .f32 :=
  if h : s < cfg0.N then k0_pay9 (iblk m c 0 ⟨s, h⟩) (iblk m c 1 ⟨s, h⟩) (iblk m c 2 ⟨s, h⟩) (ix2 (0 : Fin 1) q) else 0

/-- The sums after point `n`. -/
theorem gainSums (c : Dev nD) (q : Fin 1024) : ∀ (n : ℕ) (hn : n < cfg0.N),
    ((outsAt0 m c n hn).2.2 : Vec Ideal S1x1024 .f32) (ix2 (0 : Fin 1) q) = ∑ s ∈ Finset.range (n + 1), gainPart m c q s
  | 0, hn => by
    have e := outsAt0_A m c ⟨0, hn⟩ (Nat.zero_mod _) (by simp) (Nat.zero_mod _) (by simp)
    dsimp only at e
    rw [e, Finset.sum_range_one]
    unfold gainPart
    rw [dif_pos hn]
    dsimp only
    rw [outA5]
  | n + 1, hn => by
    have hN : cfg0.N = 8 := N_0
    have e := outsAt0_B m c ⟨n + 1, hn⟩ (by dsimp only; omega) (by dsimp only; omega) (by dsimp only; omega) (by dsimp only; omega)
    dsimp only at e
    rw [e, Finset.sum_range_succ, ← gainSums c q n (Nat.lt_of_succ_lt hn)]
    unfold gainPart
    rw [dif_pos hn]
    dsimp only
    rw [outB5]
    pointwise [k0_pay1]
    rfl

/-- The last point's sums are the sums over all the rows. -/
theorem lossLast (c : Dev nD) (q : Fin 1) (h : 7 < cfg0.N) :
    ((outsAt0 m c 7 h).1 : Vec Ideal S1x1 .f32) (ix2 (0 : Fin 1) q) = lossE (fun r k => src0 m c (ix2 r k)) (fun k => src1 m c (ix2 (0 : Fin 1) k)) (fun r k => src2 m c (ix2 r k)) := by
  have hN : cfg0.N = 8 := N_0
  rw [lossSums, lossE, RowSums.sum_rows, Finset.sum_range]
  refine Finset.sum_congr rfl fun s _ => ?_
  unfold lossPart
  rw [dif_pos (by omega)]
  refine (pay6_apply (iblk m c 0 _) (iblk m c 2 _) (iblk m c 1 _) q).trans (Finset.sum_congr rfl fun k _ => ?_)
  have hx : ∀ k j, (iblk m c 0 ⟨s.val, by omega⟩ : Vec Ideal S512x1024 .f32) (ix2 k j) = src0 m c (ix2 (⟨s.val * 512 + k.val, by omega⟩ : Fin 4096) j) :=
    fun k j => block_0 m c _ k j _ (by simp <;> omega) (by simp <;> omega)
  have ht : ∀ k j, (iblk m c 2 ⟨s.val, by omega⟩ : Vec Ideal S512x1024 .f32) (ix2 k j) = src2 m c (ix2 (⟨s.val * 512 + k.val, by omega⟩ : Fin 4096) j) :=
    fun k j => block_2 m c _ k j _ (by simp <;> omega) (by simp <;> omega)
  have hg : ∀ j, (iblk m c 1 ⟨s.val, by omega⟩ : Vec Ideal S1x1024 .f32) (ix2 (0 : Fin 1) j) = src1 m c (ix2 (0 : Fin 1) j) :=
    fun j => block_1 m c _ 0 j (ix2 (0 : Fin 1) j) (by simp <;> omega) (by simp <;> omega)
  rw [funext (hx k), funext hg, funext (ht k)]

/-- The last point's sums are the sums over all the rows. -/
theorem gainLast (c : Dev nD) (q : Fin 1024) (h : 7 < cfg0.N) :
    ((outsAt0 m c 7 h).2.2 : Vec Ideal S1x1024 .f32) (ix2 (0 : Fin 1) q) = gainE (fun r k => src0 m c (ix2 r k)) (fun k => src1 m c (ix2 (0 : Fin 1) k)) (fun r k => src2 m c (ix2 r k)) q := by
  have hN : cfg0.N = 8 := N_0
  rw [gainSums, gainE, RowSums.sum_rows, Finset.sum_range]
  refine Finset.sum_congr rfl fun s _ => ?_
  unfold gainPart
  rw [dif_pos (by omega)]
  refine (pay9_apply (iblk m c 0 _) (iblk m c 2 _) (iblk m c 1 _) q).trans (Finset.sum_congr rfl fun k _ => ?_)
  have hx : ∀ k j, (iblk m c 0 ⟨s.val, by omega⟩ : Vec Ideal S512x1024 .f32) (ix2 k j) = src0 m c (ix2 (⟨s.val * 512 + k.val, by omega⟩ : Fin 4096) j) :=
    fun k j => block_0 m c _ k j _ (by simp <;> omega) (by simp <;> omega)
  have ht : ∀ k j, (iblk m c 2 ⟨s.val, by omega⟩ : Vec Ideal S512x1024 .f32) (ix2 k j) = src2 m c (ix2 (⟨s.val * 512 + k.val, by omega⟩ : Fin 4096) j) :=
    fun k j => block_2 m c _ k j _ (by simp <;> omega) (by simp <;> omega)
  have hg : ∀ j, (iblk m c 1 ⟨s.val, by omega⟩ : Vec Ideal S1x1024 .f32) (ix2 (0 : Fin 1) j) = src1 m c (ix2 (0 : Fin 1) j) :=
    fun j => block_1 m c _ 0 j (ix2 (0 : Fin 1) j) (by simp <;> omega) (by simp <;> omega)
  rw [hx k q, funext (hx k), funext hg, funext (ht k)]

/-- An element of the result. -/
theorem result4 (c : Dev nD) (p0 : Fin 4096) (p1 : Fin 1024) :
    ((dats m 0 c).arrAt 4 cfg0.N : Vec Ideal S4096x1024 .f32) (ix2 p0 p1) = rowE (fun k => src0 m c (ix2 p0 k)) (fun k => src1 m c (ix2 (0 : Fin 1) k)) (fun k => src2 m c (ix2 p0 k)) p1 := by
  have hN : cfg0.N = 8 := N_0
  obtain ⟨t, ht⟩ : ∃ t : Fin cfg0.N, t.val = p0.val / 512 := ⟨⟨p0.val / 512, by omega⟩, rfl⟩
  have hf : (cfg0.win 4).flush t = true := (by decide +kernel : ∀ t : Fin grid0.N, win0_4.flush t = true) t
  have e := congrFun (blocks4 m c t hf) (ix2 (⟨p0.val % 512, by omega⟩ : Fin 512) (⟨p1.val % 1024, by omega⟩ : Fin 1024))
  rw [View.read_apply, flushed4] at e
  have hi := (by decide +kernel : ∀ t : Fin grid0.N, win0_4.index t 0 = t.val ∧ win0_4.index t 1 = 0) t
  have hidx : ((cfg0.win 4).blk t).view.emb (ix2 (⟨p0.val % 512, by omega⟩ : Fin 512) (⟨p1.val % 1024, by omega⟩ : Fin 1024)) = ix2 p0 p1 := by
    refine funext fun d => Fin.ext ?_
    match d with
    | ⟨0, _⟩ => show win0_4.index t 0 * 512 + 1 * (p0.val % 512) = p0.val; rw [hi.1]; omega
    | ⟨1, _⟩ => show win0_4.index t 1 * 1024 + 1 * (p1.val % 1024) = p1.val; rw [hi.2]; omega
  rw [hidx] at e
  refine e.trans ?_
  rw [rows]
  refine (pay2_apply (iblk m c 0 t) (iblk m c 2 t) (iblk m c 1 t) _ _).trans ?_
  have hq : (⟨p1.val % 1024, by omega⟩ : Fin 1024) = p1 := Fin.ext (by simp <;> omega)
  rw [hq]
  have h0 : ∀ k, (iblk m c 0 t : Vec Ideal S512x1024 .f32) (ix2 (⟨p0.val % 512, by omega⟩ : Fin 512) k) = src0 m c (ix2 p0 k) :=
    fun k => block_0 m c t _ k (ix2 p0 k) (by simp <;> omega) (by simp <;> omega)
  have h2 : ∀ k, (iblk m c 2 t : Vec Ideal S512x1024 .f32) (ix2 (⟨p0.val % 512, by omega⟩ : Fin 512) k) = src2 m c (ix2 p0 k) :=
    fun k => block_2 m c t _ k (ix2 p0 k) (by simp <;> omega) (by simp <;> omega)
  have h1 : ∀ k, (iblk m c 1 t : Vec Ideal S1x1024 .f32) (ix2 (0 : Fin 1) k) = src1 m c (ix2 (0 : Fin 1) k) :=
    fun k => block_1 m c t 0 k (ix2 (0 : Fin 1) k) (by simp <;> omega) (by simp <;> omega)
  rw [funext h0, funext h1, funext h2]

/-- Only the last point writes the sums back. -/
theorem flush3 : ∀ t t' : Fin cfg0.N, (cfg0.win 3).flush t = true → (cfg0.win 3).flush t' = true → t = t' :=
  (by decide +kernel : ∀ t t' : Fin grid0.N, win0_3.flush t = true → win0_3.flush t' = true → t = t')

set_option maxHeartbeats 1000000 in
/-- An element of the sums. -/
theorem result3 (c : Dev nD) (p0 : Fin 1) (p1 : Fin 1) :
    ((dats m 0 c).arrAt 3 cfg0.N : Vec Ideal S1x1 .f32) (ix2 p0 p1) = lossE (fun r k => src0 m c (ix2 r k)) (fun k => src1 m c (ix2 (0 : Fin 1) k)) (fun r k => src2 m c (ix2 r k)) := by
  have hN : cfg0.N = 8 := N_0
  obtain ⟨t, ht⟩ : ∃ t : Fin cfg0.N, t.val = 7 := ⟨⟨7, by omega⟩, rfl⟩
  have hf : (cfg0.win 3).flush t = true := (by decide +kernel : ∀ t : Fin grid0.N, t.val = 7 → win0_3.flush t = true) t ht
  have hi := (by decide +kernel : ∀ t : Fin grid0.N, win0_3.index t 0 = 0 ∧ win0_3.index t 1 = 0) t
  have e := congrFun ((dats m 0 c).read_blk_arrAt_eq_flushed 3 (fun t t' h h' hne => absurd (flush3 t t' h h') hne) cfg0.N t t.isLt hf) (ix2 p0 p1)
  rw [View.read_apply, flushed3] at e
  have hidx : ((cfg0.win 3).blk t).view.emb (ix2 p0 p1) = ix2 p0 p1 := by
    refine funext fun d => Fin.ext ?_
    match d with
    | ⟨0, _⟩ => show win0_3.index t 0 * 1 + 1 * p0.val = p0.val; rw [hi.1]; omega
    | ⟨1, _⟩ => show win0_3.index t 1 * 1 + 1 * p1.val = p1.val; rw [hi.2]; omega
  rw [hidx] at e
  refine e.trans ?_
  obtain rfl : p0 = 0 := Subsingleton.elim _ _
  obtain ⟨n, hn⟩ := t
  dsimp only at ht
  subst ht
  exact lossLast m c p1 hn
/-- Only the last point writes the sums back. -/
theorem flush5 : ∀ t t' : Fin cfg0.N, (cfg0.win 5).flush t = true → (cfg0.win 5).flush t' = true → t = t' :=
  (by decide +kernel : ∀ t t' : Fin grid0.N, win0_5.flush t = true → win0_5.flush t' = true → t = t')

set_option maxHeartbeats 1000000 in
/-- An element of the sums. -/
theorem result5 (c : Dev nD) (p0 : Fin 1) (p1 : Fin 1024) :
    ((dats m 0 c).arrAt 5 cfg0.N : Vec Ideal S1x1024 .f32) (ix2 p0 p1) = gainE (fun r k => src0 m c (ix2 r k)) (fun k => src1 m c (ix2 (0 : Fin 1) k)) (fun r k => src2 m c (ix2 r k)) p1 := by
  have hN : cfg0.N = 8 := N_0
  obtain ⟨t, ht⟩ : ∃ t : Fin cfg0.N, t.val = 7 := ⟨⟨7, by omega⟩, rfl⟩
  have hf : (cfg0.win 5).flush t = true := (by decide +kernel : ∀ t : Fin grid0.N, t.val = 7 → win0_5.flush t = true) t ht
  have hi := (by decide +kernel : ∀ t : Fin grid0.N, win0_5.index t 0 = 0 ∧ win0_5.index t 1 = 0) t
  have e := congrFun ((dats m 0 c).read_blk_arrAt_eq_flushed 5 (fun t t' h h' hne => absurd (flush5 t t' h h') hne) cfg0.N t t.isLt hf) (ix2 p0 p1)
  rw [View.read_apply, flushed5] at e
  have hidx : ((cfg0.win 5).blk t).view.emb (ix2 p0 p1) = ix2 p0 p1 := by
    refine funext fun d => Fin.ext ?_
    match d with
    | ⟨0, _⟩ => show win0_5.index t 0 * 1 + 1 * p0.val = p0.val; rw [hi.1]; omega
    | ⟨1, _⟩ => show win0_5.index t 1 * 1024 + 1 * p1.val = p1.val; rw [hi.2]; omega
  rw [hidx] at e
  refine e.trans ?_
  obtain rfl : p0 = 0 := Subsingleton.elim _ _
  obtain ⟨n, hn⟩ := t
  dsimp only at ht
  subst ht
  exact gainLast m c p1 hn
end

open Idealize.ShloMosaic Idealize.ShloMosaic.TcCoe Idealize.SL.Sem

/-- Kernel and reference end with equal results. -/
theorem algebraic : Cert.algebraic_Kernel41Ideal_Reference41Ideal := by
  intro m ρ m' ρ' _ hagree
  refine ⟨fun c => (Cert.Kernel41Ideal.Gen.dats m 0 c).arrAt 3 Cert.Kernel41Ideal.cfg0.N, fun c => (Cert.Kernel41Ideal.Gen.dats m 0 c).arrAt 4 Cert.Kernel41Ideal.cfg0.N, fun c => (Cert.Kernel41Ideal.Gen.dats m 0 c).arrAt 5 Cert.Kernel41Ideal.cfg0.N, Cert.Kernel41Ideal.Value.run_blocks (F := Ideal) m ρ, ?_⟩
  refine (θ_run _ _ _).mono (fun _ h c => ?_) (Cert.Reference41Ideal.Value.run m' ρ')
  obtain ⟨h0, h1, h2⟩ : _ = src0 m c ∧ _ = src1 m c ∧ _ = src2 m c := hagree c
  refine ⟨(h c).1.trans ?_, (h c).2.1.trans ?_, (h c).2.2.1.trans ?_, (h c).2.2.2⟩
  · rw [h0, h1, h2]
    refine funext fun (j : Cert.Kernel41Ideal.S1x1.Idx) => ?_
    obtain ⟨p0, p1, rfl⟩ : ∃ (p0 : Fin 1) (p1 : Fin 1), j = ix2 p0 p1 := ⟨j 0, j 1, eq_ix2 j⟩
    refine Eq.trans ?_ (result3 m c p0 p1).symm
    generalize src0 m c = x0
    generalize src1 m c = x1
    generalize src2 m c = x2
    refine Eq.trans ?_ (halves_out _)
    pointwise [diff, RmsBwd.meanSq]
  · unfold Cert.Reference41Ideal.Value.res_main_v48
    rw [h0, h1, h2]
    refine funext fun (j : Cert.Kernel41Ideal.S4096x1024.Idx) => ?_
    obtain ⟨p0, p1, rfl⟩ : ∃ (p0 : Fin 4096) (p1 : Fin 1024), j = ix2 p0 p1 := ⟨j 0, j 1, eq_ix2 j⟩
    refine Eq.trans ?_ (result4 m c p0 p1).symm
    generalize src0 m c = x0
    generalize src1 m c = x1
    generalize src2 m c = x2
    obtain ⟨e, he, hw⟩ := RmsBwd.word_small
    rw [rowE_rule, hw, RmsBwd.word_1024, RmsBwd.viaRow_eq 1024 e (by norm_num) he, ← RmsBwd.word_1024, ← hw, ← RmsBwd.word_neg_half]
    pointwise [diff, RmsBwd.viaRule, RmsBwd.through, RmsBwd.meanSq]
    simp only [Fin.sum_univ_one]
    exact RmsBwd.twice _ _ _
  · rw [h0, h1, h2]
    refine funext fun (j : Cert.Kernel41Ideal.S1x1024.Idx) => ?_
    obtain ⟨p0, p1, rfl⟩ : ∃ (p0 : Fin 1) (p1 : Fin 1024), j = ix2 p0 p1 := ⟨j 0, j 1, eq_ix2 j⟩
    refine Eq.trans ?_ (result5 m c p0 p1).symm
    generalize src0 m c = x0
    generalize src1 m c = x1
    generalize src2 m c = x2
    obtain rfl : p0 = 0 := Subsingleton.elim _ _
    refine Eq.trans ?_ (Finset.sum_congr rfl fun k _ => congrArg (· * _) (factor _))
    pointwise [diff, RmsBwd.meanSq]
    exact Finset.sum_congr rfl fun k _ => mul_comm _ _

/-- The frames of the three programs. -/
theorem frame_p : Cert.quiescent_Kernel41 := fun m ρ _ => Cert.Kernel41.Gen.frame m ρ
theorem frame_i : Cert.quiescent_Kernel41Ideal := fun m ρ _ => Cert.Kernel41Ideal.Gen.frame m ρ
theorem frame_r : Cert.quiescent_Reference41Ideal := fun m ρ _ =>
  (θ_run _ _ _).mono (fun r h => ⟨fun c => (h c).2.2.2, sem_eq_zero_of_no_sems (by decide) r.2⟩)
    (Cert.Reference41Ideal.Value.run m ρ)

end Cert.LossHead

end

end
-- ==== Proof.ConvGlu.lean ====
/- The convolution and its gate, forward: a grid point takes a column block of both halves through sixteen strips of 256
   rows, and each strip is the gradient's own recomputation of the convolution. -/
module

public import proofs.«01_k».proof.Proof.Gen.Kernel42.Frame
public import proofs.«01_k».proof.Proof.Gen.Kernel42Ideal.Value
public import proofs.«01_k».proof.Proof.Gen.Reference42Ideal.Run
public import proofs.«01_k».proof.Proof.ConvPoint
public import proofs.«01_k».proof.Proof.Base

@[expose] public section

set_option maxRecDepth 16384

noncomputable section

namespace Cert.ConvGlu

section
open Cert.Kernel42Ideal Cert.Kernel42Ideal.Gen Cert.Kernel42Ideal.Value Idealize.ShloMosaic Idealize.ShloMosaic.TcCoe Idealize.SL.Sem
open Cert.Kernel2Ideal.Conv (gate)

variable (m : (ℓ : Loc nD τ sig) → Buf (Elt Ideal) ℓ)

/-- The arguments. -/
abbrev src0 (c : Dev nD) : Vec Ideal S4096x5632 .f32 := m ((c : Thread nD τ).loc main_arg0)
abbrev src1 (c : Dev nD) : Vec Ideal S3x5632 .f32 := m ((c : Thread nD τ).loc main_arg1)
abbrev src2 (c : Dev nD) : Vec Ideal S1x5632 .f32 := m ((c : Thread nD τ).loc main_arg2)

/-- A gated element. -/
def elem (g v : EReal) : EReal := g * Ideal.logistic g * v

/-- An element of the result: column `q` of the two halves of the convolution. -/
def outE (u : Vec Ideal S4096x5632 .f32) (w : Vec Ideal S3x5632 .f32) (b : Vec Ideal S1x5632 .f32) (t : Fin 4096) (q : Fin 2816) : EReal :=
  elem (ConvSpec.Y (fun t j => u (ix2 t j)) (fun i j => w (ix2 i j)) (fun j => b (ix2 0 j)) (ConvSpec.cat 0 q) t)
    (ConvSpec.Y (fun t j => u (ix2 t j)) (fun i j => w (ix2 i j)) (fun j => b (ix2 0 j)) (ConvSpec.cat 1 q) t)

section
variable (x0 x1 : Vec Ideal S4096x128 .f32) (x2 x3 : Vec Ideal S3x128 .f32) (x4 x5 : Vec Ideal S1x128 .f32)

/-- A gated strip, -/
def glu (k : Fin k0_t1_loop.trips) : FVec Ideal S256x128 .bf16 :=
  truncf .bf16 (mulf (mulf (gate x0 x2 x4 k) (logistic (gate x0 x2 x4 k))) (gate x1 x3 x5 k)) bitsLt_bf16_f32

/-- at an element. -/
theorem glu_apply (k : Fin k0_t1_loop.trips) (r : Fin 256) (l : Fin 128) :
    glu x0 x1 x2 x3 x4 x5 k (ix2 r l) = elem (ConvSpec.conv (fun i => x2 (ix2 i l)) (x4 (ix2 0 l)) (fun t => x0 (ix2 t l)) (Cert.Kernel2Ideal.Conv.row k r))
      (ConvSpec.conv (fun i => x3 (ix2 i l)) (x5 (ix2 0 l)) (fun t => x1 (ix2 t l)) (Cert.Kernel2Ideal.Conv.row k r)) := by
  pointwise [glu]
  rw [Cert.Kernel2Ideal.Conv.gate_apply, Cert.Kernel2Ideal.Conv.gate_apply]
  rfl

section
variable (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S3x128 .f32) (harg3 : arg3.IsWhole) (arg4 : Memref sig .tc .vmem S3x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S4096x128 .bf16) (harg7 : arg7.IsWhole)

/-- One trip's store. -/
theorem trip (k : Fin k0_t1_loop.trips) : (trip_k0_t1 (F := Ideal) Variants.none c none i arg1 harg1 arg2 harg2 arg3 harg3 arg4 harg4 arg5 harg5 arg6 harg6 arg7 harg7 (harg1.unread x0) (harg2.unread x1) (harg3.unread x2) (harg4.unread x3) (harg5.unread x4) (harg6.unread x5) k).1 =
    [(⟨Rect.unit (k0_off1 k) ![256, 128] (k0_off1_inb k), glu x0 x1 x2 x3 x4 x5 k⟩ : View.Piece (Elt Ideal) S4096x128 .bf16)] := by
  unfold trip_k0_t1
  dsimp only
  sl_unfold_run_names
  simp only [View.readAt_eq_ld, harg1.read_unread, harg2.read_unread, harg3.read_unread, harg4.read_unread, harg5.read_unread, harg6.read_unread]
  rfl

/-- What a point writes, at an element. -/
theorem out_apply (t : Fin 4096) (l : Fin 128) : out0_A_6 c i arg1 harg1 arg2 harg2 arg3 harg3 arg4 harg4 arg5 harg5 arg6 harg6 arg7 harg7 x0 x1 x2 x3 x4 x5 (ix2 t l) =
    elem (ConvSpec.conv (fun i => x2 (ix2 i l)) (x4 (ix2 0 l)) (fun t => x0 (ix2 t l)) t)
      (ConvSpec.conv (fun i => x3 (ix2 i l)) (x5 (ix2 0 l)) (fun t => x1 (ix2 t l)) t) := by
  have key : ∀ n, n ≤ 16 → t.val < 256 * n → VO0_6.read (Elt Ideal) (VO0_6.writes (Elt Ideal) VO0_6.junk (pb_k0_t1 (F := Ideal) Variants.none c none i arg1 harg1 arg2 harg2 arg3 harg3 arg4 harg4 arg5 harg5 arg6 harg6 arg7 harg7 (harg1.unread x0) (harg2.unread x1) (harg3.unread x2) (harg4.unread x3) (harg5.unread x4) (harg6.unread x5) n)) (ix2 t l) =
      elem (ConvSpec.conv (fun i => x2 (ix2 i l)) (x4 (ix2 0 l)) (fun t => x0 (ix2 t l)) t)
        (ConvSpec.conv (fun i => x3 (ix2 i l)) (x5 (ix2 0 l)) (fun t => x1 (ix2 t l)) t) := by
    intro n
    induction n with
    | zero => intro _ h; omega
    | succ n ih =>
      intro hn ht
      have hn' : n < k0_t1_loop.trips := hn
      rw [pb_k0_t1_succ (F := Ideal) Variants.none c none i arg1 harg1 arg2 harg2 arg3 harg3 arg4 harg4 arg5 harg5 arg6 harg6 arg7 harg7 _ _ _ _ _ _ ⟨n, hn'⟩]
      unfold tripL_k0_t1
      rw [trip]
      by_cases hc : t.val < 256 * n
      · exact (View.read_writes_cons_unit_of_not_mem VO0_6 _ (k0_off1_inb ⟨n, hn'⟩) _ _ (ix2 t l) (k0_off1_eq ⟨n, hn'⟩) 0 (Or.inl hc)).trans (ih (by omega) hc)
      · refine (View.read_writes_cons_unit_of_mem VO0_6 _ (k0_off1_inb ⟨n, hn'⟩) _ _ (ix2 t l) (ix2 (⟨t.val - 256 * n, by omega⟩ : Fin 256) l) (k0_off1_eq ⟨n, hn'⟩) ?_).trans ?_
        · intro a
          match a with
          | ⟨0, _⟩ => show t.val = 256 * n + (t.val - 256 * n); omega
          | ⟨1, _⟩ => show l.val = 0 + l.val; omega
        · refine (glu_apply x0 x1 x2 x3 x4 x5 ⟨n, hn'⟩ _ l).trans ?_
          have e : Cert.Kernel2Ideal.Conv.row ⟨n, hn'⟩ ⟨t.val - 256 * n, by omega⟩ = t := Fin.ext (by show 256 * n + (t.val - 256 * n) = t.val; omega)
          rw [e]
  refine Eq.trans ?_ (key 16 (le_refl _) (by omega))
  unfold out0_A_6 kernelRun0_A
  dsimp only
  sl_unfold_run_names
  rfl

end
end

/-- The blocks a point reads: its columns of each half. -/
theorem block_0 (c : Dev nD) (t : Fin cfg0.N) (r : Fin 4096) (l : Fin 128) (q : Fin 2816) (hq : q.val = 128 * t.val + l.val) :
    (iblk m c 0 t : Vec Ideal S4096x128 .f32) (ix2 r l) = src0 m c (ix2 r (ConvSpec.cat 0 q)) := by
  have hi := (by decide +kernel : ∀ t : Fin grid0.N, win0_0.index t 0 = 0 ∧ win0_0.index t 1 = t.val) t
  unfold iblk
  rw [View.read_apply]
  refine congrArg (src0 m c) (funext fun a => Fin.ext ?_)
  match a with
  | ⟨0, _⟩ => show win0_0.index t 0 * 4096 + 1 * r.val = r.val; rw [hi.1]; omega
  | ⟨1, _⟩ => show win0_0.index t 1 * 128 + 1 * l.val = 2816 * 0 + q.val; rw [hi.2]; omega

theorem block_1 (c : Dev nD) (t : Fin cfg0.N) (r : Fin 4096) (l : Fin 128) (q : Fin 2816) (hq : q.val = 128 * t.val + l.val) :
    (iblk m c 1 t : Vec Ideal S4096x128 .f32) (ix2 r l) = src0 m c (ix2 r (ConvSpec.cat 1 q)) := by
  have hi := (by decide +kernel : ∀ t : Fin grid0.N, win0_1.index t 0 = 0 ∧ win0_1.index t 1 = 22 + t.val) t
  unfold iblk
  rw [View.read_apply]
  refine congrArg (src0 m c) (funext fun a => Fin.ext ?_)
  match a with
  | ⟨0, _⟩ => show win0_1.index t 0 * 4096 + 1 * r.val = r.val; rw [hi.1]; omega
  | ⟨1, _⟩ => show win0_1.index t 1 * 128 + 1 * l.val = 2816 * 1 + q.val; rw [hi.2]; omega

theorem block_2 (c : Dev nD) (t : Fin cfg0.N) (r : Fin 3) (l : Fin 128) (q : Fin 2816) (hq : q.val = 128 * t.val + l.val) :
    (iblk m c 2 t : Vec Ideal S3x128 .f32) (ix2 r l) = src1 m c (ix2 r (ConvSpec.cat 0 q)) := by
  have hi := (by decide +kernel : ∀ t : Fin grid0.N, win0_2.index t 0 = 0 ∧ win0_2.index t 1 = t.val) t
  unfold iblk
  rw [View.read_apply]
  refine congrArg (src1 m c) (funext fun a => Fin.ext ?_)
  match a with
  | ⟨0, _⟩ => show win0_2.index t 0 * 3 + 1 * r.val = r.val; rw [hi.1]; omega
  | ⟨1, _⟩ => show win0_2.index t 1 * 128 + 1 * l.val = 2816 * 0 + q.val; rw [hi.2]; omega

theorem block_3 (c : Dev nD) (t : Fin cfg0.N) (r : Fin 3) (l : Fin 128) (q : Fin 2816) (hq : q.val = 128 * t.val + l.val) :
    (iblk m c 3 t : Vec Ideal S3x128 .f32) (ix2 r l) = src1 m c (ix2 r (ConvSpec.cat 1 q)) := by
  have hi := (by decide +kernel : ∀ t : Fin grid0.N, win0_3.index t 0 = 0 ∧ win0_3.index t 1 = 22 + t.val) t
  unfold iblk
  rw [View.read_apply]
  refine congrArg (src1 m c) (funext fun a => Fin.ext ?_)
  match a with
  | ⟨0, _⟩ => show win0_3.index t 0 * 3 + 1 * r.val = r.val; rw [hi.1]; omega
  | ⟨1, _⟩ => show win0_3.index t 1 * 128 + 1 * l.val = 2816 * 1 + q.val; rw [hi.2]; omega

theorem block_4 (c : Dev nD) (t : Fin cfg0.N) (r : Fin 1) (l : Fin 128) (q : Fin 2816) (hq : q.val = 128 * t.val + l.val) :
    (iblk m c 4 t : Vec Ideal S1x128 .f32) (ix2 r l) = src2 m c (ix2 r (ConvSpec.cat 0 q)) := by
  have hi := (by decide +kernel : ∀ t : Fin grid0.N, win0_4.index t 0 = 0 ∧ win0_4.index t 1 = t.val) t
  unfold iblk
  rw [View.read_apply]
  refine congrArg (src2 m c) (funext fun a => Fin.ext ?_)
  match a with
  | ⟨0, _⟩ => show win0_4.index t 0 * 1 + 1 * r.val = r.val; rw [hi.1]; omega
  | ⟨1, _⟩ => show win0_4.index t 1 * 128 + 1 * l.val = 2816 * 0 + q.val; rw [hi.2]; omega

theorem block_5 (c : Dev nD) (t : Fin cfg0.N) (r : Fin 1) (l : Fin 128) (q : Fin 2816) (hq : q.val = 128 * t.val + l.val) :
    (iblk m c 5 t : Vec Ideal S1x128 .f32) (ix2 r l) = src2 m c (ix2 r (ConvSpec.cat 1 q)) := by
  have hi := (by decide +kernel : ∀ t : Fin grid0.N, win0_5.index t 0 = 0 ∧ win0_5.index t 1 = 22 + t.val) t
  unfold iblk
  rw [View.read_apply]
  refine congrArg (src2 m c) (funext fun a => Fin.ext ?_)
  match a with
  | ⟨0, _⟩ => show win0_5.index t 0 * 1 + 1 * r.val = r.val; rw [hi.1]; omega
  | ⟨1, _⟩ => show win0_5.index t 1 * 128 + 1 * l.val = 2816 * 1 + q.val; rw [hi.2]; omega

/-- An element of the result. -/
theorem result6 (c : Dev nD) (p : Fin 4096) (q : Fin 2816) :
    ((dats m 0 c).arrAt 6 cfg0.N : Vec Ideal S4096x2816 .bf16) (ix2 p q) = outE (src0 m c) (src1 m c) (src2 m c) p q := by
  have hN : cfg0.N = 22 := N_0
  obtain ⟨t, ht⟩ : ∃ t : Fin cfg0.N, t.val = q.val / 128 := ⟨⟨q.val / 128, by omega⟩, rfl⟩
  have hf : (cfg0.win 6).flush t = true := (by decide +kernel : ∀ t : Fin grid0.N, win0_6.flush t = true) t
  have e := congrFun (blocks6 m c t hf) (ix2 p (⟨q.val % 128, by omega⟩ : Fin 128))
  rw [View.read_apply, flushed6_A] at e
  have hi := (by decide +kernel : ∀ t : Fin grid0.N, win0_6.index t 0 = 0 ∧ win0_6.index t 1 = t.val) t
  have hidx : ((cfg0.win 6).blk t).view.emb (ix2 p (⟨q.val % 128, by omega⟩ : Fin 128)) = ix2 p q := by
    refine funext fun d => Fin.ext ?_
    match d with
    | ⟨0, _⟩ => show win0_6.index t 0 * 4096 + 1 * p.val = p.val; rw [hi.1]; omega
    | ⟨1, _⟩ => show win0_6.index t 1 * 128 + 1 * (q.val % 128) = q.val; rw [hi.2]; omega
  rw [hidx] at e
  refine e.trans ((out_apply (iblk m c 0 t) (iblk m c 1 t) (iblk m c 2 t) (iblk m c 3 t) (iblk m c 4 t) (iblk m c 5 t) c _ _ _ _ _ _ _ _ _ _ _ _ _ _ _ p _).trans ?_)
  generalize hl : (⟨q.val % 128, by omega⟩ : Fin 128) = l
  have hq : q.val = 128 * t.val + l.val := by subst hl; show q.val = 128 * t.val + q.val % 128; omega
  simp only [block_0 m c t _ l q hq, block_1 m c t _ l q hq, block_2 m c t _ l q hq, block_3 m c t _ l q hq, block_4 m c t _ l q hq, block_5 m c t _ l q hq]
  rfl

end

open Idealize.ShloMosaic Idealize.ShloMosaic.TcCoe Idealize.SL.Sem

/-- Kernel and reference end with equal results. -/
theorem algebraic : Cert.algebraic_Kernel42Ideal_Reference42Ideal := by
  intro m ρ m' ρ' _ hagree
  refine ⟨fun c => (Cert.Kernel42Ideal.Gen.dats m 0 c).arrAt 6 Cert.Kernel42Ideal.cfg0.N, Cert.Kernel42Ideal.Value.run_blocks (F := Ideal) m ρ, ?_⟩
  refine (θ_run _ _ _).mono (fun _ h c => ?_) (Cert.Reference42Ideal.Value.run m' ρ')
  obtain ⟨h0, h1, h2⟩ : _ = src0 m c ∧ _ = src1 m c ∧ _ = src2 m c := hagree c
  refine ⟨(h c).1.trans ?_, (h c).2⟩
  unfold Cert.Reference42Ideal.Value.res_main_v28
  rw [h0, h1, h2]
  refine funext fun (j : Cert.Kernel42Ideal.S4096x2816.Idx) => ?_
  obtain ⟨p, q, rfl⟩ : ∃ (p : Fin 4096) (q : Fin 2816), j = ix2 p q := ⟨j 0, j 1, eq_ix2 j⟩
  refine Eq.trans ?_ (result6 m c p q).symm
  generalize src0 m c = x0
  generalize src1 m c = x1
  generalize src2 m c = x2
  pointwise []
  have key : ∀ (j : Fin 5632), (((x1 (ix2 0 j) * if h : p.val < 2 then (0 : EReal) else x0 (ix2 ⟨p.val - 2, by omega⟩ j)) + x1 (ix2 1 j) * if h : 1 + p.val < 2 then (0 : EReal) else x0 (ix2 ⟨1 + p.val - 2, by omega⟩ j)) +
      x1 (ix2 2 j) * x0 (ix2 p j) + x2 (ix2 0 j) : EReal) = ConvSpec.Y (fun t j => x0 (ix2 t j)) (fun i j => x1 (ix2 i j)) (fun j => x2 (ix2 0 j)) j p := by
    intro j
    unfold ConvSpec.Y ConvSpec.conv ConvSpec.lag
    refine congrArg₂ (fun a b : EReal => x1 (ix2 0 j) * a + x1 (ix2 1 j) * b + x1 (ix2 2 j) * x0 (ix2 p j) + x2 (ix2 0 j)) ?_ ?_
    · by_cases h : p.val < 2
      · rw [dif_pos h, dif_neg (by omega)]
      · rw [dif_neg h, dif_pos (by omega)]
    · by_cases h : 1 + p.val < 2
      · rw [dif_pos h, dif_neg (by omega)]
      · rw [dif_neg h, dif_pos (by omega)]
        exact congrArg (fun t => x0 (ix2 t j)) (Fin.ext (by show 1 + p.val - 2 = p.val - 1; omega))
  unfold outE
  have e0 : ConvSpec.cat 0 q = ⟨q.val, by omega⟩ := Fin.ext (by show 2816 * 0 + q.val = q.val; omega)
  have e1 : ConvSpec.cat 1 q = ⟨2816 + q.val, by omega⟩ := Fin.ext (by show 2816 * 1 + q.val = 2816 + q.val; omega)
  rw [e0, e1, ← key, ← key]
  rfl

/-- The frames of the three programs. -/
theorem frame_p : Cert.quiescent_Kernel42 := fun m ρ _ => Cert.Kernel42.Gen.frame m ρ
theorem frame_i : Cert.quiescent_Kernel42Ideal := fun m ρ _ => Cert.Kernel42Ideal.Gen.frame m ρ
theorem frame_r : Cert.quiescent_Reference42Ideal := fun m ρ _ =>
  (θ_run _ _ _).mono (fun r h => ⟨fun c => (h c).2, sem_eq_zero_of_no_sems (by decide) r.2⟩)
    (Cert.Reference42Ideal.Value.run m ρ)

end Cert.ConvGlu

end
-- ==== Proof.AttnSpec.lean ====
/- Chunked attention as mathematics over the extended reals: what one row of the result is. -/
module

public import proofs.«01_k».proof.Defs
public import Idealize.ShloMosaic.Lib.Pointwise
public import Mathlib.Algebra.BigOperators.Fin

@[expose] public section

noncomputable section

namespace Cert.AttnSpec

open Idealize.ShloMosaic

/-- A finite sum times a nonnegative number that is not infinite. -/
theorem sum_mul {ι : Type} (s : Finset ι) (f : ι → EReal) {c : EReal} (h0 : 0 ≤ c) (h1 : c ≠ ⊤) : (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 h1, ih]

/-- The keys or values with eight chunks of zeros before them, at a row and a column. -/
def padded (X : Nat → Nat → EReal) (r l : Nat) : EReal := if 512 ≤ r then X (r - 512) l else 0

/-- One over the root of the head's width. -/
def eighth : EReal := Ideal.ofBits .f32 0x3E000000#32

/-- The score of query `q` of chunk `ch` against key `k` of its band, in head `h`: minus infinity before the sequence. -/
def score (X B : Nat → Nat → EReal) (ch h q k : Nat) : EReal :=
  if 512 ≤ 64 * ch + k then
    (∑ d : Fin 64, X (64 * ch + q) (64 * h + d) * padded X (64 * ch + k) (512 + (64 * h + d))) * eighth + B h (min (640 + q - k) 256)
  else ⊥

/-- The softmax of a band of scores. -/
def soft (s : Fin 576 → EReal) (k : Fin 576) : EReal :=
  Ideal.div (Ideal.exp (s k - Finset.univ.fold max ⊥ s)) (∑ x, Ideal.exp (s x - Finset.univ.fold max ⊥ s))

/-- The result for query `q` of chunk `ch`, head `h`, lane `d`. -/
def out (X B : Nat → Nat → EReal) (ch h q d : Nat) : EReal :=
  ∑ k : Fin 576, soft (fun x => score X B ch h q x) k * padded X (64 * ch + k) (1024 + (64 * h + d))

/-- The projection at a row and a column. -/
def qkv (x : Vec Ideal ⟨2, ![4096, 3072]⟩ .bf16) (r l : Nat) : EReal := if h : r < 4096 ∧ l < 3072 then x (ix2 ⟨r, h.1⟩ ⟨l, h.2⟩) else 0

theorem qkv_eq (x : Vec Ideal ⟨2, ![4096, 3072]⟩ .bf16) (i : Shape.Idx ⟨2, ![4096, 3072]⟩) (r l : Nat) (h0 : (i 0).val = r) (h1 : (i 1).val = l) : x i = qkv x r l := by
  subst h0 h1
  unfold qkv
  rw [dif_pos ⟨(i 0).isLt, (i 1).isLt⟩]
  exact congrArg x (eq_ix2 i)

/-- The bias of a head at a distance. -/
def rel (b : Vec Ideal ⟨2, ![8, 257]⟩ .f32) (h j : Nat) : EReal := if k : h < 8 ∧ j < 257 then b (ix2 ⟨h, k.1⟩ ⟨j, k.2⟩) else 0

theorem rel_eq (b : Vec Ideal ⟨2, ![8, 257]⟩ .f32) (i : Shape.Idx ⟨2, ![8, 257]⟩) (h j : Nat) (h0 : (i 0).val = h) (h1 : (i 1).val = j) : b i = rel b h j := by
  subst h0 h1
  unfold rel
  rw [dif_pos ⟨(i 0).isLt, (i 1).isLt⟩]
  exact congrArg b (eq_ix2 i)

end Cert.AttnSpec

end

end
-- ==== Proof.AttnUnit.lean ====
/- One chunk of queries against its band of keys and values, as the kernel computes it for two heads side by side. -/
module

public import proofs.«01_k».proof.Proof.Gen.Kernel43Ideal.Value
public import proofs.«01_k».proof.Proof.AttnSpec
public import proofs.«01_k».proof.Proof.Base

@[expose] public section

set_option maxRecDepth 16384

noncomputable section

namespace Cert.AttnUnit

open Cert.AttnSpec Cert.Kernel43Ideal Cert.Kernel43Ideal.Gen Idealize.ShloMosaic Idealize.ShloMosaic.TcCoe Idealize.SL.Sem

section
variable {F : FTy → Type} [FloatOps F] [Named F]

/-- The scores of one head: the chunk's rows of the scaled queries, the other head's lanes put to zero, against the keys. -/
def scores (o : Fin 2 → Nat) (ho : S256x128.Slices o S64x128) (mask : IVec S1x128 1) (kb : Vec F S576x128 .bf16) (q : Vec F S256x128 .bf16) : FVec F S64x576 .f32 :=
  matmul dot_S64x128_S576x128_S64x576_1_1_0_0_n_n none
    (select (broadcastTo S64x128 (shapeCast S1x128 mask shapeCasts_S1x128_S1x128) broadcasts_S1x128_S64x128) (extractStridedSlice S64x128 o (k0_pay9 q) ho)
      (broadcast S64x128 (Scalar.ofBits .bf16 0x0000#16 : F .bf16))) kb (constant S64x576 .f32 0x00000000#32)

/-- A chunk's rows of the output: the two heads' weights times the values, each in its lanes. -/
def chunk (n : BitVec 32) (o : Fin 2 → Nat) (ho : S256x128.Slices o S64x128) (q : Vec F S256x128 .bf16) (kb vb : Vec F S576x128 .bf16) (b0 b1 : Vec F S1x64x576 .f32) : FVec F S64x128 .f32 :=
  k0_pay35 k0_pay3 k0_pay4 vb (k0_pay19 n (scores o ho k0_pay3 kb q) b0) (k0_pay19 n (scores o ho k0_pay4 kb q) b1)

theorem chunk_0 (n : BitVec 32) (q : Vec F S256x128 .bf16) (kb vb : Vec F S576x128 .bf16) (b0 b1 : Vec F S1x64x576 .f32) :
    k0_pay35 k0_pay3 k0_pay4 vb (k0_pay19 n (k0_pay10 k0_pay3 kb q) b0) (k0_pay22 (k0_pay20 n) (k0_pay21 (k0_pay11 k0_pay4 kb q) b1)) = chunk n ![0, 0] slices_S256x128_o0_0_S64x128 q kb vb b0 b1 := rfl

end

/-- A sum over the lanes with the second head's lanes at zero. -/
theorem lanes_0 (f : Fin 128 → EReal) :
    ∑ x : Fin 128, Scalar.select (IntOp.cmpi .slt (BitVec.ofNat 32 x.val) 64#32) (f x) 0 = ∑ d : Fin 64, f ⟨d.val, by omega⟩ := by
  have h0 : ∀ x : Fin 64, IntOp.cmpi .slt (BitVec.ofNat 32 (Fin.castAdd 64 x).val) 64#32 = 1#1 := by decide
  have h1 : ∀ x : Fin 64, IntOp.cmpi .slt (BitVec.ofNat 32 (Fin.natAdd 64 x).val) 64#32 = 0#1 := by decide
  refine (Fin.sum_univ_add (a := 64) (b := 64) _).trans ?_
  simp only [h0, h1]
  exact (congrArg (_ + ·) Finset.sum_const_zero).trans (add_zero _)

/-- A sum over the lanes with the first head's lanes at zero. -/
theorem lanes_1 (f : Fin 128 → EReal) :
    ∑ x : Fin 128, Scalar.select (IntOp.cmpi .sge (BitVec.ofNat 32 x.val) 64#32) (f x) 0 = ∑ d : Fin 64, f ⟨64 + d.val, by omega⟩ := by
  have h0 : ∀ x : Fin 64, IntOp.cmpi .sge (BitVec.ofNat 32 (Fin.castAdd 64 x).val) 64#32 = 0#1 := by decide
  have h1 : ∀ x : Fin 64, IntOp.cmpi .sge (BitVec.ofNat 32 (Fin.natAdd 64 x).val) 64#32 = 1#1 := by decide
  refine (Fin.sum_univ_add (a := 64) (b := 64) _).trans ?_
  simp only [h0, h1]
  exact (congrArg (· + _) Finset.sum_const_zero).trans (zero_add _)

theorem eighth_eq : eighth = (((1 : ℝ) / 8 : ℝ) : EReal) := by
  simp [eighth, Ideal.ofBits, Ideal.ieee, -EReal.coe_mul]
  norm_num

theorem scale_eq : Ideal.ofBits .bf16 15872#16 = (((1 : ℝ) / 8 : ℝ) : EReal) := by
  simp [Ideal.ofBits, Ideal.ieee, -EReal.coe_mul]
  norm_num

/-- The scale may be applied to the queries or to the scores. -/
theorem scaled (Q K : Fin 64 → EReal) : ∑ d, Q d * Ideal.ofBits .bf16 15872#16 * K d = (∑ d, Q d * K d) * eighth := by
  rw [scale_eq, eighth_eq, AttnSpec.sum_mul _ _ (by positivity) (EReal.coe_ne_top _)]
  exact Finset.sum_congr rfl fun d _ => mul_right_comm _ _ _

theorem scores_0 (o : Fin 2 → Nat) (ho : S256x128.Slices o S64x128) (kb : Vec Ideal S576x128 .bf16) (q : Vec Ideal S256x128 .bf16) (p : Fin 64) (k : Fin 576) (Q : Fin 128 → EReal)
    (hQ : ∀ (x : Fin 128) (i : S256x128.Idx), (i 0).val = o 0 + p.val → (i 1).val = o 1 + x.val → q i = Q x) :
    scores o ho k0_pay3 kb q (ix2 p k) = (∑ d : Fin 64, Q ⟨d.val, by omega⟩ * kb (ix2 k ⟨d.val, by omega⟩)) * eighth := by
  pointwise [scores, k0_pay9, k0_pay3]
  rw [← scaled]
  refine Eq.trans (Finset.sum_congr rfl fun x _ => ?_) (lanes_0 fun x => Q x * Ideal.ofBits .bf16 15872#16 * kb (ix2 k x))
  rw [hQ x _ rfl rfl]

theorem scores_1 (o : Fin 2 → Nat) (ho : S256x128.Slices o S64x128) (kb : Vec Ideal S576x128 .bf16) (q : Vec Ideal S256x128 .bf16) (p : Fin 64) (k : Fin 576) (Q : Fin 128 → EReal)
    (hQ : ∀ (x : Fin 128) (i : S256x128.Idx), (i 0).val = o 0 + p.val → (i 1).val = o 1 + x.val → q i = Q x) :
    scores o ho k0_pay4 kb q (ix2 p k) = (∑ d : Fin 64, Q ⟨64 + d.val, by omega⟩ * kb (ix2 k ⟨64 + d.val, by omega⟩)) * eighth := by
  pointwise [scores, k0_pay9, k0_pay4]
  rw [← scaled]
  refine Eq.trans (Finset.sum_congr rfl fun x _ => ?_) (lanes_1 fun x => Q x * Ideal.ofBits .bf16 15872#16 * kb (ix2 k x))
  rw [hQ x _ rfl rfl]

theorem cmp_eq (ch : Nat) (hc : ch < 64) (k : Fin 576) :
    IntOp.cmpi .sge (BitVec.ofNat 32 k.val) (Scalar.muli (Scalar.subi 8#32 (BitVec.ofNat 32 ch)) 64#32) = if 512 ≤ 64 * ch + k.val then 1#1 else 0#1 := by
  have hm : (Scalar.muli (Scalar.subi 8#32 (BitVec.ofNat 32 ch)) 64#32).toInt = 512 - 64 * (ch : Int) :=
    (by decide : ∀ ch : Fin 64, (Scalar.muli (Scalar.subi 8#32 (BitVec.ofNat 32 ch.val)) 64#32).toInt = 512 - 64 * (ch.val : Int)) ⟨ch, hc⟩
  have hk' : (BitVec.ofNat 32 k.val).toInt = k.val :=
    (by decide +kernel : ∀ k : Fin 576, (BitVec.ofNat 32 k.val).toInt = k.val) k
  show BitVec.ofBool (BitVec.sle _ _) = _
  rw [BitVec.sle, hm, hk']
  split
  · rw [decide_eq_true (by omega)]; rfl
  · rw [decide_eq_false (by omega)]; rfl

theorem weights_apply (ch : Nat) (hc : ch < 64) (s : FVec Ideal S64x576 .f32) (b : Vec Ideal S1x64x576 .f32) (p : Fin 64) (k : Fin 576)
    (S : Fin 576 → EReal) (hS : ∀ k : Fin 576, (if 512 ≤ 64 * ch + k.val then s (ix2 p k) + b (ix3 0 p k) else ⊥) = S k) :
    k0_pay19 (BitVec.ofNat 32 ch) s b (ix2 p k) = soft S k := by
  have hm : Named.named (F := Ideal) Cert.Kernel43Ideal.κ "mask" (φ := .f32) 4048155338#32 = ⊥ := IdealRules.named_const.ideal_named_scalar _ _ _ _ rfl
  have hb : Ideal.ofBits .f32 4286578688#32 = ⊥ := by simp [Ideal.ofBits, Ideal.ieee]
  have hs : ∀ k : Fin 576, Scalar.select (IntOp.cmpi .sge (BitVec.ofNat 32 k.val) (Scalar.muli (Scalar.subi 8#32 (BitVec.ofNat 32 ch)) 64#32)) (s (ix2 p k) + b (ix3 0 p k)) ⊥ = S k := by
    intro k
    rw [cmp_eq ch hc, ← hS k]
    split <;> rfl
  pointwise [k0_pay19]
  simp only [hm, hb, hs]
  rfl

theorem values_apply (vb : Vec Ideal S576x128 .bf16) (w0 w1 : FVec Ideal S64x576 .bf16) (p : Fin 64) (l : Fin 128) :
    k0_pay35 k0_pay3 k0_pay4 vb w0 w1 (ix2 p l) = if l.val < 64 then ∑ x, w0 (ix2 p x) * vb (ix2 x l) else ∑ x, w1 (ix2 p x) * vb (ix2 x l) := by
  pointwise [k0_pay35, k0_pay3, k0_pay4]
  have h0 : IntOp.cmpi .slt (BitVec.ofNat 32 l.val) 64#32 = if l.val < 64 then 1#1 else 0#1 :=
    (by decide : ∀ l : Fin 128, IntOp.cmpi .slt (BitVec.ofNat 32 l.val) 64#32 = if l.val < 64 then 1#1 else 0#1) l
  have h1 : IntOp.cmpi .sge (BitVec.ofNat 32 l.val) 64#32 = if l.val < 64 then 0#1 else 1#1 :=
    (by decide : ∀ l : Fin 128, IntOp.cmpi .sge (BitVec.ofNat 32 l.val) 64#32 = if l.val < 64 then 0#1 else 1#1) l
  rw [h0, h1]
  split
  · exact (congrArg (_ + ·) Finset.sum_const_zero).trans (add_zero _)
  · exact (congrArg (· + _) Finset.sum_const_zero).trans (zero_add _)

/-- A chunk's rows of the output, given what the loads hold. -/
theorem chunk_apply (X B : Nat → Nat → EReal) (ch pr : Nat) (hc : ch < 64) (o : Fin 2 → Nat) (ho : S256x128.Slices o S64x128)
    (q : Vec Ideal S256x128 .bf16) (kb vb : Vec Ideal S576x128 .bf16) (b0 b1 : Vec Ideal S1x64x576 .f32) (p : Fin 64) (l : Fin 128)
    (hq : ∀ (x : Fin 128) (i : S256x128.Idx), (i 0).val = o 0 + p.val → (i 1).val = o 1 + x.val → q i = X (64 * ch + p.val) (128 * pr + x.val))
    (hk : ∀ (k : Fin 576) (x : Fin 128), kb (ix2 k x) = padded X (64 * ch + k.val) (512 + (128 * pr + x.val)))
    (hv : ∀ (k : Fin 576) (x : Fin 128), vb (ix2 k x) = padded X (64 * ch + k.val) (1024 + (128 * pr + x.val)))
    (hb0 : ∀ k : Fin 576, b0 (ix3 0 p k) = B (2 * pr) (min (640 + p.val - k.val) 256))
    (hb1 : ∀ k : Fin 576, b1 (ix3 0 p k) = B (2 * pr + 1) (min (640 + p.val - k.val) 256)) :
    chunk (BitVec.ofNat 32 ch) o ho q kb vb b0 b1 (ix2 p l) = out X B ch (2 * pr + l.val / 64) p.val (l.val % 64) := by
  have e1 : ∀ d, 64 * (2 * pr + 1) + d = 128 * pr + (64 + d) := fun d => by omega
  have e0 : ∀ d, 64 * (2 * pr) + d = 128 * pr + d := fun d => by omega
  unfold chunk
  rw [values_apply, out]
  split
  · rename_i hl
    rw [show l.val / 64 = 0 by omega, show l.val % 64 = l.val by omega]
    refine Finset.sum_congr rfl fun k _ => ?_
    rw [hv, add_zero, e0]
    refine congrArg (· * _) (weights_apply ch hc _ _ p k _ fun k => ?_)
    rw [scores_0 o ho kb q p k _ hq, hb0, score]
    simp only [hk, e0]
  · rename_i hl
    rw [show l.val / 64 = 1 by omega]
    refine Finset.sum_congr rfl fun k _ => ?_
    rw [hv, e1, show 64 + l.val % 64 = l.val by omega]
    refine congrArg (· * _) (weights_apply ch hc _ _ p k _ fun k => ?_)
    rw [scores_1 o ho kb q p k _ hq, hb1, score]
    simp only [hk, e1]

end Cert.AttnUnit

end

end
-- ==== Proof.AttnKer.lean ====
/- The attention kernel's body at one grid point: four chunks of queries of two heads; the padded keys and values wait in the scratch. -/
module

public import proofs.«01_k».proof.Proof.AttnUnit
public import Idealize.ShloMosaic.Lib.Pipeline.ValueKit

@[expose] public section

set_option maxRecDepth 16384

noncomputable section

namespace Cert.AttnKer

open Cert.AttnSpec Cert.AttnUnit Cert.Kernel43Ideal Cert.Kernel43Ideal.Gen Idealize.ShloMosaic Idealize.ShloMosaic.TcCoe Idealize.SL.Sem

section
variable {F : FTy → Type} [FloatOps F] [Named F]

/-- The number of the point's chunk `r`. -/
abbrev num (i : grid0.Coords) (r : BitVec 32) : BitVec 32 := Scalar.addi (Scalar.muli (BitVec.ofNat 32 (i 1).val) 4#32) r

/-- The point's four stores, last first. -/
def pieces (i : grid0.Coords) (q : Vec F S256x128 .bf16) (kb vb : Fin 4 → Vec F S576x128 .bf16) (b0 b1 : Vec F S1x64x576 .f32) : List (View.Piece (Elt F) S256x128 .f32) :=
  [⟨Rect.unit ![192, 0] ![64, 128] inb_S256x128_S64x128_192_0, chunk (num i 3#32) ![192, 0] slices_S256x128_o192_0_S64x128 q (kb 3) (vb 3) b0 b1⟩,
   ⟨Rect.unit ![128, 0] ![64, 128] inb_S256x128_S64x128_128_0, chunk (num i 2#32) ![128, 0] slices_S256x128_o128_0_S64x128 q (kb 2) (vb 2) b0 b1⟩,
   ⟨Rect.unit ![64, 0] ![64, 128] inb_S256x128_S64x128_64_0, chunk (num i 1#32) ![64, 0] slices_S256x128_o64_0_S64x128 q (kb 1) (vb 1) b0 b1⟩,
   ⟨Rect.unit ![0, 0] ![64, 128] inb_S256x128_S64x128_0_0, chunk (num i 0#32) ![0, 0] slices_S256x128_o0_0_S64x128 q (kb 0) (vb 0) b0 b1⟩]

/-- A band of a scratch. -/
abbrev bandRect (i : grid0.Coords) (r : Fin 4) : Rect S4608x128 := Rect.unit (k0_off1 i (BitVec.ofNat 32 r)) S576x128.size (k0_off1_inb i r)

/-- A head's bias. -/
abbrev headRect (h : Nat) (hb : ∀ a, (![h, 0, 0] : Fin 3 → Nat) a + S1x64x576.size a ≤ S2x64x576.size a) : Rect S2x64x576 := Rect.unit ![h, 0, 0] S1x64x576.size hb

variable (c : Dev nD) (i : grid0.Coords) (arg2 : Memref sig .tc .vmem S256x128 .bf16) (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S2x64x576 .f32) (harg5 : arg5.IsWhole) (arg6 : Memref sig .tc .vmem S256x128 .f32) (harg6 : arg6.IsWhole)
  (arg7 : Memref sig .tc .vmem S4608x128 .bf16) (harg7 : arg7.IsWhole) (arg8 : Memref sig .tc .vmem S4608x128 .bf16) (harg8 : arg8.IsWhole)
  (x0 : Vec F S256x128 .bf16) (x1 x2 : Vec F S4096x128 .bf16) (x3 : Vec F S2x64x576 .f32)

/-- What the first point of a pair of heads leaves in a scratch: zeros, then the window. -/
def filled (x : Vec F S4096x128 .bf16) : Vec F S4608x128 .bf16 :=
  View.canon [⟨Rect.unit ![512, 0] S4096x128.size inb_S4608x128_S4096x128_512_0, shapeCast S4096x128 x shapeCasts_S4096x128_S4096x128⟩,
    ⟨Rect.unit ![0, 0] S512x128.size inb_S4608x128_S512x128_0_0, broadcast S512x128 (Scalar.ofBits .bf16 0x0000#16 : F .bf16)⟩]

theorem pieces_B (hc : ¬cond0_0 i) (xs0 xs1 : Vec F S4608x128 .bf16) :
    (kernelRun0_B c i arg2 harg2 arg3 harg3 arg4 harg4 arg5 harg5 arg6 harg6 arg7 harg7 arg8 harg8 hc x0 x1 x2 x3 xs0 xs1).1
      = pieces i x0 (fun r => View.ld xs0 (bandRect i r)) (fun r => View.ld xs1 (bandRect i r)) (View.ld x3 (headRect 0 inb_S2x64x576_S1x64x576_0_0_0)) (View.ld x3 (headRect 1 inb_S2x64x576_S1x64x576_1_0_0)) := by
  have h0 : arg2.view.readAt (Elt F) (Rect.unit ![0, 0] S256x128.size inb_S256x128_S256x128_0_0).toLoadRect (harg2.unread x0) = x0 := by
    rw [View.readAt_eq_ld, harg2.read_unread]; exact View.ld_unit_zero (by decide) _ _
  have h1 : ∀ r, arg7.view.readAt (Elt F) (bandRect i r).toLoadRect (harg7.unread xs0) = View.ld xs0 (bandRect i r) := fun r => by
    rw [View.readAt_eq_ld, harg7.read_unread]
  have h2 : ∀ r, arg8.view.readAt (Elt F) (bandRect i r).toLoadRect (harg8.unread xs1) = View.ld xs1 (bandRect i r) := fun r => by
    rw [View.readAt_eq_ld, harg8.read_unread]
  have h3 : ∀ h hb, arg5.view.readAt (Elt F) (headRect h hb).toLoadRect (harg5.unread x3) = View.ld x3 (headRect h hb) := fun h hb => by
    rw [View.readAt_eq_ld, harg5.read_unread]
  simp only [← h1, ← h2, ← h3]
  refine Eq.trans ?_ (congrArg (fun z => pieces i z _ _ _ _) h0)
  rfl

theorem filled_A0 (hc : cond0_0 i) : View.canon (kernelRun0_A c i arg2 harg2 arg3 harg3 arg4 harg4 arg5 harg5 arg6 harg6 arg7 harg7 arg8 harg8 hc x0 x1 x2 x3).2.1 = filled x1 := by
  have h : arg3.view.readAt (Elt F) (Rect.unit ![0, 0] S4096x128.size inb_S4096x128_S4096x128_0_0).toLoadRect (harg3.unread x1) = x1 := by
    rw [View.readAt_eq_ld, harg3.read_unread]; exact View.ld_unit_zero (by decide) _ _
  exact Eq.trans rfl (congrArg filled h)

theorem filled_A1 (hc : cond0_0 i) : View.canon (kernelRun0_A c i arg2 harg2 arg3 harg3 arg4 harg4 arg5 harg5 arg6 harg6 arg7 harg7 arg8 harg8 hc x0 x1 x2 x3).2.2.1 = filled x2 := by
  have h : arg4.view.readAt (Elt F) (Rect.unit ![0, 0] S4096x128.size inb_S4096x128_S4096x128_0_0).toLoadRect (harg4.unread x2) = x2 := by
    rw [View.readAt_eq_ld, harg4.read_unread]; exact View.ld_unit_zero (by decide) _ _
  exact Eq.trans rfl (congrArg filled h)

theorem pieces_A (hc : cond0_0 i) :
    (kernelRun0_A c i arg2 harg2 arg3 harg3 arg4 harg4 arg5 harg5 arg6 harg6 arg7 harg7 arg8 harg8 hc x0 x1 x2 x3).1
      = pieces i x0 (fun r => View.ld (filled x1) (bandRect i r)) (fun r => View.ld (filled x2) (bandRect i r)) (View.ld x3 (headRect 0 inb_S2x64x576_S1x64x576_0_0_0)) (View.ld x3 (headRect 1 inb_S2x64x576_S1x64x576_1_0_0)) := by
  have h0 : arg2.view.readAt (Elt F) (Rect.unit ![0, 0] S256x128.size inb_S256x128_S256x128_0_0).toLoadRect (harg2.unread x0) = x0 := by
    rw [View.readAt_eq_ld, harg2.read_unread]; exact View.ld_unit_zero (by decide) _ _
  have h1 : ∀ r, arg7.view.readAt (Elt F) (bandRect i r).toLoadRect (arg7.view.writes (Elt F) arg7.view.junk (kernelRun0_A c i arg2 harg2 arg3 harg3 arg4 harg4 arg5 harg5 arg6 harg6 arg7 harg7 arg8 harg8 hc x0 x1 x2 x3).2.1) = View.ld (filled x1) (bandRect i r) := fun r => by
    rw [View.readAt_writes_junk_eq_canon, filled_A0]
  have h2 : ∀ r, arg8.view.readAt (Elt F) (bandRect i r).toLoadRect (arg8.view.writes (Elt F) arg8.view.junk (kernelRun0_A c i arg2 harg2 arg3 harg3 arg4 harg4 arg5 harg5 arg6 harg6 arg7 harg7 arg8 harg8 hc x0 x1 x2 x3).2.2.1) = View.ld (filled x2) (bandRect i r) := fun r => by
    rw [View.readAt_writes_junk_eq_canon, filled_A1]
  have h3 : ∀ h hb, arg5.view.readAt (Elt F) (headRect h hb).toLoadRect (harg5.unread x3) = View.ld x3 (headRect h hb) := fun h hb => by
    rw [View.readAt_eq_ld, harg5.read_unread]
  simp only [← h1, ← h2, ← h3]
  refine Eq.trans ?_ (congrArg (fun z => pieces i z _ _ _ _) h0)
  rfl

end

end Cert.AttnKer

end

end
-- ==== Proof.AttnBand.lean ====
module

public import proofs.«01_k».proof.Proof.AttnSpec
public import proofs.«01_k».proof.Proof.Gen.Kernel43Ideal.Value
public import Idealize.ShloMosaic.Lib.StableHlo.RunRead
public import proofs.«01_k».proof.Proof.Base

@[expose] public section

set_option maxRecDepth 16384

noncomputable section

namespace Cert.AttnBand

open Cert.Kernel43Ideal Cert.Kernel43Ideal.Gen Idealize.ShloMosaic Idealize.ShloMosaic.TcCoe Idealize.SL.Sem

/-- The biases of one head by distance, the far ones repeated. -/
def line (b : Vec Ideal S8x257 .f32) : Vec Ideal S8x639 .f32 :=
  concatenate S8x639 1 [⟨S8x448, broadcastInDim S8x448 ![0, 1] bcast_S8x1_S8x448_0_1 (extractStridedSlice S8x1 ![0, 256] b slices_S8x257_S8x1_0_256)⟩,
    ⟨S8x191, Host.reverse [1] (extractStridedSlice S8x191 ![0, 65] b slices_S8x257_S8x191_0_65)⟩] concatenates_S8x448_S8x191_S8x639_d1

theorem line_apply (b : Vec Ideal S8x257 .f32) (h : Fin 8) (j : Fin 639) : line b (ix2 h j) = b (ix2 h ⟨min (703 - j.val) 256, by omega⟩) := by
  have hj := j.isLt
  pointwise [line]
  split
  · exact congrArg b (congrArg (ix2 h) (Fin.ext (by show 256 = min (703 - j.val) 256; omega)))
  · refine congrArg b (congrArg (ix2 h) (Fin.ext ?_))
    simp [Fin.val_rev]
    omega

theorem slices (q : Fin 64) : S8x639.Slices ![0, 63 - q.val] S8x576 := by
  have hq := q.isLt
  refine ⟨rfl, fun a => ?_⟩
  match a with
  | ⟨0, _⟩ => exact Nat.le_refl _
  | ⟨1, _⟩ => show 63 - q.val + 576 ≤ 639; omega

def piece (b : Vec Ideal S8x257 .f32) (q : Fin 64) : Vec Ideal S8x1x576 .f32 :=
  broadcastInDim S8x1x576 ![0, 2] bcast_S8x576_S8x1x576_0_2 (extractStridedSlice S8x576 ![0, 63 - q.val] (line b) (slices q))

theorem piece_apply (b : Vec Ideal S8x257 .f32) (q : Fin 64) (h : Fin 8) (k : Fin 576) : piece b q (ix3 h 0 k) = b (ix2 h ⟨min (640 + q.val - k.val) 256, by omega⟩) := by
  pointwise [piece]
  rw [line_apply]
  exact congrArg b (congrArg (ix2 h) (Fin.ext (by show min (703 - (63 - q.val + k.val)) 256 = min (640 + q.val - k.val) 256; omega)))

/-- The rows of sixteen queries, stacked. -/
def rows (b : Vec Ideal S8x257 .f32) (u : Fin 4) : Vec Ideal S8x16x576 .f32 :=
  concatenate S8x16x576 1 (List.ofFn fun n : Fin 16 => ⟨S8x1x576, piece b ⟨16 * u.val + n.val, by omega⟩⟩)
    concatenates_S8x1x576_S8x1x576_S8x1x576_S8x1x576_S8x1x576_S8x1x576_S8x1x576_S8x1x576_S8x1x576_S8x1x576_S8x1x576_S8x1x576_S8x1x576_S8x1x576_S8x1x576_S8x1x576_S8x16x576_d1

theorem rows_apply (b : Vec Ideal S8x257 .f32) (u : Fin 4) (h : Fin 8) (n : Fin 16) (k : Fin 576) :
    rows b u (ix3 h n k) = b (ix2 h ⟨min (640 + (16 * u.val + n.val) - k.val) 256, by omega⟩) := by
  unfold rows
  refine Eq.trans (concatenate_ofFn_unit_apply (t := S8x16x576) (1 : Fin 3) (fun n : Fin 16 => piece b ⟨16 * u.val + n.val, by omega⟩) _ rfl rfl (ix3 h n k) n rfl (ix3 h (0 : Fin 1) k) fun a ha => ?_) (piece_apply b _ h k)
  match a with
  | ⟨0, _⟩ => rfl
  | ⟨1, _⟩ => exact absurd rfl ha
  | ⟨2, _⟩ => rfl

theorem list16 (f : Fin 16 → (s : Shape) × (s.Idx → Ideal .f32)) : List.ofFn f = [f 0, f 1, f 2, f 3, f 4, f 5, f 6, f 7, f 8, f 9, f 10, f 11, f 12, f 13, f 14, f 15] := rfl

theorem list4 (f : Fin 4 → (s : Shape) × (s.Idx → Ideal .f32)) : List.ofFn f = [f 0, f 1, f 2, f 3] := rfl

theorem piece_eq (b : Vec Ideal S8x257 .f32) (q : Fin 64) (o : Nat) (ho : S8x639.Slices ![0, o] S8x576) (h : 63 - q.val = o) :
    broadcastInDim S8x1x576 ![0, 2] bcast_S8x576_S8x1x576_0_2 (extractStridedSlice S8x576 ![0, o] (line b) ho) = piece b q := by
  subst h; rfl

/-- What an operation of sixteen operands leaves, each operand read at its own reference. -/
theorem nary16 {x0 x1 x2 x3 x4 x5 x6 x7 x8 x9 x10 x11 x12 x13 x14 x15 y : Ref sig .tc}
    (f : ((k : Fin 16) → ((![x0, x1, x2, x3, x4, x5, x6, x7, x8, x9, x10, x11, x12, x13, x14, x15] : Fin 16 → Ref sig .tc) k).ty.Contents (Elt Ideal)) → y.ty.Contents (Elt Ideal)) (hxs hy) (V : Valuation τ sig (Elt Ideal)) :
    (StableHlo.nary (τ := τ) ![x0, x1, x2, x3, x4, x5, x6, x7, x8, x9, x10, x11, x12, x13, x14, x15] y f hxs hy).result V (no_index (Proc.devRef .tc y))
      = f (Fin.cons (V (Proc.devRef .tc x0)) (Fin.cons (V (Proc.devRef .tc x1)) (Fin.cons (V (Proc.devRef .tc x2)) (Fin.cons (V (Proc.devRef .tc x3)) (Fin.cons (V (Proc.devRef .tc x4)) (Fin.cons (V (Proc.devRef .tc x5)) (Fin.cons (V (Proc.devRef .tc x6)) (Fin.cons (V (Proc.devRef .tc x7)) (Fin.cons (V (Proc.devRef .tc x8)) (Fin.cons (V (Proc.devRef .tc x9)) (Fin.cons (V (Proc.devRef .tc x10)) (Fin.cons (V (Proc.devRef .tc x11)) (Fin.cons (V (Proc.devRef .tc x12)) (Fin.cons (V (Proc.devRef .tc x13)) (Fin.cons (V (Proc.devRef .tc x14)) (Fin.cons (V (Proc.devRef .tc x15)) (fun i => i.elim0))))))))))))))))) := by
  rw [StableHlo.nary_result]; congr 1; funext k; fin_cases k <;> rfl

set_option maxHeartbeats 4000000 in
/-- The four stacks of sixteen queries the host builds. -/
theorem rows_eq (m : (ℓ : Loc nD τ sig) → Buf (Elt Ideal) ℓ) (c : Dev nD) :
    V m c main_v133 = rows (m ((c : Thread nD τ).loc main_arg1)) 0 ∧ V m c main_v134 = rows (m ((c : Thread nD τ).loc main_arg1)) 1
      ∧ V m c main_v135 = rows (m ((c : Thread nD τ).loc main_arg1)) 2 ∧ V m c main_v136 = rows (m ((c : Thread nD τ).loc main_arg1)) 3 := by
  refine ⟨?_, ?_, ?_, ?_⟩
  all_goals
    simp only [StableHlo.readAfter]
    rw [nary16]
    refine StableHlo.concatenate_congr _ _ ?_ _ _
    rw [list16]
    iterate 16 refine congrArg₂ List.cons (congrArg (Sigma.mk _) ?_) ?_; rotate_left
    · rfl
    all_goals
      show StableHlo.upto _ _ _ _ = _
      simp only [StableHlo.readUpto, StableHlo.unary_result', StableHlo.binary_result']
      exact piece_eq _ _ _ _ rfl

/-- The band of biases the host builds: by head, query and key. -/
theorem band (m : (ℓ : Loc nD τ sig) → Buf (Elt Ideal) ℓ) (c : Dev nD) (h : Fin 8) (q : Fin 64) (k : Fin 576) :
    (V m c main_v137 : Vec Ideal S8x64x576 .f32) (ix3 h q k) = (m ((c : Thread nD τ).loc main_arg1) : Vec Ideal S8x257 .f32) (ix2 h ⟨min (640 + q.val - k.val) 256, by omega⟩) := by
  have hq := q.isLt
  obtain ⟨e0, e1, e2, e3⟩ := rows_eq m c
  have e : V m c main_v137 = concatenate S8x64x576 1 (List.ofFn fun u : Fin 4 => ⟨S8x16x576, rows (m ((c : Thread nD τ).loc main_arg1)) u⟩) concatenates_S8x16x576_S8x16x576_S8x16x576_S8x16x576_S8x64x576_d1 := by
    refine Eq.trans (b := concatenate S8x64x576 1 [⟨S8x16x576, V m c main_v133⟩, ⟨S8x16x576, V m c main_v134⟩, ⟨S8x16x576, V m c main_v135⟩, ⟨S8x16x576, V m c main_v136⟩] concatenates_S8x16x576_S8x16x576_S8x16x576_S8x16x576_S8x64x576_d1) ?_
      (StableHlo.concatenate_congr _ _ (by rw [e0, e1, e2, e3, list4]) _ _)
    simp only [StableHlo.readAfter, StableHlo.readUpto, StableHlo.nary4_result']
    rfl
  rw [e]
  refine Eq.trans (concatenate_ofFn_apply (t := S8x64x576) (1 : Fin 3) (fun u : Fin 4 => rows (m ((c : Thread nD τ).loc main_arg1)) u) _ rfl 16 rfl (ix3 h q k) (⟨q.val / 16, by omega⟩ : Fin 4) rfl
    (ix3 h (⟨q.val % 16, by omega⟩ : Fin 16) k) rfl fun a ha => ?_) ((rows_apply _ _ h _ k).trans ?_)
  · match a with
    | ⟨0, _⟩ => rfl
    | ⟨1, _⟩ => exact absurd rfl ha
    | ⟨2, _⟩ => rfl
  · exact congrArg (m ((c : Thread nD τ).loc main_arg1) : Vec Ideal S8x257 .f32) (congrArg (ix2 h) (Fin.ext (by show min (640 + (16 * (q.val / 16) + q.val % 16) - k.val) 256 = _; rw [Nat.div_add_mod])))

end Cert.AttnBand

end

end
-- ==== Proof.AttnOut.lean ====
/- The attention kernel's result at an element. -/
module

public import proofs.«01_k».proof.Proof.AttnKer
public import proofs.«01_k».proof.Proof.AttnBand

@[expose] public section

set_option maxRecDepth 16384

noncomputable section

namespace Cert.AttnOut

open Cert.AttnSpec Cert.AttnUnit Cert.AttnKer Cert.Kernel43Ideal Cert.Kernel43Ideal.Gen Cert.Kernel43Ideal.Value Idealize.ShloMosaic Idealize.ShloMosaic.TcCoe Idealize.SL.Sem

/-- The padded scratch at an element. -/
theorem filled_apply (x : Vec Ideal S4096x128 .bf16) (r : Fin 4608) (l : Fin 128) :
    filled x (ix2 r l) = if h : 512 ≤ r.val then x (ix2 ⟨r.val - 512, by omega⟩ l) else 0 := by
  unfold filled
  refine (View.canon_apply_of_pieces (fun y : S4608x128.Idx => if h : 512 ≤ (y 0).val then x (ix2 ⟨(y 0).val - 512, by have := (y 0).isLt; show _ < 4096; change _ < 4608 at this; omega⟩ (y 1)) else (0 : EReal)) _ ?_ (ix2 r l) ?_).trans rfl
  · intro p hp z
    rcases List.mem_cons.mp hp with rfl | hp
    · have e0 : ((Rect.unit ![512, 0] S4096x128.size inb_S4608x128_S4096x128_512_0 : Rect S4608x128).emb z 0).val = 512 + (z 0).val := Rect.idx_unit_val ..
      have e1 : ((Rect.unit ![512, 0] S4096x128.size inb_S4608x128_S4096x128_512_0 : Rect S4608x128).emb z 1) = z 1 := Fin.ext ((Rect.idx_unit_val ..).trans (Nat.zero_add _))
      dsimp only
      rw [dif_pos (by rw [e0]; omega), shapeCast_self]
      refine congrArg x ((eq_ix2 z).trans ?_)
      congr 1
      · exact Fin.ext (by show (z 0).val = _ - 512; rw [e0]; omega)
      · exact e1.symm
    · rcases List.mem_singleton.mp hp with rfl
      have e0 : ((Rect.unit ![0, 0] S512x128.size inb_S4608x128_S512x128_0_0 : Rect S4608x128).emb z 0).val = 0 + (z 0).val := Rect.idx_unit_val ..
      have hz : (z 0).val < 512 := (z 0).isLt
      dsimp only
      rw [dif_neg (by rw [e0]; omega)]
      pointwise
  · by_cases h : 512 ≤ r.val
    · refine ⟨_, List.mem_cons_self .., (Rect.mem_set_unit (inb := inb_S4608x128_S4096x128_512_0)).mpr fun a => ?_⟩
      match a with
      | ⟨0, _⟩ => show 512 ≤ r.val ∧ r.val < 512 + 4096; omega
      | ⟨1, _⟩ => show 0 ≤ l.val ∧ l.val < 0 + 128; omega
    · refine ⟨_, List.mem_cons_of_mem _ (List.mem_cons_self ..), (Rect.mem_set_unit (inb := inb_S4608x128_S512x128_0_0)).mpr fun a => ?_⟩
      match a with
      | ⟨0, _⟩ => show 0 ≤ r.val ∧ r.val < 0 + 512; omega
      | ⟨1, _⟩ => show 0 ≤ l.val ∧ l.val < 0 + 128; omega

theorem num_eq (i : grid0.Coords) (r : Nat) (hr : r < 4) : num i (BitVec.ofNat 32 r) = BitVec.ofNat 32 (4 * (i 1).val + r) := by
  have h1 : (i 1).val < 16 := (i 1).isLt
  apply BitVec.eq_of_toNat_eq
  simp [num, Scalar.addi, Scalar.muli, IntOp.addi, IntOp.muli]
  omega

/-- The result at row `y 0` and lane `y 1` of a point's block. -/
def block (X B : Nat → Nat → EReal) (n pr : Nat) (y : S256x128.Idx) : EReal :=
  out X B (4 * n + (y 0).val / 64) (2 * pr + (y 1).val / 64) ((y 0).val % 64) ((y 1).val % 64)

section
variable (X B : Nat → Nat → EReal) (i : grid0.Coords) (pr : Nat) (q : Vec Ideal S256x128 .bf16) (kb vb : Fin 4 → Vec Ideal S576x128 .bf16) (b0 b1 : Vec Ideal S1x64x576 .f32)
  (hq : ∀ (y : S256x128.Idx), q y = X (256 * (i 1).val + (y 0).val) (128 * pr + (y 1).val))
  (hk : ∀ (r : Fin 4) (k : Fin 576) (x : Fin 128), kb r (ix2 k x) = padded X (256 * (i 1).val + 64 * r.val + k.val) (512 + (128 * pr + x.val)))
  (hv : ∀ (r : Fin 4) (k : Fin 576) (x : Fin 128), vb r (ix2 k x) = padded X (256 * (i 1).val + 64 * r.val + k.val) (1024 + (128 * pr + x.val)))
  (hb0 : ∀ (p : Fin 64) (k : Fin 576), b0 (ix3 0 p k) = B (2 * pr) (min (640 + p.val - k.val) 256))
  (hb1 : ∀ (p : Fin 64) (k : Fin 576), b1 (ix3 0 p k) = B (2 * pr + 1) (min (640 + p.val - k.val) 256))

include hq hk hv hb0 hb1 in
/-- One store of a point is its part of the result. -/
theorem piece_apply (r : Fin 4) (inb) (ho) (z : S64x128.Idx) :
    chunk (num i (BitVec.ofNat 32 r.val)) ![64 * r.val, 0] ho q (kb r) (vb r) b0 b1 z = block X B (i 1).val pr ((Rect.unit ![64 * r.val, 0] ![64, 128] inb : Rect S256x128).emb z) := by
  have h1 : (i 1).val < 16 := (i 1).isLt
  have hr := r.isLt
  have hz : (z 0).val < 64 := (z 0).isLt
  have e0 : ((Rect.unit ![64 * r.val, 0] ![64, 128] inb : Rect S256x128).emb z 0).val = 64 * r.val + (z 0).val := Rect.idx_unit_val ..
  have e1 : ((Rect.unit ![64 * r.val, 0] ![64, 128] inb : Rect S256x128).emb z 1).val = 0 + (z 1).val := Rect.idx_unit_val ..
  rw [num_eq i r.val hr, eq_ix2 z]
  refine (chunk_apply X B (4 * (i 1).val + r.val) pr (by omega) _ ho q (kb r) (vb r) b0 b1 (z 0) (z 1) ?_ ?_ ?_ (hb0 _) (hb1 _)).trans ?_
  · intro x y hy0 hy1
    rw [hq, show (y 0).val = 64 * r.val + (z 0).val from hy0, show (y 1).val = 0 + x.val from hy1]
    congr 1 <;> omega
  · intro k x
    rw [hk]; congr 1; omega
  · intro k x
    rw [hv]; congr 1; omega
  · unfold block
    rw [← eq_ix2 z, e0, e1]
    congr 1 <;> omega

include hq hk hv hb0 hb1 in
/-- What a point writes, at an element. -/
theorem pieces_apply (y : S256x128.Idx) (cover : ∃ p ∈ pieces i q kb vb b0 b1, y ∈ p.1.set) : View.canon (pieces i q kb vb b0 b1) y = block X B (i 1).val pr y := by
  refine View.canon_apply_of_pieces (fun y => block X B (i 1).val pr y) _ ?_ y cover
  intro p hp
  have key := piece_apply X B i pr q kb vb b0 b1 hq hk hv hb0 hb1
  unfold pieces at hp
  rcases List.mem_cons.mp hp with rfl | hp
  · exact key 3 inb_S256x128_S64x128_192_0 slices_S256x128_o192_0_S64x128
  rcases List.mem_cons.mp hp with rfl | hp
  · exact key 2 inb_S256x128_S64x128_128_0 slices_S256x128_o128_0_S64x128
  rcases List.mem_cons.mp hp with rfl | hp
  · exact key 1 inb_S256x128_S64x128_64_0 slices_S256x128_o64_0_S64x128
  rcases List.mem_singleton.mp hp with rfl
  exact key 0 inb_S256x128_S64x128_0_0 slices_S256x128_o0_0_S64x128

end

section
variable (X B : Nat → Nat → EReal) (i : grid0.Coords)

/-- A band of a padded scratch at an element. -/
theorem ld_band (S : Vec Ideal S4608x128 .bf16) (f : Nat → Nat) (hs : ∀ (r : Fin 4608) (l : Fin 128), S (ix2 r l) = padded X r.val (f l.val)) (r : Fin 4) (k : Fin 576) (x : Fin 128) :
    View.ld S (bandRect i r) (ix2 k x) = padded X (256 * (i 1).val + 64 * r.val + k.val) (f x.val) := by
  have h1 : (i 1).val < 16 := (i 1).isLt
  have e := k0_off1_eq i r
  refine (View.ld_unit_apply_of S _ _ _ (ix2 k x) (ix2 (⟨256 * (i 1).val + 64 * r.val + k.val, by omega⟩ : Fin 4608) x) fun a => ?_).trans (hs _ _)
  refine Eq.trans ?_ (congrArg (· + (ix2 k x a).val) (congrFun e a).symm)
  match a with
  | ⟨0, _⟩ => rfl
  | ⟨1, _⟩ => exact (Nat.zero_add _).symm

/-- A head's bias at an element. -/
theorem ld_head (x3 : Vec Ideal S2x64x576 .f32) (h : Fin 2) (hb) (p : Fin 64) (k : Fin 576) : View.ld x3 (headRect h.val hb) (ix3 0 p k) = x3 (ix3 h p k) := by
  refine View.ld_unit_apply_of x3 _ _ _ (ix3 0 p k) _ fun a => ?_
  match a with
  | ⟨0, _⟩ => rfl
  | ⟨1, _⟩ => exact (Nat.zero_add _).symm
  | ⟨2, _⟩ => exact (Nat.zero_add _).symm

variable (pr : Nat) (c : Dev nD) (arg2 : Memref sig .tc .vmem S256x128 .bf16) (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S2x64x576 .f32) (harg5 : arg5.IsWhole) (arg6 : Memref sig .tc .vmem S256x128 .f32) (harg6 : arg6.IsWhole)
  (arg7 : Memref sig .tc .vmem S4608x128 .bf16) (harg7 : arg7.IsWhole) (arg8 : Memref sig .tc .vmem S4608x128 .bf16) (harg8 : arg8.IsWhole)
  (x0 : Vec Ideal S256x128 .bf16) (x1 x2 : Vec Ideal S4096x128 .bf16) (x3 : Vec Ideal S2x64x576 .f32)
  (hq : ∀ (y : S256x128.Idx), x0 y = X (256 * (i 1).val + (y 0).val) (128 * pr + (y 1).val))
  (hb : ∀ (h : Fin 2) (p : Fin 64) (k : Fin 576), x3 (ix3 h p k) = B (2 * pr + h.val) (min (640 + p.val - k.val) 256))

include hq hb in
/-- What the first point of a pair of heads writes. -/
theorem out_A (hc : cond0_0 i) (hk : ∀ (r : Fin 4608) (l : Fin 128), filled x1 (ix2 r l) = padded X r.val (512 + (128 * pr + l.val))) (hv : ∀ (r : Fin 4608) (l : Fin 128), filled x2 (ix2 r l) = padded X r.val (1024 + (128 * pr + l.val))) (y : S256x128.Idx) :
    out0_A_4 c i arg2 harg2 arg3 harg3 arg4 harg4 arg5 harg5 arg6 harg6 arg7 harg7 arg8 harg8 hc x0 x1 x2 x3 y = block X B (i 1).val pr y := by
  have hcov := cover0_A_4 c i arg2 harg2 arg3 harg3 arg4 harg4 arg5 harg5 arg6 harg6 arg7 harg7 arg8 harg8 hc x0 x1 x2 x3 y
  unfold out0_A_4
  rw [View.read_writes_junk_eq_canon]
  rw [pieces_A] at hcov ⊢
  exact pieces_apply X B i pr x0 _ _ _ _ hq (fun r k x => ld_band X i _ (fun l => 512 + (128 * pr + l)) hk r k x) (fun r k x => ld_band X i _ (fun l => 1024 + (128 * pr + l)) hv r k x) (fun p k => (ld_head x3 0 _ p k).trans (hb 0 p k)) (fun p k => (ld_head x3 1 _ p k).trans (hb 1 p k)) y hcov

include hq hb in
/-- What any later point writes. -/
theorem out_B (hc : ¬cond0_0 i) (xs0 xs1 : Vec Ideal S4608x128 .bf16) (hk : ∀ (r : Fin 4608) (l : Fin 128), xs0 (ix2 r l) = padded X r.val (512 + (128 * pr + l.val))) (hv : ∀ (r : Fin 4608) (l : Fin 128), xs1 (ix2 r l) = padded X r.val (1024 + (128 * pr + l.val))) (y : S256x128.Idx) :
    out0_B_4 c i arg2 harg2 arg3 harg3 arg4 harg4 arg5 harg5 arg6 harg6 arg7 harg7 arg8 harg8 hc x0 x1 x2 x3 xs0 xs1 y = block X B (i 1).val pr y := by
  have hcov := cover0_B_4 c i arg2 harg2 arg3 harg3 arg4 harg4 arg5 harg5 arg6 harg6 arg7 harg7 arg8 harg8 hc x0 x1 x2 x3 xs0 xs1 y
  unfold out0_B_4
  rw [View.read_writes_junk_eq_canon]
  rw [pieces_B] at hcov ⊢
  exact pieces_apply X B i pr x0 _ _ _ _ hq (fun r k x => ld_band X i _ (fun l => 512 + (128 * pr + l)) hk r k x) (fun r k x => ld_band X i _ (fun l => 1024 + (128 * pr + l)) hv r k x) (fun p k => (ld_head x3 0 _ p k).trans (hb 0 p k)) (fun p k => (ld_head x3 1 _ p k).trans (hb 1 p k)) y hcov

end

section
variable (m : (ℓ : Loc nD τ sig) → Buf (Elt Ideal) ℓ) (c : Dev nD)

/-- The arguments at numbers. -/
abbrev argX : Nat → Nat → EReal := qkv (m ((c : Thread nD τ).loc main_arg0))
abbrev argB : Nat → Nat → EReal := rel (m ((c : Thread nD τ).loc main_arg1))

/-- The queries a point reads, -/
theorem block_0 (t : Fin cfg0.N) (y : S256x128.Idx) : (iblk m c 0 t : Vec Ideal S256x128 .bf16) y = argX m c (256 * (t.val % 16) + (y 0).val) (128 * (t.val / 16) + (y 1).val) := by
  have hi := (by decide +kernel : ∀ t : Fin grid0.N, win0_0.index t 0 = t.val % 16 ∧ win0_0.index t 1 = t.val / 16) t
  unfold iblk
  rw [View.read_apply]
  refine (congrFun (V_main_arg0 m c) _).trans (qkv_eq _ _ _ _ ?_ ?_)
  · show win0_0.index t 0 * 256 + 1 * (y 0).val = _; rw [hi.1]; omega
  · show win0_0.index t 1 * 128 + 1 * (y 1).val = _; rw [hi.2]; omega

/-- the keys, -/
theorem block_1 (t : Fin cfg0.N) (y : S4096x128.Idx) : (iblk m c 1 t : Vec Ideal S4096x128 .bf16) y = argX m c (y 0).val (512 + (128 * (t.val / 16) + (y 1).val)) := by
  have hi := (by decide +kernel : ∀ t : Fin grid0.N, win0_1.index t 0 = 0 ∧ win0_1.index t 1 = 4 + t.val / 16) t
  unfold iblk
  rw [View.read_apply]
  refine (congrFun (V_main_arg0 m c) _).trans (qkv_eq _ _ _ _ ?_ ?_)
  · show win0_1.index t 0 * 4096 + 1 * (y 0).val = _; rw [hi.1]; omega
  · show win0_1.index t 1 * 128 + 1 * (y 1).val = _; rw [hi.2]; omega

/-- the values, -/
theorem block_2 (t : Fin cfg0.N) (y : S4096x128.Idx) : (iblk m c 2 t : Vec Ideal S4096x128 .bf16) y = argX m c (y 0).val (1024 + (128 * (t.val / 16) + (y 1).val)) := by
  have hi := (by decide +kernel : ∀ t : Fin grid0.N, win0_2.index t 0 = 0 ∧ win0_2.index t 1 = 8 + t.val / 16) t
  unfold iblk
  rw [View.read_apply]
  refine (congrFun (V_main_arg0 m c) _).trans (qkv_eq _ _ _ _ ?_ ?_)
  · show win0_2.index t 0 * 4096 + 1 * (y 0).val = _; rw [hi.1]; omega
  · show win0_2.index t 1 * 128 + 1 * (y 1).val = _; rw [hi.2]; omega

/-- and the biases. -/
theorem block_3 (t : Fin cfg0.N) (h : Fin 2) (p : Fin 64) (k : Fin 576) : (iblk m c 3 t : Vec Ideal S2x64x576 .f32) (ix3 h p k) = argB m c (2 * (t.val / 16) + h.val) (min (640 + p.val - k.val) 256) := by
  have ht : t.val < 64 := lt_of_lt_of_eq t.isLt N_0
  have hi := (by decide +kernel : ∀ t : Fin grid0.N, win0_3.index t 0 = t.val / 16 ∧ win0_3.index t 1 = 0 ∧ win0_3.index t 2 = 0) t
  unfold iblk
  rw [View.read_apply]
  refine Eq.trans ?_ ((AttnBand.band m c (⟨2 * (t.val / 16) + h.val, by omega⟩ : Fin 8) p k).trans (rel_eq _ _ _ _ rfl rfl))
  refine congrArg (V m c main_v137 : Vec Ideal S8x64x576 .f32) (funext fun a => Fin.ext ?_)
  match a with
  | ⟨0, _⟩ => show win0_3.index t 0 * 2 + 1 * h.val = 2 * (t.val / 16) + h.val; rw [hi.1]; omega
  | ⟨1, _⟩ => show win0_3.index t 1 * 64 + 1 * p.val = p.val; rw [hi.2.1]; omega
  | ⟨2, _⟩ => show win0_3.index t 2 * 576 + 1 * k.val = k.val; rw [hi.2.2]; omega

/-- A window of keys or values in its padded scratch. -/
theorem filled_of (x : Vec Ideal S4096x128 .bf16) (f : Nat → Nat) (h : ∀ y : S4096x128.Idx, x y = argX m c (y 0).val (f (y 1).val)) (r : Fin 4608) (l : Fin 128) :
    filled x (ix2 r l) = padded (argX m c) r.val (f l.val) := by
  rw [filled_apply]
  unfold padded
  split
  · exact h _
  · rfl

/-- What waits in the two scratches after a point. -/
theorem scratch : ∀ (n : Nat) (hn : n < cfg0.N),
    (∀ (r : Fin 4608) (l : Fin 128), (outsAt0 m c n hn).2.1 (ix2 r l) = padded (argX m c) r.val (512 + (128 * (n / 16) + l.val)))
      ∧ ∀ (r : Fin 4608) (l : Fin 128), (outsAt0 m c n hn).2.2 (ix2 r l) = padded (argX m c) r.val (1024 + (128 * (n / 16) + l.val)) := by
  intro n
  induction n with
  | zero =>
    intro hn
    rw [outsAt0_A m c ⟨0, hn⟩ rfl]
    dsimp only
    unfold sout0_A_0 sout0_A_1
    rw [View.read_writes_junk_eq_canon, View.read_writes_junk_eq_canon, filled_A0, filled_A1]
    exact ⟨filled_of m c _ (fun l => 512 + (128 * (0 / 16) + l)) (block_1 m c ⟨0, hn⟩), filled_of m c _ (fun l => 1024 + (128 * (0 / 16) + l)) (block_2 m c ⟨0, hn⟩)⟩
  | succ n ih =>
    intro hn
    by_cases h0 : (n + 1) % 16 = 0
    · rw [outsAt0_A m c ⟨n + 1, hn⟩ h0]
      dsimp only
      unfold sout0_A_0 sout0_A_1
      rw [View.read_writes_junk_eq_canon, View.read_writes_junk_eq_canon, filled_A0, filled_A1]
      exact ⟨filled_of m c _ (fun l => 512 + (128 * ((n + 1) / 16) + l)) (block_1 m c ⟨n + 1, hn⟩), filled_of m c _ (fun l => 1024 + (128 * ((n + 1) / 16) + l)) (block_2 m c ⟨n + 1, hn⟩)⟩
    · have h := ih (Nat.lt_of_succ_lt hn)
      rw [show n / 16 = (n + 1) / 16 by omega] at h
      rw [outsAt0_B m c ⟨n + 1, hn⟩ h0]
      exact h

/-- What a point writes is its block of the result. -/
theorem out_block (t : Fin cfg0.N) (y : S256x128.Idx) : (outsAt0 m c t.val t.isLt).1 y = block (argX m c) (argB m c) (t.val % 16) (t.val / 16) y := by
  have e1 : (grid0.coords t 1).val = t.val % 16 := (by decide +kernel : ∀ t : Fin grid0.N, (grid0.coords t 1).val = t.val % 16) t
  rw [← e1]
  have hq : ∀ y : S256x128.Idx, (iblk m c 0 t : Vec Ideal S256x128 .bf16) y = argX m c (256 * (grid0.coords t 1).val + (y 0).val) (128 * (t.val / 16) + (y 1).val) := fun y => by
    rw [e1]; exact block_0 m c t y
  by_cases h0 : t.val % 16 = 0
  · rw [outsAt0_A m c t h0]
    exact out_A _ _ (grid0.coords t) (t.val / 16) c (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) _ _ _ _ hq (block_3 m c t) ((hcond0_0 t).mpr h0) (filled_of m c _ (fun l => 512 + (128 * (t.val / 16) + l)) (block_1 m c t)) (filled_of m c _ (fun l => 1024 + (128 * (t.val / 16) + l)) (block_2 m c t)) y
  · have h := scratch m c (t.val - 1) (Nat.lt_of_le_of_lt (Nat.sub_le _ _) t.isLt)
    rw [show (t.val - 1) / 16 = t.val / 16 by omega] at h
    rw [outsAt0_B m c t h0]
    exact out_B _ _ (grid0.coords t) (t.val / 16) c (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) hq (block_3 m c t) (fun h => h0 ((hcond0_0 t).mp h)) _ _ h.1 h.2 y

/-- An element of the result. -/
theorem result_apply (p : Fin 4096) (b : Fin 512) :
    ((dats m 0 c).arrAt 4 cfg0.N : Vec Ideal S4096x512 .f32) (ix2 p b) = out (argX m c) (argB m c) (p.val / 64) (b.val / 64) (p.val % 64) (b.val % 64) := by
  have hN : cfg0.N = 64 := N_0
  obtain ⟨t, ht⟩ : ∃ t : Fin cfg0.N, t.val = p.val / 256 + 16 * (b.val / 128) := ⟨⟨p.val / 256 + 16 * (b.val / 128), by omega⟩, rfl⟩
  have hf : (cfg0.win 4).flush t = true := (by decide +kernel : ∀ t : Fin grid0.N, win0_4.flush t = true) t
  have e := congrFun (blocks4 m c t hf) (ix2 (⟨p.val % 256, by omega⟩ : Fin 256) (⟨b.val % 128, by omega⟩ : Fin 128))
  rw [View.read_apply, flushed4] at e
  have hi := (by decide +kernel : ∀ t : Fin grid0.N, win0_4.index t 0 = t.val % 16 ∧ win0_4.index t 1 = t.val / 16) t
  have hidx : ((cfg0.win 4).blk t).view.emb (ix2 (⟨p.val % 256, by omega⟩ : Fin 256) (⟨b.val % 128, by omega⟩ : Fin 128)) = (ix2 p b) := by
    refine funext fun d => Fin.ext ?_
    match d with
    | ⟨0, _⟩ => show win0_4.index t 0 * 256 + 1 * (p.val % 256) = p.val; rw [hi.1]; omega
    | ⟨1, _⟩ => show win0_4.index t 1 * 128 + 1 * (b.val % 128) = b.val; rw [hi.2]; omega
  rw [hidx] at e
  refine e.trans ((out_block m c t _).trans ?_)
  show out _ _ (4 * (t.val % 16) + p.val % 256 / 64) (2 * (t.val / 16) + b.val % 128 / 64) (p.val % 256 % 64) (b.val % 128 % 64) = _
  congr 1 <;> omega

end

end Cert.AttnOut

end

end
-- ==== Proof.AttnRef.lean ====
/- The reference's chunked attention, stage by stage: each stage at an element, ending at the same mathematics. -/
module

public import proofs.«01_k».proof.Proof.AttnSpec
public import proofs.«01_k».proof.Proof.Gen.Reference43Ideal.Run
public import Idealize.ShloMosaic.Lib.ValueIdxRank6
public import proofs.«01_k».proof.Proof.Base

@[expose] public section

set_option maxRecDepth 16384

noncomputable section

namespace Cert.AttnRef

open Cert.AttnSpec Cert.Reference43Ideal Cert.Reference43Ideal.Gen Idealize.ShloMosaic Idealize.ShloMosaic.TcCoe Idealize.SL.Sem

/-- The columns of one part, by chunk, place in the chunk, head and lane. -/
def heads (z : Vec Ideal S4096x512 .f32) : Vec Ideal S1x64x64x8x64 .f32 :=
  shapeCast _ (shapeCast S1x4096x8x64 z shapeCasts_S4096x512_S1x4096x8x64) shapeCasts_S1x4096x8x64_S1x64x64x8x64

theorem heads_apply (z : Vec Ideal S4096x512 .f32) (c : Fin 64) (q : Fin 64) (h : Fin 8) (d : Fin 64) :
    heads z (ix5 0 c q h d) = z (ix2 (⟨64 * c.val + q.val, by omega⟩ : Fin 4096) (⟨64 * h.val + d.val, by omega⟩ : Fin 512)) := by
  pointwise [heads]
  exact congrArg₂ (fun r l => z (ix2 r l)) (Fin.ext (congrArg (· + q.val) (Nat.mul_comm _ _))) (Fin.ext (congrArg (· + d.val) (Nat.mul_comm _ _)))

/-- The number of the chunk a gathered chunk is. -/
def sums : IVec S64x9 32 :=
  addi (broadcastInDim S64x9 ![0, 1] bcast_S64x1_S64x9_0_1 (broadcastInDim S64x1 ![0] bcast_S64_S64x1_0 (iotaInDim S64 32 0))) (broadcastInDim S64x9 ![0, 1] bcast_S1x9_S64x9_0_1 (broadcastInDim S1x9 ![1] bcast_S9_S1x9_1 (iotaInDim S9 32 0)))

def chunks : IVec S64x9x1 32 :=
  broadcastInDim S64x9x1 ![0, 1] bcast_S64x9_S64x9x1_0_1 (select (cmpi .slt sums (broadcastInDim S64x9 ![] bcast_S_S64x9 (constantI S_ 32 0#32))) (addi sums (broadcastInDim S64x9 ![] bcast_S_S64x9 (constantI S_ 32 72#32))) sums)

theorem chunks_apply (c : Fin 64) (j : Fin 9) : chunks (ix3 c j 0) = BitVec.ofNat 32 (c.val + j.val) := by
  pointwise [chunks, sums]
  revert c j
  decide +kernel

/-- Zeros for the eight chunks before the sequence, then the chunks. -/
def before (z : Vec Ideal S1x64x64x8x64 .f32) : Vec Ideal S1x72x64x8x64 .f32 :=
  concatenate S1x72x64x8x64 1 [⟨S1x8x64x8x64, (broadcastInDim S1x8x64x8x64 ![] bcast_S_S1x8x64x8x64 (constant (F := Ideal) S_ .f32 0x00000000#32))⟩, ⟨S1x64x64x8x64, z⟩] concatenates_S1x8x64x8x64_S1x64x64x8x64_S1x72x64x8x64_d1

theorem before_apply (z : Vec Ideal S1x64x64x8x64 .f32) (c : Fin 72) (q : Fin 64) (h : Fin 8) (d : Fin 64) :
    before z (ix5 0 c q h d) = if hc : 8 ≤ c.val then z (ix5 0 (⟨c.val - 8, by omega⟩ : Fin 64) q h d) else 0 := by
  pointwise [before]
  split <;> split <;> first | rfl | omega

def gathered (z : Vec Ideal S1x72x64x8x64 .f32) : Vec Ideal S1x64x9x64x8x64 .f32 :=
  Host.gather gather_S1x72x64x8x64_S64x9x1_S1x64x9x64x8x64_0345_1_n_n_1_2_1164864 z chunks

theorem gathered_apply (z : Vec Ideal S1x72x64x8x64 .f32) (c : Fin 64) (j : Fin 9) (q : Fin 64) (h : Fin 8) (d : Fin 64) :
    gathered z (ix6 0 c j q h d) = z (ix5 0 (⟨c.val + j.val, by omega⟩ : Fin 72) q h d) := by
  have hs : gather_S1x72x64x8x64_S64x9x1_S1x64x9x64x8x64_0345_1_n_n_1_2_1164864.siIdx (ix6 0 c j q h d) ⟨0, by decide⟩ = ix3 c j 0 := by
    funext a
    match a with
    | ⟨0, _⟩ => rfl
    | ⟨1, _⟩ => rfl
    | ⟨2, _⟩ => rfl
  refine congrArg z (funext fun a => Fin.ext ?_)
  match a with
  | ⟨0, _⟩ => exact Nat.zero_add _
  | ⟨1, _⟩ =>
    show min (chunks (gather_S1x72x64x8x64_S64x9x1_S1x64x9x64x8x64_0345_1_n_n_1_2_1164864.siIdx (ix6 0 c j q h d) ⟨0, by decide⟩)).toInt.toNat 71 = c.val + j.val
    rw [hs, chunks_apply]
    exact (by decide +kernel : ∀ (c : Fin 64) (j : Fin 9), min (BitVec.ofNat 32 (c.val + j.val)).toInt.toNat 71 = c.val + j.val) c j
  | ⟨2, _⟩ => exact Nat.zero_add _
  | ⟨3, _⟩ => exact Nat.zero_add _
  | ⟨4, _⟩ => exact Nat.zero_add _

/-- The band of a chunk: its own keys and those of the eight chunks before it. -/
def bands (z : Vec Ideal S1x64x64x8x64 .f32) : Vec Ideal S1x64x576x8x64 .f32 :=
  shapeCast _ (gathered (before z)) shapeCasts_S1x64x9x64x8x64_S1x64x576x8x64

theorem bands_apply (z : Vec Ideal S1x64x64x8x64 .f32) (c : Fin 64) (k : Fin 576) (h : Fin 8) (d : Fin 64) :
    bands z (ix5 0 c k h d) = if hc : 512 ≤ 64 * c.val + k.val then z (ix5 0 (⟨(64 * c.val + k.val - 512) / 64, by omega⟩ : Fin 64) (⟨k.val % 64, by omega⟩ : Fin 64) h d) else 0 := by
  pointwise [bands]
  rw [gathered_apply, before_apply]
  by_cases hc : 512 ≤ 64 * c.val + k.val
  · rw [dif_pos hc, dif_pos (show 8 ≤ c.val + k.val / 64 by omega)]
    exact congrArg (fun r => z (ix5 0 r (⟨k.val % 64, by omega⟩ : Fin 64) h d)) (Fin.ext (show c.val + k.val / 64 - 8 = (64 * c.val + k.val - 512) / 64 by omega))
  · rw [dif_neg hc, dif_neg (show ¬ 8 ≤ c.val + k.val / 64 by omega)]

/-- The place of a bias. -/
def dist : IVec S64x576 32 :=
  addi (minsi (broadcastInDim S64x576 ![] bcast_S_S64x576 (id (constantI S_ 32 128#32))) (maxsi (broadcastInDim S64x576 ![] bcast_S_S64x576 (id (constantI S_ 32 4294967168#32))) (subi (broadcastInDim S64x576 ![0, 1] bcast_S64x1_S64x576_0_1 (broadcastInDim S64x1 ![0] bcast_S64_S64x1_0 (addi (broadcastInDim S64 ![] bcast_S_S64 (constantI S_ 32 512#32)) (iotaInDim S64 32 0)))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 128#32))

def places : IVec S64x576x1 32 :=
  broadcastInDim S64x576x1 ![0, 1] bcast_S64x576_S64x576x1_0_1 (select (cmpi .slt dist (broadcastInDim S64x576 ![] bcast_S_S64x576 (constantI S_ 32 0#32))) (addi dist (broadcastInDim S64x576 ![] bcast_S_S64x576 (constantI S_ 32 257#32))) dist)

theorem places_apply (q : Fin 64) (k : Fin 576) : places (ix3 q k 0) = BitVec.ofNat 32 (min (640 + q.val - k.val) 256) := by
  pointwise [places, dist]
  have e : IntOp.subi (IntOp.addi (512#32) (BitVec.ofNat 32 q.val)) (BitVec.ofNat 32 k.val) = BitVec.ofNat 32 (575 + q.val - k.val) - 63#32 := by
    show 512#32 + BitVec.ofNat 32 q.val - BitVec.ofNat 32 k.val = _
    apply BitVec.eq_of_toNat_eq
    simp only [BitVec.toNat_sub, BitVec.toNat_add, BitVec.toNat_ofNat]
    omega
  rw [e, show min (640 + q.val - k.val) 256 = min (575 + q.val - k.val + 65) 256 by omega]
  have hn : 575 + q.val - k.val < 639 := by omega
  generalize 575 + q.val - k.val = n at hn
  revert hn n
  clear e
  clear q k
  decide +kernel

def bias (b : Vec Ideal S8x257 .f32) : Vec Ideal S8x64x576 .f32 := Host.gather gather_S8x257_S64x576x1_S8x64x576_0_1_n_n_1_2_81 b places

/-- A bias looked up at its place. -/
theorem bias_take (b : Vec Ideal S8x257 .f32) (idx : IVec S64x576x1 32) (h : Fin 8) (q : Fin 64) (k : Fin 576) (n : Fin 257) (hn : (idx (ix3 q k 0)).toInt.toNat = n.val) :
    Host.gather gather_S8x257_S64x576x1_S8x64x576_0_1_n_n_1_2_81 b idx (ix3 h q k) = b (ix2 h n) := by
  have hs : gather_S8x257_S64x576x1_S8x64x576_0_1_n_n_1_2_81.siIdx (ix3 h q k) ⟨0, by decide⟩ = ix3 q k 0 := by
    funext a
    match a with
    | ⟨0, _⟩ => rfl
    | ⟨1, _⟩ => rfl
    | ⟨2, _⟩ => rfl
  refine congrArg b (funext fun a => Fin.ext ?_)
  match a with
  | ⟨0, _⟩ => exact Nat.zero_add _
  | ⟨1, _⟩ =>
    show min (idx (gather_S8x257_S64x576x1_S8x64x576_0_1_n_n_1_2_81.siIdx (ix3 h q k) ⟨0, by decide⟩)).toInt.toNat 256 = n.val
    rw [hs, hn]
    exact min_eq_left (by omega)

theorem bias_apply (b : Vec Ideal S8x257 .f32) (h : Fin 8) (q : Fin 64) (k : Fin 576) : bias b (ix3 h q k) = b (ix2 h (⟨min (640 + q.val - k.val) 256, by omega⟩ : Fin 257)) := by
  refine bias_take b places h q k _ ?_
  rw [places_apply]
  exact (by decide +kernel : ∀ n : Fin 257, (BitVec.ofNat 32 n.val).toInt.toNat = n.val) ⟨min (640 + q.val - k.val) 256, by omega⟩

/-- Which keys of a band are in the sequence. -/
def fl : IVec S576 32 :=
  select (andi (cmpi .ne (signi (iotaInDim S576 32 0)) (broadcastInDim S576 ![] bcast_S_S576 (signi (id (constantI S_ 32 64#32))))) (cmpi .ne (Host.remsi (iotaInDim S576 32 0) (broadcastInDim S576 ![] bcast_S_S576 (id (constantI S_ 32 64#32)))) (broadcastInDim S576 ![] bcast_S_S576 (constantI S_ 32 0#32)))) (subi (Host.divsi (iotaInDim S576 32 0) (broadcastInDim S576 ![] bcast_S_S576 (id (constantI S_ 32 64#32)))) (broadcastInDim S576 ![] bcast_S_S576 (constantI S_ 32 1#32))) (Host.divsi (iotaInDim S576 32 0) (broadcastInDim S576 ![] bcast_S_S576 (id (constantI S_ 32 64#32))))

theorem fl_apply (k : Fin 576) : fl (ix1 k) = BitVec.ofNat 32 (k.val / 64) := by
  pointwise [fl]
  revert k
  decide +kernel

def inside : IVec S64x576 1 :=
  cmpi .sge (addi (broadcastInDim S64x576 ![0, 1] bcast_S64x1_S64x576_0_1 (subi (broadcastInDim S64x1 ![0] bcast_S64_S64x1_0 (iotaInDim S64 32 0)) (broadcastInDim S64x1 ![] bcast_S_S64x1 (constantI S_ 32 8#32)))) (broadcastInDim S64x576 ![0, 1] bcast_S1x576_S64x576_0_1 (broadcastInDim S1x576 ![1] bcast_S576_S1x576_1 fl))) (broadcastInDim S64x576 ![] bcast_S_S64x576 (constantI S_ 32 0#32))

theorem inside_apply (c : Fin 64) (k : Fin 576) : inside (ix2 c k) = if 512 ≤ 64 * c.val + k.val then 1#1 else 0#1 := by
  pointwise [inside]
  rw [fl_apply]
  simp only [show (512 ≤ 64 * c.val + k.val) ↔ 8 ≤ c.val + k.val / 64 by omega]
  exact (by decide +kernel : ∀ (c : Fin 64) (j : Fin 9), IntOp.cmpi .sge (IntOp.addi (IntOp.subi (BitVec.ofNat 32 c.val) 8#32) (BitVec.ofNat 32 j.val)) 0#32 = if 8 ≤ c.val + j.val then 1#1 else 0#1) c ⟨k.val / 64, by omega⟩

theorem low : Ideal.ofBits .f32 0xFF800000#32 = ⊥ := by simp [Ideal.ofBits, Ideal.ieee]

/-- The scores. -/
def scores (q : Vec Ideal S1x64x64x8x64 .f32) (k : Vec Ideal S1x64x576x8x64 .f32) (bi : Vec Ideal S8x64x576 .f32) : Vec Ideal S1x8x64x64x576 .f32 :=
  select (broadcastInDim S1x8x64x64x576 ![0, 1, 2, 3, 4] bcast_S1x1x64x1x576_S1x8x64x64x576_0_1_2_3_4 (broadcastInDim S1x1x64x1x576 ![2, 4] bcast_S64x576_S1x1x64x1x576_2_4 inside))
    (addf (F := Ideal) (mulf (F := Ideal) (Host.dotGeneral (F := Ideal) (φ₁ := .f32) (φ₂ := .f32) dot_S1x64x64x8x64_S1x64x576x8x64_S1x8x64x64x576_4_4_2_2_031_031 none q k) (broadcastInDim S1x8x64x64x576 ![] bcast_S_S1x8x64x64x576 (constant (F := Ideal) S_ .f32 0x3E000000#32))) (broadcastInDim S1x8x64x64x576 ![0, 1, 2, 3, 4] bcast_S1x8x1x64x576_S1x8x64x64x576_0_1_2_3_4 (broadcastInDim S1x8x1x64x576 ![1, 3, 4] bcast_S8x64x576_S1x8x1x64x576_1_3_4 bi)))
    (broadcastInDim S1x8x64x64x576 ![] bcast_S_S1x8x64x64x576 (id (constant (F := Ideal) S_ .f32 0xFF800000#32)))

theorem scores_apply (q : Vec Ideal S1x64x64x8x64 .f32) (k : Vec Ideal S1x64x576x8x64 .f32) (bi : Vec Ideal S8x64x576 .f32) (h : Fin 8) (c p : Fin 64) (j : Fin 576) :
    scores q k bi (ix5 0 h c p j) = if 512 ≤ 64 * c.val + j.val then (∑ d : Fin 64, q (ix5 0 c p h d) * k (ix5 0 c j h d)) * eighth + bi (ix3 h p j) else ⊥ := by
  pointwise [scores]
  rw [inside_apply]
  by_cases hc : 512 ≤ 64 * c.val + j.val
  · rw [if_pos hc, if_pos hc]; exact if_pos rfl
  · rw [if_neg hc, if_neg hc]; exact (if_neg (by decide)).trans low

/-- A maximum over the last of five axes. -/
theorem max_last {n0 n1 n2 n3 n4 : Nat} (s : FVec Ideal ⟨5, ![n0, n1, n2, n3, n4]⟩ .f32) (b : FVec Ideal ⟨0, ![]⟩ .f32) (hr : (⟨5, ![n0, n1, n2, n3, n4]⟩ : Shape).ReducesTo [4] ⟨4, ![n0, n1, n2, n3]⟩) (hu)
    (i0 : Fin n0) (i1 : Fin n1) (i2 : Fin n2) (i3 : Fin n3) :
    Host.reduce (FloatOps.maximumf (F := Ideal) (φ := .f32)) s b hr hu (ix4 i0 i1 i2 i3) = Finset.univ.fold max (b (Shape.Idx.first hu)) fun x : Fin n4 => s (ix5 i0 i1 i2 i3 x) := by
  pointwise []

/-- The largest score of a band. -/
def top (s : FVec Ideal S1x8x64x64x576 .f32) : FVec Ideal S1x8x64x64 .f32 :=
  maximumf (F := Ideal) (broadcastInDim S1x8x64x64 ![] bcast_S_S1x8x64x64 (constant (F := Ideal) S_ .f32 0xFF800000#32)) (Host.reduce (FloatOps.maximumf (F := Ideal) (φ := .f32)) s (constant (F := Ideal) S_ .f32 0xFF800000#32) reducesTo_S1x8x64x64x576_S1x8x64x64_d4 h_S_)

theorem max_at {s : Shape} (a b : FVec Ideal s .f32) (i : s.Idx) (x y : EReal) (ha : a i = x) (hb : b i = y) : maximumf (F := Ideal) a b i = max x y := by
  subst ha hb
  rfl

theorem low_at {s : Shape} (hb) (i : s.Idx) : broadcastInDim s ![] hb (constant (F := Ideal) S_ .f32 0xFF800000#32) i = (⊥ : EReal) := low

theorem top_apply (s : FVec Ideal S1x8x64x64x576 .f32) (h : Fin 8) (c p : Fin 64) :
    top s (ix4 0 h c p) = Finset.univ.fold max ⊥ fun x => s (ix5 0 h c p x) := by
  have e := max_last s (constant (F := Ideal) S_ .f32 0xFF800000#32) reducesTo_S1x8x64x64x576_S1x8x64x64_d4 h_S_ 0 h c p
  rw [show constant (F := Ideal) S_ .f32 0xFF800000#32 (Shape.Idx.first h_S_) = (⊥ : EReal) from low] at e
  unfold top
  exact (max_at _ _ _ _ _ (low_at bcast_S_S1x8x64x64 _) e).trans (bot_sup_eq _)

/-- The exponentials of a band against a number per query. -/
def expd (s : FVec Ideal S1x8x64x64x576 .f32) (t : FVec Ideal S1x8x64x64 .f32) : FVec Ideal S1x8x64x64x576 .f32 :=
  Host.exp (F := Ideal) (subf (F := Ideal) s (broadcastInDim S1x8x64x64x576 ![0, 1, 2, 3, 4] bcast_S1x8x64x64x1_S1x8x64x64x576_0_1_2_3_4 (broadcastInDim S1x8x64x64x1 ![0, 1, 2, 3] bcast_S1x8x64x64_S1x8x64x64x1_0_1_2_3 t)))

theorem expd_apply (s : FVec Ideal S1x8x64x64x576 .f32) (t : FVec Ideal S1x8x64x64 .f32) (h : Fin 8) (c p : Fin 64) (j : Fin 576) :
    expd s t (ix5 0 h c p j) = Ideal.exp (s (ix5 0 h c p j) - t (ix4 0 h c p)) := by
  pointwise [expd]

/-- Each exponential over the sum of its band. -/
def parts (e : FVec Ideal S1x8x64x64x576 .f32) : FVec Ideal S1x8x64x64x576 .f32 :=
  Host.divf (F := Ideal) e (broadcastInDim S1x8x64x64x576 ![0, 1, 2, 3, 4] bcast_S1x8x64x64x1_S1x8x64x64x576_0_1_2_3_4 (broadcastInDim S1x8x64x64x1 ![0, 1, 2, 3] bcast_S1x8x64x64_S1x8x64x64x1_0_1_2_3 (Host.reduceAdd (F := Ideal) (φ := .f32) e (constant (F := Ideal) S_ .f32 0x00000000#32) reducesTo_S1x8x64x64x576_S1x8x64x64_d4 h_S_)))

theorem parts_apply (e : FVec Ideal S1x8x64x64x576 .f32) (h : Fin 8) (c p : Fin 64) (j : Fin 576) :
    parts e (ix5 0 h c p j) = Ideal.div (e (ix5 0 h c p j)) (∑ k : Fin 576, e (ix5 0 h c p k)) := by
  pointwise [parts]

/-- The softmax over the band. -/
def probs (s : FVec Ideal S1x8x64x64x576 .f32) : FVec Ideal S1x8x64x64x576 .f32 := parts (expd s (top s))

theorem probs_apply (s : FVec Ideal S1x8x64x64x576 .f32) (h : Fin 8) (c p : Fin 64) (j : Fin 576) :
    probs s (ix5 0 h c p j) = soft (fun k => s (ix5 0 h c p k)) j := by
  unfold probs
  rw [parts_apply]
  simp only [expd_apply, top_apply]
  rfl

/-- The result, by row and column. -/
def outs (v : Vec Ideal S1x64x576x8x64 .f32) (w : Vec Ideal S1x8x64x64x576 .f32) : Vec Ideal S4096x512 .f32 :=
  shapeCast _ (shapeCast _ (transpose S1x64x64x8x64 [0, 1, 4, 2, 3] (Host.dotGeneral (F := Ideal) (φ₁ := .f32) (φ₂ := .f32) dot_S1x64x576x8x64_S1x8x64x64x576_S1x64x8x64x64_2_4_4_3_013_021 none v w) transposes_S1x64x8x64x64_S1x64x64x8x64_0_1_4_2_3) shapeCasts_S1x64x64x8x64_S1x4096x512) shapeCasts_S1x4096x512_S4096x512

theorem outs_apply (v : Vec Ideal S1x64x576x8x64 .f32) (w : Vec Ideal S1x8x64x64x576 .f32) (r : Fin 4096) (l : Fin 512) :
    outs v w (ix2 r l) = ∑ k : Fin 576, v (ix5 0 (⟨r.val / 64, by omega⟩ : Fin 64) k (⟨l.val / 64, by omega⟩ : Fin 8) (⟨l.val % 64, by omega⟩ : Fin 64)) * w (ix5 0 (⟨l.val / 64, by omega⟩ : Fin 8) (⟨r.val / 64, by omega⟩ : Fin 64) (⟨r.val % 64, by omega⟩ : Fin 64) k) := by
  pointwise [outs]

def ref (x : Vec Ideal S4096x3072 .bf16) (b : Vec Ideal S8x257 .f32) : Vec Ideal S4096x512 .f32 :=
  outs (bands (heads (extractStridedSlice S4096x512 ![0, 1024] (extf (F := Ideal) (φ := .bf16) .f32 x bitsLt_bf16_f32) slices_S4096x3072_S4096x512_0_1024)))
    (probs (scores (heads (extractStridedSlice S4096x512 ![0, 0] (extf (F := Ideal) (φ := .bf16) .f32 x bitsLt_bf16_f32) slices_S4096x3072_S4096x512_0_0))
      (bands (heads (extractStridedSlice S4096x512 ![0, 512] (extf (F := Ideal) (φ := .bf16) .f32 x bitsLt_bf16_f32) slices_S4096x3072_S4096x512_0_512))) (bias b)))

theorem ref_eq (m : (ℓ : Loc nD τ sig) → Buf (Elt Ideal) ℓ) (c : Dev nD) : Value.res_main_v89 m c = ref (m ((c : Thread nD τ).loc main_arg0)) (m ((c : Thread nD τ).loc main_arg1)) := rfl

/-- The band of a part: the part with eight chunks of zeros before it. -/
theorem bands_heads (z : Vec Ideal S4096x512 .f32) (X : Nat → Nat → EReal) (o : Nat) (hz : ∀ (r : Fin 4096) (l : Fin 512), z (ix2 r l) = X r.val (o + l.val)) (c : Fin 64) (k : Fin 576) (h : Fin 8) (d : Fin 64) :
    bands (heads z) (ix5 0 c k h d) = padded X (64 * c.val + k.val) (o + (64 * h.val + d.val)) := by
  rw [bands_apply]
  unfold padded
  split
  · rename_i hc
    rw [heads_apply, hz]
    exact congrArg (fun r => X r _) (show 64 * ((64 * c.val + k.val - 512) / 64) + k.val % 64 = 64 * c.val + k.val - 512 by omega)
  · rfl

/-- THE REFERENCE'S RESULT at a row and a column. -/
theorem ref_apply (x : Vec Ideal S4096x3072 .bf16) (b : Vec Ideal S8x257 .f32) (r : Fin 4096) (l : Fin 512) :
    ref x b (ix2 r l) = out (qkv x) (rel b) (r.val / 64) (l.val / 64) (r.val % 64) (l.val % 64) := by
  unfold ref
  rw [outs_apply]
  refine Finset.sum_congr rfl fun k _ => ?_
  rw [probs_apply, mul_comm, bands_heads _ (qkv x) 1024 (fun r l => by
    pointwise []
    exact qkv_eq x _ _ _ rfl rfl)]
  refine congrArg (fun s => soft s k * _) (funext fun j => ?_)
  rw [scores_apply, bias_apply, rel_eq b _ _ _ rfl rfl]
  refine if_congr Iff.rfl (congrArg (fun s => s * eighth + _) (Finset.sum_congr rfl fun d _ => ?_)) rfl
  rw [bands_heads _ (qkv x) 512 (fun r l => by
    pointwise []
    exact qkv_eq x _ _ _ rfl rfl), heads_apply]
  refine congrArg (· * _) ?_
  pointwise []
  exact qkv_eq x _ _ _ rfl rfl

end Cert.AttnRef

end

end
-- ==== Proof.AttnClaims.lean ====
/- The claims of the chunked attention's forward: both sides end at the same mathematics. -/
module

public import proofs.«01_k».proof.Proof.AttnOut
public import proofs.«01_k».proof.Proof.AttnRef
public import proofs.«01_k».proof.Proof.Gen.Kernel43.Frame
public import proofs.«01_k».proof.Proof.Gen.Kernel43Ideal.Frame
public import proofs.«01_k».proof.Proof.Gen.Kernel43Ideal.Value
public import proofs.«01_k».proof.Proof.Base

@[expose] public section

noncomputable section

namespace Cert.Attn

open Idealize.ShloMosaic Idealize.ShloMosaic.TcCoe Idealize.SL.Sem

/-- Kernel and reference end with equal results. -/
theorem algebraic : Cert.algebraic_Kernel43Ideal_Reference43Ideal := by
  intro m ρ m' ρ' _ hagree
  refine ⟨fun c => (Cert.Kernel43Ideal.Gen.dats m 0 c).arrAt 4 Cert.Kernel43Ideal.cfg0.N, Cert.Kernel43Ideal.Value.run_blocks (F := Ideal) m ρ, ?_⟩
  refine (θ_run _ _ _).mono (fun _ h c => ?_) (Cert.Reference43Ideal.Value.run m' ρ')
  obtain ⟨h0, h1⟩ : _ = m ((c : Thread Cert.Kernel43Ideal.nD Cert.Kernel43Ideal.τ).loc Cert.Kernel43Ideal.main_arg0) ∧ _ = m ((c : Thread Cert.Kernel43Ideal.nD Cert.Kernel43Ideal.τ).loc Cert.Kernel43Ideal.main_arg1) := hagree c
  refine ⟨(h c).1.trans ?_, (h c).2⟩
  rw [AttnRef.ref_eq, h0, h1]
  refine funext fun (j : Cert.Kernel43Ideal.S4096x512.Idx) => ?_
  obtain ⟨p, q, rfl⟩ : ∃ (p : Fin 4096) (q : Fin 512), j = ix2 p q := ⟨j 0, j 1, eq_ix2 j⟩
  exact (AttnRef.ref_apply _ _ p q).trans (AttnOut.result_apply m c p q).symm

/-- The mask's number stands for minus infinity. -/
theorem preserves : Cert.preserves_Kernel43_Kernel43Ideal :=
  IdealRules.named_const.statement Cert.Kernel43Ideal.κ "mask" .f32 0xF149F2CA#32 ⊥ rfl

/-- The frames of the three programs. -/
theorem frame_p : Cert.quiescent_Kernel43 := fun m ρ _ => Cert.Kernel43.Gen.frame m ρ
theorem frame_i : Cert.quiescent_Kernel43Ideal := fun m ρ _ => Cert.Kernel43Ideal.Gen.frame m ρ
theorem frame_r : Cert.quiescent_Reference43Ideal := fun m ρ _ =>
  (θ_run _ _ _).mono (fun r h => ⟨fun c => (h c).2, sem_eq_zero_of_no_sems (by decide) r.2⟩)
    (Cert.Reference43Ideal.Value.run m ρ)

end Cert.Attn

end

end
-- ==== Proof.lean ====
module

public import proofs.«01_k».proof.Proof.UpDwRef
public import proofs.«01_k».proof.Proof.ConvClaims
public import proofs.«01_k».proof.Proof.UpDx
public import proofs.«01_k».proof.Proof.DownDx
public import proofs.«01_k».proof.Proof.DownDw
public import proofs.«01_k».proof.Proof.ProjDx
public import proofs.«01_k».proof.Proof.ProjDw
public import proofs.«01_k».proof.Proof.MixDx
public import proofs.«01_k».proof.Proof.MixDw
public import proofs.«01_k».proof.Proof.Up
public import proofs.«01_k».proof.Proof.Down
public import proofs.«01_k».proof.Proof.Proj
public import proofs.«01_k».proof.Proof.Mix
public import proofs.«01_k».proof.Proof.Adam20
public import proofs.«01_k».proof.Proof.Adam21
public import proofs.«01_k».proof.Proof.Adam22
public import proofs.«01_k».proof.Proof.Adam23
public import proofs.«01_k».proof.Proof.Adam24
public import proofs.«01_k».proof.Proof.Adam25
public import proofs.«01_k».proof.Proof.Adam26
public import proofs.«01_k».proof.Proof.Adam27
public import proofs.«01_k».proof.Proof.Adam28
public import proofs.«01_k».proof.Proof.Adam29
public import proofs.«01_k».proof.Proof.Adam30
public import proofs.«01_k».proof.Proof.Adam31
public import proofs.«01_k».proof.Proof.Residual
public import proofs.«01_k».proof.Proof.NormMod
public import proofs.«01_k».proof.Proof.OutNorm
public import proofs.«01_k».proof.Proof.SumSlabs
public import proofs.«01_k».proof.Proof.AdaFwd
public import proofs.«01_k».proof.Proof.AdaBwd
public import proofs.«01_k».proof.Proof.GateBwd
public import proofs.«01_k».proof.Proof.NormModBwd
public import proofs.«01_k».proof.Proof.OutNormBwd
public import proofs.«01_k».proof.Proof.LossHead
public import proofs.«01_k».proof.Proof.ConvGlu
public import proofs.«01_k».proof.Proof.AttnClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel33.Gen.facts, Cert.Kernel33Ideal.Gen.facts, Cert.Reference33Ideal.Gen.facts, Cert.Kernel34.Gen.facts, Cert.Kernel34Ideal.Gen.facts, Cert.Reference34Ideal.Gen.facts, Cert.Kernel35.Gen.facts, Cert.Kernel35Ideal.Gen.facts, Cert.Reference35Ideal.Gen.facts, Cert.Kernel36.Gen.facts, Cert.Kernel36Ideal.Gen.facts, Cert.Reference36Ideal.Gen.facts, Cert.Kernel37.Gen.facts, Cert.Kernel37Ideal.Gen.facts, Cert.Reference37Ideal.Gen.facts, Cert.Kernel38.Gen.facts, Cert.Kernel38Ideal.Gen.facts, Cert.Reference38Ideal.Gen.facts, Cert.Kernel39.Gen.facts, Cert.Kernel39Ideal.Gen.facts, Cert.Reference39Ideal.Gen.facts, Cert.Kernel40.Gen.facts, Cert.Kernel40Ideal.Gen.facts, Cert.Reference40Ideal.Gen.facts, Cert.Kernel41.Gen.facts, Cert.Kernel41Ideal.Gen.facts, Cert.Reference41Ideal.Gen.facts, Cert.Kernel42.Gen.facts, Cert.Kernel42Ideal.Gen.facts, Cert.Reference42Ideal.Gen.facts, Cert.Kernel43.Gen.facts, Cert.Kernel43Ideal.Gen.facts, Cert.Reference43Ideal.Gen.facts, Cert.Pre_all_finite.Gen.facts,
  Cert.UpDw.frame_p, Cert.UpDw.frame_i, Cert.UpDw.frame_r,
  Cert.Conv.frame_p, Cert.Conv.frame_i, Cert.Conv.frame_i_pre, Cert.Conv.frame_r, Cert.Conv.frame_r_pre,
  Cert.UpDx.frame_p, Cert.UpDx.frame_i, Cert.UpDx.frame_r,
  Cert.DownDx.frame_p, Cert.DownDx.frame_i, Cert.DownDx.frame_r,
  Cert.DownDw.frame_p, Cert.DownDw.frame_i, Cert.DownDw.frame_r,
  Cert.ProjDx.frame_p, Cert.ProjDx.frame_i, Cert.ProjDx.frame_r,
  Cert.ProjDw.frame_p, Cert.ProjDw.frame_i, Cert.ProjDw.frame_r,
  Cert.MixDx.frame_p, Cert.MixDx.frame_i, Cert.MixDx.frame_r,
  Cert.MixDw.frame_p, Cert.MixDw.frame_i, Cert.MixDw.frame_r,
  Cert.Up.frame_p, Cert.Up.frame_i, Cert.Up.frame_r,
  Cert.Down.frame_p, Cert.Down.frame_i, Cert.Down.frame_r,
  Cert.Proj.frame_p, Cert.Proj.frame_i, Cert.Proj.frame_r,
  Cert.Mix.frame_p, Cert.Mix.frame_i, Cert.Mix.frame_r,
  Cert.Adam20.frame_p, Cert.Adam20.frame_i, Cert.Adam20.frame_r,
  Cert.Adam21.frame_p, Cert.Adam21.frame_i, Cert.Adam21.frame_r,
  Cert.Adam22.frame_p, Cert.Adam22.frame_i, Cert.Adam22.frame_r,
  Cert.Adam23.frame_p, Cert.Adam23.frame_i, Cert.Adam23.frame_r,
  Cert.Adam24.frame_p, Cert.Adam24.frame_i, Cert.Adam24.frame_r,
  Cert.Adam25.frame_p, Cert.Adam25.frame_i, Cert.Adam25.frame_r,
  Cert.Adam26.frame_p, Cert.Adam26.frame_i, Cert.Adam26.frame_r,
  Cert.Adam27.frame_p, Cert.Adam27.frame_i, Cert.Adam27.frame_r,
  Cert.Adam28.frame_p, Cert.Adam28.frame_i, Cert.Adam28.frame_r,
  Cert.Adam29.frame_p, Cert.Adam29.frame_i, Cert.Adam29.frame_r,
  Cert.Adam30.frame_p, Cert.Adam30.frame_i, Cert.Adam30.frame_r,
  Cert.Adam31.frame_p, Cert.Adam31.frame_i, Cert.Adam31.frame_r,
  Cert.Residual.frame_p, Cert.Residual.frame_i, Cert.Residual.frame_r,
  Cert.NormMod.frame_p, Cert.NormMod.frame_i, Cert.NormMod.frame_r,
  Cert.OutNorm.frame_p, Cert.OutNorm.frame_i, Cert.OutNorm.frame_r,
  Cert.SumSlabs.frame_p, Cert.SumSlabs.frame_i, Cert.SumSlabs.frame_r,
  Cert.AdaFwd.frame_p, Cert.AdaFwd.frame_i, Cert.AdaFwd.frame_r,
  Cert.AdaBwd.frame_p, Cert.AdaBwd.frame_i, Cert.AdaBwd.frame_r,
  Cert.GateBwd.frame_p, Cert.GateBwd.frame_i, Cert.GateBwd.frame_r,
  Cert.NormModBwd.frame_p, Cert.NormModBwd.frame_i, Cert.NormModBwd.frame_r,
  Cert.OutNormBwd.frame_p, Cert.OutNormBwd.frame_i, Cert.OutNormBwd.frame_r,
  Cert.LossHead.frame_p, Cert.LossHead.frame_i, Cert.LossHead.frame_r,
  Cert.ConvGlu.frame_p, Cert.ConvGlu.frame_i, Cert.ConvGlu.frame_r,
  Cert.Attn.frame_p, Cert.Attn.frame_i, Cert.Attn.frame_r,
  trivial, Cert.UpDw.algebraic, trivial, Cert.Conv.algebraic,
  trivial, Cert.UpDx.algebraic,
  trivial, Cert.DownDx.algebraic,
  trivial, Cert.DownDw.algebraic,
  trivial, Cert.ProjDx.algebraic,
  trivial, Cert.ProjDw.algebraic,
  trivial, Cert.MixDx.algebraic,
  trivial, Cert.MixDw.algebraic,
  trivial, Cert.Up.algebraic,
  trivial, Cert.Down.algebraic,
  trivial, Cert.Proj.algebraic,
  trivial, Cert.Mix.algebraic,
  trivial, Cert.Adam20.algebraic,
  trivial, Cert.Adam21.algebraic,
  trivial, Cert.Adam22.algebraic,
  trivial, Cert.Adam23.algebraic,
  trivial, Cert.Adam24.algebraic,
  trivial, Cert.Adam25.algebraic,
  trivial, Cert.Adam26.algebraic,
  trivial, Cert.Adam27.algebraic,
  trivial, Cert.Adam28.algebraic,
  trivial, Cert.Adam29.algebraic,
  trivial, Cert.Adam30.algebraic,
  trivial, Cert.Adam31.algebraic,
  trivial, Cert.Residual.algebraic,
  trivial, Cert.NormMod.algebraic,
  trivial, Cert.OutNorm.algebraic,
  trivial, Cert.SumSlabs.algebraic,
  trivial, Cert.AdaFwd.algebraic,
  trivial, Cert.AdaBwd.algebraic,
  trivial, Cert.GateBwd.algebraic,
  trivial, Cert.NormModBwd.algebraic,
  trivial, Cert.OutNormBwd.algebraic,
  trivial, Cert.LossHead.algebraic,
  trivial, Cert.ConvGlu.algebraic,
  Cert.Attn.preserves, Cert.Attn.algebraic⟩

end Cert.Proof

end
